-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_act [hPre_finite_act : Cert.Pre_finite_act.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_act.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqReferenceIdeal (m : (ℓ : Loc Cert.AdamUqReferenceIdeal.nD Cert.AdamUqReferenceIdeal.τ Cert.AdamUqReferenceIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvReferenceIdeal (m : (ℓ : Loc Cert.AdamUkvReferenceIdeal.nD Cert.AdamUkvReferenceIdeal.τ Cert.AdamUkvReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Normed (m : (ℓ : Loc Cert.Normed.nD Cert.Normed.τ Cert.Normed.sig) → Buf (Elt Bits) ℓ) : Prop :=
  True

def Pre_NormedIdeal (m : (ℓ : Loc Cert.NormedIdeal.nD Cert.NormedIdeal.τ Cert.NormedIdeal.sig) → Buf (Elt Ideal) ℓ) : Prop :=
  True

def Pre_NormedReferenceIdeal (m : (ℓ : Loc Cert.NormedReferenceIdeal.nD Cert.NormedReferenceIdeal.τ Cert.NormedReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_finite_act [hActReferenceIdeal : Cert.ActReferenceIdeal.Facts] [hPre_finite_act : Cert.Pre_finite_act.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_act m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5)
      ∧ r.2.mem ((c.tc : Thread Cert.AdamUpReferenceIdeal.nD Cert.AdamUpReferenceIdeal.τ).loc Cert.AdamUpReferenceIdeal.main_arg6) = m ((c.tc : Thread Cert.AdamUpReferenceIdeal.nD Cert.AdamUpReferenceIdeal.τ).loc Cert.AdamUpReferenceIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5)
      ∧ r.2.mem ((c.tc : Thread Cert.AdamOutReferenceIdeal.nD Cert.AdamOutReferenceIdeal.τ).loc Cert.AdamOutReferenceIdeal.main_arg6) = m ((c.tc : Thread Cert.AdamOutReferenceIdeal.nD Cert.AdamOutReferenceIdeal.τ).loc Cert.AdamOutReferenceIdeal.main_arg6))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3)
      ∧ r.2.mem ((c.tc : Thread Cert.AdamUq.nD Cert.AdamUq.τ).loc Cert.AdamUq.main_arg4) = m ((c.tc : Thread Cert.AdamUq.nD Cert.AdamUq.τ).loc Cert.AdamUq.main_arg4)
      ∧ r.2.mem ((c.tc : Thread Cert.AdamUq.nD Cert.AdamUq.τ).loc Cert.AdamUq.main_arg5) = m ((c.tc : Thread Cert.AdamUq.nD Cert.AdamUq.τ).loc Cert.AdamUq.main_arg5)
      ∧ r.2.mem ((c.tc : Thread Cert.AdamUq.nD Cert.AdamUq.τ).loc Cert.AdamUq.main_arg6) = m ((c.tc : Thread Cert.AdamUq.nD Cert.AdamUq.τ).loc Cert.AdamUq.main_arg6))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
      ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
      ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5)
      ∧ r.2.mem ((c.tc : Thread Cert.AdamUqIdeal.nD Cert.AdamUqIdeal.τ).loc Cert.AdamUqIdeal.main_arg6) = m ((c.tc : Thread Cert.AdamUqIdeal.nD Cert.AdamUqIdeal.τ).loc Cert.AdamUqIdeal.main_arg6))
      ∧ r.2.sem = fun _ => 0)

def quiescent_AdamUqReferenceIdeal [hAdamUqReferenceIdeal : Cert.AdamUqReferenceIdeal.Facts] : Prop :=
  ∀ (m : (ℓ : Loc Cert.AdamUqReferenceIdeal.nD Cert.AdamUqReferenceIdeal.τ Cert.AdamUqReferenceIdeal.sig) → Buf (Elt Ideal) ℓ) (g : Dev Cert.AdamUqReferenceIdeal.nD → PrngReg), Pre_AdamUqReferenceIdeal m →
    θ_run (Cert.AdamUqReferenceIdeal.defs (F := Ideal)) (onTc (τ := Cert.AdamUqReferenceIdeal.τ) (Cert.AdamUqReferenceIdeal.main (F := Ideal))) ⟨m, fun _ => 0, g⟩ (fun r => (∀ c : Dev Cert.AdamUqReferenceIdeal.nD,
      r.2.mem ((c.tc : Thread Cert.AdamUqReferenceIdeal.nD Cert.AdamUqReferenceIdeal.τ).loc Cert.AdamUqReferenceIdeal.main_arg0) = m ((c.tc : Thread Cert.AdamUqReferenceIdeal.nD Cert.AdamUqReferenceIdeal.τ).loc Cert.AdamUqReferenceIdeal.main_arg0)
      ∧ r.2.mem ((c.tc : Thread Cert.AdamUqReferenceIdeal.nD Cert.AdamUqReferenceIdeal.τ).loc Cert.AdamUqReferenceIdeal.main_arg1) = m ((c.tc : Thread Cert.AdamUqReferenceIdeal.nD Cert.AdamUqReferenceIdeal.τ).loc Cert.AdamUqReferenceIdeal.main_arg1)
      ∧ r.2.mem ((c.tc : Thread Cert.AdamUqReferenceIdeal.nD Cert.AdamUqReferenceIdeal.τ).loc Cert.AdamUqReferenceIdeal.main_arg2) = m ((c.tc : Thread Cert.AdamUqReferenceIdeal.nD Cert.AdamUqReferenceIdeal.τ).loc Cert.AdamUqReferenceIdeal.main_arg2)
      ∧ r.2.mem ((c.tc : Thread Cert.AdamUqReferenceIdeal.nD Cert.AdamUqReferenceIdeal.τ).loc Cert.AdamUqReferenceIdeal.main_arg3) = m ((c.tc : Thread Cert.AdamUqReferenceIdeal.nD Cert.AdamUqReferenceIdeal.τ).loc Cert.AdamUqReferenceIdeal.main_arg3)
      ∧ r.2.mem ((c.tc : Thread Cert.AdamUqReferenceIdeal.nD Cert.AdamUqReferenceIdeal.τ).loc Cert.AdamUqReferenceIdeal.main_arg4) = m ((c.tc : Thread Cert.AdamUqReferenceIdeal.nD Cert.AdamUqReferenceIdeal.τ).loc Cert.AdamUqReferenceIdeal.main_arg4)
      ∧ r.2.mem ((c.tc : Thread Cert.AdamUqReferenceIdeal.nD Cert.AdamUqReferenceIdeal.τ).loc Cert.AdamUqReferenceIdeal.main_arg5) = m ((c.tc : Thread Cert.AdamUqReferenceIdeal.nD Cert.AdamUqReferenceIdeal.τ).loc Cert.AdamUqReferenceIdeal.main_arg5)
      ∧ r.2.mem ((c.tc : Thread Cert.AdamUqReferenceIdeal.nD Cert.AdamUqReferenceIdeal.τ).loc Cert.AdamUqReferenceIdeal.main_arg6) = m ((c.tc : Thread Cert.AdamUqReferenceIdeal.nD Cert.AdamUqReferenceIdeal.τ).loc Cert.AdamUqReferenceIdeal.main_arg6))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3)
      ∧ r.2.mem ((c.tc : Thread Cert.AdamUkv.nD Cert.AdamUkv.τ).loc Cert.AdamUkv.main_arg4) = m ((c.tc : Thread Cert.AdamUkv.nD Cert.AdamUkv.τ).loc Cert.AdamUkv.main_arg4)
      ∧ r.2.mem ((c.tc : Thread Cert.AdamUkv.nD Cert.AdamUkv.τ).loc Cert.AdamUkv.main_arg5) = m ((c.tc : Thread Cert.AdamUkv.nD Cert.AdamUkv.τ).loc Cert.AdamUkv.main_arg5)
      ∧ r.2.mem ((c.tc : Thread Cert.AdamUkv.nD Cert.AdamUkv.τ).loc Cert.AdamUkv.main_arg6) = m ((c.tc : Thread Cert.AdamUkv.nD Cert.AdamUkv.τ).loc Cert.AdamUkv.main_arg6))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
      ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
      ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5)
      ∧ r.2.mem ((c.tc : Thread Cert.AdamUkvIdeal.nD Cert.AdamUkvIdeal.τ).loc Cert.AdamUkvIdeal.main_arg6) = m ((c.tc : Thread Cert.AdamUkvIdeal.nD Cert.AdamUkvIdeal.τ).loc Cert.AdamUkvIdeal.main_arg6))
      ∧ r.2.sem = fun _ => 0)

def quiescent_AdamUkvReferenceIdeal [hAdamUkvReferenceIdeal : Cert.AdamUkvReferenceIdeal.Facts] : Prop :=
  ∀ (m : (ℓ : Loc Cert.AdamUkvReferenceIdeal.nD Cert.AdamUkvReferenceIdeal.τ Cert.AdamUkvReferenceIdeal.sig) → Buf (Elt Ideal) ℓ) (g : Dev Cert.AdamUkvReferenceIdeal.nD → PrngReg), Pre_AdamUkvReferenceIdeal m →
    θ_run (Cert.AdamUkvReferenceIdeal.defs (F := Ideal)) (onTc (τ := Cert.AdamUkvReferenceIdeal.τ) (Cert.AdamUkvReferenceIdeal.main (F := Ideal))) ⟨m, fun _ => 0, g⟩ (fun r => (∀ c : Dev Cert.AdamUkvReferenceIdeal.nD,
      r.2.mem ((c.tc : Thread Cert.AdamUkvReferenceIdeal.nD Cert.AdamUkvReferenceIdeal.τ).loc Cert.AdamUkvReferenceIdeal.main_arg0) = m ((c.tc : Thread Cert.AdamUkvReferenceIdeal.nD Cert.AdamUkvReferenceIdeal.τ).loc Cert.AdamUkvReferenceIdeal.main_arg0)
      ∧ r.2.mem ((c.tc : Thread Cert.AdamUkvReferenceIdeal.nD Cert.AdamUkvReferenceIdeal.τ).loc Cert.AdamUkvReferenceIdeal.main_arg1) = m ((c.tc : Thread Cert.AdamUkvReferenceIdeal.nD Cert.AdamUkvReferenceIdeal.τ).loc Cert.AdamUkvReferenceIdeal.main_arg1)
      ∧ r.2.mem ((c.tc : Thread Cert.AdamUkvReferenceIdeal.nD Cert.AdamUkvReferenceIdeal.τ).loc Cert.AdamUkvReferenceIdeal.main_arg2) = m ((c.tc : Thread Cert.AdamUkvReferenceIdeal.nD Cert.AdamUkvReferenceIdeal.τ).loc Cert.AdamUkvReferenceIdeal.main_arg2)
      ∧ r.2.mem ((c.tc : Thread Cert.AdamUkvReferenceIdeal.nD Cert.AdamUkvReferenceIdeal.τ).loc Cert.AdamUkvReferenceIdeal.main_arg3) = m ((c.tc : Thread Cert.AdamUkvReferenceIdeal.nD Cert.AdamUkvReferenceIdeal.τ).loc Cert.AdamUkvReferenceIdeal.main_arg3)
      ∧ r.2.mem ((c.tc : Thread Cert.AdamUkvReferenceIdeal.nD Cert.AdamUkvReferenceIdeal.τ).loc Cert.AdamUkvReferenceIdeal.main_arg4) = m ((c.tc : Thread Cert.AdamUkvReferenceIdeal.nD Cert.AdamUkvReferenceIdeal.τ).loc Cert.AdamUkvReferenceIdeal.main_arg4)
      ∧ r.2.mem ((c.tc : Thread Cert.AdamUkvReferenceIdeal.nD Cert.AdamUkvReferenceIdeal.τ).loc Cert.AdamUkvReferenceIdeal.main_arg5) = m ((c.tc : Thread Cert.AdamUkvReferenceIdeal.nD Cert.AdamUkvReferenceIdeal.τ).loc Cert.AdamUkvReferenceIdeal.main_arg5)
      ∧ r.2.mem ((c.tc : Thread Cert.AdamUkvReferenceIdeal.nD Cert.AdamUkvReferenceIdeal.τ).loc Cert.AdamUkvReferenceIdeal.main_arg6) = m ((c.tc : Thread Cert.AdamUkvReferenceIdeal.nD Cert.AdamUkvReferenceIdeal.τ).loc Cert.AdamUkvReferenceIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Normed [hNormed : Cert.Normed.Facts] : Prop :=
  ∀ (m : (ℓ : Loc Cert.Normed.nD Cert.Normed.τ Cert.Normed.sig) → Buf (Elt Bits) ℓ) (g : Dev Cert.Normed.nD → PrngReg), Pre_Normed m →
    θ_run (Cert.Normed.defs (F := Bits)) (onTc (τ := Cert.Normed.τ) (Cert.Normed.main (F := Bits))) ⟨m, fun _ => 0, g⟩ (fun r => (∀ c : Dev Cert.Normed.nD,
      r.2.mem ((c.tc : Thread Cert.Normed.nD Cert.Normed.τ).loc Cert.Normed.main_arg0) = m ((c.tc : Thread Cert.Normed.nD Cert.Normed.τ).loc Cert.Normed.main_arg0)
      ∧ r.2.mem ((c.tc : Thread Cert.Normed.nD Cert.Normed.τ).loc Cert.Normed.main_arg1) = m ((c.tc : Thread Cert.Normed.nD Cert.Normed.τ).loc Cert.Normed.main_arg1))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1))
      ∧ r.2.sem = fun _ => 0)

def quiescent_NormedReferenceIdeal [hNormedReferenceIdeal : Cert.NormedReferenceIdeal.Facts] : Prop :=
  ∀ (m : (ℓ : Loc Cert.NormedReferenceIdeal.nD Cert.NormedReferenceIdeal.τ Cert.NormedReferenceIdeal.sig) → Buf (Elt Ideal) ℓ) (g : Dev Cert.NormedReferenceIdeal.nD → PrngReg), Pre_NormedReferenceIdeal m →
    θ_run (Cert.NormedReferenceIdeal.defs (F := Ideal)) (onTc (τ := Cert.NormedReferenceIdeal.τ) (Cert.NormedReferenceIdeal.main (F := Ideal))) ⟨m, fun _ => 0, g⟩ (fun r => (∀ c : Dev Cert.NormedReferenceIdeal.nD,
      r.2.mem ((c.tc : Thread Cert.NormedReferenceIdeal.nD Cert.NormedReferenceIdeal.τ).loc Cert.NormedReferenceIdeal.main_arg0) = m ((c.tc : Thread Cert.NormedReferenceIdeal.nD Cert.NormedReferenceIdeal.τ).loc Cert.NormedReferenceIdeal.main_arg0)
      ∧ r.2.mem ((c.tc : Thread Cert.NormedReferenceIdeal.nD Cert.NormedReferenceIdeal.τ).loc Cert.NormedReferenceIdeal.main_arg1) = m ((c.tc : Thread Cert.NormedReferenceIdeal.nD Cert.NormedReferenceIdeal.τ).loc Cert.NormedReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Act_ActIdeal : Prop :=
  True

def algebraic_ActIdeal_ActReferenceIdeal_pre_finite_act [hActIdeal : Cert.ActIdeal.Facts] [hActReferenceIdeal : Cert.ActReferenceIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_finite_act m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v8_0)) (v1 : (c : Dev Cert.ActIdeal.nD) → Buf (Elt Ideal) ((c.tc : Thread Cert.ActIdeal.nD Cert.ActIdeal.τ).loc Cert.ActIdeal.main_v8_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8_0) = v0 c
          ∧ r.2.mem ((c.tc : Thread Cert.ActIdeal.nD Cert.ActIdeal.τ).loc Cert.ActIdeal.main_v8_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v9) = v0 c
          ∧ r.2.mem ((c.tc : Thread Cert.ActReferenceIdeal.nD Cert.ActReferenceIdeal.τ).loc Cert.ActReferenceIdeal.main_v12) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v12)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v12) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v5) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v6) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_v9) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0) = v0 c
          ∧ r.2.mem ((c.tc : Thread Cert.InProjReferenceIdeal.nD Cert.InProjReferenceIdeal.τ).loc Cert.InProjReferenceIdeal.main_v1) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v2) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v4) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v1) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v2) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v2) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v4) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)
      ∧ m' ((c.tc : Thread Cert.AdamUpReferenceIdeal.nD Cert.AdamUpReferenceIdeal.τ).loc Cert.AdamUpReferenceIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v7_0)) (v1 : (c : Dev Cert.AdamUpIdeal.nD) → Buf (Elt Ideal) ((c.tc : Thread Cert.AdamUpIdeal.nD Cert.AdamUpIdeal.τ).loc Cert.AdamUpIdeal.main_v7_1)) (v2 : (c : Dev Cert.AdamUpIdeal.nD) → Buf (Elt Ideal) ((c.tc : Thread Cert.AdamUpIdeal.nD Cert.AdamUpIdeal.τ).loc Cert.AdamUpIdeal.main_v7_2)) (v3 : (c : Dev Cert.AdamUpIdeal.nD) → Buf (Elt Ideal) ((c.tc : Thread Cert.AdamUpIdeal.nD Cert.AdamUpIdeal.τ).loc Cert.AdamUpIdeal.main_v7_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v7_0) = v0 c
          ∧ r.2.mem ((c.tc : Thread Cert.AdamUpIdeal.nD Cert.AdamUpIdeal.τ).loc Cert.AdamUpIdeal.main_v7_1) = v1 c
          ∧ r.2.mem ((c.tc : Thread Cert.AdamUpIdeal.nD Cert.AdamUpIdeal.τ).loc Cert.AdamUpIdeal.main_v7_2) = v2 c
          ∧ r.2.mem ((c.tc : Thread Cert.AdamUpIdeal.nD Cert.AdamUpIdeal.τ).loc Cert.AdamUpIdeal.main_v7_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v7) = v0 c
          ∧ r.2.mem ((c.tc : Thread Cert.AdamUpReferenceIdeal.nD Cert.AdamUpReferenceIdeal.τ).loc Cert.AdamUpReferenceIdeal.main_v31) = v1 c
          ∧ r.2.mem ((c.tc : Thread Cert.AdamUpReferenceIdeal.nD Cert.AdamUpReferenceIdeal.τ).loc Cert.AdamUpReferenceIdeal.main_v12) = v2 c
          ∧ r.2.mem ((c.tc : Thread Cert.AdamUpReferenceIdeal.nD Cert.AdamUpReferenceIdeal.τ).loc Cert.AdamUpReferenceIdeal.main_v18) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5)
          ∧ r.2.mem ((c.tc : Thread Cert.AdamUpReferenceIdeal.nD Cert.AdamUpReferenceIdeal.τ).loc Cert.AdamUpReferenceIdeal.main_arg6) = m' ((c.tc : Thread Cert.AdamUpReferenceIdeal.nD Cert.AdamUpReferenceIdeal.τ).loc Cert.AdamUpReferenceIdeal.main_arg6))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)
      ∧ m' ((c.tc : Thread Cert.AdamOutReferenceIdeal.nD Cert.AdamOutReferenceIdeal.τ).loc Cert.AdamOutReferenceIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v7_0)) (v1 : (c : Dev Cert.AdamOutIdeal.nD) → Buf (Elt Ideal) ((c.tc : Thread Cert.AdamOutIdeal.nD Cert.AdamOutIdeal.τ).loc Cert.AdamOutIdeal.main_v7_1)) (v2 : (c : Dev Cert.AdamOutIdeal.nD) → Buf (Elt Ideal) ((c.tc : Thread Cert.AdamOutIdeal.nD Cert.AdamOutIdeal.τ).loc Cert.AdamOutIdeal.main_v7_2)) (v3 : (c : Dev Cert.AdamOutIdeal.nD) → Buf (Elt Ideal) ((c.tc : Thread Cert.AdamOutIdeal.nD Cert.AdamOutIdeal.τ).loc Cert.AdamOutIdeal.main_v7_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v7_0) = v0 c
          ∧ r.2.mem ((c.tc : Thread Cert.AdamOutIdeal.nD Cert.AdamOutIdeal.τ).loc Cert.AdamOutIdeal.main_v7_1) = v1 c
          ∧ r.2.mem ((c.tc : Thread Cert.AdamOutIdeal.nD Cert.AdamOutIdeal.τ).loc Cert.AdamOutIdeal.main_v7_2) = v2 c
          ∧ r.2.mem ((c.tc : Thread Cert.AdamOutIdeal.nD Cert.AdamOutIdeal.τ).loc Cert.AdamOutIdeal.main_v7_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v7) = v0 c
          ∧ r.2.mem ((c.tc : Thread Cert.AdamOutReferenceIdeal.nD Cert.AdamOutReferenceIdeal.τ).loc Cert.AdamOutReferenceIdeal.main_v31) = v1 c
          ∧ r.2.mem ((c.tc : Thread Cert.AdamOutReferenceIdeal.nD Cert.AdamOutReferenceIdeal.τ).loc Cert.AdamOutReferenceIdeal.main_v12) = v2 c
          ∧ r.2.mem ((c.tc : Thread Cert.AdamOutReferenceIdeal.nD Cert.AdamOutReferenceIdeal.τ).loc Cert.AdamOutReferenceIdeal.main_v18) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5)
          ∧ r.2.mem ((c.tc : Thread Cert.AdamOutReferenceIdeal.nD Cert.AdamOutReferenceIdeal.τ).loc Cert.AdamOutReferenceIdeal.main_arg6) = m' ((c.tc : Thread Cert.AdamOutReferenceIdeal.nD Cert.AdamOutReferenceIdeal.τ).loc Cert.AdamOutReferenceIdeal.main_arg6))

def preserves_AdamUq_AdamUqIdeal : Prop :=
  True

def algebraic_AdamUqIdeal_AdamUqReferenceIdeal [hAdamUqIdeal : Cert.AdamUqIdeal.Facts] [hAdamUqReferenceIdeal : Cert.AdamUqReferenceIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqReferenceIdeal.nD Cert.AdamUqReferenceIdeal.τ Cert.AdamUqReferenceIdeal.sig) → Buf (Elt Ideal) ℓ) (g' : Dev Cert.AdamUqReferenceIdeal.nD → PrngReg), Pre_AdamUqIdeal m →
    (∀ c : Dev Cert.AdamUqIdeal.nD,
      m' ((c.tc : Thread Cert.AdamUqReferenceIdeal.nD Cert.AdamUqReferenceIdeal.τ).loc Cert.AdamUqReferenceIdeal.main_arg0) = m ((c.tc : Thread Cert.AdamUqIdeal.nD Cert.AdamUqIdeal.τ).loc Cert.AdamUqIdeal.main_arg0)
      ∧ m' ((c.tc : Thread Cert.AdamUqReferenceIdeal.nD Cert.AdamUqReferenceIdeal.τ).loc Cert.AdamUqReferenceIdeal.main_arg1) = m ((c.tc : Thread Cert.AdamUqIdeal.nD Cert.AdamUqIdeal.τ).loc Cert.AdamUqIdeal.main_arg1)
      ∧ m' ((c.tc : Thread Cert.AdamUqReferenceIdeal.nD Cert.AdamUqReferenceIdeal.τ).loc Cert.AdamUqReferenceIdeal.main_arg2) = m ((c.tc : Thread Cert.AdamUqIdeal.nD Cert.AdamUqIdeal.τ).loc Cert.AdamUqIdeal.main_arg2)
      ∧ m' ((c.tc : Thread Cert.AdamUqReferenceIdeal.nD Cert.AdamUqReferenceIdeal.τ).loc Cert.AdamUqReferenceIdeal.main_arg3) = m ((c.tc : Thread Cert.AdamUqIdeal.nD Cert.AdamUqIdeal.τ).loc Cert.AdamUqIdeal.main_arg3)
      ∧ m' ((c.tc : Thread Cert.AdamUqReferenceIdeal.nD Cert.AdamUqReferenceIdeal.τ).loc Cert.AdamUqReferenceIdeal.main_arg4) = m ((c.tc : Thread Cert.AdamUqIdeal.nD Cert.AdamUqIdeal.τ).loc Cert.AdamUqIdeal.main_arg4)
      ∧ m' ((c.tc : Thread Cert.AdamUqReferenceIdeal.nD Cert.AdamUqReferenceIdeal.τ).loc Cert.AdamUqReferenceIdeal.main_arg5) = m ((c.tc : Thread Cert.AdamUqIdeal.nD Cert.AdamUqIdeal.τ).loc Cert.AdamUqIdeal.main_arg5)
      ∧ m' ((c.tc : Thread Cert.AdamUqReferenceIdeal.nD Cert.AdamUqReferenceIdeal.τ).loc Cert.AdamUqReferenceIdeal.main_arg6) = m ((c.tc : Thread Cert.AdamUqIdeal.nD Cert.AdamUqIdeal.τ).loc Cert.AdamUqIdeal.main_arg6)) →
    ∃ (v0 : (c : Dev Cert.AdamUqIdeal.nD) → Buf (Elt Ideal) ((c.tc : Thread Cert.AdamUqIdeal.nD Cert.AdamUqIdeal.τ).loc Cert.AdamUqIdeal.main_v7_0)) (v1 : (c : Dev Cert.AdamUqIdeal.nD) → Buf (Elt Ideal) ((c.tc : Thread Cert.AdamUqIdeal.nD Cert.AdamUqIdeal.τ).loc Cert.AdamUqIdeal.main_v7_1)) (v2 : (c : Dev Cert.AdamUqIdeal.nD) → Buf (Elt Ideal) ((c.tc : Thread Cert.AdamUqIdeal.nD Cert.AdamUqIdeal.τ).loc Cert.AdamUqIdeal.main_v7_2)) (v3 : (c : Dev Cert.AdamUqIdeal.nD) → Buf (Elt Ideal) ((c.tc : Thread Cert.AdamUqIdeal.nD Cert.AdamUqIdeal.τ).loc Cert.AdamUqIdeal.main_v7_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v7_0) = v0 c
          ∧ r.2.mem ((c.tc : Thread Cert.AdamUqIdeal.nD Cert.AdamUqIdeal.τ).loc Cert.AdamUqIdeal.main_v7_1) = v1 c
          ∧ r.2.mem ((c.tc : Thread Cert.AdamUqIdeal.nD Cert.AdamUqIdeal.τ).loc Cert.AdamUqIdeal.main_v7_2) = v2 c
          ∧ r.2.mem ((c.tc : Thread Cert.AdamUqIdeal.nD Cert.AdamUqIdeal.τ).loc Cert.AdamUqIdeal.main_v7_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
          ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
          ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5)
          ∧ r.2.mem ((c.tc : Thread Cert.AdamUqIdeal.nD Cert.AdamUqIdeal.τ).loc Cert.AdamUqIdeal.main_arg6) = m ((c.tc : Thread Cert.AdamUqIdeal.nD Cert.AdamUqIdeal.τ).loc Cert.AdamUqIdeal.main_arg6))
      ∧ θ_run (Cert.AdamUqReferenceIdeal.defs (F := Ideal)) (onTc (τ := Cert.AdamUqReferenceIdeal.τ) (Cert.AdamUqReferenceIdeal.main (F := Ideal))) ⟨m', fun _ => 0, g'⟩ (fun r => ∀ c : Dev Cert.AdamUqReferenceIdeal.nD,
          r.2.mem ((c.tc : Thread Cert.AdamUqReferenceIdeal.nD Cert.AdamUqReferenceIdeal.τ).loc Cert.AdamUqReferenceIdeal.main_v7) = v0 c
          ∧ r.2.mem ((c.tc : Thread Cert.AdamUqReferenceIdeal.nD Cert.AdamUqReferenceIdeal.τ).loc Cert.AdamUqReferenceIdeal.main_v31) = v1 c
          ∧ r.2.mem ((c.tc : Thread Cert.AdamUqReferenceIdeal.nD Cert.AdamUqReferenceIdeal.τ).loc Cert.AdamUqReferenceIdeal.main_v12) = v2 c
          ∧ r.2.mem ((c.tc : Thread Cert.AdamUqReferenceIdeal.nD Cert.AdamUqReferenceIdeal.τ).loc Cert.AdamUqReferenceIdeal.main_v18) = v3 c
          ∧ r.2.mem ((c.tc : Thread Cert.AdamUqReferenceIdeal.nD Cert.AdamUqReferenceIdeal.τ).loc Cert.AdamUqReferenceIdeal.main_arg0) = m' ((c.tc : Thread Cert.AdamUqReferenceIdeal.nD Cert.AdamUqReferenceIdeal.τ).loc Cert.AdamUqReferenceIdeal.main_arg0)
          ∧ r.2.mem ((c.tc : Thread Cert.AdamUqReferenceIdeal.nD Cert.AdamUqReferenceIdeal.τ).loc Cert.AdamUqReferenceIdeal.main_arg1) = m' ((c.tc : Thread Cert.AdamUqReferenceIdeal.nD Cert.AdamUqReferenceIdeal.τ).loc Cert.AdamUqReferenceIdeal.main_arg1)
          ∧ r.2.mem ((c.tc : Thread Cert.AdamUqReferenceIdeal.nD Cert.AdamUqReferenceIdeal.τ).loc Cert.AdamUqReferenceIdeal.main_arg2) = m' ((c.tc : Thread Cert.AdamUqReferenceIdeal.nD Cert.AdamUqReferenceIdeal.τ).loc Cert.AdamUqReferenceIdeal.main_arg2)
          ∧ r.2.mem ((c.tc : Thread Cert.AdamUqReferenceIdeal.nD Cert.AdamUqReferenceIdeal.τ).loc Cert.AdamUqReferenceIdeal.main_arg3) = m' ((c.tc : Thread Cert.AdamUqReferenceIdeal.nD Cert.AdamUqReferenceIdeal.τ).loc Cert.AdamUqReferenceIdeal.main_arg3)
          ∧ r.2.mem ((c.tc : Thread Cert.AdamUqReferenceIdeal.nD Cert.AdamUqReferenceIdeal.τ).loc Cert.AdamUqReferenceIdeal.main_arg4) = m' ((c.tc : Thread Cert.AdamUqReferenceIdeal.nD Cert.AdamUqReferenceIdeal.τ).loc Cert.AdamUqReferenceIdeal.main_arg4)
          ∧ r.2.mem ((c.tc : Thread Cert.AdamUqReferenceIdeal.nD Cert.AdamUqReferenceIdeal.τ).loc Cert.AdamUqReferenceIdeal.main_arg5) = m' ((c.tc : Thread Cert.AdamUqReferenceIdeal.nD Cert.AdamUqReferenceIdeal.τ).loc Cert.AdamUqReferenceIdeal.main_arg5)
          ∧ r.2.mem ((c.tc : Thread Cert.AdamUqReferenceIdeal.nD Cert.AdamUqReferenceIdeal.τ).loc Cert.AdamUqReferenceIdeal.main_arg6) = m' ((c.tc : Thread Cert.AdamUqReferenceIdeal.nD Cert.AdamUqReferenceIdeal.τ).loc Cert.AdamUqReferenceIdeal.main_arg6))

def preserves_AdamUkv_AdamUkvIdeal : Prop :=
  True

def algebraic_AdamUkvIdeal_AdamUkvReferenceIdeal [hAdamUkvIdeal : Cert.AdamUkvIdeal.Facts] [hAdamUkvReferenceIdeal : Cert.AdamUkvReferenceIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvReferenceIdeal.nD Cert.AdamUkvReferenceIdeal.τ Cert.AdamUkvReferenceIdeal.sig) → Buf (Elt Ideal) ℓ) (g' : Dev Cert.AdamUkvReferenceIdeal.nD → PrngReg), Pre_AdamUkvIdeal m →
    (∀ c : Dev Cert.AdamUkvIdeal.nD,
      m' ((c.tc : Thread Cert.AdamUkvReferenceIdeal.nD Cert.AdamUkvReferenceIdeal.τ).loc Cert.AdamUkvReferenceIdeal.main_arg0) = m ((c.tc : Thread Cert.AdamUkvIdeal.nD Cert.AdamUkvIdeal.τ).loc Cert.AdamUkvIdeal.main_arg0)
      ∧ m' ((c.tc : Thread Cert.AdamUkvReferenceIdeal.nD Cert.AdamUkvReferenceIdeal.τ).loc Cert.AdamUkvReferenceIdeal.main_arg1) = m ((c.tc : Thread Cert.AdamUkvIdeal.nD Cert.AdamUkvIdeal.τ).loc Cert.AdamUkvIdeal.main_arg1)
      ∧ m' ((c.tc : Thread Cert.AdamUkvReferenceIdeal.nD Cert.AdamUkvReferenceIdeal.τ).loc Cert.AdamUkvReferenceIdeal.main_arg2) = m ((c.tc : Thread Cert.AdamUkvIdeal.nD Cert.AdamUkvIdeal.τ).loc Cert.AdamUkvIdeal.main_arg2)
      ∧ m' ((c.tc : Thread Cert.AdamUkvReferenceIdeal.nD Cert.AdamUkvReferenceIdeal.τ).loc Cert.AdamUkvReferenceIdeal.main_arg3) = m ((c.tc : Thread Cert.AdamUkvIdeal.nD Cert.AdamUkvIdeal.τ).loc Cert.AdamUkvIdeal.main_arg3)
      ∧ m' ((c.tc : Thread Cert.AdamUkvReferenceIdeal.nD Cert.AdamUkvReferenceIdeal.τ).loc Cert.AdamUkvReferenceIdeal.main_arg4) = m ((c.tc : Thread Cert.AdamUkvIdeal.nD Cert.AdamUkvIdeal.τ).loc Cert.AdamUkvIdeal.main_arg4)
      ∧ m' ((c.tc : Thread Cert.AdamUkvReferenceIdeal.nD Cert.AdamUkvReferenceIdeal.τ).loc Cert.AdamUkvReferenceIdeal.main_arg5) = m ((c.tc : Thread Cert.AdamUkvIdeal.nD Cert.AdamUkvIdeal.τ).loc Cert.AdamUkvIdeal.main_arg5)
      ∧ m' ((c.tc : Thread Cert.AdamUkvReferenceIdeal.nD Cert.AdamUkvReferenceIdeal.τ).loc Cert.AdamUkvReferenceIdeal.main_arg6) = m ((c.tc : Thread Cert.AdamUkvIdeal.nD Cert.AdamUkvIdeal.τ).loc Cert.AdamUkvIdeal.main_arg6)) →
    ∃ (v0 : (c : Dev Cert.AdamUkvIdeal.nD) → Buf (Elt Ideal) ((c.tc : Thread Cert.AdamUkvIdeal.nD Cert.AdamUkvIdeal.τ).loc Cert.AdamUkvIdeal.main_v7_0)) (v1 : (c : Dev Cert.AdamUkvIdeal.nD) → Buf (Elt Ideal) ((c.tc : Thread Cert.AdamUkvIdeal.nD Cert.AdamUkvIdeal.τ).loc Cert.AdamUkvIdeal.main_v7_1)) (v2 : (c : Dev Cert.AdamUkvIdeal.nD) → Buf (Elt Ideal) ((c.tc : Thread Cert.AdamUkvIdeal.nD Cert.AdamUkvIdeal.τ).loc Cert.AdamUkvIdeal.main_v7_2)) (v3 : (c : Dev Cert.AdamUkvIdeal.nD) → Buf (Elt Ideal) ((c.tc : Thread Cert.AdamUkvIdeal.nD Cert.AdamUkvIdeal.τ).loc Cert.AdamUkvIdeal.main_v7_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v7_0) = v0 c
          ∧ r.2.mem ((c.tc : Thread Cert.AdamUkvIdeal.nD Cert.AdamUkvIdeal.τ).loc Cert.AdamUkvIdeal.main_v7_1) = v1 c
          ∧ r.2.mem ((c.tc : Thread Cert.AdamUkvIdeal.nD Cert.AdamUkvIdeal.τ).loc Cert.AdamUkvIdeal.main_v7_2) = v2 c
          ∧ r.2.mem ((c.tc : Thread Cert.AdamUkvIdeal.nD Cert.AdamUkvIdeal.τ).loc Cert.AdamUkvIdeal.main_v7_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
          ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
          ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5)
          ∧ r.2.mem ((c.tc : Thread Cert.AdamUkvIdeal.nD Cert.AdamUkvIdeal.τ).loc Cert.AdamUkvIdeal.main_arg6) = m ((c.tc : Thread Cert.AdamUkvIdeal.nD Cert.AdamUkvIdeal.τ).loc Cert.AdamUkvIdeal.main_arg6))
      ∧ θ_run (Cert.AdamUkvReferenceIdeal.defs (F := Ideal)) (onTc (τ := Cert.AdamUkvReferenceIdeal.τ) (Cert.AdamUkvReferenceIdeal.main (F := Ideal))) ⟨m', fun _ => 0, g'⟩ (fun r => ∀ c : Dev Cert.AdamUkvReferenceIdeal.nD,
          r.2.mem ((c.tc : Thread Cert.AdamUkvReferenceIdeal.nD Cert.AdamUkvReferenceIdeal.τ).loc Cert.AdamUkvReferenceIdeal.main_v7) = v0 c
          ∧ r.2.mem ((c.tc : Thread Cert.AdamUkvReferenceIdeal.nD Cert.AdamUkvReferenceIdeal.τ).loc Cert.AdamUkvReferenceIdeal.main_v31) = v1 c
          ∧ r.2.mem ((c.tc : Thread Cert.AdamUkvReferenceIdeal.nD Cert.AdamUkvReferenceIdeal.τ).loc Cert.AdamUkvReferenceIdeal.main_v12) = v2 c
          ∧ r.2.mem ((c.tc : Thread Cert.AdamUkvReferenceIdeal.nD Cert.AdamUkvReferenceIdeal.τ).loc Cert.AdamUkvReferenceIdeal.main_v18) = v3 c
          ∧ r.2.mem ((c.tc : Thread Cert.AdamUkvReferenceIdeal.nD Cert.AdamUkvReferenceIdeal.τ).loc Cert.AdamUkvReferenceIdeal.main_arg0) = m' ((c.tc : Thread Cert.AdamUkvReferenceIdeal.nD Cert.AdamUkvReferenceIdeal.τ).loc Cert.AdamUkvReferenceIdeal.main_arg0)
          ∧ r.2.mem ((c.tc : Thread Cert.AdamUkvReferenceIdeal.nD Cert.AdamUkvReferenceIdeal.τ).loc Cert.AdamUkvReferenceIdeal.main_arg1) = m' ((c.tc : Thread Cert.AdamUkvReferenceIdeal.nD Cert.AdamUkvReferenceIdeal.τ).loc Cert.AdamUkvReferenceIdeal.main_arg1)
          ∧ r.2.mem ((c.tc : Thread Cert.AdamUkvReferenceIdeal.nD Cert.AdamUkvReferenceIdeal.τ).loc Cert.AdamUkvReferenceIdeal.main_arg2) = m' ((c.tc : Thread Cert.AdamUkvReferenceIdeal.nD Cert.AdamUkvReferenceIdeal.τ).loc Cert.AdamUkvReferenceIdeal.main_arg2)
          ∧ r.2.mem ((c.tc : Thread Cert.AdamUkvReferenceIdeal.nD Cert.AdamUkvReferenceIdeal.τ).loc Cert.AdamUkvReferenceIdeal.main_arg3) = m' ((c.tc : Thread Cert.AdamUkvReferenceIdeal.nD Cert.AdamUkvReferenceIdeal.τ).loc Cert.AdamUkvReferenceIdeal.main_arg3)
          ∧ r.2.mem ((c.tc : Thread Cert.AdamUkvReferenceIdeal.nD Cert.AdamUkvReferenceIdeal.τ).loc Cert.AdamUkvReferenceIdeal.main_arg4) = m' ((c.tc : Thread Cert.AdamUkvReferenceIdeal.nD Cert.AdamUkvReferenceIdeal.τ).loc Cert.AdamUkvReferenceIdeal.main_arg4)
          ∧ r.2.mem ((c.tc : Thread Cert.AdamUkvReferenceIdeal.nD Cert.AdamUkvReferenceIdeal.τ).loc Cert.AdamUkvReferenceIdeal.main_arg5) = m' ((c.tc : Thread Cert.AdamUkvReferenceIdeal.nD Cert.AdamUkvReferenceIdeal.τ).loc Cert.AdamUkvReferenceIdeal.main_arg5)
          ∧ r.2.mem ((c.tc : Thread Cert.AdamUkvReferenceIdeal.nD Cert.AdamUkvReferenceIdeal.τ).loc Cert.AdamUkvReferenceIdeal.main_arg6) = m' ((c.tc : Thread Cert.AdamUkvReferenceIdeal.nD Cert.AdamUkvReferenceIdeal.τ).loc Cert.AdamUkvReferenceIdeal.main_arg6))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)
      ∧ m' ((c.tc : Thread Cert.AdamSmallReferenceIdeal.nD Cert.AdamSmallReferenceIdeal.τ).loc Cert.AdamSmallReferenceIdeal.main_arg26) = m ((c.tc : Thread Cert.AdamSmallIdeal.nD Cert.AdamSmallIdeal.τ).loc Cert.AdamSmallIdeal.main_arg26)
      ∧ m' ((c.tc : Thread Cert.AdamSmallReferenceIdeal.nD Cert.AdamSmallReferenceIdeal.τ).loc Cert.AdamSmallReferenceIdeal.main_arg27) = m ((c.tc : Thread Cert.AdamSmallIdeal.nD Cert.AdamSmallIdeal.τ).loc Cert.AdamSmallIdeal.main_arg27)
      ∧ m' ((c.tc : Thread Cert.AdamSmallReferenceIdeal.nD Cert.AdamSmallReferenceIdeal.τ).loc Cert.AdamSmallReferenceIdeal.main_arg28) = m ((c.tc : Thread Cert.AdamSmallIdeal.nD Cert.AdamSmallIdeal.τ).loc Cert.AdamSmallIdeal.main_arg28)) →
    ∃ (v0 : (c : Dev Cert.AdamSmallIdeal.nD) → Buf (Elt Ideal) ((c.tc : Thread Cert.AdamSmallIdeal.nD Cert.AdamSmallIdeal.τ).loc Cert.AdamSmallIdeal.main_v191)) (v1 : (c : Dev Cert.AdamSmallIdeal.nD) → Buf (Elt Ideal) ((c.tc : Thread Cert.AdamSmallIdeal.nD Cert.AdamSmallIdeal.τ).loc Cert.AdamSmallIdeal.main_v100)) (v2 : (c : Dev Cert.AdamSmallIdeal.nD) → Buf (Elt Ideal) ((c.tc : Thread Cert.AdamSmallIdeal.nD Cert.AdamSmallIdeal.τ).loc Cert.AdamSmallIdeal.main_v103)) (v3 : (c : Dev Cert.AdamSmallIdeal.nD) → Buf (Elt Ideal) ((c.tc : Thread Cert.AdamSmallIdeal.nD Cert.AdamSmallIdeal.τ).loc Cert.AdamSmallIdeal.main_v106)) (v4 : (c : Dev Cert.AdamSmallIdeal.nD) → Buf (Elt Ideal) ((c.tc : Thread Cert.AdamSmallIdeal.nD Cert.AdamSmallIdeal.τ).loc Cert.AdamSmallIdeal.main_v110)) (v5 : (c : Dev Cert.AdamSmallIdeal.nD) → Buf (Elt Ideal) ((c.tc : Thread Cert.AdamSmallIdeal.nD Cert.AdamSmallIdeal.τ).loc Cert.AdamSmallIdeal.main_v113)) (v6 : (c : Dev Cert.AdamSmallIdeal.nD) → Buf (Elt Ideal) ((c.tc : Thread Cert.AdamSmallIdeal.nD Cert.AdamSmallIdeal.τ).loc Cert.AdamSmallIdeal.main_v116)) (v7 : (c : Dev Cert.AdamSmallIdeal.nD) → Buf (Elt Ideal) ((c.tc : Thread Cert.AdamSmallIdeal.nD Cert.AdamSmallIdeal.τ).loc Cert.AdamSmallIdeal.main_v118)) (v8 : (c : Dev Cert.AdamSmallIdeal.nD) → Buf (Elt Ideal) ((c.tc : Thread Cert.AdamSmallIdeal.nD Cert.AdamSmallIdeal.τ).loc Cert.AdamSmallIdeal.main_v123)) (v9 : (c : Dev Cert.AdamSmallIdeal.nD) → Buf (Elt Ideal) ((c.tc : Thread Cert.AdamSmallIdeal.nD Cert.AdamSmallIdeal.τ).loc Cert.AdamSmallIdeal.main_v126)) (v10 : (c : Dev Cert.AdamSmallIdeal.nD) → Buf (Elt Ideal) ((c.tc : Thread Cert.AdamSmallIdeal.nD Cert.AdamSmallIdeal.τ).loc Cert.AdamSmallIdeal.main_v129)) (v11 : (c : Dev Cert.AdamSmallIdeal.nD) → Buf (Elt Ideal) ((c.tc : Thread Cert.AdamSmallIdeal.nD Cert.AdamSmallIdeal.τ).loc Cert.AdamSmallIdeal.main_v133)) (v12 : (c : Dev Cert.AdamSmallIdeal.nD) → Buf (Elt Ideal) ((c.tc : Thread Cert.AdamSmallIdeal.nD Cert.AdamSmallIdeal.τ).loc Cert.AdamSmallIdeal.main_v136)) (v13 : (c : Dev Cert.AdamSmallIdeal.nD) → Buf (Elt Ideal) ((c.tc : Thread Cert.AdamSmallIdeal.nD Cert.AdamSmallIdeal.τ).loc Cert.AdamSmallIdeal.main_v139)) (v14 : (c : Dev Cert.AdamSmallIdeal.nD) → Buf (Elt Ideal) ((c.tc : Thread Cert.AdamSmallIdeal.nD Cert.AdamSmallIdeal.τ).loc Cert.AdamSmallIdeal.main_v141)) (v15 : (c : Dev Cert.AdamSmallIdeal.nD) → Buf (Elt Ideal) ((c.tc : Thread Cert.AdamSmallIdeal.nD Cert.AdamSmallIdeal.τ).loc Cert.AdamSmallIdeal.main_v146)) (v16 : (c : Dev Cert.AdamSmallIdeal.nD) → Buf (Elt Ideal) ((c.tc : Thread Cert.AdamSmallIdeal.nD Cert.AdamSmallIdeal.τ).loc Cert.AdamSmallIdeal.main_v149)) (v17 : (c : Dev Cert.AdamSmallIdeal.nD) → Buf (Elt Ideal) ((c.tc : Thread Cert.AdamSmallIdeal.nD Cert.AdamSmallIdeal.τ).loc Cert.AdamSmallIdeal.main_v152)) (v18 : (c : Dev Cert.AdamSmallIdeal.nD) → Buf (Elt Ideal) ((c.tc : Thread Cert.AdamSmallIdeal.nD Cert.AdamSmallIdeal.τ).loc Cert.AdamSmallIdeal.main_v156)) (v19 : (c : Dev Cert.AdamSmallIdeal.nD) → Buf (Elt Ideal) ((c.tc : Thread Cert.AdamSmallIdeal.nD Cert.AdamSmallIdeal.τ).loc Cert.AdamSmallIdeal.main_v159)) (v20 : (c : Dev Cert.AdamSmallIdeal.nD) → Buf (Elt Ideal) ((c.tc : Thread Cert.AdamSmallIdeal.nD Cert.AdamSmallIdeal.τ).loc Cert.AdamSmallIdeal.main_v162)) (v21 : (c : Dev Cert.AdamSmallIdeal.nD) → Buf (Elt Ideal) ((c.tc : Thread Cert.AdamSmallIdeal.nD Cert.AdamSmallIdeal.τ).loc Cert.AdamSmallIdeal.main_v164)) (v22 : (c : Dev Cert.AdamSmallIdeal.nD) → Buf (Elt Ideal) ((c.tc : Thread Cert.AdamSmallIdeal.nD Cert.AdamSmallIdeal.τ).loc Cert.AdamSmallIdeal.main_v169)) (v23 : (c : Dev Cert.AdamSmallIdeal.nD) → Buf (Elt Ideal) ((c.tc : Thread Cert.AdamSmallIdeal.nD Cert.AdamSmallIdeal.τ).loc Cert.AdamSmallIdeal.main_v172)) (v24 : (c : Dev Cert.AdamSmallIdeal.nD) → Buf (Elt Ideal) ((c.tc : Thread Cert.AdamSmallIdeal.nD Cert.AdamSmallIdeal.τ).loc Cert.AdamSmallIdeal.main_v175)) (v25 : (c : Dev Cert.AdamSmallIdeal.nD) → Buf (Elt Ideal) ((c.tc : Thread Cert.AdamSmallIdeal.nD Cert.AdamSmallIdeal.τ).loc Cert.AdamSmallIdeal.main_v179)) (v26 : (c : Dev Cert.AdamSmallIdeal.nD) → Buf (Elt Ideal) ((c.tc : Thread Cert.AdamSmallIdeal.nD Cert.AdamSmallIdeal.τ).loc Cert.AdamSmallIdeal.main_v182)) (v27 : (c : Dev Cert.AdamSmallIdeal.nD) → Buf (Elt Ideal) ((c.tc : Thread Cert.AdamSmallIdeal.nD Cert.AdamSmallIdeal.τ).loc Cert.AdamSmallIdeal.main_v185)) (v28 : (c : Dev Cert.AdamSmallIdeal.nD) → Buf (Elt Ideal) ((c.tc : Thread Cert.AdamSmallIdeal.nD Cert.AdamSmallIdeal.τ).loc Cert.AdamSmallIdeal.main_v187)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v191) = v0 c
          ∧ r.2.mem ((c.tc : Thread Cert.AdamSmallIdeal.nD Cert.AdamSmallIdeal.τ).loc Cert.AdamSmallIdeal.main_v100) = v1 c
          ∧ r.2.mem ((c.tc : Thread Cert.AdamSmallIdeal.nD Cert.AdamSmallIdeal.τ).loc Cert.AdamSmallIdeal.main_v103) = v2 c
          ∧ r.2.mem ((c.tc : Thread Cert.AdamSmallIdeal.nD Cert.AdamSmallIdeal.τ).loc Cert.AdamSmallIdeal.main_v106) = v3 c
          ∧ r.2.mem ((c.tc : Thread Cert.AdamSmallIdeal.nD Cert.AdamSmallIdeal.τ).loc Cert.AdamSmallIdeal.main_v110) = v4 c
          ∧ r.2.mem ((c.tc : Thread Cert.AdamSmallIdeal.nD Cert.AdamSmallIdeal.τ).loc Cert.AdamSmallIdeal.main_v113) = v5 c
          ∧ r.2.mem ((c.tc : Thread Cert.AdamSmallIdeal.nD Cert.AdamSmallIdeal.τ).loc Cert.AdamSmallIdeal.main_v116) = v6 c
          ∧ r.2.mem ((c.tc : Thread Cert.AdamSmallIdeal.nD Cert.AdamSmallIdeal.τ).loc Cert.AdamSmallIdeal.main_v118) = v7 c
          ∧ r.2.mem ((c.tc : Thread Cert.AdamSmallIdeal.nD Cert.AdamSmallIdeal.τ).loc Cert.AdamSmallIdeal.main_v123) = v8 c
          ∧ r.2.mem ((c.tc : Thread Cert.AdamSmallIdeal.nD Cert.AdamSmallIdeal.τ).loc Cert.AdamSmallIdeal.main_v126) = v9 c
          ∧ r.2.mem ((c.tc : Thread Cert.AdamSmallIdeal.nD Cert.AdamSmallIdeal.τ).loc Cert.AdamSmallIdeal.main_v129) = v10 c
          ∧ r.2.mem ((c.tc : Thread Cert.AdamSmallIdeal.nD Cert.AdamSmallIdeal.τ).loc Cert.AdamSmallIdeal.main_v133) = v11 c
          ∧ r.2.mem ((c.tc : Thread Cert.AdamSmallIdeal.nD Cert.AdamSmallIdeal.τ).loc Cert.AdamSmallIdeal.main_v136) = v12 c
          ∧ r.2.mem ((c.tc : Thread Cert.AdamSmallIdeal.nD Cert.AdamSmallIdeal.τ).loc Cert.AdamSmallIdeal.main_v139) = v13 c
          ∧ r.2.mem ((c.tc : Thread Cert.AdamSmallIdeal.nD Cert.AdamSmallIdeal.τ).loc Cert.AdamSmallIdeal.main_v141) = v14 c
          ∧ r.2.mem ((c.tc : Thread Cert.AdamSmallIdeal.nD Cert.AdamSmallIdeal.τ).loc Cert.AdamSmallIdeal.main_v146) = v15 c
          ∧ r.2.mem ((c.tc : Thread Cert.AdamSmallIdeal.nD Cert.AdamSmallIdeal.τ).loc Cert.AdamSmallIdeal.main_v149) = v16 c
          ∧ r.2.mem ((c.tc : Thread Cert.AdamSmallIdeal.nD Cert.AdamSmallIdeal.τ).loc Cert.AdamSmallIdeal.main_v152) = v17 c
          ∧ r.2.mem ((c.tc : Thread Cert.AdamSmallIdeal.nD Cert.AdamSmallIdeal.τ).loc Cert.AdamSmallIdeal.main_v156) = v18 c
          ∧ r.2.mem ((c.tc : Thread Cert.AdamSmallIdeal.nD Cert.AdamSmallIdeal.τ).loc Cert.AdamSmallIdeal.main_v159) = v19 c
          ∧ r.2.mem ((c.tc : Thread Cert.AdamSmallIdeal.nD Cert.AdamSmallIdeal.τ).loc Cert.AdamSmallIdeal.main_v162) = v20 c
          ∧ r.2.mem ((c.tc : Thread Cert.AdamSmallIdeal.nD Cert.AdamSmallIdeal.τ).loc Cert.AdamSmallIdeal.main_v164) = v21 c
          ∧ r.2.mem ((c.tc : Thread Cert.AdamSmallIdeal.nD Cert.AdamSmallIdeal.τ).loc Cert.AdamSmallIdeal.main_v169) = v22 c
          ∧ r.2.mem ((c.tc : Thread Cert.AdamSmallIdeal.nD Cert.AdamSmallIdeal.τ).loc Cert.AdamSmallIdeal.main_v172) = v23 c
          ∧ r.2.mem ((c.tc : Thread Cert.AdamSmallIdeal.nD Cert.AdamSmallIdeal.τ).loc Cert.AdamSmallIdeal.main_v175) = v24 c
          ∧ r.2.mem ((c.tc : Thread Cert.AdamSmallIdeal.nD Cert.AdamSmallIdeal.τ).loc Cert.AdamSmallIdeal.main_v179) = v25 c
          ∧ r.2.mem ((c.tc : Thread Cert.AdamSmallIdeal.nD Cert.AdamSmallIdeal.τ).loc Cert.AdamSmallIdeal.main_v182) = v26 c
          ∧ r.2.mem ((c.tc : Thread Cert.AdamSmallIdeal.nD Cert.AdamSmallIdeal.τ).loc Cert.AdamSmallIdeal.main_v185) = v27 c
          ∧ r.2.mem ((c.tc : Thread Cert.AdamSmallIdeal.nD Cert.AdamSmallIdeal.τ).loc Cert.AdamSmallIdeal.main_v187) = v28 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v177) = v0 c
          ∧ r.2.mem ((c.tc : Thread Cert.AdamSmallReferenceIdeal.nD Cert.AdamSmallReferenceIdeal.τ).loc Cert.AdamSmallReferenceIdeal.main_v0) = v1 c
          ∧ r.2.mem ((c.tc : Thread Cert.AdamSmallReferenceIdeal.nD Cert.AdamSmallReferenceIdeal.τ).loc Cert.AdamSmallReferenceIdeal.main_v1) = v2 c
          ∧ r.2.mem ((c.tc : Thread Cert.AdamSmallReferenceIdeal.nD Cert.AdamSmallReferenceIdeal.τ).loc Cert.AdamSmallReferenceIdeal.main_v2) = v3 c
          ∧ r.2.mem ((c.tc : Thread Cert.AdamSmallReferenceIdeal.nD Cert.AdamSmallReferenceIdeal.τ).loc Cert.AdamSmallReferenceIdeal.main_v3) = v4 c
          ∧ r.2.mem ((c.tc : Thread Cert.AdamSmallReferenceIdeal.nD Cert.AdamSmallReferenceIdeal.τ).loc Cert.AdamSmallReferenceIdeal.main_v4) = v5 c
          ∧ r.2.mem ((c.tc : Thread Cert.AdamSmallReferenceIdeal.nD Cert.AdamSmallReferenceIdeal.τ).loc Cert.AdamSmallReferenceIdeal.main_v5) = v6 c
          ∧ r.2.mem ((c.tc : Thread Cert.AdamSmallReferenceIdeal.nD Cert.AdamSmallReferenceIdeal.τ).loc Cert.AdamSmallReferenceIdeal.main_v6) = v7 c
          ∧ r.2.mem ((c.tc : Thread Cert.AdamSmallReferenceIdeal.nD Cert.AdamSmallReferenceIdeal.τ).loc Cert.AdamSmallReferenceIdeal.main_v30) = v8 c
          ∧ r.2.mem ((c.tc : Thread Cert.AdamSmallReferenceIdeal.nD Cert.AdamSmallReferenceIdeal.τ).loc Cert.AdamSmallReferenceIdeal.main_v54) = v9 c
          ∧ r.2.mem ((c.tc : Thread Cert.AdamSmallReferenceIdeal.nD Cert.AdamSmallReferenceIdeal.τ).loc Cert.AdamSmallReferenceIdeal.main_v78) = v10 c
          ∧ r.2.mem ((c.tc : Thread Cert.AdamSmallReferenceIdeal.nD Cert.AdamSmallReferenceIdeal.τ).loc Cert.AdamSmallReferenceIdeal.main_v102) = v11 c
          ∧ r.2.mem ((c.tc : Thread Cert.AdamSmallReferenceIdeal.nD Cert.AdamSmallReferenceIdeal.τ).loc Cert.AdamSmallReferenceIdeal.main_v126) = v12 c
          ∧ r.2.mem ((c.tc : Thread Cert.AdamSmallReferenceIdeal.nD Cert.AdamSmallReferenceIdeal.τ).loc Cert.AdamSmallReferenceIdeal.main_v150) = v13 c
          ∧ r.2.mem ((c.tc : Thread Cert.AdamSmallReferenceIdeal.nD Cert.AdamSmallReferenceIdeal.τ).loc Cert.AdamSmallReferenceIdeal.main_v174) = v14 c
          ∧ r.2.mem ((c.tc : Thread Cert.AdamSmallReferenceIdeal.nD Cert.AdamSmallReferenceIdeal.τ).loc Cert.AdamSmallReferenceIdeal.main_v11) = v15 c
          ∧ r.2.mem ((c.tc : Thread Cert.AdamSmallReferenceIdeal.nD Cert.AdamSmallReferenceIdeal.τ).loc Cert.AdamSmallReferenceIdeal.main_v35) = v16 c
          ∧ r.2.mem ((c.tc : Thread Cert.AdamSmallReferenceIdeal.nD Cert.AdamSmallReferenceIdeal.τ).loc Cert.AdamSmallReferenceIdeal.main_v59) = v17 c
          ∧ r.2.mem ((c.tc : Thread Cert.AdamSmallReferenceIdeal.nD Cert.AdamSmallReferenceIdeal.τ).loc Cert.AdamSmallReferenceIdeal.main_v83) = v18 c
          ∧ r.2.mem ((c.tc : Thread Cert.AdamSmallReferenceIdeal.nD Cert.AdamSmallReferenceIdeal.τ).loc Cert.AdamSmallReferenceIdeal.main_v107) = v19 c
          ∧ r.2.mem ((c.tc : Thread Cert.AdamSmallReferenceIdeal.nD Cert.AdamSmallReferenceIdeal.τ).loc Cert.AdamSmallReferenceIdeal.main_v131) = v20 c
          ∧ r.2.mem ((c.tc : Thread Cert.AdamSmallReferenceIdeal.nD Cert.AdamSmallReferenceIdeal.τ).loc Cert.AdamSmallReferenceIdeal.main_v155) = v21 c
          ∧ r.2.mem ((c.tc : Thread Cert.AdamSmallReferenceIdeal.nD Cert.AdamSmallReferenceIdeal.τ).loc Cert.AdamSmallReferenceIdeal.main_v17) = v22 c
          ∧ r.2.mem ((c.tc : Thread Cert.AdamSmallReferenceIdeal.nD Cert.AdamSmallReferenceIdeal.τ).loc Cert.AdamSmallReferenceIdeal.main_v41) = v23 c
          ∧ r.2.mem ((c.tc : Thread Cert.AdamSmallReferenceIdeal.nD Cert.AdamSmallReferenceIdeal.τ).loc Cert.AdamSmallReferenceIdeal.main_v65) = v24 c
          ∧ r.2.mem ((c.tc : Thread Cert.AdamSmallReferenceIdeal.nD Cert.AdamSmallReferenceIdeal.τ).loc Cert.AdamSmallReferenceIdeal.main_v89) = v25 c
          ∧ r.2.mem ((c.tc : Thread Cert.AdamSmallReferenceIdeal.nD Cert.AdamSmallReferenceIdeal.τ).loc Cert.AdamSmallReferenceIdeal.main_v113) = v26 c
          ∧ r.2.mem ((c.tc : Thread Cert.AdamSmallReferenceIdeal.nD Cert.AdamSmallReferenceIdeal.τ).loc Cert.AdamSmallReferenceIdeal.main_v137) = v27 c
          ∧ r.2.mem ((c.tc : Thread Cert.AdamSmallReferenceIdeal.nD Cert.AdamSmallReferenceIdeal.τ).loc Cert.AdamSmallReferenceIdeal.main_v161) = v28 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v37) = v1 c
          ∧ r.2.mem ((c.tc : Thread Cert.NormReferenceIdeal.nD Cert.NormReferenceIdeal.τ).loc Cert.NormReferenceIdeal.main_v38) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Normed_NormedIdeal : Prop :=
  True

def algebraic_NormedIdeal_NormedReferenceIdeal [hNormedIdeal : Cert.NormedIdeal.Facts] [hNormedReferenceIdeal : Cert.NormedReferenceIdeal.Facts] : Prop :=
  ∀ (m : (ℓ : Loc Cert.NormedIdeal.nD Cert.NormedIdeal.τ Cert.NormedIdeal.sig) → Buf (Elt Ideal) ℓ) (g : Dev Cert.NormedIdeal.nD → PrngReg)
    (m' : (ℓ : Loc Cert.NormedReferenceIdeal.nD Cert.NormedReferenceIdeal.τ Cert.NormedReferenceIdeal.sig) → Buf (Elt Ideal) ℓ) (g' : Dev Cert.NormedReferenceIdeal.nD → PrngReg), Pre_NormedIdeal m →
    (∀ c : Dev Cert.NormedIdeal.nD,
      m' ((c.tc : Thread Cert.NormedReferenceIdeal.nD Cert.NormedReferenceIdeal.τ).loc Cert.NormedReferenceIdeal.main_arg0) = m ((c.tc : Thread Cert.NormedIdeal.nD Cert.NormedIdeal.τ).loc Cert.NormedIdeal.main_arg0)
      ∧ m' ((c.tc : Thread Cert.NormedReferenceIdeal.nD Cert.NormedReferenceIdeal.τ).loc Cert.NormedReferenceIdeal.main_arg1) = m ((c.tc : Thread Cert.NormedIdeal.nD Cert.NormedIdeal.τ).loc Cert.NormedIdeal.main_arg1)) →
    ∃ (v0 : (c : Dev Cert.NormedIdeal.nD) → Buf (Elt Ideal) ((c.tc : Thread Cert.NormedIdeal.nD Cert.NormedIdeal.τ).loc Cert.NormedIdeal.main_v1)),
      θ_run (Cert.NormedIdeal.defs (F := Ideal)) (onTc (τ := Cert.NormedIdeal.τ) (Cert.NormedIdeal.main (F := Ideal))) ⟨m, fun _ => 0, g⟩ (fun r => ∀ c : Dev Cert.NormedIdeal.nD,
          r.2.mem ((c.tc : Thread Cert.NormedIdeal.nD Cert.NormedIdeal.τ).loc Cert.NormedIdeal.main_v1) = v0 c
          ∧ r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1))
      ∧ θ_run (Cert.NormedReferenceIdeal.defs (F := Ideal)) (onTc (τ := Cert.NormedReferenceIdeal.τ) (Cert.NormedReferenceIdeal.main (F := Ideal))) ⟨m', fun _ => 0, g'⟩ (fun r => ∀ c : Dev Cert.NormedReferenceIdeal.nD,
          r.2.mem ((c.tc : Thread Cert.NormedReferenceIdeal.nD Cert.NormedReferenceIdeal.τ).loc Cert.NormedReferenceIdeal.main_v13) = v0 c
          ∧ r.2.mem ((c.tc : Thread Cert.NormedReferenceIdeal.nD Cert.NormedReferenceIdeal.τ).loc Cert.NormedReferenceIdeal.main_arg0) = m' ((c.tc : Thread Cert.NormedReferenceIdeal.nD Cert.NormedReferenceIdeal.τ).loc Cert.NormedReferenceIdeal.main_arg0)
          ∧ r.2.mem ((c.tc : Thread Cert.NormedReferenceIdeal.nD Cert.NormedReferenceIdeal.τ).loc Cert.NormedReferenceIdeal.main_arg1) = m' ((c.tc : Thread Cert.NormedReferenceIdeal.nD Cert.NormedReferenceIdeal.τ).loc Cert.NormedReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v27) = v0 c
          ∧ r.2.mem ((c.tc : Thread Cert.LossReferenceIdeal.nD Cert.LossReferenceIdeal.τ).loc Cert.LossReferenceIdeal.main_v28) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActReferenceIdeal : Cert.ActReferenceIdeal.Facts) (hHidden : Cert.Hidden.Facts) (hHiddenIdeal : Cert.HiddenIdeal.Facts) (hHiddenReferenceIdeal : Cert.HiddenReferenceIdeal.Facts) (hGate : Cert.Gate.Facts) (hGateIdeal : Cert.GateIdeal.Facts) (hGateReferenceIdeal : Cert.GateReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hOut : Cert.Out.Facts) (hOutIdeal : Cert.OutIdeal.Facts) (hOutReferenceIdeal : Cert.OutReferenceIdeal.Facts) (hInProj : Cert.InProj.Facts) (hInProjIdeal : Cert.InProjIdeal.Facts) (hInProjReferenceIdeal : Cert.InProjReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hMix : Cert.Mix.Facts) (hMixIdeal : Cert.MixIdeal.Facts) (hMixReferenceIdeal : Cert.MixReferenceIdeal.Facts) (hMixDx : Cert.MixDx.Facts) (hMixDxIdeal : Cert.MixDxIdeal.Facts) (hMixDxReferenceIdeal : Cert.MixDxReferenceIdeal.Facts) (hMixDw : Cert.MixDw.Facts) (hMixDwIdeal : Cert.MixDwIdeal.Facts) (hMixDwReferenceIdeal : Cert.MixDwReferenceIdeal.Facts) (hAdamUp : Cert.AdamUp.Facts) (hAdamUpIdeal : Cert.AdamUpIdeal.Facts) (hAdamUpReferenceIdeal : Cert.AdamUpReferenceIdeal.Facts) (hAdamOut : Cert.AdamOut.Facts) (hAdamOutIdeal : Cert.AdamOutIdeal.Facts) (hAdamOutReferenceIdeal : Cert.AdamOutReferenceIdeal.Facts) (hAdamUq : Cert.AdamUq.Facts) (hAdamUqIdeal : Cert.AdamUqIdeal.Facts) (hAdamUqReferenceIdeal : Cert.AdamUqReferenceIdeal.Facts) (hAdamUkv : Cert.AdamUkv.Facts) (hAdamUkvIdeal : Cert.AdamUkvIdeal.Facts) (hAdamUkvReferenceIdeal : Cert.AdamUkvReferenceIdeal.Facts) (hAdamSmall : Cert.AdamSmall.Facts) (hAdamSmallIdeal : Cert.AdamSmallIdeal.Facts) (hAdamSmallReferenceIdeal : Cert.AdamSmallReferenceIdeal.Facts) (hNorm : Cert.Norm.Facts) (hNormIdeal : Cert.NormIdeal.Facts) (hNormReferenceIdeal : Cert.NormReferenceIdeal.Facts) (hNormed : Cert.Normed.Facts) (hNormedIdeal : Cert.NormedIdeal.Facts) (hNormedReferenceIdeal : Cert.NormedReferenceIdeal.Facts) (hLoss : Cert.Loss.Facts) (hLossIdeal : Cert.LossIdeal.Facts) (hLossReferenceIdeal : Cert.LossReferenceIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActReferenceIdeal (hActReferenceIdeal := hActReferenceIdeal)
    ∧ quiescent_ActReferenceIdeal_pre_finite_act (hActReferenceIdeal := hActReferenceIdeal) (hPre_finite_act := hPre_finite_act)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Gate (hGate := hGate)
    ∧ quiescent_GateIdeal (hGateIdeal := hGateIdeal)
    ∧ quiescent_GateReferenceIdeal (hGateReferenceIdeal := hGateReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Out (hOut := hOut)
    ∧ quiescent_OutIdeal (hOutIdeal := hOutIdeal)
    ∧ quiescent_OutReferenceIdeal (hOutReferenceIdeal := hOutReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Mix (hMix := hMix)
    ∧ quiescent_MixIdeal (hMixIdeal := hMixIdeal)
    ∧ quiescent_MixReferenceIdeal (hMixReferenceIdeal := hMixReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUq (hAdamUq := hAdamUq)
    ∧ quiescent_AdamUqIdeal (hAdamUqIdeal := hAdamUqIdeal)
    ∧ quiescent_AdamUqReferenceIdeal (hAdamUqReferenceIdeal := hAdamUqReferenceIdeal)
    ∧ quiescent_AdamUkv (hAdamUkv := hAdamUkv)
    ∧ quiescent_AdamUkvIdeal (hAdamUkvIdeal := hAdamUkvIdeal)
    ∧ quiescent_AdamUkvReferenceIdeal (hAdamUkvReferenceIdeal := hAdamUkvReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Normed (hNormed := hNormed)
    ∧ quiescent_NormedIdeal (hNormedIdeal := hNormedIdeal)
    ∧ quiescent_NormedReferenceIdeal (hNormedReferenceIdeal := hNormedReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActReferenceIdeal_pre_finite_act (hActIdeal := hActIdeal) (hActReferenceIdeal := hActReferenceIdeal) (hPre_finite_act := hPre_finite_act)
    ∧ preserves_Hidden_HiddenIdeal
    ∧ algebraic_HiddenIdeal_HiddenReferenceIdeal (hHiddenIdeal := hHiddenIdeal) (hHiddenReferenceIdeal := hHiddenReferenceIdeal)
    ∧ preserves_Gate_GateIdeal
    ∧ algebraic_GateIdeal_GateReferenceIdeal (hGateIdeal := hGateIdeal) (hGateReferenceIdeal := hGateReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Out_OutIdeal
    ∧ algebraic_OutIdeal_OutReferenceIdeal (hOutIdeal := hOutIdeal) (hOutReferenceIdeal := hOutReferenceIdeal)
    ∧ preserves_InProj_InProjIdeal
    ∧ algebraic_InProjIdeal_InProjReferenceIdeal (hInProjIdeal := hInProjIdeal) (hInProjReferenceIdeal := hInProjReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_Mix_MixIdeal
    ∧ algebraic_MixIdeal_MixReferenceIdeal (hMixIdeal := hMixIdeal) (hMixReferenceIdeal := hMixReferenceIdeal)
    ∧ preserves_MixDx_MixDxIdeal
    ∧ algebraic_MixDxIdeal_MixDxReferenceIdeal (hMixDxIdeal := hMixDxIdeal) (hMixDxReferenceIdeal := hMixDxReferenceIdeal)
    ∧ preserves_MixDw_MixDwIdeal
    ∧ algebraic_MixDwIdeal_MixDwReferenceIdeal (hMixDwIdeal := hMixDwIdeal) (hMixDwReferenceIdeal := hMixDwReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUq_AdamUqIdeal
    ∧ algebraic_AdamUqIdeal_AdamUqReferenceIdeal (hAdamUqIdeal := hAdamUqIdeal) (hAdamUqReferenceIdeal := hAdamUqReferenceIdeal)
    ∧ preserves_AdamUkv_AdamUkvIdeal
    ∧ algebraic_AdamUkvIdeal_AdamUkvReferenceIdeal (hAdamUkvIdeal := hAdamUkvIdeal) (hAdamUkvReferenceIdeal := hAdamUkvReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Norm_NormIdeal
    ∧ algebraic_NormIdeal_NormReferenceIdeal (hNormIdeal := hNormIdeal) (hNormReferenceIdeal := hNormReferenceIdeal)
    ∧ preserves_Normed_NormedIdeal
    ∧ algebraic_NormedIdeal_NormedReferenceIdeal (hNormedIdeal := hNormedIdeal) (hNormedReferenceIdeal := hNormedReferenceIdeal)
    ∧ preserves_Loss_LossIdeal
    ∧ algebraic_LossIdeal_LossReferenceIdeal (hLossIdeal := hLossIdeal) (hLossReferenceIdeal := hLossReferenceIdeal)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_act.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x2048 .f32) (main_arg1 : FVec F S5632x2048 .f32) (main_arg2 : FVec F S4096x5632 .f32) (main_arg3 : FVec F S4096x5632 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x5632 .f32 := Host.absf main_arg2
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== Kernel.lean ====
abbrev S4096x512 : Shape := ⟨2, ![4096, 512]⟩
abbrev S256x256 : Shape := ⟨2, ![256, 256]⟩
abbrev S4096x1536 : Shape := ⟨2, ![4096, 1536]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4096x4 : Shape := ⟨2, ![4096, 4]⟩
abbrev S512x128 : Shape := ⟨2, ![512, 128]⟩
abbrev S4096x128 : Shape := ⟨2, ![4096, 128]⟩
abbrev S512x512 : Shape := ⟨2, ![512, 512]⟩
abbrev S512x256 : Shape := ⟨2, ![512, 256]⟩
abbrev S128x256 : Shape := ⟨2, ![128, 256]⟩

abbrev nBuf : Space → Nat
  | .hbm => 54
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S256x256, .bf16⟩
  | .hbm, ⟨5, _⟩ => ⟨S256x256, .bf16⟩
  | .hbm, ⟨6, _⟩ => ⟨S4096x1536, .f32⟩
  | .hbm, ⟨7, _⟩ => ⟨S4096x1536, .bf16⟩
  | .hbm, ⟨8, _⟩ => ⟨S4096x512, .bf16⟩
  | .hbm, ⟨9, _⟩ => ⟨S4096x4x128, .f32⟩
  | .hbm, ⟨10, _⟩ => ⟨S4x4096x128, .f32⟩
  | .hbm, ⟨11, _⟩ => ⟨S4096x4x128, .f32⟩
  | .hbm, ⟨12, _⟩ => ⟨S4x4096x128, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .i1⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S_, .f32⟩
  | .hbm, ⟨43, _⟩ => ⟨S4x4096x4096, .i1⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4096x4, .f32⟩
  | .hbm, ⟨49, _⟩ => ⟨S4096x4x128, .f32⟩
  | .hbm, ⟨50, _⟩ => ⟨S4096x512, .f32⟩
  | .hbm, ⟨51, _⟩ => ⟨S4096x512, .bf16⟩
  | .hbm, ⟨52, _⟩ => ⟨S4096x512, .bf16⟩
  | .hbm, ⟨53, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S256x256, .bf16⟩
  | .local _ .vmem, ⟨11, _⟩ => ⟨S256x256, .bf16⟩
  | .local _ .vmem, ⟨12, _⟩ => ⟨S512x128, .bf16⟩
  | .local _ .vmem, ⟨13, _⟩ => ⟨S512x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24_0 : Ref sig .tc := ⟨.hbm, 51, rfl⟩
abbrev main_v24_1 : Ref sig .tc := ⟨.hbm, 52, rfl⟩
abbrev main_v24_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_14 : BitVec 32 := 0#32
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let v35 : BitVec 32 := Scalar.subi v32 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_16 : BitVec 32 := 1#32
  ⟨c0_i32_14, v39, c1_i32_16⟩
def k0_mult1 (i : grid0.Coords) (k0_t1 : Fin (k0_t1_loop i).trips) : BitVec 32 :=
  let c0_i32_14 : BitVec 32 := 0#32
  let c1_i32_16 : BitVec 32 := 1#32
  let arg14 : BitVec 32 := Scf.iv c0_i32_14 c1_i32_16 k0_t1
  let c512_i32_58 : BitVec 32 := 512#32
  let v183 : BitVec 32 := Scalar.muli arg14 c512_i32_58
  v183
def k0_off1 (i : grid0.Coords) (k0_t1 : Fin (k0_t1_loop i).trips) : Fin 2 → Nat :=
  let c0_i32_14 : BitVec 32 := 0#32
  let c1_i32_16 : BitVec 32 := 1#32
  let arg14 : BitVec 32 := Scf.iv c0_i32_14 c1_i32_16 k0_t1
  let c512_i32_58 : BitVec 32 := 512#32
  let v183 : BitVec 32 := Scalar.muli arg14 c512_i32_58
  let v184 : BitVec 32 := v183
  let v185 : Index := Scalar.indexCast v184
  let c0_59 : Index := 0#32
  ![v185.toNat, 0]
@[reducible] def k0_t2_loop (i : grid0.Coords) : Scf.Loop 32 :=
  let c0_i32_14 : BitVec 32 := 0#32
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let v35 : BitVec 32 := Scalar.subi v32 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let v36 : BitVec 32 := Scalar.addi c0_i32_14 v35
  let c1_i32_17 : BitVec 32 := 1#32
  ⟨v39, v36, c1_i32_17⟩
def k0_mult2 (i : grid0.Coords) (k0_t2 : Fin (k0_t2_loop i).trips) : BitVec 32 :=
  let c0_i32_14 : BitVec 32 := 0#32
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let v35 : BitVec 32 := Scalar.subi v32 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg14 : BitVec 32 := Scf.iv v39 c1_i32_17 k0_t2
  let c512_i32_58 : BitVec 32 := 512#32
  let v183 : BitVec 32 := Scalar.muli arg14 c512_i32_58
  v183
def k0_off2 (i : grid0.Coords) (k0_t2 : Fin (k0_t2_loop i).trips) : Fin 2 → Nat :=
  let c0_i32_14 : BitVec 32 := 0#32
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let v35 : BitVec 32 := Scalar.subi v32 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg14 : BitVec 32 := Scf.iv v39 c1_i32_17 k0_t2
  let c512_i32_58 : BitVec 32 := 512#32
  let v183 : BitVec 32 := Scalar.muli arg14 c512_i32_58
  let v184 : BitVec 32 := v183
  let v185 : Index := Scalar.indexCast v184
  let c0_59 : Index := 0#32
  ![v185.toNat, 0]
def k0_mult3 (i : grid0.Coords) : BitVec 32 :=
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let c512_i32_18 : BitVec 32 := 512#32
  let v42 : BitVec 32 := Scalar.muli v32 c512_i32_18
  v42
def k0_off3 (i : grid0.Coords) : Fin 2 → Nat :=
  let arg1 : BitVec 32 := BitVec.ofNat 32 (i 1).val
  let c512_i32_6 : BitVec 32 := 512#32
  let v15 : BitVec 32 := Scalar.muli arg1 c512_i32_6
  let c0_i32_8 : BitVec 32 := 0#32
  let v17 : BitVec 1 := Scalar.cmpi .sgt v15 c0_i32_8
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_7 : BitVec 32 := 512#32
  let c0_i32_10 : BitVec 32 := 0#32
  let v22 : BitVec 1 := Scalar.cmpi .sgt c512_i32_7 c0_i32_10
  let v23 : BitVec 32 := Scalar.extui v22
  let c0_i32_11 : BitVec 32 := 0#32
  let v24 : BitVec 1 := Scalar.cmpi .slt c512_i32_7 c0_i32_11
  let v25 : BitVec 32 := Scalar.extui v24
  let v26 : BitVec 32 := Scalar.subi v23 v25
  let v27 : BitVec 1 := Scalar.cmpi .ne v21 v26
  let v28 : BitVec 32 := Scalar.remsi v15 c512_i32_7
  let c0_i32_12 : BitVec 32 := 0#32
  let v29 : BitVec 1 := Scalar.cmpi .ne v28 c0_i32_12
  let v30 : BitVec 1 := Scalar.andi v27 v29
  let v16 : BitVec 32 := Scalar.divsi v15 c512_i32_7
  let c1_i32 : BitVec 32 := 1#32
  let v31 : BitVec 32 := Scalar.subi v16 c1_i32
  let v32 : BitVec 32 := Scalar.select v30 v31 v16
  let c512_i32_18 : BitVec 32 := 512#32
  let v42 : BitVec 32 := Scalar.muli v32 c512_i32_18
  let v43 : BitVec 32 := v42
  let v44 : Index := Scalar.indexCast v43
  let c0_19 : Index := 0#32
  ![v44.toNat, 0]
def k0_cond2 (i : grid0.Coords) : BitVec 1 :=
  let arg1 : BitVec 32 := BitVec.ofNat 32 (i 1).val
  let c7_i32 : BitVec 32 := 7#32
  let v180 : BitVec 1 := Scalar.cmpi .eq arg1 c7_i32
  let v181 : BitVec 32 := Scalar.extui v180
  let c0_i32_57 : BitVec 32 := 0#32
  let v182 : BitVec 1 := Scalar.cmpi .ne v181 c0_i32_57
  v182

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x512 : Shape := ⟨2, ![4096, 512]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x128x4096 : Shape := ⟨3, ![4, 128, 4096]⟩

abbrev nBuf : Space → Nat
  | .hbm => 180
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x4x128, .f32⟩
  | 5 => ⟨S4x4096x128, .f32⟩
  | 6 => ⟨S4096x4x128, .f32⟩
  | 7 => ⟨S4x4096x128, .f32⟩
  | 8 => ⟨S4096x4x128, .f32⟩
  | 9 => ⟨S4x4096x128, .f32⟩
  | 10 => ⟨S4x4096x4096, .f32⟩
  | 11 => ⟨S_, .f32⟩
  | 12 => ⟨S4x4096x4096, .f32⟩
  | 13 => ⟨S4x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S4x4096x4096, .f32⟩
  | 22 => ⟨S4x4096x4096, .f32⟩
  | 23 => ⟨S_, .f32⟩
  | 24 => ⟨S4x4096x4096, .f32⟩
  | 25 => ⟨S4x4096x4096, .f32⟩
  | 26 => ⟨S4x4096x4096, .f32⟩
  | 27 => ⟨S4x4096x4096, .f32⟩
  | 28 => ⟨S4x4096x4096, .i1⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S_, .f32⟩
  | 38 => ⟨S4x4096x4096, .f32⟩
  | 39 => ⟨S4x4096x4096, .i1⟩
  | 40 => ⟨S_, .f32⟩
  | 41 => ⟨S4x4096x4096, .f32⟩
  | 42 => ⟨S4x4096x4096, .f32⟩
  | 43 => ⟨S_, .f32⟩
  | 44 => ⟨S4x4096x4096, .f32⟩
  | 45 => ⟨S4x4096x4096, .i1⟩
  | 46 => ⟨S_, .f32⟩
  | 47 => ⟨S4x4096x4096, .f32⟩
  | 48 => ⟨S4x4096x4096, .f32⟩
  | 49 => ⟨S4x4096x4096, .f32⟩
  | 50 => ⟨S4x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x4096x4096, .f32⟩
  | 59 => ⟨S4x4096x4096, .i1⟩
  | 60 => ⟨S_, .f32⟩
  | 61 => ⟨S4x4096x4096, .f32⟩
  | 62 => ⟨S4x4096x4096, .f32⟩
  | 63 => ⟨S4x4096x4096, .f32⟩
  | 64 => ⟨S4x4096x4096, .f32⟩
  | 65 => ⟨S4x4096x4096, .f32⟩
  | 66 => ⟨S_, .f32⟩
  | 67 => ⟨S4x4096x4096, .f32⟩
  | 68 => ⟨S4x4096x4096, .f32⟩
  | 69 => ⟨S4x4096x4096, .f32⟩
  | 70 => ⟨S_, .f32⟩
  | 71 => ⟨S_, .f32⟩
  | 72 => ⟨S4x4096x4096, .i1⟩
  | 73 => ⟨S4x4096x4096, .f32⟩
  | 74 => ⟨S4x4096x4096, .f32⟩
  | 75 => ⟨S_, .f32⟩
  | 76 => ⟨S4x4096x4096, .f32⟩
  | 77 => ⟨S_, .f32⟩
  | 78 => ⟨S_, .f32⟩
  | 79 => ⟨S4x4096x4096, .f32⟩
  | 80 => ⟨S4x4096x4096, .f32⟩
  | 81 => ⟨S4x4096x4096, .f32⟩
  | 82 => ⟨S_, .f32⟩
  | 83 => ⟨S4x4096x4096, .f32⟩
  | 84 => ⟨S4x4096x4096, .f32⟩
  | 85 => ⟨S4x4096x4096, .f32⟩
  | 86 => ⟨S4x4096x4096, .f32⟩
  | 87 => ⟨S4x4096x4096, .i1⟩
  | 88 => ⟨S4x4096x4096, .f32⟩
  | 89 => ⟨S4x4096x4096, .f32⟩
  | 90 => ⟨S4x4096x4096, .f32⟩
  | 91 => ⟨S4x4096x4096, .f32⟩
  | 92 => ⟨S4x4096x4096, .f32⟩
  | 93 => ⟨S4x4096x4096, .f32⟩
  | 94 => ⟨S4x4096x4096, .f32⟩
  | 95 => ⟨S4x4096x4096, .f32⟩
  | 96 => ⟨S_, .f32⟩
  | 97 => ⟨S4x4096x4096, .f32⟩
  | 98 => ⟨S4x4096x4096, .i1⟩
  | 99 => ⟨S_, .f32⟩
  | 100 => ⟨S4x4096x4096, .f32⟩
  | 101 => ⟨S4x4096x4096, .f32⟩
  | 102 => ⟨S_, .f32⟩
  | 103 => ⟨S4x4096x4096, .f32⟩
  | 104 => ⟨S4x4096x4096, .i1⟩
  | 105 => ⟨S_, .f32⟩
  | 106 => ⟨S4x4096x4096, .f32⟩
  | 107 => ⟨S4x4096x4096, .f32⟩
  | 108 => ⟨S4x4096x4096, .f32⟩
  | 109 => ⟨S4x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S4x4096x4096, .f32⟩
  | 118 => ⟨S4x4096x4096, .i1⟩
  | 119 => ⟨S_, .f32⟩
  | 120 => ⟨S4x4096x4096, .f32⟩
  | 121 => ⟨S4x4096x4096, .f32⟩
  | 122 => ⟨S4x4096x4096, .f32⟩
  | 123 => ⟨S4x4096x4096, .f32⟩
  | 124 => ⟨S4x4096x4096, .f32⟩
  | 125 => ⟨S_, .f32⟩
  | 126 => ⟨S4x4096x4096, .f32⟩
  | 127 => ⟨S4x4096x4096, .f32⟩
  | _ => ⟨S4096x512, .f32⟩

abbrev hbmTy0_1 (i : Nat) : BufTy := match i % 128 with
  | 0 => ⟨S4x4096x4096, .f32⟩
  | 1 => ⟨S4x4096x4096, .f32⟩
  | 2 => ⟨S4x4096x4096, .f32⟩
  | 3 => ⟨S_, .f32⟩
  | 4 => ⟨S_, .f32⟩
  | 5 => ⟨S4x4096x4096, .i1⟩
  | 6 => ⟨S4x4096x4096, .f32⟩
  | 7 => ⟨S4x4096x4096, .f32⟩
  | 8 => ⟨S_, .f32⟩
  | 9 => ⟨S4x4096x4096, .f32⟩
  | 10 => ⟨S4x4096x128, .f32⟩
  | 11 => ⟨S4096x4x128, .f32⟩
  | 12 => ⟨S4096x512, .f32⟩
  | 13 => ⟨S4096x4x128, .f32⟩
  | 14 => ⟨S4x4096x128, .f32⟩
  | 15 => ⟨S4x128x4096, .f32⟩
  | 16 => ⟨S4x4096x128, .f32⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x4096, .f32⟩
  | 26 => ⟨S_, .f32⟩
  | 27 => ⟨S_, .f32⟩
  | 28 => ⟨S4x4096x4096, .f32⟩
  | 29 => ⟨S4x4096x4096, .f32⟩
  | 30 => ⟨S_, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x128, .f32⟩
  | 42 => ⟨S4x4096x128, .f32⟩
  | 43 => ⟨S4096x4x128, .f32⟩
  | 44 => ⟨S4096x512, .f32⟩
  | 45 => ⟨S4096x4x128, .f32⟩
  | 46 => ⟨S4096x512, .f32⟩
  | 47 => ⟨S4096x4x128, .f32⟩
  | 48 => ⟨S4096x512, .f32⟩
  | 49 => ⟨S4096x512, .bf16⟩
  | 50 => ⟨S4096x512, .bf16⟩
  | 51 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== Act.lean ====
abbrev S4096x2048 : Shape := ⟨2, ![4096, 2048]⟩
abbrev S5632x2048 : Shape := ⟨2, ![5632, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S512x2048 : Shape := ⟨2, ![512, 2048]⟩
abbrev S704x2048 : Shape := ⟨2, ![704, 2048]⟩
abbrev S1x512x704 : Shape := ⟨3, ![1, 512, 704]⟩
abbrev S512x704 : Shape := ⟨2, ![512, 704]⟩

abbrev nBuf : Space → Nat
  | .hbm => 14
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S4096x2048, .bf16⟩
  | .hbm, ⟨5, _⟩ => ⟨S5632x2048, .bf16⟩
  | .hbm, ⟨6, _⟩ => ⟨S4096x8x704, .f32⟩
  | .hbm, ⟨7, _⟩ => ⟨S8x4096x704, .f32⟩
  | .hbm, ⟨8, _⟩ => ⟨S8x4096x704, .bf16⟩
  | .hbm, ⟨9, _⟩ => ⟨S4096x8x704, .f32⟩
  | .hbm, ⟨10, _⟩ => ⟨S8x4096x704, .f32⟩
  | .hbm, ⟨11, _⟩ => ⟨S8x4096x704, .bf16⟩
  | .hbm, ⟨12, _⟩ => ⟨S8x4096x704, .bf16⟩
  | .hbm, ⟨13, _⟩ => ⟨S8x4096x704, .bf16⟩
  | .local _ .vmem, ⟨0, _⟩ => ⟨S512x2048, .bf16⟩
  | .local _ .vmem, ⟨1, _⟩ => ⟨S512x2048, .bf16⟩
  | .local _ .vmem, ⟨2, _⟩ => ⟨S704x2048, .bf16⟩
  | .local _ .vmem, ⟨3, _⟩ => ⟨S704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActReferenceIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x8x704, .f32⟩
  | .hbm, ⟨27, _⟩ => ⟨S8x4096x704, .f32⟩
  | .hbm, ⟨28, _⟩ => ⟨S8x4096x704, .bf16⟩
  | .hbm, ⟨29, _⟩ => ⟨S4096x8x704, .f32⟩
  | .hbm, ⟨30, _⟩ => ⟨S8x4096x704, .f32⟩
  | .hbm, ⟨31, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Hidden.lean ====
abbrev S4096x5632 : Shape := ⟨2, ![4096, 5632]⟩
abbrev S2048x5632 : Shape := ⟨2, ![2048, 5632]⟩
abbrev S4096x8x704 : Shape := ⟨3, ![4096, 8, 704]⟩
abbrev S8x4096x704 : Shape := ⟨3, ![8, 4096, 704]⟩
abbrev S2048x8x704 : Shape := ⟨3, ![2048, 8, 704]⟩
abbrev S8x2048x704 : Shape := ⟨3, ![8, 2048, 704]⟩
abbrev S4096x2048 : Shape := ⟨2, ![4096, 2048]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 17
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x5632, .f32⟩
  | .hbm, ⟨3, _⟩ => ⟨S2048x5632, .f32⟩
  | .hbm, ⟨4, _⟩ => ⟨S4096x8x704, .f32⟩
  | .hbm, ⟨5, _⟩ => ⟨S8x4096x704, .f32⟩
  | .hbm, ⟨6, _⟩ => ⟨S8x4096x704, .bf16⟩
  | .hbm, ⟨7, _⟩ => ⟨S2048x8x704, .f32⟩
  | .hbm, ⟨8, _⟩ => ⟨S8x2048x704, .f32⟩
  | .hbm, ⟨9, _⟩ => ⟨S8x2048x704, .bf16⟩
  | .hbm, ⟨10, _⟩ => ⟨S4096x8x704, .f32⟩
  | .hbm, ⟨11, _⟩ => ⟨S8x4096x704, .f32⟩
  | .hbm, ⟨12, _⟩ => ⟨S8x4096x704, .bf16⟩
  | .hbm, ⟨13, _⟩ => ⟨S2048x8x704, .f32⟩
  | .hbm, ⟨14, _⟩ => ⟨S8x2048x704, .f32⟩
  | .hbm, ⟨15, _⟩ => ⟨S8x2048x704, .bf16⟩
  | .hbm, ⟨16, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S2x1024x704, .bf16⟩
  | .local _ .vmem, ⟨7, _⟩ => ⟨S2x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HiddenReferenceIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Gate.lean ====
abbrev S4096x2048 : Shape := ⟨2, ![4096, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S8x2048x704 : Shape := ⟨3, ![8, 2048, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S8x2048x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S8x2048x704, .f32⟩
  | .hbm, ⟨9, _⟩ => ⟨S8x2048x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S5632x2048 : Shape := ⟨2, ![5632, 2048]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S4096x2048, .bf16⟩
  | .hbm, ⟨6, _⟩ => ⟨S5632x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x2048 : Shape := ⟨2, ![4096, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x4096x704 : Shape := ⟨3, ![8, 4096, 704]⟩
abbrev S512x2048 : Shape := ⟨2, ![512, 2048]⟩
abbrev S1x2048x704 : Shape := ⟨3, ![1, 2048, 704]⟩
abbrev S1x512x704 : Shape := ⟨3, ![1, 512, 704]⟩
abbrev S2048x704 : Shape := ⟨2, ![2048, 704]⟩
abbrev S512x704 : Shape := ⟨2, ![512, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S2048x8x704, .f32⟩
  | .hbm, ⟨8, _⟩ => ⟨S8x2048x704, .f32⟩
  | .hbm, ⟨9, _⟩ => ⟨S8x2048x704, .bf16⟩
  | .hbm, ⟨10, _⟩ => ⟨S8x4096x704, .bf16⟩
  | .hbm, ⟨11, _⟩ => ⟨S8x4096x704, .bf16⟩
  | .hbm, ⟨12, _⟩ => ⟨S8x4096x704, .bf16⟩
  | .local _ .vmem, ⟨0, _⟩ => ⟨S512x2048, .bf16⟩
  | .local _ .vmem, ⟨1, _⟩ => ⟨S512x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x8x704, .f32⟩
  | .hbm, ⟨16, _⟩ => ⟨S8x4096x704, .f32⟩
  | .hbm, ⟨17, _⟩ => ⟨S8x4096x704, .bf16⟩
  | .hbm, ⟨18, _⟩ => ⟨S4096x8x704, .f32⟩
  | .hbm, ⟨19, _⟩ => ⟨S8x4096x704, .f32⟩
  | .hbm, ⟨20, _⟩ => ⟨S8x4096x704, .bf16⟩
  | .hbm, ⟨21, _⟩ => ⟨S4096x8x704, .f32⟩
  | .hbm, ⟨22, _⟩ => ⟨S8x4096x704, .f32⟩
  | .hbm, ⟨23, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Out.lean ====
abbrev S4096x5632 : Shape := ⟨2, ![4096, 5632]⟩
abbrev S5632x2048 : Shape := ⟨2, ![5632, 2048]⟩
abbrev S4096x2048 : Shape := ⟨2, ![4096, 2048]⟩
abbrev S4096x8x704 : Shape := ⟨3, ![4096, 8, 704]⟩
abbrev S8x4096x704 : Shape := ⟨3, ![8, 4096, 704]⟩
abbrev S2x1024x704 : Shape := ⟨3, ![2, 1024, 704]⟩
abbrev S1408x1024 : Shape := ⟨2, ![1408, 1024]⟩
abbrev S1024x1024 : Shape := ⟨2, ![1024, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S5632x2048, .bf16⟩
  | .hbm, ⟨7, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InProj.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x2048, .bf16⟩
  | .hbm, ⟨3, _⟩ => ⟨S2048x6144, .bf16⟩
  | .hbm, ⟨4, _⟩ => ⟨S4096x6144, .f32⟩
  | .hbm, ⟨5, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjReferenceIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDx.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S4096x6144, .bf16⟩
  | .hbm, ⟨3, _⟩ => ⟨S2048x6144, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S_, .f32⟩
  | .hbm, ⟨3, _⟩ => ⟨S4096x2048, .f32⟩
  | .hbm, ⟨4, _⟩ => ⟨S4096x6144, .f32⟩
  | .hbm, ⟨5, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x2048, .bf16⟩
  | .hbm, ⟨3, _⟩ => ⟨S4096x6144, .bf16⟩
  | .hbm, ⟨4, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S_, .f32⟩
  | .hbm, ⟨3, _⟩ => ⟨S2048x6144, .f32⟩
  | .hbm, ⟨4, _⟩ => ⟨S4096x6144, .f32⟩
  | .hbm, ⟨5, _⟩ => ⟨S6144x2048, .f32⟩
  | .hbm, ⟨6, _⟩ => ⟨S2048x6144, .f32⟩
  | .hbm, ⟨7, _⟩ => ⟨S2048x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamUp.lean ====
abbrev S4x2048x704 : Shape := ⟨3, ![4, 2048, 704]⟩
abbrev S8x2048x704 : Shape := ⟨3, ![8, 2048, 704]⟩
abbrev S8192x704 : Shape := ⟨2, ![8192, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S8x2048x704, .f32⟩
  | .hbm, ⟨4, _⟩ => ⟨S8x2048x704, .f32⟩
  | .hbm, ⟨5, _⟩ => ⟨S8x2048x704, .f32⟩
  | .hbm, ⟨6, _⟩ => ⟨S8x2048x704, .f32⟩
  | .hbm, ⟨7, _⟩ => ⟨S8x2048x704, .bf16⟩
  | .hbm, ⟨8, _⟩ => ⟨S8x2048x704, .bf16⟩
  | .hbm, ⟨9, _⟩ => ⟨S8x2048x704, .bf16⟩
  | .hbm, ⟨10, _⟩ => ⟨S8x2048x704, .bf16⟩
  | .hbm, ⟨11, _⟩ => ⟨S8192x704, .f32⟩
  | .hbm, ⟨12, _⟩ => ⟨S8192x704, .f32⟩
  | .hbm, ⟨13, _⟩ => ⟨S8192x704, .f32⟩
  | .hbm, ⟨14, _⟩ => ⟨S8192x704, .f32⟩
  | .hbm, ⟨15, _⟩ => ⟨S8192x704, .f32⟩
  | .hbm, ⟨16, _⟩ => ⟨S8192x704, .f32⟩
  | .hbm, ⟨17, _⟩ => ⟨S8192x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S8x128x704, .bf16⟩
  | .local _ .vmem, ⟨7, _⟩ => ⟨S8x128x704, .bf16⟩
  | .local _ .vmem, ⟨8, _⟩ => ⟨S8x128x704, .bf16⟩
  | .local _ .vmem, ⟨9, _⟩ => ⟨S8x128x704, .bf16⟩
  | .local _ .vmem, ⟨10, _⟩ => ⟨S8x128x704, .bf16⟩
  | .local _ .vmem, ⟨11, _⟩ => ⟨S8x128x704, .bf16⟩
  | .local _ .vmem, ⟨12, _⟩ => ⟨S8x128x704, .bf16⟩
  | .local _ .vmem, ⟨13, _⟩ => ⟨S8x128x704, .bf16⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | .local _ .vmem, ⟨18, _⟩ => ⟨S128x704, .f32⟩
  | .local _ .vmem, ⟨19, _⟩ => ⟨S128x704, .f32⟩
  | .local _ .vmem, ⟨20, _⟩ => ⟨S128x704, .f32⟩
  | .local _ .vmem, ⟨21, _⟩ => ⟨S128x704, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c48_i32 : BitVec 32 := 48#32
  let v0 : BitVec 32 := Scalar.subi arg0 c48_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpIdeal.lean ====
abbrev S4x2048x704 : Shape := ⟨3, ![4, 2048, 704]⟩
abbrev S8x2048x704 : Shape := ⟨3, ![8, 2048, 704]⟩
abbrev S8192x704 : Shape := ⟨2, ![8192, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S8x2048x704, .f32⟩
  | .hbm, ⟨4, _⟩ => ⟨S8x2048x704, .f32⟩
  | .hbm, ⟨5, _⟩ => ⟨S8x2048x704, .f32⟩
  | .hbm, ⟨6, _⟩ => ⟨S8x2048x704, .f32⟩
  | .hbm, ⟨7, _⟩ => ⟨S8x2048x704, .bf16⟩
  | .hbm, ⟨8, _⟩ => ⟨S8x2048x704, .bf16⟩
  | .hbm, ⟨9, _⟩ => ⟨S8x2048x704, .bf16⟩
  | .hbm, ⟨10, _⟩ => ⟨S8x2048x704, .bf16⟩
  | .hbm, ⟨11, _⟩ => ⟨S8192x704, .f32⟩
  | .hbm, ⟨12, _⟩ => ⟨S8192x704, .f32⟩
  | .hbm, ⟨13, _⟩ => ⟨S8192x704, .f32⟩
  | .hbm, ⟨14, _⟩ => ⟨S8192x704, .f32⟩
  | .hbm, ⟨15, _⟩ => ⟨S8192x704, .f32⟩
  | .hbm, ⟨16, _⟩ => ⟨S8192x704, .f32⟩
  | .hbm, ⟨17, _⟩ => ⟨S8192x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S8x128x704, .bf16⟩
  | .local _ .vmem, ⟨7, _⟩ => ⟨S8x128x704, .bf16⟩
  | .local _ .vmem, ⟨8, _⟩ => ⟨S8x128x704, .bf16⟩
  | .local _ .vmem, ⟨9, _⟩ => ⟨S8x128x704, .bf16⟩
  | .local _ .vmem, ⟨10, _⟩ => ⟨S8x128x704, .bf16⟩
  | .local _ .vmem, ⟨11, _⟩ => ⟨S8x128x704, .bf16⟩
  | .local _ .vmem, ⟨12, _⟩ => ⟨S8x128x704, .bf16⟩
  | .local _ .vmem, ⟨13, _⟩ => ⟨S8x128x704, .bf16⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | .local _ .vmem, ⟨18, _⟩ => ⟨S128x704, .f32⟩
  | .local _ .vmem, ⟨19, _⟩ => ⟨S128x704, .f32⟩
  | .local _ .vmem, ⟨20, _⟩ => ⟨S128x704, .f32⟩
  | .local _ .vmem, ⟨21, _⟩ => ⟨S128x704, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c48_i32 : BitVec 32 := 48#32
  let v0 : BitVec 32 := Scalar.subi arg0 c48_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpReferenceIdeal.lean ====
abbrev S4x2048x704 : Shape := ⟨3, ![4, 2048, 704]⟩
abbrev S8x2048x704 : Shape := ⟨3, ![8, 2048, 704]⟩
abbrev S8192x704 : Shape := ⟨2, ![8192, 704]⟩
abbrev S_ : Shape := ⟨0, ![]⟩
abbrev S2048x704 : Shape := ⟨2, ![2048, 704]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S8x2048x704, .f32⟩
  | .hbm, ⟨4, _⟩ => ⟨S8x2048x704, .f32⟩
  | .hbm, ⟨5, _⟩ => ⟨S8x2048x704, .f32⟩
  | .hbm, ⟨6, _⟩ => ⟨S8x2048x704, .f32⟩
  | .hbm, ⟨7, _⟩ => ⟨S8192x704, .f32⟩
  | .hbm, ⟨8, _⟩ => ⟨S8192x704, .f32⟩
  | .hbm, ⟨9, _⟩ => ⟨S8192x704, .f32⟩
  | .hbm, ⟨10, _⟩ => ⟨S_, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S8192x704, .f32⟩
  | .hbm, ⟨19, _⟩ => ⟨S_, .f32⟩
  | .hbm, ⟨20, _⟩ => ⟨S8192x704, .f32⟩
  | .hbm, ⟨21, _⟩ => ⟨S8192x704, .f32⟩
  | .hbm, ⟨22, _⟩ => ⟨S_, .f32⟩
  | .hbm, ⟨23, _⟩ => ⟨S8192x704, .f32⟩
  | .hbm, ⟨24, _⟩ => ⟨S8192x704, .f32⟩
  | .hbm, ⟨25, _⟩ => ⟨S8192x704, .f32⟩
  | .hbm, ⟨26, _⟩ => ⟨S_, .f32⟩
  | .hbm, ⟨27, _⟩ => ⟨S8192x704, .f32⟩
  | .hbm, ⟨28, _⟩ => ⟨S8192x704, .f32⟩
  | .hbm, ⟨29, _⟩ => ⟨S8192x704, .f32⟩
  | .hbm, ⟨30, _⟩ => ⟨S_, .f32⟩
  | .hbm, ⟨31, _⟩ => ⟨S8192x704, .f32⟩
  | .hbm, ⟨32, _⟩ => ⟨S8192x704, .f32⟩
  | .hbm, ⟨33, _⟩ => ⟨S8192x704, .f32⟩
  | .hbm, ⟨34, _⟩ => ⟨S_, .f32⟩
  | .hbm, ⟨35, _⟩ => ⟨S8192x704, .f32⟩
  | .hbm, ⟨36, _⟩ => ⟨S8192x704, .f32⟩
  | .hbm, ⟨37, _⟩ => ⟨S_, .f32⟩
  | .hbm, ⟨38, _⟩ => ⟨S8192x704, .f32⟩
  | .hbm, ⟨39, _⟩ => ⟨S8192x704, .f32⟩
  | .hbm, ⟨40, _⟩ => ⟨S8192x704, .f32⟩
  | .hbm, ⟨41, _⟩ => ⟨S_, .f32⟩
  | .hbm, ⟨42, _⟩ => ⟨S8192x704, .f32⟩
  | .hbm, ⟨43, _⟩ => ⟨S8192x704, .f32⟩
  | .hbm, ⟨44, _⟩ => ⟨S8192x704, .f32⟩
  | .hbm, ⟨45, _⟩ => ⟨S_, .f32⟩
  | .hbm, ⟨46, _⟩ => ⟨S8192x704, .f32⟩
  | .hbm, ⟨47, _⟩ => ⟨S8192x704, .f32⟩
  | .hbm, ⟨48, _⟩ => ⟨S8192x704, .f32⟩
  | .hbm, ⟨49, _⟩ => ⟨S_, .f32⟩
  | .hbm, ⟨50, _⟩ => ⟨S8192x704, .f32⟩
  | .hbm, ⟨51, _⟩ => ⟨S8192x704, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamOut.lean ====
abbrev S4x256x2048 : Shape := ⟨3, ![4, 256, 2048]⟩
abbrev S8x256x2048 : Shape := ⟨3, ![8, 256, 2048]⟩
abbrev S1024x2048 : Shape := ⟨2, ![1024, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 18
  | .vmem => 22
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S8x256x2048, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S8x256x2048, .bf16⟩
  | .hbm, ⟨8, _⟩ => ⟨S8x256x2048, .bf16⟩
  | .hbm, ⟨9, _⟩ => ⟨S8x256x2048, .bf16⟩
  | .hbm, ⟨10, _⟩ => ⟨S8x256x2048, .bf16⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S8x64x2048, .bf16⟩
  | .local _ .vmem, ⟨9, _⟩ => ⟨S8x64x2048, .bf16⟩
  | .local _ .vmem, ⟨10, _⟩ => ⟨S8x64x2048, .bf16⟩
  | .local _ .vmem, ⟨11, _⟩ => ⟨S8x64x2048, .bf16⟩
  | .local _ .vmem, ⟨12, _⟩ => ⟨S8x64x2048, .bf16⟩
  | .local _ .vmem, ⟨13, _⟩ => ⟨S8x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutIdeal.lean ====
abbrev S4x256x2048 : Shape := ⟨3, ![4, 256, 2048]⟩
abbrev S8x256x2048 : Shape := ⟨3, ![8, 256, 2048]⟩
abbrev S1024x2048 : Shape := ⟨2, ![1024, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 18
  | .vmem => 22
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S8x256x2048, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S8x256x2048, .bf16⟩
  | .hbm, ⟨8, _⟩ => ⟨S8x256x2048, .bf16⟩
  | .hbm, ⟨9, _⟩ => ⟨S8x256x2048, .bf16⟩
  | .hbm, ⟨10, _⟩ => ⟨S8x256x2048, .bf16⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S8x64x2048, .bf16⟩
  | .local _ .vmem, ⟨9, _⟩ => ⟨S8x64x2048, .bf16⟩
  | .local _ .vmem, ⟨10, _⟩ => ⟨S8x64x2048, .bf16⟩
  | .local _ .vmem, ⟨11, _⟩ => ⟨S8x64x2048, .bf16⟩
  | .local _ .vmem, ⟨12, _⟩ => ⟨S8x64x2048, .bf16⟩
  | .local _ .vmem, ⟨13, _⟩ => ⟨S8x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutReferenceIdeal.lean ====
abbrev S4x256x2048 : Shape := ⟨3, ![4, 256, 2048]⟩
abbrev S8x256x2048 : Shape := ⟨3, ![8, 256, 2048]⟩
abbrev S1024x2048 : Shape := ⟨2, ![1024, 2048]⟩
abbrev S_ : Shape := ⟨0, ![]⟩
abbrev S256x2048 : Shape := ⟨2, ![256, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S8x256x2048, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S1024x2048, .f32⟩
  | .hbm, ⟨47, _⟩ => ⟨S1024x2048, .f32⟩
  | .hbm, ⟨48, _⟩ => ⟨S1024x2048, .f32⟩
  | .hbm, ⟨49, _⟩ => ⟨S_, .f32⟩
  | .hbm, ⟨50, _⟩ => ⟨S1024x2048, .f32⟩
  | .hbm, ⟨51, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamUq.lean ====
abbrev S4x512x96 : Shape := ⟨3, ![4, 512, 96]⟩
abbrev S8x512x96 : Shape := ⟨3, ![8, 512, 96]⟩
abbrev S2048x96 : Shape := ⟨2, ![2048, 96]⟩
abbrev S512x96 : Shape := ⟨2, ![512, 96]⟩
abbrev S1x512x96 : Shape := ⟨3, ![1, 512, 96]⟩

abbrev nBuf : Space → Nat
  | .hbm => 18
  | .vmem => 22
  | .smem => 0
  | _ => 0

abbrev bufTy : (tb : Table) → Fin (tcTables nBuf tb) → BufTy
  | .hbm, ⟨0, _⟩ => ⟨S4x512x96, .f32⟩
  | .hbm, ⟨1, _⟩ => ⟨S4x512x96, .f32⟩
  | .hbm, ⟨2, _⟩ => ⟨S4x512x96, .f32⟩
  | .hbm, ⟨3, _⟩ => ⟨S8x512x96, .f32⟩
  | .hbm, ⟨4, _⟩ => ⟨S8x512x96, .f32⟩
  | .hbm, ⟨5, _⟩ => ⟨S8x512x96, .f32⟩
  | .hbm, ⟨6, _⟩ => ⟨S8x512x96, .f32⟩
  | .hbm, ⟨7, _⟩ => ⟨S8x512x96, .bf16⟩
  | .hbm, ⟨8, _⟩ => ⟨S8x512x96, .bf16⟩
  | .hbm, ⟨9, _⟩ => ⟨S8x512x96, .bf16⟩
  | .hbm, ⟨10, _⟩ => ⟨S8x512x96, .bf16⟩
  | .hbm, ⟨11, _⟩ => ⟨S2048x96, .f32⟩
  | .hbm, ⟨12, _⟩ => ⟨S2048x96, .f32⟩
  | .hbm, ⟨13, _⟩ => ⟨S2048x96, .f32⟩
  | .hbm, ⟨14, _⟩ => ⟨S2048x96, .f32⟩
  | .hbm, ⟨15, _⟩ => ⟨S2048x96, .f32⟩
  | .hbm, ⟨16, _⟩ => ⟨S2048x96, .f32⟩
  | .hbm, ⟨17, _⟩ => ⟨S2048x96, .f32⟩
  | .local _ .vmem, ⟨0, _⟩ => ⟨S512x96, .f32⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x96, .f32⟩
  | .local _ .vmem, ⟨5, _⟩ => ⟨S512x96, .f32⟩
  | .local _ .vmem, ⟨6, _⟩ => ⟨S8x512x96, .bf16⟩
  | .local _ .vmem, ⟨7, _⟩ => ⟨S8x512x96, .bf16⟩
  | .local _ .vmem, ⟨8, _⟩ => ⟨S8x512x96, .bf16⟩
  | .local _ .vmem, ⟨9, _⟩ => ⟨S8x512x96, .bf16⟩
  | .local _ .vmem, ⟨10, _⟩ => ⟨S8x512x96, .bf16⟩
  | .local _ .vmem, ⟨11, _⟩ => ⟨S8x512x96, .bf16⟩
  | .local _ .vmem, ⟨12, _⟩ => ⟨S8x512x96, .bf16⟩
  | .local _ .vmem, ⟨13, _⟩ => ⟨S8x512x96, .bf16⟩
  | .local _ .vmem, ⟨14, _⟩ => ⟨S512x96, .f32⟩
  | .local _ .vmem, ⟨15, _⟩ => ⟨S512x96, .f32⟩
  | .local _ .vmem, ⟨16, _⟩ => ⟨S512x96, .f32⟩
  | .local _ .vmem, ⟨17, _⟩ => ⟨S512x96, .f32⟩
  | .local _ .vmem, ⟨18, _⟩ => ⟨S512x96, .f32⟩
  | .local _ .vmem, ⟨19, _⟩ => ⟨S512x96, .f32⟩
  | .local _ .vmem, ⟨20, _⟩ => ⟨S512x96, .f32⟩
  | .local _ .vmem, ⟨21, _⟩ => ⟨S512x96, .f32⟩
  | _, _ => ⟨S4x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_6 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUqIdeal.lean ====
abbrev S4x512x96 : Shape := ⟨3, ![4, 512, 96]⟩
abbrev S8x512x96 : Shape := ⟨3, ![8, 512, 96]⟩
abbrev S2048x96 : Shape := ⟨2, ![2048, 96]⟩
abbrev S512x96 : Shape := ⟨2, ![512, 96]⟩
abbrev S1x512x96 : Shape := ⟨3, ![1, 512, 96]⟩

abbrev nBuf : Space → Nat
  | .hbm => 18
  | .vmem => 22
  | .smem => 0
  | _ => 0

abbrev bufTy : (tb : Table) → Fin (tcTables nBuf tb) → BufTy
  | .hbm, ⟨0, _⟩ => ⟨S4x512x96, .f32⟩
  | .hbm, ⟨1, _⟩ => ⟨S4x512x96, .f32⟩
  | .hbm, ⟨2, _⟩ => ⟨S4x512x96, .f32⟩
  | .hbm, ⟨3, _⟩ => ⟨S8x512x96, .f32⟩
  | .hbm, ⟨4, _⟩ => ⟨S8x512x96, .f32⟩
  | .hbm, ⟨5, _⟩ => ⟨S8x512x96, .f32⟩
  | .hbm, ⟨6, _⟩ => ⟨S8x512x96, .f32⟩
  | .hbm, ⟨7, _⟩ => ⟨S8x512x96, .bf16⟩
  | .hbm, ⟨8, _⟩ => ⟨S8x512x96, .bf16⟩
  | .hbm, ⟨9, _⟩ => ⟨S8x512x96, .bf16⟩
  | .hbm, ⟨10, _⟩ => ⟨S8x512x96, .bf16⟩
  | .hbm, ⟨11, _⟩ => ⟨S2048x96, .f32⟩
  | .hbm, ⟨12, _⟩ => ⟨S2048x96, .f32⟩
  | .hbm, ⟨13, _⟩ => ⟨S2048x96, .f32⟩
  | .hbm, ⟨14, _⟩ => ⟨S2048x96, .f32⟩
  | .hbm, ⟨15, _⟩ => ⟨S2048x96, .f32⟩
  | .hbm, ⟨16, _⟩ => ⟨S2048x96, .f32⟩
  | .hbm, ⟨17, _⟩ => ⟨S2048x96, .f32⟩
  | .local _ .vmem, ⟨0, _⟩ => ⟨S512x96, .f32⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x96, .f32⟩
  | .local _ .vmem, ⟨5, _⟩ => ⟨S512x96, .f32⟩
  | .local _ .vmem, ⟨6, _⟩ => ⟨S8x512x96, .bf16⟩
  | .local _ .vmem, ⟨7, _⟩ => ⟨S8x512x96, .bf16⟩
  | .local _ .vmem, ⟨8, _⟩ => ⟨S8x512x96, .bf16⟩
  | .local _ .vmem, ⟨9, _⟩ => ⟨S8x512x96, .bf16⟩
  | .local _ .vmem, ⟨10, _⟩ => ⟨S8x512x96, .bf16⟩
  | .local _ .vmem, ⟨11, _⟩ => ⟨S8x512x96, .bf16⟩
  | .local _ .vmem, ⟨12, _⟩ => ⟨S8x512x96, .bf16⟩
  | .local _ .vmem, ⟨13, _⟩ => ⟨S8x512x96, .bf16⟩
  | .local _ .vmem, ⟨14, _⟩ => ⟨S512x96, .f32⟩
  | .local _ .vmem, ⟨15, _⟩ => ⟨S512x96, .f32⟩
  | .local _ .vmem, ⟨16, _⟩ => ⟨S512x96, .f32⟩
  | .local _ .vmem, ⟨17, _⟩ => ⟨S512x96, .f32⟩
  | .local _ .vmem, ⟨18, _⟩ => ⟨S512x96, .f32⟩
  | .local _ .vmem, ⟨19, _⟩ => ⟨S512x96, .f32⟩
  | .local _ .vmem, ⟨20, _⟩ => ⟨S512x96, .f32⟩
  | .local _ .vmem, ⟨21, _⟩ => ⟨S512x96, .f32⟩
  | _, _ => ⟨S4x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_6 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUqReferenceIdeal.lean ====
abbrev S4x512x96 : Shape := ⟨3, ![4, 512, 96]⟩
abbrev S8x512x96 : Shape := ⟨3, ![8, 512, 96]⟩
abbrev S2048x96 : Shape := ⟨2, ![2048, 96]⟩
abbrev S_ : Shape := ⟨0, ![]⟩
abbrev S512x96 : Shape := ⟨2, ![512, 96]⟩

abbrev nBuf : Space → Nat
  | .hbm => 52
  | .vmem => 0
  | .smem => 0
  | _ => 0

abbrev bufTy : (tb : Table) → Fin (tcTables nBuf tb) → BufTy
  | .hbm, ⟨0, _⟩ => ⟨S4x512x96, .f32⟩
  | .hbm, ⟨1, _⟩ => ⟨S4x512x96, .f32⟩
  | .hbm, ⟨2, _⟩ => ⟨S4x512x96, .f32⟩
  | .hbm, ⟨3, _⟩ => ⟨S8x512x96, .f32⟩
  | .hbm, ⟨4, _⟩ => ⟨S8x512x96, .f32⟩
  | .hbm, ⟨5, _⟩ => ⟨S8x512x96, .f32⟩
  | .hbm, ⟨6, _⟩ => ⟨S8x512x96, .f32⟩
  | .hbm, ⟨7, _⟩ => ⟨S2048x96, .f32⟩
  | .hbm, ⟨8, _⟩ => ⟨S2048x96, .f32⟩
  | .hbm, ⟨9, _⟩ => ⟨S2048x96, .f32⟩
  | .hbm, ⟨10, _⟩ => ⟨S_, .f32⟩
  | .hbm, ⟨11, _⟩ => ⟨S512x96, .f32⟩
  | .hbm, ⟨12, _⟩ => ⟨S_, .f32⟩
  | .hbm, ⟨13, _⟩ => ⟨S512x96, .f32⟩
  | .hbm, ⟨14, _⟩ => ⟨S_, .f32⟩
  | .hbm, ⟨15, _⟩ => ⟨S512x96, .f32⟩
  | .hbm, ⟨16, _⟩ => ⟨S_, .f32⟩
  | .hbm, ⟨17, _⟩ => ⟨S512x96, .f32⟩
  | .hbm, ⟨18, _⟩ => ⟨S2048x96, .f32⟩
  | .hbm, ⟨19, _⟩ => ⟨S_, .f32⟩
  | .hbm, ⟨20, _⟩ => ⟨S2048x96, .f32⟩
  | .hbm, ⟨21, _⟩ => ⟨S2048x96, .f32⟩
  | .hbm, ⟨22, _⟩ => ⟨S_, .f32⟩
  | .hbm, ⟨23, _⟩ => ⟨S2048x96, .f32⟩
  | .hbm, ⟨24, _⟩ => ⟨S2048x96, .f32⟩
  | .hbm, ⟨25, _⟩ => ⟨S2048x96, .f32⟩
  | .hbm, ⟨26, _⟩ => ⟨S_, .f32⟩
  | .hbm, ⟨27, _⟩ => ⟨S2048x96, .f32⟩
  | .hbm, ⟨28, _⟩ => ⟨S2048x96, .f32⟩
  | .hbm, ⟨29, _⟩ => ⟨S2048x96, .f32⟩
  | .hbm, ⟨30, _⟩ => ⟨S_, .f32⟩
  | .hbm, ⟨31, _⟩ => ⟨S2048x96, .f32⟩
  | .hbm, ⟨32, _⟩ => ⟨S2048x96, .f32⟩
  | .hbm, ⟨33, _⟩ => ⟨S2048x96, .f32⟩
  | .hbm, ⟨34, _⟩ => ⟨S_, .f32⟩
  | .hbm, ⟨35, _⟩ => ⟨S2048x96, .f32⟩
  | .hbm, ⟨36, _⟩ => ⟨S2048x96, .f32⟩
  | .hbm, ⟨37, _⟩ => ⟨S_, .f32⟩
  | .hbm, ⟨38, _⟩ => ⟨S2048x96, .f32⟩
  | .hbm, ⟨39, _⟩ => ⟨S2048x96, .f32⟩
  | .hbm, ⟨40, _⟩ => ⟨S2048x96, .f32⟩
  | .hbm, ⟨41, _⟩ => ⟨S_, .f32⟩
  | .hbm, ⟨42, _⟩ => ⟨S2048x96, .f32⟩
  | .hbm, ⟨43, _⟩ => ⟨S2048x96, .f32⟩
  | .hbm, ⟨44, _⟩ => ⟨S2048x96, .f32⟩
  | .hbm, ⟨45, _⟩ => ⟨S_, .f32⟩
  | .hbm, ⟨46, _⟩ => ⟨S2048x96, .f32⟩
  | .hbm, ⟨47, _⟩ => ⟨S2048x96, .f32⟩
  | .hbm, ⟨48, _⟩ => ⟨S2048x96, .f32⟩
  | .hbm, ⟨49, _⟩ => ⟨S_, .f32⟩
  | .hbm, ⟨50, _⟩ => ⟨S2048x96, .f32⟩
  | .hbm, ⟨51, _⟩ => ⟨S2048x96, .f32⟩
  | _, _ => ⟨S4x512x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamUkv.lean ====
abbrev S4x512x128 : Shape := ⟨3, ![4, 512, 128]⟩
abbrev S8x512x128 : Shape := ⟨3, ![8, 512, 128]⟩
abbrev S2048x128 : Shape := ⟨2, ![2048, 128]⟩
abbrev S512x128 : Shape := ⟨2, ![512, 128]⟩
abbrev S1x512x128 : Shape := ⟨3, ![1, 512, 128]⟩

abbrev nBuf : Space → Nat
  | .hbm => 18
  | .vmem => 22
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S8x512x128, .f32⟩
  | .hbm, ⟨4, _⟩ => ⟨S8x512x128, .f32⟩
  | .hbm, ⟨5, _⟩ => ⟨S8x512x128, .f32⟩
  | .hbm, ⟨6, _⟩ => ⟨S8x512x128, .f32⟩
  | .hbm, ⟨7, _⟩ => ⟨S8x512x128, .bf16⟩
  | .hbm, ⟨8, _⟩ => ⟨S8x512x128, .bf16⟩
  | .hbm, ⟨9, _⟩ => ⟨S8x512x128, .bf16⟩
  | .hbm, ⟨10, _⟩ => ⟨S8x512x128, .bf16⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x512x128, .bf16⟩
  | .local _ .vmem, ⟨7, _⟩ => ⟨S8x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_6 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUkvReferenceIdeal.lean ====
abbrev S4x512x128 : Shape := ⟨3, ![4, 512, 128]⟩
abbrev S8x512x128 : Shape := ⟨3, ![8, 512, 128]⟩
abbrev S2048x128 : Shape := ⟨2, ![2048, 128]⟩
abbrev S_ : Shape := ⟨0, ![]⟩
abbrev S512x128 : Shape := ⟨2, ![512, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S8x512x128, .f32⟩
  | .hbm, ⟨4, _⟩ => ⟨S8x512x128, .f32⟩
  | .hbm, ⟨5, _⟩ => ⟨S8x512x128, .f32⟩
  | .hbm, ⟨6, _⟩ => ⟨S8x512x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S_, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S_, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S_, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S2048x128, .f32⟩
  | .hbm, ⟨51, _⟩ => ⟨S2048x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamSmall.lean ====
abbrev S4x2048 : Shape := ⟨2, ![4, 2048]⟩
abbrev S4x512 : Shape := ⟨2, ![4, 512]⟩
abbrev S4x4 : Shape := ⟨2, ![4, 4]⟩
abbrev S2048 : Shape := ⟨1, ![2048]⟩
abbrev S8x4x2048 : Shape := ⟨3, ![8, 4, 2048]⟩
abbrev S8x4x512 : Shape := ⟨3, ![8, 4, 512]⟩
abbrev S8x4x4 : Shape := ⟨3, ![8, 4, 4]⟩
abbrev S8x2048 : Shape := ⟨2, ![8, 2048]⟩
abbrev S8x128 : Shape := ⟨2, ![8, 128]⟩
abbrev S_ : Shape := ⟨0, ![]⟩
abbrev S128 : Shape := ⟨1, ![128]⟩
abbrev S8x8192 : Shape := ⟨2, ![8, 8192]⟩
abbrev S8x64x128 : Shape := ⟨3, ![8, 64, 128]⟩
abbrev S8x16x128 : Shape := ⟨3, ![8, 16, 128]⟩
abbrev S8x16 : Shape := ⟨2, ![8, 16]⟩
abbrev S8x1x128 : Shape := ⟨3, ![8, 1, 128]⟩
abbrev S8x242x128 : Shape := ⟨3, ![8, 242, 128]⟩
abbrev S8x248x128 : Shape := ⟨3, ![8, 248, 128]⟩
abbrev S8192 : Shape := ⟨1, ![8192]⟩
abbrev S64x128 : Shape := ⟨2, ![64, 128]⟩
abbrev S16x128 : Shape := ⟨2, ![16, 128]⟩
abbrev S16 : Shape := ⟨1, ![16]⟩
abbrev S1x128 : Shape := ⟨2, ![1, 128]⟩
abbrev S242x128 : Shape := ⟨2, ![242, 128]⟩
abbrev S248x128 : Shape := ⟨2, ![248, 128]⟩
abbrev S1x248x128 : Shape := ⟨3, ![1, 248, 128]⟩
abbrev S1 : Shape := ⟨1, ![1]⟩

abbrev nBuf : Space → Nat
  | .hbm => 297
  | .vmem => 8
  | .smem => 0
  | _ => 0

abbrev hbmTy0_0 (i : Nat) : BufTy := match i % 128 with
  | 0 => ⟨S4x2048, .f32⟩
  | 1 => ⟨S4x512, .f32⟩
  | 2 => ⟨S4x512, .f32⟩
  | 3 => ⟨S4x4, .f32⟩
  | 4 => ⟨S4x2048, .f32⟩
  | 5 => ⟨S4x2048, .f32⟩
  | 6 => ⟨S2048, .f32⟩
  | 7 => ⟨S4x2048, .f32⟩
  | 8 => ⟨S4x512, .f32⟩
  | 9 => ⟨S4x512, .f32⟩
  | 10 => ⟨S4x4, .f32⟩
  | 11 => ⟨S4x2048, .f32⟩
  | 12 => ⟨S4x2048, .f32⟩
  | 13 => ⟨S2048, .f32⟩
  | 14 => ⟨S4x2048, .f32⟩
  | 15 => ⟨S4x512, .f32⟩
  | 16 => ⟨S4x512, .f32⟩
  | 17 => ⟨S4x4, .f32⟩
  | 18 => ⟨S4x2048, .f32⟩
  | 19 => ⟨S4x2048, .f32⟩
  | 20 => ⟨S2048, .f32⟩
  | 21 => ⟨S8x4x2048, .f32⟩
  | 22 => ⟨S8x4x512, .f32⟩
  | 23 => ⟨S8x4x512, .f32⟩
  | 24 => ⟨S8x4x4, .f32⟩
  | 25 => ⟨S8x4x2048, .f32⟩
  | 26 => ⟨S8x4x2048, .f32⟩
  | 27 => ⟨S8x2048, .f32⟩
  | 28 => ⟨S8x128, .f32⟩
  | 29 => ⟨S_, .f32⟩
  | 30 => ⟨S128, .f32⟩
  | 31 => ⟨S8x8192, .f32⟩
  | 32 => ⟨S_, .i32⟩
  | 33 => ⟨S_, .f32⟩
  | 34 => ⟨S8x8192, .f32⟩
  | 35 => ⟨S8x64x128, .f32⟩
  | 36 => ⟨S8x2048, .f32⟩
  | 37 => ⟨S_, .i32⟩
  | 38 => ⟨S_, .f32⟩
  | 39 => ⟨S8x2048, .f32⟩
  | 40 => ⟨S8x16x128, .f32⟩
  | 41 => ⟨S8x2048, .f32⟩
  | 42 => ⟨S_, .i32⟩
  | 43 => ⟨S_, .f32⟩
  | 44 => ⟨S8x2048, .f32⟩
  | 45 => ⟨S8x16x128, .f32⟩
  | 46 => ⟨S8x16, .f32⟩
  | 47 => ⟨S_, .i32⟩
  | 48 => ⟨S_, .f32⟩
  | 49 => ⟨S8x128, .f32⟩
  | 50 => ⟨S8x1x128, .f32⟩
  | 51 => ⟨S8x8192, .f32⟩
  | 52 => ⟨S_, .i32⟩
  | 53 => ⟨S_, .f32⟩
  | 54 => ⟨S8x8192, .f32⟩
  | 55 => ⟨S8x64x128, .f32⟩
  | 56 => ⟨S8x8192, .f32⟩
  | 57 => ⟨S_, .i32⟩
  | 58 => ⟨S_, .f32⟩
  | 59 => ⟨S8x8192, .f32⟩
  | 60 => ⟨S8x64x128, .f32⟩
  | 61 => ⟨S_, .i32⟩
  | 62 => ⟨S_, .f32⟩
  | 63 => ⟨S8x2048, .f32⟩
  | 64 => ⟨S8x16x128, .f32⟩
  | 65 => ⟨S_, .i32⟩
  | 66 => ⟨S_, .f32⟩
  | 67 => ⟨S8x128, .f32⟩
  | 68 => ⟨S8x1x128, .f32⟩
  | 69 => ⟨S8x242x128, .f32⟩
  | 70 => ⟨S_, .i32⟩
  | 71 => ⟨S_, .f32⟩
  | 72 => ⟨S8x248x128, .f32⟩
  | 73 => ⟨S8192, .f32⟩
  | 74 => ⟨S_, .i32⟩
  | 75 => ⟨S_, .f32⟩
  | 76 => ⟨S8192, .f32⟩
  | 77 => ⟨S64x128, .f32⟩
  | 78 => ⟨S2048, .f32⟩
  | 79 => ⟨S_, .i32⟩
  | 80 => ⟨S_, .f32⟩
  | 81 => ⟨S2048, .f32⟩
  | 82 => ⟨S16x128, .f32⟩
  | 83 => ⟨S2048, .f32⟩
  | 84 => ⟨S_, .i32⟩
  | 85 => ⟨S_, .f32⟩
  | 86 => ⟨S2048, .f32⟩
  | 87 => ⟨S16x128, .f32⟩
  | 88 => ⟨S16, .f32⟩
  | 89 => ⟨S_, .i32⟩
  | 90 => ⟨S_, .f32⟩
  | 91 => ⟨S128, .f32⟩
  | 92 => ⟨S1x128, .f32⟩
  | 93 => ⟨S8192, .f32⟩
  | 94 => ⟨S_, .i32⟩
  | 95 => ⟨S_, .f32⟩
  | 96 => ⟨S8192, .f32⟩
  | 97 => ⟨S64x128, .f32⟩
  | 98 => ⟨S8192, .f32⟩
  | 99 => ⟨S_, .i32⟩
  | 100 => ⟨S_, .f32⟩
  | 101 => ⟨S8192, .f32⟩
  | 102 => ⟨S64x128, .f32⟩
  | 103 => ⟨S_, .i32⟩
  | 104 => ⟨S_, .f32⟩
  | 105 => ⟨S2048, .f32⟩
  | 106 => ⟨S16x128, .f32⟩
  | 107 => ⟨S_, .i32⟩
  | 108 => ⟨S_, .f32⟩
  | 109 => ⟨S128, .f32⟩
  | 110 => ⟨S1x128, .f32⟩
  | 111 => ⟨S242x128, .f32⟩
  | 112 => ⟨S_, .i32⟩
  | 113 => ⟨S_, .f32⟩
  | 114 => ⟨S248x128, .f32⟩
  | 115 => ⟨S8192, .f32⟩
  | 116 => ⟨S_, .i32⟩
  | 117 => ⟨S_, .f32⟩
  | 118 => ⟨S8192, .f32⟩
  | 119 => ⟨S64x128, .f32⟩
  | 120 => ⟨S2048, .f32⟩
  | 121 => ⟨S_, .i32⟩
  | 122 => ⟨S_, .f32⟩
  | 123 => ⟨S2048, .f32⟩
  | 124 => ⟨S16x128, .f32⟩
  | 125 => ⟨S2048, .f32⟩
  | 126 => ⟨S_, .i32⟩
  | 127 => ⟨S_, .f32⟩
  | _ => ⟨S4x2048, .f32⟩

abbrev hbmTy0_1 (i : Nat) : BufTy := match i % 128 with
  | 0 => ⟨S2048, .f32⟩
  | 1 => ⟨S16x128, .f32⟩
  | 2 => ⟨S16, .f32⟩
  | 3 => ⟨S_, .i32⟩
  | 4 => ⟨S_, .f32⟩
  | 5 => ⟨S128, .f32⟩
  | 6 => ⟨S1x128, .f32⟩
  | 7 => ⟨S8192, .f32⟩
  | 8 => ⟨S_, .i32⟩
  | 9 => ⟨S_, .f32⟩
  | 10 => ⟨S8192, .f32⟩
  | 11 => ⟨S64x128, .f32⟩
  | 12 => ⟨S8192, .f32⟩
  | 13 => ⟨S_, .i32⟩
  | 14 => ⟨S_, .f32⟩
  | 15 => ⟨S8192, .f32⟩
  | 16 => ⟨S64x128, .f32⟩
  | 17 => ⟨S_, .i32⟩
  | 18 => ⟨S_, .f32⟩
  | 19 => ⟨S2048, .f32⟩
  | 20 => ⟨S16x128, .f32⟩
  | 21 => ⟨S_, .i32⟩
  | 22 => ⟨S_, .f32⟩
  | 23 => ⟨S128, .f32⟩
  | 24 => ⟨S1x128, .f32⟩
  | 25 => ⟨S242x128, .f32⟩
  | 26 => ⟨S_, .i32⟩
  | 27 => ⟨S_, .f32⟩
  | 28 => ⟨S248x128, .f32⟩
  | 29 => ⟨S8192, .f32⟩
  | 30 => ⟨S_, .i32⟩
  | 31 => ⟨S_, .f32⟩
  | 32 => ⟨S8192, .f32⟩
  | 33 => ⟨S64x128, .f32⟩
  | 34 => ⟨S2048, .f32⟩
  | 35 => ⟨S_, .i32⟩
  | 36 => ⟨S_, .f32⟩
  | 37 => ⟨S2048, .f32⟩
  | 38 => ⟨S16x128, .f32⟩
  | 39 => ⟨S2048, .f32⟩
  | 40 => ⟨S_, .i32⟩
  | 41 => ⟨S_, .f32⟩
  | 42 => ⟨S2048, .f32⟩
  | 43 => ⟨S16x128, .f32⟩
  | 44 => ⟨S16, .f32⟩
  | 45 => ⟨S_, .i32⟩
  | 46 => ⟨S_, .f32⟩
  | 47 => ⟨S128, .f32⟩
  | 48 => ⟨S1x128, .f32⟩
  | 49 => ⟨S8192, .f32⟩
  | 50 => ⟨S_, .i32⟩
  | 51 => ⟨S_, .f32⟩
  | 52 => ⟨S8192, .f32⟩
  | 53 => ⟨S64x128, .f32⟩
  | 54 => ⟨S8192, .f32⟩
  | 55 => ⟨S_, .i32⟩
  | 56 => ⟨S_, .f32⟩
  | 57 => ⟨S8192, .f32⟩
  | 58 => ⟨S64x128, .f32⟩
  | 59 => ⟨S_, .i32⟩
  | 60 => ⟨S_, .f32⟩
  | 61 => ⟨S2048, .f32⟩
  | 62 => ⟨S16x128, .f32⟩
  | 63 => ⟨S_, .i32⟩
  | 64 => ⟨S_, .f32⟩
  | 65 => ⟨S128, .f32⟩
  | 66 => ⟨S1x128, .f32⟩
  | 67 => ⟨S242x128, .f32⟩
  | 68 => ⟨S_, .i32⟩
  | 69 => ⟨S_, .f32⟩
  | 70 => ⟨S248x128, .f32⟩
  | 71 => ⟨S248x128, .f32⟩
  | 72 => ⟨S248x128, .f32⟩
  | 73 => ⟨S248x128, .f32⟩
  | 74 => ⟨S248x128, .f32⟩
  | 75 => ⟨S64x128, .f32⟩
  | 76 => ⟨S8192, .f32⟩
  | 77 => ⟨S4x2048, .f32⟩
  | 78 => ⟨S16x128, .f32⟩
  | 79 => ⟨S2048, .f32⟩
  | 80 => ⟨S4x512, .f32⟩
  | 81 => ⟨S16x128, .f32⟩
  | 82 => ⟨S2048, .f32⟩
  | 83 => ⟨S4x512, .f32⟩
  | 84 => ⟨S1x128, .f32⟩
  | 85 => ⟨S128, .f32⟩
  | 86 => ⟨S16, .f32⟩
  | 87 => ⟨S4x4, .f32⟩
  | 88 => ⟨S64x128, .f32⟩
  | 89 => ⟨S8192, .f32⟩
  | 90 => ⟨S4x2048, .f32⟩
  | 91 => ⟨S64x128, .f32⟩
  | 92 => ⟨S8192, .f32⟩
  | 93 => ⟨S4x2048, .f32⟩
  | 94 => ⟨S16x128, .f32⟩
  | 95 => ⟨S2048, .f32⟩
  | 96 => ⟨S1x128, .f32⟩
  | 97 => ⟨S128, .f32⟩
  | 98 => ⟨S64x128, .f32⟩
  | 99 => ⟨S8192, .f32⟩
  | 100 => ⟨S4x2048, .f32⟩
  | 101 => ⟨S16x128, .f32⟩
  | 102 => ⟨S2048, .f32⟩
  | 103 => ⟨S4x512, .f32⟩
  | 104 => ⟨S16x128, .f32⟩
  | 105 => ⟨S2048, .f32⟩
  | 106 => ⟨S4x512, .f32⟩
  | 107 => ⟨S1x128, .f32⟩
  | 108 => ⟨S128, .f32⟩
  | 109 => ⟨S16, .f32⟩
  | 110 => ⟨S4x4, .f32⟩
  | 111 => ⟨S64x128, .f32⟩
  | 112 => ⟨S8192, .f32⟩
  | 113 => ⟨S4x2048, .f32⟩
  | 114 => ⟨S64x128, .f32⟩
  | 115 => ⟨S8192, .f32⟩
  | 116 => ⟨S4x2048, .f32⟩
  | 117 => ⟨S16x128, .f32⟩
  | 118 => ⟨S2048, .f32⟩
  | 119 => ⟨S1x128, .f32⟩
  | 120 => ⟨S128, .f32⟩
  | 121 => ⟨S64x128, .f32⟩
  | 122 => ⟨S8192, .f32⟩
  | 123 => ⟨S4x2048, .f32⟩
  | 124 => ⟨S16x128, .f32⟩
  | 125 => ⟨S2048, .f32⟩
  | 126 => ⟨S4x512, .f32⟩
  | 127 => ⟨S16x128, .f32⟩
  | _ => ⟨S4x2048, .f32⟩

abbrev hbmTy0_2 (i : Nat) : BufTy := match i % 128 with
  | 0 => ⟨S2048, .f32⟩
  | 1 => ⟨S4x512, .f32⟩
  | 2 => ⟨S1x128, .f32⟩
  | 3 => ⟨S128, .f32⟩
  | 4 => ⟨S16, .f32⟩
  | 5 => ⟨S4x4, .f32⟩
  | 6 => ⟨S64x128, .f32⟩
  | 7 => ⟨S8192, .f32⟩
  | 8 => ⟨S4x2048, .f32⟩
  | 9 => ⟨S64x128, .f32⟩
  | 10 => ⟨S8192, .f32⟩
  | 11 => ⟨S4x2048, .f32⟩
  | 12 => ⟨S16x128, .f32⟩
  | 13 => ⟨S2048, .f32⟩
  | 14 => ⟨S1x128, .f32⟩
  | 15 => ⟨S128, .f32⟩
  | 16 => ⟨S64x128, .f32⟩
  | 17 => ⟨S8192, .f32⟩
  | 18 => ⟨S4x2048, .f32⟩
  | 19 => ⟨S16x128, .f32⟩
  | 20 => ⟨S2048, .f32⟩
  | 21 => ⟨S4x512, .f32⟩
  | 22 => ⟨S16x128, .f32⟩
  | 23 => ⟨S2048, .f32⟩
  | 24 => ⟨S4x512, .f32⟩
  | 25 => ⟨S1x128, .f32⟩
  | 26 => ⟨S128, .f32⟩
  | 27 => ⟨S16, .f32⟩
  | 28 => ⟨S4x4, .f32⟩
  | 29 => ⟨S64x128, .f32⟩
  | 30 => ⟨S8192, .f32⟩
  | 31 => ⟨S4x2048, .f32⟩
  | 32 => ⟨S64x128, .f32⟩
  | 33 => ⟨S8192, .f32⟩
  | 34 => ⟨S4x2048, .f32⟩
  | 35 => ⟨S16x128, .f32⟩
  | 36 => ⟨S2048, .f32⟩
  | 37 => ⟨S1x128, .f32⟩
  | 38 => ⟨S128, .f32⟩
  | 39 => ⟨S1, .f32⟩
  | 40 => ⟨S_, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | .local _ .vmem, ⟨0, _⟩ => ⟨S248x128, .f32⟩
  | .local _ .vmem, ⟨1, _⟩ => ⟨S248x128, .f32⟩
  | .local _ .vmem, ⟨2, _⟩ => ⟨S248x128, .f32⟩
  | .local _ .vmem, ⟨3, _⟩ => ⟨S8x248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | .local _ .vmem, ⟨7, _⟩ => ⟨S248x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_call0_v0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_c_0 : Ref sig .tc := ⟨.hbm, 37, rfl⟩
abbrev main_call1_v0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c_1 : Ref sig .tc := ⟨.hbm, 42, rfl⟩
abbrev main_call2_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_c_2 : Ref sig .tc := ⟨.hbm, 47, rfl⟩
abbrev main_call3_v0 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_c_3 : Ref sig .tc := ⟨.hbm, 52, rfl⟩
abbrev main_call4_v0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_4 : Ref sig .tc := ⟨.hbm, 57, rfl⟩
abbrev main_call5_v0 : Ref sig .tc := ⟨.hbm, 58, rfl⟩
abbrev main_v17 : Ref sig .tc := ⟨.hbm, 59, rfl⟩
abbrev main_v18 : Ref sig .tc := ⟨.hbm, 60, rfl⟩
abbrev main_c_5 : Ref sig .tc := ⟨.hbm, 61, rfl⟩
abbrev main_call6_v0 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_call7_v0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_7 : Ref sig .tc := ⟨.hbm, 70, rfl⟩
abbrev main_call8_v0 : Ref sig .tc := ⟨.hbm, 71, rfl⟩
abbrev main_v24 : Ref sig .tc := ⟨.hbm, 72, rfl⟩
abbrev main_v25 : Ref sig .tc := ⟨.hbm, 73, rfl⟩
abbrev main_c_8 : Ref sig .tc := ⟨.hbm, 74, rfl⟩
abbrev main_call9_v0 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_9 : Ref sig .tc := ⟨.hbm, 79, rfl⟩
abbrev main_call10_v0 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_c_10 : Ref sig .tc := ⟨.hbm, 84, rfl⟩
abbrev main_call11_v0 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_11 : Ref sig .tc := ⟨.hbm, 89, rfl⟩
abbrev main_call12_v0 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_12 : Ref sig .tc := ⟨.hbm, 94, rfl⟩
abbrev main_call13_v0 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_13 : Ref sig .tc := ⟨.hbm, 99, rfl⟩
abbrev main_call14_v0 : Ref sig .tc := ⟨.hbm, 100, rfl⟩
abbrev main_v41 : Ref sig .tc := ⟨.hbm, 101, rfl⟩
abbrev main_v42 : Ref sig .tc := ⟨.hbm, 102, rfl⟩
abbrev main_c_14 : Ref sig .tc := ⟨.hbm, 103, rfl⟩
abbrev main_call15_v0 : Ref sig .tc := ⟨.hbm, 104, rfl⟩
abbrev main_v43 : Ref sig .tc := ⟨.hbm, 105, rfl⟩
abbrev main_v44 : Ref sig .tc := ⟨.hbm, 106, rfl⟩
abbrev main_c_15 : Ref sig .tc := ⟨.hbm, 107, rfl⟩
abbrev main_call16_v0 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_c_16 : Ref sig .tc := ⟨.hbm, 112, rfl⟩
abbrev main_call17_v0 : Ref sig .tc := ⟨.hbm, 113, rfl⟩
abbrev main_v48 : Ref sig .tc := ⟨.hbm, 114, rfl⟩
abbrev main_v49 : Ref sig .tc := ⟨.hbm, 115, rfl⟩
abbrev main_c_17 : Ref sig .tc := ⟨.hbm, 116, rfl⟩
abbrev main_call18_v0 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_c_18 : Ref sig .tc := ⟨.hbm, 121, rfl⟩
abbrev main_call19_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_c_19 : Ref sig .tc := ⟨.hbm, 126, rfl⟩
abbrev main_call20_v0 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_c_20 : Ref sig .tc := ⟨.hbm, 131, rfl⟩
abbrev main_call21_v0 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_c_21 : Ref sig .tc := ⟨.hbm, 136, rfl⟩
abbrev main_call22_v0 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_c_22 : Ref sig .tc := ⟨.hbm, 141, rfl⟩
abbrev main_call23_v0 : Ref sig .tc := ⟨.hbm, 142, rfl⟩
abbrev main_v65 : Ref sig .tc := ⟨.hbm, 143, rfl⟩
abbrev main_v66 : Ref sig .tc := ⟨.hbm, 144, rfl⟩
abbrev main_c_23 : Ref sig .tc := ⟨.hbm, 145, rfl⟩
abbrev main_call24_v0 : Ref sig .tc := ⟨.hbm, 146, rfl⟩
abbrev main_v67 : Ref sig .tc := ⟨.hbm, 147, rfl⟩
abbrev main_v68 : Ref sig .tc := ⟨.hbm, 148, rfl⟩
abbrev main_c_24 : Ref sig .tc := ⟨.hbm, 149, rfl⟩
abbrev main_call25_v0 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_c_25 : Ref sig .tc := ⟨.hbm, 154, rfl⟩
abbrev main_call26_v0 : Ref sig .tc := ⟨.hbm, 155, rfl⟩
abbrev main_v72 : Ref sig .tc := ⟨.hbm, 156, rfl⟩
abbrev main_v73 : Ref sig .tc := ⟨.hbm, 157, rfl⟩
abbrev main_c_26 : Ref sig .tc := ⟨.hbm, 158, rfl⟩
abbrev main_call27_v0 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_c_27 : Ref sig .tc := ⟨.hbm, 163, rfl⟩
abbrev main_call28_v0 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_c_28 : Ref sig .tc := ⟨.hbm, 168, rfl⟩
abbrev main_call29_v0 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_c_29 : Ref sig .tc := ⟨.hbm, 173, rfl⟩
abbrev main_call30_v0 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_c_30 : Ref sig .tc := ⟨.hbm, 178, rfl⟩
abbrev main_call31_v0 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_c_31 : Ref sig .tc := ⟨.hbm, 183, rfl⟩
abbrev main_call32_v0 : Ref sig .tc := ⟨.hbm, 184, rfl⟩
abbrev main_v89 : Ref sig .tc := ⟨.hbm, 185, rfl⟩
abbrev main_v90 : Ref sig .tc := ⟨.hbm, 186, rfl⟩
abbrev main_c_32 : Ref sig .tc := ⟨.hbm, 187, rfl⟩
abbrev main_call33_v0 : Ref sig .tc := ⟨.hbm, 188, rfl⟩
abbrev main_v91 : Ref sig .tc := ⟨.hbm, 189, rfl⟩
abbrev main_v92 : Ref sig .tc := ⟨.hbm, 190, rfl⟩
abbrev main_c_33 : Ref sig .tc := ⟨.hbm, 191, rfl⟩
abbrev main_call34_v0 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_c_34 : Ref sig .tc := ⟨.hbm, 196, rfl⟩
abbrev main_call35_v0 : Ref sig .tc := ⟨.hbm, 197, rfl⟩
abbrev main_v96 : Ref sig .tc := ⟨.hbm, 198, rfl⟩
abbrev main_v97_0 : Ref sig .tc := ⟨.hbm, 199, rfl⟩
abbrev main_v97_1 : Ref sig .tc := ⟨.hbm, 200, rfl⟩
abbrev main_v97_2 : Ref sig .tc := ⟨.hbm, 201, rfl⟩
abbrev main_v97_3 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S248x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S4x2048 : Shape := ⟨2, ![4, 2048]⟩
abbrev S4x512 : Shape := ⟨2, ![4, 512]⟩
abbrev S4x4 : Shape := ⟨2, ![4, 4]⟩
abbrev S2048 : Shape := ⟨1, ![2048]⟩
abbrev S8x4x2048 : Shape := ⟨3, ![8, 4, 2048]⟩
abbrev S8x4x512 : Shape := ⟨3, ![8, 4, 512]⟩
abbrev S8x4x4 : Shape := ⟨3, ![8, 4, 4]⟩
abbrev S8x2048 : Shape := ⟨2, ![8, 2048]⟩
abbrev S8x128 : Shape := ⟨2, ![8, 128]⟩
abbrev S_ : Shape := ⟨0, ![]⟩
abbrev S8x1 : Shape := ⟨2, ![8, 1]⟩
abbrev S8 : Shape := ⟨1, ![8]⟩

abbrev nBuf : Space → Nat
  | .hbm => 278
  | .vmem => 0
  | .smem => 0
  | _ => 0

abbrev hbmTy0_0 (i : Nat) : BufTy := match i % 128 with
  | 0 => ⟨S4x2048, .f32⟩
  | 1 => ⟨S4x512, .f32⟩
  | 2 => ⟨S4x512, .f32⟩
  | 3 => ⟨S4x4, .f32⟩
  | 4 => ⟨S4x2048, .f32⟩
  | 5 => ⟨S4x2048, .f32⟩
  | 6 => ⟨S2048, .f32⟩
  | 7 => ⟨S4x2048, .f32⟩
  | 8 => ⟨S4x512, .f32⟩
  | 9 => ⟨S4x512, .f32⟩
  | 10 => ⟨S4x4, .f32⟩
  | 11 => ⟨S4x2048, .f32⟩
  | 12 => ⟨S4x2048, .f32⟩
  | 13 => ⟨S2048, .f32⟩
  | 14 => ⟨S4x2048, .f32⟩
  | 15 => ⟨S4x512, .f32⟩
  | 16 => ⟨S4x512, .f32⟩
  | 17 => ⟨S4x4, .f32⟩
  | 18 => ⟨S4x2048, .f32⟩
  | 19 => ⟨S4x2048, .f32⟩
  | 20 => ⟨S2048, .f32⟩
  | 21 => ⟨S8x4x2048, .f32⟩
  | 22 => ⟨S8x4x512, .f32⟩
  | 23 => ⟨S8x4x512, .f32⟩
  | 24 => ⟨S8x4x4, .f32⟩
  | 25 => ⟨S8x4x2048, .f32⟩
  | 26 => ⟨S8x4x2048, .f32⟩
  | 27 => ⟨S8x2048, .f32⟩
  | 28 => ⟨S8x128, .f32⟩
  | 29 => ⟨S_, .f32⟩
  | 30 => ⟨S4x2048, .f32⟩
  | 31 => ⟨S_, .f32⟩
  | 32 => ⟨S4x512, .f32⟩
  | 33 => ⟨S_, .f32⟩
  | 34 => ⟨S4x512, .f32⟩
  | 35 => ⟨S_, .f32⟩
  | 36 => ⟨S4x4, .f32⟩
  | 37 => ⟨S_, .f32⟩
  | 38 => ⟨S4x2048, .f32⟩
  | 39 => ⟨S_, .f32⟩
  | 40 => ⟨S4x2048, .f32⟩
  | 41 => ⟨S_, .f32⟩
  | 42 => ⟨S2048, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S_, .f32⟩
  | 77 => ⟨S4x512, .f32⟩
  | 78 => ⟨S4x512, .f32⟩
  | 79 => ⟨S_, .f32⟩
  | 80 => ⟨S4x512, .f32⟩
  | 81 => ⟨S4x512, .f32⟩
  | 82 => ⟨S4x512, .f32⟩
  | 83 => ⟨S_, .f32⟩
  | 84 => ⟨S4x512, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S_, .f32⟩
  | 95 => ⟨S4x512, .f32⟩
  | 96 => ⟨S4x512, .f32⟩
  | 97 => ⟨S4x512, .f32⟩
  | 98 => ⟨S_, .f32⟩
  | 99 => ⟨S4x512, .f32⟩
  | 100 => ⟨S4x512, .f32⟩
  | 101 => ⟨S4x512, .f32⟩
  | 102 => ⟨S_, .f32⟩
  | 103 => ⟨S4x512, .f32⟩
  | 104 => ⟨S4x512, .f32⟩
  | 105 => ⟨S4x512, .f32⟩
  | 106 => ⟨S_, .f32⟩
  | 107 => ⟨S4x512, .f32⟩
  | 108 => ⟨S4x512, .f32⟩
  | 109 => ⟨S_, .f32⟩
  | 110 => ⟨S4x512, .f32⟩
  | 111 => ⟨S4x512, .f32⟩
  | 112 => ⟨S_, .f32⟩
  | 113 => ⟨S4x512, .f32⟩
  | 114 => ⟨S4x512, .f32⟩
  | 115 => ⟨S4x512, .f32⟩
  | 116 => ⟨S_, .f32⟩
  | 117 => ⟨S4x512, .f32⟩
  | 118 => ⟨S4x512, .f32⟩
  | 119 => ⟨S4x512, .f32⟩
  | 120 => ⟨S_, .f32⟩
  | 121 => ⟨S4x512, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S_, .f32⟩
  | _ => ⟨S4x2048, .f32⟩

abbrev hbmTy0_1 (i : Nat) : BufTy := match i % 128 with
  | 0 => ⟨S4x512, .f32⟩
  | 1 => ⟨S4x512, .f32⟩
  | 2 => ⟨S4x512, .f32⟩
  | 3 => ⟨S_, .f32⟩
  | 4 => ⟨S4x512, .f32⟩
  | 5 => ⟨S4x512, .f32⟩
  | 6 => ⟨S4x512, .f32⟩
  | 7 => ⟨S_, .f32⟩
  | 8 => ⟨S4x512, .f32⟩
  | 9 => ⟨S4x512, .f32⟩
  | 10 => ⟨S4x512, .f32⟩
  | 11 => ⟨S_, .f32⟩
  | 12 => ⟨S4x512, .f32⟩
  | 13 => ⟨S4x512, .f32⟩
  | 14 => ⟨S_, .f32⟩
  | 15 => ⟨S4x4, .f32⟩
  | 16 => ⟨S4x4, .f32⟩
  | 17 => ⟨S_, .f32⟩
  | 18 => ⟨S4x4, .f32⟩
  | 19 => ⟨S4x4, .f32⟩
  | 20 => ⟨S4x4, .f32⟩
  | 21 => ⟨S_, .f32⟩
  | 22 => ⟨S4x4, .f32⟩
  | 23 => ⟨S4x4, .f32⟩
  | 24 => ⟨S4x4, .f32⟩
  | 25 => ⟨S_, .f32⟩
  | 26 => ⟨S4x4, .f32⟩
  | 27 => ⟨S4x4, .f32⟩
  | 28 => ⟨S4x4, .f32⟩
  | 29 => ⟨S_, .f32⟩
  | 30 => ⟨S4x4, .f32⟩
  | 31 => ⟨S4x4, .f32⟩
  | 32 => ⟨S_, .f32⟩
  | 33 => ⟨S4x4, .f32⟩
  | 34 => ⟨S4x4, .f32⟩
  | 35 => ⟨S4x4, .f32⟩
  | 36 => ⟨S_, .f32⟩
  | 37 => ⟨S4x4, .f32⟩
  | 38 => ⟨S4x4, .f32⟩
  | 39 => ⟨S4x4, .f32⟩
  | 40 => ⟨S_, .f32⟩
  | 41 => ⟨S4x4, .f32⟩
  | 42 => ⟨S4x4, .f32⟩
  | 43 => ⟨S4x4, .f32⟩
  | 44 => ⟨S_, .f32⟩
  | 45 => ⟨S4x4, .f32⟩
  | 46 => ⟨S4x4, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S_, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S4x2048, .f32⟩
  | 106 => ⟨S_, .f32⟩
  | 107 => ⟨S4x2048, .f32⟩
  | 108 => ⟨S4x2048, .f32⟩
  | 109 => ⟨S4x2048, .f32⟩
  | 110 => ⟨S_, .f32⟩
  | 111 => ⟨S4x2048, .f32⟩
  | 112 => ⟨S4x2048, .f32⟩
  | 113 => ⟨S_, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S4x2048, .f32⟩

abbrev hbmTy0_2 (i : Nat) : BufTy := match i % 128 with
  | 0 => ⟨S_, .f32⟩
  | 1 => ⟨S2048, .f32⟩
  | 2 => ⟨S2048, .f32⟩
  | 3 => ⟨S_, .f32⟩
  | 4 => ⟨S2048, .f32⟩
  | 5 => ⟨S2048, .f32⟩
  | 6 => ⟨S2048, .f32⟩
  | 7 => ⟨S_, .f32⟩
  | 8 => ⟨S2048, .f32⟩
  | 9 => ⟨S2048, .f32⟩
  | 10 => ⟨S2048, .f32⟩
  | 11 => ⟨S_, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S8x1, .f32⟩
  | 19 => ⟨S8, .f32⟩
  | 20 => ⟨S_, .f32⟩
  | 21 => ⟨S_, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_cst_1 : Ref sig .tc := ⟨.hbm, 33, rfl⟩
abbrev main_v2 : Ref sig .tc := ⟨.hbm, 34, rfl⟩
abbrev main_cst_2 : Ref sig .tc := ⟨.hbm, 35, rfl⟩
abbrev main_v3 : Ref sig .tc := ⟨.hbm, 36, rfl⟩
abbrev main_cst_3 : Ref sig .tc := ⟨.hbm, 37, rfl⟩
abbrev main_v4 : Ref sig .tc := ⟨.hbm, 38, rfl⟩
abbrev main_cst_4 : Ref sig .tc := ⟨.hbm, 39, rfl⟩
abbrev main_v5 : Ref sig .tc := ⟨.hbm, 40, rfl⟩
abbrev main_cst_5 : Ref sig .tc := ⟨.hbm, 41, rfl⟩
abbrev main_v6 : Ref sig .tc := ⟨.hbm, 42, rfl⟩
abbrev main_cst_6 : Ref sig .tc := ⟨.hbm, 43, rfl⟩
abbrev main_v7 : Ref sig .tc := ⟨.hbm, 44, rfl⟩
abbrev main_v8 : Ref sig .tc := ⟨.hbm, 45, rfl⟩
abbrev main_cst_7 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_8 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_9 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_10 : Ref sig .tc := ⟨.hbm, 58, rfl⟩
abbrev main_v18 : Ref sig .tc := ⟨.hbm, 59, rfl⟩
abbrev main_v19 : Ref sig .tc := ⟨.hbm, 60, rfl⟩
abbrev main_cst_11 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_12 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_13 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_14 : Ref sig .tc := ⟨.hbm, 73, rfl⟩
abbrev main_v29 : Ref sig .tc := ⟨.hbm, 74, rfl⟩
abbrev main_v30 : Ref sig .tc := ⟨.hbm, 75, rfl⟩
abbrev main_cst_15 : Ref sig .tc := ⟨.hbm, 76, rfl⟩
abbrev main_v31 : Ref sig .tc := ⟨.hbm, 77, rfl⟩
abbrev main_v32 : Ref sig .tc := ⟨.hbm, 78, rfl⟩
abbrev main_cst_16 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_17 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_18 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_19 : Ref sig .tc := ⟨.hbm, 91, rfl⟩
abbrev main_v42 : Ref sig .tc := ⟨.hbm, 92, rfl⟩
abbrev main_v43 : Ref sig .tc := ⟨.hbm, 93, rfl⟩
abbrev main_cst_20 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_21 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_22 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_23 : Ref sig .tc := ⟨.hbm, 106, rfl⟩
abbrev main_v53 : Ref sig .tc := ⟨.hbm, 107, rfl⟩
abbrev main_v54 : Ref sig .tc := ⟨.hbm, 108, rfl⟩
abbrev main_cst_24 : Ref sig .tc := ⟨.hbm, 109, rfl⟩
abbrev main_v55 : Ref sig .tc := ⟨.hbm, 110, rfl⟩
abbrev main_v56 : Ref sig .tc := ⟨.hbm, 111, rfl⟩
abbrev main_cst_25 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_26 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_27 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_cst_28 : Ref sig .tc := ⟨.hbm, 124, rfl⟩
abbrev main_v66 : Ref sig .tc := ⟨.hbm, 125, rfl⟩
abbrev main_v67 : Ref sig .tc := ⟨.hbm, 126, rfl⟩
abbrev main_cst_29 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_30 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_31 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_32 : Ref sig .tc := ⟨.hbm, 139, rfl⟩
abbrev main_v77 : Ref sig .tc := ⟨.hbm, 140, rfl⟩
abbrev main_v78 : Ref sig .tc := ⟨.hbm, 141, rfl⟩
abbrev main_cst_33 : Ref sig .tc := ⟨.hbm, 142, rfl⟩
abbrev main_v79 : Ref sig .tc := ⟨.hbm, 143, rfl⟩
abbrev main_v80 : Ref sig .tc := ⟨.hbm, 144, rfl⟩
abbrev main_cst_34 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_35 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_36 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_37 : Ref sig .tc := ⟨.hbm, 157, rfl⟩
abbrev main_v90 : Ref sig .tc := ⟨.hbm, 158, rfl⟩
abbrev main_v91 : Ref sig .tc := ⟨.hbm, 159, rfl⟩
abbrev main_cst_38 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_39 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_cst_40 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_41 : Ref sig .tc := ⟨.hbm, 172, rfl⟩
abbrev main_v101 : Ref sig .tc := ⟨.hbm, 173, rfl⟩
abbrev main_v102 : Ref sig .tc := ⟨.hbm, 174, rfl⟩
abbrev main_cst_42 : Ref sig .tc := ⟨.hbm, 175, rfl⟩
abbrev main_v103 : Ref sig .tc := ⟨.hbm, 176, rfl⟩
abbrev main_v104 : Ref sig .tc := ⟨.hbm, 177, rfl⟩
abbrev main_cst_43 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_44 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_cst_45 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_cst_46 : Ref sig .tc := ⟨.hbm, 190, rfl⟩
abbrev main_v114 : Ref sig .tc := ⟨.hbm, 191, rfl⟩
abbrev main_v115 : Ref sig .tc := ⟨.hbm, 192, rfl⟩
abbrev main_cst_47 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_cst_48 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_49 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_50 : Ref sig .tc := ⟨.hbm, 205, rfl⟩
abbrev main_v125 : Ref sig .tc := ⟨.hbm, 206, rfl⟩
abbrev main_v126 : Ref sig .tc := ⟨.hbm, 207, rfl⟩
abbrev main_cst_51 : Ref sig .tc := ⟨.hbm, 208, rfl⟩
abbrev main_v127 : Ref sig .tc := ⟨.hbm, 209, rfl⟩
abbrev main_v128 : Ref sig .tc := ⟨.hbm, 210, rfl⟩
abbrev main_cst_52 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_cst_53 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_54 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_55 : Ref sig .tc := ⟨.hbm, 223, rfl⟩
abbrev main_v138 : Ref sig .tc := ⟨.hbm, 224, rfl⟩
abbrev main_v139 : Ref sig .tc := ⟨.hbm, 225, rfl⟩
abbrev main_cst_56 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_cst_57 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_58 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_59 : Ref sig .tc := ⟨.hbm, 238, rfl⟩
abbrev main_v149 : Ref sig .tc := ⟨.hbm, 239, rfl⟩
abbrev main_v150 : Ref sig .tc := ⟨.hbm, 240, rfl⟩
abbrev main_cst_60 : Ref sig .tc := ⟨.hbm, 241, rfl⟩
abbrev main_v151 : Ref sig .tc := ⟨.hbm, 242, rfl⟩
abbrev main_v152 : Ref sig .tc := ⟨.hbm, 243, rfl⟩
abbrev main_cst_61 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_cst_62 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_cst_63 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_cst_64 : Ref sig .tc := ⟨.hbm, 256, rfl⟩
abbrev main_v162 : Ref sig .tc := ⟨.hbm, 257, rfl⟩
abbrev main_v163 : Ref sig .tc := ⟨.hbm, 258, rfl⟩
abbrev main_cst_65 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_cst_66 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_cst_67 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_68 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_cst_69 : Ref sig .tc := ⟨.hbm, 276, rfl⟩
abbrev main_v177 : Ref sig .tc := ⟨.hbm, 277, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Normed.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormedReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Scalars.lean ====
/-
  The scalar functions of the attention's gradient over the reals: the exact operations of the extended reals agree with
  the real ones on finite numbers, and the two forms in which a program writes the logarithm of a sigmoid and its
  derivative (through `exp (-|z|)` or through `log_sigmoid`) are one function.
-/
module

public import Idealize.ShloMosaic.Lib.Pointwise
public import Idealize.ShloMosaic.Lib.IdealHost

@[expose] public section

noncomputable section

open Idealize.ShloMosaic

namespace Cert.Stick

/-! ### The exact operations at finite numbers -/

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else (Real.log r : EReal)) = _
  rw [if_neg (not_le.mpr h)]

theorem div_coe_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem max_coe (x y : ℝ) : max (x : EReal) (y : EReal) = ((max x y : ℝ) : EReal) := (EReal.coe_strictMono.monotone.map_max).symm

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite extended real is a real. -/
theorem exists_real {x : EReal} (h : max x (-x) < ⊤) : ∃ r : ℝ, x = (r : EReal) := by
  induction x with
  | bot => simp at h
  | top => simp at h
  | coe r => exact ⟨r, rfl⟩

/-! ### The logarithm of the complement of a sigmoid, and the sigmoid -/

/-- `log (1 - σ z)`. -/
def keepLog (z : ℝ) : ℝ := -Real.log (1 + Real.exp z)

/-- The sigmoid. -/
def sgm (z : ℝ) : ℝ := Real.exp z / (1 + Real.exp z)

theorem one_add_exp_pos (z : ℝ) : 0 < 1 + Real.exp z := by positivity

/-- `-max z 0 - log (1 + e^{-|z|})` is `log (1 - σ z)`. -/
theorem keepLog_eq (z : ℝ) : 0 - max z 0 - Real.log (1 + Real.exp (0 - |z|)) = keepLog z := by
  unfold keepLog
  rcases le_total 0 z with h | h
  · rw [max_eq_left h, abs_of_nonneg h]
    have : 1 + Real.exp z = Real.exp z * (1 + Real.exp (0 - z)) := by
      rw [mul_add, ← Real.exp_add]; simp [add_comm]
    rw [this, Real.log_mul (Real.exp_pos z).ne' (one_add_exp_pos _).ne', Real.log_exp]; ring
  · rw [max_eq_right h, abs_of_nonpos h]; simp

/-- `log (σ z)` is `z + log (1 - σ z)`. -/
theorem keepLog_neg (z : ℝ) : keepLog (-z) = z + keepLog z := by
  unfold keepLog
  have : 1 + Real.exp z = Real.exp z * (1 + Real.exp (-z)) := by
    rw [mul_add, ← Real.exp_add]; simp [add_comm]
  rw [this, Real.log_mul (Real.exp_pos z).ne' (one_add_exp_pos _).ne', Real.log_exp]; ring

/-- Where `z` is not negative the complement of the sigmoid is `e^{-|z|} / (1 + e^{-|z|})`. -/
theorem sig_compl_of_nonneg {z : ℝ} (h : 0 ≤ z) :
    Real.exp (0 - |z|) * (1 / (1 + Real.exp (0 - |z|))) = 1 - sgm z := by
  unfold sgm
  rw [abs_of_nonneg h, zero_sub, Real.exp_neg]
  have := Real.exp_pos z
  field_simp; ring

theorem sig_of_nonneg {z : ℝ} (h : 0 ≤ z) : 1 / (1 + Real.exp (0 - |z|)) = sgm z := by
  unfold sgm
  rw [abs_of_nonneg h, zero_sub, Real.exp_neg]
  have := Real.exp_pos z
  field_simp; try ring

theorem sig_compl_of_neg {z : ℝ} (h : z < 0) : 1 / (1 + Real.exp (0 - |z|)) = 1 - sgm z := by
  unfold sgm
  rw [abs_of_neg h]
  have := Real.exp_pos z
  simp only [zero_sub, neg_neg]
  field_simp; try ring

theorem sig_of_neg {z : ℝ} (h : z < 0) : Real.exp (0 - |z|) * (1 / (1 + Real.exp (0 - |z|))) = sgm z := by
  unfold sgm
  rw [abs_of_neg h]
  simp only [zero_sub, neg_neg]
  field_simp

/-- `e^{z + log (1 - σ z)}` is the sigmoid: the derivative that a `logaddexp` hands on. -/
theorem exp_add_keepLog (z : ℝ) : Real.exp (z + keepLog z) = sgm z := by
  unfold keepLog sgm
  rw [Real.exp_add, Real.exp_neg, Real.exp_log (one_add_exp_pos z)]; rfl

theorem exp_keepLog (z : ℝ) : Real.exp (keepLog z) = 1 - sgm z := by
  unfold keepLog sgm
  rw [Real.exp_neg, Real.exp_log (one_add_exp_pos z)]
  have := one_add_exp_pos z
  field_simp; ring

/-- The scale `1/√128` as the programs write it: the binary word nearest to it. -/
def scale : ℝ := (11863283 : ℝ) * (2 : ℝ) ^ (-27 : Int)

theorem scale_eq : Ideal.ofBits .f32 0x3DB504F3#32 = (scale : EReal) := by
  simp [Ideal.ofBits, Ideal.ieee, scale]

end Cert.Stick

end
-- ==== Proof.Up.lean ====
/-
  Matrices of real numbers as the extended-real vectors a program holds (`up`), and the vector operations of the kernel's
  body on them: each takes matrices of reals to a matrix of reals. A matrix is a function of two natural numbers, of which
  the vector reads the part inside its shape; so a tile of a matrix is the same matrix with its indices shifted.
-/
module

public import proofs.«01_k».proof.Proof.Scalars
public import proofs.«01_k».proof.Proof.Gen.KernelIdeal.Skeleton

@[expose] public section

set_option maxRecDepth 16384

noncomputable section

open Idealize.ShloMosaic Cert.KernelIdeal

namespace Cert.Stick

/-- A matrix of reals as a vector of extended reals (of any float format: they are all the extended reals). -/
def up {a b : Nat} (φ : FTy) (f : ℕ → ℕ → ℝ) : FVec Ideal ⟨2, ![a, b]⟩ φ := fun j => ((f (j 0).val (j 1).val : ℝ) : EReal)

/-- A mask as the vector of one-bit words a program compares out. -/
def mk {a b : Nat} (P : ℕ → ℕ → Bool) : IVec ⟨2, ![a, b]⟩ 1 := fun j => BitVec.ofBool (P (j 0).val (j 1).val)

section
variable {a b : Nat} {φ : FTy} (f g : ℕ → ℕ → ℝ)

theorem up_apply (i : Fin a) (j : Fin b) : up φ f (ix2 i j) = ((f i.val j.val : ℝ) : EReal) := rfl

/-- Two matrices that agree inside the shape are one vector. -/
theorem up_congr {f g : ℕ → ℕ → ℝ} (h : ∀ i < a, ∀ j < b, f i j = g i j) : up (a := a) (b := b) φ f = up φ g := by
  funext j; exact congrArg _ (h _ (j 0).isLt _ (j 1).isLt)

theorem addf_up : addf (up (a := a) (b := b) φ f) (up φ g) = up φ (fun i j => f i j + g i j) := by
  funext j; exact (EReal.coe_add _ _).symm

theorem subf_up : subf (up (a := a) (b := b) φ f) (up φ g) = up φ (fun i j => f i j - g i j) := by
  funext j; exact (EReal.coe_sub _ _).symm

theorem mulf_up : mulf (up (a := a) (b := b) φ f) (up φ g) = up φ (fun i j => f i j * g i j) := by
  funext j; exact (EReal.coe_mul _ _).symm

theorem maximumf_up : maximumf (up (a := a) (b := b) φ f) (up φ g) = up φ (fun i j => max (f i j) (g i j)) := by
  funext j; exact max_coe _ _

theorem absf_up : absf (up (a := a) (b := b) φ f) = up φ (fun i j => |f i j|) := by
  funext j
  show max ((f _ _ : ℝ) : EReal) (-((f _ _ : ℝ) : EReal)) = _
  rw [← EReal.coe_neg, max_coe]; rfl

theorem exp_up : exp (up (a := a) (b := b) φ f) = up φ (fun i j => Real.exp (f i j)) := rfl

theorem log_up (h : ∀ i j, 0 < f i j) : log (up (a := a) (b := b) φ f) = up φ (fun i j => Real.log (f i j)) := by
  funext j; exact log_coe (h _ _)

theorem reciprocal_up (h : ∀ i j, f i j ≠ 0) : reciprocal true (up (a := a) (b := b) φ f) = up φ (fun i j => 1 / f i j) := by
  funext j; exact div_coe_coe (x := 1) (h _ _)

theorem select_up (P : ℕ → ℕ → Bool) :
    select (mk P) (up (a := a) (b := b) φ f) (up φ g) = up φ (fun i j => if P i j then f i j else g i j) := by
  funext j
  show (if BitVec.ofBool (P (j 0) (j 1)) = 1#1 then _ else _) = _
  cases h : P (j 0) (j 1) <;> simp [up, h]

theorem cmpf_oge_up : cmpf .oge (up (a := a) (b := b) φ f) (up φ g) = mk (fun i j => decide (g i j ≤ f i j)) := by
  funext j
  show BitVec.ofBool (decide (((g _ _ : ℝ) : EReal) ≤ ((f _ _ : ℝ) : EReal))) = _
  simp [mk, EReal.coe_le_coe_iff]

theorem zero_up : broadcast (⟨2, ![a, b]⟩ : Shape) (Scalar.ofBits (F := Ideal) .f32 0x00000000#32) = up .f32 (fun _ _ => 0) := by
  funext j; exact Ideal.ofBits_zero_f32

theorem one_up : broadcast (⟨2, ![a, b]⟩ : Shape) (Scalar.ofBits (F := Ideal) .f32 0x3F800000#32) = up .f32 (fun _ _ => 1) := by
  funext j; exact Ideal.ofBits_one_f32

theorem scale_up : broadcast (⟨2, ![a, b]⟩ : Shape) (Scalar.ofBits (F := Ideal) .f32 0x3DB504F3#32) = up .f32 (fun _ _ => scale) := by
  funext j; exact scale_eq

theorem truncf_up (h : FTy.bits .bf16 < FTy.bits .f32) : truncf .bf16 (up (a := a) (b := b) .f32 f) h = up .bf16 f := rfl
theorem extf_up (h : FTy.bits .bf16 < FTy.bits .f32) : extf .f32 (up (a := a) (b := b) .bf16 f) h = up .f32 f := rfl

end

/-! ### Layout operations -/

/-- A matrix from column `o` on. -/
def cols (o : ℕ) (x : ℕ → ℕ → ℝ) : ℕ → ℕ → ℝ := fun i j => x i (o + j)

section
variable {φ : FTy} (x y : ℕ → ℕ → ℝ)

theorem slice0_up (h) : extractStridedSlice S512x128 ![0, 0] (up (a := 512) (b := 512) φ x) h = up φ (cols 0 x) := by
  funext j; idx_vars j; pointwise [up, cols]
theorem slice1_up (h) : extractStridedSlice S512x128 ![0, 128] (up (a := 512) (b := 512) φ x) h = up φ (cols 128 x) := by
  funext j; idx_vars j; pointwise [up, cols]
theorem slice2_up (h) : extractStridedSlice S512x128 ![0, 256] (up (a := 512) (b := 512) φ x) h = up φ (cols 256 x) := by
  funext j; idx_vars j; pointwise [up, cols]
theorem slice3_up (h) : extractStridedSlice S512x128 ![0, 384] (up (a := 512) (b := 512) φ x) h = up φ (cols 384 x) := by
  funext j; idx_vars j; pointwise [up, cols]

/-- The left and the right half of a matrix of 256 columns. -/
theorem left_up (h) : extractStridedSlice S512x128 ![0, 0] (up (a := 512) (b := 256) φ x) h = up φ x := by
  funext j; idx_vars j; pointwise [up]
theorem right_up (h) : extractStridedSlice S512x128 ![0, 128] (up (a := 512) (b := 256) φ x) h = up φ (cols 128 x) := by
  funext j; idx_vars j; pointwise [up, cols]
/-- The upper half of a scan table. -/
theorem upper_up (h) : extractStridedSlice S128x256 ![0, 0] (up (a := 256) (b := 256) φ x) h = up φ x := by
  funext j; idx_vars j; pointwise [up]

theorem cast_up (h) : shapeCast S512x128 (up (a := 512) (b := 128) φ x) h = up φ x := shapeCast_self _ _

/-- Two matrices of 128 columns side by side. -/
theorem beside_up (h) :
    concatenate S512x256 1 [⟨S512x128, up φ x⟩, ⟨S512x128, up φ y⟩] h
      = up φ (fun i j => if j < 128 then x i j else y i (j - 128)) := by
  funext j; idx_vars j; pointwise [up]; split <;> simp_all

/-- Four matrices of 128 columns side by side, each the columns of one matrix. -/
theorem four_up (h) :
    concatenate S512x512 1 [⟨S512x128, up φ (cols 0 x)⟩, ⟨S512x128, up φ (cols 128 x)⟩, ⟨S512x128, up φ (cols 256 x)⟩, ⟨S512x128, up φ (cols 384 x)⟩] h
      = up φ x := by
  funext j; idx_vars j; pointwise [up, cols]
  split
  · simp
  · split
    · congr 2; omega
    · split
      · congr 2; omega
      · congr 2; omega

/-! ### Products -/

/-- Row of one matrix against row of the other. -/
theorem dot_nt_up :
    matmul dot_S512x128_S512x128_S512x512_1_1_0_0_n_n none (up .bf16 x) (up .bf16 y) (constant S512x512 .f32 0x00000000#32)
      = up .f32 (fun i l => ∑ d ∈ Finset.range 128, x i d * y l d) := by
  funext j; idx_vars j; pointwise [up]
  simp only [← EReal.coe_mul, sum_coe, Finset.sum_range]

/-- Column of one matrix against column of the other. -/
theorem dot_tn_up :
    matmul dot_S512x512_S512x128_S512x128_0_0_1_1_n_n none (up .bf16 x) (up .bf16 y) (constant S512x128 .f32 0x00000000#32)
      = up .f32 (fun l d => ∑ i ∈ Finset.range 512, x i l * y i d) := by
  funext j; idx_vars j; pointwise [up]
  simp only [← EReal.coe_mul, sum_coe, Finset.sum_range]

/-- Row of one matrix against column of the other. -/
theorem dot_nn_up :
    matmul dot_S512x512_S512x128_S512x128_1_0_0_1_n_n none (up .bf16 x) (up .bf16 y) (constant S512x128 .f32 0x00000000#32)
      = up .f32 (fun i d => ∑ l ∈ Finset.range 512, x i l * y l d) := by
  funext j; idx_vars j; pointwise [up]
  simp only [← EReal.coe_mul, sum_coe, Finset.sum_range]

/-- Row of a matrix against column of a scan table. -/
theorem dot_scan_up :
    matmul dot_S512x256_S256x256_S512x256_1_0_0_1_n_n none (up .bf16 x) (up .bf16 y) (constant S512x256 .f32 0x00000000#32)
      = up .f32 (fun i d => ∑ l ∈ Finset.range 256, x i l * y l d) := by
  funext j; idx_vars j; pointwise [up]
  simp only [← EReal.coe_mul, sum_coe, Finset.sum_range]

/-- Row of a matrix against column of the upper half of a scan table. -/
theorem dot_half_up :
    matmul dot_S512x128_S128x256_S512x256_1_0_0_1_n_n none (up .bf16 x) (up .bf16 y) (constant S512x256 .f32 0x00000000#32)
      = up .f32 (fun i d => ∑ l ∈ Finset.range 128, x i l * y l d) := by
  funext j; idx_vars j; pointwise [up]
  simp only [← EReal.coe_mul, sum_coe, Finset.sum_range]

end

end Cert.Stick

end
-- ==== Proof.Scan.lean ====
/-
  The kernel's running sums over the reals. A row of 512 numbers is summed in four blocks of 128, each by a product with a
  table of zeros and ones whose left half makes the block's running sums and whose right half its total; the carry is the
  sum of what came before.
-/
module

public import proofs.«01_k».proof.Proof.Up

@[expose] public section

set_option maxRecDepth 16384

noncomputable section

open Idealize.ShloMosaic Cert.KernelIdeal

namespace Cert.Stick

open Finset

/-- The table of the inclusive scan: ones where the row is not past the column in its left half, all ones in its right
    half; its lower half repeats the upper. -/
def tabIn : ℕ → ℕ → ℝ := fun j s => if s < 128 then (if j % 128 ≤ s then 1 else 0) else 1

/-- The table of the exclusive scan. -/
def tabEx : ℕ → ℕ → ℝ := fun j s => if s < 128 then (if j % 128 < s then 1 else 0) else 1

/-- What is carried past the first `o` columns of a row. -/
def carry (x : ℕ → ℕ → ℝ) (c : ℕ → ℝ) (o : ℕ) : ℕ → ℕ → ℝ := fun i _ => c i + ∑ l ∈ range o, x i l

/-- The running sum of a row, on top of what is carried in. -/
def runIn (x : ℕ → ℕ → ℝ) (c : ℕ → ℝ) : ℕ → ℕ → ℝ := fun i l => c i + ∑ l' ∈ range (l + 1), x i l'

/-- The running sum of a row before the element itself. -/
def runEx (x : ℕ → ℕ → ℝ) (c : ℕ → ℝ) : ℕ → ℕ → ℝ := fun i l => c i + ∑ l' ∈ range l, x i l'

/-- A product with a table of the inclusive scan, its second half against zeros. -/
def prodIn (x : ℕ → ℕ → ℝ) (o : ℕ) : ℕ → ℕ → ℝ := fun i s => ∑ l ∈ range 256, (if l < 128 then cols o x i l else 0) * tabIn l s

/-- A product with the upper half of a table of the exclusive scan. -/
def prodEx (x : ℕ → ℕ → ℝ) (o : ℕ) : ℕ → ℕ → ℝ := fun i s => ∑ l ∈ range 128, cols o x i l * tabEx l s

theorem sum_range_le (f : ℕ → ℝ) {n j : ℕ} (h : j < n) : ∑ l ∈ range n, (if l ≤ j then f l else 0) = ∑ l ∈ range (j + 1), f l := by
  rw [← Finset.sum_filter]
  refine Finset.sum_congr (Finset.ext fun l => ?_) fun _ _ => rfl
  simp only [mem_filter, mem_range]; omega

theorem sum_range_lt (f : ℕ → ℝ) {n j : ℕ} (h : j ≤ n) : ∑ l ∈ range n, (if l < j then f l else 0) = ∑ l ∈ range j, f l := by
  rw [← Finset.sum_filter]
  refine Finset.sum_congr (Finset.ext fun l => ?_) fun _ _ => rfl
  simp only [mem_filter, mem_range]; omega

section
variable (x : ℕ → ℕ → ℝ) (c : ℕ → ℝ) (o : ℕ)

theorem prodIn_eq (i s : ℕ) : prodIn x o i s = ∑ l ∈ range 128, cols o x i l * tabIn l s := by
  unfold prodIn
  rw [show 256 = 128 + 128 from rfl, sum_range_add, add_eq_left.mpr]
  · refine sum_congr rfl fun l hl => ?_
    rw [if_pos (mem_range.mp hl)]
  · refine sum_eq_zero fun l _ => ?_
    rw [if_neg (by omega), zero_mul]

theorem prodIn_left (i : ℕ) {j : ℕ} (hj : j < 128) : prodIn x o i j + carry x c o i j = cols o (runIn x c) i j := by
  rw [prodIn_eq]
  unfold carry cols runIn tabIn
  rw [show o + j + 1 = o + (j + 1) by omega, sum_range_add, ← sum_range_le (fun l => x i (o + l)) hj, add_comm, add_assoc]
  congr 2
  refine sum_congr rfl fun l hl => ?_
  rw [if_pos hj, Nat.mod_eq_of_lt (mem_range.mp hl)]; split <;> simp

theorem prodIn_right (i : ℕ) {j : ℕ} : carry x c o i j + cols 128 (prodIn x o) i j = carry x c (o + 128) i j := by
  show _ + prodIn x o i (128 + j) = _
  rw [prodIn_eq]
  unfold carry cols tabIn
  rw [sum_range_add, add_assoc]
  congr 2
  refine sum_congr rfl fun l _ => ?_
  rw [if_neg (by omega), mul_one]

theorem prodEx_left (i : ℕ) {j : ℕ} (hj : j < 128) : prodEx x o i j + carry x c o i j = cols o (runEx x c) i j := by
  unfold prodEx carry cols runEx tabEx
  rw [sum_range_add, ← sum_range_lt (fun l => x i (o + l)) (n := 128) hj.le, add_comm, add_assoc]
  congr 2
  refine sum_congr rfl fun l hl => ?_
  rw [if_pos hj, Nat.mod_eq_of_lt (mem_range.mp hl)]; split <;> simp

theorem prodEx_right (i : ℕ) {j : ℕ} : carry x c o i j + cols 128 (prodEx x o) i j = carry x c (o + 128) i j := by
  show _ + prodEx x o i (128 + j) = _
  unfold prodEx carry cols tabEx
  rw [sum_range_add, add_assoc]
  congr 2
  refine sum_congr rfl fun l _ => ?_
  rw [if_neg (by omega), mul_one]

/-! The same as vectors. -/

theorem partIn_up : addf (up (a := 512) (b := 128) .f32 (prodIn x o)) (up .f32 (carry x c o)) = up .f32 (cols o (runIn x c)) := by
  rw [addf_up]; exact up_congr fun i _ j hj => prodIn_left x c o i hj

theorem carryIn_up : addf (up (a := 512) (b := 128) .f32 (carry x c o)) (up .f32 (cols 128 (prodIn x o))) = up .f32 (carry x c (o + 128)) := by
  rw [addf_up]; exact up_congr fun i _ j _ => prodIn_right x c o i

theorem partEx_up : addf (up (a := 512) (b := 128) .f32 (prodEx x o)) (up .f32 (carry x c o)) = up .f32 (cols o (runEx x c)) := by
  rw [addf_up]; exact up_congr fun i _ j hj => prodEx_left x c o i hj

theorem carryEx_up : addf (up (a := 512) (b := 128) .f32 (carry x c o)) (up .f32 (cols 128 (prodEx x o))) = up .f32 (carry x c (o + 128)) := by
  rw [addf_up]; exact up_congr fun i _ j _ => prodEx_right x c o i

/-- A block and the (zero) rest of its rounding, side by side, times the table. -/
theorem prodIn_up (h) :
    matmul dot_S512x256_S256x256_S512x256_1_0_0_1_n_n none
        (concatenate S512x256 1 [⟨S512x128, up .bf16 (cols o x)⟩, ⟨S512x128, up .bf16 (fun _ _ => 0)⟩] h)
        (up .bf16 tabIn) (constant S512x256 .f32 0x00000000#32)
      = up .f32 (prodIn x o) := by
  rw [beside_up, dot_scan_up]; rfl

theorem prodEx_up :
    matmul dot_S512x128_S128x256_S512x256_1_0_0_1_n_n none (up .bf16 (cols o x)) (up .bf16 tabEx) (constant S512x256 .f32 0x00000000#32)
      = up .f32 (prodEx x o) := dot_half_up _ _

end

end Cert.Stick

end
-- ==== Proof.Step.lean ====
module
public import proofs.«01_k».proof.Proof.Scan
public import proofs.«01_k».proof.Proof.Gen.KernelIdeal.Skeleton
@[expose] public section
set_option maxRecDepth 16384

/-!
# One tile of scores, over the reals

The loop of the kernel takes one block of 512 keys at a time against a block of 512 queries.  What one turn computes,
from a tile `q` of queries, a tile `d` of incoming gradients, the queries' totals `t`, the blocks `k` and `v`, and the two
sums `c` and `e` carried so far, is written here as functions of reals, and every value the program names inside the
turn is read as one of them.  `P` says which pairs of a query and a key take part: all of them below the diagonal, those
before the query on the diagonal.
-/

noncomputable section
open Finset Idealize.ShloMosaic Cert.KernelIdeal Cert.KernelIdeal.Gen
namespace Cert.Stick

/-- The scores of a tile. -/
def zT (q k : ℕ → ℕ → ℝ) : ℕ → ℕ → ℝ := fun i l => (∑ d ∈ range 128, q i d * k l d) * scale
/-- The exponential the program shares between its uses of a score. -/
def eT (z : ℕ → ℕ → ℝ) : ℕ → ℕ → ℝ := fun i l => Real.exp (0 - |z i l|)
/-- The logarithm of what a key leaves of the stick. -/
def lkT (P : ℕ → ℕ → Bool) (z : ℕ → ℕ → ℝ) : ℕ → ℕ → ℝ := fun i l => if P i l then keepLog (z i l) else 0
/-- The attention weights. -/
def aT (P : ℕ → ℕ → Bool) (z lk : ℕ → ℕ → ℝ) (t c : ℕ → ℝ) : ℕ → ℕ → ℝ :=
  fun i l => if P i l then Real.exp (z i l + lk i l + (t i - runIn lk c i l)) else 0
/-- The gradients of the weights' logarithms. -/
def gT (d v a : ℕ → ℕ → ℝ) : ℕ → ℕ → ℝ := fun i l => (∑ e ∈ range 128, d i e * v l e) * a i l
/-- The gradients of the scores. -/
def dzT (P : ℕ → ℕ → Bool) (z g p : ℕ → ℕ → ℝ) : ℕ → ℕ → ℝ :=
  fun i l => if P i l then g i l * (1 - sgm (z i l)) - sgm (z i l) * p i l else 0

/-- Two tiles side by side. -/
def beside (a b : FVec Ideal S512x128 .bf16) : FVec Ideal S512x256 .bf16 :=
  concatenate S512x256 1 [⟨S512x128, a⟩, ⟨S512x128, b⟩] concatenates_S512x128_S512x128_S512x256_d1
/-- Four tiles side by side. -/
def four (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem beside_fold (a b : FVec Ideal S512x128 .bf16) (h) : concatenate S512x256 1 [⟨S512x128, a⟩, ⟨S512x128, b⟩] h = beside a b := rfl
theorem four_fold (a b c d : FVec Ideal S512x128 .f32) (h) :
    concatenate S512x512 1 [⟨S512x128, a⟩, ⟨S512x128, b⟩, ⟨S512x128, c⟩, ⟨S512x128, d⟩] h = four a b c d := rfl

variable (P : ℕ → ℕ → Bool) (q d k v z lk g p a x y : ℕ → ℕ → ℝ) (t c e : ℕ → ℝ)

theorem prodIn_beside (o : ℕ) :
    matmul dot_S512x256_S256x256_S512x256_1_0_0_1_n_n none (beside (up .bf16 (cols o x)) (up .bf16 (fun _ _ => 0))) (up .bf16 tabIn)
        (constant S512x256 .f32 0x00000000#32) = up .f32 (prodIn x o) := prodIn_up x o _

theorem four_cols : four (up .f32 (cols 0 x)) (up .f32 (cols 128 x)) (up .f32 (cols 256 x)) (up .f32 (cols 384 x)) = up .f32 x := four_up x _

theorem carry_zero : (fun i _ => c i) = carry x c 0 := by
  funext i j; simp [carry]

/-! ### Below the diagonal -/

theorem pay4_up : k0_pay4 (F := Ideal) (up .bf16 k) = up .bf16 k := cast_up _ _

theorem pay5_up : k0_pay5 (F := Ideal) (up .bf16 q) (up .bf16 k) = up .f32 (zT q k) := by
  simp only [k0_pay5, pay4_up, dot_nt_up, scale_up, mulf_up]; rfl

theorem pay6_up : k0_pay6 (F := Ideal) (up .bf16 q) (up .bf16 k) = up .f32 (eT (zT q k)) := by
  simp only [k0_pay6, pay5_up, absf_up, zero_up, subf_up, exp_up]; rfl

theorem eT_pos (i l : ℕ) : 0 < 1 + eT z i l := add_pos one_pos (Real.exp_pos _)

theorem zeros_cols (o : ℕ) : cols o (fun _ _ => 0) = fun _ _ => 0 := rfl

theorem pay18_up : k0_pay18 (F := Ideal) (up .f32 (carry lk c 256)) (up .f32 (prodIn lk 256)) = up .f32 (carry lk c 384) := by
  simp only [k0_pay18, right_up, carryIn_up]

theorem pay19_up : k0_pay19 (F := Ideal) (up .bf16 tabIn) (up .bf16 lk) (up .bf16 (fun _ _ => 0)) = up .f32 (prodIn lk 384) := by
  simp only [k0_pay19, slice3_up, zeros_cols, beside_fold, prodIn_beside]

theorem pay20_up : k0_pay20 (F := Ideal) (up .bf16 tabIn) (up .bf16 lk) (up .bf16 (fun _ _ => 0)) (up .f32 (carry lk c 256)) (up .f32 (prodIn lk 256))
    = up .f32 (carry lk c 512) := by
  simp only [k0_pay20, pay18_up, pay19_up, right_up, carryIn_up]

theorem pay24_up : k0_pay24 (F := Ideal) (up .bf16 tabEx) = up .bf16 tabEx := upper_up _ slices_S256x256_o0_0_S128x256

theorem pay34_up : k0_pay34 (F := Ideal) = up .f32 (fun _ _ => 1) := one_up

/-- The two halves of the sigmoid, by the sign of the score. -/
theorem sig_hi (s : ℝ) : (if decide (0 ≤ s) = true then Real.exp (0 - |s|) * (1 / (1 + Real.exp (0 - |s|))) else 1 / (1 + Real.exp (0 - |s|))) = 1 - sgm s := by
  by_cases h : 0 ≤ s
  · simp only [h, decide_true, if_true]; exact sig_compl_of_nonneg h
  · simp only [h, decide_false, Bool.false_eq_true, if_false]; exact sig_compl_of_neg (not_le.mp h)
theorem sig_lo (s : ℝ) : (if decide (0 ≤ s) = true then 1 / (1 + Real.exp (0 - |s|)) else Real.exp (0 - |s|) * (1 / (1 + Real.exp (0 - |s|)))) = sgm s := by
  by_cases h : 0 ≤ s
  · simp only [h, decide_true, if_true]; exact sig_of_nonneg h
  · simp only [h, decide_false, Bool.false_eq_true, if_false]; exact sig_of_neg (not_le.mp h)

theorem pay76_up : k0_pay76 (F := Ideal) (up .bf16 d) (up .f32 a) (up .f32 x) = up .f32 (fun l s => x l s + ∑ i ∈ range 512, a i l * d i s) := by
  simp only [k0_pay76, truncf_up, dot_tn_up, addf_up, cast_up]

section
variable {P} (hP : ∀ i < 512, ∀ l < 512, P i l = true)
include hP

theorem pay7_up : k0_pay7 (F := Ideal) (up .bf16 q) (up .bf16 k) = up .f32 (lkT P (zT q k)) := by
  simp only [k0_pay7, pay5_up, pay6_up, zero_up, one_up, maximumf_up, subf_up, addf_up]
  rw [log_up _ (eT_pos _), subf_up]
  exact up_congr fun i hi l hl => by unfold lkT; rw [if_pos (hP i hi l hl), ← keepLog_eq]; rfl

theorem pay8_up : k0_pay8 (F := Ideal) (up .bf16 q) (up .bf16 k) = up .bf16 (lkT P (zT q k)) := by
  simp only [k0_pay8, pay7_up (hP := hP), truncf_up]

theorem pay9_up : k0_pay9 (F := Ideal) (up .bf16 q) (up .bf16 k) = up .bf16 (fun _ _ => 0) := by
  simp only [k0_pay9, pay7_up (hP := hP), pay8_up (hP := hP), extf_up, subf_up, truncf_up, sub_self]

theorem pay10_up : k0_pay10 (F := Ideal) (up .bf16 q) (up .bf16 k) (up .bf16 tabIn) = up .f32 (prodIn (lkT P (zT q k)) 0) := by
  simp only [k0_pay10, pay8_up (hP := hP), pay9_up (hP := hP), slice0_up, zeros_cols, beside_fold, prodIn_beside]

theorem pay11_up : k0_pay11 (F := Ideal) (up .bf16 q) (up .f32 (fun i _ => c i)) (up .bf16 k) (up .bf16 tabIn)
    = up .f32 (cols 0 (runIn (lkT P (zT q k)) c)) := by
  rw [carry_zero (lkT P (zT q k))]
  simp only [k0_pay11, pay10_up (hP := hP), left_up, partIn_up]

theorem pay12_up : k0_pay12 (F := Ideal) (up .bf16 q) (up .f32 (fun i _ => c i)) (up .bf16 k) (up .bf16 tabIn)
    = up .f32 (carry (lkT P (zT q k)) c 128) := by
  rw [carry_zero (lkT P (zT q k))]
  simp only [k0_pay12, pay10_up (hP := hP), right_up, carryIn_up]

theorem pay13_up : k0_pay13 (F := Ideal) (up .bf16 q) (up .bf16 k) (up .bf16 tabIn) = up .f32 (prodIn (lkT P (zT q k)) 128) := by
  simp only [k0_pay13, pay8_up (hP := hP), pay9_up (hP := hP), slice1_up, zeros_cols, beside_fold, prodIn_beside]

theorem pay14_up : k0_pay14 (F := Ideal) (up .bf16 q) (up .f32 (fun i _ => c i)) (up .bf16 k) (up .bf16 tabIn)
    = up .f32 (cols 128 (runIn (lkT P (zT q k)) c)) := by
  simp only [k0_pay14, pay12_up (hP := hP), pay13_up (hP := hP), left_up, partIn_up]

theorem pay15_up : k0_pay15 (F := Ideal) (up .bf16 q) (up .f32 (fun i _ => c i)) (up .bf16 k) (up .bf16 tabIn)
    = up .f32 (carry (lkT P (zT q k)) c 256) := by
  simp only [k0_pay15, pay12_up (hP := hP), pay13_up (hP := hP), right_up, carryIn_up]

theorem pay16_up : k0_pay16 (F := Ideal) (up .bf16 q) (up .bf16 k) (up .bf16 tabIn) = up .f32 (prodIn (lkT P (zT q k)) 256) := by
  simp only [k0_pay16, pay8_up (hP := hP), pay9_up (hP := hP), slice2_up, zeros_cols, beside_fold, prodIn_beside]

theorem pay17_up : k0_pay17 (F := Ideal) (up .bf16 q) (up .bf16 k) (up .bf16 tabIn) = up .f32 (prodIn (lkT P (zT q k)) 256) := by
  simp only [k0_pay17, pay16_up (hP := hP), left_up]

theorem pay21_up : k0_pay21 (F := Ideal) (up .f32 (fun i _ => t i)) (up .f32 z) (up .f32 lk) (up .bf16 tabIn) (up .bf16 lk) (up .bf16 (fun _ _ => 0))
      (up .f32 (cols 0 (runIn lk c))) (up .f32 (cols 128 (runIn lk c))) (up .f32 (carry lk c 256)) (up .f32 (prodIn lk 256)) (up .f32 (prodIn lk 256))
    = up .f32 (aT P z lk t c) := by
  simp only [k0_pay21, pay18_up, pay19_up, left_up, partIn_up, four_fold, four_cols]
  simp only [addf_up, subf_up, exp_up]
  exact up_congr fun i hi l hl => by unfold aT; rw [if_pos (hP i hi l hl)]

theorem pay22_up : k0_pay22 (F := Ideal) (up .bf16 d) (up .f32 (fun i _ => t i)) (up .f32 z) (up .f32 lk) (up .bf16 tabIn) (up .bf16 lk) (up .bf16 (fun _ _ => 0))
      (up .f32 (cols 0 (runIn lk c))) (up .f32 (cols 128 (runIn lk c))) (up .f32 (carry lk c 256)) (up .f32 (prodIn lk 256)) (up .f32 (prodIn lk 256)) (up .bf16 v)
    = up .f32 (gT d v (aT P z lk t c)) := by
  simp only [k0_pay22, pay21_up (hP := hP), cast_up, dot_nt_up, mulf_up]; rfl

theorem pay23_up : k0_pay23 (F := Ideal) (up .bf16 d) (up .f32 (fun i _ => t i)) (up .f32 z) (up .f32 lk) (up .bf16 tabIn) (up .bf16 lk) (up .bf16 (fun _ _ => 0))
      (up .f32 (cols 0 (runIn lk c))) (up .f32 (cols 128 (runIn lk c))) (up .f32 (carry lk c 256)) (up .f32 (prodIn lk 256)) (up .f32 (prodIn lk 256)) (up .bf16 v)
    = up .bf16 (gT d v (aT P z lk t c)) := by
  simp only [k0_pay23, pay22_up (hP := hP), truncf_up]

theorem pay32_up : k0_pay32 (F := Ideal) (up .bf16 d) (up .f32 (fun i _ => t i)) (up .f32 (fun i _ => e i)) (up .f32 z) (up .f32 lk) (up .bf16 tabIn) (up .bf16 lk) (up .bf16 (fun _ _ => 0))
      (up .f32 (cols 0 (runIn lk c))) (up .f32 (cols 128 (runIn lk c))) (up .f32 (carry lk c 256)) (up .f32 (prodIn lk 256)) (up .f32 (prodIn lk 256)) (up .bf16 v) (up .bf16 tabEx)
    = up .f32 (carry (gT d v (aT P z lk t c)) e 512) := by
  rw [carry_zero (gT d v (aT P z lk t c)) e]
  simp only [k0_pay32, k0_pay31, k0_pay30, k0_pay29, k0_pay28, k0_pay27, k0_pay26, k0_pay25, pay23_up (hP := hP), pay24_up, slice0_up, slice1_up, slice2_up, slice3_up,
    prodEx_up, right_up, carryEx_up]

theorem pay33_up : k0_pay33 (F := Ideal) (up .bf16 d) (up .f32 (fun i _ => t i)) (up .f32 (fun i _ => e i)) (up .f32 z) (up .f32 lk) (up .bf16 tabIn) (up .bf16 lk) (up .bf16 (fun _ _ => 0))
      (up .f32 (cols 0 (runIn lk c))) (up .f32 (cols 128 (runIn lk c))) (up .f32 (carry lk c 256)) (up .f32 (prodIn lk 256)) (up .f32 (prodIn lk 256)) (up .bf16 v) (up .bf16 tabEx)
    = up .f32 (runEx (gT d v (aT P z lk t c)) e) := by
  rw [carry_zero (gT d v (aT P z lk t c)) e]
  simp only [k0_pay33, k0_pay31, k0_pay30, k0_pay29, k0_pay28, k0_pay27, k0_pay26, k0_pay25, pay23_up (hP := hP), pay24_up, slice0_up, slice1_up, slice2_up, slice3_up,
    prodEx_up, left_up, right_up, carryEx_up, partEx_up, four_fold, four_cols]

theorem pay74_up : k0_pay74 (F := Ideal) (up .f32 z) (up .f32 (eT z)) (up .f32 g) (up .f32 p) (up .f32 (fun _ _ => 1)) = up .bf16 (dzT P z g p) := by
  simp only [k0_pay74, addf_up]
  rw [reciprocal_up _ (fun i l => (eT_pos z i l).ne')]
  simp only [mulf_up, zero_up, cmpf_oge_up, select_up, subf_up, truncf_up, eT, sig_hi, sig_lo]
  exact up_congr fun i hi l hl => by unfold dzT; rw [if_pos (hP i hi l hl)]

theorem pay75_up : k0_pay75 (F := Ideal) (up .bf16 q) (up .f32 z) (up .f32 (eT z)) (up .f32 g) (up .f32 p) (up .f32 (fun _ _ => 1)) (up .f32 x)
    = up .f32 (fun l s => x l s + (∑ i ∈ range 512, dzT P z g p i l * q i s) * scale) := by
  simp only [k0_pay75, pay74_up (hP := hP), dot_tn_up, scale_up, mulf_up, addf_up, cast_up]

theorem pay77_up : k0_pay77 (F := Ideal) (up .f32 x) (up .bf16 k) (up .f32 z) (up .f32 (eT z)) (up .f32 g) (up .f32 p) (up .f32 (fun _ _ => 1))
    = up .f32 (fun i s => x i s + ∑ l ∈ range 512, dzT P z g p i l * k l s) := by
  simp only [k0_pay77, pay74_up (hP := hP), dot_nn_up, addf_up]

end

/-! ### On the diagonal -/

section
variable {v13 v14 : IVec S512x512 32} {v32 : BitVec 32}

theorem pay82_up : k0_pay82 (F := Ideal) (up .bf16 k) = up .bf16 k := cast_up _ _

theorem pay83_up : k0_pay83 (F := Ideal) (up .bf16 q) (up .bf16 k) = up .f32 (zT q k) := by
  simp only [k0_pay83, pay82_up, dot_nt_up, scale_up, mulf_up]; rfl

theorem pay84_up : k0_pay84 (F := Ideal) (up .bf16 q) (up .bf16 k) = up .f32 (eT (zT q k)) := by
  simp only [k0_pay84, pay83_up, absf_up, zero_up, subf_up, exp_up]; rfl

variable {P} (h : k0_pay85 v13 v14 v32 = mk P)
include h

theorem pay86_up : k0_pay86 (F := Ideal) (up .bf16 q) v13 v14 v32 (up .bf16 k) = up .f32 (lkT P (zT q k)) := by
  simp only [k0_pay86, pay83_up, pay84_up, zero_up, one_up, maximumf_up, subf_up, addf_up, h]
  rw [log_up _ (eT_pos _), subf_up, select_up]
  exact up_congr fun i _ l _ => by unfold lkT; rw [← keepLog_eq]; rfl

theorem pay87_up : k0_pay87 (F := Ideal) (up .bf16 q) v13 v14 v32 (up .bf16 k) = up .bf16 (lkT P (zT q k)) := by
  simp only [k0_pay87, pay86_up q k h, truncf_up]

theorem pay88_up : k0_pay88 (F := Ideal) (up .bf16 q) v13 v14 v32 (up .bf16 k) = up .bf16 (fun _ _ => 0) := by
  simp only [k0_pay88, pay86_up q k h, pay87_up q k h, extf_up, subf_up, truncf_up, sub_self]

theorem pay90_up : k0_pay90 (F := Ideal) (up .bf16 q) v13 v14 v32 (up .f32 (fun i _ => c i)) (up .bf16 k) (up .bf16 tabIn)
    = up .f32 (cols 0 (runIn (lkT P (zT q k)) c)) := by
  rw [carry_zero (lkT P (zT q k))]
  simp only [k0_pay90, k0_pay89, pay87_up q k h, pay88_up q k h, slice0_up, zeros_cols, beside_fold, prodIn_beside, left_up, partIn_up]

theorem pay91_up : k0_pay91 (F := Ideal) (up .bf16 q) v13 v14 v32 (up .f32 (fun i _ => c i)) (up .bf16 k) (up .bf16 tabIn)
    = up .f32 (carry (lkT P (zT q k)) c 128) := by
  rw [carry_zero (lkT P (zT q k))]
  simp only [k0_pay91, k0_pay89, pay87_up q k h, pay88_up q k h, slice0_up, zeros_cols, beside_fold, prodIn_beside, right_up, carryIn_up]

end

theorem pay92_up : k0_pay92 (F := Ideal) (up .f32 (fun i _ => t i)) (up .f32 z) (mk P) (up .f32 lk) (up .bf16 tabIn) (up .bf16 lk) (up .bf16 (fun _ _ => 0))
      (up .f32 (cols 0 (runIn lk c))) (up .f32 (carry lk c 128))
    = up .f32 (aT P z lk t c) := by
  simp only [k0_pay92, slice1_up, slice2_up, slice3_up, zeros_cols, beside_fold, prodIn_beside, left_up, right_up, partIn_up, carryIn_up, four_fold, four_cols, zero_up]
  simp only [addf_up, subf_up, exp_up, select_up]
  rfl

theorem pay93_up : k0_pay93 (F := Ideal) (up .bf16 d) (up .f32 (fun i _ => t i)) (up .f32 z) (mk P) (up .f32 lk) (up .bf16 tabIn) (up .bf16 lk) (up .bf16 (fun _ _ => 0))
      (up .f32 (cols 0 (runIn lk c))) (up .f32 (carry lk c 128)) (up .bf16 v)
    = up .f32 (gT d v (aT P z lk t c)) := by
  simp only [k0_pay93, pay92_up, cast_up, dot_nt_up, mulf_up]; rfl

theorem pay94_up : k0_pay94 (F := Ideal) (up .bf16 d) (up .f32 (fun i _ => t i)) (up .f32 z) (mk P) (up .f32 lk) (up .bf16 tabIn) (up .bf16 lk) (up .bf16 (fun _ _ => 0))
      (up .f32 (cols 0 (runIn lk c))) (up .f32 (carry lk c 128)) (up .bf16 v)
    = up .bf16 (gT d v (aT P z lk t c)) := by
  simp only [k0_pay94, pay93_up, truncf_up]

theorem pay95_up : k0_pay95 (F := Ideal) (up .bf16 tabEx) = up .bf16 tabEx := upper_up _ slices_S256x256_o0_0_S128x256

theorem pay97_up : k0_pay97 (F := Ideal) (up .bf16 d) (up .f32 (fun i _ => t i)) (up .f32 (fun i _ => e i)) (up .f32 z) (mk P) (up .f32 lk) (up .bf16 tabIn) (up .bf16 lk) (up .bf16 (fun _ _ => 0))
      (up .f32 (cols 0 (runIn lk c))) (up .f32 (carry lk c 128)) (up .bf16 v) (up .bf16 tabEx)
    = up .f32 (cols 0 (runEx (gT d v (aT P z lk t c)) e)) := by
  rw [carry_zero (gT d v (aT P z lk t c)) e]
  simp only [k0_pay97, k0_pay96, pay94_up, pay95_up, slice0_up, prodEx_up, left_up, partEx_up]

theorem pay98_up : k0_pay98 (F := Ideal) (up .bf16 d) (up .f32 (fun i _ => t i)) (up .f32 (fun i _ => e i)) (up .f32 z) (mk P) (up .f32 lk) (up .bf16 tabIn) (up .bf16 lk) (up .bf16 (fun _ _ => 0))
      (up .f32 (cols 0 (runIn lk c))) (up .f32 (carry lk c 128)) (up .bf16 v) (up .bf16 tabEx)
    = up .f32 (carry (gT d v (aT P z lk t c)) e 128) := by
  rw [carry_zero (gT d v (aT P z lk t c)) e]
  simp only [k0_pay98, k0_pay96, pay94_up, pay95_up, slice0_up, prodEx_up, right_up, carryEx_up]

theorem pay100_up : k0_pay100 (F := Ideal) (up .bf16 d) (up .f32 (fun i _ => t i)) (up .f32 (fun i _ => e i)) (up .f32 z) (mk P) (up .f32 lk) (up .bf16 tabIn) (up .bf16 lk) (up .bf16 (fun _ _ => 0))
      (up .f32 (cols 0 (runIn lk c))) (up .f32 (carry lk c 128)) (up .bf16 v) (up .bf16 tabEx)
    = up .f32 (cols 128 (runEx (gT d v (aT P z lk t c)) e)) := by
  simp only [k0_pay100, k0_pay99, pay98_up, pay94_up, pay95_up, slice1_up, prodEx_up, left_up, partEx_up]

theorem pay101_up : k0_pay101 (F := Ideal) (up .bf16 d) (up .f32 (fun i _ => t i)) (up .f32 (fun i _ => e i)) (up .f32 z) (mk P) (up .f32 lk) (up .bf16 tabIn) (up .bf16 lk) (up .bf16 (fun _ _ => 0))
      (up .f32 (cols 0 (runIn lk c))) (up .f32 (carry lk c 128)) (up .bf16 v) (up .bf16 tabEx)
    = up .f32 (carry (gT d v (aT P z lk t c)) e 256) := by
  simp only [k0_pay101, k0_pay99, pay98_up, pay94_up, pay95_up, slice1_up, prodEx_up, right_up, carryEx_up]

theorem pay102_up : k0_pay102 (F := Ideal) (up .bf16 d) (up .f32 (fun i _ => t i)) (up .f32 z) (mk P) (up .f32 lk) (up .bf16 tabIn) (up .bf16 lk) (up .bf16 (fun _ _ => 0))
      (up .f32 (cols 0 (runIn lk c))) (up .f32 (carry lk c 128)) (up .bf16 v)
    = up .bf16 (cols 256 (gT d v (aT P z lk t c))) := by
  simp only [k0_pay102, pay94_up, slice2_up]

theorem pay103_up : k0_pay103 (F := Ideal) (up .f32 z) (up .f32 (eT z)) (mk P) (up .f32 g) (up .bf16 g) (up .bf16 tabEx) (up .f32 (cols 0 (runEx g e)))
      (up .f32 (cols 128 (runEx g e))) (up .f32 (carry g e 256)) (up .bf16 (cols 256 g))
    = up .bf16 (dzT P z g (runEx g e)) := by
  simp only [k0_pay103, slice3_up, prodEx_up, left_up, right_up, partEx_up, carryEx_up, four_fold, four_cols, zero_up, one_up]
  simp only [addf_up]
  rw [reciprocal_up _ (fun i l => (eT_pos z i l).ne')]
  simp only [mulf_up, cmpf_oge_up, select_up, subf_up, truncf_up, eT, sig_hi, sig_lo]
  rfl

theorem pay104_up : k0_pay104 (F := Ideal) (up .bf16 q) (up .f32 z) (up .f32 (eT z)) (mk P) (up .f32 g) (up .bf16 g) (up .bf16 tabEx) (up .f32 (cols 0 (runEx g e)))
      (up .f32 (cols 128 (runEx g e))) (up .f32 (carry g e 256)) (up .bf16 (cols 256 g)) (up .f32 x)
    = up .f32 (fun l s => x l s + (∑ i ∈ range 512, dzT P z g (runEx g e) i l * q i s) * scale) := by
  simp only [k0_pay104, pay103_up, dot_tn_up, scale_up, mulf_up, addf_up, cast_up]

theorem pay105_up : k0_pay105 (F := Ideal) (up .bf16 d) (up .f32 a) (up .f32 x) = up .f32 (fun l s => x l s + ∑ i ∈ range 512, a i l * d i s) := by
  simp only [k0_pay105, truncf_up, dot_tn_up, addf_up, cast_up]

theorem pay106_up : k0_pay106 (F := Ideal) (up .f32 x) (up .bf16 k) (up .f32 z) (up .f32 (eT z)) (mk P) (up .f32 g) (up .bf16 g) (up .bf16 tabEx) (up .f32 (cols 0 (runEx g e)))
      (up .f32 (cols 128 (runEx g e))) (up .f32 (carry g e 256)) (up .bf16 (cols 256 g))
    = up .f32 (fun i s => x i s + ∑ l ∈ range 512, dzT P z g (runEx g e) i l * k l s) := by
  simp only [k0_pay106, pay103_up, dot_nn_up, addf_up]

/-! ### What stands before and after -/

theorem pay1_up : k0_pay1 (F := Ideal) (up .f32 x) = up .bf16 (fun i s => x i s * scale) := by
  simp only [k0_pay1, scale_up, mulf_up, truncf_up, cast_up]

theorem pay2_up : k0_pay2 (F := Ideal) (up .f32 x) = up .bf16 x := by
  simp only [k0_pay2, truncf_up, shapeCast_self]

theorem pay3_up : k0_pay3 (F := Ideal) (up .f32 x) = up .bf16 x := by
  simp only [k0_pay3, truncf_up, shapeCast_self]

theorem pay66_up : k0_pay66 (F := Ideal) = up .f32 (fun _ _ => 0) := by
  simp only [k0_pay66, zero_up, shapeCast_self]

theorem pay67_up : k0_pay67 (F := Ideal) = up .f32 (fun _ _ => 0) := by
  simp only [k0_pay67, zero_up, shapeCast_self]

theorem pay68_up : k0_pay68 (F := Ideal) (up .bf16 q) = up .bf16 q := cast_up _ _
theorem pay69_up : k0_pay69 (F := Ideal) (up .bf16 q) = up .bf16 q := cast_up _ _

theorem pay70_up : k0_pay70 (F := Ideal) (up .f32 (fun i _ => t i)) = up .f32 (fun i _ => t i) := by
  simp only [k0_pay70, four_fold, cast_up]
  exact four_cols (fun i _ => t i)

theorem pay72_up : k0_pay72 (F := Ideal) = up .f32 (fun _ _ => 0) := zero_up
theorem pay73_up : k0_pay73 (F := Ideal) = up .f32 (fun _ _ => 0) := zero_up

end Cert.Stick

end
-- ==== Proof.Tile.lean ====
module
public import proofs.«01_k».proof.Proof.Step
@[expose] public section
set_option maxRecDepth 16384

/-!
# One block of queries against all keys, over the reals

The 512 queries of a block meet the 4096 keys of their head.  What the whole sweep computes is written in one piece per
quantity, as functions of the key's number in the head; a block of 512 keys, taken with the sums carried up to it, sees
those functions from its first key on.
-/

noncomputable section
open Finset Idealize.ShloMosaic Cert.KernelIdeal
namespace Cert.Stick

/-- A matrix from row `o` on. -/
def rows (o : ℕ) (x : ℕ → ℕ → ℝ) : ℕ → ℕ → ℝ := fun i j => x (o + i) j

/-- A mask from column `o` on. -/
def pastAt (P : ℕ → ℕ → Bool) (o : ℕ) : ℕ → ℕ → Bool := fun i l => P i (o + l)

/-- The keys a query of block `b` attends to: those strictly before it. -/
def past (b : ℕ) : ℕ → ℕ → Bool := fun i s => decide (s < 512 * b + i)

section
variable (P : ℕ → ℕ → Bool) (q d K V : ℕ → ℕ → ℝ) (t : ℕ → ℝ)

/-- The logarithms of what each key leaves. -/
def keepB : ℕ → ℕ → ℝ := lkT P (zT q K)
/-- The attention weights. -/
def attB : ℕ → ℕ → ℝ := aT P (zT q K) (keepB P q K) t (fun _ => 0)
/-- The gradients of the weights' logarithms. -/
def gB : ℕ → ℕ → ℝ := gT d V (attB P q K t)
/-- The gradients of the scores. -/
def dzB : ℕ → ℕ → ℝ := dzT P (zT q K) (gB P q d K V t) (runEx (gB P q d K V t) (fun _ => 0))

/-- The logarithms summed over the first `n` keys. -/
def keepSum (n : ℕ) : ℕ → ℝ := fun i => ∑ s ∈ range n, keepB P q K i s
/-- The gradients summed over the first `n` keys. -/
def gSum (n : ℕ) : ℕ → ℝ := fun i => ∑ s ∈ range n, gB P q d K V t i s
/-- The gradient of the queries from the first `n` keys, before the scale. -/
def dqSum (n : ℕ) : ℕ → ℕ → ℝ := fun i e => ∑ s ∈ range n, dzB P q d K V t i s * K s e
/-- What the block adds to the gradient of the keys. -/
def dkAdd : ℕ → ℕ → ℝ := fun s e => (∑ i ∈ range 512, dzB P q d K V t i s * q i e) * scale
/-- What the block adds to the gradient of the values. -/
def dvAdd : ℕ → ℕ → ℝ := fun s e => ∑ i ∈ range 512, attB P q K t i s * d i e

/-- A matrix whose first `n` rows have been added to. -/
def added (n : ℕ) (x y : ℕ → ℕ → ℝ) : ℕ → ℕ → ℝ := fun r e => if r < n then x r e + y r e else x r e

/-- A matrix with the 512 rows from `o` replaced. -/
def put (o : ℕ) (w x : ℕ → ℕ → ℝ) : ℕ → ℕ → ℝ := fun r e => if o ≤ r ∧ r < o + 512 then w (r - o) e else x r e

variable (o : ℕ)

theorem keep_at : lkT (pastAt P o) (zT q (rows o K)) = cols o (keepB P q K) := rfl

theorem run_at (x : ℕ → ℕ → ℝ) : runIn (cols o x) (fun i => ∑ s ∈ range o, x i s) = cols o (runIn x fun _ => 0) := by
  funext i l
  simp only [runIn, cols, zero_add]
  rw [show o + l + 1 = o + (l + 1) by omega, sum_range_add (fun s => x i s) o]

theorem runEx_at (x : ℕ → ℕ → ℝ) : runEx (cols o x) (fun i => ∑ s ∈ range o, x i s) = cols o (runEx x fun _ => 0) := by
  funext i l
  simp only [runEx, cols, zero_add]
  rw [sum_range_add]

theorem carry_at (x : ℕ → ℕ → ℝ) : carry (cols o x) (fun i => ∑ s ∈ range o, x i s) 512 = fun i _ => ∑ s ∈ range (o + 512), x i s := by
  funext i l
  simp only [carry, cols]
  rw [sum_range_add]

theorem att_at : aT (pastAt P o) (zT q (rows o K)) (lkT (pastAt P o) (zT q (rows o K))) t (keepSum P q K o) = cols o (attB P q K t) := by
  rw [keep_at]
  unfold aT
  rw [show runIn (cols o (keepB P q K)) (keepSum P q K o) = _ from run_at o _]
  rfl

theorem g_at : gT d (rows o V) (aT (pastAt P o) (zT q (rows o K)) (lkT (pastAt P o) (zT q (rows o K))) t (keepSum P q K o)) = cols o (gB P q d K V t) := by
  rw [att_at]; rfl

theorem dz_at : dzT (pastAt P o) (zT q (rows o K)) (cols o (gB P q d K V t)) (runEx (cols o (gB P q d K V t)) (gSum P q d K V t o))
    = cols o (dzB P q d K V t) := by
  rw [show runEx (cols o (gB P q d K V t)) (gSum P q d K V t o) = _ from runEx_at o _]
  rfl

theorem dq_at : (fun i e => dqSum P q d K V t o i e + ∑ l ∈ range 512, cols o (dzB P q d K V t) i l * rows o K l e) = dqSum P q d K V t (o + 512) := by
  funext i e
  simp only [dqSum, cols, rows]
  rw [sum_range_add]

/-- The rows a block of keys is added to: read before, and put back. -/
theorem added_rows (x y : ℕ → ℕ → ℝ) : put o (fun l e => rows o (added o x y) l e + rows o y l e) (added o x y) = added (o + 512) x y := by
  funext r e
  unfold put added rows
  by_cases h : o ≤ r ∧ r < o + 512
  · have hr : o + (r - o) = r := by omega
    simp only [hr]
    rw [if_pos h, if_pos h.2, if_neg (by omega)]
  · rw [if_neg h]
    by_cases h' : r < o
    · rw [if_pos h', if_pos (by omega)]
    · rw [if_neg h', if_neg (by omega)]

end

/-- Below the diagonal every pair takes part. -/
theorem pastAt_true {b k : ℕ} (h : k < b) : ∀ i < 512, ∀ l < 512, pastAt (past b) (512 * k) i l = true := by
  intro i _ l hl
  simp only [pastAt, past, decide_eq_true_eq]; omega

end Cert.Stick

end
-- ==== Proof.Box.lean ====
/-
  Stacks of real matrices, one per head, as the vectors the host's operations work on (`box`), and those operations on them.
-/
module

public import proofs.«01_k».proof.Proof.Up
public import Idealize.ShloMosaic.Lib.WordCmp

@[expose] public section

set_option maxRecDepth 16384

noncomputable section

open Finset Idealize.ShloMosaic

namespace Cert.Stick

/-- A stack of matrices of reals as a vector of extended reals. -/
def box {a b c : Nat} (φ : FTy) (f : ℕ → ℕ → ℕ → ℝ) : FVec Ideal ⟨3, ![a, b, c]⟩ φ :=
  fun j => ((f (j 0).val (j 1).val (j 2).val : ℝ) : EReal)

/-- A stack of masks. -/
def bits {a b c : Nat} (P : ℕ → ℕ → ℕ → Bool) : IVec ⟨3, ![a, b, c]⟩ 1 :=
  fun j => BitVec.ofBool (P (j 0).val (j 1).val (j 2).val)

/-- The columns of head `h` of a matrix that holds its heads side by side. -/
def heads (x : ℕ → ℕ → ℝ) : ℕ → ℕ → ℕ → ℝ := fun h i d => x i (128 * h + d)

section
variable {a b c : Nat} {φ : FTy} (f g : ℕ → ℕ → ℕ → ℝ)

theorem box_congr {f g : ℕ → ℕ → ℕ → ℝ} (h : ∀ i < a, ∀ j < b, ∀ k < c, f i j k = g i j k) :
    box (a := a) (b := b) (c := c) φ f = box φ g := by
  funext j; exact congrArg _ (h _ (j 0).isLt _ (j 1).isLt _ (j 2).isLt)

theorem addf_box : addf (box (a := a) (b := b) (c := c) φ f) (box φ g) = box φ (fun h i j => f h i j + g h i j) := by
  funext j; exact (EReal.coe_add _ _).symm

theorem subf_box : subf (box (a := a) (b := b) (c := c) φ f) (box φ g) = box φ (fun h i j => f h i j - g h i j) := by
  funext j; exact (EReal.coe_sub _ _).symm

theorem mulf_box : mulf (box (a := a) (b := b) (c := c) φ f) (box φ g) = box φ (fun h i j => f h i j * g h i j) := by
  funext j; exact (EReal.coe_mul _ _).symm

theorem maximumf_box : maximumf (box (a := a) (b := b) (c := c) φ f) (box φ g) = box φ (fun h i j => max (f h i j) (g h i j)) := by
  funext j; exact max_coe _ _

theorem negf_box : Host.negf (box (a := a) (b := b) (c := c) φ f) = box φ (fun h i j => -f h i j) := by
  funext j; exact (EReal.coe_neg _).symm

theorem absf_box : Host.absf (box (a := a) (b := b) (c := c) φ f) = box φ (fun h i j => |f h i j|) := by
  funext j
  show max ((f _ _ _ : ℝ) : EReal) (-((f _ _ _ : ℝ) : EReal)) = _
  rw [← EReal.coe_neg, max_coe]; rfl

theorem exp_box : Host.exp (box (a := a) (b := b) (c := c) φ f) = box φ (fun h i j => Real.exp (f h i j)) := rfl

theorem log1p_box (h : ∀ i j k, 0 < 1 + f i j k) : Host.log1p (box (a := a) (b := b) (c := c) φ f) = box φ (fun h i j => Real.log (1 + f h i j)) := by
  funext j
  show Ideal.log (1 + ((f _ _ _ : ℝ) : EReal)) = _
  rw [← EReal.coe_one, ← EReal.coe_add, log_coe (h _ _ _)]; rfl

/-- No finite number differs from itself. -/
theorem cmpf_self_box : cmpf .une (box (a := a) (b := b) (c := c) φ f) (box φ f) = bits (fun _ _ _ => false) := by
  funext j
  show BitVec.ofBool (decide (_ ≠ _)) = _
  simp [bits]

theorem select_box (P : ℕ → ℕ → ℕ → Bool) :
    select (bits P) (box (a := a) (b := b) (c := c) φ f) (box φ g) = box φ (fun h i j => if P h i j then f h i j else g h i j) := by
  funext j
  show (if BitVec.ofBool (P _ _ _) = 1#1 then _ else _) = _
  cases h : P (j 0) (j 1) (j 2) <;> simp [box, h]

theorem zero_box (h) : broadcastInDim ⟨3, ![a, b, c]⟩ ![] h (constant (F := Ideal) ⟨0, ![]⟩ .f32 0x00000000#32) = box .f32 (fun _ _ _ => 0) := by
  funext j; exact Ideal.ofBits_zero_f32

theorem scale_box (h) : broadcastInDim ⟨3, ![a, b, c]⟩ ![] h (constant (F := Ideal) ⟨0, ![]⟩ .f32 0x3DB504F3#32) = box .f32 (fun _ _ _ => scale) := by
  funext j; exact scale_eq

end

/-! ### The library's `softplus` -/

theorem top_word : Ideal.ofBits .f32 0x7F800000#32 = ⊤ := by
  simp [Ideal.ofBits, Ideal.ieee]

section
variable {a b c : Nat} (f : ℕ → ℕ → ℕ → ℝ)

theorem cmpf_top_box (h) : cmpf .oeq (box (a := a) (b := b) (c := c) .f32 f)
    (broadcastInDim ⟨3, ![a, b, c]⟩ ![] h (constant (F := Ideal) ⟨0, ![]⟩ .f32 0x7F800000#32)) = bits (fun _ _ _ => false) := by
  funext j
  show BitVec.ofBool (decide ((box (a := a) (b := b) (c := c) .f32 f j : EReal) = Ideal.ofBits .f32 0x7F800000#32)) = _
  rw [top_word]
  simp [bits, box]

theorem softplus_real (z : ℝ) : max z 0 + Real.log (1 + Real.exp (-|z - 0|)) = -keepLog z := by
  have h := keepLog_eq z
  simp only [zero_sub] at h
  rw [sub_zero]; linarith

/-- The `softplus` of the host's library at finite numbers: its guard against an undefined difference is never taken. -/
theorem softplus_box (f : ℕ → ℕ → ℕ → ℝ) (h) :
    select (cmpf .une (subf (box (a := a) (b := b) (c := c) .f32 f) (broadcastInDim ⟨3, ![a, b, c]⟩ ![] h (constant (F := Ideal) ⟨0, ![]⟩ .f32 0x00000000#32)))
        (subf (box .f32 f) (broadcastInDim ⟨3, ![a, b, c]⟩ ![] h (constant (F := Ideal) ⟨0, ![]⟩ .f32 0x00000000#32))))
      (addf (box .f32 f) (broadcastInDim ⟨3, ![a, b, c]⟩ ![] h (constant (F := Ideal) ⟨0, ![]⟩ .f32 0x00000000#32)))
      (addf (maximumf (box .f32 f) (broadcastInDim ⟨3, ![a, b, c]⟩ ![] h (constant (F := Ideal) ⟨0, ![]⟩ .f32 0x00000000#32)))
        (Host.log1p (Host.exp (Host.negf (Host.absf (subf (box .f32 f) (broadcastInDim ⟨3, ![a, b, c]⟩ ![] h (constant (F := Ideal) ⟨0, ![]⟩ .f32 0x00000000#32))))))))
      = box .f32 (fun i j k => -keepLog (f i j k)) := by
  rw [zero_box, subf_box, cmpf_self_box, addf_box, maximumf_box, absf_box, negf_box, exp_box, log1p_box _ (fun _ _ _ => one_add_exp_pos _), addf_box, select_box]
  refine box_congr fun i _ j _ k _ => ?_
  exact softplus_real _

/-- The factor that `softplus` hands back to its argument's gradient, at finite numbers. -/
theorem slope_box (f g : ℕ → ℕ → ℕ → ℝ) (h) :
    Host.exp (subf
      (select (cmpf .oeq (box (a := a) (b := b) (c := c) .f32 f) (broadcastInDim ⟨3, ![a, b, c]⟩ ![] h (constant (F := Ideal) ⟨0, ![]⟩ .f32 0x7F800000#32)))
        (broadcastInDim ⟨3, ![a, b, c]⟩ ![] h (constant (F := Ideal) ⟨0, ![]⟩ .f32 0x00000000#32)) (box .f32 f))
      (select (cmpf .oeq (box (a := a) (b := b) (c := c) .f32 g) (broadcastInDim ⟨3, ![a, b, c]⟩ ![] h (constant (F := Ideal) ⟨0, ![]⟩ .f32 0x7F800000#32)))
        (broadcastInDim ⟨3, ![a, b, c]⟩ ![] h (constant (F := Ideal) ⟨0, ![]⟩ .f32 0x00000000#32)) (box .f32 g)))
      = box .f32 (fun i j k => Real.exp (f i j k - g i j k)) := by
  rw [zero_box, cmpf_top_box, cmpf_top_box, select_box, select_box, subf_box, exp_box]
  rfl

end

/-! ### Layout -/

section
open Cert.KernelIdeal
variable {φ : FTy} (x : ℕ → ℕ → ℝ) (f g : ℕ → ℕ → ℕ → ℝ)

theorem heads_box (h h') : transpose S4x4096x128 [1, 0, 2] (shapeCast S4096x4x128 (up (a := 4096) (b := 512) φ x) h) h' = box φ (heads x) := by
  funext j; idx_vars j; pointwise [up, box, heads]
  congr 2; omega

/-- The keys before each query. -/
theorem past_box (h₁ h₂ h₃ h₄ h₅) :
    broadcastInDim S4x4096x4096 ![1, 2] h₅ (cmpi .slt (broadcastInDim S4096x4096 ![0, 1] h₂ (broadcastInDim S1x4096 ![1] h₁ (iotaInDim S4096 32 0)))
      (broadcastInDim S4096x4096 ![0, 1] h₄ (broadcastInDim S4096x1 ![0] h₃ (iotaInDim S4096 32 0)))) = bits (fun _ t s => decide (s < t)) := by
  funext j; idx_vars j; pointwise [bits]
  rw [WordCmp.cmpi_slt_ofNat (by omega) (by omega)]
  rfl

/-- A row of a head's queries against a row of its keys. -/
theorem scores_box :
    Host.dotGeneral dot_S4x4096x128_S4x4096x128_S4x4096x4096_2_2_1_1_0_0 none (box .f32 f) (box .f32 g)
      = box .f32 (fun h t s => ∑ d ∈ range 128, f h t d * g h s d) := by
  funext j; idx_vars j; pointwise [box]
  simp only [← EReal.coe_mul, sum_coe, Finset.sum_range]

/-- The sum over the keys. -/
theorem rowsum_box (h h') (z : FVec Ideal S_ .f32) (hz : z = constant (F := Ideal) S_ .f32 0x00000000#32) :
    Host.reduceAdd (axes := [2]) (t := S4x4096) (box (a := 4) (b := 4096) (c := 4096) .f32 f) z h h' = up .f32 (fun h t => ∑ s ∈ range 4096, f h t s) := by
  subst hz
  funext j; idx_vars j; pointwise [box, up]
  simp only [sum_coe, Finset.sum_range]

end

/-! ### Running sums along a row -/

theorem foldl_coe {ι : Type} (l : List ι) (g : ι → EReal) (f : ι → ℝ) (hg : ∀ n ∈ l, g n = (f n : ℝ)) (z : ℝ) :
    l.foldl (fun r n => r + g n) (z : EReal) = ((z + (l.map f).sum : ℝ) : EReal) := by
  induction l generalizing z with
  | nil => simp
  | cons n l ih =>
    rw [List.foldl_cons, hg n (by simp), ← EReal.coe_add, ih (fun k hk => hg k (by simp [hk])), List.map_cons, List.sum_cons, add_assoc]

theorem numel3 (N : ℕ) : (⟨3, ![1, 1, N]⟩ : Shape).numel = N := by
  show ∏ a : Fin 3, (![1, 1, N] : Fin 3 → Nat) a = N
  simp [Fin.prod_univ_three]

theorem symm3 {N : ℕ} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    simp))

theorem list_sum_finRange (M N : ℕ) (h : M = N) (f : ℕ → ℝ) : ((List.finRange M).map fun n => f n.val).sum = ∑ n ∈ range N, f n := by
  subst h
  rw [sum_range, ← List.sum_ofFn, List.ofFn_eq_map]

theorem sum_upTo (M s : ℕ) (hs : s < M + 1) (g : ℕ → ℝ) : (∑ n ∈ range (M + 1), if M ≤ s + n then g (s + n - M) else 0) = ∑ k ∈ range (s + 1), g k := by
  rw [show M + 1 = (M - s) + (s + 1) by omega, sum_range_add, sum_eq_zero, zero_add]
  · refine sum_congr rfl fun k _ => ?_
    rw [if_pos (by omega)]
    congr 1; omega
  · intro k hk
    rw [mem_range] at hk
    rw [if_neg (by omega)]

theorem sum_from (N s : ℕ) (hs : s < N) (g : ℕ → ℝ) : (∑ n ∈ range N, if s + n < N then g (s + n) else 0) = ∑ k ∈ range (N - s), g (s + k) := by
  have e : range N = range ((N - s) + s) := by congr 1; omega
  rw [e, sum_range_add, add_comm, sum_eq_zero, zero_add]
  · refine sum_congr rfl fun k hk => ?_
    rw [mem_range] at hk
    rw [if_pos (by omega)]
  · intro k _
    rw [if_neg (by omega)]

/-- A window of the whole row that ends at the element: the sum up to it. -/
theorem sumUpTo_box {A B M N : ℕ} (hN : M + 1 = N) (f : ℕ → ℕ → ℕ → ℝ) (z : FVec Ideal ⟨0, ![]⟩ .f32) (h) (hu) (hz : z (Shape.Idx.first hu) = ((0 : ℝ) : EReal)) :
    Host.reduceWindowAdd (t := ⟨3, ![A, B, N]⟩) ![1, 1, N] ![1, 1, 1] ![0, 0, M] ![0, 0, 0] (box (a := A) (b := B) (c := N) .f32 f) z h hu
      = box .f32 (fun a b s => ∑ k ∈ range (s + 1), f a b k) := by
  subst hN
  funext j
  have hj : (j 2).val < M + 1 := (j 2).isLt
  have hj0 : (j 0).val < A := (j 0).isLt
  have hj1 : (j 1).val < B := (j 1).isLt
  show Host.reduceWindow (· + ·) _ _ _ ![0, 0, 0] _ (fun _ : (⟨0, ![]⟩ : Shape).Idx => z (Shape.Idx.first hu)) h (by decide) j = _
  unfold Host.reduceWindow
  rw [hz]
  refine (foldl_coe _ _ (fun n => if M ≤ (j 2).val + n.val then f (j 0).val (j 1).val ((j 2).val + n.val - M) else 0) (fun n _ => ?_) 0).trans ?_
  · have hn : n.val < M + 1 := (n.cast (numel3 _)).isLt
    have w0 : ((⟨3, ![1, 1, M + 1]⟩ : Shape).rowMajor.symm n 0).val = 0 := by rw [symm3]; rfl
    have w1 : ((⟨3, ![1, 1, M + 1]⟩ : Shape).rowMajor.symm n 1).val = 0 := by rw [symm3]; rfl
    have w2 : ((⟨3, ![1, 1, M + 1]⟩ : Shape).rowMajor.symm n 2).val = n.val := by rw [symm3]; rfl
    dsimp only
    split
    · next hin =>
      have h2 : M ≤ (j 2).val * 1 + ((⟨3, ![1, 1, M + 1]⟩ : Shape).rowMajor.symm n 2).val
        ∧ (j 2).val * 1 + ((⟨3, ![1, 1, M + 1]⟩ : Shape).rowMajor.symm n 2).val - M < M + 1 := hin 2
      rw [w2] at h2
      rw [if_pos (by omega)]
      show ((f ((j 0).val * 1 + ((⟨3, ![1, 1, M + 1]⟩ : Shape).rowMajor.symm n 0).val - 0) ((j 1).val * 1 + ((⟨3, ![1, 1, M + 1]⟩ : Shape).rowMajor.symm n 1).val - 0)
        ((j 2).val * 1 + ((⟨3, ![1, 1, M + 1]⟩ : Shape).rowMajor.symm n 2).val - M) : ℝ) : EReal) = _
      rw [w0, w1, w2]
      simp only [Nat.mul_one, Nat.add_zero, Nat.sub_zero]
    · next hin =>
      rw [if_neg]
      intro hle
      refine hin fun a => ?_
      match a with
      | ⟨0, _⟩ =>
        show 0 ≤ (j 0).val * 1 + ((⟨3, ![1, 1, M + 1]⟩ : Shape).rowMajor.symm n 0).val ∧ (j 0).val * 1 + ((⟨3, ![1, 1, M + 1]⟩ : Shape).rowMajor.symm n 0).val - 0 < A
        rw [w0]; omega
      | ⟨1, _⟩ =>
        show 0 ≤ (j 1).val * 1 + ((⟨3, ![1, 1, M + 1]⟩ : Shape).rowMajor.symm n 1).val ∧ (j 1).val * 1 + ((⟨3, ![1, 1, M + 1]⟩ : Shape).rowMajor.symm n 1).val - 0 < B
        rw [w1]; omega
      | ⟨2, _⟩ =>
        show M ≤ (j 2).val * 1 + ((⟨3, ![1, 1, M + 1]⟩ : Shape).rowMajor.symm n 2).val
          ∧ (j 2).val * 1 + ((⟨3, ![1, 1, M + 1]⟩ : Shape).rowMajor.symm n 2).val - M < M + 1
        rw [w2]; omega
  · rw [list_sum_finRange _ _ (numel3 _) (fun n => if M ≤ (j 2).val + n then f (j 0).val (j 1).val ((j 2).val + n - M) else 0), zero_add]
    exact congrArg _ (sum_upTo M (j 2).val hj (fun k => f (j 0).val (j 1).val k))

/-- A window of the whole row that starts at the element: the sum from it on. -/
theorem sumFrom_box {A B M N : ℕ} (hN : M + 1 = N) (f : ℕ → ℕ → ℕ → ℝ) (z : FVec Ideal ⟨0, ![]⟩ .f32) (h) (hu) (hz : z (Shape.Idx.first hu) = ((0 : ℝ) : EReal)) :
    Host.reduceWindowAdd (t := ⟨3, ![A, B, N]⟩) ![1, 1, N] ![1, 1, 1] ![0, 0, 0] ![0, 0, M] (box (a := A) (b := B) (c := N) .f32 f) z h hu
      = box .f32 (fun a b s => ∑ k ∈ range (N - s), f a b (s + k)) := by
  subst hN
  funext j
  have hj : (j 2).val < M + 1 := (j 2).isLt
  have hj0 : (j 0).val < A := (j 0).isLt
  have hj1 : (j 1).val < B := (j 1).isLt
  show Host.reduceWindow (· + ·) _ _ _ ![0, 0, M] _ (fun _ : (⟨0, ![]⟩ : Shape).Idx => z (Shape.Idx.first hu)) h (by decide) j = _
  unfold Host.reduceWindow
  rw [hz]
  refine (foldl_coe _ _ (fun n => if (j 2).val + n.val < M + 1 then f (j 0).val (j 1).val ((j 2).val + n.val) else 0) (fun n _ => ?_) 0).trans ?_
  · have hn : n.val < M + 1 := (n.cast (numel3 _)).isLt
    have w0 : ((⟨3, ![1, 1, M + 1]⟩ : Shape).rowMajor.symm n 0).val = 0 := by rw [symm3]; rfl
    have w1 : ((⟨3, ![1, 1, M + 1]⟩ : Shape).rowMajor.symm n 1).val = 0 := by rw [symm3]; rfl
    have w2 : ((⟨3, ![1, 1, M + 1]⟩ : Shape).rowMajor.symm n 2).val = n.val := by rw [symm3]; rfl
    dsimp only
    split
    · next hin =>
      have h2 : 0 ≤ (j 2).val * 1 + ((⟨3, ![1, 1, M + 1]⟩ : Shape).rowMajor.symm n 2).val
        ∧ (j 2).val * 1 + ((⟨3, ![1, 1, M + 1]⟩ : Shape).rowMajor.symm n 2).val - 0 < M + 1 := hin 2
      rw [w2] at h2
      rw [if_pos (by omega)]
      show ((f ((j 0).val * 1 + ((⟨3, ![1, 1, M + 1]⟩ : Shape).rowMajor.symm n 0).val - 0) ((j 1).val * 1 + ((⟨3, ![1, 1, M + 1]⟩ : Shape).rowMajor.symm n 1).val - 0)
        ((j 2).val * 1 + ((⟨3, ![1, 1, M + 1]⟩ : Shape).rowMajor.symm n 2).val - 0) : ℝ) : EReal) = _
      rw [w0, w1, w2]
      simp only [Nat.mul_one, Nat.add_zero, Nat.sub_zero]
    · next hin =>
      rw [if_neg]
      intro hle
      refine hin fun a => ?_
      match a with
      | ⟨0, _⟩ =>
        show 0 ≤ (j 0).val * 1 + ((⟨3, ![1, 1, M + 1]⟩ : Shape).rowMajor.symm n 0).val ∧ (j 0).val * 1 + ((⟨3, ![1, 1, M + 1]⟩ : Shape).rowMajor.symm n 0).val - 0 < A
        rw [w0]; omega
      | ⟨1, _⟩ =>
        show 0 ≤ (j 1).val * 1 + ((⟨3, ![1, 1, M + 1]⟩ : Shape).rowMajor.symm n 1).val ∧ (j 1).val * 1 + ((⟨3, ![1, 1, M + 1]⟩ : Shape).rowMajor.symm n 1).val - 0 < B
        rw [w1]; omega
      | ⟨2, _⟩ =>
        show 0 ≤ (j 2).val * 1 + ((⟨3, ![1, 1, M + 1]⟩ : Shape).rowMajor.symm n 2).val
          ∧ (j 2).val * 1 + ((⟨3, ![1, 1, M + 1]⟩ : Shape).rowMajor.symm n 2).val - 0 < M + 1
        rw [w2]; omega
  · rw [list_sum_finRange _ _ (numel3 _) (fun n => if (j 2).val + n < M + 1 then f (j 0).val (j 1).val ((j 2).val + n) else 0), zero_add]
    exact congrArg _ (sum_from (M + 1) (j 2).val hj (fun k => f (j 0).val (j 1).val k))

end Cert.Stick

end
-- ==== Proof.Head.lean ====
module
public import proofs.«01_k».proof.Proof.Tile
@[expose] public section
set_option maxRecDepth 16384

/-!
# The gradients of one head, over the reals

A head has 4096 queries and as many keys.  Its weights, their gradients and the gradients of the scores are the ones of a
block whose queries are all of them.
-/

noncomputable section
open Finset Idealize.ShloMosaic
namespace Cert.Stick

/-- The keys strictly before each query. -/
def before : ℕ → ℕ → Bool := fun t s => decide (s < t)

section
variable (q k v d : ℕ → ℕ → ℝ)

/-- The logarithms of what the keys before a query leave, summed. -/
def total : ℕ → ℝ := fun t => ∑ s ∈ range 4096, keepB before q k t s
/-- The attention weights. -/
def att : ℕ → ℕ → ℝ := attB before q k (total q k)
/-- The gradients of the scores. -/
def dscore : ℕ → ℕ → ℝ := dzB before q d k v (total q k)
/-- The gradient of the queries. -/
def headDq : ℕ → ℕ → ℝ := fun t e => (∑ s ∈ range 4096, dscore q k v d t s * k s e) * scale
/-- The gradient of the keys. -/
def headDk : ℕ → ℕ → ℝ := fun s e => (∑ t ∈ range 4096, dscore q k v d t s * q t e) * scale
/-- The gradient of the values. -/
def headDv : ℕ → ℕ → ℝ := fun s e => ∑ t ∈ range 4096, att q k t s * d t e

/-- What the keys after `s` leave is what all leave but those up to `s`. -/
theorem total_split (t s : ℕ) (hs : s < 4096) :
    ∑ j ∈ range (4096 - s), keepB before q k t (s + j) = total q k t - ∑ j ∈ range s, keepB before q k t j := by
  have e : total q k t = ∑ j ∈ range (s + (4096 - s)), keepB before q k t j := by
    unfold total; congr 2; omega
  rw [e, sum_range_add]; ring

end

end Cert.Stick

end
-- ==== Proof.TableRow.lean ====
module
public import proofs.«01_k».proof.Proof.Up
@[expose] public section

/-!
# A row of a scan table, in words

The program holds the two tables that its scans multiply by as lists of words, row by row.
-/

open Idealize.ShloMosaic Cert.KernelIdeal
namespace Cert.Stick

/-- A row of the inclusive scan's table. -/
def rowIn (r : ℕ) : Prop := ∀ s : Fin 256, lit0t (256 * r + s.val) = if s.val < 128 → r ≤ s.val then 0x3F80#16 else 0x0000#16
/-- A row of the exclusive scan's table. -/
def rowEx (r : ℕ) : Prop := ∀ s : Fin 256, lit1t (256 * r + s.val) = if s.val < 128 → r < s.val then 0x3F80#16 else 0x0000#16

noncomputable instance (r : ℕ) : Decidable (rowIn r) := by unfold rowIn; infer_instance
noncomputable instance (r : ℕ) : Decidable (rowEx r) := by unfold rowEx; infer_instance

theorem lower0_0 : lit0t1_2 = lit0t1_0 := rfl
theorem lower0_1 : lit0t1_3 = lit0t1_1 := rfl
theorem lower1_0 : lit1t1_2 = lit1t1_0 := rfl
theorem lower1_1 : lit1t1_3 = lit1t1_1 := rfl

end Cert.Stick
-- ==== Proof.TableIn0.lean ====
module
public import proofs.«01_k».proof.Proof.TableRow
@[expose] public section
set_option maxRecDepth 16384

namespace Cert.Stick

/-- Rows 0 to 31 of the inclusive scan's table. -/
theorem rowIn_0 : ∀ r : Fin 32, rowIn (0 + r.val) := by decide +kernel

end Cert.Stick
-- ==== Proof.TableIn1.lean ====
module
public import proofs.«01_k».proof.Proof.TableRow
@[expose] public section
set_option maxRecDepth 16384

namespace Cert.Stick

/-- Rows 32 to 63 of the inclusive scan's table. -/
theorem rowIn_1 : ∀ r : Fin 32, rowIn (32 + r.val) := by decide +kernel

end Cert.Stick
-- ==== Proof.TableIn2.lean ====
module
public import proofs.«01_k».proof.Proof.TableRow
@[expose] public section
set_option maxRecDepth 16384

namespace Cert.Stick

/-- Rows 64 to 95 of the inclusive scan's table. -/
theorem rowIn_2 : ∀ r : Fin 32, rowIn (64 + r.val) := by decide +kernel

end Cert.Stick
-- ==== Proof.TableIn3.lean ====
module
public import proofs.«01_k».proof.Proof.TableRow
@[expose] public section
set_option maxRecDepth 16384

namespace Cert.Stick

/-- Rows 96 to 127 of the inclusive scan's table. -/
theorem rowIn_3 : ∀ r : Fin 32, rowIn (96 + r.val) := by decide +kernel

end Cert.Stick
-- ==== Proof.TableEx0.lean ====
module
public import proofs.«01_k».proof.Proof.TableRow
@[expose] public section
set_option maxRecDepth 16384

namespace Cert.Stick

/-- Rows 0 to 31 of the exclusive scan's table. -/
theorem rowEx_0 : ∀ r : Fin 32, rowEx (0 + r.val) := by decide +kernel

end Cert.Stick
-- ==== Proof.TableEx1.lean ====
module
public import proofs.«01_k».proof.Proof.TableRow
@[expose] public section
set_option maxRecDepth 16384

namespace Cert.Stick

/-- Rows 32 to 63 of the exclusive scan's table. -/
theorem rowEx_1 : ∀ r : Fin 32, rowEx (32 + r.val) := by decide +kernel

end Cert.Stick
-- ==== Proof.TableEx2.lean ====
module
public import proofs.«01_k».proof.Proof.TableRow
@[expose] public section
set_option maxRecDepth 16384

namespace Cert.Stick

/-- Rows 64 to 95 of the exclusive scan's table. -/
theorem rowEx_2 : ∀ r : Fin 32, rowEx (64 + r.val) := by decide +kernel

end Cert.Stick
-- ==== Proof.TableEx3.lean ====
module
public import proofs.«01_k».proof.Proof.TableRow
@[expose] public section
set_option maxRecDepth 16384

namespace Cert.Stick

/-- Rows 96 to 127 of the exclusive scan's table. -/
theorem rowEx_3 : ∀ r : Fin 32, rowEx (96 + r.val) := by decide +kernel

end Cert.Stick
-- ==== Proof.Table.lean ====
module
public import proofs.«01_k».proof.Proof.TableIn0
public import proofs.«01_k».proof.Proof.TableIn1
public import proofs.«01_k».proof.Proof.TableIn2
public import proofs.«01_k».proof.Proof.TableIn3
public import proofs.«01_k».proof.Proof.TableEx0
public import proofs.«01_k».proof.Proof.TableEx1
public import proofs.«01_k».proof.Proof.TableEx2
public import proofs.«01_k».proof.Proof.TableEx3
public import proofs.«01_k».proof.Proof.Scan
@[expose] public section
set_option maxRecDepth 16384

/-!
# The scan tables
-/

noncomputable section
open Idealize.ShloMosaic Cert.KernelIdeal
namespace Cert.Stick

theorem wrap (i : ℕ) : (32768 + i) % 128 = i % 128 := by omega

theorem rowIn_low (r : ℕ) (h : r < 128) : rowIn r := by
  have e : r = 32 * (r / 32) + r % 32 := by omega
  have hq : r / 32 < 4 := by omega
  have hr : r % 32 < 32 := by omega
  rw [e]
  generalize r / 32 = a at hq ⊢
  generalize r % 32 = b at hr ⊢
  interval_cases a
  · exact rowIn_0 ⟨b, hr⟩
  · exact rowIn_1 ⟨b, hr⟩
  · exact rowIn_2 ⟨b, hr⟩
  · exact rowIn_3 ⟨b, hr⟩

theorem lit0t0_0_leaf (i : ℕ) : lit0t0_0 (32768 + i) = lit0t0_0 i := by unfold lit0t0_0; rw [wrap]
theorem lit0t0_1_leaf (i : ℕ) : lit0t0_1 (32768 + i) = lit0t0_1 i := by unfold lit0t0_1; rw [wrap]
theorem lit0t0_2_leaf (i : ℕ) : lit0t0_2 (32768 + i) = lit0t0_2 i := by unfold lit0t0_2; rw [wrap]
theorem lit0t0_3_leaf (i : ℕ) : lit0t0_3 (32768 + i) = lit0t0_3 i := by unfold lit0t0_3; rw [wrap]
theorem lit0t0_4_leaf (i : ℕ) : lit0t0_4 (32768 + i) = lit0t0_4 i := by unfold lit0t0_4; rw [wrap]
theorem lit0t0_5_leaf (i : ℕ) : lit0t0_5 (32768 + i) = lit0t0_5 i := by unfold lit0t0_5; rw [wrap]
theorem lit0t0_6_leaf (i : ℕ) : lit0t0_6 (32768 + i) = lit0t0_6 i := by unfold lit0t0_6; rw [wrap]
theorem lit0t0_7_leaf (i : ℕ) : lit0t0_7 (32768 + i) = lit0t0_7 i := by unfold lit0t0_7; rw [wrap]
theorem lit0t0_8_leaf (i : ℕ) : lit0t0_8 (32768 + i) = lit0t0_8 i := by unfold lit0t0_8; rw [wrap]
theorem lit0t0_9_leaf (i : ℕ) : lit0t0_9 (32768 + i) = lit0t0_9 i := by unfold lit0t0_9; rw [wrap]
theorem lit0t0_10_leaf (i : ℕ) : lit0t0_10 (32768 + i) = lit0t0_10 i := by unfold lit0t0_10; rw [wrap]
theorem lit0t0_11_leaf (i : ℕ) : lit0t0_11 (32768 + i) = lit0t0_11 i := by unfold lit0t0_11; rw [wrap]
theorem lit0t0_12_leaf (i : ℕ) : lit0t0_12 (32768 + i) = lit0t0_12 i := by unfold lit0t0_12; rw [wrap]
theorem lit0t0_13_leaf (i : ℕ) : lit0t0_13 (32768 + i) = lit0t0_13 i := by unfold lit0t0_13; rw [wrap]
theorem lit0t0_14_leaf (i : ℕ) : lit0t0_14 (32768 + i) = lit0t0_14 i := by unfold lit0t0_14; rw [wrap]
theorem lit0t0_15_leaf (i : ℕ) : lit0t0_15 (32768 + i) = lit0t0_15 i := by unfold lit0t0_15; rw [wrap]
theorem lit0t0_16_leaf (i : ℕ) : lit0t0_16 (32768 + i) = lit0t0_16 i := by unfold lit0t0_16; rw [wrap]
theorem lit0t0_17_leaf (i : ℕ) : lit0t0_17 (32768 + i) = lit0t0_17 i := by unfold lit0t0_17; rw [wrap]
theorem lit0t0_18_leaf (i : ℕ) : lit0t0_18 (32768 + i) = lit0t0_18 i := by unfold lit0t0_18; rw [wrap]
theorem lit0t0_19_leaf (i : ℕ) : lit0t0_19 (32768 + i) = lit0t0_19 i := by unfold lit0t0_19; rw [wrap]
theorem lit0t0_20_leaf (i : ℕ) : lit0t0_20 (32768 + i) = lit0t0_20 i := by unfold lit0t0_20; rw [wrap]
theorem lit0t0_21_leaf (i : ℕ) : lit0t0_21 (32768 + i) = lit0t0_21 i := by unfold lit0t0_21; rw [wrap]
theorem lit0t0_22_leaf (i : ℕ) : lit0t0_22 (32768 + i) = lit0t0_22 i := by unfold lit0t0_22; rw [wrap]
theorem lit0t0_23_leaf (i : ℕ) : lit0t0_23 (32768 + i) = lit0t0_23 i := by unfold lit0t0_23; rw [wrap]
theorem lit0t0_24_leaf (i : ℕ) : lit0t0_24 (32768 + i) = lit0t0_24 i := by unfold lit0t0_24; rw [wrap]
theorem lit0t0_25_leaf (i : ℕ) : lit0t0_25 (32768 + i) = lit0t0_25 i := by unfold lit0t0_25; rw [wrap]
theorem lit0t0_26_leaf (i : ℕ) : lit0t0_26 (32768 + i) = lit0t0_26 i := by unfold lit0t0_26; rw [wrap]
theorem lit0t0_27_leaf (i : ℕ) : lit0t0_27 (32768 + i) = lit0t0_27 i := by unfold lit0t0_27; rw [wrap]
theorem lit0t0_28_leaf (i : ℕ) : lit0t0_28 (32768 + i) = lit0t0_28 i := by unfold lit0t0_28; rw [wrap]
theorem lit0t0_29_leaf (i : ℕ) : lit0t0_29 (32768 + i) = lit0t0_29 i := by unfold lit0t0_29; rw [wrap]
theorem lit0t0_30_leaf (i : ℕ) : lit0t0_30 (32768 + i) = lit0t0_30 i := by unfold lit0t0_30; rw [wrap]
theorem lit0t0_31_leaf (i : ℕ) : lit0t0_31 (32768 + i) = lit0t0_31 i := by unfold lit0t0_31; rw [wrap]
theorem lit0t0_32_leaf (i : ℕ) : lit0t0_32 (32768 + i) = lit0t0_32 i := by unfold lit0t0_32; rw [wrap]
theorem lit0t0_33_leaf (i : ℕ) : lit0t0_33 (32768 + i) = lit0t0_33 i := by unfold lit0t0_33; rw [wrap]
theorem lit0t0_34_leaf (i : ℕ) : lit0t0_34 (32768 + i) = lit0t0_34 i := by unfold lit0t0_34; rw [wrap]
theorem lit0t0_35_leaf (i : ℕ) : lit0t0_35 (32768 + i) = lit0t0_35 i := by unfold lit0t0_35; rw [wrap]
theorem lit0t0_36_leaf (i : ℕ) : lit0t0_36 (32768 + i) = lit0t0_36 i := by unfold lit0t0_36; rw [wrap]
theorem lit0t0_37_leaf (i : ℕ) : lit0t0_37 (32768 + i) = lit0t0_37 i := by unfold lit0t0_37; rw [wrap]
theorem lit0t0_38_leaf (i : ℕ) : lit0t0_38 (32768 + i) = lit0t0_38 i := by unfold lit0t0_38; rw [wrap]
theorem lit0t0_39_leaf (i : ℕ) : lit0t0_39 (32768 + i) = lit0t0_39 i := by unfold lit0t0_39; rw [wrap]
theorem lit0t0_40_leaf (i : ℕ) : lit0t0_40 (32768 + i) = lit0t0_40 i := by unfold lit0t0_40; rw [wrap]
theorem lit0t0_41_leaf (i : ℕ) : lit0t0_41 (32768 + i) = lit0t0_41 i := by unfold lit0t0_41; rw [wrap]
theorem lit0t0_42_leaf (i : ℕ) : lit0t0_42 (32768 + i) = lit0t0_42 i := by unfold lit0t0_42; rw [wrap]
theorem lit0t0_43_leaf (i : ℕ) : lit0t0_43 (32768 + i) = lit0t0_43 i := by unfold lit0t0_43; rw [wrap]
theorem lit0t0_44_leaf (i : ℕ) : lit0t0_44 (32768 + i) = lit0t0_44 i := by unfold lit0t0_44; rw [wrap]
theorem lit0t0_45_leaf (i : ℕ) : lit0t0_45 (32768 + i) = lit0t0_45 i := by unfold lit0t0_45; rw [wrap]
theorem lit0t0_46_leaf (i : ℕ) : lit0t0_46 (32768 + i) = lit0t0_46 i := by unfold lit0t0_46; rw [wrap]
theorem lit0t0_47_leaf (i : ℕ) : lit0t0_47 (32768 + i) = lit0t0_47 i := by unfold lit0t0_47; rw [wrap]
theorem lit0t0_48_leaf (i : ℕ) : lit0t0_48 (32768 + i) = lit0t0_48 i := by unfold lit0t0_48; rw [wrap]
theorem lit0t0_49_leaf (i : ℕ) : lit0t0_49 (32768 + i) = lit0t0_49 i := by unfold lit0t0_49; rw [wrap]
theorem lit0t0_50_leaf (i : ℕ) : lit0t0_50 (32768 + i) = lit0t0_50 i := by unfold lit0t0_50; rw [wrap]
theorem lit0t0_51_leaf (i : ℕ) : lit0t0_51 (32768 + i) = lit0t0_51 i := by unfold lit0t0_51; rw [wrap]
theorem lit0t0_52_leaf (i : ℕ) : lit0t0_52 (32768 + i) = lit0t0_52 i := by unfold lit0t0_52; rw [wrap]
theorem lit0t0_53_leaf (i : ℕ) : lit0t0_53 (32768 + i) = lit0t0_53 i := by unfold lit0t0_53; rw [wrap]
theorem lit0t0_54_leaf (i : ℕ) : lit0t0_54 (32768 + i) = lit0t0_54 i := by unfold lit0t0_54; rw [wrap]
theorem lit0t0_55_leaf (i : ℕ) : lit0t0_55 (32768 + i) = lit0t0_55 i := by unfold lit0t0_55; rw [wrap]
theorem lit0t0_56_leaf (i : ℕ) : lit0t0_56 (32768 + i) = lit0t0_56 i := by unfold lit0t0_56; rw [wrap]
theorem lit0t0_57_leaf (i : ℕ) : lit0t0_57 (32768 + i) = lit0t0_57 i := by unfold lit0t0_57; rw [wrap]
theorem lit0t0_58_leaf (i : ℕ) : lit0t0_58 (32768 + i) = lit0t0_58 i := by unfold lit0t0_58; rw [wrap]
theorem lit0t0_59_leaf (i : ℕ) : lit0t0_59 (32768 + i) = lit0t0_59 i := by unfold lit0t0_59; rw [wrap]
theorem lit0t0_60_leaf (i : ℕ) : lit0t0_60 (32768 + i) = lit0t0_60 i := by unfold lit0t0_60; rw [wrap]
theorem lit0t0_61_leaf (i : ℕ) : lit0t0_61 (32768 + i) = lit0t0_61 i := by unfold lit0t0_61; rw [wrap]
theorem lit0t0_62_leaf (i : ℕ) : lit0t0_62 (32768 + i) = lit0t0_62 i := by unfold lit0t0_62; rw [wrap]
theorem lit0t0_63_leaf (i : ℕ) : lit0t0_63 (32768 + i) = lit0t0_63 i := by unfold lit0t0_63; rw [wrap]
theorem lit0t0_64_leaf (i : ℕ) : lit0t0_64 (32768 + i) = lit0t0_64 i := by unfold lit0t0_64; rw [wrap]
theorem lit0t0_65_leaf (i : ℕ) : lit0t0_65 (32768 + i) = lit0t0_65 i := by unfold lit0t0_65; rw [wrap]
theorem lit0t0_66_leaf (i : ℕ) : lit0t0_66 (32768 + i) = lit0t0_66 i := by unfold lit0t0_66; rw [wrap]
theorem lit0t0_67_leaf (i : ℕ) : lit0t0_67 (32768 + i) = lit0t0_67 i := by unfold lit0t0_67; rw [wrap]
theorem lit0t0_68_leaf (i : ℕ) : lit0t0_68 (32768 + i) = lit0t0_68 i := by unfold lit0t0_68; rw [wrap]
theorem lit0t0_69_leaf (i : ℕ) : lit0t0_69 (32768 + i) = lit0t0_69 i := by unfold lit0t0_69; rw [wrap]
theorem lit0t0_70_leaf (i : ℕ) : lit0t0_70 (32768 + i) = lit0t0_70 i := by unfold lit0t0_70; rw [wrap]
theorem lit0t0_71_leaf (i : ℕ) : lit0t0_71 (32768 + i) = lit0t0_71 i := by unfold lit0t0_71; rw [wrap]
theorem lit0t0_72_leaf (i : ℕ) : lit0t0_72 (32768 + i) = lit0t0_72 i := by unfold lit0t0_72; rw [wrap]
theorem lit0t0_73_leaf (i : ℕ) : lit0t0_73 (32768 + i) = lit0t0_73 i := by unfold lit0t0_73; rw [wrap]
theorem lit0t0_74_leaf (i : ℕ) : lit0t0_74 (32768 + i) = lit0t0_74 i := by unfold lit0t0_74; rw [wrap]
theorem lit0t0_75_leaf (i : ℕ) : lit0t0_75 (32768 + i) = lit0t0_75 i := by unfold lit0t0_75; rw [wrap]
theorem lit0t0_76_leaf (i : ℕ) : lit0t0_76 (32768 + i) = lit0t0_76 i := by unfold lit0t0_76; rw [wrap]
theorem lit0t0_77_leaf (i : ℕ) : lit0t0_77 (32768 + i) = lit0t0_77 i := by unfold lit0t0_77; rw [wrap]
theorem lit0t0_78_leaf (i : ℕ) : lit0t0_78 (32768 + i) = lit0t0_78 i := by unfold lit0t0_78; rw [wrap]
theorem lit0t0_79_leaf (i : ℕ) : lit0t0_79 (32768 + i) = lit0t0_79 i := by unfold lit0t0_79; rw [wrap]
theorem lit0t0_80_leaf (i : ℕ) : lit0t0_80 (32768 + i) = lit0t0_80 i := by unfold lit0t0_80; rw [wrap]
theorem lit0t0_81_leaf (i : ℕ) : lit0t0_81 (32768 + i) = lit0t0_81 i := by unfold lit0t0_81; rw [wrap]
theorem lit0t0_82_leaf (i : ℕ) : lit0t0_82 (32768 + i) = lit0t0_82 i := by unfold lit0t0_82; rw [wrap]
theorem lit0t0_83_leaf (i : ℕ) : lit0t0_83 (32768 + i) = lit0t0_83 i := by unfold lit0t0_83; rw [wrap]
theorem lit0t0_84_leaf (i : ℕ) : lit0t0_84 (32768 + i) = lit0t0_84 i := by unfold lit0t0_84; rw [wrap]
theorem lit0t0_85_leaf (i : ℕ) : lit0t0_85 (32768 + i) = lit0t0_85 i := by unfold lit0t0_85; rw [wrap]
theorem lit0t0_86_leaf (i : ℕ) : lit0t0_86 (32768 + i) = lit0t0_86 i := by unfold lit0t0_86; rw [wrap]
theorem lit0t0_87_leaf (i : ℕ) : lit0t0_87 (32768 + i) = lit0t0_87 i := by unfold lit0t0_87; rw [wrap]
theorem lit0t0_88_leaf (i : ℕ) : lit0t0_88 (32768 + i) = lit0t0_88 i := by unfold lit0t0_88; rw [wrap]
theorem lit0t0_89_leaf (i : ℕ) : lit0t0_89 (32768 + i) = lit0t0_89 i := by unfold lit0t0_89; rw [wrap]
theorem lit0t0_90_leaf (i : ℕ) : lit0t0_90 (32768 + i) = lit0t0_90 i := by unfold lit0t0_90; rw [wrap]
theorem lit0t0_91_leaf (i : ℕ) : lit0t0_91 (32768 + i) = lit0t0_91 i := by unfold lit0t0_91; rw [wrap]
theorem lit0t0_92_leaf (i : ℕ) : lit0t0_92 (32768 + i) = lit0t0_92 i := by unfold lit0t0_92; rw [wrap]
theorem lit0t0_93_leaf (i : ℕ) : lit0t0_93 (32768 + i) = lit0t0_93 i := by unfold lit0t0_93; rw [wrap]
theorem lit0t0_94_leaf (i : ℕ) : lit0t0_94 (32768 + i) = lit0t0_94 i := by unfold lit0t0_94; rw [wrap]
theorem lit0t0_95_leaf (i : ℕ) : lit0t0_95 (32768 + i) = lit0t0_95 i := by unfold lit0t0_95; rw [wrap]
theorem lit0t0_96_leaf (i : ℕ) : lit0t0_96 (32768 + i) = lit0t0_96 i := by unfold lit0t0_96; rw [wrap]
theorem lit0t0_97_leaf (i : ℕ) : lit0t0_97 (32768 + i) = lit0t0_97 i := by unfold lit0t0_97; rw [wrap]
theorem lit0t0_98_leaf (i : ℕ) : lit0t0_98 (32768 + i) = lit0t0_98 i := by unfold lit0t0_98; rw [wrap]
theorem lit0t0_99_leaf (i : ℕ) : lit0t0_99 (32768 + i) = lit0t0_99 i := by unfold lit0t0_99; rw [wrap]
theorem lit0t0_100_leaf (i : ℕ) : lit0t0_100 (32768 + i) = lit0t0_100 i := by unfold lit0t0_100; rw [wrap]
theorem lit0t0_101_leaf (i : ℕ) : lit0t0_101 (32768 + i) = lit0t0_101 i := by unfold lit0t0_101; rw [wrap]
theorem lit0t0_102_leaf (i : ℕ) : lit0t0_102 (32768 + i) = lit0t0_102 i := by unfold lit0t0_102; rw [wrap]
theorem lit0t0_103_leaf (i : ℕ) : lit0t0_103 (32768 + i) = lit0t0_103 i := by unfold lit0t0_103; rw [wrap]
theorem lit0t0_104_leaf (i : ℕ) : lit0t0_104 (32768 + i) = lit0t0_104 i := by unfold lit0t0_104; rw [wrap]
theorem lit0t0_105_leaf (i : ℕ) : lit0t0_105 (32768 + i) = lit0t0_105 i := by unfold lit0t0_105; rw [wrap]
theorem lit0t0_106_leaf (i : ℕ) : lit0t0_106 (32768 + i) = lit0t0_106 i := by unfold lit0t0_106; rw [wrap]
theorem lit0t0_107_leaf (i : ℕ) : lit0t0_107 (32768 + i) = lit0t0_107 i := by unfold lit0t0_107; rw [wrap]
theorem lit0t0_108_leaf (i : ℕ) : lit0t0_108 (32768 + i) = lit0t0_108 i := by unfold lit0t0_108; rw [wrap]
theorem lit0t0_109_leaf (i : ℕ) : lit0t0_109 (32768 + i) = lit0t0_109 i := by unfold lit0t0_109; rw [wrap]
theorem lit0t0_110_leaf (i : ℕ) : lit0t0_110 (32768 + i) = lit0t0_110 i := by unfold lit0t0_110; rw [wrap]
theorem lit0t0_111_leaf (i : ℕ) : lit0t0_111 (32768 + i) = lit0t0_111 i := by unfold lit0t0_111; rw [wrap]
theorem lit0t0_112_leaf (i : ℕ) : lit0t0_112 (32768 + i) = lit0t0_112 i := by unfold lit0t0_112; rw [wrap]
theorem lit0t0_113_leaf (i : ℕ) : lit0t0_113 (32768 + i) = lit0t0_113 i := by unfold lit0t0_113; rw [wrap]
theorem lit0t0_114_leaf (i : ℕ) : lit0t0_114 (32768 + i) = lit0t0_114 i := by unfold lit0t0_114; rw [wrap]
theorem lit0t0_115_leaf (i : ℕ) : lit0t0_115 (32768 + i) = lit0t0_115 i := by unfold lit0t0_115; rw [wrap]
theorem lit0t0_116_leaf (i : ℕ) : lit0t0_116 (32768 + i) = lit0t0_116 i := by unfold lit0t0_116; rw [wrap]
theorem lit0t0_117_leaf (i : ℕ) : lit0t0_117 (32768 + i) = lit0t0_117 i := by unfold lit0t0_117; rw [wrap]
theorem lit0t0_118_leaf (i : ℕ) : lit0t0_118 (32768 + i) = lit0t0_118 i := by unfold lit0t0_118; rw [wrap]
theorem lit0t0_119_leaf (i : ℕ) : lit0t0_119 (32768 + i) = lit0t0_119 i := by unfold lit0t0_119; rw [wrap]
theorem lit0t0_120_leaf (i : ℕ) : lit0t0_120 (32768 + i) = lit0t0_120 i := by unfold lit0t0_120; rw [wrap]
theorem lit0t0_121_leaf (i : ℕ) : lit0t0_121 (32768 + i) = lit0t0_121 i := by unfold lit0t0_121; rw [wrap]
theorem lit0t0_122_leaf (i : ℕ) : lit0t0_122 (32768 + i) = lit0t0_122 i := by unfold lit0t0_122; rw [wrap]
theorem lit0t0_123_leaf (i : ℕ) : lit0t0_123 (32768 + i) = lit0t0_123 i := by unfold lit0t0_123; rw [wrap]
theorem lit0t0_124_leaf (i : ℕ) : lit0t0_124 (32768 + i) = lit0t0_124 i := by unfold lit0t0_124; rw [wrap]
theorem lit0t0_125_leaf (i : ℕ) : lit0t0_125 (32768 + i) = lit0t0_125 i := by unfold lit0t0_125; rw [wrap]
theorem lit0t0_126_leaf (i : ℕ) : lit0t0_126 (32768 + i) = lit0t0_126 i := by unfold lit0t0_126; rw [wrap]
theorem lit0t0_127_leaf (i : ℕ) : lit0t0_127 (32768 + i) = lit0t0_127 i := by unfold lit0t0_127; rw [wrap]

theorem lit0tPeriod_0 (i : ℕ) : lit0t1_0 (32768 + i) = lit0t1_0 i := by
  have a : (32768 + i) / 128 % 128 = i / 128 % 128 := by omega
  unfold lit0t1_0
  rw [a]
  generalize i / 128 % 128 = n
  split
  · exact lit0t0_0_leaf i
  · exact lit0t0_1_leaf i
  · exact lit0t0_2_leaf i
  · exact lit0t0_3_leaf i
  · exact lit0t0_4_leaf i
  · exact lit0t0_5_leaf i
  · exact lit0t0_6_leaf i
  · exact lit0t0_7_leaf i
  · exact lit0t0_8_leaf i
  · exact lit0t0_9_leaf i
  · exact lit0t0_10_leaf i
  · exact lit0t0_11_leaf i
  · exact lit0t0_12_leaf i
  · exact lit0t0_13_leaf i
  · exact lit0t0_14_leaf i
  · exact lit0t0_15_leaf i
  · exact lit0t0_16_leaf i
  · exact lit0t0_17_leaf i
  · exact lit0t0_18_leaf i
  · exact lit0t0_19_leaf i
  · exact lit0t0_20_leaf i
  · exact lit0t0_21_leaf i
  · exact lit0t0_22_leaf i
  · exact lit0t0_23_leaf i
  · exact lit0t0_24_leaf i
  · exact lit0t0_25_leaf i
  · exact lit0t0_26_leaf i
  · exact lit0t0_27_leaf i
  · exact lit0t0_28_leaf i
  · exact lit0t0_29_leaf i
  · exact lit0t0_30_leaf i
  · exact lit0t0_31_leaf i
  · exact lit0t0_32_leaf i
  · exact lit0t0_33_leaf i
  · exact lit0t0_34_leaf i
  · exact lit0t0_35_leaf i
  · exact lit0t0_36_leaf i
  · exact lit0t0_37_leaf i
  · exact lit0t0_38_leaf i
  · exact lit0t0_39_leaf i
  · exact lit0t0_40_leaf i
  · exact lit0t0_41_leaf i
  · exact lit0t0_42_leaf i
  · exact lit0t0_43_leaf i
  · exact lit0t0_44_leaf i
  · exact lit0t0_45_leaf i
  · exact lit0t0_46_leaf i
  · exact lit0t0_47_leaf i
  · exact lit0t0_48_leaf i
  · exact lit0t0_49_leaf i
  · exact lit0t0_50_leaf i
  · exact lit0t0_51_leaf i
  · exact lit0t0_52_leaf i
  · exact lit0t0_53_leaf i
  · exact lit0t0_54_leaf i
  · exact lit0t0_55_leaf i
  · exact lit0t0_56_leaf i
  · exact lit0t0_57_leaf i
  · exact lit0t0_58_leaf i
  · exact lit0t0_59_leaf i
  · exact lit0t0_60_leaf i
  · exact lit0t0_61_leaf i
  · exact lit0t0_62_leaf i
  · exact lit0t0_63_leaf i
  · exact lit0t0_64_leaf i
  · exact lit0t0_65_leaf i
  · exact lit0t0_66_leaf i
  · exact lit0t0_67_leaf i
  · exact lit0t0_68_leaf i
  · exact lit0t0_69_leaf i
  · exact lit0t0_70_leaf i
  · exact lit0t0_71_leaf i
  · exact lit0t0_72_leaf i
  · exact lit0t0_73_leaf i
  · exact lit0t0_74_leaf i
  · exact lit0t0_75_leaf i
  · exact lit0t0_76_leaf i
  · exact lit0t0_77_leaf i
  · exact lit0t0_78_leaf i
  · exact lit0t0_79_leaf i
  · exact lit0t0_80_leaf i
  · exact lit0t0_81_leaf i
  · exact lit0t0_82_leaf i
  · exact lit0t0_83_leaf i
  · exact lit0t0_84_leaf i
  · exact lit0t0_85_leaf i
  · exact lit0t0_86_leaf i
  · exact lit0t0_87_leaf i
  · exact lit0t0_88_leaf i
  · exact lit0t0_89_leaf i
  · exact lit0t0_90_leaf i
  · exact lit0t0_91_leaf i
  · exact lit0t0_92_leaf i
  · exact lit0t0_93_leaf i
  · exact lit0t0_94_leaf i
  · exact lit0t0_95_leaf i
  · exact lit0t0_96_leaf i
  · exact lit0t0_97_leaf i
  · exact lit0t0_98_leaf i
  · exact lit0t0_99_leaf i
  · exact lit0t0_100_leaf i
  · exact lit0t0_101_leaf i
  · exact lit0t0_102_leaf i
  · exact lit0t0_103_leaf i
  · exact lit0t0_104_leaf i
  · exact lit0t0_105_leaf i
  · exact lit0t0_106_leaf i
  · exact lit0t0_107_leaf i
  · exact lit0t0_108_leaf i
  · exact lit0t0_109_leaf i
  · exact lit0t0_110_leaf i
  · exact lit0t0_111_leaf i
  · exact lit0t0_112_leaf i
  · exact lit0t0_113_leaf i
  · exact lit0t0_114_leaf i
  · exact lit0t0_115_leaf i
  · exact lit0t0_116_leaf i
  · exact lit0t0_117_leaf i
  · exact lit0t0_118_leaf i
  · exact lit0t0_119_leaf i
  · exact lit0t0_120_leaf i
  · exact lit0t0_121_leaf i
  · exact lit0t0_122_leaf i
  · exact lit0t0_123_leaf i
  · exact lit0t0_124_leaf i
  · exact lit0t0_125_leaf i
  · exact lit0t0_126_leaf i
  · exact lit0t0_127_leaf i
  · rfl

theorem lit0t0_128_leaf (i : ℕ) : lit0t0_128 (32768 + i) = lit0t0_128 i := by unfold lit0t0_128; rw [wrap]
theorem lit0t0_129_leaf (i : ℕ) : lit0t0_129 (32768 + i) = lit0t0_129 i := by unfold lit0t0_129; rw [wrap]
theorem lit0t0_130_leaf (i : ℕ) : lit0t0_130 (32768 + i) = lit0t0_130 i := by unfold lit0t0_130; rw [wrap]
theorem lit0t0_131_leaf (i : ℕ) : lit0t0_131 (32768 + i) = lit0t0_131 i := by unfold lit0t0_131; rw [wrap]
theorem lit0t0_132_leaf (i : ℕ) : lit0t0_132 (32768 + i) = lit0t0_132 i := by unfold lit0t0_132; rw [wrap]
theorem lit0t0_133_leaf (i : ℕ) : lit0t0_133 (32768 + i) = lit0t0_133 i := by unfold lit0t0_133; rw [wrap]
theorem lit0t0_134_leaf (i : ℕ) : lit0t0_134 (32768 + i) = lit0t0_134 i := by unfold lit0t0_134; rw [wrap]
theorem lit0t0_135_leaf (i : ℕ) : lit0t0_135 (32768 + i) = lit0t0_135 i := by unfold lit0t0_135; rw [wrap]
theorem lit0t0_136_leaf (i : ℕ) : lit0t0_136 (32768 + i) = lit0t0_136 i := by unfold lit0t0_136; rw [wrap]
theorem lit0t0_137_leaf (i : ℕ) : lit0t0_137 (32768 + i) = lit0t0_137 i := by unfold lit0t0_137; rw [wrap]
theorem lit0t0_138_leaf (i : ℕ) : lit0t0_138 (32768 + i) = lit0t0_138 i := by unfold lit0t0_138; rw [wrap]
theorem lit0t0_139_leaf (i : ℕ) : lit0t0_139 (32768 + i) = lit0t0_139 i := by unfold lit0t0_139; rw [wrap]
theorem lit0t0_140_leaf (i : ℕ) : lit0t0_140 (32768 + i) = lit0t0_140 i := by unfold lit0t0_140; rw [wrap]
theorem lit0t0_141_leaf (i : ℕ) : lit0t0_141 (32768 + i) = lit0t0_141 i := by unfold lit0t0_141; rw [wrap]
theorem lit0t0_142_leaf (i : ℕ) : lit0t0_142 (32768 + i) = lit0t0_142 i := by unfold lit0t0_142; rw [wrap]
theorem lit0t0_143_leaf (i : ℕ) : lit0t0_143 (32768 + i) = lit0t0_143 i := by unfold lit0t0_143; rw [wrap]
theorem lit0t0_144_leaf (i : ℕ) : lit0t0_144 (32768 + i) = lit0t0_144 i := by unfold lit0t0_144; rw [wrap]
theorem lit0t0_145_leaf (i : ℕ) : lit0t0_145 (32768 + i) = lit0t0_145 i := by unfold lit0t0_145; rw [wrap]
theorem lit0t0_146_leaf (i : ℕ) : lit0t0_146 (32768 + i) = lit0t0_146 i := by unfold lit0t0_146; rw [wrap]
theorem lit0t0_147_leaf (i : ℕ) : lit0t0_147 (32768 + i) = lit0t0_147 i := by unfold lit0t0_147; rw [wrap]
theorem lit0t0_148_leaf (i : ℕ) : lit0t0_148 (32768 + i) = lit0t0_148 i := by unfold lit0t0_148; rw [wrap]
theorem lit0t0_149_leaf (i : ℕ) : lit0t0_149 (32768 + i) = lit0t0_149 i := by unfold lit0t0_149; rw [wrap]
theorem lit0t0_150_leaf (i : ℕ) : lit0t0_150 (32768 + i) = lit0t0_150 i := by unfold lit0t0_150; rw [wrap]
theorem lit0t0_151_leaf (i : ℕ) : lit0t0_151 (32768 + i) = lit0t0_151 i := by unfold lit0t0_151; rw [wrap]
theorem lit0t0_152_leaf (i : ℕ) : lit0t0_152 (32768 + i) = lit0t0_152 i := by unfold lit0t0_152; rw [wrap]
theorem lit0t0_153_leaf (i : ℕ) : lit0t0_153 (32768 + i) = lit0t0_153 i := by unfold lit0t0_153; rw [wrap]
theorem lit0t0_154_leaf (i : ℕ) : lit0t0_154 (32768 + i) = lit0t0_154 i := by unfold lit0t0_154; rw [wrap]
theorem lit0t0_155_leaf (i : ℕ) : lit0t0_155 (32768 + i) = lit0t0_155 i := by unfold lit0t0_155; rw [wrap]
theorem lit0t0_156_leaf (i : ℕ) : lit0t0_156 (32768 + i) = lit0t0_156 i := by unfold lit0t0_156; rw [wrap]
theorem lit0t0_157_leaf (i : ℕ) : lit0t0_157 (32768 + i) = lit0t0_157 i := by unfold lit0t0_157; rw [wrap]
theorem lit0t0_158_leaf (i : ℕ) : lit0t0_158 (32768 + i) = lit0t0_158 i := by unfold lit0t0_158; rw [wrap]
theorem lit0t0_159_leaf (i : ℕ) : lit0t0_159 (32768 + i) = lit0t0_159 i := by unfold lit0t0_159; rw [wrap]
theorem lit0t0_160_leaf (i : ℕ) : lit0t0_160 (32768 + i) = lit0t0_160 i := by unfold lit0t0_160; rw [wrap]
theorem lit0t0_161_leaf (i : ℕ) : lit0t0_161 (32768 + i) = lit0t0_161 i := by unfold lit0t0_161; rw [wrap]
theorem lit0t0_162_leaf (i : ℕ) : lit0t0_162 (32768 + i) = lit0t0_162 i := by unfold lit0t0_162; rw [wrap]
theorem lit0t0_163_leaf (i : ℕ) : lit0t0_163 (32768 + i) = lit0t0_163 i := by unfold lit0t0_163; rw [wrap]
theorem lit0t0_164_leaf (i : ℕ) : lit0t0_164 (32768 + i) = lit0t0_164 i := by unfold lit0t0_164; rw [wrap]
theorem lit0t0_165_leaf (i : ℕ) : lit0t0_165 (32768 + i) = lit0t0_165 i := by unfold lit0t0_165; rw [wrap]
theorem lit0t0_166_leaf (i : ℕ) : lit0t0_166 (32768 + i) = lit0t0_166 i := by unfold lit0t0_166; rw [wrap]
theorem lit0t0_167_leaf (i : ℕ) : lit0t0_167 (32768 + i) = lit0t0_167 i := by unfold lit0t0_167; rw [wrap]
theorem lit0t0_168_leaf (i : ℕ) : lit0t0_168 (32768 + i) = lit0t0_168 i := by unfold lit0t0_168; rw [wrap]
theorem lit0t0_169_leaf (i : ℕ) : lit0t0_169 (32768 + i) = lit0t0_169 i := by unfold lit0t0_169; rw [wrap]
theorem lit0t0_170_leaf (i : ℕ) : lit0t0_170 (32768 + i) = lit0t0_170 i := by unfold lit0t0_170; rw [wrap]
theorem lit0t0_171_leaf (i : ℕ) : lit0t0_171 (32768 + i) = lit0t0_171 i := by unfold lit0t0_171; rw [wrap]
theorem lit0t0_172_leaf (i : ℕ) : lit0t0_172 (32768 + i) = lit0t0_172 i := by unfold lit0t0_172; rw [wrap]
theorem lit0t0_173_leaf (i : ℕ) : lit0t0_173 (32768 + i) = lit0t0_173 i := by unfold lit0t0_173; rw [wrap]
theorem lit0t0_174_leaf (i : ℕ) : lit0t0_174 (32768 + i) = lit0t0_174 i := by unfold lit0t0_174; rw [wrap]
theorem lit0t0_175_leaf (i : ℕ) : lit0t0_175 (32768 + i) = lit0t0_175 i := by unfold lit0t0_175; rw [wrap]
theorem lit0t0_176_leaf (i : ℕ) : lit0t0_176 (32768 + i) = lit0t0_176 i := by unfold lit0t0_176; rw [wrap]
theorem lit0t0_177_leaf (i : ℕ) : lit0t0_177 (32768 + i) = lit0t0_177 i := by unfold lit0t0_177; rw [wrap]
theorem lit0t0_178_leaf (i : ℕ) : lit0t0_178 (32768 + i) = lit0t0_178 i := by unfold lit0t0_178; rw [wrap]
theorem lit0t0_179_leaf (i : ℕ) : lit0t0_179 (32768 + i) = lit0t0_179 i := by unfold lit0t0_179; rw [wrap]
theorem lit0t0_180_leaf (i : ℕ) : lit0t0_180 (32768 + i) = lit0t0_180 i := by unfold lit0t0_180; rw [wrap]
theorem lit0t0_181_leaf (i : ℕ) : lit0t0_181 (32768 + i) = lit0t0_181 i := by unfold lit0t0_181; rw [wrap]
theorem lit0t0_182_leaf (i : ℕ) : lit0t0_182 (32768 + i) = lit0t0_182 i := by unfold lit0t0_182; rw [wrap]
theorem lit0t0_183_leaf (i : ℕ) : lit0t0_183 (32768 + i) = lit0t0_183 i := by unfold lit0t0_183; rw [wrap]
theorem lit0t0_184_leaf (i : ℕ) : lit0t0_184 (32768 + i) = lit0t0_184 i := by unfold lit0t0_184; rw [wrap]
theorem lit0t0_185_leaf (i : ℕ) : lit0t0_185 (32768 + i) = lit0t0_185 i := by unfold lit0t0_185; rw [wrap]
theorem lit0t0_186_leaf (i : ℕ) : lit0t0_186 (32768 + i) = lit0t0_186 i := by unfold lit0t0_186; rw [wrap]
theorem lit0t0_187_leaf (i : ℕ) : lit0t0_187 (32768 + i) = lit0t0_187 i := by unfold lit0t0_187; rw [wrap]
theorem lit0t0_188_leaf (i : ℕ) : lit0t0_188 (32768 + i) = lit0t0_188 i := by unfold lit0t0_188; rw [wrap]
theorem lit0t0_189_leaf (i : ℕ) : lit0t0_189 (32768 + i) = lit0t0_189 i := by unfold lit0t0_189; rw [wrap]
theorem lit0t0_190_leaf (i : ℕ) : lit0t0_190 (32768 + i) = lit0t0_190 i := by unfold lit0t0_190; rw [wrap]
theorem lit0t0_191_leaf (i : ℕ) : lit0t0_191 (32768 + i) = lit0t0_191 i := by unfold lit0t0_191; rw [wrap]
theorem lit0t0_192_leaf (i : ℕ) : lit0t0_192 (32768 + i) = lit0t0_192 i := by unfold lit0t0_192; rw [wrap]
theorem lit0t0_193_leaf (i : ℕ) : lit0t0_193 (32768 + i) = lit0t0_193 i := by unfold lit0t0_193; rw [wrap]
theorem lit0t0_194_leaf (i : ℕ) : lit0t0_194 (32768 + i) = lit0t0_194 i := by unfold lit0t0_194; rw [wrap]
theorem lit0t0_195_leaf (i : ℕ) : lit0t0_195 (32768 + i) = lit0t0_195 i := by unfold lit0t0_195; rw [wrap]
theorem lit0t0_196_leaf (i : ℕ) : lit0t0_196 (32768 + i) = lit0t0_196 i := by unfold lit0t0_196; rw [wrap]
theorem lit0t0_197_leaf (i : ℕ) : lit0t0_197 (32768 + i) = lit0t0_197 i := by unfold lit0t0_197; rw [wrap]
theorem lit0t0_198_leaf (i : ℕ) : lit0t0_198 (32768 + i) = lit0t0_198 i := by unfold lit0t0_198; rw [wrap]
theorem lit0t0_199_leaf (i : ℕ) : lit0t0_199 (32768 + i) = lit0t0_199 i := by unfold lit0t0_199; rw [wrap]
theorem lit0t0_200_leaf (i : ℕ) : lit0t0_200 (32768 + i) = lit0t0_200 i := by unfold lit0t0_200; rw [wrap]
theorem lit0t0_201_leaf (i : ℕ) : lit0t0_201 (32768 + i) = lit0t0_201 i := by unfold lit0t0_201; rw [wrap]
theorem lit0t0_202_leaf (i : ℕ) : lit0t0_202 (32768 + i) = lit0t0_202 i := by unfold lit0t0_202; rw [wrap]
theorem lit0t0_203_leaf (i : ℕ) : lit0t0_203 (32768 + i) = lit0t0_203 i := by unfold lit0t0_203; rw [wrap]
theorem lit0t0_204_leaf (i : ℕ) : lit0t0_204 (32768 + i) = lit0t0_204 i := by unfold lit0t0_204; rw [wrap]
theorem lit0t0_205_leaf (i : ℕ) : lit0t0_205 (32768 + i) = lit0t0_205 i := by unfold lit0t0_205; rw [wrap]
theorem lit0t0_206_leaf (i : ℕ) : lit0t0_206 (32768 + i) = lit0t0_206 i := by unfold lit0t0_206; rw [wrap]
theorem lit0t0_207_leaf (i : ℕ) : lit0t0_207 (32768 + i) = lit0t0_207 i := by unfold lit0t0_207; rw [wrap]
theorem lit0t0_208_leaf (i : ℕ) : lit0t0_208 (32768 + i) = lit0t0_208 i := by unfold lit0t0_208; rw [wrap]
theorem lit0t0_209_leaf (i : ℕ) : lit0t0_209 (32768 + i) = lit0t0_209 i := by unfold lit0t0_209; rw [wrap]
theorem lit0t0_210_leaf (i : ℕ) : lit0t0_210 (32768 + i) = lit0t0_210 i := by unfold lit0t0_210; rw [wrap]
theorem lit0t0_211_leaf (i : ℕ) : lit0t0_211 (32768 + i) = lit0t0_211 i := by unfold lit0t0_211; rw [wrap]
theorem lit0t0_212_leaf (i : ℕ) : lit0t0_212 (32768 + i) = lit0t0_212 i := by unfold lit0t0_212; rw [wrap]
theorem lit0t0_213_leaf (i : ℕ) : lit0t0_213 (32768 + i) = lit0t0_213 i := by unfold lit0t0_213; rw [wrap]
theorem lit0t0_214_leaf (i : ℕ) : lit0t0_214 (32768 + i) = lit0t0_214 i := by unfold lit0t0_214; rw [wrap]
theorem lit0t0_215_leaf (i : ℕ) : lit0t0_215 (32768 + i) = lit0t0_215 i := by unfold lit0t0_215; rw [wrap]
theorem lit0t0_216_leaf (i : ℕ) : lit0t0_216 (32768 + i) = lit0t0_216 i := by unfold lit0t0_216; rw [wrap]
theorem lit0t0_217_leaf (i : ℕ) : lit0t0_217 (32768 + i) = lit0t0_217 i := by unfold lit0t0_217; rw [wrap]
theorem lit0t0_218_leaf (i : ℕ) : lit0t0_218 (32768 + i) = lit0t0_218 i := by unfold lit0t0_218; rw [wrap]
theorem lit0t0_219_leaf (i : ℕ) : lit0t0_219 (32768 + i) = lit0t0_219 i := by unfold lit0t0_219; rw [wrap]
theorem lit0t0_220_leaf (i : ℕ) : lit0t0_220 (32768 + i) = lit0t0_220 i := by unfold lit0t0_220; rw [wrap]
theorem lit0t0_221_leaf (i : ℕ) : lit0t0_221 (32768 + i) = lit0t0_221 i := by unfold lit0t0_221; rw [wrap]
theorem lit0t0_222_leaf (i : ℕ) : lit0t0_222 (32768 + i) = lit0t0_222 i := by unfold lit0t0_222; rw [wrap]
theorem lit0t0_223_leaf (i : ℕ) : lit0t0_223 (32768 + i) = lit0t0_223 i := by unfold lit0t0_223; rw [wrap]
theorem lit0t0_224_leaf (i : ℕ) : lit0t0_224 (32768 + i) = lit0t0_224 i := by unfold lit0t0_224; rw [wrap]
theorem lit0t0_225_leaf (i : ℕ) : lit0t0_225 (32768 + i) = lit0t0_225 i := by unfold lit0t0_225; rw [wrap]
theorem lit0t0_226_leaf (i : ℕ) : lit0t0_226 (32768 + i) = lit0t0_226 i := by unfold lit0t0_226; rw [wrap]
theorem lit0t0_227_leaf (i : ℕ) : lit0t0_227 (32768 + i) = lit0t0_227 i := by unfold lit0t0_227; rw [wrap]
theorem lit0t0_228_leaf (i : ℕ) : lit0t0_228 (32768 + i) = lit0t0_228 i := by unfold lit0t0_228; rw [wrap]
theorem lit0t0_229_leaf (i : ℕ) : lit0t0_229 (32768 + i) = lit0t0_229 i := by unfold lit0t0_229; rw [wrap]
theorem lit0t0_230_leaf (i : ℕ) : lit0t0_230 (32768 + i) = lit0t0_230 i := by unfold lit0t0_230; rw [wrap]
theorem lit0t0_231_leaf (i : ℕ) : lit0t0_231 (32768 + i) = lit0t0_231 i := by unfold lit0t0_231; rw [wrap]
theorem lit0t0_232_leaf (i : ℕ) : lit0t0_232 (32768 + i) = lit0t0_232 i := by unfold lit0t0_232; rw [wrap]
theorem lit0t0_233_leaf (i : ℕ) : lit0t0_233 (32768 + i) = lit0t0_233 i := by unfold lit0t0_233; rw [wrap]
theorem lit0t0_234_leaf (i : ℕ) : lit0t0_234 (32768 + i) = lit0t0_234 i := by unfold lit0t0_234; rw [wrap]
theorem lit0t0_235_leaf (i : ℕ) : lit0t0_235 (32768 + i) = lit0t0_235 i := by unfold lit0t0_235; rw [wrap]
theorem lit0t0_236_leaf (i : ℕ) : lit0t0_236 (32768 + i) = lit0t0_236 i := by unfold lit0t0_236; rw [wrap]
theorem lit0t0_237_leaf (i : ℕ) : lit0t0_237 (32768 + i) = lit0t0_237 i := by unfold lit0t0_237; rw [wrap]
theorem lit0t0_238_leaf (i : ℕ) : lit0t0_238 (32768 + i) = lit0t0_238 i := by unfold lit0t0_238; rw [wrap]
theorem lit0t0_239_leaf (i : ℕ) : lit0t0_239 (32768 + i) = lit0t0_239 i := by unfold lit0t0_239; rw [wrap]
theorem lit0t0_240_leaf (i : ℕ) : lit0t0_240 (32768 + i) = lit0t0_240 i := by unfold lit0t0_240; rw [wrap]
theorem lit0t0_241_leaf (i : ℕ) : lit0t0_241 (32768 + i) = lit0t0_241 i := by unfold lit0t0_241; rw [wrap]
theorem lit0t0_242_leaf (i : ℕ) : lit0t0_242 (32768 + i) = lit0t0_242 i := by unfold lit0t0_242; rw [wrap]
theorem lit0t0_243_leaf (i : ℕ) : lit0t0_243 (32768 + i) = lit0t0_243 i := by unfold lit0t0_243; rw [wrap]
theorem lit0t0_244_leaf (i : ℕ) : lit0t0_244 (32768 + i) = lit0t0_244 i := by unfold lit0t0_244; rw [wrap]
theorem lit0t0_245_leaf (i : ℕ) : lit0t0_245 (32768 + i) = lit0t0_245 i := by unfold lit0t0_245; rw [wrap]
theorem lit0t0_246_leaf (i : ℕ) : lit0t0_246 (32768 + i) = lit0t0_246 i := by unfold lit0t0_246; rw [wrap]
theorem lit0t0_247_leaf (i : ℕ) : lit0t0_247 (32768 + i) = lit0t0_247 i := by unfold lit0t0_247; rw [wrap]
theorem lit0t0_248_leaf (i : ℕ) : lit0t0_248 (32768 + i) = lit0t0_248 i := by unfold lit0t0_248; rw [wrap]
theorem lit0t0_249_leaf (i : ℕ) : lit0t0_249 (32768 + i) = lit0t0_249 i := by unfold lit0t0_249; rw [wrap]
theorem lit0t0_250_leaf (i : ℕ) : lit0t0_250 (32768 + i) = lit0t0_250 i := by unfold lit0t0_250; rw [wrap]
theorem lit0t0_251_leaf (i : ℕ) : lit0t0_251 (32768 + i) = lit0t0_251 i := by unfold lit0t0_251; rw [wrap]
theorem lit0t0_252_leaf (i : ℕ) : lit0t0_252 (32768 + i) = lit0t0_252 i := by unfold lit0t0_252; rw [wrap]
theorem lit0t0_253_leaf (i : ℕ) : lit0t0_253 (32768 + i) = lit0t0_253 i := by unfold lit0t0_253; rw [wrap]
theorem lit0t0_254_leaf (i : ℕ) : lit0t0_254 (32768 + i) = lit0t0_254 i := by unfold lit0t0_254; rw [wrap]
theorem lit0t0_255_leaf (i : ℕ) : lit0t0_255 (32768 + i) = lit0t0_255 i := by unfold lit0t0_255; rw [wrap]

theorem lit0tPeriod_1 (i : ℕ) : lit0t1_1 (32768 + i) = lit0t1_1 i := by
  have a : (32768 + i) / 128 % 128 = i / 128 % 128 := by omega
  unfold lit0t1_1
  rw [a]
  generalize i / 128 % 128 = n
  split
  · exact lit0t0_128_leaf i
  · exact lit0t0_129_leaf i
  · exact lit0t0_130_leaf i
  · exact lit0t0_131_leaf i
  · exact lit0t0_132_leaf i
  · exact lit0t0_133_leaf i
  · exact lit0t0_134_leaf i
  · exact lit0t0_135_leaf i
  · exact lit0t0_136_leaf i
  · exact lit0t0_137_leaf i
  · exact lit0t0_138_leaf i
  · exact lit0t0_139_leaf i
  · exact lit0t0_140_leaf i
  · exact lit0t0_141_leaf i
  · exact lit0t0_142_leaf i
  · exact lit0t0_143_leaf i
  · exact lit0t0_144_leaf i
  · exact lit0t0_145_leaf i
  · exact lit0t0_146_leaf i
  · exact lit0t0_147_leaf i
  · exact lit0t0_148_leaf i
  · exact lit0t0_149_leaf i
  · exact lit0t0_150_leaf i
  · exact lit0t0_151_leaf i
  · exact lit0t0_152_leaf i
  · exact lit0t0_153_leaf i
  · exact lit0t0_154_leaf i
  · exact lit0t0_155_leaf i
  · exact lit0t0_156_leaf i
  · exact lit0t0_157_leaf i
  · exact lit0t0_158_leaf i
  · exact lit0t0_159_leaf i
  · exact lit0t0_160_leaf i
  · exact lit0t0_161_leaf i
  · exact lit0t0_162_leaf i
  · exact lit0t0_163_leaf i
  · exact lit0t0_164_leaf i
  · exact lit0t0_165_leaf i
  · exact lit0t0_166_leaf i
  · exact lit0t0_167_leaf i
  · exact lit0t0_168_leaf i
  · exact lit0t0_169_leaf i
  · exact lit0t0_170_leaf i
  · exact lit0t0_171_leaf i
  · exact lit0t0_172_leaf i
  · exact lit0t0_173_leaf i
  · exact lit0t0_174_leaf i
  · exact lit0t0_175_leaf i
  · exact lit0t0_176_leaf i
  · exact lit0t0_177_leaf i
  · exact lit0t0_178_leaf i
  · exact lit0t0_179_leaf i
  · exact lit0t0_180_leaf i
  · exact lit0t0_181_leaf i
  · exact lit0t0_182_leaf i
  · exact lit0t0_183_leaf i
  · exact lit0t0_184_leaf i
  · exact lit0t0_185_leaf i
  · exact lit0t0_186_leaf i
  · exact lit0t0_187_leaf i
  · exact lit0t0_188_leaf i
  · exact lit0t0_189_leaf i
  · exact lit0t0_190_leaf i
  · exact lit0t0_191_leaf i
  · exact lit0t0_192_leaf i
  · exact lit0t0_193_leaf i
  · exact lit0t0_194_leaf i
  · exact lit0t0_195_leaf i
  · exact lit0t0_196_leaf i
  · exact lit0t0_197_leaf i
  · exact lit0t0_198_leaf i
  · exact lit0t0_199_leaf i
  · exact lit0t0_200_leaf i
  · exact lit0t0_201_leaf i
  · exact lit0t0_202_leaf i
  · exact lit0t0_203_leaf i
  · exact lit0t0_204_leaf i
  · exact lit0t0_205_leaf i
  · exact lit0t0_206_leaf i
  · exact lit0t0_207_leaf i
  · exact lit0t0_208_leaf i
  · exact lit0t0_209_leaf i
  · exact lit0t0_210_leaf i
  · exact lit0t0_211_leaf i
  · exact lit0t0_212_leaf i
  · exact lit0t0_213_leaf i
  · exact lit0t0_214_leaf i
  · exact lit0t0_215_leaf i
  · exact lit0t0_216_leaf i
  · exact lit0t0_217_leaf i
  · exact lit0t0_218_leaf i
  · exact lit0t0_219_leaf i
  · exact lit0t0_220_leaf i
  · exact lit0t0_221_leaf i
  · exact lit0t0_222_leaf i
  · exact lit0t0_223_leaf i
  · exact lit0t0_224_leaf i
  · exact lit0t0_225_leaf i
  · exact lit0t0_226_leaf i
  · exact lit0t0_227_leaf i
  · exact lit0t0_228_leaf i
  · exact lit0t0_229_leaf i
  · exact lit0t0_230_leaf i
  · exact lit0t0_231_leaf i
  · exact lit0t0_232_leaf i
  · exact lit0t0_233_leaf i
  · exact lit0t0_234_leaf i
  · exact lit0t0_235_leaf i
  · exact lit0t0_236_leaf i
  · exact lit0t0_237_leaf i
  · exact lit0t0_238_leaf i
  · exact lit0t0_239_leaf i
  · exact lit0t0_240_leaf i
  · exact lit0t0_241_leaf i
  · exact lit0t0_242_leaf i
  · exact lit0t0_243_leaf i
  · exact lit0t0_244_leaf i
  · exact lit0t0_245_leaf i
  · exact lit0t0_246_leaf i
  · exact lit0t0_247_leaf i
  · exact lit0t0_248_leaf i
  · exact lit0t0_249_leaf i
  · exact lit0t0_250_leaf i
  · exact lit0t0_251_leaf i
  · exact lit0t0_252_leaf i
  · exact lit0t0_253_leaf i
  · exact lit0t0_254_leaf i
  · exact lit0t0_255_leaf i
  · rfl

/-- The table's lower half repeats its upper half. -/
theorem lit0t_low (i : ℕ) (h : i < 32768) : lit0t (32768 + i) = lit0t i := by
  have e : ∀ n, n % 16384 / 128 % 128 = n / 128 % 128 := by intro n; omega
  by_cases h' : i < 16384
  · have a : (32768 + i) / 16384 = 2 := by omega
    have b : i / 16384 = 0 := by omega
    unfold lit0t
    rw [a, b]
    exact (congrFun lower0_0 _).trans (lit0tPeriod_0 i)
  · have a : (32768 + i) / 16384 = 3 := by omega
    have b : i / 16384 = 1 := by omega
    unfold lit0t
    rw [a, b]
    exact (congrFun lower0_1 _).trans (lit0tPeriod_1 i)

/-- The words of the inclusive scan's table. -/
theorem tableIn_words : (fun i => FloatOps.ofBits (F := Ideal) .bf16 (lit0 (S256x256.rowMajor i)) : FVec Ideal S256x256 .bf16) = up (a := 256) (b := 256) .bf16 tabIn := by
  funext j
  have h0 : (j 0).val < 256 := (j 0).isLt
  have h1 : (j 1).val < 256 := (j 1).isLt
  have hw : (S256x256.rowMajor j).val = 256 * (j 0).val + (j 1).val := by
    rw [Shape.rowMajor_val_two]
    show (j 0).val * 256 + (j 1).val = _
    omega
  show FloatOps.ofBits (F := Ideal) .bf16 (lit0t (S256x256.rowMajor j).val) = ((tabIn (j 0).val (j 1).val : ℝ) : EReal)
  rw [hw]
  have hrow : lit0t (256 * (j 0).val + (j 1).val) = if (j 1).val < 128 → (j 0).val % 128 ≤ (j 1).val then 0x3F80#16 else 0x0000#16 := by
    by_cases h : (j 0).val < 128
    · rw [Nat.mod_eq_of_lt h]
      exact rowIn_low _ h ⟨_, h1⟩
    · have e : 256 * (j 0).val + (j 1).val = 32768 + (256 * ((j 0).val - 128) + (j 1).val) := by omega
      rw [e, lit0t_low _ (by omega), show (j 0).val % 128 = (j 0).val - 128 by omega]
      exact rowIn_low _ (by omega) ⟨_, h1⟩
  rw [hrow]
  unfold tabIn
  by_cases h : (j 1).val < 128
  · by_cases h' : (j 0).val % 128 ≤ (j 1).val
    · rw [if_pos (fun _ => h'), if_pos h, if_pos h']; exact Ideal.ofBits_one_bf16
    · rw [if_neg (fun g => h' (g h)), if_pos h, if_neg h']; exact Ideal.ofBits_zero_bf16
  · rw [if_pos (fun g => absurd g h), if_neg h]; exact Ideal.ofBits_one_bf16

theorem rowEx_low (r : ℕ) (h : r < 128) : rowEx r := by
  have e : r = 32 * (r / 32) + r % 32 := by omega
  have hq : r / 32 < 4 := by omega
  have hr : r % 32 < 32 := by omega
  rw [e]
  generalize r / 32 = a at hq ⊢
  generalize r % 32 = b at hr ⊢
  interval_cases a
  · exact rowEx_0 ⟨b, hr⟩
  · exact rowEx_1 ⟨b, hr⟩
  · exact rowEx_2 ⟨b, hr⟩
  · exact rowEx_3 ⟨b, hr⟩

theorem lit1t0_0_leaf (i : ℕ) : lit1t0_0 (32768 + i) = lit1t0_0 i := by unfold lit1t0_0; rw [wrap]
theorem lit1t0_1_leaf (i : ℕ) : lit1t0_1 (32768 + i) = lit1t0_1 i := by unfold lit1t0_1; rw [wrap]
theorem lit1t0_2_leaf (i : ℕ) : lit1t0_2 (32768 + i) = lit1t0_2 i := by unfold lit1t0_2; rw [wrap]
theorem lit1t0_3_leaf (i : ℕ) : lit1t0_3 (32768 + i) = lit1t0_3 i := by unfold lit1t0_3; rw [wrap]
theorem lit1t0_4_leaf (i : ℕ) : lit1t0_4 (32768 + i) = lit1t0_4 i := by unfold lit1t0_4; rw [wrap]
theorem lit1t0_5_leaf (i : ℕ) : lit1t0_5 (32768 + i) = lit1t0_5 i := by unfold lit1t0_5; rw [wrap]
theorem lit1t0_6_leaf (i : ℕ) : lit1t0_6 (32768 + i) = lit1t0_6 i := by unfold lit1t0_6; rw [wrap]
theorem lit1t0_7_leaf (i : ℕ) : lit1t0_7 (32768 + i) = lit1t0_7 i := by unfold lit1t0_7; rw [wrap]
theorem lit1t0_8_leaf (i : ℕ) : lit1t0_8 (32768 + i) = lit1t0_8 i := by unfold lit1t0_8; rw [wrap]
theorem lit1t0_9_leaf (i : ℕ) : lit1t0_9 (32768 + i) = lit1t0_9 i := by unfold lit1t0_9; rw [wrap]
theorem lit1t0_10_leaf (i : ℕ) : lit1t0_10 (32768 + i) = lit1t0_10 i := by unfold lit1t0_10; rw [wrap]
theorem lit1t0_11_leaf (i : ℕ) : lit1t0_11 (32768 + i) = lit1t0_11 i := by unfold lit1t0_11; rw [wrap]
theorem lit1t0_12_leaf (i : ℕ) : lit1t0_12 (32768 + i) = lit1t0_12 i := by unfold lit1t0_12; rw [wrap]
theorem lit1t0_13_leaf (i : ℕ) : lit1t0_13 (32768 + i) = lit1t0_13 i := by unfold lit1t0_13; rw [wrap]
theorem lit1t0_14_leaf (i : ℕ) : lit1t0_14 (32768 + i) = lit1t0_14 i := by unfold lit1t0_14; rw [wrap]
theorem lit1t0_15_leaf (i : ℕ) : lit1t0_15 (32768 + i) = lit1t0_15 i := by unfold lit1t0_15; rw [wrap]
theorem lit1t0_16_leaf (i : ℕ) : lit1t0_16 (32768 + i) = lit1t0_16 i := by unfold lit1t0_16; rw [wrap]
theorem lit1t0_17_leaf (i : ℕ) : lit1t0_17 (32768 + i) = lit1t0_17 i := by unfold lit1t0_17; rw [wrap]
theorem lit1t0_18_leaf (i : ℕ) : lit1t0_18 (32768 + i) = lit1t0_18 i := by unfold lit1t0_18; rw [wrap]
theorem lit1t0_19_leaf (i : ℕ) : lit1t0_19 (32768 + i) = lit1t0_19 i := by unfold lit1t0_19; rw [wrap]
theorem lit1t0_20_leaf (i : ℕ) : lit1t0_20 (32768 + i) = lit1t0_20 i := by unfold lit1t0_20; rw [wrap]
theorem lit1t0_21_leaf (i : ℕ) : lit1t0_21 (32768 + i) = lit1t0_21 i := by unfold lit1t0_21; rw [wrap]
theorem lit1t0_22_leaf (i : ℕ) : lit1t0_22 (32768 + i) = lit1t0_22 i := by unfold lit1t0_22; rw [wrap]
theorem lit1t0_23_leaf (i : ℕ) : lit1t0_23 (32768 + i) = lit1t0_23 i := by unfold lit1t0_23; rw [wrap]
theorem lit1t0_24_leaf (i : ℕ) : lit1t0_24 (32768 + i) = lit1t0_24 i := by unfold lit1t0_24; rw [wrap]
theorem lit1t0_25_leaf (i : ℕ) : lit1t0_25 (32768 + i) = lit1t0_25 i := by unfold lit1t0_25; rw [wrap]
theorem lit1t0_26_leaf (i : ℕ) : lit1t0_26 (32768 + i) = lit1t0_26 i := by unfold lit1t0_26; rw [wrap]
theorem lit1t0_27_leaf (i : ℕ) : lit1t0_27 (32768 + i) = lit1t0_27 i := by unfold lit1t0_27; rw [wrap]
theorem lit1t0_28_leaf (i : ℕ) : lit1t0_28 (32768 + i) = lit1t0_28 i := by unfold lit1t0_28; rw [wrap]
theorem lit1t0_29_leaf (i : ℕ) : lit1t0_29 (32768 + i) = lit1t0_29 i := by unfold lit1t0_29; rw [wrap]
theorem lit1t0_30_leaf (i : ℕ) : lit1t0_30 (32768 + i) = lit1t0_30 i := by unfold lit1t0_30; rw [wrap]
theorem lit1t0_31_leaf (i : ℕ) : lit1t0_31 (32768 + i) = lit1t0_31 i := by unfold lit1t0_31; rw [wrap]
theorem lit1t0_32_leaf (i : ℕ) : lit1t0_32 (32768 + i) = lit1t0_32 i := by unfold lit1t0_32; rw [wrap]
theorem lit1t0_33_leaf (i : ℕ) : lit1t0_33 (32768 + i) = lit1t0_33 i := by unfold lit1t0_33; rw [wrap]
theorem lit1t0_34_leaf (i : ℕ) : lit1t0_34 (32768 + i) = lit1t0_34 i := by unfold lit1t0_34; rw [wrap]
theorem lit1t0_35_leaf (i : ℕ) : lit1t0_35 (32768 + i) = lit1t0_35 i := by unfold lit1t0_35; rw [wrap]
theorem lit1t0_36_leaf (i : ℕ) : lit1t0_36 (32768 + i) = lit1t0_36 i := by unfold lit1t0_36; rw [wrap]
theorem lit1t0_37_leaf (i : ℕ) : lit1t0_37 (32768 + i) = lit1t0_37 i := by unfold lit1t0_37; rw [wrap]
theorem lit1t0_38_leaf (i : ℕ) : lit1t0_38 (32768 + i) = lit1t0_38 i := by unfold lit1t0_38; rw [wrap]
theorem lit1t0_39_leaf (i : ℕ) : lit1t0_39 (32768 + i) = lit1t0_39 i := by unfold lit1t0_39; rw [wrap]
theorem lit1t0_40_leaf (i : ℕ) : lit1t0_40 (32768 + i) = lit1t0_40 i := by unfold lit1t0_40; rw [wrap]
theorem lit1t0_41_leaf (i : ℕ) : lit1t0_41 (32768 + i) = lit1t0_41 i := by unfold lit1t0_41; rw [wrap]
theorem lit1t0_42_leaf (i : ℕ) : lit1t0_42 (32768 + i) = lit1t0_42 i := by unfold lit1t0_42; rw [wrap]
theorem lit1t0_43_leaf (i : ℕ) : lit1t0_43 (32768 + i) = lit1t0_43 i := by unfold lit1t0_43; rw [wrap]
theorem lit1t0_44_leaf (i : ℕ) : lit1t0_44 (32768 + i) = lit1t0_44 i := by unfold lit1t0_44; rw [wrap]
theorem lit1t0_45_leaf (i : ℕ) : lit1t0_45 (32768 + i) = lit1t0_45 i := by unfold lit1t0_45; rw [wrap]
theorem lit1t0_46_leaf (i : ℕ) : lit1t0_46 (32768 + i) = lit1t0_46 i := by unfold lit1t0_46; rw [wrap]
theorem lit1t0_47_leaf (i : ℕ) : lit1t0_47 (32768 + i) = lit1t0_47 i := by unfold lit1t0_47; rw [wrap]
theorem lit1t0_48_leaf (i : ℕ) : lit1t0_48 (32768 + i) = lit1t0_48 i := by unfold lit1t0_48; rw [wrap]
theorem lit1t0_49_leaf (i : ℕ) : lit1t0_49 (32768 + i) = lit1t0_49 i := by unfold lit1t0_49; rw [wrap]
theorem lit1t0_50_leaf (i : ℕ) : lit1t0_50 (32768 + i) = lit1t0_50 i := by unfold lit1t0_50; rw [wrap]
theorem lit1t0_51_leaf (i : ℕ) : lit1t0_51 (32768 + i) = lit1t0_51 i := by unfold lit1t0_51; rw [wrap]
theorem lit1t0_52_leaf (i : ℕ) : lit1t0_52 (32768 + i) = lit1t0_52 i := by unfold lit1t0_52; rw [wrap]
theorem lit1t0_53_leaf (i : ℕ) : lit1t0_53 (32768 + i) = lit1t0_53 i := by unfold lit1t0_53; rw [wrap]
theorem lit1t0_54_leaf (i : ℕ) : lit1t0_54 (32768 + i) = lit1t0_54 i := by unfold lit1t0_54; rw [wrap]
theorem lit1t0_55_leaf (i : ℕ) : lit1t0_55 (32768 + i) = lit1t0_55 i := by unfold lit1t0_55; rw [wrap]
theorem lit1t0_56_leaf (i : ℕ) : lit1t0_56 (32768 + i) = lit1t0_56 i := by unfold lit1t0_56; rw [wrap]
theorem lit1t0_57_leaf (i : ℕ) : lit1t0_57 (32768 + i) = lit1t0_57 i := by unfold lit1t0_57; rw [wrap]
theorem lit1t0_58_leaf (i : ℕ) : lit1t0_58 (32768 + i) = lit1t0_58 i := by unfold lit1t0_58; rw [wrap]
theorem lit1t0_59_leaf (i : ℕ) : lit1t0_59 (32768 + i) = lit1t0_59 i := by unfold lit1t0_59; rw [wrap]
theorem lit1t0_60_leaf (i : ℕ) : lit1t0_60 (32768 + i) = lit1t0_60 i := by unfold lit1t0_60; rw [wrap]
theorem lit1t0_61_leaf (i : ℕ) : lit1t0_61 (32768 + i) = lit1t0_61 i := by unfold lit1t0_61; rw [wrap]
theorem lit1t0_62_leaf (i : ℕ) : lit1t0_62 (32768 + i) = lit1t0_62 i := by unfold lit1t0_62; rw [wrap]
theorem lit1t0_63_leaf (i : ℕ) : lit1t0_63 (32768 + i) = lit1t0_63 i := by unfold lit1t0_63; rw [wrap]
theorem lit1t0_64_leaf (i : ℕ) : lit1t0_64 (32768 + i) = lit1t0_64 i := by unfold lit1t0_64; rw [wrap]
theorem lit1t0_65_leaf (i : ℕ) : lit1t0_65 (32768 + i) = lit1t0_65 i := by unfold lit1t0_65; rw [wrap]
theorem lit1t0_66_leaf (i : ℕ) : lit1t0_66 (32768 + i) = lit1t0_66 i := by unfold lit1t0_66; rw [wrap]
theorem lit1t0_67_leaf (i : ℕ) : lit1t0_67 (32768 + i) = lit1t0_67 i := by unfold lit1t0_67; rw [wrap]
theorem lit1t0_68_leaf (i : ℕ) : lit1t0_68 (32768 + i) = lit1t0_68 i := by unfold lit1t0_68; rw [wrap]
theorem lit1t0_69_leaf (i : ℕ) : lit1t0_69 (32768 + i) = lit1t0_69 i := by unfold lit1t0_69; rw [wrap]
theorem lit1t0_70_leaf (i : ℕ) : lit1t0_70 (32768 + i) = lit1t0_70 i := by unfold lit1t0_70; rw [wrap]
theorem lit1t0_71_leaf (i : ℕ) : lit1t0_71 (32768 + i) = lit1t0_71 i := by unfold lit1t0_71; rw [wrap]
theorem lit1t0_72_leaf (i : ℕ) : lit1t0_72 (32768 + i) = lit1t0_72 i := by unfold lit1t0_72; rw [wrap]
theorem lit1t0_73_leaf (i : ℕ) : lit1t0_73 (32768 + i) = lit1t0_73 i := by unfold lit1t0_73; rw [wrap]
theorem lit1t0_74_leaf (i : ℕ) : lit1t0_74 (32768 + i) = lit1t0_74 i := by unfold lit1t0_74; rw [wrap]
theorem lit1t0_75_leaf (i : ℕ) : lit1t0_75 (32768 + i) = lit1t0_75 i := by unfold lit1t0_75; rw [wrap]
theorem lit1t0_76_leaf (i : ℕ) : lit1t0_76 (32768 + i) = lit1t0_76 i := by unfold lit1t0_76; rw [wrap]
theorem lit1t0_77_leaf (i : ℕ) : lit1t0_77 (32768 + i) = lit1t0_77 i := by unfold lit1t0_77; rw [wrap]
theorem lit1t0_78_leaf (i : ℕ) : lit1t0_78 (32768 + i) = lit1t0_78 i := by unfold lit1t0_78; rw [wrap]
theorem lit1t0_79_leaf (i : ℕ) : lit1t0_79 (32768 + i) = lit1t0_79 i := by unfold lit1t0_79; rw [wrap]
theorem lit1t0_80_leaf (i : ℕ) : lit1t0_80 (32768 + i) = lit1t0_80 i := by unfold lit1t0_80; rw [wrap]
theorem lit1t0_81_leaf (i : ℕ) : lit1t0_81 (32768 + i) = lit1t0_81 i := by unfold lit1t0_81; rw [wrap]
theorem lit1t0_82_leaf (i : ℕ) : lit1t0_82 (32768 + i) = lit1t0_82 i := by unfold lit1t0_82; rw [wrap]
theorem lit1t0_83_leaf (i : ℕ) : lit1t0_83 (32768 + i) = lit1t0_83 i := by unfold lit1t0_83; rw [wrap]
theorem lit1t0_84_leaf (i : ℕ) : lit1t0_84 (32768 + i) = lit1t0_84 i := by unfold lit1t0_84; rw [wrap]
theorem lit1t0_85_leaf (i : ℕ) : lit1t0_85 (32768 + i) = lit1t0_85 i := by unfold lit1t0_85; rw [wrap]
theorem lit1t0_86_leaf (i : ℕ) : lit1t0_86 (32768 + i) = lit1t0_86 i := by unfold lit1t0_86; rw [wrap]
theorem lit1t0_87_leaf (i : ℕ) : lit1t0_87 (32768 + i) = lit1t0_87 i := by unfold lit1t0_87; rw [wrap]
theorem lit1t0_88_leaf (i : ℕ) : lit1t0_88 (32768 + i) = lit1t0_88 i := by unfold lit1t0_88; rw [wrap]
theorem lit1t0_89_leaf (i : ℕ) : lit1t0_89 (32768 + i) = lit1t0_89 i := by unfold lit1t0_89; rw [wrap]
theorem lit1t0_90_leaf (i : ℕ) : lit1t0_90 (32768 + i) = lit1t0_90 i := by unfold lit1t0_90; rw [wrap]
theorem lit1t0_91_leaf (i : ℕ) : lit1t0_91 (32768 + i) = lit1t0_91 i := by unfold lit1t0_91; rw [wrap]
theorem lit1t0_92_leaf (i : ℕ) : lit1t0_92 (32768 + i) = lit1t0_92 i := by unfold lit1t0_92; rw [wrap]
theorem lit1t0_93_leaf (i : ℕ) : lit1t0_93 (32768 + i) = lit1t0_93 i := by unfold lit1t0_93; rw [wrap]
theorem lit1t0_94_leaf (i : ℕ) : lit1t0_94 (32768 + i) = lit1t0_94 i := by unfold lit1t0_94; rw [wrap]
theorem lit1t0_95_leaf (i : ℕ) : lit1t0_95 (32768 + i) = lit1t0_95 i := by unfold lit1t0_95; rw [wrap]
theorem lit1t0_96_leaf (i : ℕ) : lit1t0_96 (32768 + i) = lit1t0_96 i := by unfold lit1t0_96; rw [wrap]
theorem lit1t0_97_leaf (i : ℕ) : lit1t0_97 (32768 + i) = lit1t0_97 i := by unfold lit1t0_97; rw [wrap]
theorem lit1t0_98_leaf (i : ℕ) : lit1t0_98 (32768 + i) = lit1t0_98 i := by unfold lit1t0_98; rw [wrap]
theorem lit1t0_99_leaf (i : ℕ) : lit1t0_99 (32768 + i) = lit1t0_99 i := by unfold lit1t0_99; rw [wrap]
theorem lit1t0_100_leaf (i : ℕ) : lit1t0_100 (32768 + i) = lit1t0_100 i := by unfold lit1t0_100; rw [wrap]
theorem lit1t0_101_leaf (i : ℕ) : lit1t0_101 (32768 + i) = lit1t0_101 i := by unfold lit1t0_101; rw [wrap]
theorem lit1t0_102_leaf (i : ℕ) : lit1t0_102 (32768 + i) = lit1t0_102 i := by unfold lit1t0_102; rw [wrap]
theorem lit1t0_103_leaf (i : ℕ) : lit1t0_103 (32768 + i) = lit1t0_103 i := by unfold lit1t0_103; rw [wrap]
theorem lit1t0_104_leaf (i : ℕ) : lit1t0_104 (32768 + i) = lit1t0_104 i := by unfold lit1t0_104; rw [wrap]
theorem lit1t0_105_leaf (i : ℕ) : lit1t0_105 (32768 + i) = lit1t0_105 i := by unfold lit1t0_105; rw [wrap]
theorem lit1t0_106_leaf (i : ℕ) : lit1t0_106 (32768 + i) = lit1t0_106 i := by unfold lit1t0_106; rw [wrap]
theorem lit1t0_107_leaf (i : ℕ) : lit1t0_107 (32768 + i) = lit1t0_107 i := by unfold lit1t0_107; rw [wrap]
theorem lit1t0_108_leaf (i : ℕ) : lit1t0_108 (32768 + i) = lit1t0_108 i := by unfold lit1t0_108; rw [wrap]
theorem lit1t0_109_leaf (i : ℕ) : lit1t0_109 (32768 + i) = lit1t0_109 i := by unfold lit1t0_109; rw [wrap]
theorem lit1t0_110_leaf (i : ℕ) : lit1t0_110 (32768 + i) = lit1t0_110 i := by unfold lit1t0_110; rw [wrap]
theorem lit1t0_111_leaf (i : ℕ) : lit1t0_111 (32768 + i) = lit1t0_111 i := by unfold lit1t0_111; rw [wrap]
theorem lit1t0_112_leaf (i : ℕ) : lit1t0_112 (32768 + i) = lit1t0_112 i := by unfold lit1t0_112; rw [wrap]
theorem lit1t0_113_leaf (i : ℕ) : lit1t0_113 (32768 + i) = lit1t0_113 i := by unfold lit1t0_113; rw [wrap]
theorem lit1t0_114_leaf (i : ℕ) : lit1t0_114 (32768 + i) = lit1t0_114 i := by unfold lit1t0_114; rw [wrap]
theorem lit1t0_115_leaf (i : ℕ) : lit1t0_115 (32768 + i) = lit1t0_115 i := by unfold lit1t0_115; rw [wrap]
theorem lit1t0_116_leaf (i : ℕ) : lit1t0_116 (32768 + i) = lit1t0_116 i := by unfold lit1t0_116; rw [wrap]
theorem lit1t0_117_leaf (i : ℕ) : lit1t0_117 (32768 + i) = lit1t0_117 i := by unfold lit1t0_117; rw [wrap]
theorem lit1t0_118_leaf (i : ℕ) : lit1t0_118 (32768 + i) = lit1t0_118 i := by unfold lit1t0_118; rw [wrap]
theorem lit1t0_119_leaf (i : ℕ) : lit1t0_119 (32768 + i) = lit1t0_119 i := by unfold lit1t0_119; rw [wrap]
theorem lit1t0_120_leaf (i : ℕ) : lit1t0_120 (32768 + i) = lit1t0_120 i := by unfold lit1t0_120; rw [wrap]
theorem lit1t0_121_leaf (i : ℕ) : lit1t0_121 (32768 + i) = lit1t0_121 i := by unfold lit1t0_121; rw [wrap]
theorem lit1t0_122_leaf (i : ℕ) : lit1t0_122 (32768 + i) = lit1t0_122 i := by unfold lit1t0_122; rw [wrap]
theorem lit1t0_123_leaf (i : ℕ) : lit1t0_123 (32768 + i) = lit1t0_123 i := by unfold lit1t0_123; rw [wrap]
theorem lit1t0_124_leaf (i : ℕ) : lit1t0_124 (32768 + i) = lit1t0_124 i := by unfold lit1t0_124; rw [wrap]
theorem lit1t0_125_leaf (i : ℕ) : lit1t0_125 (32768 + i) = lit1t0_125 i := by unfold lit1t0_125; rw [wrap]
theorem lit1t0_126_leaf (i : ℕ) : lit1t0_126 (32768 + i) = lit1t0_126 i := by unfold lit1t0_126; rw [wrap]
theorem lit1t0_127_leaf (i : ℕ) : lit1t0_127 (32768 + i) = lit1t0_127 i := by unfold lit1t0_127; rw [wrap]

theorem lit1tPeriod_0 (i : ℕ) : lit1t1_0 (32768 + i) = lit1t1_0 i := by
  have a : (32768 + i) / 128 % 128 = i / 128 % 128 := by omega
  unfold lit1t1_0
  rw [a]
  generalize i / 128 % 128 = n
  split
  · exact lit1t0_0_leaf i
  · exact lit1t0_1_leaf i
  · exact lit1t0_2_leaf i
  · exact lit1t0_3_leaf i
  · exact lit1t0_4_leaf i
  · exact lit1t0_5_leaf i
  · exact lit1t0_6_leaf i
  · exact lit1t0_7_leaf i
  · exact lit1t0_8_leaf i
  · exact lit1t0_9_leaf i
  · exact lit1t0_10_leaf i
  · exact lit1t0_11_leaf i
  · exact lit1t0_12_leaf i
  · exact lit1t0_13_leaf i
  · exact lit1t0_14_leaf i
  · exact lit1t0_15_leaf i
  · exact lit1t0_16_leaf i
  · exact lit1t0_17_leaf i
  · exact lit1t0_18_leaf i
  · exact lit1t0_19_leaf i
  · exact lit1t0_20_leaf i
  · exact lit1t0_21_leaf i
  · exact lit1t0_22_leaf i
  · exact lit1t0_23_leaf i
  · exact lit1t0_24_leaf i
  · exact lit1t0_25_leaf i
  · exact lit1t0_26_leaf i
  · exact lit1t0_27_leaf i
  · exact lit1t0_28_leaf i
  · exact lit1t0_29_leaf i
  · exact lit1t0_30_leaf i
  · exact lit1t0_31_leaf i
  · exact lit1t0_32_leaf i
  · exact lit1t0_33_leaf i
  · exact lit1t0_34_leaf i
  · exact lit1t0_35_leaf i
  · exact lit1t0_36_leaf i
  · exact lit1t0_37_leaf i
  · exact lit1t0_38_leaf i
  · exact lit1t0_39_leaf i
  · exact lit1t0_40_leaf i
  · exact lit1t0_41_leaf i
  · exact lit1t0_42_leaf i
  · exact lit1t0_43_leaf i
  · exact lit1t0_44_leaf i
  · exact lit1t0_45_leaf i
  · exact lit1t0_46_leaf i
  · exact lit1t0_47_leaf i
  · exact lit1t0_48_leaf i
  · exact lit1t0_49_leaf i
  · exact lit1t0_50_leaf i
  · exact lit1t0_51_leaf i
  · exact lit1t0_52_leaf i
  · exact lit1t0_53_leaf i
  · exact lit1t0_54_leaf i
  · exact lit1t0_55_leaf i
  · exact lit1t0_56_leaf i
  · exact lit1t0_57_leaf i
  · exact lit1t0_58_leaf i
  · exact lit1t0_59_leaf i
  · exact lit1t0_60_leaf i
  · exact lit1t0_61_leaf i
  · exact lit1t0_62_leaf i
  · exact lit1t0_63_leaf i
  · exact lit1t0_64_leaf i
  · exact lit1t0_65_leaf i
  · exact lit1t0_66_leaf i
  · exact lit1t0_67_leaf i
  · exact lit1t0_68_leaf i
  · exact lit1t0_69_leaf i
  · exact lit1t0_70_leaf i
  · exact lit1t0_71_leaf i
  · exact lit1t0_72_leaf i
  · exact lit1t0_73_leaf i
  · exact lit1t0_74_leaf i
  · exact lit1t0_75_leaf i
  · exact lit1t0_76_leaf i
  · exact lit1t0_77_leaf i
  · exact lit1t0_78_leaf i
  · exact lit1t0_79_leaf i
  · exact lit1t0_80_leaf i
  · exact lit1t0_81_leaf i
  · exact lit1t0_82_leaf i
  · exact lit1t0_83_leaf i
  · exact lit1t0_84_leaf i
  · exact lit1t0_85_leaf i
  · exact lit1t0_86_leaf i
  · exact lit1t0_87_leaf i
  · exact lit1t0_88_leaf i
  · exact lit1t0_89_leaf i
  · exact lit1t0_90_leaf i
  · exact lit1t0_91_leaf i
  · exact lit1t0_92_leaf i
  · exact lit1t0_93_leaf i
  · exact lit1t0_94_leaf i
  · exact lit1t0_95_leaf i
  · exact lit1t0_96_leaf i
  · exact lit1t0_97_leaf i
  · exact lit1t0_98_leaf i
  · exact lit1t0_99_leaf i
  · exact lit1t0_100_leaf i
  · exact lit1t0_101_leaf i
  · exact lit1t0_102_leaf i
  · exact lit1t0_103_leaf i
  · exact lit1t0_104_leaf i
  · exact lit1t0_105_leaf i
  · exact lit1t0_106_leaf i
  · exact lit1t0_107_leaf i
  · exact lit1t0_108_leaf i
  · exact lit1t0_109_leaf i
  · exact lit1t0_110_leaf i
  · exact lit1t0_111_leaf i
  · exact lit1t0_112_leaf i
  · exact lit1t0_113_leaf i
  · exact lit1t0_114_leaf i
  · exact lit1t0_115_leaf i
  · exact lit1t0_116_leaf i
  · exact lit1t0_117_leaf i
  · exact lit1t0_118_leaf i
  · exact lit1t0_119_leaf i
  · exact lit1t0_120_leaf i
  · exact lit1t0_121_leaf i
  · exact lit1t0_122_leaf i
  · exact lit1t0_123_leaf i
  · exact lit1t0_124_leaf i
  · exact lit1t0_125_leaf i
  · exact lit1t0_126_leaf i
  · exact lit1t0_127_leaf i
  · rfl

theorem lit1t0_128_leaf (i : ℕ) : lit1t0_128 (32768 + i) = lit1t0_128 i := by unfold lit1t0_128; rw [wrap]
theorem lit1t0_129_leaf (i : ℕ) : lit1t0_129 (32768 + i) = lit1t0_129 i := by unfold lit1t0_129; rw [wrap]
theorem lit1t0_130_leaf (i : ℕ) : lit1t0_130 (32768 + i) = lit1t0_130 i := by unfold lit1t0_130; rw [wrap]
theorem lit1t0_131_leaf (i : ℕ) : lit1t0_131 (32768 + i) = lit1t0_131 i := by unfold lit1t0_131; rw [wrap]
theorem lit1t0_132_leaf (i : ℕ) : lit1t0_132 (32768 + i) = lit1t0_132 i := by unfold lit1t0_132; rw [wrap]
theorem lit1t0_133_leaf (i : ℕ) : lit1t0_133 (32768 + i) = lit1t0_133 i := by unfold lit1t0_133; rw [wrap]
theorem lit1t0_134_leaf (i : ℕ) : lit1t0_134 (32768 + i) = lit1t0_134 i := by unfold lit1t0_134; rw [wrap]
theorem lit1t0_135_leaf (i : ℕ) : lit1t0_135 (32768 + i) = lit1t0_135 i := by unfold lit1t0_135; rw [wrap]
theorem lit1t0_136_leaf (i : ℕ) : lit1t0_136 (32768 + i) = lit1t0_136 i := by unfold lit1t0_136; rw [wrap]
theorem lit1t0_137_leaf (i : ℕ) : lit1t0_137 (32768 + i) = lit1t0_137 i := by unfold lit1t0_137; rw [wrap]
theorem lit1t0_138_leaf (i : ℕ) : lit1t0_138 (32768 + i) = lit1t0_138 i := by unfold lit1t0_138; rw [wrap]
theorem lit1t0_139_leaf (i : ℕ) : lit1t0_139 (32768 + i) = lit1t0_139 i := by unfold lit1t0_139; rw [wrap]
theorem lit1t0_140_leaf (i : ℕ) : lit1t0_140 (32768 + i) = lit1t0_140 i := by unfold lit1t0_140; rw [wrap]
theorem lit1t0_141_leaf (i : ℕ) : lit1t0_141 (32768 + i) = lit1t0_141 i := by unfold lit1t0_141; rw [wrap]
theorem lit1t0_142_leaf (i : ℕ) : lit1t0_142 (32768 + i) = lit1t0_142 i := by unfold lit1t0_142; rw [wrap]
theorem lit1t0_143_leaf (i : ℕ) : lit1t0_143 (32768 + i) = lit1t0_143 i := by unfold lit1t0_143; rw [wrap]
theorem lit1t0_144_leaf (i : ℕ) : lit1t0_144 (32768 + i) = lit1t0_144 i := by unfold lit1t0_144; rw [wrap]
theorem lit1t0_145_leaf (i : ℕ) : lit1t0_145 (32768 + i) = lit1t0_145 i := by unfold lit1t0_145; rw [wrap]
theorem lit1t0_146_leaf (i : ℕ) : lit1t0_146 (32768 + i) = lit1t0_146 i := by unfold lit1t0_146; rw [wrap]
theorem lit1t0_147_leaf (i : ℕ) : lit1t0_147 (32768 + i) = lit1t0_147 i := by unfold lit1t0_147; rw [wrap]
theorem lit1t0_148_leaf (i : ℕ) : lit1t0_148 (32768 + i) = lit1t0_148 i := by unfold lit1t0_148; rw [wrap]
theorem lit1t0_149_leaf (i : ℕ) : lit1t0_149 (32768 + i) = lit1t0_149 i := by unfold lit1t0_149; rw [wrap]
theorem lit1t0_150_leaf (i : ℕ) : lit1t0_150 (32768 + i) = lit1t0_150 i := by unfold lit1t0_150; rw [wrap]
theorem lit1t0_151_leaf (i : ℕ) : lit1t0_151 (32768 + i) = lit1t0_151 i := by unfold lit1t0_151; rw [wrap]
theorem lit1t0_152_leaf (i : ℕ) : lit1t0_152 (32768 + i) = lit1t0_152 i := by unfold lit1t0_152; rw [wrap]
theorem lit1t0_153_leaf (i : ℕ) : lit1t0_153 (32768 + i) = lit1t0_153 i := by unfold lit1t0_153; rw [wrap]
theorem lit1t0_154_leaf (i : ℕ) : lit1t0_154 (32768 + i) = lit1t0_154 i := by unfold lit1t0_154; rw [wrap]
theorem lit1t0_155_leaf (i : ℕ) : lit1t0_155 (32768 + i) = lit1t0_155 i := by unfold lit1t0_155; rw [wrap]
theorem lit1t0_156_leaf (i : ℕ) : lit1t0_156 (32768 + i) = lit1t0_156 i := by unfold lit1t0_156; rw [wrap]
theorem lit1t0_157_leaf (i : ℕ) : lit1t0_157 (32768 + i) = lit1t0_157 i := by unfold lit1t0_157; rw [wrap]
theorem lit1t0_158_leaf (i : ℕ) : lit1t0_158 (32768 + i) = lit1t0_158 i := by unfold lit1t0_158; rw [wrap]
theorem lit1t0_159_leaf (i : ℕ) : lit1t0_159 (32768 + i) = lit1t0_159 i := by unfold lit1t0_159; rw [wrap]
theorem lit1t0_160_leaf (i : ℕ) : lit1t0_160 (32768 + i) = lit1t0_160 i := by unfold lit1t0_160; rw [wrap]
theorem lit1t0_161_leaf (i : ℕ) : lit1t0_161 (32768 + i) = lit1t0_161 i := by unfold lit1t0_161; rw [wrap]
theorem lit1t0_162_leaf (i : ℕ) : lit1t0_162 (32768 + i) = lit1t0_162 i := by unfold lit1t0_162; rw [wrap]
theorem lit1t0_163_leaf (i : ℕ) : lit1t0_163 (32768 + i) = lit1t0_163 i := by unfold lit1t0_163; rw [wrap]
theorem lit1t0_164_leaf (i : ℕ) : lit1t0_164 (32768 + i) = lit1t0_164 i := by unfold lit1t0_164; rw [wrap]
theorem lit1t0_165_leaf (i : ℕ) : lit1t0_165 (32768 + i) = lit1t0_165 i := by unfold lit1t0_165; rw [wrap]
theorem lit1t0_166_leaf (i : ℕ) : lit1t0_166 (32768 + i) = lit1t0_166 i := by unfold lit1t0_166; rw [wrap]
theorem lit1t0_167_leaf (i : ℕ) : lit1t0_167 (32768 + i) = lit1t0_167 i := by unfold lit1t0_167; rw [wrap]
theorem lit1t0_168_leaf (i : ℕ) : lit1t0_168 (32768 + i) = lit1t0_168 i := by unfold lit1t0_168; rw [wrap]
theorem lit1t0_169_leaf (i : ℕ) : lit1t0_169 (32768 + i) = lit1t0_169 i := by unfold lit1t0_169; rw [wrap]
theorem lit1t0_170_leaf (i : ℕ) : lit1t0_170 (32768 + i) = lit1t0_170 i := by unfold lit1t0_170; rw [wrap]
theorem lit1t0_171_leaf (i : ℕ) : lit1t0_171 (32768 + i) = lit1t0_171 i := by unfold lit1t0_171; rw [wrap]
theorem lit1t0_172_leaf (i : ℕ) : lit1t0_172 (32768 + i) = lit1t0_172 i := by unfold lit1t0_172; rw [wrap]
theorem lit1t0_173_leaf (i : ℕ) : lit1t0_173 (32768 + i) = lit1t0_173 i := by unfold lit1t0_173; rw [wrap]
theorem lit1t0_174_leaf (i : ℕ) : lit1t0_174 (32768 + i) = lit1t0_174 i := by unfold lit1t0_174; rw [wrap]
theorem lit1t0_175_leaf (i : ℕ) : lit1t0_175 (32768 + i) = lit1t0_175 i := by unfold lit1t0_175; rw [wrap]
theorem lit1t0_176_leaf (i : ℕ) : lit1t0_176 (32768 + i) = lit1t0_176 i := by unfold lit1t0_176; rw [wrap]
theorem lit1t0_177_leaf (i : ℕ) : lit1t0_177 (32768 + i) = lit1t0_177 i := by unfold lit1t0_177; rw [wrap]
theorem lit1t0_178_leaf (i : ℕ) : lit1t0_178 (32768 + i) = lit1t0_178 i := by unfold lit1t0_178; rw [wrap]
theorem lit1t0_179_leaf (i : ℕ) : lit1t0_179 (32768 + i) = lit1t0_179 i := by unfold lit1t0_179; rw [wrap]
theorem lit1t0_180_leaf (i : ℕ) : lit1t0_180 (32768 + i) = lit1t0_180 i := by unfold lit1t0_180; rw [wrap]
theorem lit1t0_181_leaf (i : ℕ) : lit1t0_181 (32768 + i) = lit1t0_181 i := by unfold lit1t0_181; rw [wrap]
theorem lit1t0_182_leaf (i : ℕ) : lit1t0_182 (32768 + i) = lit1t0_182 i := by unfold lit1t0_182; rw [wrap]
theorem lit1t0_183_leaf (i : ℕ) : lit1t0_183 (32768 + i) = lit1t0_183 i := by unfold lit1t0_183; rw [wrap]
theorem lit1t0_184_leaf (i : ℕ) : lit1t0_184 (32768 + i) = lit1t0_184 i := by unfold lit1t0_184; rw [wrap]
theorem lit1t0_185_leaf (i : ℕ) : lit1t0_185 (32768 + i) = lit1t0_185 i := by unfold lit1t0_185; rw [wrap]
theorem lit1t0_186_leaf (i : ℕ) : lit1t0_186 (32768 + i) = lit1t0_186 i := by unfold lit1t0_186; rw [wrap]
theorem lit1t0_187_leaf (i : ℕ) : lit1t0_187 (32768 + i) = lit1t0_187 i := by unfold lit1t0_187; rw [wrap]
theorem lit1t0_188_leaf (i : ℕ) : lit1t0_188 (32768 + i) = lit1t0_188 i := by unfold lit1t0_188; rw [wrap]
theorem lit1t0_189_leaf (i : ℕ) : lit1t0_189 (32768 + i) = lit1t0_189 i := by unfold lit1t0_189; rw [wrap]
theorem lit1t0_190_leaf (i : ℕ) : lit1t0_190 (32768 + i) = lit1t0_190 i := by unfold lit1t0_190; rw [wrap]
theorem lit1t0_191_leaf (i : ℕ) : lit1t0_191 (32768 + i) = lit1t0_191 i := by unfold lit1t0_191; rw [wrap]
theorem lit1t0_192_leaf (i : ℕ) : lit1t0_192 (32768 + i) = lit1t0_192 i := by unfold lit1t0_192; rw [wrap]
theorem lit1t0_193_leaf (i : ℕ) : lit1t0_193 (32768 + i) = lit1t0_193 i := by unfold lit1t0_193; rw [wrap]
theorem lit1t0_194_leaf (i : ℕ) : lit1t0_194 (32768 + i) = lit1t0_194 i := by unfold lit1t0_194; rw [wrap]
theorem lit1t0_195_leaf (i : ℕ) : lit1t0_195 (32768 + i) = lit1t0_195 i := by unfold lit1t0_195; rw [wrap]
theorem lit1t0_196_leaf (i : ℕ) : lit1t0_196 (32768 + i) = lit1t0_196 i := by unfold lit1t0_196; rw [wrap]
theorem lit1t0_197_leaf (i : ℕ) : lit1t0_197 (32768 + i) = lit1t0_197 i := by unfold lit1t0_197; rw [wrap]
theorem lit1t0_198_leaf (i : ℕ) : lit1t0_198 (32768 + i) = lit1t0_198 i := by unfold lit1t0_198; rw [wrap]
theorem lit1t0_199_leaf (i : ℕ) : lit1t0_199 (32768 + i) = lit1t0_199 i := by unfold lit1t0_199; rw [wrap]
theorem lit1t0_200_leaf (i : ℕ) : lit1t0_200 (32768 + i) = lit1t0_200 i := by unfold lit1t0_200; rw [wrap]
theorem lit1t0_201_leaf (i : ℕ) : lit1t0_201 (32768 + i) = lit1t0_201 i := by unfold lit1t0_201; rw [wrap]
theorem lit1t0_202_leaf (i : ℕ) : lit1t0_202 (32768 + i) = lit1t0_202 i := by unfold lit1t0_202; rw [wrap]
theorem lit1t0_203_leaf (i : ℕ) : lit1t0_203 (32768 + i) = lit1t0_203 i := by unfold lit1t0_203; rw [wrap]
theorem lit1t0_204_leaf (i : ℕ) : lit1t0_204 (32768 + i) = lit1t0_204 i := by unfold lit1t0_204; rw [wrap]
theorem lit1t0_205_leaf (i : ℕ) : lit1t0_205 (32768 + i) = lit1t0_205 i := by unfold lit1t0_205; rw [wrap]
theorem lit1t0_206_leaf (i : ℕ) : lit1t0_206 (32768 + i) = lit1t0_206 i := by unfold lit1t0_206; rw [wrap]
theorem lit1t0_207_leaf (i : ℕ) : lit1t0_207 (32768 + i) = lit1t0_207 i := by unfold lit1t0_207; rw [wrap]
theorem lit1t0_208_leaf (i : ℕ) : lit1t0_208 (32768 + i) = lit1t0_208 i := by unfold lit1t0_208; rw [wrap]
theorem lit1t0_209_leaf (i : ℕ) : lit1t0_209 (32768 + i) = lit1t0_209 i := by unfold lit1t0_209; rw [wrap]
theorem lit1t0_210_leaf (i : ℕ) : lit1t0_210 (32768 + i) = lit1t0_210 i := by unfold lit1t0_210; rw [wrap]
theorem lit1t0_211_leaf (i : ℕ) : lit1t0_211 (32768 + i) = lit1t0_211 i := by unfold lit1t0_211; rw [wrap]
theorem lit1t0_212_leaf (i : ℕ) : lit1t0_212 (32768 + i) = lit1t0_212 i := by unfold lit1t0_212; rw [wrap]
theorem lit1t0_213_leaf (i : ℕ) : lit1t0_213 (32768 + i) = lit1t0_213 i := by unfold lit1t0_213; rw [wrap]
theorem lit1t0_214_leaf (i : ℕ) : lit1t0_214 (32768 + i) = lit1t0_214 i := by unfold lit1t0_214; rw [wrap]
theorem lit1t0_215_leaf (i : ℕ) : lit1t0_215 (32768 + i) = lit1t0_215 i := by unfold lit1t0_215; rw [wrap]
theorem lit1t0_216_leaf (i : ℕ) : lit1t0_216 (32768 + i) = lit1t0_216 i := by unfold lit1t0_216; rw [wrap]
theorem lit1t0_217_leaf (i : ℕ) : lit1t0_217 (32768 + i) = lit1t0_217 i := by unfold lit1t0_217; rw [wrap]
theorem lit1t0_218_leaf (i : ℕ) : lit1t0_218 (32768 + i) = lit1t0_218 i := by unfold lit1t0_218; rw [wrap]
theorem lit1t0_219_leaf (i : ℕ) : lit1t0_219 (32768 + i) = lit1t0_219 i := by unfold lit1t0_219; rw [wrap]
theorem lit1t0_220_leaf (i : ℕ) : lit1t0_220 (32768 + i) = lit1t0_220 i := by unfold lit1t0_220; rw [wrap]
theorem lit1t0_221_leaf (i : ℕ) : lit1t0_221 (32768 + i) = lit1t0_221 i := by unfold lit1t0_221; rw [wrap]
theorem lit1t0_222_leaf (i : ℕ) : lit1t0_222 (32768 + i) = lit1t0_222 i := by unfold lit1t0_222; rw [wrap]
theorem lit1t0_223_leaf (i : ℕ) : lit1t0_223 (32768 + i) = lit1t0_223 i := by unfold lit1t0_223; rw [wrap]
theorem lit1t0_224_leaf (i : ℕ) : lit1t0_224 (32768 + i) = lit1t0_224 i := by unfold lit1t0_224; rw [wrap]
theorem lit1t0_225_leaf (i : ℕ) : lit1t0_225 (32768 + i) = lit1t0_225 i := by unfold lit1t0_225; rw [wrap]
theorem lit1t0_226_leaf (i : ℕ) : lit1t0_226 (32768 + i) = lit1t0_226 i := by unfold lit1t0_226; rw [wrap]
theorem lit1t0_227_leaf (i : ℕ) : lit1t0_227 (32768 + i) = lit1t0_227 i := by unfold lit1t0_227; rw [wrap]
theorem lit1t0_228_leaf (i : ℕ) : lit1t0_228 (32768 + i) = lit1t0_228 i := by unfold lit1t0_228; rw [wrap]
theorem lit1t0_229_leaf (i : ℕ) : lit1t0_229 (32768 + i) = lit1t0_229 i := by unfold lit1t0_229; rw [wrap]
theorem lit1t0_230_leaf (i : ℕ) : lit1t0_230 (32768 + i) = lit1t0_230 i := by unfold lit1t0_230; rw [wrap]
theorem lit1t0_231_leaf (i : ℕ) : lit1t0_231 (32768 + i) = lit1t0_231 i := by unfold lit1t0_231; rw [wrap]
theorem lit1t0_232_leaf (i : ℕ) : lit1t0_232 (32768 + i) = lit1t0_232 i := by unfold lit1t0_232; rw [wrap]
theorem lit1t0_233_leaf (i : ℕ) : lit1t0_233 (32768 + i) = lit1t0_233 i := by unfold lit1t0_233; rw [wrap]
theorem lit1t0_234_leaf (i : ℕ) : lit1t0_234 (32768 + i) = lit1t0_234 i := by unfold lit1t0_234; rw [wrap]
theorem lit1t0_235_leaf (i : ℕ) : lit1t0_235 (32768 + i) = lit1t0_235 i := by unfold lit1t0_235; rw [wrap]
theorem lit1t0_236_leaf (i : ℕ) : lit1t0_236 (32768 + i) = lit1t0_236 i := by unfold lit1t0_236; rw [wrap]
theorem lit1t0_237_leaf (i : ℕ) : lit1t0_237 (32768 + i) = lit1t0_237 i := by unfold lit1t0_237; rw [wrap]
theorem lit1t0_238_leaf (i : ℕ) : lit1t0_238 (32768 + i) = lit1t0_238 i := by unfold lit1t0_238; rw [wrap]
theorem lit1t0_239_leaf (i : ℕ) : lit1t0_239 (32768 + i) = lit1t0_239 i := by unfold lit1t0_239; rw [wrap]
theorem lit1t0_240_leaf (i : ℕ) : lit1t0_240 (32768 + i) = lit1t0_240 i := by unfold lit1t0_240; rw [wrap]
theorem lit1t0_241_leaf (i : ℕ) : lit1t0_241 (32768 + i) = lit1t0_241 i := by unfold lit1t0_241; rw [wrap]
theorem lit1t0_242_leaf (i : ℕ) : lit1t0_242 (32768 + i) = lit1t0_242 i := by unfold lit1t0_242; rw [wrap]
theorem lit1t0_243_leaf (i : ℕ) : lit1t0_243 (32768 + i) = lit1t0_243 i := by unfold lit1t0_243; rw [wrap]
theorem lit1t0_244_leaf (i : ℕ) : lit1t0_244 (32768 + i) = lit1t0_244 i := by unfold lit1t0_244; rw [wrap]
theorem lit1t0_245_leaf (i : ℕ) : lit1t0_245 (32768 + i) = lit1t0_245 i := by unfold lit1t0_245; rw [wrap]
theorem lit1t0_246_leaf (i : ℕ) : lit1t0_246 (32768 + i) = lit1t0_246 i := by unfold lit1t0_246; rw [wrap]
theorem lit1t0_247_leaf (i : ℕ) : lit1t0_247 (32768 + i) = lit1t0_247 i := by unfold lit1t0_247; rw [wrap]
theorem lit1t0_248_leaf (i : ℕ) : lit1t0_248 (32768 + i) = lit1t0_248 i := by unfold lit1t0_248; rw [wrap]
theorem lit1t0_249_leaf (i : ℕ) : lit1t0_249 (32768 + i) = lit1t0_249 i := by unfold lit1t0_249; rw [wrap]
theorem lit1t0_250_leaf (i : ℕ) : lit1t0_250 (32768 + i) = lit1t0_250 i := by unfold lit1t0_250; rw [wrap]
theorem lit1t0_251_leaf (i : ℕ) : lit1t0_251 (32768 + i) = lit1t0_251 i := by unfold lit1t0_251; rw [wrap]
theorem lit1t0_252_leaf (i : ℕ) : lit1t0_252 (32768 + i) = lit1t0_252 i := by unfold lit1t0_252; rw [wrap]
theorem lit1t0_253_leaf (i : ℕ) : lit1t0_253 (32768 + i) = lit1t0_253 i := by unfold lit1t0_253; rw [wrap]
theorem lit1t0_254_leaf (i : ℕ) : lit1t0_254 (32768 + i) = lit1t0_254 i := by unfold lit1t0_254; rw [wrap]
theorem lit1t0_255_leaf (i : ℕ) : lit1t0_255 (32768 + i) = lit1t0_255 i := by unfold lit1t0_255; rw [wrap]

theorem lit1tPeriod_1 (i : ℕ) : lit1t1_1 (32768 + i) = lit1t1_1 i := by
  have a : (32768 + i) / 128 % 128 = i / 128 % 128 := by omega
  unfold lit1t1_1
  rw [a]
  generalize i / 128 % 128 = n
  split
  · exact lit1t0_128_leaf i
  · exact lit1t0_129_leaf i
  · exact lit1t0_130_leaf i
  · exact lit1t0_131_leaf i
  · exact lit1t0_132_leaf i
  · exact lit1t0_133_leaf i
  · exact lit1t0_134_leaf i
  · exact lit1t0_135_leaf i
  · exact lit1t0_136_leaf i
  · exact lit1t0_137_leaf i
  · exact lit1t0_138_leaf i
  · exact lit1t0_139_leaf i
  · exact lit1t0_140_leaf i
  · exact lit1t0_141_leaf i
  · exact lit1t0_142_leaf i
  · exact lit1t0_143_leaf i
  · exact lit1t0_144_leaf i
  · exact lit1t0_145_leaf i
  · exact lit1t0_146_leaf i
  · exact lit1t0_147_leaf i
  · exact lit1t0_148_leaf i
  · exact lit1t0_149_leaf i
  · exact lit1t0_150_leaf i
  · exact lit1t0_151_leaf i
  · exact lit1t0_152_leaf i
  · exact lit1t0_153_leaf i
  · exact lit1t0_154_leaf i
  · exact lit1t0_155_leaf i
  · exact lit1t0_156_leaf i
  · exact lit1t0_157_leaf i
  · exact lit1t0_158_leaf i
  · exact lit1t0_159_leaf i
  · exact lit1t0_160_leaf i
  · exact lit1t0_161_leaf i
  · exact lit1t0_162_leaf i
  · exact lit1t0_163_leaf i
  · exact lit1t0_164_leaf i
  · exact lit1t0_165_leaf i
  · exact lit1t0_166_leaf i
  · exact lit1t0_167_leaf i
  · exact lit1t0_168_leaf i
  · exact lit1t0_169_leaf i
  · exact lit1t0_170_leaf i
  · exact lit1t0_171_leaf i
  · exact lit1t0_172_leaf i
  · exact lit1t0_173_leaf i
  · exact lit1t0_174_leaf i
  · exact lit1t0_175_leaf i
  · exact lit1t0_176_leaf i
  · exact lit1t0_177_leaf i
  · exact lit1t0_178_leaf i
  · exact lit1t0_179_leaf i
  · exact lit1t0_180_leaf i
  · exact lit1t0_181_leaf i
  · exact lit1t0_182_leaf i
  · exact lit1t0_183_leaf i
  · exact lit1t0_184_leaf i
  · exact lit1t0_185_leaf i
  · exact lit1t0_186_leaf i
  · exact lit1t0_187_leaf i
  · exact lit1t0_188_leaf i
  · exact lit1t0_189_leaf i
  · exact lit1t0_190_leaf i
  · exact lit1t0_191_leaf i
  · exact lit1t0_192_leaf i
  · exact lit1t0_193_leaf i
  · exact lit1t0_194_leaf i
  · exact lit1t0_195_leaf i
  · exact lit1t0_196_leaf i
  · exact lit1t0_197_leaf i
  · exact lit1t0_198_leaf i
  · exact lit1t0_199_leaf i
  · exact lit1t0_200_leaf i
  · exact lit1t0_201_leaf i
  · exact lit1t0_202_leaf i
  · exact lit1t0_203_leaf i
  · exact lit1t0_204_leaf i
  · exact lit1t0_205_leaf i
  · exact lit1t0_206_leaf i
  · exact lit1t0_207_leaf i
  · exact lit1t0_208_leaf i
  · exact lit1t0_209_leaf i
  · exact lit1t0_210_leaf i
  · exact lit1t0_211_leaf i
  · exact lit1t0_212_leaf i
  · exact lit1t0_213_leaf i
  · exact lit1t0_214_leaf i
  · exact lit1t0_215_leaf i
  · exact lit1t0_216_leaf i
  · exact lit1t0_217_leaf i
  · exact lit1t0_218_leaf i
  · exact lit1t0_219_leaf i
  · exact lit1t0_220_leaf i
  · exact lit1t0_221_leaf i
  · exact lit1t0_222_leaf i
  · exact lit1t0_223_leaf i
  · exact lit1t0_224_leaf i
  · exact lit1t0_225_leaf i
  · exact lit1t0_226_leaf i
  · exact lit1t0_227_leaf i
  · exact lit1t0_228_leaf i
  · exact lit1t0_229_leaf i
  · exact lit1t0_230_leaf i
  · exact lit1t0_231_leaf i
  · exact lit1t0_232_leaf i
  · exact lit1t0_233_leaf i
  · exact lit1t0_234_leaf i
  · exact lit1t0_235_leaf i
  · exact lit1t0_236_leaf i
  · exact lit1t0_237_leaf i
  · exact lit1t0_238_leaf i
  · exact lit1t0_239_leaf i
  · exact lit1t0_240_leaf i
  · exact lit1t0_241_leaf i
  · exact lit1t0_242_leaf i
  · exact lit1t0_243_leaf i
  · exact lit1t0_244_leaf i
  · exact lit1t0_245_leaf i
  · exact lit1t0_246_leaf i
  · exact lit1t0_247_leaf i
  · exact lit1t0_248_leaf i
  · exact lit1t0_249_leaf i
  · exact lit1t0_250_leaf i
  · exact lit1t0_251_leaf i
  · exact lit1t0_252_leaf i
  · exact lit1t0_253_leaf i
  · exact lit1t0_254_leaf i
  · exact lit1t0_255_leaf i
  · rfl

/-- The table's lower half repeats its upper half. -/
theorem lit1t_low (i : ℕ) (h : i < 32768) : lit1t (32768 + i) = lit1t i := by
  have e : ∀ n, n % 16384 / 128 % 128 = n / 128 % 128 := by intro n; omega
  by_cases h' : i < 16384
  · have a : (32768 + i) / 16384 = 2 := by omega
    have b : i / 16384 = 0 := by omega
    unfold lit1t
    rw [a, b]
    exact (congrFun lower1_0 _).trans (lit1tPeriod_0 i)
  · have a : (32768 + i) / 16384 = 3 := by omega
    have b : i / 16384 = 1 := by omega
    unfold lit1t
    rw [a, b]
    exact (congrFun lower1_1 _).trans (lit1tPeriod_1 i)

/-- The words of the exclusive scan's table. -/
theorem tableEx_words : (fun i => FloatOps.ofBits (F := Ideal) .bf16 (lit1 (S256x256.rowMajor i)) : FVec Ideal S256x256 .bf16) = up (a := 256) (b := 256) .bf16 tabEx := by
  funext j
  have h0 : (j 0).val < 256 := (j 0).isLt
  have h1 : (j 1).val < 256 := (j 1).isLt
  have hw : (S256x256.rowMajor j).val = 256 * (j 0).val + (j 1).val := by
    rw [Shape.rowMajor_val_two]
    show (j 0).val * 256 + (j 1).val = _
    omega
  show FloatOps.ofBits (F := Ideal) .bf16 (lit1t (S256x256.rowMajor j).val) = ((tabEx (j 0).val (j 1).val : ℝ) : EReal)
  rw [hw]
  have hrow : lit1t (256 * (j 0).val + (j 1).val) = if (j 1).val < 128 → (j 0).val % 128 < (j 1).val then 0x3F80#16 else 0x0000#16 := by
    by_cases h : (j 0).val < 128
    · rw [Nat.mod_eq_of_lt h]
      exact rowEx_low _ h ⟨_, h1⟩
    · have e : 256 * (j 0).val + (j 1).val = 32768 + (256 * ((j 0).val - 128) + (j 1).val) := by omega
      rw [e, lit1t_low _ (by omega), show (j 0).val % 128 = (j 0).val - 128 by omega]
      exact rowEx_low _ (by omega) ⟨_, h1⟩
  rw [hrow]
  unfold tabEx
  by_cases h : (j 1).val < 128
  · by_cases h' : (j 0).val % 128 < (j 1).val
    · rw [if_pos (fun _ => h'), if_pos h, if_pos h']; exact Ideal.ofBits_one_bf16
    · rw [if_neg (fun g => h' (g h)), if_pos h, if_neg h']; exact Ideal.ofBits_zero_bf16
  · rw [if_pos (fun g => absurd g h), if_neg h]; exact Ideal.ofBits_one_bf16

end Cert.Stick

end
-- ==== Proof.Host.lean ====
module
public import proofs.«01_k».proof.Proof.Tile
public import proofs.«01_k».proof.Proof.Box
public import proofs.«01_k».proof.Proof.Head
public import proofs.«01_k».proof.Proof.Table
public import proofs.«01_k».proof.Proof.Gen.KernelIdeal.Value
public import Idealize.ShloMosaic.Lib.StableHlo.ReadAt
@[expose] public section
set_option maxRecDepth 16384

/-!
# What the host prepares
-/

noncomputable section
open Finset Idealize.ShloMosaic Cert.KernelIdeal Cert.KernelIdeal.Gen
open Idealize.SL.Sem
namespace Cert.Stick

variable (m : (l : Loc nD τ sig) → Buf (Elt Ideal) l) (c : Dev nD)

/-- Three arrays abreast one another. -/
def abreast (Q K W : ℕ → ℕ → ℝ) (i j : ℕ) : ℝ := if j < 512 then Q i j else if j < 1024 then K i (j - 512) else W i (j - 1024)

theorem abreast_up (Q K W : ℕ → ℕ → ℝ) (x y z : FVec Ideal S4096x512 .f32) (hx : x = up (a := 4096) (b := 512) .f32 Q)
    (hy : y = up (a := 4096) (b := 512) .f32 K) (hz : z = up (a := 4096) (b := 512) .f32 W) :
    truncf .bf16 (concatenate S4096x1536 1 [⟨S4096x512, x⟩, ⟨S4096x512, y⟩, ⟨S4096x512, z⟩] concatenates_S4096x512_S4096x512_S4096x512_S4096x1536_d1) bitsLt_bf16_f32
      = up (a := 4096) (b := 1536) .bf16 (abreast Q K W) := by
  subst hx hy hz
  funext j; idx_vars j; pointwise [up, abreast]
  by_cases h : j1.val < 512
  · rw [dif_pos h, if_pos h]
  · rw [dif_neg h, if_neg h]
    by_cases h' : j1.val - 512 < 512
    · rw [dif_pos h', if_pos (by omega)]
    · rw [dif_neg h', if_neg (by omega)]
      congr 2

theorem v1_at (Q K W : ℕ → ℕ → ℝ) (h0 : m (c, Proc.tc.devRef main_arg0) = up (a := 4096) (b := 512) .f32 Q)
    (h1 : m (c, Proc.tc.devRef main_arg1) = up (a := 4096) (b := 512) .f32 K) (h2 : m (c, Proc.tc.devRef main_arg2) = up (a := 4096) (b := 512) .f32 W) :
    V m c main_v1 = up (a := 4096) (b := 1536) .bf16 (abreast Q K W) := by
  unfold V
  simp only [List.flatten_cons, List.flatten_nil]
  after_reads_simp
  have e0 : StableHlo.upto (hostOps0 ++ (hostOps0_1 ++ (hostOps0_2 ++ (hostOps0_3 ++ (hostOps0_4 ++ []))))) (fun b => m (c, b)) 2 (Proc.tc.devRef main_arg0) = up (a := 4096) (b := 512) .f32 Q := by
    after_reads_simp
    exact h0
  have e1 : StableHlo.upto (hostOps0 ++ (hostOps0_1 ++ (hostOps0_2 ++ (hostOps0_3 ++ (hostOps0_4 ++ []))))) (fun b => m (c, b)) 2 (Proc.tc.devRef main_arg1) = up (a := 4096) (b := 512) .f32 K := by
    after_reads_simp
    exact h1
  have e2 : StableHlo.upto (hostOps0 ++ (hostOps0_1 ++ (hostOps0_2 ++ (hostOps0_3 ++ (hostOps0_4 ++ []))))) (fun b => m (c, b)) 2 (Proc.tc.devRef main_arg2) = up (a := 4096) (b := 512) .f32 W := by
    after_reads_simp
    exact h2
  exact abreast_up Q K W _ _ _ e0 e1 e2

theorem v2_at (D : ℕ → ℕ → ℝ) (h3 : m (c, Proc.tc.devRef main_arg3) = up (a := 4096) (b := 512) .f32 D) :
    V m c main_v2 = up (a := 4096) (b := 512) .bf16 D := by
  unfold V
  simp only [List.flatten_cons, List.flatten_nil]
  after_reads_simp
  clean_types
  rw [h3]
  exact truncf_up _ _

theorem cst_at : V m c main_cst = up (a := 256) (b := 256) .bf16 tabIn := by
  unfold V
  simp only [List.flatten_cons, List.flatten_nil]
  after_reads_simp
  clean_types
  exact tableIn_words

theorem cst_0_at : V m c main_cst_0 = up (a := 256) (b := 256) .bf16 tabEx := by
  unfold V
  simp only [List.flatten_cons, List.flatten_nil]
  after_reads_simp
  clean_types
  exact tableEx_words

/-- The scores the host works out for the totals. -/
def hostScores (q k : FVec Ideal S4096x512 .f32) : FVec Ideal S4x4096x4096 .f32 :=
  mulf (Host.dotGeneral dot_S4x4096x128_S4x4096x128_S4x4096x4096_2_2_1_1_0_0 none
      (transpose S4x4096x128 [1, 0, 2] (shapeCast S4096x4x128 q shapeCasts_S4096x512_S4096x4x128) transposes_S4096x4x128_S4x4096x128_1_0_2)
      (transpose S4x4096x128 [1, 0, 2] (shapeCast S4096x4x128 k shapeCasts_S4096x512_S4096x4x128) transposes_S4096x4x128_S4x4096x128_1_0_2))
    (broadcastInDim S4x4096x4096 ![] bcast_S_S4x4096x4096 (constant S_ .f32 0x3DB504F3#32))

/-- The host's `softplus`. -/
def hostSoftplus (z : FVec Ideal S4x4096x4096 .f32) : FVec Ideal S4x4096x4096 .f32 :=
  select (cmpf .une (subf z (broadcastInDim S4x4096x4096 ![] bcast_S_S4x4096x4096 (constant S_ .f32 0x00000000#32)))
      (subf z (broadcastInDim S4x4096x4096 ![] bcast_S_S4x4096x4096 (constant S_ .f32 0x00000000#32))))
    (addf z (broadcastInDim S4x4096x4096 ![] bcast_S_S4x4096x4096 (constant S_ .f32 0x00000000#32)))
    (addf (maximumf z (broadcastInDim S4x4096x4096 ![] bcast_S_S4x4096x4096 (constant S_ .f32 0x00000000#32)))
      (Host.log1p (Host.exp (Host.negf (Host.absf (subf z (broadcastInDim S4x4096x4096 ![] bcast_S_S4x4096x4096 (constant S_ .f32 0x00000000#32))))))))

/-- The mask of the keys before each query. -/
def hostPast : IVec S4x4096x4096 1 :=
  broadcastInDim S4x4096x4096 ![1, 2] bcast_S4096x4096_S4x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The totals as the host works them out. -/
def hostTotals (q k : FVec Ideal S4096x512 .f32) : FVec Ideal S4x4096 .f32 :=
  Host.reduceAdd (axes := [2])
    (select hostPast (Host.negf (hostSoftplus (Host.negf (Host.negf (hostScores q k)))))
      (broadcastInDim S4x4096x4096 ![] bcast_S_S4x4096x4096 (id (constant S_ .f32 0x00000000#32))))
    (constant S_ .f32 0x00000000#32) reducesTo_S4x4096x4096_S4x4096_d2 h_S_

theorem hostTotals_up (Q K : ℕ → ℕ → ℝ) :
    hostTotals (up (a := 4096) (b := 512) .f32 Q) (up (a := 4096) (b := 512) .f32 K) = up (a := 4) (b := 4096) .f32 (fun h t => total (heads Q h) (heads K h) t) := by
  unfold hostTotals hostPast hostSoftplus hostScores
  rw [heads_box, heads_box, scores_box, scale_box, mulf_box, negf_box, negf_box]
  simp only [neg_neg, id]
  rw [softplus_box, negf_box, past_box, zero_box, select_box, rowsum_box _ _ _ _ rfl]
  refine up_congr fun h _ t _ => ?_
  simp only [neg_neg]
  rfl

/-- Totals laid along the columns of their head. -/
theorem spread (f : ℕ → ℕ → ℝ) : (fun i => shapeCast S4096x512 (broadcastInDim S4096x4x128 ![0, 1] bcast_S4096x4_S4096x4x128_0_1
      (transpose S4096x4 [1, 0] (up (a := 4) (b := 4096) .f32 f) transposes_S4x4096_S4096x4_1_0)) shapeCasts_S4096x4x128_S4096x512 i)
    = up (a := 4096) (b := 512) .f32 (fun t e => f (e / 128) t) := by
  funext j; idx_vars j; pointwise [up]

/-- The rows' totals, laid along the columns of their head. -/
theorem v23_at (Q K : ℕ → ℕ → ℝ) (h0 : m (c, Proc.tc.devRef main_arg0) = up (a := 4096) (b := 512) .f32 Q)
    (h1 : m (c, Proc.tc.devRef main_arg1) = up (a := 4096) (b := 512) .f32 K) :
    V m c main_v23 = up (a := 4096) (b := 512) .f32 (fun t e => total (heads Q (e / 128)) (heads K (e / 128)) t) := by
  unfold V
  simp only [List.flatten_cons, List.flatten_nil]
  after_reads_simp
  simp -implicitDefEqProofs only [StableHlo.TRef.toBuf, StableHlo.TRef.ofBuf, cast_cast, cast_eq]
  clean_types
  rw [h0, h1]
  refine Eq.trans ?_ ((congrArg (fun x => (fun i => shapeCast S4096x512 (broadcastInDim S4096x4x128 ![0, 1] bcast_S4096x4_S4096x4x128_0_1
      (transpose S4096x4 [1, 0] x transposes_S4x4096_S4096x4_1_0)) shapeCasts_S4096x4x128_S4096x512 i)) (hostTotals_up Q K)).trans (spread _))
  refine congrArg (fun x => (fun i => shapeCast S4096x512 (broadcastInDim S4096x4x128 ![0, 1] bcast_S4096x4_S4096x4x128_0_1
      (transpose S4096x4 [1, 0] x transposes_S4x4096_S4096x4_1_0)) shapeCasts_S4096x4x128_S4096x512 i)) ?_
  refine congrArg (fun x => Host.reduceAdd (select hostPast (Host.negf x) _) _ _ _) ?_
  refine congrArg (fun x => hostSoftplus (Host.negf (Host.negf x))) ?_
  exact congrArg₂ (fun x y => mulf (Host.dotGeneral dot_S4x4096x128_S4x4096x128_S4x4096x4096_2_2_1_1_0_0 none x y) _) rfl rfl

end Cert.Stick
end
-- ==== Proof.Blocks.lean ====
module
public import proofs.«01_k».proof.Proof.Host
@[expose] public section
set_option maxRecDepth 16384

/-!
# What the kernel reads at each grid point

Point `t` of the grid works on the rows `512 * (t % 8)` onwards of head `t / 8`.
-/

noncomputable section
open Finset Idealize.ShloMosaic Cert.KernelIdeal Cert.KernelIdeal.Gen
open Idealize.SL.Sem
namespace Cert.Stick

theorem index_0 : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem index_1 : ∀ t : Fin cfg0.N, win0_1.index t (0 : Fin 2) = 0 ∧ win0_1.index t (1 : Fin 2) = 4 + t.val / 8 :=
  (by decide +kernel : ∀ t : Fin grid0.N, win0_1.index t (0 : Fin 2) = 0 ∧ win0_1.index t (1 : Fin 2) = 4 + t.val / 8)
theorem index_2 : ∀ t : Fin cfg0.N, win0_2.index t (0 : Fin 2) = 0 ∧ win0_2.index t (1 : Fin 2) = 8 + t.val / 8 :=
  (by decide +kernel : ∀ t : Fin grid0.N, win0_2.index t (0 : Fin 2) = 0 ∧ win0_2.index t (1 : Fin 2) = 8 + t.val / 8)
theorem index_3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)
theorem index_4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem points (t : Fin cfg0.N) : t.val < 32 := lt_of_lt_of_eq t.isLt N_0

variable (m : (l : Loc nD τ sig) → Buf (Elt Ideal) l) (c : Dev nD)

theorem block_0 (t : Fin cfg0.N) (f : ℕ → ℕ → ℝ) (hf : V m c main_v1 = up (a := 4096) (b := 1536) .bf16 f) :
    (iblk m c 0 t : FVec Ideal ⟨2, ![512, 128]⟩ .bf16) = up .bf16 (fun i j => f (win0_0.index t (0 : Fin 2) * 512 + 1 * i) (win0_0.index t (1 : Fin 2) * 128 + 1 * j)) := by
  funext j
  unfold iblk
  rw [View.read_apply]
  show V m c main_v1 _ = _
  rw [hf]
  rfl

theorem block_1 (t : Fin cfg0.N) (f : ℕ → ℕ → ℝ) (hf : V m c main_v1 = up (a := 4096) (b := 1536) .bf16 f) :
    (iblk m c 1 t : FVec Ideal ⟨2, ![4096, 128]⟩ .bf16) = up .bf16 (fun i j => f (win0_1.index t (0 : Fin 2) * 4096 + 1 * i) (win0_1.index t (1 : Fin 2) * 128 + 1 * j)) := by
  funext j
  unfold iblk
  rw [View.read_apply]
  show V m c main_v1 _ = _
  rw [hf]
  rfl

theorem block_2 (t : Fin cfg0.N) (f : ℕ → ℕ → ℝ) (hf : V m c main_v1 = up (a := 4096) (b := 1536) .bf16 f) :
    (iblk m c 2 t : FVec Ideal ⟨2, ![4096, 128]⟩ .bf16) = up .bf16 (fun i j => f (win0_2.index t (0 : Fin 2) * 4096 + 1 * i) (win0_2.index t (1 : Fin 2) * 128 + 1 * j)) := by
  funext j
  unfold iblk
  rw [View.read_apply]
  show V m c main_v1 _ = _
  rw [hf]
  rfl

theorem block_3 (t : Fin cfg0.N) (f : ℕ → ℕ → ℝ) (hf : V m c main_v2 = up (a := 4096) (b := 512) .bf16 f) :
    (iblk m c 3 t : FVec Ideal ⟨2, ![512, 128]⟩ .bf16) = up .bf16 (fun i j => f (win0_3.index t (0 : Fin 2) * 512 + 1 * i) (win0_3.index t (1 : Fin 2) * 128 + 1 * j)) := by
  funext j
  unfold iblk
  rw [View.read_apply]
  show V m c main_v2 _ = _
  rw [hf]
  rfl

theorem block_4 (t : Fin cfg0.N) (f : ℕ → ℕ → ℝ) (hf : V m c main_v23 = up (a := 4096) (b := 512) .f32 f) :
    (iblk m c 4 t : FVec Ideal ⟨2, ![512, 128]⟩ .f32) = up .f32 (fun i j => f (win0_4.index t (0 : Fin 2) * 512 + 1 * i) (win0_4.index t (1 : Fin 2) * 128 + 1 * j)) := by
  funext j
  unfold iblk
  rw [View.read_apply]
  show V m c main_v23 _ = _
  rw [hf]
  rfl

theorem block_5 (t : Fin cfg0.N) (f : ℕ → ℕ → ℝ) (hf : V m c main_cst = up (a := 256) (b := 256) .bf16 f) :
    (iblk m c 5 t : FVec Ideal ⟨2, ![256, 256]⟩ .bf16) = up .bf16 (fun i j => f (win0_5.index t (0 : Fin 2) * 256 + 1 * i) (win0_5.index t (1 : Fin 2) * 256 + 1 * j)) := by
  funext j
  unfold iblk
  rw [View.read_apply]
  show V m c main_cst _ = _
  rw [hf]
  rfl

theorem block_6 (t : Fin cfg0.N) (f : ℕ → ℕ → ℝ) (hf : V m c main_cst_0 = up (a := 256) (b := 256) .bf16 f) :
    (iblk m c 6 t : FVec Ideal ⟨2, ![256, 256]⟩ .bf16) = up .bf16 (fun i j => f (win0_6.index t (0 : Fin 2) * 256 + 1 * i) (win0_6.index t (1 : Fin 2) * 256 + 1 * j)) := by
  funext j
  unfold iblk
  rw [View.read_apply]
  show V m c main_cst_0 _ = _
  rw [hf]
  rfl

variable (Q K W D : ℕ → ℕ → ℝ)

/-- The arguments, as arrays of real numbers. -/
structure Args : Prop where
  h0 : m (c, Proc.tc.devRef main_arg0) = up (a := 4096) (b := 512) .f32 Q
  h1 : m (c, Proc.tc.devRef main_arg1) = up (a := 4096) (b := 512) .f32 K
  h2 : m (c, Proc.tc.devRef main_arg2) = up (a := 4096) (b := 512) .f32 W
  h3 : m (c, Proc.tc.devRef main_arg3) = up (a := 4096) (b := 512) .f32 D

variable (h : Args m c Q K W D) (t : Fin cfg0.N)
include h

theorem block_q : (iblk m c 0 t : FVec Ideal S512x128 .bf16) = up (a := 512) (b := 128) .bf16 (rows (512 * (t.val % 8)) (heads Q (t.val / 8))) := by
  have ht := points t
  rw [block_0 m c t _ (v1_at m c Q K W h.h0 h.h1 h.h2), (index_0 t).1, (index_0 t).2]
  refine up_congr fun i _ j hj => ?_
  unfold abreast rows heads
  rw [if_pos (by omega)]
  congr 1 <;> omega

theorem block_k : (iblk m c 1 t : FVec Ideal S4096x128 .bf16) = up (a := 4096) (b := 128) .bf16 (heads K (t.val / 8)) := by
  have ht := points t
  rw [block_1 m c t _ (v1_at m c Q K W h.h0 h.h1 h.h2), (index_1 t).1, (index_1 t).2]
  refine up_congr fun i _ j hj => ?_
  unfold abreast heads
  rw [if_neg (by omega), if_pos (by omega)]
  congr 1 <;> omega

theorem block_v : (iblk m c 2 t : FVec Ideal S4096x128 .bf16) = up (a := 4096) (b := 128) .bf16 (heads W (t.val / 8)) := by
  have ht := points t
  rw [block_2 m c t _ (v1_at m c Q K W h.h0 h.h1 h.h2), (index_2 t).1, (index_2 t).2]
  refine up_congr fun i _ j hj => ?_
  unfold abreast heads
  rw [if_neg (by omega), if_neg (by omega)]
  congr 1 <;> omega

theorem block_d : (iblk m c 3 t : FVec Ideal S512x128 .bf16) = up (a := 512) (b := 128) .bf16 (rows (512 * (t.val % 8)) (heads D (t.val / 8))) := by
  have ht := points t
  rw [block_3 m c t _ (v2_at m c D h.h3), (index_3 t).1, (index_3 t).2]
  refine up_congr fun i _ j hj => ?_
  unfold rows heads
  congr 1 <;> omega

theorem block_t : (iblk m c 4 t : FVec Ideal S512x128 .f32)
    = up (a := 512) (b := 128) .f32 (fun i _ => total (heads Q (t.val / 8)) (heads K (t.val / 8)) (512 * (t.val % 8) + i)) := by
  have ht := points t
  rw [block_4 m c t _ (v23_at m c Q K h.h0 h.h1), (index_4 t).1, (index_4 t).2]
  refine up_congr fun i _ j hj => ?_
  have e : (t.val / 8 * 128 + 1 * j) / 128 = t.val / 8 := by omega
  rw [e]
  congr 1; omega

omit h in
theorem block_in : (iblk m c 5 t : FVec Ideal S256x256 .bf16) = up (a := 256) (b := 256) .bf16 tabIn := by
  rw [block_5 m c t _ (cst_at m c), (index_5 t).1, (index_5 t).2]
  refine up_congr fun i _ j hj => ?_
  congr 1 <;> omega

omit h in
theorem block_ex : (iblk m c 6 t : FVec Ideal S256x256 .bf16) = up (a := 256) (b := 256) .bf16 tabEx := by
  rw [block_6 m c t _ (cst_0_at m c), (index_6 t).1, (index_6 t).2]
  refine up_congr fun i _ j hj => ?_
  congr 1 <;> omega

end Cert.Stick

end
-- ==== Proof.Trip.lean ====
module
public import proofs.«01_k».proof.Proof.Tile
public import Idealize.ShloMosaic.Lib.WritesUnit
public import Idealize.ShloMosaic.Lib.Pipeline.ValueKit.Tiles
public import proofs.«01_k».proof.Proof.Gen.KernelIdeal.Loops
@[expose] public section
set_option maxRecDepth 16384

/-!
# One turn of the loop over blocks of keys

The turn's loads are rows of what the buffers hold and its stores put rows back; the values between are those of one
tile.  After the first `n` turns the carried sums are those over the first `512 n` keys, and the two accumulators have
their first `512 n` rows added to.
-/

noncomputable section
open Finset Idealize.ShloMosaic Cert.KernelIdeal Cert.KernelIdeal.Gen
open Idealize.SL.Sem
namespace Cert.Stick

/-! ### Rows of a buffer -/

theorem at_rows {φ : FTy} (X : ℕ → ℕ → ℝ) (o : ℕ) (inb) :
    (fun x : S512x128.Idx => up (a := 4096) (b := 128) φ X ((Rect.unit (s := S4096x128) ![o, 0] S512x128.size inb).idx x)) = up (a := 512) (b := 128) φ (rows o X) := by
  funext j
  have h0 : ((Rect.unit (s := S4096x128) ![o, 0] S512x128.size inb).idx j 0 : ℕ) = o + j 0 := Rect.idx_unit_val _ _ _ _ _
  have h1 : ((Rect.unit (s := S4096x128) ![o, 0] S512x128.size inb).idx j 1 : ℕ) = 0 + j 1 := Rect.idx_unit_val _ _ _ _ _
  unfold up rows
  rw [h0, h1, zero_add]

theorem read_put {sig : RefSig} {κ : Kind} {sp : Space} (v : View sig κ sp S4096x128 .f32) (f : v.ty.Contents (Elt Ideal)) (w X : ℕ → ℕ → ℝ)
    {off : Fin 2 → ℕ} {o : ℕ} (ho : off = ![o, 0]) (inb) (L : List (View.Piece (Elt Ideal) S4096x128 .f32))
    (h : v.read (Elt Ideal) (v.writes (Elt Ideal) f L) = up (a := 4096) (b := 128) .f32 X) :
    v.read (Elt Ideal) (v.writes (Elt Ideal) f (⟨Rect.unit off S512x128.size inb, up (a := 512) (b := 128) .f32 w⟩ :: L))
      = up (a := 4096) (b := 128) .f32 (put o w X) := by
  funext y
  rw [View.read_writes_cons_rows v f inb _ L y ho (W := 512) rfl rfl, h]
  unfold up put
  by_cases hy : o ≤ (y 0).val ∧ (y 0).val < o + 512
  · rw [dif_pos hy, if_pos hy]
    rfl
  · rw [dif_neg hy, if_neg hy]

theorem read_half {sig : RefSig} {κ : Kind} {sp : Space} (v : View sig κ sp S4096x128 .bf16) (f : v.ty.Contents (Elt Ideal)) (X : ℕ → ℕ → ℝ)
    {off : Fin 2 → ℕ} {o : ℕ} (ho : off = ![o, 0]) (inb : ∀ a, off a + S512x128.size a ≤ S4096x128.size a) (h : v.read (Elt Ideal) f = up (a := 4096) (b := 128) .bf16 X) :
    View.readAt (Elt Ideal) v (Rect.unit (s := S4096x128) off S512x128.size inb).toLoadRect f = up (a := 512) (b := 128) .bf16 (rows o X) := by
  subst ho
  rw [View.readAt_eq_ld, h]
  exact at_rows X o inb

theorem read_full {sig : RefSig} {κ : Kind} {sp : Space} (v : View sig κ sp S4096x128 .f32) (f : v.ty.Contents (Elt Ideal)) (X : ℕ → ℕ → ℝ)
    {off : Fin 2 → ℕ} {o : ℕ} (ho : off = ![o, 0]) (inb : ∀ a, off a + S512x128.size a ≤ S4096x128.size a) (h : v.read (Elt Ideal) f = up (a := 4096) (b := 128) .f32 X) :
    View.readAt (Elt Ideal) v (Rect.unit (s := S4096x128) off S512x128.size inb).toLoadRect f = up (a := 512) (b := 128) .f32 (rows o X) := by
  subst ho
  rw [View.readAt_eq_ld, h]
  exact at_rows X o inb

/-! ### The turn -/

theorem trips_eq (i : grid0.Coords) : (k0_t1_loop i).trips = (i 1).val := by
  have h : ∀ b : Fin 8, ∀ i : grid0.Coords, i 1 = b → (k0_t1_loop i).trips = b.val := by
    intro b i hb
    simp only [k0_t1_loop, hb]
    clear hb
    revert b; decide +kernel
  exact h _ i rfl

theorem off1_eq (i : grid0.Coords) (k : Fin (k0_t1_loop i).trips) : k0_off1 i k = ![512 * k.val, 0] := by
  have h : ∀ n : Fin 8, (Scalar.indexCast (Scalar.muli (Scf.iv 0#32 1#32 n.val) 512#32)).toNat = 512 * n.val := by decide +kernel
  have hk : k.val < 8 := lt_trans k.isLt (by rw [trips_eq]; exact (i 1).isLt)
  show ![_, 0] = _
  rw [show (Scalar.indexCast (Scalar.muli (Scf.iv 0#32 1#32 k.val) 512#32)).toNat = 512 * k.val from h ⟨k.val, hk⟩]

section
variable (𝒱 : Variants) (c : Dev nD) (bd : Option 𝒱.V) (i : grid0.Coords)
  (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S512x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S4096x128 .f32) (harg12 : arg12.IsWhole)
  (arg13 : Memref sig .tc .vmem S4096x128 .f32) (harg13 : arg13.IsWhole)
  (q d K V : ℕ → ℕ → ℝ) (t : ℕ → ℝ) (v13 v14 : IVec S512x512 32) (v32 : BitVec 32) (v33 v34 : FVec Ideal S512x128 .f32) (c0 v35 : BitVec 32)

/-- What is read at a turn. -/
theorem tripR_eq (k : Fin (k0_t1_loop i).trips) (f12 : BufTy.Contents (Elt Ideal) arg12.view.ty) (f13 : BufTy.Contents (Elt Ideal) arg13.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 (up .bf16 q) (up .bf16 d) (up .f32 (fun i _ => t i)) v13 v14 v32 v33 v34 c0 v35
        (harg3.unread (up (a := 4096) (b := 128) .bf16 K)) (harg4.unread (up (a := 4096) (b := 128) .bf16 V))
        (harg7.unread (up (a := 256) (b := 256) .bf16 tabIn)) (harg8.unread (up (a := 256) (b := 256) .bf16 tabEx)) k
        (up .f32 (fun r _ => keepSum (past (i 1).val) q K (512 * k.val) r), up .f32 (fun r _ => gSum (past (i 1).val) q d K V t (512 * k.val) r),
          up .f32 (dqSum (past (i 1).val) q d K V t (512 * k.val))) f12 f13
      = (up .f32 (fun r _ => keepSum (past (i 1).val) q K (512 * k.val + 512) r), up .f32 (fun r _ => gSum (past (i 1).val) q d K V t (512 * k.val + 512) r),
          up .f32 (dqSum (past (i 1).val) q d K V t (512 * k.val + 512))) := by
  have hP := pastAt_true (b := (i 1).val) (k := k.val) (by rw [← trips_eq]; exact k.isLt)
  have hK := read_half arg3.view (harg3.unread (up (a := 4096) (b := 128) .bf16 K)) K (off1_eq i k) (k0_off1_inb i k) (harg3.read_unread _)
  have hV := read_half arg4.view (harg4.unread (up (a := 4096) (b := 128) .bf16 V)) V (off1_eq i k) (k0_off1_inb i k) (harg4.read_unread _)
  have hz : (![0, 0] : Fin 2 → ℕ) = fun _ => 0 := by funext a; fin_cases a <;> rfl
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  unfold tripR_k0_t1 trip_k0_t1
  dsimp only
  sl_unfold_words
  unfold k0_off1 at hK hV
  rw [hK, hI, hV, hE]
  simp only [pay4_up, pay5_up, pay6_up, pay7_up (hP := hP), pay8_up (hP := hP), pay9_up (hP := hP), pay11_up (hP := hP), pay14_up (hP := hP), pay15_up (hP := hP), pay16_up (hP := hP), pay17_up (hP := hP),
    pay20_up, pay22_up (hP := hP), pay32_up (hP := hP), pay33_up (hP := hP), pay34_up, pay77_up (hP := hP), g_at, dz_at]
  refine Prod.ext ?_ (Prod.ext ?_ ?_)
  · exact congrArg (up .f32) (carry_at (512 * k.val) (keepB (past (i 1).val) q K))
  · exact congrArg (up .f32) (carry_at (512 * k.val) (gB (past (i 1).val) q d K V t))
  · exact congrArg (up .f32) (dq_at (past (i 1).val) q d K V t (512 * k.val))

/-- What is put back at a turn. -/
theorem tripL_eq (k : Fin (k0_t1_loop i).trips) (f12 : BufTy.Contents (Elt Ideal) arg12.view.ty) (f13 : BufTy.Contents (Elt Ideal) arg13.view.ty)
    (X Y : ℕ → ℕ → ℝ) (h12 : arg12.view.read (Elt Ideal) f12 = up (a := 4096) (b := 128) .f32 X) (h13 : arg13.view.read (Elt Ideal) f13 = up (a := 4096) (b := 128) .f32 Y) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 (up .bf16 q) (up .bf16 d) (up .f32 (fun i _ => t i)) v13 v14 v32 v33 v34 c0 v35
        (harg3.unread (up (a := 4096) (b := 128) .bf16 K)) (harg4.unread (up (a := 4096) (b := 128) .bf16 V))
        (harg7.unread (up (a := 256) (b := 256) .bf16 tabIn)) (harg8.unread (up (a := 256) (b := 256) .bf16 tabEx)) k
        (up .f32 (fun r _ => keepSum (past (i 1).val) q K (512 * k.val) r), up .f32 (fun r _ => gSum (past (i 1).val) q d K V t (512 * k.val) r),
          up .f32 (dqSum (past (i 1).val) q d K V t (512 * k.val))) f12 f13
      = ([⟨Rect.unit (k0_off1 i k) S512x128.size (k0_off1_inb i k), up (a := 512) (b := 128) .f32
            (fun l e => rows (512 * k.val) X l e + rows (512 * k.val) (dkAdd (past (i 1).val) q d K V t) l e)⟩],
          [⟨Rect.unit (k0_off1 i k) S512x128.size (k0_off1_inb i k), up (a := 512) (b := 128) .f32
            (fun l e => rows (512 * k.val) Y l e + rows (512 * k.val) (dvAdd (past (i 1).val) q d K t) l e)⟩]) := by
  have hP := pastAt_true (b := (i 1).val) (k := k.val) (by rw [← trips_eq]; exact k.isLt)
  have hK := read_half arg3.view (harg3.unread (up (a := 4096) (b := 128) .bf16 K)) K (off1_eq i k) (k0_off1_inb i k) (harg3.read_unread _)
  have hV := read_half arg4.view (harg4.unread (up (a := 4096) (b := 128) .bf16 V)) V (off1_eq i k) (k0_off1_inb i k) (harg4.read_unread _)
  have hz : (![0, 0] : Fin 2 → ℕ) = fun _ => 0 := by funext a; fin_cases a <;> rfl
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hX := read_full arg12.view f12 X (off1_eq i k) (k0_off1_inb i k) h12
  have hY := read_full arg13.view f13 Y (off1_eq i k) (k0_off1_inb i k) h13
  unfold tripL_k0_t1 trip_k0_t1
  dsimp only
  rw [hX, hY]
  refine Prod.ext ?_ ?_
  · refine congrArg (fun w => [(⟨Rect.unit (k0_off1 i k) S512x128.size (k0_off1_inb i k), w⟩ : View.Piece (Elt Ideal) S4096x128 .f32)]) ?_
    sl_unfold_words
    unfold k0_off1 at hK hV
    rw [hK, hI, hV, hE]
    simp only [pay4_up, pay5_up, pay6_up, pay7_up (hP := hP), pay8_up (hP := hP), pay9_up (hP := hP), pay11_up (hP := hP), pay14_up (hP := hP), pay15_up (hP := hP), pay16_up (hP := hP), pay17_up (hP := hP),
      pay20_up, pay22_up (hP := hP), pay33_up (hP := hP), pay34_up, pay75_up (hP := hP), g_at, dz_at]
    rfl
  · refine congrArg (fun w => [(⟨Rect.unit (k0_off1 i k) S512x128.size (k0_off1_inb i k), w⟩ : View.Piece (Elt Ideal) S4096x128 .f32)]) ?_
    sl_unfold_words
    unfold k0_off1 at hK hV
    rw [hK, hI]
    simp only [pay4_up, pay5_up, pay6_up, pay7_up (hP := hP), pay8_up (hP := hP), pay9_up (hP := hP), pay11_up (hP := hP), pay14_up (hP := hP), pay15_up (hP := hP), pay16_up (hP := hP), pay17_up (hP := hP),
      pay20_up, pay21_up (hP := hP), pay76_up, att_at]
    rfl
/-- The state before turn `n`. -/
theorem state_eq (G12 : BufTy.Contents (Elt Ideal) arg12.view.ty) (G13 : BufTy.Contents (Elt Ideal) arg13.view.ty)
    (X Y : ℕ → ℕ → ℝ) (h12 : arg12.view.read (Elt Ideal) G12 = up (a := 4096) (b := 128) .f32 X) (h13 : arg13.view.read (Elt Ideal) G13 = up (a := 4096) (b := 128) .f32 Y)
    (n : ℕ) (hn : n ≤ (k0_t1_loop i).trips) (init : FVec Ideal S512x128 .f32 × FVec Ideal S512x128 .f32 × FVec Ideal S512x128 .f32)
    (hi : init = (up .f32 (fun _ _ => 0), up .f32 (fun _ _ => 0), up .f32 (fun _ _ => 0)))
    (s : (FVec Ideal S512x128 .f32 × FVec Ideal S512x128 .f32 × FVec Ideal S512x128 .f32) × List (View.Piece (Elt Ideal) S4096x128 .f32) × List (View.Piece (Elt Ideal) S4096x128 .f32))
    (hs : s = st_k0_t1 (F := Ideal) 𝒱 c bd i arg2 harg2 arg3 harg3 arg4 harg4 arg5 harg5 arg6 harg6 arg7 harg7 arg8 harg8 arg9 harg9 arg10 harg10 arg11 harg11 arg12 harg12 arg13 harg13 (up .bf16 q) (up .bf16 d) (up .f32 (fun i _ => t i)) v13 v14 v32 v33 v34 c0 v35
        (harg3.unread (up (a := 4096) (b := 128) .bf16 K)) (harg4.unread (up (a := 4096) (b := 128) .bf16 V))
        (harg7.unread (up (a := 256) (b := 256) .bf16 tabIn)) (harg8.unread (up (a := 256) (b := 256) .bf16 tabEx)) G12 G13 init n) :
    s.1 = (up .f32 (fun r _ => keepSum (past (i 1).val) q K (512 * n) r), up .f32 (fun r _ => gSum (past (i 1).val) q d K V t (512 * n) r),
          up .f32 (dqSum (past (i 1).val) q d K V t (512 * n)))
      ∧ arg12.view.read (Elt Ideal) (arg12.view.writes (Elt Ideal) G12 s.2.1) = up (a := 4096) (b := 128) .f32 (added (512 * n) X (dkAdd (past (i 1).val) q d K V t))
      ∧ arg13.view.read (Elt Ideal) (arg13.view.writes (Elt Ideal) G13 s.2.2) = up (a := 4096) (b := 128) .f32 (added (512 * n) Y (dvAdd (past (i 1).val) q d K t)) := by
  subst hi
  induction n generalizing s with
  | zero =>
    subst hs
    refine ⟨rfl, ?_, ?_⟩
    · exact h12
    · exact h13
  | succ n ih =>
    obtain ⟨h1, h2, h3⟩ := ih (by omega) _ rfl
    have hk : n < (k0_t1_loop i).trips := hn
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 (up .bf16 q) (up .bf16 d) (up .f32 (fun i _ => t i)) v13 v14 v32 v33 v34 c0 v35
        (harg3.unread (up (a := 4096) (b := 128) .bf16 K)) (harg4.unread (up (a := 4096) (b := 128) .bf16 V))
        (harg7.unread (up (a := 256) (b := 256) .bf16 tabIn)) (harg8.unread (up (a := 256) (b := 256) .bf16 tabEx)) G12 G13 (up .f32 (fun _ _ => 0), up .f32 (fun _ _ => 0), up .f32 (fun _ _ => 0)) ⟨n, hk⟩
    rw [h1] at e
    rw [tripR_eq 𝒱 c bd i arg2 harg2 arg3 harg3 arg4 harg4 arg5 harg5 arg6 harg6 arg7 harg7 arg8 harg8 arg9 harg9 arg10 harg10 arg11 harg11 arg12 harg12 arg13 harg13 q d K V t v13 v14 v32 v33 v34 c0 v35 ⟨n, hk⟩,
      tripL_eq 𝒱 c bd i arg2 harg2 arg3 harg3 arg4 harg4 arg5 harg5 arg6 harg6 arg7 harg7 arg8 harg8 arg9 harg9 arg10 harg10 arg11 harg11 arg12 harg12 arg13 harg13 q d K V t v13 v14 v32 v33 v34 c0 v35 ⟨n, hk⟩ _ _ _ _ h2 h3] at e
    rw [e] at hs
    subst hs
    refine ⟨rfl, ?_, ?_⟩
    · refine (read_put arg12.view G12 _ _ (off1_eq i ⟨n, hk⟩) _ _ h2).trans ?_
      exact congrArg (up .f32) (added_rows (512 * n) X _)
    · refine (read_put arg13.view G13 _ _ (off1_eq i ⟨n, hk⟩) _ _ h3).trans ?_
      exact congrArg (up .f32) (added_rows (512 * n) Y _)
end

end Cert.Stick

end
-- ==== Proof.Point.lean ====
module
public import proofs.«01_k».proof.Proof.Trip
public import proofs.«01_k».proof.Proof.Gen.KernelIdeal.Value
@[expose] public section
set_option maxRecDepth 16384

/-!
# One point of the grid

A point takes the blocks of keys before its own in the loop's turns, then its own block under the mask, and leaves the
queries' gradient of its block and the two accumulators added to.
-/

noncomputable section
open Finset Idealize.ShloMosaic Cert.KernelIdeal Cert.KernelIdeal.Gen
open Idealize.SL.Sem
namespace Cert.Stick

/-- The number of the point's block, as the program computes it. -/
abbrev blockNo (i : grid0.Coords) : BitVec 32 :=
  Scalar.select (Scalar.andi (Scalar.cmpi .ne (Scalar.subi (Scalar.extui (Scalar.cmpi .sgt (Scalar.muli (BitVec.ofNat 32 (i 1).val) 512#32) 0#32))
      (Scalar.extui (Scalar.cmpi .slt (Scalar.muli (BitVec.ofNat 32 (i 1).val) 512#32) 0#32))) 1#32)
    (Scalar.cmpi .ne (Scalar.remsi (Scalar.muli (BitVec.ofNat 32 (i 1).val) 512#32) 512#32) 0#32))
    (Scalar.subi (Scalar.divsi (Scalar.muli (BitVec.ofNat 32 (i 1).val) 512#32) 512#32) 1#32)
    (Scalar.divsi (Scalar.muli (BitVec.ofNat 32 (i 1).val) 512#32) 512#32)

theorem blockNo_eq (i : grid0.Coords) : blockNo i = BitVec.ofNat 32 (i 1).val := by
  have h : ∀ b : Fin 8, ∀ i : grid0.Coords, i 1 = b → blockNo i = BitVec.ofNat 32 b.val := by
    intro b i hb
    simp only [blockNo, hb]
    clear hb
    revert b; decide +kernel
  exact h _ i rfl

theorem trips2_eq (i : grid0.Coords) : (k0_t2_loop i).trips = 0 := by
  have h : ∀ b : Fin 8, ∀ i : grid0.Coords, i 1 = b → (k0_t2_loop i).trips = 0 := by
    intro b i hb
    simp only [k0_t2_loop, hb]
    clear hb
    revert b; decide +kernel
  exact h _ i rfl

theorem off3_eq (i : grid0.Coords) : k0_off3 i = ![512 * (i 1).val, 0] := by
  have h : ∀ b : Fin 8, ∀ i : grid0.Coords, i 1 = b → k0_off3 i = ![512 * b.val, 0] := by
    intro b i hb
    simp only [k0_off3, hb]
    clear hb
    revert b; decide +kernel
  exact h _ i rfl

/-- The mask of the point's own block: a query attends to the keys strictly before it. -/
theorem mask_eq (i : grid0.Coords) : k0_pay85 (k0_pay71 i) (iota .tc S512x512 32 [1] iota_S512x512_d1_w32) (blockNo i) = mk (pastAt (past (i 1).val) (512 * (i 1).val)) := by
  rw [blockNo_eq]
  have hb : (i 1).val < 8 := (i 1).isLt
  funext j
  idx_vars j
  pointwise [k0_pay85, k0_pay71, mk, pastAt, past]
  have e1 : IntOp.addi (BitVec.ofNat 32 j1.val) (Scalar.muli (BitVec.ofNat 32 (i 1).val) 512#32) = BitVec.ofNat 32 (512 * (i 1).val + j1.val) := by
    show BitVec.ofNat 32 j1.val + BitVec.ofNat 32 (i 1).val * BitVec.ofNat 32 512 = _
    rw [← BitVec.ofNat_mul, ← BitVec.ofNat_add]; congr 1; omega
  have e0 : IntOp.addi (Scalar.muli (BitVec.ofNat 32 (i 1).val) 512#32) (BitVec.ofNat 32 j0.val) = BitVec.ofNat 32 (512 * (i 1).val + j0.val) := by
    show BitVec.ofNat 32 (i 1).val * BitVec.ofNat 32 512 + BitVec.ofNat 32 j0.val = _
    rw [← BitVec.ofNat_mul, ← BitVec.ofNat_add]; congr 1; omega
  rw [e1, e0]
  have h1 := j1.isLt
  have h0 := j0.isLt
  show BitVec.ofBool (BitVec.slt _ _) = _
  congr 1
  rw [BitVec.slt_eq_decide]
  congr 1
  rw [BitVec.toInt_ofNat', BitVec.toInt_ofNat', Int.bmod_eq_of_le (by omega) (by omega), Int.bmod_eq_of_le (by omega) (by omega)]
  exact propext Nat.cast_lt

/-- A buffer filled whole reads the fill. -/
theorem read_fill {sig : RefSig} {κ : Kind} {sp : Space} (v : View sig κ sp S4096x128 .f32) (f : v.ty.Contents (Elt Ideal)) {off : Fin 2 → ℕ} (h : off = fun _ => 0)
    (inb : ∀ a, off a + S4096x128.size a ≤ S4096x128.size a) (w : S4096x128.Idx → Elt Ideal .f32) :
    v.read (Elt Ideal) (v.writes (Elt Ideal) f [⟨Rect.unit (s := S4096x128) off S4096x128.size inb, w⟩]) = w := by
  subst h
  exact View.read_writes_whole v f w

/-- The loop over the point's own block, which takes no turn, stores nothing. -/
theorem idle2 (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S512x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .f32) (harg12 : arg12.IsWhole) (arg13 : Memref sig .tc .vmem S4096x128 .f32) (harg13 : arg13.IsWhole) (v4 : FVec Ideal S512x128 .bf16) (v6 : FVec Ideal S512x128 .bf16) (v9 : FVec Ideal S512x512 .f32) (v13 : IVec S512x512 32) (v14 : IVec S512x512 32) (v32 : BitVec 32) (v33 : FVec Ideal S512x128 .f32) (v34 : FVec Ideal S512x128 .f32) (c0_i32_14 : BitVec 32) (v35 : BitVec 32) (v39 : BitVec 32) (X_arg3 : BufTy.Contents (Elt Ideal) arg3.view.ty) (X_arg4 : BufTy.Contents (Elt Ideal) arg4.view.ty) (X_arg7 : BufTy.Contents (Elt Ideal) arg7.view.ty) (X_arg8 : BufTy.Contents (Elt Ideal) arg8.view.ty) (G_arg12 : BufTy.Contents (Elt Ideal) arg12.view.ty) (G_arg13 : BufTy.Contents (Elt Ideal) arg13.view.ty)  (init : FVec Ideal S512x128 .f32 × FVec Ideal S512x128 .f32 × FVec Ideal S512x128 .f32) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 v4 v6 v9 v13 v14 v32 v33 v34 c0_i32_14 v35 v39 X_arg3 X_arg4 X_arg7 X_arg8 G_arg12 G_arg13 init 0).2 = ([], []) := rfl

section
variable (c : Dev nD) (i : grid0.Coords)
  (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S512x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S4096x128 .f32) (harg12 : arg12.IsWhole)
  (arg13 : Memref sig .tc .vmem S4096x128 .f32) (harg13 : arg13.IsWhole)
  (q d K V : ℕ → ℕ → ℝ) (t : ℕ → ℝ)

theorem state_at (G12 : BufTy.Contents (Elt Ideal) arg12.view.ty) (G13 : BufTy.Contents (Elt Ideal) arg13.view.ty)
    (X Y : ℕ → ℕ → ℝ) (h12 : arg12.view.read (Elt Ideal) G12 = up (a := 4096) (b := 128) .f32 X) (h13 : arg13.view.read (Elt Ideal) G13 = up (a := 4096) (b := 128) .f32 Y)
    (v13 v14 : IVec S512x512 32) (v32 : BitVec 32) (v33 v34 : FVec Ideal S512x128 .f32) (c0 v35 : BitVec 32) :
    let s := st_k0_t1 (F := Ideal) Variants.none c none i arg2 harg2 arg3 harg3 arg4 harg4 arg5 harg5 arg6 harg6 arg7 harg7 arg8 harg8 arg9 harg9 arg10 harg10 arg11 harg11 arg12 harg12 arg13 harg13 (up .bf16 q) (up .bf16 d) (up .f32 (fun i _ => t i)) v13 v14 v32 v33 v34 c0 v35
        (harg3.unread (up (a := 4096) (b := 128) .bf16 K)) (harg4.unread (up (a := 4096) (b := 128) .bf16 V))
        (harg7.unread (up (a := 256) (b := 256) .bf16 tabIn)) (harg8.unread (up (a := 256) (b := 256) .bf16 tabEx)) G12 G13
        (up .f32 (fun _ _ => 0), up .f32 (fun _ _ => 0), up .f32 (fun _ _ => 0)) (i 1).val
    s.1 = (up .f32 (fun r _ => keepSum (past (i 1).val) q K (512 * (i 1).val) r), up .f32 (fun r _ => gSum (past (i 1).val) q d K V t (512 * (i 1).val) r),
          up .f32 (dqSum (past (i 1).val) q d K V t (512 * (i 1).val)))
      ∧ arg12.view.read (Elt Ideal) (arg12.view.writes (Elt Ideal) G12 s.2.1) = up (a := 4096) (b := 128) .f32 (added (512 * (i 1).val) X (dkAdd (past (i 1).val) q d K V t))
      ∧ arg13.view.read (Elt Ideal) (arg13.view.writes (Elt Ideal) G13 s.2.2) = up (a := 4096) (b := 128) .f32 (added (512 * (i 1).val) Y (dvAdd (past (i 1).val) q d K t)) :=
  state_eq Variants.none c none i arg2 harg2 arg3 harg3 arg4 harg4 arg5 harg5 arg6 harg6 arg7 harg7 arg8 harg8 arg9 harg9 arg10 harg10 arg11 harg11 arg12 harg12 arg13 harg13 q d K V t v13 v14 v32 v33 v34 c0 v35 G12 G13 X Y h12 h13 (i 1).val (by rw [trips_eq]) _ rfl _ rfl
/-- What the point leaves of the queries' gradient. -/
theorem dq_B (hc0 : ¬cond0_0 i) (hc1 : ¬cond0_1 i) (X Y : ℕ → ℕ → ℝ) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .bf16 (fun r e => dqSum (past (i 1).val) q d K V t (512 * (i 1).val + 512) r e * scale) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 _ _ _ _ _ _ _ _ _)]
  unfold kernelRun0_B
  dsimp only
  rw [View.canon_unit_zero hz]
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil]
  simp only [(hs _ _ _ _ _ _ _).1]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  rw [pay1_up]
  refine congrArg (up .bf16) ?_
  rw [← dq_at]

/-- What the point leaves in the keys' accumulator. -/
theorem dk_B (hc0 : ¬cond0_0 i) (hc1 : ¬cond0_1 i) (X Y : ℕ → ℕ → ℝ) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .f32 (added (512 * (i 1).val + 512) X (dkAdd (past (i 1).val) q d K V t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold sout0_B_0
  unfold kernelRun0_B
  dsimp only
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil]
  simp only [(hs _ _ _ _ _ _ _).1, hX]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  refine (read_put arg12.view _ _ _ (off3_eq i) _ _ (hs _ _ _ _ _ _ _).2.1).trans ?_
  exact congrArg (up .f32) (added_rows (512 * (i 1).val) X (dkAdd (past (i 1).val) q d K V t))

/-- What the point leaves in the values' accumulator. -/
theorem dv_B (hc0 : ¬cond0_0 i) (hc1 : ¬cond0_1 i) (X Y : ℕ → ℕ → ℝ) :
    sout0_B_1 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .f32 (added (512 * (i 1).val + 512) Y (dvAdd (past (i 1).val) q d K t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold sout0_B_1
  unfold kernelRun0_B
  dsimp only
  sl_unfold_words
  unfold k0_off3 at hK hV hX hY
  rw [hq, hd, ht]
  rw [hK, hI]
  simp only [ht1, ht2, pay68_up, pay69_up, pay70_up, pay72_up, pay73_up, st_k0_t2_zero, idle2, List.nil_append, View.writes_nil]
  simp only [(hs _ _ _ _ _ _ _).1, hY]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, att_at]
  refine (read_put arg13.view _ _ _ (off3_eq i) _ _ (hs _ _ _ _ _ _ _).2.2).trans ?_
  exact congrArg (up .f32) (added_rows (512 * (i 1).val) Y (dvAdd (past (i 1).val) q d K t))

/-- What the point leaves of the queries' gradient. -/
theorem dq_A (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 scM0_0 (Memref.isWhole_whole _) scM0_1 (Memref.isWhole_whole _) hc0 hc1 (up .bf16 q) (up .bf16 K) (up .bf16 V) (up .bf16 d) (up .f32 (fun i _ => t i)) (up .bf16 tabIn) (up .bf16 tabEx)
      = up .bf16 (fun r e => dqSum (past (i 1).val) q d K V t (512 * (i 1).val + 512) r e * scale) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have z12 : scM0_0.view.read (Elt Ideal) (scM0_0.view.writes (Elt Ideal) scM0_0.view.junk [⟨Rect.unit ![0, 0] S4096x128.size inb_S4096x128_S4096x128_0_0, k0_pay66 (F := Ideal)⟩]) = up (a := 4096) (b := 128) .f32 (fun _ _ => 0) := by
    rw [pay66_up]; exact read_fill _ _ hz _ _
  have z13 : scM0_1.view.read (Elt Ideal) (scM0_1.view.writes (Elt Ideal) scM0_1.view.junk [⟨Rect.unit ![0, 0] S4096x128.size inb_S4096x128_S4096x128_0_0, k0_pay67 (F := Ideal)⟩]) = up (a := 4096) (b := 128) .f32 (fun _ _ => 0) := by
    rw [pay67_up]; exact read_fill _ _ hz _ _
  have hs := state_at c i arg2 harg2 arg3 harg3 arg4 harg4 arg5 harg5 arg6 harg6 arg7 harg7 arg8 harg8 arg9 harg9 arg10 harg10 arg11 harg11 scM0_0 (Memref.isWhole_whole _) scM0_1 (Memref.isWhole_whole _) q d K V t _ _ _ _ z12 z13
  dsimp only at hs
  have hX := fun v13 v14 v32 v33 v34 c0 v35 => read_full scM0_0.view _ _ (off3_eq i) (k0_off3_inb i) (hs v13 v14 v32 v33 v34 c0 v35).2.1
  have hY := fun v13 v14 v32 v33 v34 c0 v35 => read_full scM0_1.view _ _ (off3_eq i) (k0_off3_inb i) (hs v13 v14 v32 v33 v34 c0 v35).2.2
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 scM0_0 (Memref.isWhole_whole _) scM0_1 (Memref.isWhole_whole _) hc0 hc1 _ _ _ _ _ _ _)]
  unfold kernelRun0_A
  dsimp only
  rw [View.canon_unit_zero hz]
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil, View.writes_append]
  simp only [(hs _ _ _ _ _ _ _).1]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  rw [pay1_up]
  refine congrArg (up .bf16) ?_
  rw [← dq_at]

/-- What the point leaves in the keys' accumulator. -/
theorem dk_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 scM0_0 (Memref.isWhole_whole _) scM0_1 (Memref.isWhole_whole _) hc0 hc1 (up .bf16 q) (up .bf16 K) (up .bf16 V) (up .bf16 d) (up .f32 (fun i _ => t i)) (up .bf16 tabIn) (up .bf16 tabEx)
      = up .f32 (added (512 * (i 1).val + 512) (fun _ _ => 0) (dkAdd (past (i 1).val) q d K V t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have z12 : scM0_0.view.read (Elt Ideal) (scM0_0.view.writes (Elt Ideal) scM0_0.view.junk [⟨Rect.unit ![0, 0] S4096x128.size inb_S4096x128_S4096x128_0_0, k0_pay66 (F := Ideal)⟩]) = up (a := 4096) (b := 128) .f32 (fun _ _ => 0) := by
    rw [pay66_up]; exact read_fill _ _ hz _ _
  have z13 : scM0_1.view.read (Elt Ideal) (scM0_1.view.writes (Elt Ideal) scM0_1.view.junk [⟨Rect.unit ![0, 0] S4096x128.size inb_S4096x128_S4096x128_0_0, k0_pay67 (F := Ideal)⟩]) = up (a := 4096) (b := 128) .f32 (fun _ _ => 0) := by
    rw [pay67_up]; exact read_fill _ _ hz _ _
  have hs := state_at c i arg2 harg2 arg3 harg3 arg4 harg4 arg5 harg5 arg6 harg6 arg7 harg7 arg8 harg8 arg9 harg9 arg10 harg10 arg11 harg11 scM0_0 (Memref.isWhole_whole _) scM0_1 (Memref.isWhole_whole _) q d K V t _ _ _ _ z12 z13
  dsimp only at hs
  have hX := fun v13 v14 v32 v33 v34 c0 v35 => read_full scM0_0.view _ _ (off3_eq i) (k0_off3_inb i) (hs v13 v14 v32 v33 v34 c0 v35).2.1
  have hY := fun v13 v14 v32 v33 v34 c0 v35 => read_full scM0_1.view _ _ (off3_eq i) (k0_off3_inb i) (hs v13 v14 v32 v33 v34 c0 v35).2.2
  unfold sout0_A_0
  unfold kernelRun0_A
  dsimp only
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil, View.writes_append]
  simp only [(hs _ _ _ _ _ _ _).1, hX]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  simp only [← List.cons_append, View.writes_append]
  refine (read_put scM0_0.view _ _ _ (off3_eq i) _ _ (hs _ _ _ _ _ _ _).2.1).trans ?_
  exact congrArg (up .f32) (added_rows (512 * (i 1).val) (fun _ _ => 0) (dkAdd (past (i 1).val) q d K V t))

/-- What the point leaves in the values' accumulator. -/
theorem dv_A (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 scM0_0 (Memref.isWhole_whole _) scM0_1 (Memref.isWhole_whole _) hc0 hc1 (up .bf16 q) (up .bf16 K) (up .bf16 V) (up .bf16 d) (up .f32 (fun i _ => t i)) (up .bf16 tabIn) (up .bf16 tabEx)
      = up .f32 (added (512 * (i 1).val + 512) (fun _ _ => 0) (dvAdd (past (i 1).val) q d K t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have z12 : scM0_0.view.read (Elt Ideal) (scM0_0.view.writes (Elt Ideal) scM0_0.view.junk [⟨Rect.unit ![0, 0] S4096x128.size inb_S4096x128_S4096x128_0_0, k0_pay66 (F := Ideal)⟩]) = up (a := 4096) (b := 128) .f32 (fun _ _ => 0) := by
    rw [pay66_up]; exact read_fill _ _ hz _ _
  have z13 : scM0_1.view.read (Elt Ideal) (scM0_1.view.writes (Elt Ideal) scM0_1.view.junk [⟨Rect.unit ![0, 0] S4096x128.size inb_S4096x128_S4096x128_0_0, k0_pay67 (F := Ideal)⟩]) = up (a := 4096) (b := 128) .f32 (fun _ _ => 0) := by
    rw [pay67_up]; exact read_fill _ _ hz _ _
  have hs := state_at c i arg2 harg2 arg3 harg3 arg4 harg4 arg5 harg5 arg6 harg6 arg7 harg7 arg8 harg8 arg9 harg9 arg10 harg10 arg11 harg11 scM0_0 (Memref.isWhole_whole _) scM0_1 (Memref.isWhole_whole _) q d K V t _ _ _ _ z12 z13
  dsimp only at hs
  have hX := fun v13 v14 v32 v33 v34 c0 v35 => read_full scM0_0.view _ _ (off3_eq i) (k0_off3_inb i) (hs v13 v14 v32 v33 v34 c0 v35).2.1
  have hY := fun v13 v14 v32 v33 v34 c0 v35 => read_full scM0_1.view _ _ (off3_eq i) (k0_off3_inb i) (hs v13 v14 v32 v33 v34 c0 v35).2.2
  unfold sout0_A_1
  unfold kernelRun0_A
  dsimp only
  sl_unfold_words
  unfold k0_off3 at hK hV hX hY
  rw [hq, hd, ht]
  rw [hK, hI]
  simp only [ht1, ht2, pay68_up, pay69_up, pay70_up, pay72_up, pay73_up, st_k0_t2_zero, idle2, List.nil_append, View.writes_nil, View.writes_append]
  simp only [(hs _ _ _ _ _ _ _).1, hY]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, att_at]
  simp only [← List.cons_append, View.writes_append]
  refine (read_put scM0_1.view _ _ _ (off3_eq i) _ _ (hs _ _ _ _ _ _ _).2.2).trans ?_
  exact congrArg (up .f32) (added_rows (512 * (i 1).val) (fun _ _ => 0) (dvAdd (past (i 1).val) q d K t))

/-- What the point leaves of the queries' gradient. -/
theorem dq_C (hc0 : ¬cond0_0 i) (hc1 : cond0_1 i) (X Y : ℕ → ℕ → ℝ) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .bf16 (fun r e => dqSum (past (i 1).val) q d K V t (512 * (i 1).val + 512) r e * scale) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 _ _ _ _ _ _ _ _ _)]
  unfold kernelRun0_C
  dsimp only
  rw [View.canon_unit_zero hz]
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil]
  simp only [(hs _ _ _ _ _ _ _).1]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  rw [pay1_up]
  refine congrArg (up .bf16) ?_
  rw [← dq_at]

/-- What the point leaves in the keys' accumulator. -/
theorem dk_C (hc0 : ¬cond0_0 i) (hc1 : cond0_1 i) (X Y : ℕ → ℕ → ℝ) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .f32 (added (512 * (i 1).val + 512) X (dkAdd (past (i 1).val) q d K V t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold sout0_C_0
  unfold kernelRun0_C
  dsimp only
  sl_unfold_words
  unfold k0_off3 at hK hV hX hY
  rw [hq, hd, ht]
  rw [hK, hV, hI, hE]
  simp only [ht1, ht2, pay68_up, pay69_up, pay70_up, pay72_up, pay73_up, st_k0_t2_zero, idle2, List.nil_append, View.writes_nil]
  simp only [(hs _ _ _ _ _ _ _).1, hX]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, g_at, dz_at]
  refine (read_put arg12.view _ _ _ (off3_eq i) _ _ (hs _ _ _ _ _ _ _).2.1).trans ?_
  exact congrArg (up .f32) (added_rows (512 * (i 1).val) X (dkAdd (past (i 1).val) q d K V t))

/-- What the point leaves in the values' accumulator. -/
theorem dv_C (hc0 : ¬cond0_0 i) (hc1 : cond0_1 i) (X Y : ℕ → ℕ → ℝ) :
    sout0_C_1 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .f32 (added (512 * (i 1).val + 512) Y (dvAdd (past (i 1).val) q d K t)) := by
  have ht1 := trips_eq i
  have ht2 := trips2_eq i
  unfold k0_t1_loop Scf.Loop.trips at ht1
  unfold k0_t2_loop Scf.Loop.trips at ht2
  dsimp only at ht1 ht2
  have hz : (![0, 0] : Fin 2 → ℕ) = fun _ => 0 := by funext a; fin_cases a <;> rfl
  have hm := mask_eq i
  unfold blockNo at hm
  have hq : View.readAt (Elt Ideal) arg2.view (Rect.unit ![0, 0] S512x128.size inb_S512x128_S512x128_0_0).toLoadRect (harg2.unread (up (a := 512) (b := 128) .bf16 q)) = up (a := 512) (b := 128) .bf16 q := by
    rw [View.readAt_eq_ld, harg2.read_unread, View.ld_unit_zero (S := S512x128) hz]
  have hd : View.readAt (Elt Ideal) arg5.view (Rect.unit ![0, 0] S512x128.size inb_S512x128_S512x128_0_0).toLoadRect (harg5.unread (up (a := 512) (b := 128) .bf16 d)) = up (a := 512) (b := 128) .bf16 d := by
    rw [View.readAt_eq_ld, harg5.read_unread, View.ld_unit_zero (S := S512x128) hz]
  have ht : View.readAt (Elt Ideal) arg6.view (Rect.unit ![0, 0] S512x128.size inb_S512x128_S512x128_0_0).toLoadRect (harg6.unread (up (a := 512) (b := 128) .f32 (fun i _ => t i))) = up (a := 512) (b := 128) .f32 (fun i _ => t i) := by
    rw [View.readAt_eq_ld, harg6.read_unread, View.ld_unit_zero (S := S512x128) hz]
  have hI : View.readAt (Elt Ideal) arg7.view (Rect.unit ![0, 0] S256x256.size inb_S256x256_S256x256_0_0).toLoadRect (harg7.unread (up (a := 256) (b := 256) .bf16 tabIn)) = up (a := 256) (b := 256) .bf16 tabIn := by
    rw [View.readAt_eq_ld, harg7.read_unread, View.ld_unit_zero (S := S256x256) hz]
  have hE : View.readAt (Elt Ideal) arg8.view (Rect.unit ![0, 0] S256x256.size inb_S256x256_S256x256_0_0).toLoadRect (harg8.unread (up (a := 256) (b := 256) .bf16 tabEx)) = up (a := 256) (b := 256) .bf16 tabEx := by
    rw [View.readAt_eq_ld, harg8.read_unread, View.ld_unit_zero (S := S256x256) hz]
  have hK := read_half arg3.view (harg3.unread (up (a := 4096) (b := 128) .bf16 K)) K (off3_eq i) (k0_off3_inb i) (harg3.read_unread _)
  have hV := read_half arg4.view (harg4.unread (up (a := 4096) (b := 128) .bf16 V)) V (off3_eq i) (k0_off3_inb i) (harg4.read_unread _)
  have hs := state_at c i arg2 harg2 arg3 harg3 arg4 harg4 arg5 harg5 arg6 harg6 arg7 harg7 arg8 harg8 arg9 harg9 arg10 harg10 arg11 harg11 arg12 harg12 arg13 harg13 q d K V t (harg12.unread (up .f32 X)) (harg13.unread (up .f32 Y)) X Y (harg12.read_unread _) (harg13.read_unread _)
  dsimp only at hs
  have hX := fun v13 v14 v32 v33 v34 c0 v35 => read_full arg12.view _ _ (off3_eq i) (k0_off3_inb i) (hs v13 v14 v32 v33 v34 c0 v35).2.1
  have hY := fun v13 v14 v32 v33 v34 c0 v35 => read_full arg13.view _ _ (off3_eq i) (k0_off3_inb i) (hs v13 v14 v32 v33 v34 c0 v35).2.2
  unfold sout0_C_1
  unfold kernelRun0_C
  dsimp only
  sl_unfold_words
  unfold k0_off3 at hK hV hX hY
  rw [hq, hd, ht]
  rw [hK, hI]
  simp only [ht1, ht2, pay68_up, pay69_up, pay70_up, pay72_up, pay73_up, st_k0_t2_zero, idle2, List.nil_append, View.writes_nil]
  simp only [(hs _ _ _ _ _ _ _).1, hY]
  simp only [pay82_up, pay83_up, pay84_up, pay86_up (h := hm), pay87_up (h := hm), pay88_up (h := hm), pay90_up (h := hm), pay91_up (h := hm), hm, pay92_up, pay93_up, pay94_up, pay95_up, pay97_up, pay98_up, pay100_up, pay101_up, pay102_up, pay104_up, pay105_up, pay106_up, att_at]
  refine (read_put arg13.view _ _ _ (off3_eq i) _ _ (hs _ _ _ _ _ _ _).2.2).trans ?_
  exact congrArg (up .f32) (added_rows (512 * (i 1).val) Y (dvAdd (past (i 1).val) q d K t))

/-- What the last point leaves in the keys' block. -/
theorem dk_out (hc0 : ¬cond0_0 i) (hc1 : cond0_1 i) (X Y : ℕ → ℕ → ℝ) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .bf16 (added (512 * (i 1).val + 512) X (dkAdd (past (i 1).val) q d K V t)) := by
  have h := dk_C c i arg2 harg2 arg3 harg3 arg4 harg4 arg5 harg5 arg6 harg6 arg7 harg7 arg8 harg8 arg9 harg9 arg10 harg10 arg11 harg11 arg12 harg12 arg13 harg13 q d K V t hc0 hc1 X Y
  unfold sout0_C_0 kernelRun0_C at h
  dsimp only at h
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 _ _ _ _ _ _ _ _ _)]
  unfold kernelRun0_C
  dsimp only
  have hz : (![0, 0] : Fin 2 → ℕ) = fun _ => 0 := by funext a; fin_cases a <;> rfl
  rw [View.canon_unit_zero hz]
  unfold kernelRun0_C.sl.v183
  rw [View.readAt_eq_ld, View.ld_unit_zero (S := S4096x128) hz, h, pay2_up]

/-- What the last point leaves in the values' block. -/
theorem dv_out (hc0 : ¬cond0_0 i) (hc1 : cond0_1 i) (X Y : ℕ → ℕ → ℝ) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 (up .bf16 q) (up .bf16 K) (up .bf16 V) (up .bf16 d) (up .f32 (fun i _ => t i)) (up .bf16 tabIn) (up .bf16 tabEx) (up .f32 X) (up .f32 Y)
      = up .bf16 (added (512 * (i 1).val + 512) Y (dvAdd (past (i 1).val) q d K t)) := by
  have h := dv_C c i arg2 harg2 arg3 harg3 arg4 harg4 arg5 harg5 arg6 harg6 arg7 harg7 arg8 harg8 arg9 harg9 arg10 harg10 arg11 harg11 arg12 harg12 arg13 harg13 q d K V t hc0 hc1 X Y
  unfold sout0_C_1 kernelRun0_C at h
  dsimp only at h
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 _ _ _ _ _ _ _ _ _)]
  unfold kernelRun0_C
  dsimp only
  have hz : (![0, 0] : Fin 2 → ℕ) = fun _ => 0 := by funext a; fin_cases a <;> rfl
  rw [View.canon_unit_zero hz]
  unfold kernelRun0_C.sl.v186
  rw [View.readAt_eq_ld, View.ld_unit_zero (S := S4096x128) hz, h, pay3_up]

end
end Cert.Stick
end
-- ==== Proof.Sweep.lean ====
module
public import proofs.«01_k».proof.Proof.Blocks
public import proofs.«01_k».proof.Proof.Point
@[expose] public section
set_option maxRecDepth 16384

/-!
# The sweep over a head's eight blocks of queries

The gradients of a head's keys and values grow by one block of queries per grid point; after the eighth they are whole and
are written back.
-/

noncomputable section
open Finset Idealize.ShloMosaic Cert.KernelIdeal Cert.KernelIdeal.Gen
open Idealize.SL.Sem
namespace Cert.Stick

section
variable (q k v d : ℕ → ℕ → ℝ) (b : ℕ)

/-- The gradient of the keys from the first `n` queries. -/
def partDk (n : ℕ) : ℕ → ℕ → ℝ := fun s e => (∑ t ∈ range n, dscore q k v d t s * q t e) * scale
/-- The gradient of the values from the first `n` queries. -/
def partDv (n : ℕ) : ℕ → ℕ → ℝ := fun s e => ∑ t ∈ range n, att q k t s * d t e

/-- The totals of the block's rows. -/
def totals : ℕ → ℝ := fun i => total q k (512 * b + i)

theorem dz_rows (i s : ℕ) : dzB (past b) (rows (512 * b) q) (rows (512 * b) d) k v (totals q k b) i s = dscore q k v d (512 * b + i) s := rfl

theorem att_rows (i s : ℕ) : attB (past b) (rows (512 * b) q) k (totals q k b) i s = att q k (512 * b + i) s := rfl

theorem dscore_late (t s : ℕ) (h : t ≤ s) : dscore q k v d t s = 0 := by
  unfold dscore dzB dzT before
  rw [if_neg (by simpa using h)]

theorem att_late (t s : ℕ) (h : t ≤ s) : att q k t s = 0 := by
  unfold att attB aT before
  rw [if_neg (by simpa using h)]

theorem dq_block (hb : b < 8) (r e : ℕ) (hr : r < 512) :
    dqSum (past b) (rows (512 * b) q) (rows (512 * b) d) k v (totals q k b) (512 * b + 512) r e * scale = headDq q k v d (512 * b + r) e := by
  unfold dqSum headDq
  congr 1
  simp only [dz_rows]
  refine Finset.sum_subset (fun x hx => mem_range.mpr (by have := mem_range.mp hx; omega)) fun s _ hs => ?_
  have : ¬s < 512 * b + 512 := fun g => hs (mem_range.mpr g)
  rw [dscore_late _ _ _ _ _ _ (by omega), zero_mul]

theorem dk_block : added (512 * b + 512) (partDk q k v d (512 * b)) (dkAdd (past b) (rows (512 * b) q) (rows (512 * b) d) k v (totals q k b))
    = partDk q k v d (512 * b + 512) := by
  have e : ∀ s f, dkAdd (past b) (rows (512 * b) q) (rows (512 * b) d) k v (totals q k b) s f = (∑ i ∈ range 512, dscore q k v d (512 * b + i) s * q (512 * b + i) f) * scale := fun _ _ => rfl
  funext s f
  unfold added
  rw [e]
  have hs : partDk q k v d (512 * b + 512) s f = partDk q k v d (512 * b) s f + (∑ i ∈ range 512, dscore q k v d (512 * b + i) s * q (512 * b + i) f) * scale := by
    unfold partDk
    rw [sum_range_add, add_mul]
  rw [hs]
  split_ifs with h
  · rfl
  · rw [Finset.sum_eq_zero (fun i hi => ?_), zero_mul, add_zero]
    have := mem_range.mp hi
    rw [dscore_late _ _ _ _ _ _ (by omega), zero_mul]

theorem dv_block : added (512 * b + 512) (partDv q k d (512 * b)) (dvAdd (past b) (rows (512 * b) q) (rows (512 * b) d) k (totals q k b))
    = partDv q k d (512 * b + 512) := by
  have e : ∀ s f, dvAdd (past b) (rows (512 * b) q) (rows (512 * b) d) k (totals q k b) s f = ∑ i ∈ range 512, att q k (512 * b + i) s * d (512 * b + i) f := fun _ _ => rfl
  funext s f
  unfold added
  rw [e]
  have hs : partDv q k d (512 * b + 512) s f = partDv q k d (512 * b) s f + ∑ i ∈ range 512, att q k (512 * b + i) s * d (512 * b + i) f := by
    unfold partDv
    rw [sum_range_add]
  rw [hs]
  split_ifs with h
  · rfl
  · rw [Finset.sum_eq_zero (fun i hi => ?_), add_zero]
    have := mem_range.mp hi
    rw [att_late _ _ _ _ (by omega), zero_mul]

end

theorem blockOf : ∀ t : Fin cfg0.N, (grid0.coords t 1).val = t.val % 8 :=
  (by decide +kernel : ∀ t : Fin grid0.N, (grid0.coords t 1).val = t.val % 8)

variable (m : (l : Loc nD τ sig) → Buf (Elt Ideal) l) (c : Dev nD)
variable (Q K W D : ℕ → ℕ → ℝ)

/-- What a grid point leaves: its rows of the gradient of the queries, and the other two gradients from the queries so far. -/
structure Left (n : ℕ) (hn : n < cfg0.N) : Prop where
  dq : (outsAt0 m c n hn).1 = up (a := 512) (b := 128) .bf16 (fun r e => headDq (heads Q (n / 8)) (heads K (n / 8)) (heads W (n / 8)) (heads D (n / 8)) (512 * (n % 8) + r) e)
  dk : (outsAt0 m c n hn).2.2.2.1 = up (a := 4096) (b := 128) .f32 (partDk (heads Q (n / 8)) (heads K (n / 8)) (heads W (n / 8)) (heads D (n / 8)) (512 * (n % 8) + 512))
  dv : (outsAt0 m c n hn).2.2.2.2 = up (a := 4096) (b := 128) .f32 (partDv (heads Q (n / 8)) (heads K (n / 8)) (heads D (n / 8)) (512 * (n % 8) + 512))
  dkOut : n % 8 = 7 → (outsAt0 m c n hn).2.1 = up (a := 4096) (b := 128) .bf16 (headDk (heads Q (n / 8)) (heads K (n / 8)) (heads W (n / 8)) (heads D (n / 8)))
  dvOut : n % 8 = 7 → (outsAt0 m c n hn).2.2.1 = up (a := 4096) (b := 128) .bf16 (headDv (heads Q (n / 8)) (heads K (n / 8)) (heads D (n / 8)))

variable (h : Args m c Q K W D)
include h

theorem left_first (t : Fin cfg0.N) (h0 : t.val % 8 = 0) (h1 : ¬t.val % 8 = 7) : Left m c Q K W D t.val t.isLt := by
  have hb := blockOf t
  have h8 : t.val % 8 < 8 := Nat.mod_lt _ (by omega)
  have e := outsAt0_A m c t h0 h1
  rw [block_q m c Q K W D h t, block_k m c Q K W D h t, block_v m c Q K W D h t, block_d m c Q K W D h t, block_t m c Q K W D h t, block_in m c t, block_ex m c t] at e
  refine ⟨?_, ?_, ?_, fun g => absurd g h1, fun g => absurd g h1⟩
  · have e1 := dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) ((hcond0_0 t).mpr h0) (fun g => h1 ((hcond0_1 t).mp g))
    have e2 := congrArg (fun x => x.1) e
    dsimp only at e2
    rw [e2, e1, hb]
    exact up_congr fun r hr f _ => dq_block _ _ _ _ _ h8 r f hr
  · have e1 := dk_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) ((hcond0_0 t).mpr h0) (fun g => h1 ((hcond0_1 t).mp g))
    have e2 := congrArg (fun x => x.2.2.2.1) e
    dsimp only at e2
    rw [e2, e1, hb, ← dk_block, h0]
    refine congrArg (fun x => up .f32 (added _ x _)) ?_
    funext s f
    simp [partDk]
  · have e1 := dv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) ((hcond0_0 t).mpr h0) (fun g => h1 ((hcond0_1 t).mp g))
    have e2 := congrArg (fun x => x.2.2.2.2) e
    dsimp only at e2
    rw [e2, e1, hb, ← dv_block, h0]
    refine congrArg (fun x => up .f32 (added _ x _)) ?_
    funext s f
    simp [partDv]

theorem left_mid (t : Fin cfg0.N) (h0 : ¬t.val % 8 = 0) (h1 : ¬t.val % 8 = 7)
    (hp : Left m c Q K W D (t.val - 1) (lt_of_le_of_lt (Nat.sub_le _ _) t.isLt)) : Left m c Q K W D t.val t.isLt := by
  have hb := blockOf t
  have h8 : t.val % 8 < 8 := Nat.mod_lt _ (by omega)
  have e := outsAt0_B m c t h0 h1
  rw [block_q m c Q K W D h t, block_k m c Q K W D h t, block_v m c Q K W D h t, block_d m c Q K W D h t, block_t m c Q K W D h t, block_in m c t, block_ex m c t] at e
  have hk := hp.dk
  have hv := hp.dv
  rw [show (t.val - 1) / 8 = t.val / 8 by omega, show 512 * ((t.val - 1) % 8) + 512 = 512 * (t.val % 8) by omega] at hk hv
  rw [hk, hv] at e
  refine ⟨?_, ?_, ?_, fun g => absurd g h1, fun g => absurd g h1⟩
  · have e1 := dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) (fun g => h1 ((hcond0_1 t).mp g)) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.1) e
    dsimp only at e2
    rw [e2, e1, hb]
    exact up_congr fun r hr f _ => dq_block _ _ _ _ _ h8 r f hr
  · have e1 := dk_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) (fun g => h1 ((hcond0_1 t).mp g)) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.2.2.1) e
    dsimp only at e2
    rw [e2, e1, hb, ← dk_block]
    rfl
  · have e1 := dv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) (fun g => h1 ((hcond0_1 t).mp g)) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.2.2.2) e
    dsimp only at e2
    rw [e2, e1, hb, ← dv_block]
    rfl

theorem left_last (t : Fin cfg0.N) (h0 : ¬t.val % 8 = 0) (h1 : t.val % 8 = 7)
    (hp : Left m c Q K W D (t.val - 1) (lt_of_le_of_lt (Nat.sub_le _ _) t.isLt)) : Left m c Q K W D t.val t.isLt := by
  have hb := blockOf t
  have h8 : t.val % 8 < 8 := Nat.mod_lt _ (by omega)
  have e := outsAt0_C m c t h0 h1
  rw [block_q m c Q K W D h t, block_k m c Q K W D h t, block_v m c Q K W D h t, block_d m c Q K W D h t, block_t m c Q K W D h t, block_in m c t, block_ex m c t] at e
  have hk := hp.dk
  have hv := hp.dv
  rw [show (t.val - 1) / 8 = t.val / 8 by omega, show 512 * ((t.val - 1) % 8) + 512 = 512 * (t.val % 8) by omega] at hk hv
  rw [hk, hv] at e
  refine ⟨?_, ?_, ?_, fun _ => ?_, fun _ => ?_⟩
  · have e1 := dq_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) ((hcond0_1 t).mpr h1) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.1) e
    dsimp only at e2
    rw [e2, e1, hb]
    exact up_congr fun r hr f _ => dq_block _ _ _ _ _ h8 r f hr
  · have e1 := dk_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) ((hcond0_1 t).mpr h1) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.2.2.1) e
    dsimp only at e2
    rw [e2, e1, hb, ← dk_block]
    rfl
  · have e1 := dv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) ((hcond0_1 t).mpr h1) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.2.2.2) e
    dsimp only at e2
    rw [e2, e1, hb, ← dv_block]
    rfl
  · have e1 := dk_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) ((hcond0_1 t).mpr h1) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.1) e
    dsimp only at e2
    rw [e2, e1, hb]
    refine (congrArg (up .bf16) (dk_block _ _ _ _ _)).trans ?_
    rw [h1]
    rfl
  · have e1 := dv_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (rows (512 * (t.val % 8)) (heads Q (t.val / 8))) (rows (512 * (t.val % 8)) (heads D (t.val / 8))) (heads K (t.val / 8)) (heads W (t.val / 8)) (fun i => total (heads Q (t.val / 8)) (heads K (t.val / 8)) (512 * (t.val % 8) + i)) (fun g => h0 ((hcond0_0 t).mp g)) ((hcond0_1 t).mpr h1) (partDk (heads Q (t.val / 8)) (heads K (t.val / 8)) (heads W (t.val / 8)) (heads D (t.val / 8)) (512 * (t.val % 8))) (partDv (heads Q (t.val / 8)) (heads K (t.val / 8)) (heads D (t.val / 8)) (512 * (t.val % 8)))
    have e2 := congrArg (fun x => x.2.2.1) e
    dsimp only at e2
    rw [e2, e1, hb]
    refine (congrArg (up .bf16) (dv_block _ _ _ _)).trans ?_
    rw [h1]
    rfl

theorem left : ∀ (n : ℕ) (hn : n < cfg0.N), Left m c Q K W D n hn
  | 0, hn => left_first m c Q K W D h ⟨0, hn⟩ (by rfl) (by show ¬0 % 8 = 7; omega)
  | n + 1, hn => by
    have hp := left n (lt_of_le_of_lt (Nat.le_succ n) hn)
    by_cases h0 : (n + 1) % 8 = 0
    · exact left_first m c Q K W D h ⟨n + 1, hn⟩ h0 (by show ¬(n + 1) % 8 = 7; omega)
    · by_cases h1 : (n + 1) % 8 = 7
      · exact left_last m c Q K W D h ⟨n + 1, hn⟩ h0 h1 hp
      · exact left_mid m c Q K W D h ⟨n + 1, hn⟩ h0 h1 hp

end Cert.Stick

end
-- ==== Proof.Result.lean ====
module
public import proofs.«01_k».proof.Proof.Sweep
public import proofs.«01_k».proof.Proof.Gen.KernelIdeal.Value
@[expose] public section
set_option maxRecDepth 16384

/-!
# The kernel's three results

Each element of a result is read in the block written back by one grid point: the gradient of the queries by the point of
its own block, the gradients of the keys and values by the last point of its head.
-/

noncomputable section
open Finset Idealize.ShloMosaic Cert.KernelIdeal Cert.KernelIdeal.Gen
open Idealize.SL.Sem
namespace Cert.Stick

section
variable (m : (ℓ : Loc nD τ sig) → Buf (Elt Ideal) ℓ) (c : Dev nD) (Q K W D : ℕ → ℕ → ℝ)
variable (h : Args m c Q K W D)
include h

theorem result_dq : Value.G7 (F := Ideal) m c = (up (a := 4096) (b := 512) .bf16
    (fun t e => headDq (heads Q (e / 128)) (heads K (e / 128)) (heads W (e / 128)) (heads D (e / 128)) t (e % 128)) : FVec Ideal S4096x512 .bf16) := by
  funext i
  have h0 : (i 0).val < 4096 := (i 0).isLt
  have h1 : (i 1).val < 512 := (i 1).isLt
  have hN : cfg0.N = 32 := N_0
  have hp : Value.pt7Of i < cfg0.N := by rw [hN]; show 1 * ((i 0).val / 512 - 0) + 8 * ((i 1).val / 128 - 0) < 32; omega
  unfold Value.G7
  rw [dif_pos hp, ← Value.outsAt0_sweep m c _ hp, (left m c Q K W D h _ hp).dq]
  have a : (1 * ((i 0).val / 512 - 0) + 8 * ((i 1).val / 128 - 0)) / 8 = (i 1).val / 128 := by omega
  have b : 512 * ((1 * ((i 0).val / 512 - 0) + 8 * ((i 1).val / 128 - 0)) % 8) + (i 0).val % 512 = (i 0).val := by omega
  show ((headDq (heads Q ((1 * ((i 0).val / 512 - 0) + 8 * ((i 1).val / 128 - 0)) / 8)) (heads K ((1 * ((i 0).val / 512 - 0) + 8 * ((i 1).val / 128 - 0)) / 8))
    (heads W ((1 * ((i 0).val / 512 - 0) + 8 * ((i 1).val / 128 - 0)) / 8)) (heads D ((1 * ((i 0).val / 512 - 0) + 8 * ((i 1).val / 128 - 0)) / 8))
    (512 * ((1 * ((i 0).val / 512 - 0) + 8 * ((i 1).val / 128 - 0)) % 8) + (i 0).val % 512) ((i 1).val % 128) : ℝ) : EReal) = _
  rw [a, b]
  rfl

theorem result_dk : Value.G8 (F := Ideal) m c = (up (a := 4096) (b := 512) .bf16
    (fun s e => headDk (heads Q (e / 128)) (heads K (e / 128)) (heads W (e / 128)) (heads D (e / 128)) s (e % 128)) : FVec Ideal S4096x512 .bf16) := by
  funext i
  have h0 : (i 0).val < 4096 := (i 0).isLt
  have h1 : (i 1).val < 512 := (i 1).isLt
  have hN : cfg0.N = 32 := N_0
  have hp : Value.pt8Of i < cfg0.N := by rw [hN]; show 8 * (4 * ((i 0).val / 4096 - 0) + 1 * ((i 1).val / 128 - 0)) + 7 < 32; omega
  have hl : Value.pt8Of i % 8 = 7 := by show (8 * (4 * ((i 0).val / 4096 - 0) + 1 * ((i 1).val / 128 - 0)) + 7) % 8 = 7; omega
  unfold Value.G8
  rw [dif_pos hp, ← Value.outsAt0_sweep m c _ hp, (left m c Q K W D h _ hp).dkOut hl]
  have a : (8 * (4 * ((i 0).val / 4096 - 0) + 1 * ((i 1).val / 128 - 0)) + 7) / 8 = (i 1).val / 128 := by omega
  have b : (i 0).val % 4096 = (i 0).val := by omega
  show ((headDk (heads Q ((8 * (4 * ((i 0).val / 4096 - 0) + 1 * ((i 1).val / 128 - 0)) + 7) / 8)) (heads K ((8 * (4 * ((i 0).val / 4096 - 0) + 1 * ((i 1).val / 128 - 0)) + 7) / 8))
    (heads W ((8 * (4 * ((i 0).val / 4096 - 0) + 1 * ((i 1).val / 128 - 0)) + 7) / 8)) (heads D ((8 * (4 * ((i 0).val / 4096 - 0) + 1 * ((i 1).val / 128 - 0)) + 7) / 8))
    ((i 0).val % 4096) ((i 1).val % 128) : ℝ) : EReal) = _
  rw [a, b]
  rfl

theorem result_dv : Value.G9 (F := Ideal) m c = (up (a := 4096) (b := 512) .bf16
    (fun s e => headDv (heads Q (e / 128)) (heads K (e / 128)) (heads D (e / 128)) s (e % 128)) : FVec Ideal S4096x512 .bf16) := by
  funext i
  have h0 : (i 0).val < 4096 := (i 0).isLt
  have h1 : (i 1).val < 512 := (i 1).isLt
  have hN : cfg0.N = 32 := N_0
  have hp : Value.pt9Of i < cfg0.N := by rw [hN]; show 8 * (4 * ((i 0).val / 4096 - 0) + 1 * ((i 1).val / 128 - 0)) + 7 < 32; omega
  have hl : Value.pt9Of i % 8 = 7 := by show (8 * (4 * ((i 0).val / 4096 - 0) + 1 * ((i 1).val / 128 - 0)) + 7) % 8 = 7; omega
  unfold Value.G9
  rw [dif_pos hp, ← Value.outsAt0_sweep m c _ hp, (left m c Q K W D h _ hp).dvOut hl]
  have a : (8 * (4 * ((i 0).val / 4096 - 0) + 1 * ((i 1).val / 128 - 0)) + 7) / 8 = (i 1).val / 128 := by omega
  have b : (i 0).val % 4096 = (i 0).val := by omega
  show ((headDv (heads Q ((8 * (4 * ((i 0).val / 4096 - 0) + 1 * ((i 1).val / 128 - 0)) + 7) / 8)) (heads K ((8 * (4 * ((i 0).val / 4096 - 0) + 1 * ((i 1).val / 128 - 0)) + 7) / 8))
    (heads D ((8 * (4 * ((i 0).val / 4096 - 0) + 1 * ((i 1).val / 128 - 0)) + 7) / 8))
    ((i 0).val % 4096) ((i 1).val % 128) : ℝ) : EReal) = _
  rw [a, b]
  rfl

end

end Cert.Stick

end
-- ==== Proof.Finite.lean ====
module
public import proofs.«01_k».proof.Proof.Box
public import proofs.«01_k».proof.Proof.Gen.Pre_finite
public import Idealize.ShloMosaic.Lib.ReduceAll
public import Idealize.ShloMosaic.Lib.Affine
@[expose] public section
set_option maxRecDepth 16384

/-!
# Finite arguments

The precondition says that every element's magnitude is below infinity, so every argument is a matrix of real numbers.
-/

noncomputable section
open Finset Idealize.ShloMosaic Cert.Pre_finite
namespace Cert.Stick

/-- A number whose magnitude is below infinity is a real number. -/
theorem real_of_abs_lt (x : EReal) (h : max x (-x) < ⊤) : ((x.toReal : ℝ) : EReal) = x := by
  refine EReal.coe_toReal (fun e => ?_) (fun e => ?_)
  · subst e; simp at h
  · subst e; simp at h

/-- The reals of a matrix of extended reals, zero outside it. -/
def reals (x : FVec Ideal ⟨2, ![4096, 512]⟩ .f32) : ℕ → ℕ → ℝ := fun i j =>
  if h : i < 4096 ∧ j < 512 then EReal.toReal (x (ix2 ⟨i, h.1⟩ ⟨j, h.2⟩)) else 0

theorem below_top (x : FVec Ideal S4096x512 .f32) (h) (i : S4096x512.Idx)
    (e : cmpf .olt (Host.absf x) (broadcastInDim S4096x512 ![] h (constant (F := Ideal) S_ .f32 0x7F800000#32)) i = 1#1) :
    ((EReal.toReal (x i) : ℝ) : EReal) = x i := by
  have e' : BitVec.ofBool (decide (max (x i : EReal) (-(x i : EReal)) < Ideal.ofBits .f32 0x7F800000#32)) = 1#1 := e
  rw [top_word] at e'
  refine real_of_abs_lt _ ?_
  by_contra g
  rw [decide_eq_false g] at e'
  exact absurd e' (by decide)

instance : Subsingleton S_.Idx := ⟨fun a b => funext fun k => k.elim0⟩

/-- One argument's test, passed: it is a matrix of reals. -/
theorem finite_arg (x : FVec Ideal S4096x512 .f32) (h) (h1 : S4096x512.ReducesTo [0, 1] S_) (h2 : 0 < S_.numel) (j : S_.Idx)
    (e : Host.reduce IntOp.andi (cmpf .olt (Host.absf x) (broadcastInDim S4096x512 ![] h (constant (F := Ideal) S_ .f32 0x7F800000#32))) (constantI S_ 1 1#1) h1 h2 j = 1#1) :
    x = up (a := 4096) (b := 512) .f32 (reals x) := by
  funext i
  have g := below_top x h i (Host.reduce_andi_all _ _ _ _ j e i)
  have hi : (i 0).val < 4096 := (i 0).isLt
  have hj : (i 1).val < 512 := (i 1).isLt
  unfold up reals
  rw [dif_pos ⟨hi, hj⟩]
  have hx : (ix2 ⟨(i 0).val, hi⟩ ⟨(i 1).val, hj⟩ : S4096x512.Idx) = i := by
    funext k; fin_cases k <;> rfl
  rw [show x (ix2 ⟨(i 0).val, hi⟩ ⟨(i 1).val, hj⟩) = x i from congrArg x hx]
  exact g.symm

/-- The precondition makes each argument a matrix of reals. -/
theorem finite_args [Facts] (x y z w : FVec Ideal S4096x512 .f32) (e : fn (F := Ideal) x y z w = fun _ => 1#1) :
    x = up (a := 4096) (b := 512) .f32 (reals x) ∧ y = up (a := 4096) (b := 512) .f32 (reals y)
      ∧ z = up (a := 4096) (b := 512) .f32 (reals z) ∧ w = up (a := 4096) (b := 512) .f32 (reals w) := by
  have g := congrFun e (fun k => k.elim0)
  obtain ⟨g3, gw⟩ := IntOp.andi_eq_one.mp g
  obtain ⟨g2, gz⟩ := IntOp.andi_eq_one.mp g3
  obtain ⟨gx, gy⟩ := IntOp.andi_eq_one.mp g2
  exact ⟨finite_arg x _ _ _ _ gx, finite_arg y _ _ _ _ gy, finite_arg z _ _ _ _ gz, finite_arg w _ _ _ _ gw⟩

end Cert.Stick

end
-- ==== Proof.Ref.lean ====
module
public import proofs.«01_k».proof.Proof.Head
public import proofs.«01_k».proof.Proof.Box
public import proofs.«01_k».proof.Proof.Gen.ReferenceIdeal.Read
@[expose] public section
set_option maxRecDepth 16384

/-!
# The reference over the reals
-/

noncomputable section
open Finset Idealize.ShloMosaic Cert.ReferenceIdeal
open Cert.ReferenceIdeal.Read
namespace Cert.Stick

section
variable (Q K V D : ℕ → ℕ → ℝ)

/-- The scores. -/
def scores : ℕ → ℕ → ℕ → ℝ := fun h t s => (∑ d ∈ range 128, heads Q h t d * heads K h s d) * scale

theorem scores_dot (f g : ℕ → ℕ → ℕ → ℝ) :
    Host.dotGeneral dot_S4x4096x128_S4x4096x128_S4x4096x4096_2_2_1_1_0_0 none (box .f32 f) (box .f32 g)
      = box .f32 (fun h t s => ∑ d ∈ range 128, f h t d * g h s d) := scores_box f g

theorem ref_z : val_main_v8 (F := Ideal) (up .f32 Q) (up .f32 K) = box .f32 (scores Q K) := by
  unfold val_main_v8 val_main_v6 val_main_v1 val_main_v3 val_main_v0 val_main_v2 val_main_v7 val_main_cst
  rw [scale_box, heads_box, heads_box, scores_dot, mulf_box]; rfl

theorem ref_past : val_main_v18_1 (F := Ideal) = bits (fun _ t s => before t s) := past_box _ _ _ _ _
theorem ref_past' : val_main_v24_1 (F := Ideal) = bits (fun _ t s => before t s) := past_box _ _ _ _ _

theorem ref_soft : val_main_call0_v1_0 (F := Ideal) (up .f32 Q) (up .f32 K) = box .f32 (fun h t s => -keepLog (scores Q K h t s)) := by
  simp only [val_main_call0_v1_0, val_main_call0_call0_v4, val_main_call0_call0_v11, val_main_call0_call0_v10, val_main_call0_call0_v9, val_main_call0_call0_v8,
    val_main_call0_call0_v7, val_main_call0_call0_v6, val_main_call0_call0_v5, val_main_call0_call0_v3, val_main_call0_call0_v2, val_main_call0_call0_v1,
    val_main_call0_call0_v0, val_main_call0_call0_cst, val_main_call0_v0, val_main_v16, ref_z, negf_box, neg_neg]
  rw [softplus_box]

theorem ref_keep : val_main_v17_0 (F := Ideal) (up .f32 Q) (up .f32 K) = box .f32 (fun h t s => keepLog (scores Q K h t s)) := by
  simp only [val_main_v17_0, ref_soft, negf_box, neg_neg]

theorem ref_slope : val_main_v17_1 (F := Ideal) (up .f32 Q) (up .f32 K) = box .f32 (fun h t s => sgm (scores Q K h t s)) := by
  simp only [val_main_v17_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_call0_cst_0, val_main_call0_call0_cst_1,
    val_main_call0_call0_cst_2, val_main_call0_call0_cst_3, val_main_call0_v0, val_main_v16, ref_soft, ref_z, negf_box, neg_neg]
  rw [slope_box]
  refine box_congr fun h _ t _ s _ => ?_
  rw [sub_neg_eq_add, exp_add_keepLog]

theorem ref_soft' : val_main_call3_v1_0 (F := Ideal) (up .f32 Q) (up .f32 K) = box .f32 (fun h t s => -keepLog (-scores Q K h t s)) := by
  simp only [val_main_call3_v1_0, val_main_call3_call0_v4, val_main_call3_call0_v11, val_main_call3_call0_v10, val_main_call3_call0_v9, val_main_call3_call0_v8,
    val_main_call3_call0_v7, val_main_call3_call0_v6, val_main_call3_call0_v5, val_main_call3_call0_v3, val_main_call3_call0_v2, val_main_call3_call0_v1,
    val_main_call3_call0_v0, val_main_call3_call0_cst, val_main_call3_v0, ref_z, negf_box]
  rw [softplus_box]

theorem ref_take : val_main_v21_0 (F := Ideal) (up .f32 Q) (up .f32 K) = box .f32 (fun h t s => scores Q K h t s + keepLog (scores Q K h t s)) := by
  simp only [val_main_v21_0, ref_soft', negf_box, neg_neg, keepLog_neg]

theorem ref_slope' : val_main_v21_1 (F := Ideal) (up .f32 Q) (up .f32 K) = box .f32 (fun h t s => 1 - sgm (scores Q K h t s)) := by
  simp only [val_main_v21_1, val_main_call3_call0_v21, val_main_call3_call0_v20, val_main_call3_call0_v19, val_main_call3_call0_v18, val_main_call3_call0_v17,
    val_main_call3_call0_v16, val_main_call3_call0_v15, val_main_call3_call0_v14, val_main_call3_call0_v13, val_main_call3_call0_cst_0, val_main_call3_call0_cst_1,
    val_main_call3_call0_cst_2, val_main_call3_call0_cst_3, val_main_call3_v0, ref_soft', ref_z, negf_box]
  rw [slope_box]
  refine box_congr fun h _ t _ s _ => ?_
  rw [keepLog_neg, ← exp_keepLog]; congr 1; ring

/-- What the keys before a query leave. -/
theorem ref_keepB : val_main_v18_0 (F := Ideal) (up .f32 Q) (up .f32 K) = box .f32 (fun h => keepB before (heads Q h) (heads K h)) := by
  simp only [val_main_v18_0, val_main_call1_v2, val_main_call1_v0, val_main_cst_0, id_eq, ref_past, ref_keep]
  rw [zero_box, select_box]; rfl

theorem zero_first (h h') : (broadcastInDim S_ ![] h (constant (F := Ideal) S_ .f32 0x00000000#32) : FVec Ideal ⟨0, ![]⟩ .f32) (Shape.Idx.first h') = ((0 : ℝ) : EReal) :=
  Ideal.ofBits_zero_f32

theorem ref_between : val_main_v20 (F := Ideal) (up .f32 Q) (up .f32 K)
    = box .f32 (fun h t s => total (heads Q h) (heads K h) t - runIn (keepB before (heads Q h) (heads K h)) (fun _ => 0) t s) := by
  simp only [val_main_v20, val_main_v19, ref_keepB, val_main_call2_v0, val_main_call2_cst]
  rw [sumFrom_box rfl _ _ _ _ (zero_first _ _), subf_box]
  refine box_congr fun h _ t _ s hs => ?_
  rw [total_split _ _ _ _ hs]
  simp only [runIn, sum_range_succ]; ring

/-- The weights before the mask. -/
def weight (h t s : ℕ) : ℝ := Real.exp (scores Q K h t s + keepLog (scores Q K h t s)
  + (total (heads Q h) (heads K h) t - runIn (keepB before (heads Q h) (heads K h)) (fun _ => 0) t s))

theorem ref_weight : val_main_v23 (F := Ideal) (up .f32 Q) (up .f32 K) = box .f32 (weight Q K) := by
  simp only [val_main_v23, val_main_v22, ref_take, ref_between, addf_box, exp_box]; rfl

theorem weight_eq (h t s : ℕ) : (if before t s then weight Q K h t s else 0) = att (heads Q h) (heads K h) t s := by
  unfold att attB aT
  by_cases hp : before t s
  · rw [if_pos hp, if_pos hp]
    simp only [weight, keepB, lkT, hp, if_true]; rfl
  · rw [if_neg hp, if_neg hp]

theorem ref_att : val_main_v24_0 (F := Ideal) (up .f32 Q) (up .f32 K) = box .f32 (fun h => att (heads Q h) (heads K h)) := by
  simp only [val_main_v24_0, val_main_call4_v2, val_main_call4_v0, val_main_cst_1, id_eq, ref_past', ref_weight]
  rw [zero_box, select_box]
  exact box_congr fun h _ t _ s _ => weight_eq Q K h t s

/-- The gradients of the weights' logarithms. -/
theorem ref_g : val_main_v34 (F := Ideal) (up .f32 Q) (up .f32 K) (up .f32 V) (up .f32 D)
    = box .f32 (fun h => gB before (heads Q h) (heads D h) (heads K h) (heads V h) (total (heads Q h) (heads K h))) := by
  simp only [val_main_v34, val_main_v33, val_main_v32, val_main_v29, val_main_v28, val_main_v5, val_main_v4, val_main_call5_v0, val_main_call5_cst, ref_past', ref_weight]
  rw [heads_box, heads_box, scores_dot, zero_box, select_box, mulf_box]
  refine box_congr fun h _ t _ s _ => ?_
  show _ = (∑ e ∈ range 128, heads D h t e * heads V h s e) * att (heads Q h) (heads K h) t s
  rw [← weight_eq]
  split <;> simp

/-- The gradients of the scores, with the scale that goes with them. -/
theorem ref_dscore : val_main_v44 (F := Ideal) (up .f32 Q) (up .f32 K) (up .f32 V) (up .f32 D)
    = box .f32 (fun h t s => dscore (heads Q h) (heads K h) (heads V h) (heads D h) t s * scale) := by
  simp only [val_main_v44, val_main_v43, val_main_cst_2, val_main_v42, val_main_v41, val_main_v40, val_main_call9_v1, val_main_call9_v0, val_main_v39, val_main_call8_v0,
    val_main_call8_cst, val_main_v38, val_main_v37, val_main_call7_v0, val_main_call7_cst, val_main_v36, val_main_v35, val_main_call6_v1, val_main_call6_v0, ref_g,
    ref_slope, ref_slope', ref_past]
  rw [sumUpTo_box rfl _ _ _ _ (zero_first _ _), scale_box, zero_box]
  simp only [negf_box, mulf_box, addf_box, select_box]
  refine box_congr fun h _ t _ s _ => ?_
  congr 1
  unfold dscore dzB dzT
  by_cases hp : before t s
  · simp only [hp, if_true, runEx, sum_range_succ, scores, zT]; ring
  · simp only [hp, runEx, gB, gT, attB, aT]; simp

/-! ### The results -/

variable (f g : ℕ → ℕ → ℕ → ℝ)

theorem dot_values :
    Host.dotGeneral dot_S4x4096x128_S4x4096x4096_S4x128x4096_1_1_2_2_0_0 none (box .f32 f) (box .f32 g)
      = box .f32 (fun h e s => ∑ t ∈ range 4096, f h t e * g h t s) := by
  funext j; idx_vars j; pointwise [box]
  simp only [← EReal.coe_mul, sum_coe, Finset.sum_range]

theorem dot_keys :
    Host.dotGeneral dot_S4x4096x4096_S4x4096x128_S4x4096x128_1_1_2_2_0_0 none (box .f32 f) (box .f32 g)
      = box .f32 (fun h s e => ∑ t ∈ range 4096, f h t s * g h t e) := by
  funext j; idx_vars j; pointwise [box]
  simp only [← EReal.coe_mul, sum_coe, Finset.sum_range]

theorem dot_queries :
    Host.dotGeneral dot_S4x4096x4096_S4x4096x128_S4x4096x128_2_1_1_2_0_0 none (box .f32 f) (box .f32 g)
      = box .f32 (fun h t e => ∑ s ∈ range 4096, f h t s * g h s e) := by
  funext j; idx_vars j; pointwise [box]
  simp only [← EReal.coe_mul, sum_coe, Finset.sum_range]

theorem turn_box (h) : transpose S4x4096x128 [0, 2, 1] (box (a := 4) (b := 128) (c := 4096) .f32 f) h = box .f32 (fun h s e => f h e s) := by
  funext j; idx_vars j; pointwise [box]

/-- The heads side by side again. -/
theorem merge_box (h h') : shapeCast S4096x512 (transpose S4096x4x128 [1, 0, 2] (box (a := 4) (b := 4096) (c := 128) .f32 f) h) h'
    = up .f32 (fun t e => f (e / 128) t (e % 128)) := by
  funext j; idx_vars j; pointwise [box, up]

theorem ref_dv : val_main_v55 (F := Ideal) (up .f32 Q) (up .f32 K) (up .f32 D)
    = up .bf16 (fun s e => headDv (heads Q (e / 128)) (heads K (e / 128)) (heads D (e / 128)) s (e % 128)) := by
  simp only [val_main_v55, val_main_v48, val_main_v47, val_main_v31, val_main_v30, val_main_v29, val_main_v28, ref_att]
  rw [heads_box, dot_values, turn_box, merge_box]
  refine (truncf_up _ _).trans (up_congr fun s _ e _ => ?_)
  exact sum_congr rfl fun t _ => mul_comm _ _

theorem ref_dk : val_main_v54 (F := Ideal) (up .f32 Q) (up .f32 K) (up .f32 V) (up .f32 D)
    = up .bf16 (fun s e => headDk (heads Q (e / 128)) (heads K (e / 128)) (heads V (e / 128)) (heads D (e / 128)) s (e % 128)) := by
  simp only [val_main_v54, val_main_v50, val_main_v49, val_main_v45, val_main_v1, val_main_v0, ref_dscore]
  rw [heads_box, dot_keys, merge_box]
  refine (truncf_up _ _).trans (up_congr fun s _ e _ => ?_)
  unfold headDk
  rw [sum_mul]
  exact sum_congr rfl fun t _ => by ring

theorem ref_dq : val_main_v53 (F := Ideal) (up .f32 Q) (up .f32 K) (up .f32 V) (up .f32 D)
    = up .bf16 (fun t e => headDq (heads Q (e / 128)) (heads K (e / 128)) (heads V (e / 128)) (heads D (e / 128)) t (e % 128)) := by
  simp only [val_main_v53, val_main_v52, val_main_v51, val_main_v46, val_main_v3, val_main_v2, ref_dscore]
  rw [heads_box, dot_queries, merge_box]
  refine (truncf_up _ _).trans (up_congr fun s _ e _ => ?_)
  unfold headDq
  rw [sum_mul]
  exact sum_congr rfl fun t _ => by ring

end

/-! ### The reference's results, from arguments that are reals -/

section
variable (m : (ℓ : Loc nD τ sig) → Buf (Elt Ideal) ℓ) (c : Dev nD) (Q K V D : ℕ → ℕ → ℝ)
variable (h0 : m (c.tc.loc main_arg0) = (up (a := 4096) (b := 512) .f32 Q : FVec Ideal S4096x512 .f32))
  (h1 : m (c.tc.loc main_arg1) = (up (a := 4096) (b := 512) .f32 K : FVec Ideal S4096x512 .f32))
  (h2 : m (c.tc.loc main_arg2) = (up (a := 4096) (b := 512) .f32 V : FVec Ideal S4096x512 .f32))
  (h3 : m (c.tc.loc main_arg3) = (up (a := 4096) (b := 512) .f32 D : FVec Ideal S4096x512 .f32))
include h0 h1 h3

theorem ended_dv : Value.res_main_v55 m c = (up (a := 4096) (b := 512) .bf16
    (fun s e => headDv (heads Q (e / 128)) (heads K (e / 128)) (heads D (e / 128)) s (e % 128)) : FVec Ideal S4096x512 .bf16) := by
  rw [val_main_v55_eq m c, h0, h1, h3]
  exact ref_dv Q K D

include h2

theorem ended_dk : Value.res_main_v54 m c = (up (a := 4096) (b := 512) .bf16
    (fun s e => headDk (heads Q (e / 128)) (heads K (e / 128)) (heads V (e / 128)) (heads D (e / 128)) s (e % 128)) : FVec Ideal S4096x512 .bf16) := by
  rw [val_main_v54_eq m c, h0, h1, h2, h3]
  exact ref_dk Q K V D

theorem ended_dq : Value.res_main_v53 m c = (up (a := 4096) (b := 512) .bf16
    (fun t e => headDq (heads Q (e / 128)) (heads K (e / 128)) (heads V (e / 128)) (heads D (e / 128)) t (e % 128)) : FVec Ideal S4096x512 .bf16) := by
  rw [val_main_v53_eq m c, h0, h1, h2, h3]
  exact ref_dq Q K V D

end

end Cert.Stick

end
-- ==== Proof.Lay.lean ====
/-
  Matrices and stacks of matrices of extended reals as the vectors a program holds (`lay2`, `lay3`). A matrix is a function of
  natural numbers, of which the vector reads the part inside its shape, so a block of it is the same function with its indices
  shifted. The sums over a contracted axis are sums over ranges; `split_sum` cuts one into blocks, and needs nothing of the
  summands: addition of extended reals is commutative and associative.
-/
module

public import Idealize.ShloMosaic.Lib.Pipeline.Value
public import Idealize.ShloMosaic.Lib.Pipeline.ValueKit
public import Idealize.ShloMosaic.PureOps.Ideal
public import proofs.«01_k».proof.Proof.Up

@[expose] public section

set_option maxRecDepth 16384

noncomputable section

open Finset Idealize.ShloMosaic

namespace Cert.Ffn

/-- A matrix of extended reals as a vector (of any float format: they are all the extended reals). -/
def lay2 {a b : ℕ} (φ : FTy) (f : ℕ → ℕ → EReal) : FVec Ideal ⟨2, ![a, b]⟩ φ := fun j => f (j 0).val (j 1).val

/-- A stack of matrices as a vector. -/
def lay3 {a b c : ℕ} (φ : FTy) (f : ℕ → ℕ → ℕ → EReal) : FVec Ideal ⟨3, ![a, b, c]⟩ φ := fun j => f (j 0).val (j 1).val (j 2).val

section
variable {a b c : ℕ} {φ : FTy}

/-- Every vector of two axes is a matrix. -/
theorem exists_lay2 (x : FVec Ideal ⟨2, ![a, b]⟩ φ) : ∃ f, x = lay2 φ f :=
  ⟨fun i j => if h : i < a ∧ j < b then x (ValueIdx.ix2 ⟨i, h.1⟩ ⟨j, h.2⟩) else 0, by
    funext j
    have h : (j 0).val < a ∧ (j 1).val < b := ⟨(j 0).isLt, (j 1).isLt⟩
    show _ = dite _ _ _
    rw [dif_pos h]
    congr 1
    funext d; fin_cases d <;> rfl⟩

theorem lay2_congr {f g : ℕ → ℕ → EReal} (h : ∀ i < a, ∀ j < b, f i j = g i j) : lay2 (a := a) (b := b) φ f = lay2 φ g := by
  funext j; exact h _ (j 0).isLt _ (j 1).isLt

theorem lay3_congr {f g : ℕ → ℕ → ℕ → EReal} (h : ∀ i < a, ∀ j < b, ∀ k < c, f i j k = g i j k) :
    lay3 (a := a) (b := b) (c := c) φ f = lay3 φ g := by
  funext j; exact h _ (j 0).isLt _ (j 1).isLt _ (j 2).isLt

end

/-- A sum over a range as the sums over its blocks. -/
theorem split_sum (q e : ℕ) (f : ℕ → EReal) : ∑ k ∈ range (q * e), f k = ∑ p ∈ range q, ∑ i ∈ range e, f (e * p + i) := by
  induction q with
  | zero => simp
  | succ n ih => rw [Nat.succ_mul, sum_range_add, ih, sum_range_succ, Nat.mul_comm n e]

/-! ### The sigmoid -/

/-- The sigmoid of an extended real, as a quotient. -/
def sg (x : EReal) : EReal := Ideal.div 1 (1 + Ideal.exp (-x))

theorem one_add_exp_ne (x : EReal) : (1 : EReal) + Ideal.exp x ≠ 0 := by
  induction x with
  | bot => show (1 : EReal) + 0 ≠ 0; simp
  | top => show (1 : EReal) + ⊤ ≠ 0; rw [EReal.add_top_of_ne_bot (by decide)]; exact EReal.top_ne_zero
  | coe r =>
    show (1 : EReal) + ((Real.exp r : ℝ) : EReal) ≠ 0
    rw [← EReal.coe_one, ← EReal.coe_add]
    exact_mod_cast (Stick.one_add_exp_pos r).ne'

/-- A quotient by the sigmoid's denominator is a product with the sigmoid. -/
theorem div_one_add_exp (x y : EReal) : Ideal.div x (1 + Ideal.exp (-y)) = x * sg y := by
  unfold sg Ideal.div
  rw [if_neg (one_add_exp_ne _), if_neg (one_add_exp_ne _), one_mul]

/-! ### The columns of a matrix of 5632 columns cut over eight devices, each device's a plane -/

section
variable (G : ℕ → ℕ → EReal)

theorem shards_4096 (h1) (h2) (h3) :
    truncf .bf16 (transpose ⟨3, ![8, 4096, 704]⟩ [1, 0, 2] (shapeCast ⟨3, ![4096, 8, 704]⟩ (lay2 (a := 4096) (b := 5632) .f32 G) h1) h2) h3
      = lay3 (a := 8) (b := 4096) (c := 704) .bf16 (fun p t e => G t (704 * p + e)) := by
  funext j; idx_vars j; pointwise [lay2, lay3]
  all_goals (congr 1; try omega)

theorem shards_2048 (h1) (h2) (h3) :
    truncf .bf16 (transpose ⟨3, ![8, 2048, 704]⟩ [1, 0, 2] (shapeCast ⟨3, ![2048, 8, 704]⟩ (lay2 (a := 2048) (b := 5632) .f32 G) h1) h2) h3
      = lay3 (a := 8) (b := 2048) (c := 704) .bf16 (fun p t e => G t (704 * p + e)) := by
  funext j; idx_vars j; pointwise [lay2, lay3]
  all_goals (congr 1; try omega)

end

end Cert.Ffn

end
-- ==== Proof.FfnAct.lean ====
module
public import proofs.«01_k».proof.Proof.Lay
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.ActReferenceIdeal.Read
public import Idealize.ShloMosaic.Lib.StableHlo.ReadAt
public import Idealize.ShloMosaic.Lib.Pipeline.ValueKit
@[expose] public section
set_option maxRecDepth 16384

/-!
# The gradients of the gate and of the up projection, from `dact = dy · w_downᵀ`

Grid point `t` writes, in the two results' planes of device `t / 8`, the rows of the 512 tokens numbered `t % 8`.
-/

noncomputable section
open Finset Idealize.ShloMosaic Idealize.SL.Sem
namespace Cert.Ffn.Act

/-! ### The two forms of the derivative -/

theorem sg_coe (r : ℝ) : sg (r : EReal) = ((1 / (1 + Real.exp (-r)) : ℝ) : EReal) := by
  unfold sg
  rw [← EReal.coe_neg, Stick.exp_coe, ← EReal.coe_one, ← EReal.coe_add, Stick.div_coe_coe (Stick.one_add_exp_pos _).ne']

/-- The kernel's form of the gate's gradient. -/
def kernelDg (d g u : EReal) : EReal := d * u * (sg g * (1 + g * (1 - sg g)))
/-- The reference's form of it. -/
def referenceDg (d g u : EReal) : EReal := d * u * sg g + g * (d * u) * (sg g * (1 - sg g))

theorem forms (d g u : ℝ) : kernelDg d g u = referenceDg d g u := by
  unfold kernelDg referenceDg
  rw [sg_coe]
  generalize 1 / (1 + Real.exp (-g)) = s
  rw [← EReal.coe_one]
  simp only [← EReal.coe_mul, ← EReal.coe_add, ← EReal.coe_sub]
  congr 1
  ring

section
open Cert.ActIdeal Cert.ActIdeal.Gen

/-- A row of one matrix against a row of another. -/
def dots (x y : ℕ → ℕ → EReal) (i j : ℕ) : EReal := ∑ k ∈ range 2048, x i k * y j k

theorem pay1_lay (x y : ℕ → ℕ → EReal) :
    k0_pay1 (F := Ideal) (lay2 (a := 512) (b := 2048) .bf16 x) (lay2 (a := 704) (b := 2048) .bf16 y) = lay2 (a := 512) (b := 704) .f32 (dots x y) := by
  unfold k0_pay1
  funext j; idx_vars j; pointwise [lay2, lay3, dots]
  rw [Finset.sum_range]

theorem pay2_lay (g : ℕ → ℕ → ℕ → EReal) : k0_pay2 (F := Ideal) (lay3 (a := 1) (b := 512) (c := 704) .bf16 g) = lay2 (a := 512) (b := 704) .f32 (g 0) := by
  unfold k0_pay2
  funext j; idx_vars j; pointwise [lay2, lay3]

theorem pay3_lay (g : ℕ → ℕ → ℕ → EReal) :
    k0_pay3 (F := Ideal) (lay3 (a := 1) (b := 512) (c := 704) .bf16 g) = lay2 (a := 512) (b := 704) .f32 (fun i j => sg (g 0 i j)) := by
  unfold k0_pay3
  rw [pay2_lay]
  funext j; idx_vars j; pointwise [lay2, lay3, sg]
  try rw [← zero_sub (g 0 _ _), ← Ideal.ofBits_zero_f32, ← Ideal.ofBits_one_f32]

theorem pay4_lay (x y : ℕ → ℕ → EReal) (g u : ℕ → ℕ → ℕ → EReal) :
    k0_pay4 (F := Ideal) (lay2 (a := 512) (b := 2048) .bf16 x) (lay2 (a := 704) (b := 2048) .bf16 y) (lay3 (a := 1) (b := 512) (c := 704) .bf16 g) (lay3 (a := 1) (b := 512) (c := 704) .bf16 u)
      = lay3 (a := 1) (b := 512) (c := 704) .bf16 (fun _ i j => kernelDg (dots x y i j) (g 0 i j) (u 0 i j)) := by
  unfold k0_pay4
  rw [pay1_lay, pay2_lay, pay3_lay]
  funext j; idx_vars j; pointwise [lay2, lay3, kernelDg]
  try rw [← Ideal.ofBits_one_f32]

theorem pay5_lay (x y : ℕ → ℕ → EReal) (g : ℕ → ℕ → ℕ → EReal) :
    k0_pay5 (F := Ideal) (lay2 (a := 512) (b := 2048) .bf16 x) (lay2 (a := 704) (b := 2048) .bf16 y) (lay3 (a := 1) (b := 512) (c := 704) .bf16 g)
      = lay3 (a := 1) (b := 512) (c := 704) .bf16 (fun _ i j => dots x y i j * (g 0 i j * sg (g 0 i j))) := by
  unfold k0_pay5
  rw [pay1_lay, pay2_lay, pay3_lay]
  funext j; idx_vars j; pointwise [lay2, lay3]

theorem index_0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index_1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem index_2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)
theorem index_3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, win0_3.index t (0 : Fin 3) = t.val / 8 ∧ win0_3.index t (1 : Fin 3) = t.val % 8 ∧ win0_3.index t (2 : Fin 3) = 0)
theorem index_4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, win0_4.index t (0 : Fin 3) = t.val / 8 ∧ win0_4.index t (1 : Fin 3) = t.val % 8 ∧ win0_4.index t (2 : Fin 3) = 0)
theorem index_5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, win0_5.index t (0 : Fin 3) = t.val / 8 ∧ win0_5.index t (1 : Fin 3) = t.val % 8 ∧ win0_5.index t (2 : Fin 3) = 0)

variable (m : (l : Loc nD τ sig) → Buf (Elt Ideal) l) (c : Dev nD) (Y W G U : ℕ → ℕ → EReal)

/-- The arguments, as matrices. -/
structure Args : Prop where
  dy : m (c, Proc.tc.devRef main_arg0) = lay2 (a := 4096) (b := 2048) .f32 Y
  w : m (c, Proc.tc.devRef main_arg1) = lay2 (a := 5632) (b := 2048) .f32 W
  g : m (c, Proc.tc.devRef main_arg2) = lay2 (a := 4096) (b := 5632) .f32 G
  u : m (c, Proc.tc.devRef main_arg3) = lay2 (a := 4096) (b := 5632) .f32 U

/-- A block's products are a part of all. -/
theorem dots_part (r q i j : ℕ) :
    dots (fun i j => Y (512 * r + i) j) (fun i j => W (704 * q + i) j) i j = dots Y W (512 * r + i) (704 * q + j) := rfl

variable (A : Args m c Y W G U)
include A

theorem v0_at : V m c main_v0 = lay2 (a := 4096) (b := 2048) .bf16 Y := by
  unfold V
  after_reads_simp
  clean_types
  rw [A.dy]
  rfl

theorem v1_at : V m c main_v1 = lay2 (a := 5632) (b := 2048) .bf16 W := by
  unfold V
  after_reads_simp
  clean_types
  rw [A.w]
  rfl

theorem block_0 (t : Fin cfg0.N) :
    (iblk m c 0 t : FVec Ideal ⟨2, ![512, 2048]⟩ .bf16) = lay2 .bf16 (fun i j => Y (512 * (t.val % 8) + i) j) := by
  funext j
  unfold iblk
  rw [View.read_apply]
  show V m c main_v0 _ = _
  rw [v0_at m c Y W G U A]
  show Y (win0_0.index t (0 : Fin 2) * 512 + 1 * (j 0).val) (win0_0.index t (1 : Fin 2) * 2048 + 1 * (j 1).val) = Y _ _
  rw [(index_0 t).1, (index_0 t).2]
  congr 1 <;> omega

theorem block_1 (t : Fin cfg0.N) :
    (iblk m c 1 t : FVec Ideal ⟨2, ![704, 2048]⟩ .bf16) = lay2 .bf16 (fun i j => W (704 * (t.val / 8) + i) j) := by
  funext j
  unfold iblk
  rw [View.read_apply]
  show V m c main_v1 _ = _
  rw [v1_at m c Y W G U A]
  show W (win0_1.index t (0 : Fin 2) * 704 + 1 * (j 0).val) (win0_1.index t (1 : Fin 2) * 2048 + 1 * (j 1).val) = W _ _
  rw [(index_1 t).1, (index_1 t).2]
  congr 1 <;> omega

theorem v4_at : V m c main_v4 = lay3 (a := 8) (b := 4096) (c := 704) .bf16 (fun p t e => G t (704 * p + e)) := by
  unfold V
  after_reads_simp
  clean_types
  rw [A.g]
  exact shards_4096 G _ _ _

theorem block_2 (t : Fin cfg0.N) :
    (iblk m c 2 t : FVec Ideal ⟨3, ![1, 512, 704]⟩ .bf16) = lay3 .bf16 (fun p i e => G (512 * (t.val % 8) + i) (704 * (t.val / 8 + p) + e)) := by
  funext j
  unfold iblk
  rw [View.read_apply]
  show V m c main_v4 _ = _
  rw [v4_at m c Y W G U A]
  show G (win0_2.index t (1 : Fin 3) * 512 + 1 * (j 1).val) (704 * (win0_2.index t (0 : Fin 3) * 1 + 1 * (j 0).val) + (win0_2.index t (2 : Fin 3) * 704 + 1 * (j 2).val)) = G _ _
  rw [(index_2 t).1, (index_2 t).2.1, (index_2 t).2.2]
  congr 1 <;> omega

theorem v7_at : V m c main_v7 = lay3 (a := 8) (b := 4096) (c := 704) .bf16 (fun p t e => U t (704 * p + e)) := by
  unfold V
  after_reads_simp
  clean_types
  rw [A.u]
  exact shards_4096 U _ _ _

theorem block_3 (t : Fin cfg0.N) :
    (iblk m c 3 t : FVec Ideal ⟨3, ![1, 512, 704]⟩ .bf16) = lay3 .bf16 (fun p i e => U (512 * (t.val % 8) + i) (704 * (t.val / 8 + p) + e)) := by
  funext j
  unfold iblk
  rw [View.read_apply]
  show V m c main_v7 _ = _
  rw [v7_at m c Y W G U A]
  show U (win0_3.index t (1 : Fin 3) * 512 + 1 * (j 1).val) (704 * (win0_3.index t (0 : Fin 3) * 1 + 1 * (j 0).val) + (win0_3.index t (2 : Fin 3) * 704 + 1 * (j 2).val)) = U _ _
  rw [(index_3 t).1, (index_3 t).2.1, (index_3 t).2.2]
  congr 1 <;> omega

/-- The gate's gradient. -/
theorem result_dg : (dats m 0 c).arrAt 4 cfg0.N = (lay3 (a := 8) (b := 4096) (c := 704) .bf16
    (fun p i j => kernelDg (dots Y W i (704 * p + j)) (G i (704 * p + j)) (U i (704 * p + j))) : FVec Ideal S8x4096x704 .bf16) := by
  refine (dats m 0 c).arrAt_eq_of_covers 4 _ (by decide +kernel) fun t hf y => ?_
  blk_simp
  rw [after0_4]
  frame_out
  rw [block_0 m c Y W G U A t, block_1 m c Y W G U A t, block_2 m c Y W G U A t, block_3 m c Y W G U A t, pay4_lay]
  have h0 : (y (0 : Fin 3)).val = 0 := by have : (y (0 : Fin 3)).val < 1 := (y (0 : Fin 3)).isLt; omega
  show kernelDg (dots (fun i j => Y (512 * (t.val % 8) + i) j) (fun i j => W (704 * (t.val / 8) + i) j) (y (1 : Fin 3)).val (y (2 : Fin 3)).val) (G (512 * (t.val % 8) + (y (1 : Fin 3)).val) (704 * (t.val / 8 + 0) + (y (2 : Fin 3)).val)) (U (512 * (t.val % 8) + (y (1 : Fin 3)).val) (704 * (t.val / 8 + 0) + (y (2 : Fin 3)).val))
    = kernelDg (dots Y W (win0_4.index t (1 : Fin 3) * 512 + 1 * (y (1 : Fin 3)).val) (704 * (win0_4.index t (0 : Fin 3) * 1 + 1 * (y (0 : Fin 3)).val) + (win0_4.index t (2 : Fin 3) * 704 + 1 * (y (2 : Fin 3)).val))) (G (win0_4.index t (1 : Fin 3) * 512 + 1 * (y (1 : Fin 3)).val) (704 * (win0_4.index t (0 : Fin 3) * 1 + 1 * (y (0 : Fin 3)).val) + (win0_4.index t (2 : Fin 3) * 704 + 1 * (y (2 : Fin 3)).val))) (U (win0_4.index t (1 : Fin 3) * 512 + 1 * (y (1 : Fin 3)).val) (704 * (win0_4.index t (0 : Fin 3) * 1 + 1 * (y (0 : Fin 3)).val) + (win0_4.index t (2 : Fin 3) * 704 + 1 * (y (2 : Fin 3)).val)))
  rw [dots_part, (index_4 t).1, (index_4 t).2.1, (index_4 t).2.2, h0, Nat.add_zero,
    show t.val % 8 * 512 + 1 * (y (1 : Fin 3)).val = 512 * (t.val % 8) + (y (1 : Fin 3)).val by omega,
    show 704 * (t.val / 8 * 1 + 1 * 0) + (0 * 704 + 1 * (y (2 : Fin 3)).val) = 704 * (t.val / 8) + (y (2 : Fin 3)).val by omega]

/-- The up projection's gradient. -/
theorem result_du : (dats m 0 c).arrAt 5 cfg0.N = (lay3 (a := 8) (b := 4096) (c := 704) .bf16
    (fun p i j => (dots Y W i (704 * p + j)) * ((G i (704 * p + j)) * sg (G i (704 * p + j)))) : FVec Ideal S8x4096x704 .bf16) := by
  refine (dats m 0 c).arrAt_eq_of_covers 5 _ (by decide +kernel) fun t hf y => ?_
  blk_simp
  rw [after0_5]
  frame_out
  rw [block_0 m c Y W G U A t, block_1 m c Y W G U A t, block_2 m c Y W G U A t, pay5_lay]
  have h0 : (y (0 : Fin 3)).val = 0 := by have : (y (0 : Fin 3)).val < 1 := (y (0 : Fin 3)).isLt; omega
  show (dots (fun i j => Y (512 * (t.val % 8) + i) j) (fun i j => W (704 * (t.val / 8) + i) j) (y (1 : Fin 3)).val (y (2 : Fin 3)).val) * ((G (512 * (t.val % 8) + (y (1 : Fin 3)).val) (704 * (t.val / 8 + 0) + (y (2 : Fin 3)).val)) * sg (G (512 * (t.val % 8) + (y (1 : Fin 3)).val) (704 * (t.val / 8 + 0) + (y (2 : Fin 3)).val)))
    = (dots Y W (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val))) * ((G (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val))) * sg (G (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val))))
  rw [dots_part, (index_5 t).1, (index_5 t).2.1, (index_5 t).2.2, h0, Nat.add_zero,
    show t.val % 8 * 512 + 1 * (y (1 : Fin 3)).val = 512 * (t.val % 8) + (y (1 : Fin 3)).val by omega,
    show 704 * (t.val / 8 * 1 + 1 * 0) + (0 * 704 + 1 * (y (2 : Fin 3)).val) = 704 * (t.val / 8) + (y (2 : Fin 3)).val by omega]

end

/-! ### The reference -/

section
open Cert.ActReferenceIdeal Cert.ActReferenceIdeal.Gen Cert.ActReferenceIdeal.Read
variable (Y W G U : ℕ → ℕ → EReal)

theorem dact_lay (dy : FVec Ideal S4096x2048 .f32) (w : FVec Ideal S5632x2048 .f32) (hy : dy = lay2 .f32 Y) (hw : w = lay2 .f32 W) :
    val_main_v3 (F := Ideal) dy w = lay2 (a := 4096) (b := 5632) .f32 (dots Y W) := by
  subst hy hw
  unfold val_main_v3
  funext j; idx_vars j; pointwise [lay2, dots]
  rw [Finset.sum_range]

theorem sg_lay (g : FVec Ideal S4096x5632 .f32) (hg : g = lay2 .f32 G) : val_main_v0_2 (F := Ideal) g = lay2 (a := 4096) (b := 5632) .f32 (fun i j => sg (G i j)) := by
  subst hg
  unfold val_main_v0_2 val_main_call0_v4 val_main_call0_v3 val_main_call0_v2 val_main_call0_v1 val_main_call0_v0 val_main_call0_cst_0 val_main_call0_cst
  funext j; idx_vars j; pointwise [lay2, sg]

theorem one_sub_sg_lay (g : FVec Ideal S4096x5632 .f32) (hg : g = lay2 .f32 G) : val_main_call0_v7 (F := Ideal) g = lay2 (a := 4096) (b := 5632) .f32 (fun i j => 1 - sg (G i j)) := by
  unfold val_main_call0_v7 val_main_call0_v6 val_main_call0_cst_1
  rw [sg_lay G g hg]
  funext j; idx_vars j; pointwise [lay2]

/-- The gate's gradient. -/
theorem reference_dg (dy : FVec Ideal S4096x2048 .f32) (w : FVec Ideal S5632x2048 .f32) (g u : FVec Ideal S4096x5632 .f32)
    (hy : dy = lay2 .f32 Y) (hw : w = lay2 .f32 W) (hg : g = lay2 .f32 G) (hu : u = lay2 .f32 U) :
    val_main_v9 (F := Ideal) dy w g u = lay3 (a := 8) (b := 4096) (c := 704) .bf16
      (fun p i j => referenceDg (dots Y W i (704 * p + j)) (G i (704 * p + j)) (U i (704 * p + j))) := by
  have e : val_main_v6 (F := Ideal) dy w g u = lay2 (a := 4096) (b := 5632) .f32 (fun i j => referenceDg (dots Y W i j) (G i j) (U i j)) := by
    unfold val_main_v6 val_main_call1_v1 val_main_call1_v2 val_main_call1_v0 val_main_v5 val_main_v0_1
    rw [dact_lay Y W dy w hy hw, one_sub_sg_lay G g hg, sg_lay G g hg]
    subst hg hu
    rfl
  show truncf (F := Ideal) .bf16 (transpose S8x4096x704 [1, 0, 2] (shapeCast (α := EReal) S4096x8x704 (val_main_v6 (F := Ideal) dy w g u : FVec Ideal S4096x5632 .f32) shapeCasts_S4096x5632_S4096x8x704)
    transposes_S4096x8x704_S8x4096x704_1_0_2) bitsLt_bf16_f32 = _
  rw [e]
  exact shards_4096 (fun i j => referenceDg (dots Y W i j) (G i j) (U i j)) _ _ _

/-- The up projection's gradient. -/
theorem reference_du (dy : FVec Ideal S4096x2048 .f32) (w : FVec Ideal S5632x2048 .f32) (g : FVec Ideal S4096x5632 .f32)
    (hy : dy = lay2 .f32 Y) (hw : w = lay2 .f32 W) (hg : g = lay2 .f32 G) :
    val_main_v12 (F := Ideal) dy w g = lay3 (a := 8) (b := 4096) (c := 704) .bf16
      (fun p i j => dots Y W i (704 * p + j) * (G i (704 * p + j) * sg (G i (704 * p + j)))) := by
  have e : val_main_v4 (F := Ideal) dy w g = lay2 (a := 4096) (b := 5632) .f32 (fun i j => dots Y W i j * (G i j * sg (G i j))) := by
    unfold val_main_v4 val_main_v0_0
    rw [dact_lay Y W dy w hy hw, sg_lay G g hg]
    subst hg
    exact funext fun i => mul_comm _ _
  show truncf (F := Ideal) .bf16 (transpose S8x4096x704 [1, 0, 2] (shapeCast (α := EReal) S4096x8x704 (val_main_v4 (F := Ideal) dy w g : FVec Ideal S4096x5632 .f32) shapeCasts_S4096x5632_S4096x8x704)
    transposes_S4096x8x704_S8x4096x704_1_0_2) bitsLt_bf16_f32 = _
  rw [e]
  exact shards_4096 (fun i j => dots Y W i j * (G i j * sg (G i j))) _ _ _

end

/-- At finite arguments the two forms of the gate's gradient are one. -/
theorem agree (y w g u : ℕ → ℕ → ℝ) (i j : ℕ) :
    kernelDg (dots (fun i j => (y i j : EReal)) (fun i j => (w i j : EReal)) i j) (g i j) (u i j)
      = referenceDg (dots (fun i j => (y i j : EReal)) (fun i j => (w i j : EReal)) i j) (g i j) (u i j) := by
  have e : dots (fun i j => (y i j : EReal)) (fun i j => (w i j : EReal)) i j = ((∑ k ∈ range 2048, y i k * w j k : ℝ) : EReal) := by
    unfold dots
    simp only [← EReal.coe_mul]
    exact Stick.sum_coe _ _
  rw [e]
  exact forms _ _ _

end Cert.Ffn.Act
end
-- ==== Proof.ProjInProj.lean ====
module
public import proofs.«01_k».proof.Proof.Lay
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import Idealize.ShloMosaic.Lib.StableHlo.ReadAt
@[expose] public section
set_option maxRecDepth 16384

/-!
# The input projection, `h · w_in`

Grid point `t` works on the rows numbered `t / 6` and the columns numbered `t % 6`, 1024 each. It computes one block of 1024 rows and 1024 columns at once.
-/

noncomputable section
open Finset Idealize.ShloMosaic Idealize.SL.Sem
namespace Cert.Proj.InProj
open Cert.Ffn

section
open Cert.InProjIdeal Cert.InProjIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 1024) (b := 2048) .bf16 x) (lay2 (a := 2048) (b := 1024) .bf16 y) (lay2 (a := 1024) (b := 1024) .f32 z)
      = lay2 (a := 1024) (b := 1024) .f32 (fun i j => z i j + ∑ k ∈ range 2048, x i k * y k j) := by
  unfold k0_pay2
  funext j; idx_vars j; pointwise [lay2]
  simp only [Finset.sum_range]

theorem pay3_lay (z : ℕ → ℕ → EReal) :
    k0_pay3 (F := Ideal) (lay2 (a := 1024) (b := 1024) .f32 z) = lay2 (a := 1024) (b := 1024) .bf16 z := rfl

theorem index_0 : ∀ t : Fin cfg0.N, win0_0.index t (0 : Fin 2) = t.val / 6 ∧ win0_0.index t (1 : Fin 2) = 0 :=
  (by decide +kernel : ∀ t : Fin grid0.N, win0_0.index t (0 : Fin 2) = t.val / 6 ∧ win0_0.index t (1 : Fin 2) = 0)
theorem index_1 : ∀ t : Fin cfg0.N, win0_1.index t (0 : Fin 2) = 0 ∧ win0_1.index t (1 : Fin 2) = t.val % 6 :=
  (by decide +kernel : ∀ t : Fin grid0.N, win0_1.index t (0 : Fin 2) = 0 ∧ win0_1.index t (1 : Fin 2) = t.val % 6)
theorem index_2 : ∀ t : Fin cfg0.N, win0_2.index t (0 : Fin 2) = t.val / 6 ∧ win0_2.index t (1 : Fin 2) = t.val % 6 :=
  (by decide +kernel : ∀ t : Fin grid0.N, win0_2.index t (0 : Fin 2) = t.val / 6 ∧ win0_2.index t (1 : Fin 2) = t.val % 6)
theorem index_3 : ∀ t : Fin cfg0.N, win0_3.index t (0 : Fin 2) = t.val / 6 ∧ win0_3.index t (1 : Fin 2) = t.val % 6 :=
  (by decide +kernel : ∀ t : Fin grid0.N, win0_3.index t (0 : Fin 2) = t.val / 6 ∧ win0_3.index t (1 : Fin 2) = t.val % 6)

variable (m : (l : Loc nD τ sig) → Buf (Elt Ideal) l) (c : Dev nD) (X Y : ℕ → ℕ → EReal)

/-- The arguments, as matrices. -/
structure Args : Prop where
  h : m (c, Proc.tc.devRef main_arg0) = lay2 (a := 4096) (b := 2048) .f32 X
  w : m (c, Proc.tc.devRef main_arg1) = lay2 (a := 2048) (b := 6144) .f32 Y

variable (A : Args m c X Y)
include A

theorem v0_at : V m c main_v0 = lay2 (a := 4096) (b := 2048) .bf16 X := by
  unfold V
  after_reads_simp
  clean_types
  rw [A.h]
  rfl

theorem v1_at : V m c main_v1 = lay2 (a := 2048) (b := 6144) .bf16 Y := by
  unfold V
  after_reads_simp
  clean_types
  rw [A.w]
  rfl

theorem block_0 (t : Fin cfg0.N) :
    (iblk m c 0 t : FVec Ideal ⟨2, ![1024, 2048]⟩ .bf16) = lay2 .bf16 (fun i j => X (1024 * (t.val / 6) + i) (j)) := by
  funext j
  unfold iblk
  rw [View.read_apply]
  show V m c main_v0 _ = _
  rw [v0_at m c X Y A]
  show X (win0_0.index t (0 : Fin 2) * 1024 + 1 * (j 0).val) (win0_0.index t (1 : Fin 2) * 2048 + 1 * (j 1).val) = X _ _
  rw [(index_0 t).1, (index_0 t).2]
  congr 1 <;> omega

theorem block_1 (t : Fin cfg0.N) :
    (iblk m c 1 t : FVec Ideal ⟨2, ![2048, 1024]⟩ .bf16) = lay2 .bf16 (fun i j => Y (i) (1024 * (t.val % 6) + j)) := by
  funext j
  unfold iblk
  rw [View.read_apply]
  show V m c main_v1 _ = _
  rw [v1_at m c X Y A]
  show Y (win0_1.index t (0 : Fin 2) * 2048 + 1 * (j 0).val) (win0_1.index t (1 : Fin 2) * 1024 + 1 * (j 1).val) = Y _ _
  rw [(index_1 t).1, (index_1 t).2]
  congr 1 <;> omega

theorem result_f32 : (dats m 0 c).arrAt 2 cfg0.N = (lay2 (a := 4096) (b := 6144) .f32
    (fun i j => ∑ k ∈ range 2048, X i k * Y k j) : FVec Ideal S4096x6144 .f32) := by
  refine (dats m 0 c).arrAt_eq_of_covers 2 _ (by decide +kernel) fun t hf y => ?_
  blk_simp
  rw [after0_2]
  unfold outsAt0
  frame_out
  rw [block_0 m c X Y A t, block_1 m c X Y A t, pay1_lay, pay2_lay]
  show 0 + ∑ k ∈ range 2048, X (1024 * (t.val / 6) + (y (0 : Fin 2)).val) k * Y k (1024 * (t.val % 6) + (y (1 : Fin 2)).val)
    = ∑ k ∈ range 2048, X (win0_2.index t (0 : Fin 2) * 1024 + 1 * (y (0 : Fin 2)).val) k * Y k (win0_2.index t (1 : Fin 2) * 1024 + 1 * (y (1 : Fin 2)).val)
  rw [(index_2 t).1, (index_2 t).2, zero_add,
    show t.val / 6 * 1024 + 1 * (y (0 : Fin 2)).val = 1024 * (t.val / 6) + (y (0 : Fin 2)).val by omega,
    show t.val % 6 * 1024 + 1 * (y (1 : Fin 2)).val = 1024 * (t.val % 6) + (y (1 : Fin 2)).val by omega]

theorem result_bf16 : (dats m 0 c).arrAt 3 cfg0.N = (lay2 (a := 4096) (b := 6144) .bf16
    (fun i j => ∑ k ∈ range 2048, X i k * Y k j) : FVec Ideal S4096x6144 .bf16) := by
  refine (dats m 0 c).arrAt_eq_of_covers 3 _ (by decide +kernel) fun t hf y => ?_
  blk_simp
  rw [after0_3]
  unfold outsAt0
  frame_out
  rw [block_0 m c X Y A t, block_1 m c X Y A t, pay1_lay, pay2_lay, pay3_lay]
  show 0 + ∑ k ∈ range 2048, X (1024 * (t.val / 6) + (y (0 : Fin 2)).val) k * Y k (1024 * (t.val % 6) + (y (1 : Fin 2)).val)
    = ∑ k ∈ range 2048, X (win0_3.index t (0 : Fin 2) * 1024 + 1 * (y (0 : Fin 2)).val) k * Y k (win0_3.index t (1 : Fin 2) * 1024 + 1 * (y (1 : Fin 2)).val)
  rw [(index_3 t).1, (index_3 t).2, zero_add,
    show t.val / 6 * 1024 + 1 * (y (0 : Fin 2)).val = 1024 * (t.val / 6) + (y (0 : Fin 2)).val by omega,
    show t.val % 6 * 1024 + 1 * (y (1 : Fin 2)).val = 1024 * (t.val % 6) + (y (1 : Fin 2)).val by omega]

end

/-! ### The reference -/

section
open Cert.InProjReferenceIdeal Cert.InProjReferenceIdeal.Gen

theorem reference_f32 (X Y : ℕ → ℕ → EReal) (x : FVec Ideal S4096x2048 .f32) (y : FVec Ideal S2048x6144 .f32) (hx : x = lay2 .f32 X) (hy : y = lay2 .f32 Y) :
    Host.dotGeneral (F := Ideal) dot_S4096x2048_S2048x6144_S4096x6144_1_0_0_1_n_n none x y
      = lay2 (a := 4096) (b := 6144) .f32 (fun i j => ∑ k ∈ range 2048, X i k * Y k j) := by
  subst hx hy
  funext j; idx_vars j; pointwise [lay2]
  rw [Finset.sum_range]

theorem reference_bf16 (X Y : ℕ → ℕ → EReal) (x : FVec Ideal S4096x2048 .f32) (y : FVec Ideal S2048x6144 .f32) (hx : x = lay2 .f32 X) (hy : y = lay2 .f32 Y) :
    truncf .bf16 (Host.dotGeneral (F := Ideal) dot_S4096x2048_S2048x6144_S4096x6144_1_0_0_1_n_n none x y) bitsLt_bf16_f32
      = lay2 (a := 4096) (b := 6144) .bf16 (fun i j => ∑ k ∈ range 2048, X i k * Y k j) := by
  subst hx hy
  funext j; idx_vars j; pointwise [lay2]
  rw [Finset.sum_range]

end

end Cert.Proj.InProj
end
-- ==== Proof.ProjInDx.lean ====
module
public import proofs.«01_k».proof.Proof.Lay
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import Idealize.ShloMosaic.Lib.StableHlo.ReadAt
@[expose] public section
set_option maxRecDepth 16384

/-!
# The gradient of the input projection's argument, `dp · w_inᵀ`

Grid point `t` works on the rows numbered `t / 6` and the columns numbered `t / 3 % 2`, 1024 each. It adds the products over 2048 of the 6144 columns; the third point writes the block.
-/

noncomputable section
open Finset Idealize.ShloMosaic Idealize.SL.Sem
namespace Cert.Proj.InDx
open Cert.Ffn

section
open Cert.InDxIdeal Cert.InDxIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 1024) (b := 2048) .bf16 x) (lay2 (a := 1024) (b := 2048) .bf16 y) (lay2 (a := 1024) (b := 1024) .f32 z)
      = lay2 (a := 1024) (b := 1024) .f32 (fun i j => z i j + ∑ k ∈ range 2048, x i k * y j k) := by
  unfold k0_pay2
  funext j; idx_vars j; pointwise [lay2]
  simp only [Finset.sum_range]

/-- The accumulator holds what the point before left in it. -/
theorem carried (z : Vec Ideal S1024x1024 .f32) (h : (Memref.whole cc0_scratch0).IsWhole) :
    View.read (Elt Ideal) (View.whole cc0_scratch0) (h.unread z) = z := h.read_unread z

theorem index_0 : ∀ t : Fin cfg0.N, win0_0.index t (0 : Fin 2) = t.val / 6 ∧ win0_0.index t (1 : Fin 2) = t.val % 3 :=
  (by decide +kernel : ∀ t : Fin grid0.N, win0_0.index t (0 : Fin 2) = t.val / 6 ∧ win0_0.index t (1 : Fin 2) = t.val % 3)
theorem index_1 : ∀ t : Fin cfg0.N, win0_1.index t (0 : Fin 2) = t.val / 3 % 2 ∧ win0_1.index t (1 : Fin 2) = t.val % 3 :=
  (by decide +kernel : ∀ t : Fin grid0.N, win0_1.index t (0 : Fin 2) = t.val / 3 % 2 ∧ win0_1.index t (1 : Fin 2) = t.val % 3)

variable (m : (l : Loc nD τ sig) → Buf (Elt Ideal) l) (c : Dev nD) (X Y : ℕ → ℕ → EReal)

/-- The arguments, as matrices. -/
structure Args : Prop where
  dp : m (c, Proc.tc.devRef main_arg0) = lay2 (a := 4096) (b := 6144) .f32 X
  w : m (c, Proc.tc.devRef main_arg1) = lay2 (a := 2048) (b := 6144) .f32 Y

variable (A : Args m c X Y)
include A

theorem v0_at : V m c main_v0 = lay2 (a := 4096) (b := 6144) .bf16 X := by
  unfold V
  after_reads_simp
  clean_types
  rw [A.dp]
  rfl

theorem v1_at : V m c main_v1 = lay2 (a := 2048) (b := 6144) .bf16 Y := by
  unfold V
  after_reads_simp
  clean_types
  rw [A.w]
  rfl

theorem block_0 (t : Fin cfg0.N) :
    (iblk m c 0 t : FVec Ideal ⟨2, ![1024, 2048]⟩ .bf16) = lay2 .bf16 (fun i j => X (1024 * (t.val / 6) + i) (2048 * (t.val % 3) + j)) := by
  funext j
  unfold iblk
  rw [View.read_apply]
  show V m c main_v0 _ = _
  rw [v0_at m c X Y A]
  show X (win0_0.index t (0 : Fin 2) * 1024 + 1 * (j 0).val) (win0_0.index t (1 : Fin 2) * 2048 + 1 * (j 1).val) = X _ _
  rw [(index_0 t).1, (index_0 t).2]
  congr 1 <;> omega

theorem block_1 (t : Fin cfg0.N) :
    (iblk m c 1 t : FVec Ideal ⟨2, ![1024, 2048]⟩ .bf16) = lay2 .bf16 (fun i j => Y (1024 * (t.val / 3 % 2) + i) (2048 * (t.val % 3) + j)) := by
  funext j
  unfold iblk
  rw [View.read_apply]
  show V m c main_v1 _ = _
  rw [v1_at m c X Y A]
  show Y (win0_1.index t (0 : Fin 2) * 1024 + 1 * (j 0).val) (win0_1.index t (1 : Fin 2) * 2048 + 1 * (j 1).val) = Y _ _
  rw [(index_1 t).1, (index_1 t).2]
  congr 1 <;> omega

omit A in
/-- What a point adds. -/
theorem part_all (i j : ℕ) : ∑ p ∈ range 3, ∑ k ∈ range 2048, X i (2048 * p + k) * Y j (2048 * p + k) = ∑ k ∈ range 6144, X i k * Y j k := by
  rw [show (6144 : ℕ) = 3 * 2048 from rfl, split_sum]

theorem step (t : Fin cfg0.N) (z : ℕ → ℕ → EReal) :
    k0_pay2 (F := Ideal) (iblk m c 0 t) (iblk m c 1 t) (lay2 (a := 1024) (b := 1024) .f32 z)
      = lay2 (a := 1024) (b := 1024) .f32 (fun i j => z i j + ∑ k ∈ range 2048, X (1024 * (t.val / 6) + i) (2048 * (t.val % 3) + k) * Y (1024 * (t.val / 3 % 2) + j) (2048 * (t.val % 3) + k)) := by
  rw [block_0 m c X Y A t, block_1 m c X Y A t, pay2_lay]

/-- What a point leaves in the accumulator. -/
def held (n : ℕ) : ℕ → ℕ → EReal := fun i j =>
  ∑ p ∈ range (n % 3 + 1), ∑ k ∈ range 2048, X (1024 * (n / 6) + i) (2048 * p + k) * Y (1024 * (n / 3 % 2) + j) (2048 * p + k)

omit A in
theorem held_first (n : ℕ) (h : n % 3 = 0) (i j : ℕ) : held X Y n i j
    = 0 + ∑ k ∈ range 2048, X (1024 * (n / 6) + i) (2048 * (n % 3) + k) * Y (1024 * (n / 3 % 2) + j) (2048 * (n % 3) + k) := by
  unfold held
  rw [h, zero_add]
  simp only [Nat.zero_add, sum_range_succ, sum_range_zero, zero_add]

omit A in
theorem held_next (n : ℕ) (h : ¬n % 3 = 0) (i j : ℕ) : held X Y n i j
    = held X Y (n - 1) i j + ∑ k ∈ range 2048, X (1024 * (n / 6) + i) (2048 * (n % 3) + k) * Y (1024 * (n / 3 % 2) + j) (2048 * (n % 3) + k) := by
  unfold held
  rw [show (n - 1) / 6 = n / 6 by omega, show (n - 1) / 3 % 2 = n / 3 % 2 by omega, show (n - 1) % 3 + 1 = n % 3 by omega, sum_range_succ]

theorem acc (n : ℕ) : ∀ hn : n < cfg0.N, (outsAt0 m c n hn).2 = lay2 (a := 1024) (b := 1024) .f32 (held X Y n) := by
  induction n using Nat.strong_induction_on with
  | _ n ih =>
    intro hn
    by_cases h0 : n % 3 = 0
    · rw [outsAt0_A m c ⟨n, hn⟩ h0 (by dsimp only; omega)]
      frame_out
      rw [pay1_lay, step m c X Y A]
      exact lay2_congr fun i _ j _ => (held_first X Y n h0 i j).symm
    · have e := ih (n - 1) (by omega) (lt_of_le_of_lt (Nat.sub_le _ _) hn)
      by_cases h1 : n % 3 = 2
      · rw [outsAt0_C m c ⟨n, hn⟩ h0 h1]
        frame_out
        rw [e, carried, step m c X Y A]
        exact lay2_congr fun i _ j _ => (held_next X Y n h0 i j).symm
      · rw [outsAt0_B m c ⟨n, hn⟩ h0 h1]
        frame_out
        rw [e, carried, step m c X Y A]
        exact lay2_congr fun i _ j _ => (held_next X Y n h0 i j).symm

/-- What the third point writes. -/
theorem out_last (n : ℕ) (hn : n < cfg0.N) (h1 : n % 3 = 2) : (outsAt0 m c n hn).1 = lay2 (a := 1024) (b := 1024) .f32 (held X Y n) := by
  have h0 : ¬n % 3 = 0 := by omega
  have e := acc m c X Y A (n - 1) (lt_of_le_of_lt (Nat.sub_le _ _) hn)
  rw [outsAt0_C m c ⟨n, hn⟩ h0 h1]
  frame_out
  rw [e, carried, step m c X Y A]
  exact lay2_congr fun i _ j _ => (held_next X Y n h0 i j).symm

/-- The kernel's result. -/
theorem result : Value.G2 (F := Ideal) m c = (lay2 (a := 4096) (b := 2048) .f32
    (fun i j => ∑ k ∈ range 6144, X i k * Y j k) : FVec Ideal S4096x2048 .f32) := by
  funext i
  have h0 : (i 0).val < 4096 := (i 0).isLt
  have h1 : (i 1).val < 2048 := (i 1).isLt
  have hN : cfg0.N = 24 := N_0
  obtain ⟨n, hn⟩ : ∃ n, Value.pt2Of i = n := ⟨_, rfl⟩
  have en : n = 6 * ((i 0).val / 1024) + 3 * ((i 1).val / 1024) + 2 := by
    rw [← hn]; dsimp only [Value.pt2Of, Value.run2Of]; omega
  have hp : Value.pt2Of i < cfg0.N := by rw [hN, hn, en]; omega
  unfold Value.G2
  rw [dif_pos hp, ← Value.outsAt0_sweep m c _ hp, out_last m c X Y A _ hp (by rw [hn]; omega), hn]
  show ∑ p ∈ range (n % 3 + 1), ∑ k ∈ range 2048, X (1024 * (n / 6) + (i 0).val % 1024) (2048 * p + k) * Y (1024 * (n / 3 % 2) + (i 1).val % 1024) (2048 * p + k) = _
  rw [show 1024 * (n / 3 % 2) + (i 1).val % 1024 = (i 1).val by omega, show 1024 * (n / 6) + (i 0).val % 1024 = (i 0).val by omega, show n % 3 + 1 = 3 by omega, part_all]
  rfl

end

/-! ### The reference -/

section
open Cert.InDxReferenceIdeal Cert.InDxReferenceIdeal.Gen

theorem reference (X Y : ℕ → ℕ → EReal) (x : FVec Ideal S4096x6144 .f32) (y : FVec Ideal S2048x6144 .f32) (hx : x = lay2 .f32 X) (hy : y = lay2 .f32 Y) :
    Host.dotGeneral (F := Ideal) dot_S4096x6144_S2048x6144_S4096x2048_1_1_0_0_n_n none x y
      = lay2 (a := 4096) (b := 2048) .f32 (fun i j => ∑ k ∈ range 6144, X i k * Y j k) := by
  subst hx hy
  funext j; idx_vars j; pointwise [lay2]
  rw [Finset.sum_range]

end

end Cert.Proj.InDx
end
-- ==== Proof.ProjInDw.lean ====
module
public import proofs.«01_k».proof.Proof.Lay
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import Idealize.ShloMosaic.Lib.StableHlo.ReadAt
@[expose] public section
set_option maxRecDepth 16384

/-!
# The gradient of the input projection's weights, `hᵀ · dp`

Grid point `t` works on the rows numbered `t / 12` and the columns numbered `t / 2 % 6`, 1024 each. It adds the products over one half of the tokens; the second half's point writes the block.
-/

noncomputable section
open Finset Idealize.ShloMosaic Idealize.SL.Sem
namespace Cert.Proj.InDw
open Cert.Ffn

section
open Cert.InDwIdeal Cert.InDwIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 2048) (b := 1024) .bf16 x) (lay2 (a := 2048) (b := 1024) .bf16 y) (lay2 (a := 1024) (b := 1024) .f32 z)
      = lay2 (a := 1024) (b := 1024) .f32 (fun i j => z i j + ∑ k ∈ range 2048, x k i * y k j) := by
  unfold k0_pay2
  funext j; idx_vars j; pointwise [lay2]
  simp only [Finset.sum_range]

theorem pay3_lay (z : ℕ → ℕ → EReal) :
    k0_pay3 (F := Ideal) (lay2 (a := 1024) (b := 1024) .f32 z) = lay2 (a := 1024) (b := 1024) .bf16 z := rfl

/-- The accumulator holds what the point before left in it. -/
theorem carried (z : Vec Ideal S1024x1024 .f32) (h : (Memref.whole cc0_scratch0).IsWhole) :
    View.read (Elt Ideal) (View.whole cc0_scratch0) (h.unread z) = z := h.read_unread z

theorem index_0 : ∀ t : Fin cfg0.N, win0_0.index t (0 : Fin 2) = t.val % 2 ∧ win0_0.index t (1 : Fin 2) = t.val / 12 :=
  (by decide +kernel : ∀ t : Fin grid0.N, win0_0.index t (0 : Fin 2) = t.val % 2 ∧ win0_0.index t (1 : Fin 2) = t.val / 12)
theorem index_1 : ∀ t : Fin cfg0.N, win0_1.index t (0 : Fin 2) = t.val % 2 ∧ win0_1.index t (1 : Fin 2) = t.val / 2 % 6 :=
  (by decide +kernel : ∀ t : Fin grid0.N, win0_1.index t (0 : Fin 2) = t.val % 2 ∧ win0_1.index t (1 : Fin 2) = t.val / 2 % 6)

variable (m : (l : Loc nD τ sig) → Buf (Elt Ideal) l) (c : Dev nD) (X Y : ℕ → ℕ → EReal)

/-- The arguments, as matrices. -/
structure Args : Prop where
  h : m (c, Proc.tc.devRef main_arg0) = lay2 (a := 4096) (b := 2048) .f32 X
  dp : m (c, Proc.tc.devRef main_arg1) = lay2 (a := 4096) (b := 6144) .f32 Y

variable (A : Args m c X Y)
include A

theorem v0_at : V m c main_v0 = lay2 (a := 4096) (b := 2048) .bf16 X := by
  unfold V
  after_reads_simp
  clean_types
  rw [A.h]
  rfl

theorem v1_at : V m c main_v1 = lay2 (a := 4096) (b := 6144) .bf16 Y := by
  unfold V
  after_reads_simp
  clean_types
  rw [A.dp]
  rfl

theorem block_0 (t : Fin cfg0.N) :
    (iblk m c 0 t : FVec Ideal ⟨2, ![2048, 1024]⟩ .bf16) = lay2 .bf16 (fun i j => X (2048 * (t.val % 2) + i) (1024 * (t.val / 12) + j)) := by
  funext j
  unfold iblk
  rw [View.read_apply]
  show V m c main_v0 _ = _
  rw [v0_at m c X Y A]
  show X (win0_0.index t (0 : Fin 2) * 2048 + 1 * (j 0).val) (win0_0.index t (1 : Fin 2) * 1024 + 1 * (j 1).val) = X _ _
  rw [(index_0 t).1, (index_0 t).2]
  congr 1 <;> omega

theorem block_1 (t : Fin cfg0.N) :
    (iblk m c 1 t : FVec Ideal ⟨2, ![2048, 1024]⟩ .bf16) = lay2 .bf16 (fun i j => Y (2048 * (t.val % 2) + i) (1024 * (t.val / 2 % 6) + j)) := by
  funext j
  unfold iblk
  rw [View.read_apply]
  show V m c main_v1 _ = _
  rw [v1_at m c X Y A]
  show Y (win0_1.index t (0 : Fin 2) * 2048 + 1 * (j 0).val) (win0_1.index t (1 : Fin 2) * 1024 + 1 * (j 1).val) = Y _ _
  rw [(index_1 t).1, (index_1 t).2]
  congr 1 <;> omega

/-- The first half's products. -/
theorem acc_first (t : Fin cfg0.N) (h0 : t.val % 2 = 0) (h1 : ¬t.val % 2 = 1) :
    (outsAt0 m c t.val t.isLt).2 = lay2 (a := 1024) (b := 1024) .f32 (fun i j => ∑ k ∈ range 2048, X k (1024 * (t.val / 12) + i) * Y k (1024 * (t.val / 2 % 6) + j)) := by
  rw [outsAt0_A m c t h0 h1]
  frame_out
  rw [block_0 m c X Y A t, block_1 m c X Y A t, pay1_lay, pay2_lay]
  refine lay2_congr fun i _ j _ => ?_
  rw [zero_add, h0]
  simp only [Nat.mul_zero, Nat.zero_add]

/-- What the second half's point writes. -/
theorem out_last (t : Fin cfg0.N) (h0 : ¬t.val % 2 = 0) (h1 : t.val % 2 = 1) :
    (outsAt0 m c t.val t.isLt).1 = lay2 (a := 1024) (b := 1024) .bf16 (fun i j => ∑ k ∈ range 4096, X k (1024 * (t.val / 12) + i) * Y k (1024 * (t.val / 2 % 6) + j)) := by
  have hp : t.val - 1 < cfg0.N := lt_of_le_of_lt (Nat.sub_le _ _) t.isLt
  have e := acc_first m c X Y A ⟨t.val - 1, hp⟩ (by dsimp only; omega) (by dsimp only; omega)
  rw [outsAt0_B m c t h0 h1]
  frame_out
  dsimp only at e
  rw [e, block_0 m c X Y A t, block_1 m c X Y A t, carried, pay2_lay, pay3_lay]
  refine lay2_congr fun i _ j _ => ?_
  rw [h1, show (4096 : ℕ) = 2048 + 2048 from rfl, sum_range_add, show (t.val - 1) / 2 % 6 = t.val / 2 % 6 by omega, show (t.val - 1) / 12 = t.val / 12 by omega]

/-- The kernel's result. -/
theorem result : Value.G2 (F := Ideal) m c = (lay2 (a := 2048) (b := 6144) .bf16
    (fun i j => ∑ k ∈ range 4096, X k i * Y k j) : FVec Ideal S2048x6144 .bf16) := by
  funext i
  have h0 : (i 0).val < 2048 := (i 0).isLt
  have h1 : (i 1).val < 6144 := (i 1).isLt
  have hN : cfg0.N = 24 := N_0
  obtain ⟨n, hn⟩ : ∃ n, Value.pt2Of i = n := ⟨_, rfl⟩
  have en : n = 12 * ((i 0).val / 1024) + 2 * ((i 1).val / 1024) + 1 := by
    rw [← hn]; dsimp only [Value.pt2Of, Value.run2Of]; omega
  have hp : Value.pt2Of i < cfg0.N := by rw [hN, hn, en]; omega
  unfold Value.G2
  rw [dif_pos hp, ← Value.outsAt0_sweep m c _ hp, out_last m c X Y A ⟨_, hp⟩ (by dsimp only; rw [hn]; omega) (by dsimp only; rw [hn]; omega)]
  dsimp only
  rw [hn]
  show ∑ k ∈ range 4096, X k (1024 * (n / 12) + (i 0).val % 1024) * Y k (1024 * (n / 2 % 6) + (i 1).val % 1024) = ∑ k ∈ range 4096, X k (i 0).val * Y k (i 1).val
  rw [show 1024 * (n / 2 % 6) + (i 1).val % 1024 = (i 1).val by omega, show 1024 * (n / 12) + (i 0).val % 1024 = (i 0).val by omega]

end

/-! ### The reference -/

section
open Cert.InDwReferenceIdeal Cert.InDwReferenceIdeal.Gen

theorem reference (X Y : ℕ → ℕ → EReal) (x : FVec Ideal S4096x2048 .f32) (y : FVec Ideal S4096x6144 .f32) (hx : x = lay2 .f32 X) (hy : y = lay2 .f32 Y) :
    truncf .bf16 (transpose S2048x6144 [1, 0] (Host.dotGeneral (F := Ideal) dot_S4096x6144_S4096x2048_S6144x2048_0_0_1_1_n_n none y x) transposes_S6144x2048_S2048x6144_1_0) bitsLt_bf16_f32
      = lay2 (a := 2048) (b := 6144) .bf16 (fun i j => ∑ k ∈ range 4096, X k i * Y k j) := by
  subst hx hy
  funext j; idx_vars j; pointwise [lay2]
  rw [Finset.sum_range]
  exact Finset.sum_congr rfl fun k _ => mul_comm _ _

end

end Cert.Proj.InDw
end
-- ==== Proof.ProjMix.lean ====
module
public import proofs.«01_k».proof.Proof.Lay
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import Idealize.ShloMosaic.Lib.StableHlo.ReadAt
@[expose] public section
set_option maxRecDepth 16384

/-!
# The output projection with its residual, `x + mix · w_out`

Grid point `t` works on the rows numbered `t / 2` and the columns numbered `t % 2`, 1024 each. It computes one block of 1024 rows and 1024 columns at once.
-/

noncomputable section
open Finset Idealize.ShloMosaic Idealize.SL.Sem
namespace Cert.Proj.Mix
open Cert.Ffn

section
open Cert.MixIdeal Cert.MixIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 1024) (b := 2048) .bf16 x) (lay2 (a := 2048) (b := 1024) .bf16 y) (lay2 (a := 1024) (b := 1024) .f32 z)
      = lay2 (a := 1024) (b := 1024) .f32 (fun i j => z i j + ∑ k ∈ range 2048, x i k * y k j) := by
  unfold k0_pay2
  funext j; idx_vars j; pointwise [lay2]
  simp only [Finset.sum_range]

theorem pay3_lay (x y : ℕ → ℕ → EReal) :
    k0_pay3 (F := Ideal) (lay2 (a := 1024) (b := 1024) .f32 x) (lay2 (a := 1024) (b := 1024) .f32 y) = lay2 (a := 1024) (b := 1024) .f32 (fun i j => x i j + y i j) := rfl

theorem index_0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem index_1 : ∀ t : Fin cfg0.N, win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2)
theorem index_2 : ∀ t : Fin cfg0.N, win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2)
theorem index_3 : ∀ t : Fin cfg0.N, win0_3.index t (0 : Fin 2) = t.val / 2 ∧ win0_3.index t (1 : Fin 2) = t.val % 2 :=
  (by decide +kernel : ∀ t : Fin grid0.N, win0_3.index t (0 : Fin 2) = t.val / 2 ∧ win0_3.index t (1 : Fin 2) = t.val % 2)

variable (m : (l : Loc nD τ sig) → Buf (Elt Ideal) l) (c : Dev nD) (X Y Z : ℕ → ℕ → EReal)

/-- The arguments, as matrices. -/
structure Args : Prop where
  mix : m (c, Proc.tc.devRef main_arg0) = lay2 (a := 4096) (b := 2048) .f32 X
  w : m (c, Proc.tc.devRef main_arg1) = lay2 (a := 2048) (b := 2048) .f32 Y
  x : m (c, Proc.tc.devRef main_arg2) = lay2 (a := 4096) (b := 2048) .f32 Z

variable (A : Args m c X Y Z)
include A

theorem v0_at : V m c main_v0 = lay2 (a := 4096) (b := 2048) .bf16 X := by
  unfold V
  after_reads_simp
  clean_types
  rw [A.mix]
  rfl

theorem v1_at : V m c main_v1 = lay2 (a := 2048) (b := 2048) .bf16 Y := by
  unfold V
  after_reads_simp
  clean_types
  rw [A.w]
  rfl

theorem x_at : V m c main_arg2 = lay2 (a := 4096) (b := 2048) .f32 Z := by
  unfold V
  after_reads_simp
  exact A.x

theorem block_0 (t : Fin cfg0.N) :
    (iblk m c 0 t : FVec Ideal ⟨2, ![1024, 2048]⟩ .bf16) = lay2 .bf16 (fun i j => X (1024 * (t.val / 2) + i) (j)) := by
  funext j
  unfold iblk
  rw [View.read_apply]
  show V m c main_v0 _ = _
  rw [v0_at m c X Y Z A]
  show X (win0_0.index t (0 : Fin 2) * 1024 + 1 * (j 0).val) (win0_0.index t (1 : Fin 2) * 2048 + 1 * (j 1).val) = X _ _
  rw [(index_0 t).1, (index_0 t).2]
  congr 1 <;> omega

theorem block_1 (t : Fin cfg0.N) :
    (iblk m c 1 t : FVec Ideal ⟨2, ![2048, 1024]⟩ .bf16) = lay2 .bf16 (fun i j => Y (i) (1024 * (t.val % 2) + j)) := by
  funext j
  unfold iblk
  rw [View.read_apply]
  show V m c main_v1 _ = _
  rw [v1_at m c X Y Z A]
  show Y (win0_1.index t (0 : Fin 2) * 2048 + 1 * (j 0).val) (win0_1.index t (1 : Fin 2) * 1024 + 1 * (j 1).val) = Y _ _
  rw [(index_1 t).1, (index_1 t).2]
  congr 1 <;> omega

theorem block_2 (t : Fin cfg0.N) :
    (iblk m c 2 t : FVec Ideal ⟨2, ![1024, 1024]⟩ .f32) = lay2 .f32 (fun i j => Z (1024 * (t.val / 2) + i) (1024 * (t.val % 2) + j)) := by
  funext j
  unfold iblk
  rw [View.read_apply]
  show V m c main_arg2 _ = _
  rw [x_at m c X Y Z A]
  show Z (win0_2.index t (0 : Fin 2) * 1024 + 1 * (j 0).val) (win0_2.index t (1 : Fin 2) * 1024 + 1 * (j 1).val) = Z _ _
  rw [(index_2 t).1, (index_2 t).2]
  congr 1 <;> omega

theorem result : (dats m 0 c).arrAt 3 cfg0.N = (lay2 (a := 4096) (b := 2048) .f32
    (fun i j => Z i j + ∑ k ∈ range 2048, X i k * Y k j) : FVec Ideal S4096x2048 .f32) := by
  refine (dats m 0 c).arrAt_eq_of_covers 3 _ (by decide +kernel) fun t hf y => ?_
  blk_simp
  rw [after0_3]
  unfold outsAt0
  frame_out
  rw [block_0 m c X Y Z A t, block_1 m c X Y Z A t, pay1_lay, pay2_lay, block_2 m c X Y Z A t, pay3_lay]
  show (0 + ∑ k ∈ range 2048, X (1024 * (t.val / 2) + (y (0 : Fin 2)).val) k * Y k (1024 * (t.val % 2) + (y (1 : Fin 2)).val)) + Z (1024 * (t.val / 2) + (y (0 : Fin 2)).val) (1024 * (t.val % 2) + (y (1 : Fin 2)).val)
    = Z (win0_3.index t (0 : Fin 2) * 1024 + 1 * (y (0 : Fin 2)).val) (win0_3.index t (1 : Fin 2) * 1024 + 1 * (y (1 : Fin 2)).val) + ∑ k ∈ range 2048, X (win0_3.index t (0 : Fin 2) * 1024 + 1 * (y (0 : Fin 2)).val) k * Y k (win0_3.index t (1 : Fin 2) * 1024 + 1 * (y (1 : Fin 2)).val)
  rw [(index_3 t).1, (index_3 t).2, zero_add,
    show t.val / 2 * 1024 + 1 * (y (0 : Fin 2)).val = 1024 * (t.val / 2) + (y (0 : Fin 2)).val by omega,
    show t.val % 2 * 1024 + 1 * (y (1 : Fin 2)).val = 1024 * (t.val % 2) + (y (1 : Fin 2)).val by omega]
  exact add_comm _ _

end

/-! ### The reference -/

section
open Cert.MixReferenceIdeal Cert.MixReferenceIdeal.Gen

theorem reference (X Y Z : ℕ → ℕ → EReal) (x : FVec Ideal S4096x2048 .f32) (y : FVec Ideal S2048x2048 .f32) (z : FVec Ideal S4096x2048 .f32) (hx : x = lay2 .f32 X) (hy : y = lay2 .f32 Y) (hz : z = lay2 .f32 Z) :
    addf z (Host.dotGeneral (F := Ideal) dot_S4096x2048_S2048x2048_S4096x2048_1_0_0_1_n_n none x y)
      = lay2 (a := 4096) (b := 2048) .f32 (fun i j => Z i j + ∑ k ∈ range 2048, X i k * Y k j) := by
  subst hx hy hz
  funext j; idx_vars j; pointwise [lay2]
  rw [Finset.sum_range]

end

end Cert.Proj.Mix
end
-- ==== Proof.ProjMixDx.lean ====
module
public import proofs.«01_k».proof.Proof.Lay
public import proofs.«01_k».proof.Proof.Gen.MixDx
public import proofs.«01_k».proof.Proof.Gen.MixDx.Frame
public import proofs.«01_k».proof.Proof.Gen.MixDxIdeal
public import proofs.«01_k».proof.Proof.Gen.MixDxIdeal.Frame
public import proofs.«01_k».proof.Proof.Gen.MixDxIdeal.Value
public import proofs.«01_k».proof.Proof.Gen.MixDxReferenceIdeal
public import proofs.«01_k».proof.Proof.Gen.MixDxReferenceIdeal.Run
public import proofs.«01_k».proof.Proof.Gen.MixDxReferenceIdeal.Read
public import Idealize.ShloMosaic.Lib.StableHlo.ReadAt
@[expose] public section
set_option maxRecDepth 16384

/-!
# The gradient of the mixers' output, `dx · w_outᵀ`

Grid point `t` works on the rows numbered `t / 2` and the columns numbered `t % 2`, 1024 each. It computes one block of 1024 rows and 1024 columns at once.
-/

noncomputable section
open Finset Idealize.ShloMosaic Idealize.SL.Sem
namespace Cert.Proj.MixDx
open Cert.Ffn

section
open Cert.MixDxIdeal Cert.MixDxIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 1024) (b := 2048) .bf16 x) (lay2 (a := 1024) (b := 2048) .bf16 y) (lay2 (a := 1024) (b := 1024) .f32 z)
      = lay2 (a := 1024) (b := 1024) .f32 (fun i j => z i j + ∑ k ∈ range 2048, x i k * y j k) := by
  unfold k0_pay2
  funext j; idx_vars j; pointwise [lay2]
  simp only [Finset.sum_range]

theorem index_0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem index_1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)
theorem index_2 : ∀ t : Fin cfg0.N, win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2)

variable (m : (l : Loc nD τ sig) → Buf (Elt Ideal) l) (c : Dev nD) (X Y : ℕ → ℕ → EReal)

/-- The arguments, as matrices. -/
structure Args : Prop where
  dx : m (c, Proc.tc.devRef main_arg0) = lay2 (a := 4096) (b := 2048) .f32 X
  w : m (c, Proc.tc.devRef main_arg1) = lay2 (a := 2048) (b := 2048) .f32 Y

variable (A : Args m c X Y)
include A

theorem v0_at : V m c main_v0 = lay2 (a := 4096) (b := 2048) .bf16 X := by
  unfold V
  after_reads_simp
  clean_types
  rw [A.dx]
  rfl

theorem v1_at : V m c main_v1 = lay2 (a := 2048) (b := 2048) .bf16 Y := by
  unfold V
  after_reads_simp
  clean_types
  rw [A.w]
  rfl

theorem block_0 (t : Fin cfg0.N) :
    (iblk m c 0 t : FVec Ideal ⟨2, ![1024, 2048]⟩ .bf16) = lay2 .bf16 (fun i j => X (1024 * (t.val / 2) + i) (j)) := by
  funext j
  unfold iblk
  rw [View.read_apply]
  show V m c main_v0 _ = _
  rw [v0_at m c X Y A]
  show X (win0_0.index t (0 : Fin 2) * 1024 + 1 * (j 0).val) (win0_0.index t (1 : Fin 2) * 2048 + 1 * (j 1).val) = X _ _
  rw [(index_0 t).1, (index_0 t).2]
  congr 1 <;> omega

theorem block_1 (t : Fin cfg0.N) :
    (iblk m c 1 t : FVec Ideal ⟨2, ![1024, 2048]⟩ .bf16) = lay2 .bf16 (fun i j => Y (1024 * (t.val % 2) + i) (j)) := by
  funext j
  unfold iblk
  rw [View.read_apply]
  show V m c main_v1 _ = _
  rw [v1_at m c X Y A]
  show Y (win0_1.index t (0 : Fin 2) * 1024 + 1 * (j 0).val) (win0_1.index t (1 : Fin 2) * 2048 + 1 * (j 1).val) = Y _ _
  rw [(index_1 t).1, (index_1 t).2]
  congr 1 <;> omega

theorem result : (dats m 0 c).arrAt 2 cfg0.N = (lay2 (a := 4096) (b := 2048) .f32
    (fun i j => ∑ k ∈ range 2048, X i k * Y j k) : FVec Ideal S4096x2048 .f32) := by
  refine (dats m 0 c).arrAt_eq_of_covers 2 _ (by decide +kernel) fun t hf y => ?_
  blk_simp
  rw [after0_2]
  unfold outsAt0
  frame_out
  rw [block_0 m c X Y A t, block_1 m c X Y A t, pay1_lay, pay2_lay]
  show 0 + ∑ k ∈ range 2048, X (1024 * (t.val / 2) + (y (0 : Fin 2)).val) k * Y (1024 * (t.val % 2) + (y (1 : Fin 2)).val) k
    = ∑ k ∈ range 2048, X (win0_2.index t (0 : Fin 2) * 1024 + 1 * (y (0 : Fin 2)).val) k * Y (win0_2.index t (1 : Fin 2) * 1024 + 1 * (y (1 : Fin 2)).val) k
  rw [(index_2 t).1, (index_2 t).2, zero_add,
    show t.val / 2 * 1024 + 1 * (y (0 : Fin 2)).val = 1024 * (t.val / 2) + (y (0 : Fin 2)).val by omega,
    show t.val % 2 * 1024 + 1 * (y (1 : Fin 2)).val = 1024 * (t.val % 2) + (y (1 : Fin 2)).val by omega]

end

/-! ### The reference -/

section
open Cert.MixDxReferenceIdeal Cert.MixDxReferenceIdeal.Gen

theorem reference (X Y : ℕ → ℕ → EReal) (x : FVec Ideal S4096x2048 .f32) (y : FVec Ideal S2048x2048 .f32) (hx : x = lay2 .f32 X) (hy : y = lay2 .f32 Y) :
    Host.dotGeneral (F := Ideal) dot_S4096x2048_S2048x2048_S4096x2048_1_1_0_0_n_n none x y
      = lay2 (a := 4096) (b := 2048) .f32 (fun i j => ∑ k ∈ range 2048, X i k * Y j k) := by
  subst hx hy
  funext j; idx_vars j; pointwise [lay2]
  rw [Finset.sum_range]

end

end Cert.Proj.MixDx
end
-- ==== Proof.ProjMixDw.lean ====
module
public import proofs.«01_k».proof.Proof.Lay
public import proofs.«01_k».proof.Proof.Gen.MixDw
public import proofs.«01_k».proof.Proof.Gen.MixDw.Frame
public import proofs.«01_k».proof.Proof.Gen.MixDwIdeal
public import proofs.«01_k».proof.Proof.Gen.MixDwIdeal.Frame
public import proofs.«01_k».proof.Proof.Gen.MixDwIdeal.Value
public import proofs.«01_k».proof.Proof.Gen.MixDwReferenceIdeal
public import proofs.«01_k».proof.Proof.Gen.MixDwReferenceIdeal.Run
public import proofs.«01_k».proof.Proof.Gen.MixDwReferenceIdeal.Read
public import Idealize.ShloMosaic.Lib.StableHlo.ReadAt
@[expose] public section
set_option maxRecDepth 16384

/-!
# The gradient of the output projection's weights, `mixᵀ · dx`

Grid point `t` works on the rows numbered `t / 4` and the columns numbered `t / 2 % 2`, 1024 each. It adds the products over one half of the tokens; the second half's point writes the block.
-/

noncomputable section
open Finset Idealize.ShloMosaic Idealize.SL.Sem
namespace Cert.Proj.MixDw
open Cert.Ffn

section
open Cert.MixDwIdeal Cert.MixDwIdeal.Gen

theorem pay1_lay : k0_pay1 (F := Ideal) = lay2 (a := 1024) (b := 1024) .f32 (fun _ _ => 0) := by
  funext j; exact Ideal.ofBits_zero_f32

theorem pay2_lay (x y z : ℕ → ℕ → EReal) :
    k0_pay2 (F := Ideal) (lay2 (a := 2048) (b := 1024) .bf16 x) (lay2 (a := 2048) (b := 1024) .bf16 y) (lay2 (a := 1024) (b := 1024) .f32 z)
      = lay2 (a := 1024) (b := 1024) .f32 (fun i j => z i j + ∑ k ∈ range 2048, x k i * y k j) := by
  unfold k0_pay2
  funext j; idx_vars j; pointwise [lay2]
  simp only [Finset.sum_range]

theorem pay3_lay (z : ℕ → ℕ → EReal) :
    k0_pay3 (F := Ideal) (lay2 (a := 1024) (b := 1024) .f32 z) = lay2 (a := 1024) (b := 1024) .bf16 z := rfl

/-- The accumulator holds what the point before left in it. -/
theorem carried (z : Vec Ideal S1024x1024 .f32) (h : (Memref.whole cc0_scratch0).IsWhole) :
    View.read (Elt Ideal) (View.whole cc0_scratch0) (h.unread z) = z := h.read_unread z

theorem index_0 : ∀ t : Fin cfg0.N, win0_0.index t (0 : Fin 2) = t.val % 2 ∧ win0_0.index t (1 : Fin 2) = t.val / 4 :=
  (by decide +kernel : ∀ t : Fin grid0.N, win0_0.index t (0 : Fin 2) = t.val % 2 ∧ win0_0.index t (1 : Fin 2) = t.val / 4)
theorem index_1 : ∀ t : Fin cfg0.N, win0_1.index t (0 : Fin 2) = t.val % 2 ∧ win0_1.index t (1 : Fin 2) = t.val / 2 % 2 :=
  (by decide +kernel : ∀ t : Fin grid0.N, win0_1.index t (0 : Fin 2) = t.val % 2 ∧ win0_1.index t (1 : Fin 2) = t.val / 2 % 2)

variable (m : (l : Loc nD τ sig) → Buf (Elt Ideal) l) (c : Dev nD) (X Y : ℕ → ℕ → EReal)

/-- The arguments, as matrices. -/
structure Args : Prop where
  mix : m (c, Proc.tc.devRef main_arg0) = lay2 (a := 4096) (b := 2048) .f32 X
  dx : m (c, Proc.tc.devRef main_arg1) = lay2 (a := 4096) (b := 2048) .f32 Y

variable (A : Args m c X Y)
include A

theorem v0_at : V m c main_v0 = lay2 (a := 4096) (b := 2048) .bf16 X := by
  unfold V
  after_reads_simp
  clean_types
  rw [A.mix]
  rfl

theorem v1_at : V m c main_v1 = lay2 (a := 4096) (b := 2048) .bf16 Y := by
  unfold V
  after_reads_simp
  clean_types
  rw [A.dx]
  rfl

theorem block_0 (t : Fin cfg0.N) :
    (iblk m c 0 t : FVec Ideal ⟨2, ![2048, 1024]⟩ .bf16) = lay2 .bf16 (fun i j => X (2048 * (t.val % 2) + i) (1024 * (t.val / 4) + j)) := by
  funext j
  unfold iblk
  rw [View.read_apply]
  show V m c main_v0 _ = _
  rw [v0_at m c X Y A]
  show X (win0_0.index t (0 : Fin 2) * 2048 + 1 * (j 0).val) (win0_0.index t (1 : Fin 2) * 1024 + 1 * (j 1).val) = X _ _
  rw [(index_0 t).1, (index_0 t).2]
  congr 1 <;> omega

theorem block_1 (t : Fin cfg0.N) :
    (iblk m c 1 t : FVec Ideal ⟨2, ![2048, 1024]⟩ .bf16) = lay2 .bf16 (fun i j => Y (2048 * (t.val % 2) + i) (1024 * (t.val / 2 % 2) + j)) := by
  funext j
  unfold iblk
  rw [View.read_apply]
  show V m c main_v1 _ = _
  rw [v1_at m c X Y A]
  show Y (win0_1.index t (0 : Fin 2) * 2048 + 1 * (j 0).val) (win0_1.index t (1 : Fin 2) * 1024 + 1 * (j 1).val) = Y _ _
  rw [(index_1 t).1, (index_1 t).2]
  congr 1 <;> omega

/-- The first half's products. -/
theorem acc_first (t : Fin cfg0.N) (h0 : t.val % 2 = 0) (h1 : ¬t.val % 2 = 1) :
    (outsAt0 m c t.val t.isLt).2 = lay2 (a := 1024) (b := 1024) .f32 (fun i j => ∑ k ∈ range 2048, X k (1024 * (t.val / 4) + i) * Y k (1024 * (t.val / 2 % 2) + j)) := by
  rw [outsAt0_A m c t h0 h1]
  frame_out
  rw [block_0 m c X Y A t, block_1 m c X Y A t, pay1_lay, pay2_lay]
  refine lay2_congr fun i _ j _ => ?_
  rw [zero_add, h0]
  simp only [Nat.mul_zero, Nat.zero_add]

/-- What the second half's point writes. -/
theorem out_last (t : Fin cfg0.N) (h0 : ¬t.val % 2 = 0) (h1 : t.val % 2 = 1) :
    (outsAt0 m c t.val t.isLt).1 = lay2 (a := 1024) (b := 1024) .bf16 (fun i j => ∑ k ∈ range 4096, X k (1024 * (t.val / 4) + i) * Y k (1024 * (t.val / 2 % 2) + j)) := by
  have hp : t.val - 1 < cfg0.N := lt_of_le_of_lt (Nat.sub_le _ _) t.isLt
  have e := acc_first m c X Y A ⟨t.val - 1, hp⟩ (by dsimp only; omega) (by dsimp only; omega)
  rw [outsAt0_B m c t h0 h1]
  frame_out
  dsimp only at e
  rw [e, block_0 m c X Y A t, block_1 m c X Y A t, carried, pay2_lay, pay3_lay]
  refine lay2_congr fun i _ j _ => ?_
  rw [h1, show (4096 : ℕ) = 2048 + 2048 from rfl, sum_range_add, show (t.val - 1) / 2 % 2 = t.val / 2 % 2 by omega, show (t.val - 1) / 4 = t.val / 4 by omega]

/-- The kernel's result. -/
theorem result : Value.G2 (F := Ideal) m c = (lay2 (a := 2048) (b := 2048) .bf16
    (fun i j => ∑ k ∈ range 4096, X k i * Y k j) : FVec Ideal S2048x2048 .bf16) := by
  funext i
  have h0 : (i 0).val < 2048 := (i 0).isLt
  have h1 : (i 1).val < 2048 := (i 1).isLt
  have hN : cfg0.N = 8 := N_0
  obtain ⟨n, hn⟩ : ∃ n, Value.pt2Of i = n := ⟨_, rfl⟩
  have en : n = 4 * ((i 0).val / 1024) + 2 * ((i 1).val / 1024) + 1 := by
    rw [← hn]; dsimp only [Value.pt2Of, Value.run2Of]; omega
  have hp : Value.pt2Of i < cfg0.N := by rw [hN, hn, en]; omega
  unfold Value.G2
  rw [dif_pos hp, ← Value.outsAt0_sweep m c _ hp, out_last m c X Y A ⟨_, hp⟩ (by dsimp only; rw [hn]; omega) (by dsimp only; rw [hn]; omega)]
  dsimp only
  rw [hn]
  show ∑ k ∈ range 4096, X k (1024 * (n / 4) + (i 0).val % 1024) * Y k (1024 * (n / 2 % 2) + (i 1).val % 1024) = ∑ k ∈ range 4096, X k (i 0).val * Y k (i 1).val
  rw [show 1024 * (n / 2 % 2) + (i 1).val % 1024 = (i 1).val by omega, show 1024 * (n / 4) + (i 0).val % 1024 = (i 0).val by omega]

end

/-! ### The reference -/

section
open Cert.MixDwReferenceIdeal Cert.MixDwReferenceIdeal.Gen

theorem reference (X Y : ℕ → ℕ → EReal) (x : FVec Ideal S4096x2048 .f32) (y : FVec Ideal S4096x2048 .f32) (hx : x = lay2 .f32 X) (hy : y = lay2 .f32 Y) :
    truncf .bf16 (transpose S2048x2048 [1, 0] (Host.dotGeneral (F := Ideal) dot_S4096x2048_S4096x2048_S2048x2048_0_0_1_1_n_n none y x) transposes_S2048x2048_S2048x2048_1_0) bitsLt_bf16_f32
      = lay2 (a := 2048) (b := 2048) .bf16 (fun i j => ∑ k ∈ range 4096, X k i * Y k j) := by
  subst hx hy
  funext j; idx_vars j; pointwise [lay2]
  rw [Finset.sum_range]
  exact Finset.sum_congr rfl fun k _ => mul_comm _ _

end

end Cert.Proj.MixDw
end
-- ==== Proof.Adam.lean ====
/-
  One step of AdamW on a number: the new moments and the change of the weight (`mom`, `sq`, `move`), with the constants as the
  f32 words both programs write. The gradient of a weight's row is the sum over the eight devices of their parts (`dev`); the
  rows come in parts of equally many rows (`rows4`).
-/
module

public import proofs.«01_k».proof.Proof.Lay

@[expose] public section

set_option maxRecDepth 16384

noncomputable section

open Finset Idealize.ShloMosaic

namespace Cert.Ffn

/-- Every vector of three axes is a stack of matrices. -/
theorem exists_lay3 {a b c : ℕ} {φ : FTy} (x : FVec Ideal ⟨3, ![a, b, c]⟩ φ) : ∃ f, x = lay3 φ f :=
  ⟨fun i j k => if h : i < a ∧ j < b ∧ k < c then x (ValueIdx.ix3 ⟨i, h.1⟩ ⟨j, h.2.1⟩ ⟨k, h.2.2⟩) else 0, by
    funext j
    have h : (j 0).val < a ∧ (j 1).val < b ∧ (j 2).val < c := ⟨(j 0).isLt, (j 1).isLt, (j 2).isLt⟩
    show _ = dite _ _ _
    rw [dif_pos h]
    congr 1
    funext d; fin_cases d <;> rfl⟩

end Cert.Ffn

namespace Cert.Adam
open Cert.Ffn

/-- The number an f32 word names. -/
def word (w : BitVec 32) : EReal := Ideal.ofBits .f32 w

/-- The new first moment, of the gradient and the old one. -/
def mom (g m : EReal) : EReal := word 0x3F666666#32 * m + word 0x3DCCCCCD#32 * g

/-- The new second moment. -/
def sq (g v : EReal) : EReal := word 0x3F7FBE77#32 * v + word 0x3A83126F#32 * (g * g)

/-- The change of the weight. -/
def move (w g m v : EReal) : EReal :=
  word 0xBA83126F#32 * (Ideal.div (Ideal.div (mom g m) (word 0x3F26BD02#32)) (Ideal.sqrt (Ideal.div (sq g v) (word 0x3C231ACC#32)) + word 0x322BCC77#32)
    + word 0x3C23D70A#32 * w)

/-- A part's gradient: the sum of the devices'. -/
def dev (s : ℕ → ℕ → ℕ → EReal) (i j : ℕ) : EReal := ∑ d ∈ range 8, s d i j

theorem dev_eq (s : ℕ → ℕ → ℕ → EReal) (i j : ℕ) :
    s 0 i j + s 1 i j + s 2 i j + s 3 i j + s 4 i j + s 5 i j + s 6 i j + s 7 i j = dev s i j := by
  unfold dev
  simp only [sum_range_succ, sum_range_zero, zero_add]

/-- The rows of a stack of matrices of `l` rows. -/
def rows (l : ℕ) (w : ℕ → ℕ → ℕ → EReal) (i j : ℕ) : EReal := w (i / l) (i % l) j

/-- The gradient's rows, from two parts of `p` rows each; the second may be more parts. -/
def join (p : ℕ) (a b : ℕ → ℕ → EReal) (i j : ℕ) : EReal := if i < p then a i j else b (i - p) j

/-- The gradient, from four parts of `p` rows each. -/
def rows4 (p : ℕ) (s0 s1 s2 s3 : ℕ → ℕ → ℕ → EReal) : ℕ → ℕ → EReal :=
  join p (dev s0) (join p (dev s1) (join p (dev s2) (dev s3)))

/-- What a step gives of a weight, its gradient and its moments: the gradient, the change of the weight, the new moments. -/
abbrev toG : EReal → EReal → EReal → EReal → EReal := fun _ g _ _ => g
abbrev toD : EReal → EReal → EReal → EReal → EReal := move
abbrev toM : EReal → EReal → EReal → EReal → EReal := fun _ g m _ => mom g m
abbrev toV : EReal → EReal → EReal → EReal → EReal := fun _ g _ v => sq g v

section
variable {p : ℕ} {s0 s1 s2 s3 : ℕ → ℕ → ℕ → EReal} {i j : ℕ}

theorem rows4_0 (h : i < p) : rows4 p s0 s1 s2 s3 i j = dev s0 i j := if_pos h

theorem rows4_1 (h : ¬i < p) (h' : i - p < p) : rows4 p s0 s1 s2 s3 i j = dev s1 (i - p) j := (if_neg h).trans (if_pos h')

theorem rows4_2 (h : ¬i < p) (h' : ¬i - p < p) (h'' : i - p - p < p) : rows4 p s0 s1 s2 s3 i j = dev s2 (i - p - p) j :=
  (if_neg h).trans ((if_neg h').trans (if_pos h''))

theorem rows4_3 (h : ¬i < p) (h' : ¬i - p < p) (h'' : ¬i - p - p < p) : rows4 p s0 s1 s2 s3 i j = dev s3 (i - p - p - p) j :=
  (if_neg h).trans ((if_neg h').trans (if_neg h''))
end

/-! The step as the host writes it, on arrays of any shape. -/

/-- A number in every place of a shape. -/
abbrev all (s : Shape) (hb : (⟨0, ![]⟩ : Shape).BroadcastsInDim s (![] : Fin 0 → Fin s.rank)) (w : BitVec 32) : FVec Ideal s .f32 :=
  broadcastInDim s ![] hb (constant ⟨0, ![]⟩ .f32 w)

section
variable {s : Shape} (hb : (⟨0, ![]⟩ : Shape).BroadcastsInDim s (![] : Fin 0 → Fin s.rank)) {w w' g g' m m' v v' : FVec Ideal s .f32}

theorem ref_m (hg : g = g') (hm : m = m') :
    addf (mulf (all s hb 0x3F666666#32) m) (mulf (all s hb 0x3DCCCCCD#32) g) = fun j => mom (g' j) (m' j) := by
  subst hg hm; rfl

theorem ref_v (hg : g = g') (hv : v = v') :
    addf (mulf (all s hb 0x3F7FBE77#32) v) (mulf (all s hb 0x3A83126F#32) (mulf g g)) = fun j => sq (g' j) (v' j) := by
  subst hg hv; rfl

theorem ref_d (hw : w = w') (hg : g = g') (hm : m = m') (hv : v = v') :
    mulf (all s hb 0xBA83126F#32) (addf (Host.divf (Host.divf (addf (mulf (all s hb 0x3F666666#32) m) (mulf (all s hb 0x3DCCCCCD#32) g)) (all s hb 0x3F26BD02#32))
      (addf (Host.sqrt (Host.divf (addf (mulf (all s hb 0x3F7FBE77#32) v) (mulf (all s hb 0x3A83126F#32) (mulf g g))) (all s hb 0x3C231ACC#32))) (all s hb 0x322BCC77#32)))
      (mulf (all s hb 0x3C23D70A#32) w)) = fun j => move (w' j) (g' j) (m' j) (v' j) := by
  subst hw hg hm hv; rfl
end

end Cert.Adam

end
-- ==== Proof.OptAdamUp.lean ====
module
public import proofs.«01_k».proof.Proof.Adam
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamUpReferenceIdeal.Read
public import Idealize.ShloMosaic.Lib.StableHlo.ReadAt
public import Idealize.ShloMosaic.Lib.Pipeline.ValueKit
@[expose] public section
set_option maxRecDepth 16384

/-!
# AdamW on the weights of the up projection

Grid point `t` computes rows `128 t` to `128 t + 127` of the four results: the gradient, the change of the weights and the new
moments. The gradient comes in four parts of 2048 rows, and each point sums the devices' blocks of the part its rows are in.
-/

noncomputable section
open Finset Idealize.ShloMosaic Idealize.SL.Sem
namespace Cert.Adam.Up
open Cert.Ffn

section
open Cert.AdamUpIdeal Cert.AdamUpIdeal.Gen

/-- A block of rows, and all rows. -/
abbrev block (f : ℕ → ℕ → EReal) : FVec Ideal S128x704 .f32 := lay2 (a := 128) (b := 704) .f32 f
abbrev whole (f : ℕ → ℕ → EReal) : FVec Ideal S8192x704 .f32 := lay2 (a := 8192) (b := 704) .f32 f

/-- The block of device `d`. -/
abbrev part (x : FVec Ideal S8x128x704 .bf16) (d : ℕ) (h : ∀ a, (![d, 0, 0] : Fin 3 → ℕ) a + (![1, 128, 704] : Fin 3 → ℕ) a ≤ S8x128x704.size a) :
    FVec Ideal S1x128x704 .bf16 := View.ld (Val := Elt Ideal) (S := S8x128x704) (e' := .bf16) x (Rect.unit ![d, 0, 0] ![1, 128, 704] h)

/-- The kernel's sum over the devices; the four parts' sums are this one. -/
abbrev total (x : FVec Ideal S8x128x704 .bf16) : FVec Ideal S128x704 .f32 := k0_pay4 (F := Ideal)
  (part x 0 inb_S8x128x704_S1x128x704_0_0_0) (part x 1 inb_S8x128x704_S1x128x704_1_0_0) (part x 2 inb_S8x128x704_S1x128x704_2_0_0) (part x 3 inb_S8x128x704_S1x128x704_3_0_0) (part x 4 inb_S8x128x704_S1x128x704_4_0_0) (part x 5 inb_S8x128x704_S1x128x704_5_0_0) (part x 6 inb_S8x128x704_S1x128x704_6_0_0) (part x 7 inb_S8x128x704_S1x128x704_7_0_0)

theorem total_lay (x0 x1 x2 x3 x4 x5 x6 x7 : ℕ → ℕ → ℕ → EReal) :
    k0_pay4 (F := Ideal) (lay3 (a := 1) (b := 128) (c := 704) .bf16 x0) (lay3 .bf16 x1) (lay3 .bf16 x2) (lay3 .bf16 x3) (lay3 .bf16 x4) (lay3 .bf16 x5) (lay3 .bf16 x6) (lay3 .bf16 x7)
      = block (fun i j => x0 0 i j + x1 0 i j + x2 0 i j + x3 0 i j + x4 0 i j + x5 0 i j + x6 0 i j + x7 0 i j) := by
  unfold k0_pay4 block
  funext j; idx_vars j; pointwise [lay2, lay3]

theorem total_of {x : FVec Ideal S8x128x704 .bf16} {s : ℕ → ℕ → ℕ → EReal} (hx : x = lay3 .bf16 s) : total x = block (dev s) := by
  subst hx
  refine (total_lay (fun p i j => s (0 + 1 * p) (0 + 1 * i) (0 + 1 * j)) (fun p i j => s (1 + 1 * p) (0 + 1 * i) (0 + 1 * j)) (fun p i j => s (2 + 1 * p) (0 + 1 * i) (0 + 1 * j)) (fun p i j => s (3 + 1 * p) (0 + 1 * i) (0 + 1 * j)) (fun p i j => s (4 + 1 * p) (0 + 1 * i) (0 + 1 * j)) (fun p i j => s (5 + 1 * p) (0 + 1 * i) (0 + 1 * j)) (fun p i j => s (6 + 1 * p) (0 + 1 * i) (0 + 1 * j)) (fun p i j => s (7 + 1 * p) (0 + 1 * i) (0 + 1 * j))).trans ?_
  refine lay2_congr fun i _ j _ => ?_
  simp only [Nat.mul_zero, Nat.one_mul, Nat.zero_add, Nat.add_zero]
  exact dev_eq s i j

theorem mom_of {x y : FVec Ideal S128x704 .f32} {g m : ℕ → ℕ → EReal} (hx : x = lay2 .f32 g) (hy : y = lay2 .f32 m) :
    k0_pay1 (F := Ideal) (k0_pay8 (F := Ideal) x) (k0_pay9 (F := Ideal) y) = block (fun i j => mom (g i j) (m i j)) := by
  subst hx hy
  unfold k0_pay1 k0_pay8 k0_pay9 block
  funext j; idx_vars j; pointwise [lay2, mom, word]

theorem sq_of {x z : FVec Ideal S128x704 .f32} {g v : ℕ → ℕ → EReal} (hx : x = lay2 .f32 g) (hz : z = lay2 .f32 v) :
    k0_pay2 (F := Ideal) (k0_pay8 (F := Ideal) x) z = block (fun i j => sq (g i j) (v i j)) := by
  subst hx hz
  unfold k0_pay2 k0_pay8 block
  funext j; idx_vars j; pointwise [lay2, sq, word]

theorem move_of {w x y z : FVec Ideal S128x704 .f32} {w' g m v : ℕ → ℕ → EReal} (hw : w = lay2 .f32 w') (hx : x = lay2 .f32 g) (hy : y = lay2 .f32 m) (hz : z = lay2 .f32 v) :
    k0_pay3 (F := Ideal) (k0_pay8 (F := Ideal) x) (k0_pay9 (F := Ideal) y) z w = block (fun i j => move (w' i j) (g i j) (m i j) (v i j)) := by
  subst hw hx hy hz
  unfold k0_pay3 k0_pay1 k0_pay2 k0_pay8 k0_pay9 block
  funext j; idx_vars j; pointwise [lay2, mom, sq, move, word]

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_3 : ∀ t : Fin cfg0.N, win0_3.index t (0 : Fin 3) = 0 ∧ win0_3.index t (1 : Fin 3) = min 15 (t.val - 0) ∧ win0_3.index t (2 : Fin 3) = 0 :=
  (by decide +kernel : ∀ t : Fin grid0.N, _)
theorem index_4 : ∀ t : Fin cfg0.N, win0_4.index t (0 : Fin 3) = 0 ∧ win0_4.index t (1 : Fin 3) = min 15 (t.val - 16) ∧ win0_4.index t (2 : Fin 3) = 0 :=
  (by decide +kernel : ∀ t : Fin grid0.N, _)
theorem index_5 : ∀ t : Fin cfg0.N, win0_5.index t (0 : Fin 3) = 0 ∧ win0_5.index t (1 : Fin 3) = min 15 (t.val - 32) ∧ win0_5.index t (2 : Fin 3) = 0 :=
  (by decide +kernel : ∀ t : Fin grid0.N, _)
theorem index_6 : ∀ t : Fin cfg0.N, win0_6.index t (0 : Fin 3) = 0 ∧ win0_6.index t (1 : Fin 3) = min 15 (t.val - 48) ∧ win0_6.index t (2 : Fin 3) = 0 :=
  (by decide +kernel : ∀ t : Fin grid0.N, _)

/-- A stack of matrices as one matrix. -/
theorem stack_rows {x : FVec Ideal S4x2048x704 .f32} {w : ℕ → ℕ → ℕ → EReal} (hx : x = lay3 .f32 w) (h) : (shapeCast S8192x704 x h : FVec Ideal S8192x704 .f32) = whole (rows 2048 w) := by
  subst hx
  unfold whole
  funext j; idx_vars j; pointwise [lay2, lay3, rows]
  all_goals (congr 1 <;> omega)

variable (m : (l : Loc nD τ sig) → Buf (Elt Ideal) l) (c : Dev nD) (W M V' S0 S1 S2 S3 : ℕ → ℕ → ℕ → EReal)

/-- What a step makes of the rows of the weights, the gradient and the moments. -/
abbrev cells (F : EReal → EReal → EReal → EReal → EReal) (i j : ℕ) : EReal := F (rows 2048 W i j) (rows4 2048 S0 S1 S2 S3 i j) (rows 2048 M i j) (rows 2048 V' i j)

/-- The arguments, as stacks of matrices. -/
structure Args : Prop where
  hw : m (c, Proc.tc.devRef main_arg0) = lay3 (a := 4) (b := 2048) (c := 704) .f32 W
  hm : m (c, Proc.tc.devRef main_arg1) = lay3 (a := 4) (b := 2048) (c := 704) .f32 M
  hv : m (c, Proc.tc.devRef main_arg2) = lay3 (a := 4) (b := 2048) (c := 704) .f32 V'
  s0 : m (c, Proc.tc.devRef main_arg3) = lay3 (a := 8) (b := 2048) (c := 704) .f32 S0
  s1 : m (c, Proc.tc.devRef main_arg4) = lay3 (a := 8) (b := 2048) (c := 704) .f32 S1
  s2 : m (c, Proc.tc.devRef main_arg5) = lay3 (a := 8) (b := 2048) (c := 704) .f32 S2
  s3 : m (c, Proc.tc.devRef main_arg6) = lay3 (a := 8) (b := 2048) (c := 704) .f32 S3

variable (A : Args m c W M V' S0 S1 S2 S3)
include A

theorem v4_at : V m c main_v4 = whole (rows 2048 W) := by
  unfold V
  after_reads_simp
  clean_types
  exact stack_rows A.hw _

theorem block_0 (t : Fin cfg0.N) : (iblk m c 0 t : FVec Ideal ⟨2, ![128, 704]⟩ .f32) = lay2 .f32 (fun i j => rows 2048 W (128 * t.val + i) j) := by
  funext j
  unfold iblk
  rw [View.read_apply]
  show V m c main_v4 _ = _
  rw [v4_at m c W M V' S0 S1 S2 S3 A]
  show rows 2048 W (win0_0.index t (0 : Fin 2) * 128 + 1 * (j 0).val) (win0_0.index t (1 : Fin 2) * 704 + 1 * (j 1).val) = rows 2048 W _ _
  rw [(index_0 t).1, (index_0 t).2]
  congr 1 <;> omega

theorem v5_at : V m c main_v5 = whole (rows 2048 M) := by
  unfold V
  after_reads_simp
  clean_types
  exact stack_rows A.hm _

theorem block_1 (t : Fin cfg0.N) : (iblk m c 1 t : FVec Ideal ⟨2, ![128, 704]⟩ .f32) = lay2 .f32 (fun i j => rows 2048 M (128 * t.val + i) j) := by
  funext j
  unfold iblk
  rw [View.read_apply]
  show V m c main_v5 _ = _
  rw [v5_at m c W M V' S0 S1 S2 S3 A]
  show rows 2048 M (win0_1.index t (0 : Fin 2) * 128 + 1 * (j 0).val) (win0_1.index t (1 : Fin 2) * 704 + 1 * (j 1).val) = rows 2048 M _ _
  rw [(index_1 t).1, (index_1 t).2]
  congr 1 <;> omega

theorem v6_at : V m c main_v6 = whole (rows 2048 V') := by
  unfold V
  after_reads_simp
  clean_types
  exact stack_rows A.hv _

theorem block_2 (t : Fin cfg0.N) : (iblk m c 2 t : FVec Ideal ⟨2, ![128, 704]⟩ .f32) = lay2 .f32 (fun i j => rows 2048 V' (128 * t.val + i) j) := by
  funext j
  unfold iblk
  rw [View.read_apply]
  show V m c main_v6 _ = _
  rw [v6_at m c W M V' S0 S1 S2 S3 A]
  show rows 2048 V' (win0_2.index t (0 : Fin 2) * 128 + 1 * (j 0).val) (win0_2.index t (1 : Fin 2) * 704 + 1 * (j 1).val) = rows 2048 V' _ _
  rw [(index_2 t).1, (index_2 t).2]
  congr 1 <;> omega

theorem v0_at : V m c main_v0 = lay3 (a := 8) (b := 2048) (c := 704) .bf16 S0 := by
  unfold V
  after_reads_simp
  clean_types
  rw [A.s0]
  rfl

theorem block_3 (t : Fin cfg0.N) : (iblk m c 3 t : FVec Ideal ⟨3, ![8, 128, 704]⟩ .bf16) = lay3 .bf16 (fun d i j => S0 d (128 * min 15 (t.val - 0) + i) j) := by
  funext j
  unfold iblk
  rw [View.read_apply]
  show V m c main_v0 _ = _
  rw [v0_at m c W M V' S0 S1 S2 S3 A]
  show S0 (win0_3.index t (0 : Fin 3) * 8 + 1 * (j 0).val) (win0_3.index t (1 : Fin 3) * 128 + 1 * (j 1).val) (win0_3.index t (2 : Fin 3) * 704 + 1 * (j 2).val) = S0 _ _ _
  rw [(index_3 t).1, (index_3 t).2.1, (index_3 t).2.2]
  congr 1 <;> omega

/-- A point of part 0 sums the devices' blocks of it. -/
theorem part_0 (t : Fin cfg0.N) (h' : t.val < 16) : total (iblk m c 3 t) = block (fun i j => rows4 2048 S0 S1 S2 S3 (128 * t.val + i) j) := by
  have ht : t.val < 64 := t.isLt
  refine (total_of (block_3 m c W M V' S0 S1 S2 S3 A t)).trans (lay2_congr fun i hi j _ => ?_)
  rw [rows4_0 (by omega), show 128 * t.val + i = 128 * min 15 (t.val - 0) + i by omega]
  rfl

theorem v1_at : V m c main_v1 = lay3 (a := 8) (b := 2048) (c := 704) .bf16 S1 := by
  unfold V
  after_reads_simp
  clean_types
  rw [A.s1]
  rfl

theorem block_4 (t : Fin cfg0.N) : (iblk m c 4 t : FVec Ideal ⟨3, ![8, 128, 704]⟩ .bf16) = lay3 .bf16 (fun d i j => S1 d (128 * min 15 (t.val - 16) + i) j) := by
  funext j
  unfold iblk
  rw [View.read_apply]
  show V m c main_v1 _ = _
  rw [v1_at m c W M V' S0 S1 S2 S3 A]
  show S1 (win0_4.index t (0 : Fin 3) * 8 + 1 * (j 0).val) (win0_4.index t (1 : Fin 3) * 128 + 1 * (j 1).val) (win0_4.index t (2 : Fin 3) * 704 + 1 * (j 2).val) = S1 _ _ _
  rw [(index_4 t).1, (index_4 t).2.1, (index_4 t).2.2]
  congr 1 <;> omega

/-- A point of part 1 sums the devices' blocks of it. -/
theorem part_1 (t : Fin cfg0.N) (h : 16 ≤ t.val) (h' : t.val < 32) : total (iblk m c 4 t) = block (fun i j => rows4 2048 S0 S1 S2 S3 (128 * t.val + i) j) := by
  have ht : t.val < 64 := t.isLt
  refine (total_of (block_4 m c W M V' S0 S1 S2 S3 A t)).trans (lay2_congr fun i hi j _ => ?_)
  rw [rows4_1 (by omega) (by omega), show 128 * t.val + i - 2048 = 128 * min 15 (t.val - 16) + i by omega]
  rfl

theorem v2_at : V m c main_v2 = lay3 (a := 8) (b := 2048) (c := 704) .bf16 S2 := by
  unfold V
  after_reads_simp
  clean_types
  rw [A.s2]
  rfl

theorem block_5 (t : Fin cfg0.N) : (iblk m c 5 t : FVec Ideal ⟨3, ![8, 128, 704]⟩ .bf16) = lay3 .bf16 (fun d i j => S2 d (128 * min 15 (t.val - 32) + i) j) := by
  funext j
  unfold iblk
  rw [View.read_apply]
  show V m c main_v2 _ = _
  rw [v2_at m c W M V' S0 S1 S2 S3 A]
  show S2 (win0_5.index t (0 : Fin 3) * 8 + 1 * (j 0).val) (win0_5.index t (1 : Fin 3) * 128 + 1 * (j 1).val) (win0_5.index t (2 : Fin 3) * 704 + 1 * (j 2).val) = S2 _ _ _
  rw [(index_5 t).1, (index_5 t).2.1, (index_5 t).2.2]
  congr 1 <;> omega

/-- A point of part 2 sums the devices' blocks of it. -/
theorem part_2 (t : Fin cfg0.N) (h : 32 ≤ t.val) (h' : t.val < 48) : total (iblk m c 5 t) = block (fun i j => rows4 2048 S0 S1 S2 S3 (128 * t.val + i) j) := by
  have ht : t.val < 64 := t.isLt
  refine (total_of (block_5 m c W M V' S0 S1 S2 S3 A t)).trans (lay2_congr fun i hi j _ => ?_)
  rw [rows4_2 (by omega) (by omega) (by omega), show 128 * t.val + i - 2048 - 2048 = 128 * min 15 (t.val - 32) + i by omega]
  rfl

theorem v3_at : V m c main_v3 = lay3 (a := 8) (b := 2048) (c := 704) .bf16 S3 := by
  unfold V
  after_reads_simp
  clean_types
  rw [A.s3]
  rfl

theorem block_6 (t : Fin cfg0.N) : (iblk m c 6 t : FVec Ideal ⟨3, ![8, 128, 704]⟩ .bf16) = lay3 .bf16 (fun d i j => S3 d (128 * min 15 (t.val - 48) + i) j) := by
  funext j
  unfold iblk
  rw [View.read_apply]
  show V m c main_v3 _ = _
  rw [v3_at m c W M V' S0 S1 S2 S3 A]
  show S3 (win0_6.index t (0 : Fin 3) * 8 + 1 * (j 0).val) (win0_6.index t (1 : Fin 3) * 128 + 1 * (j 1).val) (win0_6.index t (2 : Fin 3) * 704 + 1 * (j 2).val) = S3 _ _ _
  rw [(index_6 t).1, (index_6 t).2.1, (index_6 t).2.2]
  congr 1 <;> omega

/-- A point of part 3 sums the devices' blocks of it. -/
theorem part_3 (t : Fin cfg0.N) (h : 48 ≤ t.val) : total (iblk m c 6 t) = block (fun i j => rows4 2048 S0 S1 S2 S3 (128 * t.val + i) j) := by
  have ht : t.val < 64 := t.isLt
  refine (total_of (block_6 m c W M V' S0 S1 S2 S3 A t)).trans (lay2_congr fun i hi j _ => ?_)
  rw [rows4_3 (by omega) (by omega) (by omega), show 128 * t.val + i - 2048 - 2048 - 2048 = 128 * min 15 (t.val - 48) + i by omega]
  rfl

/-- What point `t` leaves for the four results. -/
theorem at_point (t : Fin cfg0.N) : outsAt0 m c t.val t.isLt
    = (block (fun i j => cells W M V' S0 S1 S2 S3 toG (128 * t.val + i) j), block (fun i j => cells W M V' S0 S1 S2 S3 toD (128 * t.val + i) j), block (fun i j => cells W M V' S0 S1 S2 S3 toM (128 * t.val + i) j), block (fun i j => cells W M V' S0 S1 S2 S3 toV (128 * t.val + i) j)) := by
  have ht : t.val < 64 := t.isLt
  rcases (by omega : t.val < 16 ∨ (16 ≤ t.val ∧ t.val < 32) ∨ (32 ≤ t.val ∧ t.val < 48) ∨ 48 ≤ t.val) with h | h | h | h
  have e := part_0 m c W M V' S0 S1 S2 S3 A t h; rw [outsAt0_A m c t (by omega) (by omega) (by omega) (by omega)]; rotate_left
  have e := part_1 m c W M V' S0 S1 S2 S3 A t h.1 h.2; rw [outsAt0_B m c t (by omega) (by omega) (by omega) (by omega)]; rotate_left
  have e := part_2 m c W M V' S0 S1 S2 S3 A t h.1 h.2; rw [outsAt0_C m c t (by omega) (by omega) (by omega) (by omega)]; rotate_left
  have e := part_3 m c W M V' S0 S1 S2 S3 A t h; rw [outsAt0_D m c t (by omega) (by omega) (by omega) (by omega)]; rotate_left
  all_goals (refine Prod.ext ?_ (Prod.ext ?_ (Prod.ext ?_ ?_)) <;> (dsimp only; frame_out))
  iterate 4
    exact e
    exact move_of (block_0 m c W M V' S0 S1 S2 S3 A t) e (block_1 m c W M V' S0 S1 S2 S3 A t) (block_2 m c W M V' S0 S1 S2 S3 A t)
    exact mom_of e (block_1 m c W M V' S0 S1 S2 S3 A t)
    exact sq_of e (block_2 m c W M V' S0 S1 S2 S3 A t)

/-- The gradient. -/
theorem result_g : (dats m 0 c).arrAt 7 cfg0.N = whole (cells W M V' S0 S1 S2 S3 toG) := by
  refine (dats m 0 c).arrAt_eq_of_covers 7 _ (by decide +kernel) fun t hf y => ?_
  blk_simp
  rw [after0_7, at_point m c W M V' S0 S1 S2 S3 A t]
  show cells W M V' S0 S1 S2 S3 toG (128 * t.val + (y (0 : Fin 2)).val) (y (1 : Fin 2)).val
    = cells W M V' S0 S1 S2 S3 toG (win0_7.index t (0 : Fin 2) * 128 + 1 * (y (0 : Fin 2)).val) (win0_7.index t (1 : Fin 2) * 704 + 1 * (y (1 : Fin 2)).val)
  rw [(index_7 t).1, (index_7 t).2, show t.val * 128 + 1 * (y (0 : Fin 2)).val = 128 * t.val + (y (0 : Fin 2)).val by omega, show 0 * 704 + 1 * (y (1 : Fin 2)).val = (y (1 : Fin 2)).val by omega]

/-- The change of the weights. -/
theorem result_d : (dats m 0 c).arrAt 8 cfg0.N = whole (cells W M V' S0 S1 S2 S3 toD) := by
  refine (dats m 0 c).arrAt_eq_of_covers 8 _ (by decide +kernel) fun t hf y => ?_
  blk_simp
  rw [after0_8, at_point m c W M V' S0 S1 S2 S3 A t]
  show cells W M V' S0 S1 S2 S3 toD (128 * t.val + (y (0 : Fin 2)).val) (y (1 : Fin 2)).val
    = cells W M V' S0 S1 S2 S3 toD (win0_8.index t (0 : Fin 2) * 128 + 1 * (y (0 : Fin 2)).val) (win0_8.index t (1 : Fin 2) * 704 + 1 * (y (1 : Fin 2)).val)
  rw [(index_8 t).1, (index_8 t).2, show t.val * 128 + 1 * (y (0 : Fin 2)).val = 128 * t.val + (y (0 : Fin 2)).val by omega, show 0 * 704 + 1 * (y (1 : Fin 2)).val = (y (1 : Fin 2)).val by omega]

/-- The new first moment. -/
theorem result_m : (dats m 0 c).arrAt 9 cfg0.N = whole (cells W M V' S0 S1 S2 S3 toM) := by
  refine (dats m 0 c).arrAt_eq_of_covers 9 _ (by decide +kernel) fun t hf y => ?_
  blk_simp
  rw [after0_9, at_point m c W M V' S0 S1 S2 S3 A t]
  show cells W M V' S0 S1 S2 S3 toM (128 * t.val + (y (0 : Fin 2)).val) (y (1 : Fin 2)).val
    = cells W M V' S0 S1 S2 S3 toM (win0_9.index t (0 : Fin 2) * 128 + 1 * (y (0 : Fin 2)).val) (win0_9.index t (1 : Fin 2) * 704 + 1 * (y (1 : Fin 2)).val)
  rw [(index_9 t).1, (index_9 t).2, show t.val * 128 + 1 * (y (0 : Fin 2)).val = 128 * t.val + (y (0 : Fin 2)).val by omega, show 0 * 704 + 1 * (y (1 : Fin 2)).val = (y (1 : Fin 2)).val by omega]

/-- The new second moment. -/
theorem result_v : (dats m 0 c).arrAt 10 cfg0.N = whole (cells W M V' S0 S1 S2 S3 toV) := by
  refine (dats m 0 c).arrAt_eq_of_covers 10 _ (by decide +kernel) fun t hf y => ?_
  blk_simp
  rw [after0_10, at_point m c W M V' S0 S1 S2 S3 A t]
  show cells W M V' S0 S1 S2 S3 toV (128 * t.val + (y (0 : Fin 2)).val) (y (1 : Fin 2)).val
    = cells W M V' S0 S1 S2 S3 toV (win0_10.index t (0 : Fin 2) * 128 + 1 * (y (0 : Fin 2)).val) (win0_10.index t (1 : Fin 2) * 704 + 1 * (y (1 : Fin 2)).val)
  rw [(index_10 t).1, (index_10 t).2, show t.val * 128 + 1 * (y (0 : Fin 2)).val = 128 * t.val + (y (0 : Fin 2)).val by omega, show 0 * 704 + 1 * (y (1 : Fin 2)).val = (y (1 : Fin 2)).val by omega]

end

/-! ### The reference -/

section
open Cert.AdamUpReferenceIdeal Cert.AdamUpReferenceIdeal.Gen Cert.AdamUpReferenceIdeal.Read
variable {W M V' S0 S1 S2 S3 : ℕ → ℕ → ℕ → EReal}

/-- The sum over the devices. -/
theorem sum_lay {x : FVec Ideal S8x2048x704 .f32} {s : ℕ → ℕ → ℕ → EReal} (hx : x = lay3 .f32 s) : val_main_v3 (F := Ideal) x = lay2 (a := 2048) (b := 704) .f32 (dev s) := by
  subst hx
  funext j; idx_vars j
  refine (val_main_v3_apply _ _).trans ?_
  rw [val_main_cst_apply]
  show Ideal.ofBits .f32 0x00000000#32 + ∑ k : Fin 8, s k.val _ _ = ∑ d ∈ range 8, s d _ _
  rw [Ideal.ofBits_zero_f32, zero_add, Finset.sum_range]

theorem concat_lay {x0 x1 x2 x3 : FVec Ideal S2048x704 .f32} {a0 a1 a2 a3 : ℕ → ℕ → EReal} (h0 : x0 = lay2 .f32 a0) (h1 : x1 = lay2 .f32 a1) (h2 : x2 = lay2 .f32 a2) (h3 : x3 = lay2 .f32 a3) (h) :
    concatenate S8192x704 0 [⟨S2048x704, x0⟩, ⟨S2048x704, x1⟩, ⟨S2048x704, x2⟩, ⟨S2048x704, x3⟩] h = whole (join 2048 a0 (join 2048 a1 (join 2048 a2 a3))) := by
  subst h0 h1 h2 h3
  unfold whole
  funext j; idx_vars j; pointwise [lay2, join]
  all_goals simp only [dite_eq_ite]

/-- The gradient, the change of the weights and the new moments, as the reference computes them. -/
theorem reference {w m v : FVec Ideal S4x2048x704 .f32} {s0 s1 s2 s3 : FVec Ideal S8x2048x704 .f32} (ew : w = lay3 .f32 W) (em : m = lay3 .f32 M) (ev : v = lay3 .f32 V') (e0 : s0 = lay3 .f32 S0) (e1 : s1 = lay3 .f32 S1) (e2 : s2 = lay3 .f32 S2) (e3 : s3 = lay3 .f32 S3) :
    val_main_v7 (F := Ideal) s0 s1 s2 s3 = whole (cells W M V' S0 S1 S2 S3 toG) ∧ val_main_v31 (F := Ideal) w m v s0 s1 s2 s3 = whole (cells W M V' S0 S1 S2 S3 toD)
    ∧ val_main_v12 (F := Ideal) m s0 s1 s2 s3 = whole (cells W M V' S0 S1 S2 S3 toM) ∧ val_main_v18 (F := Ideal) v s0 s1 s2 s3 = whole (cells W M V' S0 S1 S2 S3 toV) := by
  have eg : val_main_v7 (F := Ideal) s0 s1 s2 s3 = whole (rows4 2048 S0 S1 S2 S3) := concat_lay (sum_lay e0) (sum_lay e1) (sum_lay e2) (sum_lay e3) _
  exact ⟨eg, ref_d _ (stack_rows ew _) eg (stack_rows em _) (stack_rows ev _), ref_m _ eg (stack_rows em _), ref_v _ eg (stack_rows ev _)⟩
end

end Cert.Adam.Up
end
-- ==== Proof.OptAdamOut.lean ====
module
public import proofs.«01_k».proof.Proof.Adam
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import Idealize.ShloMosaic.Lib.StableHlo.ReadAt
public import Idealize.ShloMosaic.Lib.Pipeline.ValueKit
@[expose] public section
set_option maxRecDepth 16384

/-!
# AdamW on the weights of the output projection

Grid point `t` computes rows `64 t` to `64 t + 63` of the four results: the gradient, the change of the weights and the new
moments. The gradient comes in four parts of 256 rows, and each point sums the devices' blocks of the part its rows are in.
-/

noncomputable section
open Finset Idealize.ShloMosaic Idealize.SL.Sem
namespace Cert.Adam.Out
open Cert.Ffn

section
open Cert.AdamOutIdeal Cert.AdamOutIdeal.Gen

/-- A block of rows, and all rows. -/
abbrev block (f : ℕ → ℕ → EReal) : FVec Ideal S64x2048 .f32 := lay2 (a := 64) (b := 2048) .f32 f
abbrev whole (f : ℕ → ℕ → EReal) : FVec Ideal S1024x2048 .f32 := lay2 (a := 1024) (b := 2048) .f32 f

/-- The block of device `d`. -/
abbrev part (x : FVec Ideal S8x64x2048 .bf16) (d : ℕ) (h : ∀ a, (![d, 0, 0] : Fin 3 → ℕ) a + (![1, 64, 2048] : Fin 3 → ℕ) a ≤ S8x64x2048.size a) :
    FVec Ideal S1x64x2048 .bf16 := View.ld (Val := Elt Ideal) (S := S8x64x2048) (e' := .bf16) x (Rect.unit ![d, 0, 0] ![1, 64, 2048] h)

/-- The kernel's sum over the devices; the four parts' sums are this one. -/
abbrev total (x : FVec Ideal S8x64x2048 .bf16) : FVec Ideal S64x2048 .f32 := k0_pay4 (F := Ideal)
  (part x 0 inb_S8x64x2048_S1x64x2048_0_0_0) (part x 1 inb_S8x64x2048_S1x64x2048_1_0_0) (part x 2 inb_S8x64x2048_S1x64x2048_2_0_0) (part x 3 inb_S8x64x2048_S1x64x2048_3_0_0) (part x 4 inb_S8x64x2048_S1x64x2048_4_0_0) (part x 5 inb_S8x64x2048_S1x64x2048_5_0_0) (part x 6 inb_S8x64x2048_S1x64x2048_6_0_0) (part x 7 inb_S8x64x2048_S1x64x2048_7_0_0)

theorem total_lay (x0 x1 x2 x3 x4 x5 x6 x7 : ℕ → ℕ → ℕ → EReal) :
    k0_pay4 (F := Ideal) (lay3 (a := 1) (b := 64) (c := 2048) .bf16 x0) (lay3 .bf16 x1) (lay3 .bf16 x2) (lay3 .bf16 x3) (lay3 .bf16 x4) (lay3 .bf16 x5) (lay3 .bf16 x6) (lay3 .bf16 x7)
      = block (fun i j => x0 0 i j + x1 0 i j + x2 0 i j + x3 0 i j + x4 0 i j + x5 0 i j + x6 0 i j + x7 0 i j) := by
  unfold k0_pay4 block
  funext j; idx_vars j; pointwise [lay2, lay3]

theorem total_of {x : FVec Ideal S8x64x2048 .bf16} {s : ℕ → ℕ → ℕ → EReal} (hx : x = lay3 .bf16 s) : total x = block (dev s) := by
  subst hx
  refine (total_lay (fun p i j => s (0 + 1 * p) (0 + 1 * i) (0 + 1 * j)) (fun p i j => s (1 + 1 * p) (0 + 1 * i) (0 + 1 * j)) (fun p i j => s (2 + 1 * p) (0 + 1 * i) (0 + 1 * j)) (fun p i j => s (3 + 1 * p) (0 + 1 * i) (0 + 1 * j)) (fun p i j => s (4 + 1 * p) (0 + 1 * i) (0 + 1 * j)) (fun p i j => s (5 + 1 * p) (0 + 1 * i) (0 + 1 * j)) (fun p i j => s (6 + 1 * p) (0 + 1 * i) (0 + 1 * j)) (fun p i j => s (7 + 1 * p) (0 + 1 * i) (0 + 1 * j))).trans ?_
  refine lay2_congr fun i _ j _ => ?_
  simp only [Nat.mul_zero, Nat.one_mul, Nat.zero_add, Nat.add_zero]
  exact dev_eq s i j

theorem mom_of {x y : FVec Ideal S64x2048 .f32} {g m : ℕ → ℕ → EReal} (hx : x = lay2 .f32 g) (hy : y = lay2 .f32 m) :
    k0_pay1 (F := Ideal) (k0_pay8 (F := Ideal) x) (k0_pay9 (F := Ideal) y) = block (fun i j => mom (g i j) (m i j)) := by
  subst hx hy
  unfold k0_pay1 k0_pay8 k0_pay9 block
  funext j; idx_vars j; pointwise [lay2, mom, word]

theorem sq_of {x z : FVec Ideal S64x2048 .f32} {g v : ℕ → ℕ → EReal} (hx : x = lay2 .f32 g) (hz : z = lay2 .f32 v) :
    k0_pay2 (F := Ideal) (k0_pay8 (F := Ideal) x) z = block (fun i j => sq (g i j) (v i j)) := by
  subst hx hz
  unfold k0_pay2 k0_pay8 block
  funext j; idx_vars j; pointwise [lay2, sq, word]

theorem move_of {w x y z : FVec Ideal S64x2048 .f32} {w' g m v : ℕ → ℕ → EReal} (hw : w = lay2 .f32 w') (hx : x = lay2 .f32 g) (hy : y = lay2 .f32 m) (hz : z = lay2 .f32 v) :
    k0_pay3 (F := Ideal) (k0_pay8 (F := Ideal) x) (k0_pay9 (F := Ideal) y) z w = block (fun i j => move (w' i j) (g i j) (m i j) (v i j)) := by
  subst hw hx hy hz
  unfold k0_pay3 k0_pay1 k0_pay2 k0_pay8 k0_pay9 block
  funext j; idx_vars j; pointwise [lay2, mom, sq, move, word]

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_3 : ∀ t : Fin cfg0.N, win0_3.index t (0 : Fin 3) = 0 ∧ win0_3.index t (1 : Fin 3) = min 3 (t.val - 0) ∧ win0_3.index t (2 : Fin 3) = 0 :=
  (by decide +kernel : ∀ t : Fin grid0.N, _)
theorem index_4 : ∀ t : Fin cfg0.N, win0_4.index t (0 : Fin 3) = 0 ∧ win0_4.index t (1 : Fin 3) = min 3 (t.val - 4) ∧ win0_4.index t (2 : Fin 3) = 0 :=
  (by decide +kernel : ∀ t : Fin grid0.N, _)
theorem index_5 : ∀ t : Fin cfg0.N, win0_5.index t (0 : Fin 3) = 0 ∧ win0_5.index t (1 : Fin 3) = min 3 (t.val - 8) ∧ win0_5.index t (2 : Fin 3) = 0 :=
  (by decide +kernel : ∀ t : Fin grid0.N, _)
theorem index_6 : ∀ t : Fin cfg0.N, win0_6.index t (0 : Fin 3) = 0 ∧ win0_6.index t (1 : Fin 3) = min 3 (t.val - 12) ∧ win0_6.index t (2 : Fin 3) = 0 :=
  (by decide +kernel : ∀ t : Fin grid0.N, _)

/-- A stack of matrices as one matrix. -/
theorem stack_rows {x : FVec Ideal S4x256x2048 .f32} {w : ℕ → ℕ → ℕ → EReal} (hx : x = lay3 .f32 w) (h) : (shapeCast S1024x2048 x h : FVec Ideal S1024x2048 .f32) = whole (rows 256 w) := by
  subst hx
  unfold whole
  funext j; idx_vars j; pointwise [lay2, lay3, rows]
  all_goals (congr 1 <;> omega)

variable (m : (l : Loc nD τ sig) → Buf (Elt Ideal) l) (c : Dev nD) (W M V' S0 S1 S2 S3 : ℕ → ℕ → ℕ → EReal)

/-- What a step makes of the rows of the weights, the gradient and the moments. -/
abbrev cells (F : EReal → EReal → EReal → EReal → EReal) (i j : ℕ) : EReal := F (rows 256 W i j) (rows4 256 S0 S1 S2 S3 i j) (rows 256 M i j) (rows 256 V' i j)

/-- The arguments, as stacks of matrices. -/
structure Args : Prop where
  hw : m (c, Proc.tc.devRef main_arg0) = lay3 (a := 4) (b := 256) (c := 2048) .f32 W
  hm : m (c, Proc.tc.devRef main_arg1) = lay3 (a := 4) (b := 256) (c := 2048) .f32 M
  hv : m (c, Proc.tc.devRef main_arg2) = lay3 (a := 4) (b := 256) (c := 2048) .f32 V'
  s0 : m (c, Proc.tc.devRef main_arg3) = lay3 (a := 8) (b := 256) (c := 2048) .f32 S0
  s1 : m (c, Proc.tc.devRef main_arg4) = lay3 (a := 8) (b := 256) (c := 2048) .f32 S1
  s2 : m (c, Proc.tc.devRef main_arg5) = lay3 (a := 8) (b := 256) (c := 2048) .f32 S2
  s3 : m (c, Proc.tc.devRef main_arg6) = lay3 (a := 8) (b := 256) (c := 2048) .f32 S3

variable (A : Args m c W M V' S0 S1 S2 S3)
include A

theorem v4_at : V m c main_v4 = whole (rows 256 W) := by
  unfold V
  after_reads_simp
  clean_types
  exact stack_rows A.hw _

theorem block_0 (t : Fin cfg0.N) : (iblk m c 0 t : FVec Ideal ⟨2, ![64, 2048]⟩ .f32) = lay2 .f32 (fun i j => rows 256 W (64 * t.val + i) j) := by
  funext j
  unfold iblk
  rw [View.read_apply]
  show V m c main_v4 _ = _
  rw [v4_at m c W M V' S0 S1 S2 S3 A]
  show rows 256 W (win0_0.index t (0 : Fin 2) * 64 + 1 * (j 0).val) (win0_0.index t (1 : Fin 2) * 2048 + 1 * (j 1).val) = rows 256 W _ _
  rw [(index_0 t).1, (index_0 t).2]
  congr 1 <;> omega

theorem v5_at : V m c main_v5 = whole (rows 256 M) := by
  unfold V
  after_reads_simp
  clean_types
  exact stack_rows A.hm _

theorem block_1 (t : Fin cfg0.N) : (iblk m c 1 t : FVec Ideal ⟨2, ![64, 2048]⟩ .f32) = lay2 .f32 (fun i j => rows 256 M (64 * t.val + i) j) := by
  funext j
  unfold iblk
  rw [View.read_apply]
  show V m c main_v5 _ = _
  rw [v5_at m c W M V' S0 S1 S2 S3 A]
  show rows 256 M (win0_1.index t (0 : Fin 2) * 64 + 1 * (j 0).val) (win0_1.index t (1 : Fin 2) * 2048 + 1 * (j 1).val) = rows 256 M _ _
  rw [(index_1 t).1, (index_1 t).2]
  congr 1 <;> omega

theorem v6_at : V m c main_v6 = whole (rows 256 V') := by
  unfold V
  after_reads_simp
  clean_types
  exact stack_rows A.hv _

theorem block_2 (t : Fin cfg0.N) : (iblk m c 2 t : FVec Ideal ⟨2, ![64, 2048]⟩ .f32) = lay2 .f32 (fun i j => rows 256 V' (64 * t.val + i) j) := by
  funext j
  unfold iblk
  rw [View.read_apply]
  show V m c main_v6 _ = _
  rw [v6_at m c W M V' S0 S1 S2 S3 A]
  show rows 256 V' (win0_2.index t (0 : Fin 2) * 64 + 1 * (j 0).val) (win0_2.index t (1 : Fin 2) * 2048 + 1 * (j 1).val) = rows 256 V' _ _
  rw [(index_2 t).1, (index_2 t).2]
  congr 1 <;> omega

theorem v0_at : V m c main_v0 = lay3 (a := 8) (b := 256) (c := 2048) .bf16 S0 := by
  unfold V
  after_reads_simp
  clean_types
  rw [A.s0]
  rfl

theorem block_3 (t : Fin cfg0.N) : (iblk m c 3 t : FVec Ideal ⟨3, ![8, 64, 2048]⟩ .bf16) = lay3 .bf16 (fun d i j => S0 d (64 * min 3 (t.val - 0) + i) j) := by
  funext j
  unfold iblk
  rw [View.read_apply]
  show V m c main_v0 _ = _
  rw [v0_at m c W M V' S0 S1 S2 S3 A]
  show S0 (win0_3.index t (0 : Fin 3) * 8 + 1 * (j 0).val) (win0_3.index t (1 : Fin 3) * 64 + 1 * (j 1).val) (win0_3.index t (2 : Fin 3) * 2048 + 1 * (j 2).val) = S0 _ _ _
  rw [(index_3 t).1, (index_3 t).2.1, (index_3 t).2.2]
  congr 1 <;> omega

/-- A point of part 0 sums the devices' blocks of it. -/
theorem part_0 (t : Fin cfg0.N) (h' : t.val < 4) : total (iblk m c 3 t) = block (fun i j => rows4 256 S0 S1 S2 S3 (64 * t.val + i) j) := by
  have ht : t.val < 16 := t.isLt
  refine (total_of (block_3 m c W M V' S0 S1 S2 S3 A t)).trans (lay2_congr fun i hi j _ => ?_)
  rw [rows4_0 (by omega), show 64 * t.val + i = 64 * min 3 (t.val - 0) + i by omega]
  rfl

theorem v1_at : V m c main_v1 = lay3 (a := 8) (b := 256) (c := 2048) .bf16 S1 := by
  unfold V
  after_reads_simp
  clean_types
  rw [A.s1]
  rfl

theorem block_4 (t : Fin cfg0.N) : (iblk m c 4 t : FVec Ideal ⟨3, ![8, 64, 2048]⟩ .bf16) = lay3 .bf16 (fun d i j => S1 d (64 * min 3 (t.val - 4) + i) j) := by
  funext j
  unfold iblk
  rw [View.read_apply]
  show V m c main_v1 _ = _
  rw [v1_at m c W M V' S0 S1 S2 S3 A]
  show S1 (win0_4.index t (0 : Fin 3) * 8 + 1 * (j 0).val) (win0_4.index t (1 : Fin 3) * 64 + 1 * (j 1).val) (win0_4.index t (2 : Fin 3) * 2048 + 1 * (j 2).val) = S1 _ _ _
  rw [(index_4 t).1, (index_4 t).2.1, (index_4 t).2.2]
  congr 1 <;> omega

/-- A point of part 1 sums the devices' blocks of it. -/
theorem part_1 (t : Fin cfg0.N) (h : 4 ≤ t.val) (h' : t.val < 8) : total (iblk m c 4 t) = block (fun i j => rows4 256 S0 S1 S2 S3 (64 * t.val + i) j) := by
  have ht : t.val < 16 := t.isLt
  refine (total_of (block_4 m c W M V' S0 S1 S2 S3 A t)).trans (lay2_congr fun i hi j _ => ?_)
  rw [rows4_1 (by omega) (by omega), show 64 * t.val + i - 256 = 64 * min 3 (t.val - 4) + i by omega]
  rfl

theorem v2_at : V m c main_v2 = lay3 (a := 8) (b := 256) (c := 2048) .bf16 S2 := by
  unfold V
  after_reads_simp
  clean_types
  rw [A.s2]
  rfl

theorem block_5 (t : Fin cfg0.N) : (iblk m c 5 t : FVec Ideal ⟨3, ![8, 64, 2048]⟩ .bf16) = lay3 .bf16 (fun d i j => S2 d (64 * min 3 (t.val - 8) + i) j) := by
  funext j
  unfold iblk
  rw [View.read_apply]
  show V m c main_v2 _ = _
  rw [v2_at m c W M V' S0 S1 S2 S3 A]
  show S2 (win0_5.index t (0 : Fin 3) * 8 + 1 * (j 0).val) (win0_5.index t (1 : Fin 3) * 64 + 1 * (j 1).val) (win0_5.index t (2 : Fin 3) * 2048 + 1 * (j 2).val) = S2 _ _ _
  rw [(index_5 t).1, (index_5 t).2.1, (index_5 t).2.2]
  congr 1 <;> omega

/-- A point of part 2 sums the devices' blocks of it. -/
theorem part_2 (t : Fin cfg0.N) (h : 8 ≤ t.val) (h' : t.val < 12) : total (iblk m c 5 t) = block (fun i j => rows4 256 S0 S1 S2 S3 (64 * t.val + i) j) := by
  have ht : t.val < 16 := t.isLt
  refine (total_of (block_5 m c W M V' S0 S1 S2 S3 A t)).trans (lay2_congr fun i hi j _ => ?_)
  rw [rows4_2 (by omega) (by omega) (by omega), show 64 * t.val + i - 256 - 256 = 64 * min 3 (t.val - 8) + i by omega]
  rfl

theorem v3_at : V m c main_v3 = lay3 (a := 8) (b := 256) (c := 2048) .bf16 S3 := by
  unfold V
  after_reads_simp
  clean_types
  rw [A.s3]
  rfl

theorem block_6 (t : Fin cfg0.N) : (iblk m c 6 t : FVec Ideal ⟨3, ![8, 64, 2048]⟩ .bf16) = lay3 .bf16 (fun d i j => S3 d (64 * min 3 (t.val - 12) + i) j) := by
  funext j
  unfold iblk
  rw [View.read_apply]
  show V m c main_v3 _ = _
  rw [v3_at m c W M V' S0 S1 S2 S3 A]
  show S3 (win0_6.index t (0 : Fin 3) * 8 + 1 * (j 0).val) (win0_6.index t (1 : Fin 3) * 64 + 1 * (j 1).val) (win0_6.index t (2 : Fin 3) * 2048 + 1 * (j 2).val) = S3 _ _ _
  rw [(index_6 t).1, (index_6 t).2.1, (index_6 t).2.2]
  congr 1 <;> omega

/-- A point of part 3 sums the devices' blocks of it. -/
theorem part_3 (t : Fin cfg0.N) (h : 12 ≤ t.val) : total (iblk m c 6 t) = block (fun i j => rows4 256 S0 S1 S2 S3 (64 * t.val + i) j) := by
  have ht : t.val < 16 := t.isLt
  refine (total_of (block_6 m c W M V' S0 S1 S2 S3 A t)).trans (lay2_congr fun i hi j _ => ?_)
  rw [rows4_3 (by omega) (by omega) (by omega), show 64 * t.val + i - 256 - 256 - 256 = 64 * min 3 (t.val - 12) + i by omega]
  rfl

/-- What point `t` leaves for the four results. -/
theorem at_point (t : Fin cfg0.N) : outsAt0 m c t.val t.isLt
    = (block (fun i j => cells W M V' S0 S1 S2 S3 toG (64 * t.val + i) j), block (fun i j => cells W M V' S0 S1 S2 S3 toD (64 * t.val + i) j), block (fun i j => cells W M V' S0 S1 S2 S3 toM (64 * t.val + i) j), block (fun i j => cells W M V' S0 S1 S2 S3 toV (64 * t.val + i) j)) := by
  have ht : t.val < 16 := t.isLt
  rcases (by omega : t.val < 4 ∨ (4 ≤ t.val ∧ t.val < 8) ∨ (8 ≤ t.val ∧ t.val < 12) ∨ 12 ≤ t.val) with h | h | h | h
  have e := part_0 m c W M V' S0 S1 S2 S3 A t h; rw [outsAt0_A m c t (by omega) (by omega) (by omega) (by omega)]; rotate_left
  have e := part_1 m c W M V' S0 S1 S2 S3 A t h.1 h.2; rw [outsAt0_B m c t (by omega) (by omega) (by omega) (by omega)]; rotate_left
  have e := part_2 m c W M V' S0 S1 S2 S3 A t h.1 h.2; rw [outsAt0_C m c t (by omega) (by omega) (by omega) (by omega)]; rotate_left
  have e := part_3 m c W M V' S0 S1 S2 S3 A t h; rw [outsAt0_D m c t (by omega) (by omega) (by omega) (by omega)]; rotate_left
  all_goals (refine Prod.ext ?_ (Prod.ext ?_ (Prod.ext ?_ ?_)) <;> (dsimp only; frame_out))
  iterate 4
    exact e
    exact move_of (block_0 m c W M V' S0 S1 S2 S3 A t) e (block_1 m c W M V' S0 S1 S2 S3 A t) (block_2 m c W M V' S0 S1 S2 S3 A t)
    exact mom_of e (block_1 m c W M V' S0 S1 S2 S3 A t)
    exact sq_of e (block_2 m c W M V' S0 S1 S2 S3 A t)

/-- The gradient. -/
theorem result_g : (dats m 0 c).arrAt 7 cfg0.N = whole (cells W M V' S0 S1 S2 S3 toG) := by
  refine (dats m 0 c).arrAt_eq_of_covers 7 _ (by decide +kernel) fun t hf y => ?_
  blk_simp
  rw [after0_7, at_point m c W M V' S0 S1 S2 S3 A t]
  show cells W M V' S0 S1 S2 S3 toG (64 * t.val + (y (0 : Fin 2)).val) (y (1 : Fin 2)).val
    = cells W M V' S0 S1 S2 S3 toG (win0_7.index t (0 : Fin 2) * 64 + 1 * (y (0 : Fin 2)).val) (win0_7.index t (1 : Fin 2) * 2048 + 1 * (y (1 : Fin 2)).val)
  rw [(index_7 t).1, (index_7 t).2, show t.val * 64 + 1 * (y (0 : Fin 2)).val = 64 * t.val + (y (0 : Fin 2)).val by omega, show 0 * 2048 + 1 * (y (1 : Fin 2)).val = (y (1 : Fin 2)).val by omega]

/-- The change of the weights. -/
theorem result_d : (dats m 0 c).arrAt 8 cfg0.N = whole (cells W M V' S0 S1 S2 S3 toD) := by
  refine (dats m 0 c).arrAt_eq_of_covers 8 _ (by decide +kernel) fun t hf y => ?_
  blk_simp
  rw [after0_8, at_point m c W M V' S0 S1 S2 S3 A t]
  show cells W M V' S0 S1 S2 S3 toD (64 * t.val + (y (0 : Fin 2)).val) (y (1 : Fin 2)).val
    = cells W M V' S0 S1 S2 S3 toD (win0_8.index t (0 : Fin 2) * 64 + 1 * (y (0 : Fin 2)).val) (win0_8.index t (1 : Fin 2) * 2048 + 1 * (y (1 : Fin 2)).val)
  rw [(index_8 t).1, (index_8 t).2, show t.val * 64 + 1 * (y (0 : Fin 2)).val = 64 * t.val + (y (0 : Fin 2)).val by omega, show 0 * 2048 + 1 * (y (1 : Fin 2)).val = (y (1 : Fin 2)).val by omega]

/-- The new first moment. -/
theorem result_m : (dats m 0 c).arrAt 9 cfg0.N = whole (cells W M V' S0 S1 S2 S3 toM) := by
  refine (dats m 0 c).arrAt_eq_of_covers 9 _ (by decide +kernel) fun t hf y => ?_
  blk_simp
  rw [after0_9, at_point m c W M V' S0 S1 S2 S3 A t]
  show cells W M V' S0 S1 S2 S3 toM (64 * t.val + (y (0 : Fin 2)).val) (y (1 : Fin 2)).val
    = cells W M V' S0 S1 S2 S3 toM (win0_9.index t (0 : Fin 2) * 64 + 1 * (y (0 : Fin 2)).val) (win0_9.index t (1 : Fin 2) * 2048 + 1 * (y (1 : Fin 2)).val)
  rw [(index_9 t).1, (index_9 t).2, show t.val * 64 + 1 * (y (0 : Fin 2)).val = 64 * t.val + (y (0 : Fin 2)).val by omega, show 0 * 2048 + 1 * (y (1 : Fin 2)).val = (y (1 : Fin 2)).val by omega]

/-- The new second moment. -/
theorem result_v : (dats m 0 c).arrAt 10 cfg0.N = whole (cells W M V' S0 S1 S2 S3 toV) := by
  refine (dats m 0 c).arrAt_eq_of_covers 10 _ (by decide +kernel) fun t hf y => ?_
  blk_simp
  rw [after0_10, at_point m c W M V' S0 S1 S2 S3 A t]
  show cells W M V' S0 S1 S2 S3 toV (64 * t.val + (y (0 : Fin 2)).val) (y (1 : Fin 2)).val
    = cells W M V' S0 S1 S2 S3 toV (win0_10.index t (0 : Fin 2) * 64 + 1 * (y (0 : Fin 2)).val) (win0_10.index t (1 : Fin 2) * 2048 + 1 * (y (1 : Fin 2)).val)
  rw [(index_10 t).1, (index_10 t).2, show t.val * 64 + 1 * (y (0 : Fin 2)).val = 64 * t.val + (y (0 : Fin 2)).val by omega, show 0 * 2048 + 1 * (y (1 : Fin 2)).val = (y (1 : Fin 2)).val by omega]

end

/-! ### The reference -/

section
open Cert.AdamOutReferenceIdeal Cert.AdamOutReferenceIdeal.Gen Cert.AdamOutReferenceIdeal.Read
variable {W M V' S0 S1 S2 S3 : ℕ → ℕ → ℕ → EReal}

/-- The sum over the devices. -/
theorem sum_lay {x : FVec Ideal S8x256x2048 .f32} {s : ℕ → ℕ → ℕ → EReal} (hx : x = lay3 .f32 s) : val_main_v3 (F := Ideal) x = lay2 (a := 256) (b := 2048) .f32 (dev s) := by
  subst hx
  funext j; idx_vars j
  refine (val_main_v3_apply _ _).trans ?_
  rw [val_main_cst_apply]
  show Ideal.ofBits .f32 0x00000000#32 + ∑ k : Fin 8, s k.val _ _ = ∑ d ∈ range 8, s d _ _
  rw [Ideal.ofBits_zero_f32, zero_add, Finset.sum_range]

theorem concat_lay {x0 x1 x2 x3 : FVec Ideal S256x2048 .f32} {a0 a1 a2 a3 : ℕ → ℕ → EReal} (h0 : x0 = lay2 .f32 a0) (h1 : x1 = lay2 .f32 a1) (h2 : x2 = lay2 .f32 a2) (h3 : x3 = lay2 .f32 a3) (h) :
    concatenate S1024x2048 0 [⟨S256x2048, x0⟩, ⟨S256x2048, x1⟩, ⟨S256x2048, x2⟩, ⟨S256x2048, x3⟩] h = whole (join 256 a0 (join 256 a1 (join 256 a2 a3))) := by
  subst h0 h1 h2 h3
  unfold whole
  funext j; idx_vars j; pointwise [lay2, join]
  all_goals simp only [dite_eq_ite]

/-- The gradient, the change of the weights and the new moments, as the reference computes them. -/
theorem reference {w m v : FVec Ideal S4x256x2048 .f32} {s0 s1 s2 s3 : FVec Ideal S8x256x2048 .f32} (ew : w = lay3 .f32 W) (em : m = lay3 .f32 M) (ev : v = lay3 .f32 V') (e0 : s0 = lay3 .f32 S0) (e1 : s1 = lay3 .f32 S1) (e2 : s2 = lay3 .f32 S2) (e3 : s3 = lay3 .f32 S3) :
    val_main_v7 (F := Ideal) s0 s1 s2 s3 = whole (cells W M V' S0 S1 S2 S3 toG) ∧ val_main_v31 (F := Ideal) w m v s0 s1 s2 s3 = whole (cells W M V' S0 S1 S2 S3 toD)
    ∧ val_main_v12 (F := Ideal) m s0 s1 s2 s3 = whole (cells W M V' S0 S1 S2 S3 toM) ∧ val_main_v18 (F := Ideal) v s0 s1 s2 s3 = whole (cells W M V' S0 S1 S2 S3 toV) := by
  have eg : val_main_v7 (F := Ideal) s0 s1 s2 s3 = whole (rows4 256 S0 S1 S2 S3) := concat_lay (sum_lay e0) (sum_lay e1) (sum_lay e2) (sum_lay e3) _
  exact ⟨eg, ref_d _ (stack_rows ew _) eg (stack_rows em _) (stack_rows ev _), ref_m _ eg (stack_rows em _), ref_v _ eg (stack_rows ev _)⟩
end

end Cert.Adam.Out
end
-- ==== Proof.OptAdamUq.lean ====
module
public import proofs.«01_k».proof.Proof.Adam
public import proofs.«01_k».proof.Proof.Gen.AdamUq
public import proofs.«01_k».proof.Proof.Gen.AdamUq.Frame
public import proofs.«01_k».proof.Proof.Gen.AdamUqIdeal
public import proofs.«01_k».proof.Proof.Gen.AdamUqIdeal.Frame
public import proofs.«01_k».proof.Proof.Gen.AdamUqIdeal.Value
public import proofs.«01_k».proof.Proof.Gen.AdamUqReferenceIdeal
public import proofs.«01_k».proof.Proof.Gen.AdamUqReferenceIdeal.Run
public import proofs.«01_k».proof.Proof.Gen.AdamUqReferenceIdeal.Read
public import Idealize.ShloMosaic.Lib.StableHlo.ReadAt
public import Idealize.ShloMosaic.Lib.Pipeline.ValueKit
@[expose] public section
set_option maxRecDepth 16384

/-!
# AdamW on the weights of the queries' second projection

Grid point `t` computes rows `512 t` to `512 t + 511` of the four results: the gradient, the change of the weights and the new
moments. The gradient comes in four parts of 512 rows, and each point sums the devices' blocks of the part its rows are in.
-/

noncomputable section
open Finset Idealize.ShloMosaic Idealize.SL.Sem
namespace Cert.Adam.Uq
open Cert.Ffn

section
open Cert.AdamUqIdeal Cert.AdamUqIdeal.Gen

/-- A block of rows, and all rows. -/
abbrev block (f : ℕ → ℕ → EReal) : FVec Ideal S512x96 .f32 := lay2 (a := 512) (b := 96) .f32 f
abbrev whole (f : ℕ → ℕ → EReal) : FVec Ideal S2048x96 .f32 := lay2 (a := 2048) (b := 96) .f32 f

/-- The block of device `d`. -/
abbrev part (x : FVec Ideal S8x512x96 .bf16) (d : ℕ) (h : ∀ a, (![d, 0, 0] : Fin 3 → ℕ) a + (![1, 512, 96] : Fin 3 → ℕ) a ≤ S8x512x96.size a) :
    FVec Ideal S1x512x96 .bf16 := View.ld (Val := Elt Ideal) (S := S8x512x96) (e' := .bf16) x (Rect.unit ![d, 0, 0] ![1, 512, 96] h)

/-- The kernel's sum over the devices; the four parts' sums are this one. -/
abbrev total (x : FVec Ideal S8x512x96 .bf16) : FVec Ideal S512x96 .f32 := k0_pay4 (F := Ideal)
  (part x 0 inb_S8x512x96_S1x512x96_0_0_0) (part x 1 inb_S8x512x96_S1x512x96_1_0_0) (part x 2 inb_S8x512x96_S1x512x96_2_0_0) (part x 3 inb_S8x512x96_S1x512x96_3_0_0) (part x 4 inb_S8x512x96_S1x512x96_4_0_0) (part x 5 inb_S8x512x96_S1x512x96_5_0_0) (part x 6 inb_S8x512x96_S1x512x96_6_0_0) (part x 7 inb_S8x512x96_S1x512x96_7_0_0)

theorem total_lay (x0 x1 x2 x3 x4 x5 x6 x7 : ℕ → ℕ → ℕ → EReal) :
    k0_pay4 (F := Ideal) (lay3 (a := 1) (b := 512) (c := 96) .bf16 x0) (lay3 .bf16 x1) (lay3 .bf16 x2) (lay3 .bf16 x3) (lay3 .bf16 x4) (lay3 .bf16 x5) (lay3 .bf16 x6) (lay3 .bf16 x7)
      = block (fun i j => x0 0 i j + x1 0 i j + x2 0 i j + x3 0 i j + x4 0 i j + x5 0 i j + x6 0 i j + x7 0 i j) := by
  unfold k0_pay4 block
  funext j; idx_vars j; pointwise [lay2, lay3]

theorem total_of {x : FVec Ideal S8x512x96 .bf16} {s : ℕ → ℕ → ℕ → EReal} (hx : x = lay3 .bf16 s) : total x = block (dev s) := by
  subst hx
  refine (total_lay (fun p i j => s (0 + 1 * p) (0 + 1 * i) (0 + 1 * j)) (fun p i j => s (1 + 1 * p) (0 + 1 * i) (0 + 1 * j)) (fun p i j => s (2 + 1 * p) (0 + 1 * i) (0 + 1 * j)) (fun p i j => s (3 + 1 * p) (0 + 1 * i) (0 + 1 * j)) (fun p i j => s (4 + 1 * p) (0 + 1 * i) (0 + 1 * j)) (fun p i j => s (5 + 1 * p) (0 + 1 * i) (0 + 1 * j)) (fun p i j => s (6 + 1 * p) (0 + 1 * i) (0 + 1 * j)) (fun p i j => s (7 + 1 * p) (0 + 1 * i) (0 + 1 * j))).trans ?_
  refine lay2_congr fun i _ j _ => ?_
  simp only [Nat.mul_zero, Nat.one_mul, Nat.zero_add, Nat.add_zero]
  exact dev_eq s i j

theorem mom_of {x y : FVec Ideal S512x96 .f32} {g m : ℕ → ℕ → EReal} (hx : x = lay2 .f32 g) (hy : y = lay2 .f32 m) :
    k0_pay1 (F := Ideal) (k0_pay8 (F := Ideal) x) (k0_pay9 (F := Ideal) y) = block (fun i j => mom (g i j) (m i j)) := by
  subst hx hy
  unfold k0_pay1 k0_pay8 k0_pay9 block
  funext j; idx_vars j; pointwise [lay2, mom, word]

theorem sq_of {x z : FVec Ideal S512x96 .f32} {g v : ℕ → ℕ → EReal} (hx : x = lay2 .f32 g) (hz : z = lay2 .f32 v) :
    k0_pay2 (F := Ideal) (k0_pay8 (F := Ideal) x) z = block (fun i j => sq (g i j) (v i j)) := by
  subst hx hz
  unfold k0_pay2 k0_pay8 block
  funext j; idx_vars j; pointwise [lay2, sq, word]

theorem move_of {w x y z : FVec Ideal S512x96 .f32} {w' g m v : ℕ → ℕ → EReal} (hw : w = lay2 .f32 w') (hx : x = lay2 .f32 g) (hy : y = lay2 .f32 m) (hz : z = lay2 .f32 v) :
    k0_pay3 (F := Ideal) (k0_pay8 (F := Ideal) x) (k0_pay9 (F := Ideal) y) z w = block (fun i j => move (w' i j) (g i j) (m i j) (v i j)) := by
  subst hw hx hy hz
  unfold k0_pay3 k0_pay1 k0_pay2 k0_pay8 k0_pay9 block
  funext j; idx_vars j; pointwise [lay2, mom, sq, move, word]

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_3 : ∀ t : Fin cfg0.N, win0_3.index t (0 : Fin 3) = 0 ∧ win0_3.index t (1 : Fin 3) = min 0 (t.val - 0) ∧ win0_3.index t (2 : Fin 3) = 0 :=
  (by decide +kernel : ∀ t : Fin grid0.N, _)
theorem index_4 : ∀ t : Fin cfg0.N, win0_4.index t (0 : Fin 3) = 0 ∧ win0_4.index t (1 : Fin 3) = min 0 (t.val - 1) ∧ win0_4.index t (2 : Fin 3) = 0 :=
  (by decide +kernel : ∀ t : Fin grid0.N, _)
theorem index_5 : ∀ t : Fin cfg0.N, win0_5.index t (0 : Fin 3) = 0 ∧ win0_5.index t (1 : Fin 3) = min 0 (t.val - 2) ∧ win0_5.index t (2 : Fin 3) = 0 :=
  (by decide +kernel : ∀ t : Fin grid0.N, _)
theorem index_6 : ∀ t : Fin cfg0.N, win0_6.index t (0 : Fin 3) = 0 ∧ win0_6.index t (1 : Fin 3) = min 0 (t.val - 3) ∧ win0_6.index t (2 : Fin 3) = 0 :=
  (by decide +kernel : ∀ t : Fin grid0.N, _)

/-- A stack of matrices as one matrix. -/
theorem stack_rows {x : FVec Ideal S4x512x96 .f32} {w : ℕ → ℕ → ℕ → EReal} (hx : x = lay3 .f32 w) (h) : (shapeCast S2048x96 x h : FVec Ideal S2048x96 .f32) = whole (rows 512 w) := by
  subst hx
  unfold whole
  funext j; idx_vars j; pointwise [lay2, lay3, rows]
  all_goals (congr 1 <;> omega)

variable (m : (l : Loc nD τ sig) → Buf (Elt Ideal) l) (c : Dev nD) (W M V' S0 S1 S2 S3 : ℕ → ℕ → ℕ → EReal)

/-- What a step makes of the rows of the weights, the gradient and the moments. -/
abbrev cells (F : EReal → EReal → EReal → EReal → EReal) (i j : ℕ) : EReal := F (rows 512 W i j) (rows4 512 S0 S1 S2 S3 i j) (rows 512 M i j) (rows 512 V' i j)

/-- The arguments, as stacks of matrices. -/
structure Args : Prop where
  hw : m (c, Proc.tc.devRef main_arg0) = lay3 (a := 4) (b := 512) (c := 96) .f32 W
  hm : m (c, Proc.tc.devRef main_arg1) = lay3 (a := 4) (b := 512) (c := 96) .f32 M
  hv : m (c, Proc.tc.devRef main_arg2) = lay3 (a := 4) (b := 512) (c := 96) .f32 V'
  s0 : m (c, Proc.tc.devRef main_arg3) = lay3 (a := 8) (b := 512) (c := 96) .f32 S0
  s1 : m (c, Proc.tc.devRef main_arg4) = lay3 (a := 8) (b := 512) (c := 96) .f32 S1
  s2 : m (c, Proc.tc.devRef main_arg5) = lay3 (a := 8) (b := 512) (c := 96) .f32 S2
  s3 : m (c, Proc.tc.devRef main_arg6) = lay3 (a := 8) (b := 512) (c := 96) .f32 S3

variable (A : Args m c W M V' S0 S1 S2 S3)
include A

theorem v4_at : V m c main_v4 = whole (rows 512 W) := by
  unfold V
  after_reads_simp
  clean_types
  exact stack_rows A.hw _

theorem block_0 (t : Fin cfg0.N) : (iblk m c 0 t : FVec Ideal ⟨2, ![512, 96]⟩ .f32) = lay2 .f32 (fun i j => rows 512 W (512 * t.val + i) j) := by
  funext j
  unfold iblk
  rw [View.read_apply]
  show V m c main_v4 _ = _
  rw [v4_at m c W M V' S0 S1 S2 S3 A]
  show rows 512 W (win0_0.index t (0 : Fin 2) * 512 + 1 * (j 0).val) (win0_0.index t (1 : Fin 2) * 96 + 1 * (j 1).val) = rows 512 W _ _
  rw [(index_0 t).1, (index_0 t).2]
  congr 1 <;> omega

theorem v5_at : V m c main_v5 = whole (rows 512 M) := by
  unfold V
  after_reads_simp
  clean_types
  exact stack_rows A.hm _

theorem block_1 (t : Fin cfg0.N) : (iblk m c 1 t : FVec Ideal ⟨2, ![512, 96]⟩ .f32) = lay2 .f32 (fun i j => rows 512 M (512 * t.val + i) j) := by
  funext j
  unfold iblk
  rw [View.read_apply]
  show V m c main_v5 _ = _
  rw [v5_at m c W M V' S0 S1 S2 S3 A]
  show rows 512 M (win0_1.index t (0 : Fin 2) * 512 + 1 * (j 0).val) (win0_1.index t (1 : Fin 2) * 96 + 1 * (j 1).val) = rows 512 M _ _
  rw [(index_1 t).1, (index_1 t).2]
  congr 1 <;> omega

theorem v6_at : V m c main_v6 = whole (rows 512 V') := by
  unfold V
  after_reads_simp
  clean_types
  exact stack_rows A.hv _

theorem block_2 (t : Fin cfg0.N) : (iblk m c 2 t : FVec Ideal ⟨2, ![512, 96]⟩ .f32) = lay2 .f32 (fun i j => rows 512 V' (512 * t.val + i) j) := by
  funext j
  unfold iblk
  rw [View.read_apply]
  show V m c main_v6 _ = _
  rw [v6_at m c W M V' S0 S1 S2 S3 A]
  show rows 512 V' (win0_2.index t (0 : Fin 2) * 512 + 1 * (j 0).val) (win0_2.index t (1 : Fin 2) * 96 + 1 * (j 1).val) = rows 512 V' _ _
  rw [(index_2 t).1, (index_2 t).2]
  congr 1 <;> omega

theorem v0_at : V m c main_v0 = lay3 (a := 8) (b := 512) (c := 96) .bf16 S0 := by
  unfold V
  after_reads_simp
  clean_types
  rw [A.s0]
  rfl

theorem block_3 (t : Fin cfg0.N) : (iblk m c 3 t : FVec Ideal ⟨3, ![8, 512, 96]⟩ .bf16) = lay3 .bf16 (fun d i j => S0 d (512 * min 0 (t.val - 0) + i) j) := by
  funext j
  unfold iblk
  rw [View.read_apply]
  show V m c main_v0 _ = _
  rw [v0_at m c W M V' S0 S1 S2 S3 A]
  show S0 (win0_3.index t (0 : Fin 3) * 8 + 1 * (j 0).val) (win0_3.index t (1 : Fin 3) * 512 + 1 * (j 1).val) (win0_3.index t (2 : Fin 3) * 96 + 1 * (j 2).val) = S0 _ _ _
  rw [(index_3 t).1, (index_3 t).2.1, (index_3 t).2.2]
  congr 1 <;> omega

/-- A point of part 0 sums the devices' blocks of it. -/
theorem part_0 (t : Fin cfg0.N) (h' : t.val < 1) : total (iblk m c 3 t) = block (fun i j => rows4 512 S0 S1 S2 S3 (512 * t.val + i) j) := by
  have ht : t.val < 4 := t.isLt
  refine (total_of (block_3 m c W M V' S0 S1 S2 S3 A t)).trans (lay2_congr fun i hi j _ => ?_)
  rw [rows4_0 (by omega), show 512 * t.val + i = 512 * min 0 (t.val - 0) + i by omega]
  rfl

theorem v1_at : V m c main_v1 = lay3 (a := 8) (b := 512) (c := 96) .bf16 S1 := by
  unfold V
  after_reads_simp
  clean_types
  rw [A.s1]
  rfl

theorem block_4 (t : Fin cfg0.N) : (iblk m c 4 t : FVec Ideal ⟨3, ![8, 512, 96]⟩ .bf16) = lay3 .bf16 (fun d i j => S1 d (512 * min 0 (t.val - 1) + i) j) := by
  funext j
  unfold iblk
  rw [View.read_apply]
  show V m c main_v1 _ = _
  rw [v1_at m c W M V' S0 S1 S2 S3 A]
  show S1 (win0_4.index t (0 : Fin 3) * 8 + 1 * (j 0).val) (win0_4.index t (1 : Fin 3) * 512 + 1 * (j 1).val) (win0_4.index t (2 : Fin 3) * 96 + 1 * (j 2).val) = S1 _ _ _
  rw [(index_4 t).1, (index_4 t).2.1, (index_4 t).2.2]
  congr 1 <;> omega

/-- A point of part 1 sums the devices' blocks of it. -/
theorem part_1 (t : Fin cfg0.N) (h : 1 ≤ t.val) (h' : t.val < 2) : total (iblk m c 4 t) = block (fun i j => rows4 512 S0 S1 S2 S3 (512 * t.val + i) j) := by
  have ht : t.val < 4 := t.isLt
  refine (total_of (block_4 m c W M V' S0 S1 S2 S3 A t)).trans (lay2_congr fun i hi j _ => ?_)
  rw [rows4_1 (by omega) (by omega), show 512 * t.val + i - 512 = 512 * min 0 (t.val - 1) + i by omega]
  rfl

theorem v2_at : V m c main_v2 = lay3 (a := 8) (b := 512) (c := 96) .bf16 S2 := by
  unfold V
  after_reads_simp
  clean_types
  rw [A.s2]
  rfl

theorem block_5 (t : Fin cfg0.N) : (iblk m c 5 t : FVec Ideal ⟨3, ![8, 512, 96]⟩ .bf16) = lay3 .bf16 (fun d i j => S2 d (512 * min 0 (t.val - 2) + i) j) := by
  funext j
  unfold iblk
  rw [View.read_apply]
  show V m c main_v2 _ = _
  rw [v2_at m c W M V' S0 S1 S2 S3 A]
  show S2 (win0_5.index t (0 : Fin 3) * 8 + 1 * (j 0).val) (win0_5.index t (1 : Fin 3) * 512 + 1 * (j 1).val) (win0_5.index t (2 : Fin 3) * 96 + 1 * (j 2).val) = S2 _ _ _
  rw [(index_5 t).1, (index_5 t).2.1, (index_5 t).2.2]
  congr 1 <;> omega

/-- A point of part 2 sums the devices' blocks of it. -/
theorem part_2 (t : Fin cfg0.N) (h : 2 ≤ t.val) (h' : t.val < 3) : total (iblk m c 5 t) = block (fun i j => rows4 512 S0 S1 S2 S3 (512 * t.val + i) j) := by
  have ht : t.val < 4 := t.isLt
  refine (total_of (block_5 m c W M V' S0 S1 S2 S3 A t)).trans (lay2_congr fun i hi j _ => ?_)
  rw [rows4_2 (by omega) (by omega) (by omega), show 512 * t.val + i - 512 - 512 = 512 * min 0 (t.val - 2) + i by omega]
  rfl

theorem v3_at : V m c main_v3 = lay3 (a := 8) (b := 512) (c := 96) .bf16 S3 := by
  unfold V
  after_reads_simp
  clean_types
  rw [A.s3]
  rfl

theorem block_6 (t : Fin cfg0.N) : (iblk m c 6 t : FVec Ideal ⟨3, ![8, 512, 96]⟩ .bf16) = lay3 .bf16 (fun d i j => S3 d (512 * min 0 (t.val - 3) + i) j) := by
  funext j
  unfold iblk
  rw [View.read_apply]
  show V m c main_v3 _ = _
  rw [v3_at m c W M V' S0 S1 S2 S3 A]
  show S3 (win0_6.index t (0 : Fin 3) * 8 + 1 * (j 0).val) (win0_6.index t (1 : Fin 3) * 512 + 1 * (j 1).val) (win0_6.index t (2 : Fin 3) * 96 + 1 * (j 2).val) = S3 _ _ _
  rw [(index_6 t).1, (index_6 t).2.1, (index_6 t).2.2]
  congr 1 <;> omega

/-- A point of part 3 sums the devices' blocks of it. -/
theorem part_3 (t : Fin cfg0.N) (h : 3 ≤ t.val) : total (iblk m c 6 t) = block (fun i j => rows4 512 S0 S1 S2 S3 (512 * t.val + i) j) := by
  have ht : t.val < 4 := t.isLt
  refine (total_of (block_6 m c W M V' S0 S1 S2 S3 A t)).trans (lay2_congr fun i hi j _ => ?_)
  rw [rows4_3 (by omega) (by omega) (by omega), show 512 * t.val + i - 512 - 512 - 512 = 512 * min 0 (t.val - 3) + i by omega]
  rfl

/-- What point `t` leaves for the four results. -/
theorem at_point (t : Fin cfg0.N) : outsAt0 m c t.val t.isLt
    = (block (fun i j => cells W M V' S0 S1 S2 S3 toG (512 * t.val + i) j), block (fun i j => cells W M V' S0 S1 S2 S3 toD (512 * t.val + i) j), block (fun i j => cells W M V' S0 S1 S2 S3 toM (512 * t.val + i) j), block (fun i j => cells W M V' S0 S1 S2 S3 toV (512 * t.val + i) j)) := by
  have ht : t.val < 4 := t.isLt
  rcases (by omega : t.val < 1 ∨ (1 ≤ t.val ∧ t.val < 2) ∨ (2 ≤ t.val ∧ t.val < 3) ∨ 3 ≤ t.val) with h | h | h | h
  have e := part_0 m c W M V' S0 S1 S2 S3 A t h; rw [outsAt0_A m c t (by omega) (by omega) (by omega) (by omega)]; rotate_left
  have e := part_1 m c W M V' S0 S1 S2 S3 A t h.1 h.2; rw [outsAt0_B m c t (by omega) (by omega) (by omega) (by omega)]; rotate_left
  have e := part_2 m c W M V' S0 S1 S2 S3 A t h.1 h.2; rw [outsAt0_C m c t (by omega) (by omega) (by omega) (by omega)]; rotate_left
  have e := part_3 m c W M V' S0 S1 S2 S3 A t h; rw [outsAt0_D m c t (by omega) (by omega) (by omega) (by omega)]; rotate_left
  all_goals (refine Prod.ext ?_ (Prod.ext ?_ (Prod.ext ?_ ?_)) <;> (dsimp only; frame_out))
  iterate 4
    exact e
    exact move_of (block_0 m c W M V' S0 S1 S2 S3 A t) e (block_1 m c W M V' S0 S1 S2 S3 A t) (block_2 m c W M V' S0 S1 S2 S3 A t)
    exact mom_of e (block_1 m c W M V' S0 S1 S2 S3 A t)
    exact sq_of e (block_2 m c W M V' S0 S1 S2 S3 A t)

/-- The gradient. -/
theorem result_g : (dats m 0 c).arrAt 7 cfg0.N = whole (cells W M V' S0 S1 S2 S3 toG) := by
  refine (dats m 0 c).arrAt_eq_of_covers 7 _ (by decide +kernel) fun t hf y => ?_
  blk_simp
  rw [after0_7, at_point m c W M V' S0 S1 S2 S3 A t]
  show cells W M V' S0 S1 S2 S3 toG (512 * t.val + (y (0 : Fin 2)).val) (y (1 : Fin 2)).val
    = cells W M V' S0 S1 S2 S3 toG (win0_7.index t (0 : Fin 2) * 512 + 1 * (y (0 : Fin 2)).val) (win0_7.index t (1 : Fin 2) * 96 + 1 * (y (1 : Fin 2)).val)
  rw [(index_7 t).1, (index_7 t).2, show t.val * 512 + 1 * (y (0 : Fin 2)).val = 512 * t.val + (y (0 : Fin 2)).val by omega, show 0 * 96 + 1 * (y (1 : Fin 2)).val = (y (1 : Fin 2)).val by omega]

/-- The change of the weights. -/
theorem result_d : (dats m 0 c).arrAt 8 cfg0.N = whole (cells W M V' S0 S1 S2 S3 toD) := by
  refine (dats m 0 c).arrAt_eq_of_covers 8 _ (by decide +kernel) fun t hf y => ?_
  blk_simp
  rw [after0_8, at_point m c W M V' S0 S1 S2 S3 A t]
  show cells W M V' S0 S1 S2 S3 toD (512 * t.val + (y (0 : Fin 2)).val) (y (1 : Fin 2)).val
    = cells W M V' S0 S1 S2 S3 toD (win0_8.index t (0 : Fin 2) * 512 + 1 * (y (0 : Fin 2)).val) (win0_8.index t (1 : Fin 2) * 96 + 1 * (y (1 : Fin 2)).val)
  rw [(index_8 t).1, (index_8 t).2, show t.val * 512 + 1 * (y (0 : Fin 2)).val = 512 * t.val + (y (0 : Fin 2)).val by omega, show 0 * 96 + 1 * (y (1 : Fin 2)).val = (y (1 : Fin 2)).val by omega]

/-- The new first moment. -/
theorem result_m : (dats m 0 c).arrAt 9 cfg0.N = whole (cells W M V' S0 S1 S2 S3 toM) := by
  refine (dats m 0 c).arrAt_eq_of_covers 9 _ (by decide +kernel) fun t hf y => ?_
  blk_simp
  rw [after0_9, at_point m c W M V' S0 S1 S2 S3 A t]
  show cells W M V' S0 S1 S2 S3 toM (512 * t.val + (y (0 : Fin 2)).val) (y (1 : Fin 2)).val
    = cells W M V' S0 S1 S2 S3 toM (win0_9.index t (0 : Fin 2) * 512 + 1 * (y (0 : Fin 2)).val) (win0_9.index t (1 : Fin 2) * 96 + 1 * (y (1 : Fin 2)).val)
  rw [(index_9 t).1, (index_9 t).2, show t.val * 512 + 1 * (y (0 : Fin 2)).val = 512 * t.val + (y (0 : Fin 2)).val by omega, show 0 * 96 + 1 * (y (1 : Fin 2)).val = (y (1 : Fin 2)).val by omega]

/-- The new second moment. -/
theorem result_v : (dats m 0 c).arrAt 10 cfg0.N = whole (cells W M V' S0 S1 S2 S3 toV) := by
  refine (dats m 0 c).arrAt_eq_of_covers 10 _ (by decide +kernel) fun t hf y => ?_
  blk_simp
  rw [after0_10, at_point m c W M V' S0 S1 S2 S3 A t]
  show cells W M V' S0 S1 S2 S3 toV (512 * t.val + (y (0 : Fin 2)).val) (y (1 : Fin 2)).val
    = cells W M V' S0 S1 S2 S3 toV (win0_10.index t (0 : Fin 2) * 512 + 1 * (y (0 : Fin 2)).val) (win0_10.index t (1 : Fin 2) * 96 + 1 * (y (1 : Fin 2)).val)
  rw [(index_10 t).1, (index_10 t).2, show t.val * 512 + 1 * (y (0 : Fin 2)).val = 512 * t.val + (y (0 : Fin 2)).val by omega, show 0 * 96 + 1 * (y (1 : Fin 2)).val = (y (1 : Fin 2)).val by omega]

end

/-! ### The reference -/

section
open Cert.AdamUqReferenceIdeal Cert.AdamUqReferenceIdeal.Gen Cert.AdamUqReferenceIdeal.Read
variable {W M V' S0 S1 S2 S3 : ℕ → ℕ → ℕ → EReal}

/-- The sum over the devices. -/
theorem sum_lay {x : FVec Ideal S8x512x96 .f32} {s : ℕ → ℕ → ℕ → EReal} (hx : x = lay3 .f32 s) : val_main_v3 (F := Ideal) x = lay2 (a := 512) (b := 96) .f32 (dev s) := by
  subst hx
  funext j; idx_vars j
  refine (val_main_v3_apply _ _).trans ?_
  rw [val_main_cst_apply]
  show Ideal.ofBits .f32 0x00000000#32 + ∑ k : Fin 8, s k.val _ _ = ∑ d ∈ range 8, s d _ _
  rw [Ideal.ofBits_zero_f32, zero_add, Finset.sum_range]

theorem concat_lay {x0 x1 x2 x3 : FVec Ideal S512x96 .f32} {a0 a1 a2 a3 : ℕ → ℕ → EReal} (h0 : x0 = lay2 .f32 a0) (h1 : x1 = lay2 .f32 a1) (h2 : x2 = lay2 .f32 a2) (h3 : x3 = lay2 .f32 a3) (h) :
    concatenate S2048x96 0 [⟨S512x96, x0⟩, ⟨S512x96, x1⟩, ⟨S512x96, x2⟩, ⟨S512x96, x3⟩] h = whole (join 512 a0 (join 512 a1 (join 512 a2 a3))) := by
  subst h0 h1 h2 h3
  unfold whole
  funext j; idx_vars j; pointwise [lay2, join]
  all_goals simp only [dite_eq_ite]

/-- The gradient, the change of the weights and the new moments, as the reference computes them. -/
theorem reference {w m v : FVec Ideal S4x512x96 .f32} {s0 s1 s2 s3 : FVec Ideal S8x512x96 .f32} (ew : w = lay3 .f32 W) (em : m = lay3 .f32 M) (ev : v = lay3 .f32 V') (e0 : s0 = lay3 .f32 S0) (e1 : s1 = lay3 .f32 S1) (e2 : s2 = lay3 .f32 S2) (e3 : s3 = lay3 .f32 S3) :
    val_main_v7 (F := Ideal) s0 s1 s2 s3 = whole (cells W M V' S0 S1 S2 S3 toG) ∧ val_main_v31 (F := Ideal) w m v s0 s1 s2 s3 = whole (cells W M V' S0 S1 S2 S3 toD)
    ∧ val_main_v12 (F := Ideal) m s0 s1 s2 s3 = whole (cells W M V' S0 S1 S2 S3 toM) ∧ val_main_v18 (F := Ideal) v s0 s1 s2 s3 = whole (cells W M V' S0 S1 S2 S3 toV) := by
  have eg : val_main_v7 (F := Ideal) s0 s1 s2 s3 = whole (rows4 512 S0 S1 S2 S3) := concat_lay (sum_lay e0) (sum_lay e1) (sum_lay e2) (sum_lay e3) _
  exact ⟨eg, ref_d _ (stack_rows ew _) eg (stack_rows em _) (stack_rows ev _), ref_m _ eg (stack_rows em _), ref_v _ eg (stack_rows ev _)⟩
end

end Cert.Adam.Uq
end
-- ==== Proof.OptAdamUkv.lean ====
module
public import proofs.«01_k».proof.Proof.Adam
public import proofs.«01_k».proof.Proof.Gen.AdamUkv
public import proofs.«01_k».proof.Proof.Gen.AdamUkv.Frame
public import proofs.«01_k».proof.Proof.Gen.AdamUkvIdeal
public import proofs.«01_k».proof.Proof.Gen.AdamUkvIdeal.Frame
public import proofs.«01_k».proof.Proof.Gen.AdamUkvIdeal.Value
public import proofs.«01_k».proof.Proof.Gen.AdamUkvReferenceIdeal
public import proofs.«01_k».proof.Proof.Gen.AdamUkvReferenceIdeal.Run
public import proofs.«01_k».proof.Proof.Gen.AdamUkvReferenceIdeal.Read
public import Idealize.ShloMosaic.Lib.StableHlo.ReadAt
public import Idealize.ShloMosaic.Lib.Pipeline.ValueKit
@[expose] public section
set_option maxRecDepth 16384

/-!
# AdamW on the weights of the keys' and values' second projection

Grid point `t` computes rows `512 t` to `512 t + 511` of the four results: the gradient, the change of the weights and the new
moments. The gradient comes in four parts of 512 rows, and each point sums the devices' blocks of the part its rows are in.
-/

noncomputable section
open Finset Idealize.ShloMosaic Idealize.SL.Sem
namespace Cert.Adam.Ukv
open Cert.Ffn

section
open Cert.AdamUkvIdeal Cert.AdamUkvIdeal.Gen

/-- A block of rows, and all rows. -/
abbrev block (f : ℕ → ℕ → EReal) : FVec Ideal S512x128 .f32 := lay2 (a := 512) (b := 128) .f32 f
abbrev whole (f : ℕ → ℕ → EReal) : FVec Ideal S2048x128 .f32 := lay2 (a := 2048) (b := 128) .f32 f

/-- The block of device `d`. -/
abbrev part (x : FVec Ideal S8x512x128 .bf16) (d : ℕ) (h : ∀ a, (![d, 0, 0] : Fin 3 → ℕ) a + (![1, 512, 128] : Fin 3 → ℕ) a ≤ S8x512x128.size a) :
    FVec Ideal S1x512x128 .bf16 := View.ld (Val := Elt Ideal) (S := S8x512x128) (e' := .bf16) x (Rect.unit ![d, 0, 0] ![1, 512, 128] h)

/-- The kernel's sum over the devices; the four parts' sums are this one. -/
abbrev total (x : FVec Ideal S8x512x128 .bf16) : FVec Ideal S512x128 .f32 := k0_pay4 (F := Ideal)
  (part x 0 inb_S8x512x128_S1x512x128_0_0_0) (part x 1 inb_S8x512x128_S1x512x128_1_0_0) (part x 2 inb_S8x512x128_S1x512x128_2_0_0) (part x 3 inb_S8x512x128_S1x512x128_3_0_0) (part x 4 inb_S8x512x128_S1x512x128_4_0_0) (part x 5 inb_S8x512x128_S1x512x128_5_0_0) (part x 6 inb_S8x512x128_S1x512x128_6_0_0) (part x 7 inb_S8x512x128_S1x512x128_7_0_0)

theorem total_lay (x0 x1 x2 x3 x4 x5 x6 x7 : ℕ → ℕ → ℕ → EReal) :
    k0_pay4 (F := Ideal) (lay3 (a := 1) (b := 512) (c := 128) .bf16 x0) (lay3 .bf16 x1) (lay3 .bf16 x2) (lay3 .bf16 x3) (lay3 .bf16 x4) (lay3 .bf16 x5) (lay3 .bf16 x6) (lay3 .bf16 x7)
      = block (fun i j => x0 0 i j + x1 0 i j + x2 0 i j + x3 0 i j + x4 0 i j + x5 0 i j + x6 0 i j + x7 0 i j) := by
  unfold k0_pay4 block
  funext j; idx_vars j; pointwise [lay2, lay3]

theorem total_of {x : FVec Ideal S8x512x128 .bf16} {s : ℕ → ℕ → ℕ → EReal} (hx : x = lay3 .bf16 s) : total x = block (dev s) := by
  subst hx
  refine (total_lay (fun p i j => s (0 + 1 * p) (0 + 1 * i) (0 + 1 * j)) (fun p i j => s (1 + 1 * p) (0 + 1 * i) (0 + 1 * j)) (fun p i j => s (2 + 1 * p) (0 + 1 * i) (0 + 1 * j)) (fun p i j => s (3 + 1 * p) (0 + 1 * i) (0 + 1 * j)) (fun p i j => s (4 + 1 * p) (0 + 1 * i) (0 + 1 * j)) (fun p i j => s (5 + 1 * p) (0 + 1 * i) (0 + 1 * j)) (fun p i j => s (6 + 1 * p) (0 + 1 * i) (0 + 1 * j)) (fun p i j => s (7 + 1 * p) (0 + 1 * i) (0 + 1 * j))).trans ?_
  refine lay2_congr fun i _ j _ => ?_
  simp only [Nat.mul_zero, Nat.one_mul, Nat.zero_add, Nat.add_zero]
  exact dev_eq s i j

theorem mom_of {x y : FVec Ideal S512x128 .f32} {g m : ℕ → ℕ → EReal} (hx : x = lay2 .f32 g) (hy : y = lay2 .f32 m) :
    k0_pay1 (F := Ideal) (k0_pay8 (F := Ideal) x) (k0_pay9 (F := Ideal) y) = block (fun i j => mom (g i j) (m i j)) := by
  subst hx hy
  unfold k0_pay1 k0_pay8 k0_pay9 block
  funext j; idx_vars j; pointwise [lay2, mom, word]

theorem sq_of {x z : FVec Ideal S512x128 .f32} {g v : ℕ → ℕ → EReal} (hx : x = lay2 .f32 g) (hz : z = lay2 .f32 v) :
    k0_pay2 (F := Ideal) (k0_pay8 (F := Ideal) x) z = block (fun i j => sq (g i j) (v i j)) := by
  subst hx hz
  unfold k0_pay2 k0_pay8 block
  funext j; idx_vars j; pointwise [lay2, sq, word]

theorem move_of {w x y z : FVec Ideal S512x128 .f32} {w' g m v : ℕ → ℕ → EReal} (hw : w = lay2 .f32 w') (hx : x = lay2 .f32 g) (hy : y = lay2 .f32 m) (hz : z = lay2 .f32 v) :
    k0_pay3 (F := Ideal) (k0_pay8 (F := Ideal) x) (k0_pay9 (F := Ideal) y) z w = block (fun i j => move (w' i j) (g i j) (m i j) (v i j)) := by
  subst hw hx hy hz
  unfold k0_pay3 k0_pay1 k0_pay2 k0_pay8 k0_pay9 block
  funext j; idx_vars j; pointwise [lay2, mom, sq, move, word]

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_3 : ∀ t : Fin cfg0.N, win0_3.index t (0 : Fin 3) = 0 ∧ win0_3.index t (1 : Fin 3) = min 0 (t.val - 0) ∧ win0_3.index t (2 : Fin 3) = 0 :=
  (by decide +kernel : ∀ t : Fin grid0.N, _)
theorem index_4 : ∀ t : Fin cfg0.N, win0_4.index t (0 : Fin 3) = 0 ∧ win0_4.index t (1 : Fin 3) = min 0 (t.val - 1) ∧ win0_4.index t (2 : Fin 3) = 0 :=
  (by decide +kernel : ∀ t : Fin grid0.N, _)
theorem index_5 : ∀ t : Fin cfg0.N, win0_5.index t (0 : Fin 3) = 0 ∧ win0_5.index t (1 : Fin 3) = min 0 (t.val - 2) ∧ win0_5.index t (2 : Fin 3) = 0 :=
  (by decide +kernel : ∀ t : Fin grid0.N, _)
theorem index_6 : ∀ t : Fin cfg0.N, win0_6.index t (0 : Fin 3) = 0 ∧ win0_6.index t (1 : Fin 3) = min 0 (t.val - 3) ∧ win0_6.index t (2 : Fin 3) = 0 :=
  (by decide +kernel : ∀ t : Fin grid0.N, _)

/-- A stack of matrices as one matrix. -/
theorem stack_rows {x : FVec Ideal S4x512x128 .f32} {w : ℕ → ℕ → ℕ → EReal} (hx : x = lay3 .f32 w) (h) : (shapeCast S2048x128 x h : FVec Ideal S2048x128 .f32) = whole (rows 512 w) := by
  subst hx
  unfold whole
  funext j; idx_vars j; pointwise [lay2, lay3, rows]
  all_goals (congr 1 <;> omega)

variable (m : (l : Loc nD τ sig) → Buf (Elt Ideal) l) (c : Dev nD) (W M V' S0 S1 S2 S3 : ℕ → ℕ → ℕ → EReal)

/-- What a step makes of the rows of the weights, the gradient and the moments. -/
abbrev cells (F : EReal → EReal → EReal → EReal → EReal) (i j : ℕ) : EReal := F (rows 512 W i j) (rows4 512 S0 S1 S2 S3 i j) (rows 512 M i j) (rows 512 V' i j)

/-- The arguments, as stacks of matrices. -/
structure Args : Prop where
  hw : m (c, Proc.tc.devRef main_arg0) = lay3 (a := 4) (b := 512) (c := 128) .f32 W
  hm : m (c, Proc.tc.devRef main_arg1) = lay3 (a := 4) (b := 512) (c := 128) .f32 M
  hv : m (c, Proc.tc.devRef main_arg2) = lay3 (a := 4) (b := 512) (c := 128) .f32 V'
  s0 : m (c, Proc.tc.devRef main_arg3) = lay3 (a := 8) (b := 512) (c := 128) .f32 S0
  s1 : m (c, Proc.tc.devRef main_arg4) = lay3 (a := 8) (b := 512) (c := 128) .f32 S1
  s2 : m (c, Proc.tc.devRef main_arg5) = lay3 (a := 8) (b := 512) (c := 128) .f32 S2
  s3 : m (c, Proc.tc.devRef main_arg6) = lay3 (a := 8) (b := 512) (c := 128) .f32 S3

variable (A : Args m c W M V' S0 S1 S2 S3)
include A

theorem v4_at : V m c main_v4 = whole (rows 512 W) := by
  unfold V
  after_reads_simp
  clean_types
  exact stack_rows A.hw _

theorem block_0 (t : Fin cfg0.N) : (iblk m c 0 t : FVec Ideal ⟨2, ![512, 128]⟩ .f32) = lay2 .f32 (fun i j => rows 512 W (512 * t.val + i) j) := by
  funext j
  unfold iblk
  rw [View.read_apply]
  show V m c main_v4 _ = _
  rw [v4_at m c W M V' S0 S1 S2 S3 A]
  show rows 512 W (win0_0.index t (0 : Fin 2) * 512 + 1 * (j 0).val) (win0_0.index t (1 : Fin 2) * 128 + 1 * (j 1).val) = rows 512 W _ _
  rw [(index_0 t).1, (index_0 t).2]
  congr 1 <;> omega

theorem v5_at : V m c main_v5 = whole (rows 512 M) := by
  unfold V
  after_reads_simp
  clean_types
  exact stack_rows A.hm _

theorem block_1 (t : Fin cfg0.N) : (iblk m c 1 t : FVec Ideal ⟨2, ![512, 128]⟩ .f32) = lay2 .f32 (fun i j => rows 512 M (512 * t.val + i) j) := by
  funext j
  unfold iblk
  rw [View.read_apply]
  show V m c main_v5 _ = _
  rw [v5_at m c W M V' S0 S1 S2 S3 A]
  show rows 512 M (win0_1.index t (0 : Fin 2) * 512 + 1 * (j 0).val) (win0_1.index t (1 : Fin 2) * 128 + 1 * (j 1).val) = rows 512 M _ _
  rw [(index_1 t).1, (index_1 t).2]
  congr 1 <;> omega

theorem v6_at : V m c main_v6 = whole (rows 512 V') := by
  unfold V
  after_reads_simp
  clean_types
  exact stack_rows A.hv _

theorem block_2 (t : Fin cfg0.N) : (iblk m c 2 t : FVec Ideal ⟨2, ![512, 128]⟩ .f32) = lay2 .f32 (fun i j => rows 512 V' (512 * t.val + i) j) := by
  funext j
  unfold iblk
  rw [View.read_apply]
  show V m c main_v6 _ = _
  rw [v6_at m c W M V' S0 S1 S2 S3 A]
  show rows 512 V' (win0_2.index t (0 : Fin 2) * 512 + 1 * (j 0).val) (win0_2.index t (1 : Fin 2) * 128 + 1 * (j 1).val) = rows 512 V' _ _
  rw [(index_2 t).1, (index_2 t).2]
  congr 1 <;> omega

theorem v0_at : V m c main_v0 = lay3 (a := 8) (b := 512) (c := 128) .bf16 S0 := by
  unfold V
  after_reads_simp
  clean_types
  rw [A.s0]
  rfl

theorem block_3 (t : Fin cfg0.N) : (iblk m c 3 t : FVec Ideal ⟨3, ![8, 512, 128]⟩ .bf16) = lay3 .bf16 (fun d i j => S0 d (512 * min 0 (t.val - 0) + i) j) := by
  funext j
  unfold iblk
  rw [View.read_apply]
  show V m c main_v0 _ = _
  rw [v0_at m c W M V' S0 S1 S2 S3 A]
  show S0 (win0_3.index t (0 : Fin 3) * 8 + 1 * (j 0).val) (win0_3.index t (1 : Fin 3) * 512 + 1 * (j 1).val) (win0_3.index t (2 : Fin 3) * 128 + 1 * (j 2).val) = S0 _ _ _
  rw [(index_3 t).1, (index_3 t).2.1, (index_3 t).2.2]
  congr 1 <;> omega

/-- A point of part 0 sums the devices' blocks of it. -/
theorem part_0 (t : Fin cfg0.N) (h' : t.val < 1) : total (iblk m c 3 t) = block (fun i j => rows4 512 S0 S1 S2 S3 (512 * t.val + i) j) := by
  have ht : t.val < 4 := t.isLt
  refine (total_of (block_3 m c W M V' S0 S1 S2 S3 A t)).trans (lay2_congr fun i hi j _ => ?_)
  rw [rows4_0 (by omega), show 512 * t.val + i = 512 * min 0 (t.val - 0) + i by omega]
  rfl

theorem v1_at : V m c main_v1 = lay3 (a := 8) (b := 512) (c := 128) .bf16 S1 := by
  unfold V
  after_reads_simp
  clean_types
  rw [A.s1]
  rfl

theorem block_4 (t : Fin cfg0.N) : (iblk m c 4 t : FVec Ideal ⟨3, ![8, 512, 128]⟩ .bf16) = lay3 .bf16 (fun d i j => S1 d (512 * min 0 (t.val - 1) + i) j) := by
  funext j
  unfold iblk
  rw [View.read_apply]
  show V m c main_v1 _ = _
  rw [v1_at m c W M V' S0 S1 S2 S3 A]
  show S1 (win0_4.index t (0 : Fin 3) * 8 + 1 * (j 0).val) (win0_4.index t (1 : Fin 3) * 512 + 1 * (j 1).val) (win0_4.index t (2 : Fin 3) * 128 + 1 * (j 2).val) = S1 _ _ _
  rw [(index_4 t).1, (index_4 t).2.1, (index_4 t).2.2]
  congr 1 <;> omega

/-- A point of part 1 sums the devices' blocks of it. -/
theorem part_1 (t : Fin cfg0.N) (h : 1 ≤ t.val) (h' : t.val < 2) : total (iblk m c 4 t) = block (fun i j => rows4 512 S0 S1 S2 S3 (512 * t.val + i) j) := by
  have ht : t.val < 4 := t.isLt
  refine (total_of (block_4 m c W M V' S0 S1 S2 S3 A t)).trans (lay2_congr fun i hi j _ => ?_)
  rw [rows4_1 (by omega) (by omega), show 512 * t.val + i - 512 = 512 * min 0 (t.val - 1) + i by omega]
  rfl

theorem v2_at : V m c main_v2 = lay3 (a := 8) (b := 512) (c := 128) .bf16 S2 := by
  unfold V
  after_reads_simp
  clean_types
  rw [A.s2]
  rfl

theorem block_5 (t : Fin cfg0.N) : (iblk m c 5 t : FVec Ideal ⟨3, ![8, 512, 128]⟩ .bf16) = lay3 .bf16 (fun d i j => S2 d (512 * min 0 (t.val - 2) + i) j) := by
  funext j
  unfold iblk
  rw [View.read_apply]
  show V m c main_v2 _ = _
  rw [v2_at m c W M V' S0 S1 S2 S3 A]
  show S2 (win0_5.index t (0 : Fin 3) * 8 + 1 * (j 0).val) (win0_5.index t (1 : Fin 3) * 512 + 1 * (j 1).val) (win0_5.index t (2 : Fin 3) * 128 + 1 * (j 2).val) = S2 _ _ _
  rw [(index_5 t).1, (index_5 t).2.1, (index_5 t).2.2]
  congr 1 <;> omega

/-- A point of part 2 sums the devices' blocks of it. -/
theorem part_2 (t : Fin cfg0.N) (h : 2 ≤ t.val) (h' : t.val < 3) : total (iblk m c 5 t) = block (fun i j => rows4 512 S0 S1 S2 S3 (512 * t.val + i) j) := by
  have ht : t.val < 4 := t.isLt
  refine (total_of (block_5 m c W M V' S0 S1 S2 S3 A t)).trans (lay2_congr fun i hi j _ => ?_)
  rw [rows4_2 (by omega) (by omega) (by omega), show 512 * t.val + i - 512 - 512 = 512 * min 0 (t.val - 2) + i by omega]
  rfl

theorem v3_at : V m c main_v3 = lay3 (a := 8) (b := 512) (c := 128) .bf16 S3 := by
  unfold V
  after_reads_simp
  clean_types
  rw [A.s3]
  rfl

theorem block_6 (t : Fin cfg0.N) : (iblk m c 6 t : FVec Ideal ⟨3, ![8, 512, 128]⟩ .bf16) = lay3 .bf16 (fun d i j => S3 d (512 * min 0 (t.val - 3) + i) j) := by
  funext j
  unfold iblk
  rw [View.read_apply]
  show V m c main_v3 _ = _
  rw [v3_at m c W M V' S0 S1 S2 S3 A]
  show S3 (win0_6.index t (0 : Fin 3) * 8 + 1 * (j 0).val) (win0_6.index t (1 : Fin 3) * 512 + 1 * (j 1).val) (win0_6.index t (2 : Fin 3) * 128 + 1 * (j 2).val) = S3 _ _ _
  rw [(index_6 t).1, (index_6 t).2.1, (index_6 t).2.2]
  congr 1 <;> omega

/-- A point of part 3 sums the devices' blocks of it. -/
theorem part_3 (t : Fin cfg0.N) (h : 3 ≤ t.val) : total (iblk m c 6 t) = block (fun i j => rows4 512 S0 S1 S2 S3 (512 * t.val + i) j) := by
  have ht : t.val < 4 := t.isLt
  refine (total_of (block_6 m c W M V' S0 S1 S2 S3 A t)).trans (lay2_congr fun i hi j _ => ?_)
  rw [rows4_3 (by omega) (by omega) (by omega), show 512 * t.val + i - 512 - 512 - 512 = 512 * min 0 (t.val - 3) + i by omega]
  rfl

/-- What point `t` leaves for the four results. -/
theorem at_point (t : Fin cfg0.N) : outsAt0 m c t.val t.isLt
    = (block (fun i j => cells W M V' S0 S1 S2 S3 toG (512 * t.val + i) j), block (fun i j => cells W M V' S0 S1 S2 S3 toD (512 * t.val + i) j), block (fun i j => cells W M V' S0 S1 S2 S3 toM (512 * t.val + i) j), block (fun i j => cells W M V' S0 S1 S2 S3 toV (512 * t.val + i) j)) := by
  have ht : t.val < 4 := t.isLt
  rcases (by omega : t.val < 1 ∨ (1 ≤ t.val ∧ t.val < 2) ∨ (2 ≤ t.val ∧ t.val < 3) ∨ 3 ≤ t.val) with h | h | h | h
  have e := part_0 m c W M V' S0 S1 S2 S3 A t h; rw [outsAt0_A m c t (by omega) (by omega) (by omega) (by omega)]; rotate_left
  have e := part_1 m c W M V' S0 S1 S2 S3 A t h.1 h.2; rw [outsAt0_B m c t (by omega) (by omega) (by omega) (by omega)]; rotate_left
  have e := part_2 m c W M V' S0 S1 S2 S3 A t h.1 h.2; rw [outsAt0_C m c t (by omega) (by omega) (by omega) (by omega)]; rotate_left
  have e := part_3 m c W M V' S0 S1 S2 S3 A t h; rw [outsAt0_D m c t (by omega) (by omega) (by omega) (by omega)]; rotate_left
  all_goals (refine Prod.ext ?_ (Prod.ext ?_ (Prod.ext ?_ ?_)) <;> (dsimp only; frame_out))
  iterate 4
    exact e
    exact move_of (block_0 m c W M V' S0 S1 S2 S3 A t) e (block_1 m c W M V' S0 S1 S2 S3 A t) (block_2 m c W M V' S0 S1 S2 S3 A t)
    exact mom_of e (block_1 m c W M V' S0 S1 S2 S3 A t)
    exact sq_of e (block_2 m c W M V' S0 S1 S2 S3 A t)

/-- The gradient. -/
theorem result_g : (dats m 0 c).arrAt 7 cfg0.N = whole (cells W M V' S0 S1 S2 S3 toG) := by
  refine (dats m 0 c).arrAt_eq_of_covers 7 _ (by decide +kernel) fun t hf y => ?_
  blk_simp
  rw [after0_7, at_point m c W M V' S0 S1 S2 S3 A t]
  show cells W M V' S0 S1 S2 S3 toG (512 * t.val + (y (0 : Fin 2)).val) (y (1 : Fin 2)).val
    = cells W M V' S0 S1 S2 S3 toG (win0_7.index t (0 : Fin 2) * 512 + 1 * (y (0 : Fin 2)).val) (win0_7.index t (1 : Fin 2) * 128 + 1 * (y (1 : Fin 2)).val)
  rw [(index_7 t).1, (index_7 t).2, show t.val * 512 + 1 * (y (0 : Fin 2)).val = 512 * t.val + (y (0 : Fin 2)).val by omega, show 0 * 128 + 1 * (y (1 : Fin 2)).val = (y (1 : Fin 2)).val by omega]

/-- The change of the weights. -/
theorem result_d : (dats m 0 c).arrAt 8 cfg0.N = whole (cells W M V' S0 S1 S2 S3 toD) := by
  refine (dats m 0 c).arrAt_eq_of_covers 8 _ (by decide +kernel) fun t hf y => ?_
  blk_simp
  rw [after0_8, at_point m c W M V' S0 S1 S2 S3 A t]
  show cells W M V' S0 S1 S2 S3 toD (512 * t.val + (y (0 : Fin 2)).val) (y (1 : Fin 2)).val
    = cells W M V' S0 S1 S2 S3 toD (win0_8.index t (0 : Fin 2) * 512 + 1 * (y (0 : Fin 2)).val) (win0_8.index t (1 : Fin 2) * 128 + 1 * (y (1 : Fin 2)).val)
  rw [(index_8 t).1, (index_8 t).2, show t.val * 512 + 1 * (y (0 : Fin 2)).val = 512 * t.val + (y (0 : Fin 2)).val by omega, show 0 * 128 + 1 * (y (1 : Fin 2)).val = (y (1 : Fin 2)).val by omega]

/-- The new first moment. -/
theorem result_m : (dats m 0 c).arrAt 9 cfg0.N = whole (cells W M V' S0 S1 S2 S3 toM) := by
  refine (dats m 0 c).arrAt_eq_of_covers 9 _ (by decide +kernel) fun t hf y => ?_
  blk_simp
  rw [after0_9, at_point m c W M V' S0 S1 S2 S3 A t]
  show cells W M V' S0 S1 S2 S3 toM (512 * t.val + (y (0 : Fin 2)).val) (y (1 : Fin 2)).val
    = cells W M V' S0 S1 S2 S3 toM (win0_9.index t (0 : Fin 2) * 512 + 1 * (y (0 : Fin 2)).val) (win0_9.index t (1 : Fin 2) * 128 + 1 * (y (1 : Fin 2)).val)
  rw [(index_9 t).1, (index_9 t).2, show t.val * 512 + 1 * (y (0 : Fin 2)).val = 512 * t.val + (y (0 : Fin 2)).val by omega, show 0 * 128 + 1 * (y (1 : Fin 2)).val = (y (1 : Fin 2)).val by omega]

/-- The new second moment. -/
theorem result_v : (dats m 0 c).arrAt 10 cfg0.N = whole (cells W M V' S0 S1 S2 S3 toV) := by
  refine (dats m 0 c).arrAt_eq_of_covers 10 _ (by decide +kernel) fun t hf y => ?_
  blk_simp
  rw [after0_10, at_point m c W M V' S0 S1 S2 S3 A t]
  show cells W M V' S0 S1 S2 S3 toV (512 * t.val + (y (0 : Fin 2)).val) (y (1 : Fin 2)).val
    = cells W M V' S0 S1 S2 S3 toV (win0_10.index t (0 : Fin 2) * 512 + 1 * (y (0 : Fin 2)).val) (win0_10.index t (1 : Fin 2) * 128 + 1 * (y (1 : Fin 2)).val)
  rw [(index_10 t).1, (index_10 t).2, show t.val * 512 + 1 * (y (0 : Fin 2)).val = 512 * t.val + (y (0 : Fin 2)).val by omega, show 0 * 128 + 1 * (y (1 : Fin 2)).val = (y (1 : Fin 2)).val by omega]

end

/-! ### The reference -/

section
open Cert.AdamUkvReferenceIdeal Cert.AdamUkvReferenceIdeal.Gen Cert.AdamUkvReferenceIdeal.Read
variable {W M V' S0 S1 S2 S3 : ℕ → ℕ → ℕ → EReal}

/-- The sum over the devices. -/
theorem sum_lay {x : FVec Ideal S8x512x128 .f32} {s : ℕ → ℕ → ℕ → EReal} (hx : x = lay3 .f32 s) : val_main_v3 (F := Ideal) x = lay2 (a := 512) (b := 128) .f32 (dev s) := by
  subst hx
  funext j; idx_vars j
  refine (val_main_v3_apply _ _).trans ?_
  rw [val_main_cst_apply]
  show Ideal.ofBits .f32 0x00000000#32 + ∑ k : Fin 8, s k.val _ _ = ∑ d ∈ range 8, s d _ _
  rw [Ideal.ofBits_zero_f32, zero_add, Finset.sum_range]

theorem concat_lay {x0 x1 x2 x3 : FVec Ideal S512x128 .f32} {a0 a1 a2 a3 : ℕ → ℕ → EReal} (h0 : x0 = lay2 .f32 a0) (h1 : x1 = lay2 .f32 a1) (h2 : x2 = lay2 .f32 a2) (h3 : x3 = lay2 .f32 a3) (h) :
    concatenate S2048x128 0 [⟨S512x128, x0⟩, ⟨S512x128, x1⟩, ⟨S512x128, x2⟩, ⟨S512x128, x3⟩] h = whole (join 512 a0 (join 512 a1 (join 512 a2 a3))) := by
  subst h0 h1 h2 h3
  unfold whole
  funext j; idx_vars j; pointwise [lay2, join]
  all_goals simp only [dite_eq_ite]

/-- The gradient, the change of the weights and the new moments, as the reference computes them. -/
theorem reference {w m v : FVec Ideal S4x512x128 .f32} {s0 s1 s2 s3 : FVec Ideal S8x512x128 .f32} (ew : w = lay3 .f32 W) (em : m = lay3 .f32 M) (ev : v = lay3 .f32 V') (e0 : s0 = lay3 .f32 S0) (e1 : s1 = lay3 .f32 S1) (e2 : s2 = lay3 .f32 S2) (e3 : s3 = lay3 .f32 S3) :
    val_main_v7 (F := Ideal) s0 s1 s2 s3 = whole (cells W M V' S0 S1 S2 S3 toG) ∧ val_main_v31 (F := Ideal) w m v s0 s1 s2 s3 = whole (cells W M V' S0 S1 S2 S3 toD)
    ∧ val_main_v12 (F := Ideal) m s0 s1 s2 s3 = whole (cells W M V' S0 S1 S2 S3 toM) ∧ val_main_v18 (F := Ideal) v s0 s1 s2 s3 = whole (cells W M V' S0 S1 S2 S3 toV) := by
  have eg : val_main_v7 (F := Ideal) s0 s1 s2 s3 = whole (rows4 512 S0 S1 S2 S3) := concat_lay (sum_lay e0) (sum_lay e1) (sum_lay e2) (sum_lay e3) _
  exact ⟨eg, ref_d _ (stack_rows ew _) eg (stack_rows em _) (stack_rows ev _), ref_m _ eg (stack_rows em _), ref_v _ eg (stack_rows ev _)⟩
end

end Cert.Adam.Ukv
end
-- ==== Proof.Packed.lean ====
/-
  The small weights packed into one matrix of 128 columns and read back: which rows each takes (`packed`), what padding,
  stacking and slicing do to a matrix, and where an entry of a weight lies in the packed one (`get_0` to `get_6`).
-/
module

public import proofs.«01_k».proof.Proof.Adam

@[expose] public section

set_option maxRecDepth 16384

noncomputable section

open Finset Idealize.ShloMosaic

namespace Cert.Ffn

/-- A row of extended reals as a vector. -/
def lay1 {a : ℕ} (φ : FTy) (f : ℕ → EReal) : FVec Ideal ⟨1, ![a]⟩ φ := fun j => f (j 0).val

/-- Every vector of one axis is a row. -/
theorem exists_lay1 {a : ℕ} {φ : FTy} (x : FVec Ideal ⟨1, ![a]⟩ φ) : ∃ f, x = lay1 φ f :=
  ⟨fun i => if h : i < a then x (ValueIdx.ix1 ⟨i, h⟩) else 0, by
    funext j
    show _ = dite _ _ _
    rw [dif_pos (show (j 0).val < a from (j 0).isLt)]
    congr 1
    funext d; fin_cases d; rfl⟩

end Cert.Ffn

namespace Cert.Adam.Small
open Cert.Ffn

/-- What the rows are padded with. -/
abbrev Pad : FVec Ideal ⟨0, ![]⟩ .f32 := sitofp .f32 (constantI ⟨0, ![]⟩ 32 0#32)

/-- The number they are padded with. -/
def fill : EReal := Pad (fun d => d.elim0)

/-- The entries of a matrix of `n` columns, in rows of 128. -/
def piece (n : ℕ) (f : ℕ → ℕ → EReal) (i j : ℕ) : EReal := f ((128 * i + j) / n) ((128 * i + j) % n)

/-- The sixteen entries of the bias and their padding. -/
def bias (f : ℕ → ℕ → EReal) (i j : ℕ) : EReal := if j < 16 then piece 4 f i j else fill

/-- The seven weights, a row and the padding, one under the other. -/
def packed (w : ℕ → ℕ → ℕ → EReal) (z : ℕ → EReal) : ℕ → ℕ → EReal :=
  join 64 (piece 2048 (w 0)) (join 16 (piece 512 (w 1)) (join 16 (piece 512 (w 2)) (join 1 (bias (w 3))
    (join 64 (piece 2048 (w 4)) (join 64 (piece 2048 (w 5)) (join 16 (piece 2048 (w 6)) (join 1 (fun _ => z) (fun _ _ => fill))))))))

theorem join_lt {p i j : ℕ} {a b : ℕ → ℕ → EReal} (h : i < p) : join p a b i j = a i j := if_pos h
theorem join_ge {p i j : ℕ} {a b : ℕ → ℕ → EReal} (h : p ≤ i) : join p a b i j = b (i - p) j := if_neg (by omega)

section
variable (w : ℕ → ℕ → ℕ → EReal) (z : ℕ → EReal) {l k : ℕ}

theorem get_0 (hl : l < 4) (hk : k < 2048) : packed w z ((2048 * l + k) / 128) ((2048 * l + k) % 128) = w 0 l k := by
  unfold packed
  rw [join_lt]
  · unfold piece; congr 1 <;> omega
  all_goals omega
theorem get_1 (hl : l < 4) (hk : k < 512) : packed w z (64 + (512 * l + k) / 128) ((512 * l + k) % 128) = w 1 l k := by
  unfold packed
  rw [join_ge, join_lt]
  · unfold piece; congr 1 <;> omega
  all_goals omega
theorem get_2 (hl : l < 4) (hk : k < 512) : packed w z (80 + (512 * l + k) / 128) ((512 * l + k) % 128) = w 2 l k := by
  unfold packed
  rw [join_ge, join_ge, join_lt]
  · unfold piece; congr 1 <;> omega
  all_goals omega
theorem get_3 (hl : l < 4) (hk : k < 4) : packed w z 96 (4 * l + k) = w 3 l k := by
  unfold packed
  rw [join_ge, join_ge, join_ge, join_lt]
  · unfold bias piece; rw [if_pos (by omega)]; congr 1 <;> omega
  all_goals omega
theorem get_4 (hl : l < 4) (hk : k < 2048) : packed w z (97 + (2048 * l + k) / 128) ((2048 * l + k) % 128) = w 4 l k := by
  unfold packed
  rw [join_ge, join_ge, join_ge, join_ge, join_lt]
  · unfold piece; congr 1 <;> omega
  all_goals omega
theorem get_5 (hl : l < 4) (hk : k < 2048) : packed w z (161 + (2048 * l + k) / 128) ((2048 * l + k) % 128) = w 5 l k := by
  unfold packed
  rw [join_ge, join_ge, join_ge, join_ge, join_ge, join_lt]
  · unfold piece; congr 1 <;> omega
  all_goals omega
theorem get_6 (hk : k < 2048) : packed w z (225 + k / 128) (k % 128) = w 6 0 k := by
  unfold packed
  rw [join_ge, join_ge, join_ge, join_ge, join_ge, join_ge, join_lt]
  · unfold piece; congr 1 <;> omega
  all_goals omega
theorem get_7 (k : ℕ) : packed w z 241 k = z k := by
  unfold packed
  rw [join_ge, join_ge, join_ge, join_ge, join_ge, join_ge, join_ge, join_lt]
  all_goals omega

end

/-! ### The seven weights, and the devices' parts of their gradients, as functions -/

/-- The seven arrays are the weights of `w`. -/
structure Holds (x0 : FVec Ideal ⟨2, ![4, 2048]⟩ .f32) (x1 x2 : FVec Ideal ⟨2, ![4, 512]⟩ .f32) (x3 : FVec Ideal ⟨2, ![4, 4]⟩ .f32)
    (x4 x5 : FVec Ideal ⟨2, ![4, 2048]⟩ .f32) (x6 : FVec Ideal ⟨1, ![2048]⟩ .f32) (w : ℕ → ℕ → ℕ → EReal) : Prop where
  e0 : x0 = lay2 .f32 (w 0)
  e1 : x1 = lay2 .f32 (w 1)
  e2 : x2 = lay2 .f32 (w 2)
  e3 : x3 = lay2 .f32 (w 3)
  e4 : x4 = lay2 .f32 (w 4)
  e5 : x5 = lay2 .f32 (w 5)
  e6 : x6 = lay1 .f32 (w 6 0)

theorem exists_holds (x0 x1 x2 x3 x4 x5 x6) : ∃ w, Holds x0 x1 x2 x3 x4 x5 x6 w := by
  obtain ⟨f0, h0⟩ := exists_lay2 x0
  obtain ⟨f1, h1⟩ := exists_lay2 x1
  obtain ⟨f2, h2⟩ := exists_lay2 x2
  obtain ⟨f3, h3⟩ := exists_lay2 x3
  obtain ⟨f4, h4⟩ := exists_lay2 x4
  obtain ⟨f5, h5⟩ := exists_lay2 x5
  obtain ⟨f6, h6⟩ := exists_lay1 x6
  exact ⟨fun i => match i with | 0 => f0 | 1 => f1 | 2 => f2 | 3 => f3 | 4 => f4 | 5 => f5 | _ => fun _ => f6, h0, h1, h2, h3, h4, h5, h6⟩

/-- The seven arrays are the devices' parts `g`. -/
structure Parts (x0 : FVec Ideal ⟨3, ![8, 4, 2048]⟩ .f32) (x1 x2 : FVec Ideal ⟨3, ![8, 4, 512]⟩ .f32) (x3 : FVec Ideal ⟨3, ![8, 4, 4]⟩ .f32)
    (x4 x5 : FVec Ideal ⟨3, ![8, 4, 2048]⟩ .f32) (x6 : FVec Ideal ⟨2, ![8, 2048]⟩ .f32) (g : ℕ → ℕ → ℕ → ℕ → EReal) : Prop where
  e0 : x0 = lay3 .f32 (fun d => g d 0)
  e1 : x1 = lay3 .f32 (fun d => g d 1)
  e2 : x2 = lay3 .f32 (fun d => g d 2)
  e3 : x3 = lay3 .f32 (fun d => g d 3)
  e4 : x4 = lay3 .f32 (fun d => g d 4)
  e5 : x5 = lay3 .f32 (fun d => g d 5)
  e6 : x6 = lay2 .f32 (fun d => g d 6 0)

theorem exists_parts (x0 x1 x2 x3 x4 x5 x6) : ∃ g, Parts x0 x1 x2 x3 x4 x5 x6 g := by
  obtain ⟨f0, h0⟩ := exists_lay3 x0
  obtain ⟨f1, h1⟩ := exists_lay3 x1
  obtain ⟨f2, h2⟩ := exists_lay3 x2
  obtain ⟨f3, h3⟩ := exists_lay3 x3
  obtain ⟨f4, h4⟩ := exists_lay3 x4
  obtain ⟨f5, h5⟩ := exists_lay3 x5
  obtain ⟨f6, h6⟩ := exists_lay2 x6
  exact ⟨fun d i => match i with | 0 => f0 d | 1 => f1 d | 2 => f2 d | 3 => f3 d | 4 => f4 d | 5 => f5 d | _ => fun _ => f6 d, h0, h1, h2, h3, h4, h5, h6⟩

/-! ### Packing -/

section
variable {f : ℕ → ℕ → EReal} {g : ℕ → EReal}

theorem flat_2048 {x} (hx : x = lay2 (a := 4) (b := 2048) .f32 f) (h1 h2 h3 h4) :
    shapeCast ⟨2, ![64, 128]⟩ (pad ⟨1, ![8192]⟩ ![0] ![0] ![0] (shapeCast ⟨1, ![8192]⟩ x h1) Pad h2 h3) h4 = lay2 (a := 64) (b := 128) .f32 (piece 2048 f) := by
  subst hx; funext j; idx_vars j; pointwise [lay2, piece]
  rw [dif_pos (by omega)]; congr 1 <;> omega
theorem flat_512 {x} (hx : x = lay2 (a := 4) (b := 512) .f32 f) (h1 h2 h3 h4) :
    shapeCast ⟨2, ![16, 128]⟩ (pad ⟨1, ![2048]⟩ ![0] ![0] ![0] (shapeCast ⟨1, ![2048]⟩ x h1) Pad h2 h3) h4 = lay2 (a := 16) (b := 128) .f32 (piece 512 f) := by
  subst hx; funext j; idx_vars j; pointwise [lay2, piece]
  rw [dif_pos (by omega)]; congr 1 <;> omega
theorem flat_4 {x} (hx : x = lay2 (a := 4) (b := 4) .f32 f) (h1 h2 h3 h4) :
    shapeCast ⟨2, ![1, 128]⟩ (pad ⟨1, ![128]⟩ ![0] ![112] ![0] (shapeCast ⟨1, ![16]⟩ x h1) Pad h2 h3) h4 = lay2 (a := 1) (b := 128) .f32 (bias f) := by
  subst hx; funext j; idx_vars j; pointwise [lay2, piece, bias, fill]
  exact dite_eq_ite
theorem flat_row {x} (hx : x = lay1 (a := 2048) .f32 (f 0)) (h2 h3 h4) :
    shapeCast ⟨2, ![16, 128]⟩ (pad ⟨1, ![2048]⟩ ![0] ![0] ![0] x Pad h2 h3) h4 = lay2 (a := 16) (b := 128) .f32 (piece 2048 f) := by
  subst hx; funext j; idx_vars j; pointwise [lay2, lay1, piece]
  rw [dif_pos (by omega)]; congr 1 <;> omega
theorem flat_last {x} (hx : x = lay1 (a := 128) .f32 g) (h2 h3 h4) :
    shapeCast ⟨2, ![1, 128]⟩ (pad ⟨1, ![128]⟩ ![0] ![0] ![0] x Pad h2 h3) h4 = lay2 (a := 1) (b := 128) .f32 (fun _ => g) := by
  subst hx; funext j; idx_vars j; pointwise [lay2, lay1]

end

/-- The pieces, one under the other. -/
theorem stack {x0 x1 x2 x3 x4 x5 x6 x7} {f0 f1 f2 f3 f4 f5 f6 f7 : ℕ → ℕ → EReal}
    (h0 : x0 = lay2 (a := 64) (b := 128) .f32 f0) (h1 : x1 = lay2 (a := 16) (b := 128) .f32 f1) (h2 : x2 = lay2 (a := 16) (b := 128) .f32 f2)
    (h3 : x3 = lay2 (a := 1) (b := 128) .f32 f3) (h4 : x4 = lay2 (a := 64) (b := 128) .f32 f4) (h5 : x5 = lay2 (a := 64) (b := 128) .f32 f5)
    (h6 : x6 = lay2 (a := 16) (b := 128) .f32 f6) (h7 : x7 = lay2 (a := 1) (b := 128) .f32 f7) (h h' h'') :
    pad ⟨2, ![248, 128]⟩ ![0, 0] ![6, 0] ![0, 0] (concatenate ⟨2, ![242, 128]⟩ 0 [⟨⟨2, ![64, 128]⟩, x0⟩, ⟨⟨2, ![16, 128]⟩, x1⟩, ⟨⟨2, ![16, 128]⟩, x2⟩,
        ⟨⟨2, ![1, 128]⟩, x3⟩, ⟨⟨2, ![64, 128]⟩, x4⟩, ⟨⟨2, ![64, 128]⟩, x5⟩, ⟨⟨2, ![16, 128]⟩, x6⟩, ⟨⟨2, ![1, 128]⟩, x7⟩] h) Pad h' h''
      = lay2 (a := 248) (b := 128) .f32 (join 64 f0 (join 16 f1 (join 16 f2 (join 1 f3 (join 64 f4 (join 64 f5 (join 16 f6 (join 1 f7 (fun _ _ => fill))))))))) := by
  subst h0 h1 h2 h3 h4 h5 h6 h7
  funext j; idx_vars j; pointwise [lay2, join, fill]
  simp only [dite_eq_ite]
  split_ifs <;> first | rfl | omega

/-! ### The parts of the devices, packed the same way -/

section
variable {f : ℕ → ℕ → ℕ → EReal} {g : ℕ → ℕ → EReal}

theorem flats_2048 {x} (hx : x = lay3 (a := 8) (b := 4) (c := 2048) .f32 f) (h1 h2 h3 h4) :
    shapeCast ⟨3, ![8, 64, 128]⟩ (pad ⟨2, ![8, 8192]⟩ ![0, 0] ![0, 0] ![0, 0] (shapeCast ⟨2, ![8, 8192]⟩ x h1) Pad h2 h3) h4
      = lay3 (a := 8) (b := 64) (c := 128) .f32 (fun d => piece 2048 (f d)) := by
  subst hx; funext j; idx_vars j; pointwise [lay3, piece]
  rw [dif_pos (by omega)]; congr 1 <;> omega
theorem flats_512 {x} (hx : x = lay3 (a := 8) (b := 4) (c := 512) .f32 f) (h1 h2 h3 h4) :
    shapeCast ⟨3, ![8, 16, 128]⟩ (pad ⟨2, ![8, 2048]⟩ ![0, 0] ![0, 0] ![0, 0] (shapeCast ⟨2, ![8, 2048]⟩ x h1) Pad h2 h3) h4
      = lay3 (a := 8) (b := 16) (c := 128) .f32 (fun d => piece 512 (f d)) := by
  subst hx; funext j; idx_vars j; pointwise [lay3, piece]
  rw [dif_pos (by omega)]; congr 1 <;> omega
theorem flats_4 {x} (hx : x = lay3 (a := 8) (b := 4) (c := 4) .f32 f) (h1 h2 h3 h4) :
    shapeCast ⟨3, ![8, 1, 128]⟩ (pad ⟨2, ![8, 128]⟩ ![0, 0] ![0, 112] ![0, 0] (shapeCast ⟨2, ![8, 16]⟩ x h1) Pad h2 h3) h4
      = lay3 (a := 8) (b := 1) (c := 128) .f32 (fun d => bias (f d)) := by
  subst hx; funext j; idx_vars j; pointwise [lay3, piece, bias, fill]
  exact dite_eq_ite
theorem flats_row {x} (hx : x = lay2 (a := 8) (b := 2048) .f32 (fun d => f d 0)) (h2 h3 h4) :
    shapeCast ⟨3, ![8, 16, 128]⟩ (pad ⟨2, ![8, 2048]⟩ ![0, 0] ![0, 0] ![0, 0] x Pad h2 h3) h4
      = lay3 (a := 8) (b := 16) (c := 128) .f32 (fun d => piece 2048 (f d)) := by
  subst hx; funext j; idx_vars j; pointwise [lay2, lay3, piece]
  rw [dif_pos (by omega)]; congr 1 <;> omega
theorem flats_last {x} (hx : x = lay2 (a := 8) (b := 128) .f32 g) (h2 h3 h4) :
    shapeCast ⟨3, ![8, 1, 128]⟩ (pad ⟨2, ![8, 128]⟩ ![0, 0] ![0, 0] ![0, 0] x Pad h2 h3) h4 = lay3 (a := 8) (b := 1) (c := 128) .f32 (fun d _ => g d) := by
  subst hx; funext j; idx_vars j; pointwise [lay2, lay3]

end

theorem stack_all {x0 x1 x2 x3 x4 x5 x6 x7} {f0 f1 f2 f3 f4 f5 f6 f7 : ℕ → ℕ → ℕ → EReal}
    (h0 : x0 = lay3 (a := 8) (b := 64) (c := 128) .f32 f0) (h1 : x1 = lay3 (a := 8) (b := 16) (c := 128) .f32 f1) (h2 : x2 = lay3 (a := 8) (b := 16) (c := 128) .f32 f2)
    (h3 : x3 = lay3 (a := 8) (b := 1) (c := 128) .f32 f3) (h4 : x4 = lay3 (a := 8) (b := 64) (c := 128) .f32 f4) (h5 : x5 = lay3 (a := 8) (b := 64) (c := 128) .f32 f5)
    (h6 : x6 = lay3 (a := 8) (b := 16) (c := 128) .f32 f6) (h7 : x7 = lay3 (a := 8) (b := 1) (c := 128) .f32 f7) (h h' h'') :
    pad ⟨3, ![8, 248, 128]⟩ ![0, 0, 0] ![0, 6, 0] ![0, 0, 0] (concatenate ⟨3, ![8, 242, 128]⟩ 1 [⟨⟨3, ![8, 64, 128]⟩, x0⟩, ⟨⟨3, ![8, 16, 128]⟩, x1⟩,
        ⟨⟨3, ![8, 16, 128]⟩, x2⟩, ⟨⟨3, ![8, 1, 128]⟩, x3⟩, ⟨⟨3, ![8, 64, 128]⟩, x4⟩, ⟨⟨3, ![8, 64, 128]⟩, x5⟩, ⟨⟨3, ![8, 16, 128]⟩, x6⟩, ⟨⟨3, ![8, 1, 128]⟩, x7⟩] h) Pad h' h''
      = lay3 (a := 8) (b := 248) (c := 128) .f32 (fun d => join 64 (f0 d) (join 16 (f1 d) (join 16 (f2 d) (join 1 (f3 d) (join 64 (f4 d) (join 64 (f5 d)
          (join 16 (f6 d) (join 1 (f7 d) (fun _ _ => fill))))))))) := by
  subst h0 h1 h2 h3 h4 h5 h6 h7
  funext j; idx_vars j; pointwise [lay3, join, fill]
  simp only [dite_eq_ite]
  split_ifs <;> first | rfl | omega

/-! ### A step on the packed weights, read back -/

section
variable (F : EReal → EReal → EReal → EReal → EReal) (w m v : ℕ → ℕ → ℕ → EReal) (g : ℕ → ℕ → ℕ → ℕ → EReal) (ls : ℕ → ℕ → EReal)

/-- The row after the weights is zero. -/
def zeros (_ : ℕ) : EReal := word 0x00000000#32

/-- `F` of the weights, the gradient summed over the devices and the two moments, on the packed matrices. -/
def cells : ℕ → ℕ → EReal := fun r s => F (packed w zeros r s) (∑ d ∈ range 8, packed (g d) (ls d) r s) (packed m zeros r s) (packed v zeros r s)

/-- The same on weight `i`. -/
def step (i : ℕ) : ℕ → ℕ → EReal := fun l k => F (w i l k) (∑ d ∈ range 8, g d i l k) (m i l k) (v i l k)

variable {F w m v g ls}

/-- An entry of a weight's step is that of the packed step. -/
theorem cells_get {i r s l k : ℕ} (h : ∀ w z, packed w z r s = w i l k) : cells F w m v g ls r s = step F w m v g i l k := by
  unfold cells step
  rw [h, h, h, sum_congr rfl fun d _ => h (g d) (ls d)]

variable {x : FVec Ideal ⟨2, ![248, 128]⟩ .f32} (hx : x = lay2 .f32 (cells F w m v g ls))
include hx

theorem out_0 (h1 h2 h3) : shapeCast ⟨2, ![4, 2048]⟩ (shapeCast ⟨1, ![8192]⟩ (extractStridedSlice ⟨2, ![64, 128]⟩ ![0, 0] x h1) h2) h3
    = lay2 (a := 4) (b := 2048) .f32 (step F w m v g 0) := by
  subst hx; refine Eq.trans ?_ (lay2_congr fun l hl k hk => cells_get (ls := ls) fun w z => get_0 w z hl hk)
  funext j; idx_vars j; pointwise [lay2]
  all_goals (congr 1 <;> omega)
theorem out_1 (h1 h2 h3) : shapeCast ⟨2, ![4, 512]⟩ (shapeCast ⟨1, ![2048]⟩ (extractStridedSlice ⟨2, ![16, 128]⟩ ![64, 0] x h1) h2) h3
    = lay2 (a := 4) (b := 512) .f32 (step F w m v g 1) := by
  subst hx; refine Eq.trans ?_ (lay2_congr fun l hl k hk => cells_get (ls := ls) fun w z => get_1 w z hl hk)
  funext j; idx_vars j; pointwise [lay2]
  all_goals (congr 1 <;> omega)
theorem out_2 (h1 h2 h3) : shapeCast ⟨2, ![4, 512]⟩ (shapeCast ⟨1, ![2048]⟩ (extractStridedSlice ⟨2, ![16, 128]⟩ ![80, 0] x h1) h2) h3
    = lay2 (a := 4) (b := 512) .f32 (step F w m v g 2) := by
  subst hx; refine Eq.trans ?_ (lay2_congr fun l hl k hk => cells_get (ls := ls) fun w z => get_2 w z hl hk)
  funext j; idx_vars j; pointwise [lay2]
  all_goals (congr 1 <;> omega)
theorem out_3 (h1 h2 h3 h4) : shapeCast ⟨2, ![4, 4]⟩ (extractStridedSlice ⟨1, ![16]⟩ ![0] (shapeCast ⟨1, ![128]⟩
      (extractStridedSlice ⟨2, ![1, 128]⟩ ![96, 0] x h1) h2) h3) h4 = lay2 (a := 4) (b := 4) .f32 (step F w m v g 3) := by
  subst hx; refine Eq.trans ?_ (lay2_congr fun l hl k hk => cells_get (ls := ls) fun w z => get_3 w z hl hk)
  funext j; idx_vars j; pointwise [lay2]
  all_goals (congr 1 <;> omega)
theorem out_4 (h1 h2 h3) : shapeCast ⟨2, ![4, 2048]⟩ (shapeCast ⟨1, ![8192]⟩ (extractStridedSlice ⟨2, ![64, 128]⟩ ![97, 0] x h1) h2) h3
    = lay2 (a := 4) (b := 2048) .f32 (step F w m v g 4) := by
  subst hx; refine Eq.trans ?_ (lay2_congr fun l hl k hk => cells_get (ls := ls) fun w z => get_4 w z hl hk)
  funext j; idx_vars j; pointwise [lay2]
  all_goals (congr 1 <;> omega)
theorem out_5 (h1 h2 h3) : shapeCast ⟨2, ![4, 2048]⟩ (shapeCast ⟨1, ![8192]⟩ (extractStridedSlice ⟨2, ![64, 128]⟩ ![161, 0] x h1) h2) h3
    = lay2 (a := 4) (b := 2048) .f32 (step F w m v g 5) := by
  subst hx; refine Eq.trans ?_ (lay2_congr fun l hl k hk => cells_get (ls := ls) fun w z => get_5 w z hl hk)
  funext j; idx_vars j; pointwise [lay2]
  all_goals (congr 1 <;> omega)
theorem out_6 (h1 h2) : shapeCast ⟨1, ![2048]⟩ (extractStridedSlice ⟨2, ![16, 128]⟩ ![225, 0] x h1) h2
    = lay1 (a := 2048) .f32 (step F w m v g 6 0) := by
  subst hx; funext j
  refine Eq.trans ?_ (cells_get (ls := ls) fun w z => get_6 w z (j 0).isLt)
  idx_vars j; pointwise [lay2]
  all_goals (congr 1 <;> omega)

end

/-- The loss, in the row after the weights: the sum of the devices' parts. -/
theorem out_loss {w m v g ls} {x : FVec Ideal ⟨2, ![248, 128]⟩ .f32} (hx : x = lay2 .f32 (cells toG w m v g ls)) (h1 h2 h3 h4) :
    shapeCast ⟨0, ![]⟩ (extractStridedSlice ⟨1, ![1]⟩ ![0] (shapeCast ⟨1, ![128]⟩ (extractStridedSlice ⟨2, ![1, 128]⟩ ![241, 0] x h1) h2) h3) h4
      = (fun _ => ∑ d ∈ range 8, ls d 0 : FVec Ideal ⟨0, ![]⟩ .f32) := by
  subst hx; funext j
  refine Eq.trans ?_ (sum_congr rfl fun d _ => get_7 (g d) (ls d) 0)
  pointwise [lay2, cells]

end Cert.Adam.Small

end
-- ==== Proof.OptAdamSmall.lean ====
module
public import proofs.«01_k».proof.Proof.Packed
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallReferenceIdeal
public import proofs.«01_k».proof.Proof.Gen.AdamSmallReferenceIdeal.Run
public import proofs.«01_k».proof.Proof.Gen.AdamSmallReferenceIdeal.Read
public import Idealize.ShloMosaic.Lib.StableHlo.ReadAt
public import Idealize.ShloMosaic.Lib.Pipeline.ValueKit
@[expose] public section
set_option maxRecDepth 16384

/-!
# AdamW on the small weights

The seven small weights, their moments and the devices' parts of their gradients and of the loss are packed into matrices of 248
rows, one grid point makes the step on all of them, and the results are cut out of the four packed ones.
-/

noncomputable section
open Finset Idealize.ShloMosaic Idealize.SL.Sem
namespace Cert.Adam.Small
open Cert.Ffn

section
open Cert.AdamSmallIdeal Cert.AdamSmallIdeal.Gen

theorem sum_lay (x0 x1 x2 x3 x4 x5 x6 x7 : ℕ → ℕ → ℕ → EReal) :
    k0_pay2 (F := Ideal) (lay3 (a := 1) (b := 248) (c := 128) .f32 x0) (lay3 .f32 x1) (lay3 .f32 x2) (lay3 .f32 x3) (lay3 .f32 x4) (lay3 .f32 x5) (lay3 .f32 x6) (lay3 .f32 x7)
      = lay2 (a := 248) (b := 128) .f32 (fun i j => x0 0 i j + x1 0 i j + x2 0 i j + x3 0 i j + x4 0 i j + x5 0 i j + x6 0 i j + x7 0 i j) := by
  unfold k0_pay2
  funext j; idx_vars j; pointwise [lay2, lay3]

/-- The part of device `d`. -/
abbrev part (x : FVec Ideal S8x248x128 .f32) (d : ℕ) (h : ∀ a, (![d, 0, 0] : Fin 3 → ℕ) a + (![1, 248, 128] : Fin 3 → ℕ) a ≤ S8x248x128.size a) :
    FVec Ideal S1x248x128 .f32 := View.ld (Val := Elt Ideal) (S := S8x248x128) (e' := .f32) x (Rect.unit ![d, 0, 0] ![1, 248, 128] h)

/-- The sum over the devices of their packed parts. -/
theorem sum_of {x : FVec Ideal S8x248x128 .f32} {s : ℕ → ℕ → ℕ → EReal} (hx : x = lay3 .f32 s) (h0 h1 h2 h3 h4 h5 h6 h7) :
    k0_pay2 (F := Ideal) (part x 0 h0) (part x 1 h1) (part x 2 h2) (part x 3 h3) (part x 4 h4) (part x 5 h5) (part x 6 h6) (part x 7 h7)
      = lay2 (a := 248) (b := 128) .f32 (dev s) := by
  subst hx
  refine (sum_lay (fun p i j => s (0 + 1 * p) (0 + 1 * i) (0 + 1 * j)) (fun p i j => s (1 + 1 * p) (0 + 1 * i) (0 + 1 * j)) (fun p i j => s (2 + 1 * p) (0 + 1 * i) (0 + 1 * j)) (fun p i j => s (3 + 1 * p) (0 + 1 * i) (0 + 1 * j)) (fun p i j => s (4 + 1 * p) (0 + 1 * i) (0 + 1 * j)) (fun p i j => s (5 + 1 * p) (0 + 1 * i) (0 + 1 * j)) (fun p i j => s (6 + 1 * p) (0 + 1 * i) (0 + 1 * j)) (fun p i j => s (7 + 1 * p) (0 + 1 * i) (0 + 1 * j))).trans ?_
  refine lay2_congr fun i _ j _ => ?_
  simp only [Nat.mul_zero, Nat.one_mul, Nat.zero_add, Nat.add_zero]
  exact dev_eq s i j

theorem mom_of {x y : FVec Ideal S248x128 .f32} {g m : ℕ → ℕ → EReal} (hx : x = lay2 .f32 g) (hy : y = lay2 .f32 m) :
    k0_pay4 (F := Ideal) x y = lay2 (a := 248) (b := 128) .f32 (fun i j => mom (g i j) (m i j)) := by
  subst hx hy
  unfold k0_pay4 k0_pay3
  funext j; idx_vars j; pointwise [lay2, mom, word]

theorem sq_of {x z : FVec Ideal S248x128 .f32} {g v : ℕ → ℕ → EReal} (hx : x = lay2 .f32 g) (hz : z = lay2 .f32 v) :
    k0_pay5 (F := Ideal) x z = lay2 (a := 248) (b := 128) .f32 (fun i j => sq (g i j) (v i j)) := by
  subst hx hz
  unfold k0_pay5 k0_pay3
  funext j; idx_vars j; pointwise [lay2, sq, word]

theorem move_of {w x y z : FVec Ideal S248x128 .f32} {w' g m v : ℕ → ℕ → EReal} (hw : w = lay2 .f32 w') (hx : x = lay2 .f32 g) (hy : y = lay2 .f32 m) (hz : z = lay2 .f32 v) :
    k0_pay1 (F := Ideal) (k0_pay4 (F := Ideal) x y) (k0_pay5 (F := Ideal) x z) w = lay2 (a := 248) (b := 128) .f32 (fun i j => move (w' i j) (g i j) (m i j) (v i j)) := by
  rw [mom_of hx hy, sq_of hx hz]
  subst hw
  unfold k0_pay1
  funext j; idx_vars j; pointwise [lay2, move, word]

theorem index_0 : ∀ t : Fin cfg0.N, win0_0.index t (0 : Fin 2) = 0 ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = 0 ∧ win0_2.index t (1 : Fin 2) = 0 := by decide +kernel
theorem index_4 : ∀ t : Fin cfg0.N, win0_4.index t (0 : Fin 2) = 0 ∧ win0_4.index t (1 : Fin 2) = 0 := by decide +kernel
theorem index_5 : ∀ t : Fin cfg0.N, win0_5.index t (0 : Fin 2) = 0 ∧ win0_5.index t (1 : Fin 2) = 0 := by decide +kernel
theorem index_6 : ∀ t : Fin cfg0.N, win0_6.index t (0 : Fin 2) = 0 ∧ win0_6.index t (1 : Fin 2) = 0 := by decide +kernel
theorem index_7 : ∀ t : Fin cfg0.N, win0_7.index t (0 : Fin 2) = 0 ∧ win0_7.index t (1 : Fin 2) = 0 := by decide +kernel
theorem index_3 : ∀ t : Fin cfg0.N, win0_3.index t (0 : Fin 3) = 0 ∧ win0_3.index t (1 : Fin 3) = 0 ∧ win0_3.index t (2 : Fin 3) = 0 := by decide +kernel

theorem arrRef_inj : Function.Injective (Pipeline.arrRef spec0) := by decide +kernel

/-- What the program leaves in a buffer. -/
abbrev left (m : (l : Loc nD τ sig) → Buf (Elt Ideal) l) (c : Dev nD) (b : Ref sig .tc) : Buf (Elt Ideal) ((c.tc : Thread nD τ).loc b) :=
  Pipeline.afterTail₀ Cert.AdamSmallIdeal.cfgs (dats m) 0 (V0 m) [hostOps1] c b

variable (m : (l : Loc nD τ sig) → Buf (Elt Ideal) l) (c : Dev nD) (w a v : ℕ → ℕ → ℕ → EReal) (g : ℕ → ℕ → ℕ → ℕ → EReal) (ls : ℕ → ℕ → EReal)

/-- The arguments: the weights, the first moments, the second, the devices' parts of the gradients and of the loss. -/
structure Args : Prop where
  w : Holds (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) w
  a : Holds (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) a
  v : Holds (m (c, Proc.tc.devRef main_arg14)) (m (c, Proc.tc.devRef main_arg15)) (m (c, Proc.tc.devRef main_arg16)) (m (c, Proc.tc.devRef main_arg17)) (m (c, Proc.tc.devRef main_arg18)) (m (c, Proc.tc.devRef main_arg19)) (m (c, Proc.tc.devRef main_arg20)) v
  g : Parts (m (c, Proc.tc.devRef main_arg21)) (m (c, Proc.tc.devRef main_arg22)) (m (c, Proc.tc.devRef main_arg23)) (m (c, Proc.tc.devRef main_arg24)) (m (c, Proc.tc.devRef main_arg25)) (m (c, Proc.tc.devRef main_arg26)) (m (c, Proc.tc.devRef main_arg27)) g
  ls : m (c, Proc.tc.devRef main_arg28) = lay2 (a := 8) (b := 128) .f32 ls

variable (A : Args m c w a v g ls)
include A

theorem v48_at : Gen.V m c main_v48 = lay2 (a := 248) (b := 128) .f32 (packed w zeros) := by
  unfold Gen.V
  after_reads_simp
  dsimp only [Matrix.cons_val, StableHlo.TRef.toBuf, StableHlo.TRef.ofBuf, cast_eq]
  refine stack ?_ ?_ ?_ ?_ ?_ ?_ ?_ ?_ _ _ _ <;> after_reads_simp <;> simp -implicitDefEqProofs only [StableHlo.TRef.toBuf, StableHlo.TRef.ofBuf, cast_cast, cast_eq] <;> clean_types
  · exact flat_2048 A.w.e0 _ _ _ _
  · exact flat_512 A.w.e1 _ _ _ _
  · exact flat_512 A.w.e2 _ _ _ _
  · exact flat_4 A.w.e3 _ _ _ _
  · exact flat_2048 A.w.e4 _ _ _ _
  · exact flat_2048 A.w.e5 _ _ _ _
  · exact flat_row A.w.e6 _ _ _
  · exact flat_last (g := zeros) rfl _ _ _

theorem block_0 (t : Fin cfg0.N) : (iblk m c 0 t : FVec Ideal ⟨2, ![248, 128]⟩ .f32) = lay2 .f32 (packed w zeros) := by
  funext j
  unfold iblk
  rw [View.read_apply]
  show Gen.V m c main_v48 _ = _
  rw [v48_at m c w a v g ls A]
  show packed w zeros (win0_0.index t (0 : Fin 2) * 248 + 1 * (j 0).val) (win0_0.index t (1 : Fin 2) * 128 + 1 * (j 1).val) = packed w zeros _ _
  rw [(index_0 t).1, (index_0 t).2]
  congr 1 <;> omega

theorem v72_at : Gen.V m c main_v72 = lay2 (a := 248) (b := 128) .f32 (packed a zeros) := by
  unfold Gen.V
  after_reads_simp
  dsimp only [Matrix.cons_val, StableHlo.TRef.toBuf, StableHlo.TRef.ofBuf, cast_eq]
  refine stack ?_ ?_ ?_ ?_ ?_ ?_ ?_ ?_ _ _ _ <;> after_reads_simp <;> simp -implicitDefEqProofs only [StableHlo.TRef.toBuf, StableHlo.TRef.ofBuf, cast_cast, cast_eq] <;> clean_types
  · exact flat_2048 A.a.e0 _ _ _ _
  · exact flat_512 A.a.e1 _ _ _ _
  · exact flat_512 A.a.e2 _ _ _ _
  · exact flat_4 A.a.e3 _ _ _ _
  · exact flat_2048 A.a.e4 _ _ _ _
  · exact flat_2048 A.a.e5 _ _ _ _
  · exact flat_row A.a.e6 _ _ _
  · exact flat_last (g := zeros) rfl _ _ _

theorem block_1 (t : Fin cfg0.N) : (iblk m c 1 t : FVec Ideal ⟨2, ![248, 128]⟩ .f32) = lay2 .f32 (packed a zeros) := by
  funext j
  unfold iblk
  rw [View.read_apply]
  show Gen.V m c main_v72 _ = _
  rw [v72_at m c w a v g ls A]
  show packed a zeros (win0_1.index t (0 : Fin 2) * 248 + 1 * (j 0).val) (win0_1.index t (1 : Fin 2) * 128 + 1 * (j 1).val) = packed a zeros _ _
  rw [(index_1 t).1, (index_1 t).2]
  congr 1 <;> omega

theorem v96_at : Gen.V m c main_v96 = lay2 (a := 248) (b := 128) .f32 (packed v zeros) := by
  unfold Gen.V
  after_reads_simp
  dsimp only [Matrix.cons_val, StableHlo.TRef.toBuf, StableHlo.TRef.ofBuf, cast_eq]
  refine stack ?_ ?_ ?_ ?_ ?_ ?_ ?_ ?_ _ _ _ <;> after_reads_simp <;> simp -implicitDefEqProofs only [StableHlo.TRef.toBuf, StableHlo.TRef.ofBuf, cast_cast, cast_eq] <;> clean_types
  · exact flat_2048 A.v.e0 _ _ _ _
  · exact flat_512 A.v.e1 _ _ _ _
  · exact flat_512 A.v.e2 _ _ _ _
  · exact flat_4 A.v.e3 _ _ _ _
  · exact flat_2048 A.v.e4 _ _ _ _
  · exact flat_2048 A.v.e5 _ _ _ _
  · exact flat_row A.v.e6 _ _ _
  · exact flat_last (g := zeros) rfl _ _ _

theorem block_2 (t : Fin cfg0.N) : (iblk m c 2 t : FVec Ideal ⟨2, ![248, 128]⟩ .f32) = lay2 .f32 (packed v zeros) := by
  funext j
  unfold iblk
  rw [View.read_apply]
  show Gen.V m c main_v96 _ = _
  rw [v96_at m c w a v g ls A]
  show packed v zeros (win0_2.index t (0 : Fin 2) * 248 + 1 * (j 0).val) (win0_2.index t (1 : Fin 2) * 128 + 1 * (j 1).val) = packed v zeros _ _
  rw [(index_2 t).1, (index_2 t).2]
  congr 1 <;> omega

theorem v24_at : Gen.V m c main_v24 = lay3 (a := 8) (b := 248) (c := 128) .f32 (fun d => packed (g d) (ls d)) := by
  unfold Gen.V
  after_reads_simp
  dsimp only [Matrix.cons_val, StableHlo.TRef.toBuf, StableHlo.TRef.ofBuf, cast_eq]
  refine stack_all ?_ ?_ ?_ ?_ ?_ ?_ ?_ ?_ _ _ _ <;> after_reads_simp <;> simp -implicitDefEqProofs only [StableHlo.TRef.toBuf, StableHlo.TRef.ofBuf, cast_cast, cast_eq] <;> clean_types
  · exact flats_2048 A.g.e0 _ _ _ _
  · exact flats_512 A.g.e1 _ _ _ _
  · exact flats_512 A.g.e2 _ _ _ _
  · exact flats_4 A.g.e3 _ _ _ _
  · exact flats_2048 A.g.e4 _ _ _ _
  · exact flats_2048 A.g.e5 _ _ _ _
  · exact flats_row A.g.e6 _ _ _
  · exact flats_last A.ls _ _ _

theorem block_3 (t : Fin cfg0.N) : (iblk m c 3 t : FVec Ideal ⟨3, ![8, 248, 128]⟩ .f32) = lay3 .f32 (fun d => packed (g d) (ls d)) := by
  funext j
  unfold iblk
  rw [View.read_apply]
  show Gen.V m c main_v24 _ = _
  rw [v24_at m c w a v g ls A]
  show packed (g (win0_3.index t (0 : Fin 3) * 8 + 1 * (j 0).val)) (ls (win0_3.index t (0 : Fin 3) * 8 + 1 * (j 0).val))
      (win0_3.index t (1 : Fin 3) * 248 + 1 * (j 1).val) (win0_3.index t (2 : Fin 3) * 128 + 1 * (j 2).val) = packed (g (j 0).val) (ls (j 0).val) _ _
  rw [(index_3 t).1, (index_3 t).2.1, (index_3 t).2.2, show 0 * 8 + 1 * (j 0).val = (j 0).val by omega]
  congr 1 <;> omega

/-- What the point leaves for the four results. -/
theorem at_point (t : Fin cfg0.N) : outsAt0 m c t
    = ((lay2 (a := 248) (b := 128) .f32 (cells toG w a v g ls) : FVec Ideal S248x128 .f32), (lay2 (a := 248) (b := 128) .f32 (cells toD w a v g ls) : FVec Ideal S248x128 .f32),
      (lay2 (a := 248) (b := 128) .f32 (cells toM w a v g ls) : FVec Ideal S248x128 .f32), (lay2 (a := 248) (b := 128) .f32 (cells toV w a v g ls) : FVec Ideal S248x128 .f32)) := by
  have e := sum_of (block_3 m c w a v g ls A t) inb_S8x248x128_S1x248x128_0_0_0 inb_S8x248x128_S1x248x128_1_0_0 inb_S8x248x128_S1x248x128_2_0_0 inb_S8x248x128_S1x248x128_3_0_0
    inb_S8x248x128_S1x248x128_4_0_0 inb_S8x248x128_S1x248x128_5_0_0 inb_S8x248x128_S1x248x128_6_0_0 inb_S8x248x128_S1x248x128_7_0_0
  unfold outsAt0
  refine Prod.ext ?_ (Prod.ext ?_ (Prod.ext ?_ ?_)) <;> (dsimp only; frame_out)
  · exact e
  · exact move_of (block_0 m c w a v g ls A t) e (block_1 m c w a v g ls A t) (block_2 m c w a v g ls A t)
  · exact mom_of e (block_1 m c w a v g ls A t)
  · exact sq_of e (block_2 m c w a v g ls A t)

theorem packed_G : (dats m 0 c).arrAt 4 cfg0.N = (lay2 (a := 248) (b := 128) .f32 (cells toG w a v g ls) : FVec Ideal S248x128 .f32) := by
  refine (dats m 0 c).arrAt_eq_of_covers 4 _ (by decide +kernel) fun t hf y => ?_
  blk_simp
  rw [after0_4, at_point m c w a v g ls A t]
  show cells toG w a v g ls (y (0 : Fin 2)).val (y (1 : Fin 2)).val
    = cells toG w a v g ls (win0_4.index t (0 : Fin 2) * 248 + 1 * (y (0 : Fin 2)).val) (win0_4.index t (1 : Fin 2) * 128 + 1 * (y (1 : Fin 2)).val)
  rw [(index_4 t).1, (index_4 t).2]
  congr 1 <;> omega

theorem packed_D : (dats m 0 c).arrAt 5 cfg0.N = (lay2 (a := 248) (b := 128) .f32 (cells toD w a v g ls) : FVec Ideal S248x128 .f32) := by
  refine (dats m 0 c).arrAt_eq_of_covers 5 _ (by decide +kernel) fun t hf y => ?_
  blk_simp
  rw [after0_5, at_point m c w a v g ls A t]
  show cells toD w a v g ls (y (0 : Fin 2)).val (y (1 : Fin 2)).val
    = cells toD w a v g ls (win0_5.index t (0 : Fin 2) * 248 + 1 * (y (0 : Fin 2)).val) (win0_5.index t (1 : Fin 2) * 128 + 1 * (y (1 : Fin 2)).val)
  rw [(index_5 t).1, (index_5 t).2]
  congr 1 <;> omega

theorem packed_M : (dats m 0 c).arrAt 6 cfg0.N = (lay2 (a := 248) (b := 128) .f32 (cells toM w a v g ls) : FVec Ideal S248x128 .f32) := by
  refine (dats m 0 c).arrAt_eq_of_covers 6 _ (by decide +kernel) fun t hf y => ?_
  blk_simp
  rw [after0_6, at_point m c w a v g ls A t]
  show cells toM w a v g ls (y (0 : Fin 2)).val (y (1 : Fin 2)).val
    = cells toM w a v g ls (win0_6.index t (0 : Fin 2) * 248 + 1 * (y (0 : Fin 2)).val) (win0_6.index t (1 : Fin 2) * 128 + 1 * (y (1 : Fin 2)).val)
  rw [(index_6 t).1, (index_6 t).2]
  congr 1 <;> omega

theorem packed_V : (dats m 0 c).arrAt 7 cfg0.N = (lay2 (a := 248) (b := 128) .f32 (cells toV w a v g ls) : FVec Ideal S248x128 .f32) := by
  refine (dats m 0 c).arrAt_eq_of_covers 7 _ (by decide +kernel) fun t hf y => ?_
  blk_simp
  rw [after0_7, at_point m c w a v g ls A t]
  show cells toV w a v g ls (y (0 : Fin 2)).val (y (1 : Fin 2)).val
    = cells toV w a v g ls (win0_7.index t (0 : Fin 2) * 248 + 1 * (y (0 : Fin 2)).val) (win0_7.index t (1 : Fin 2) * 128 + 1 * (y (1 : Fin 2)).val)
  rw [(index_7 t).1, (index_7 t).2]
  congr 1 <;> omega

/-- The gradients, cut out of the packed ones. -/
theorem left_G : (left m c main_v100 : FVec Ideal ⟨2, ![4, 2048]⟩ .f32) = lay2 .f32 (step toG w a v g 0)
    ∧ (left m c main_v103 : FVec Ideal ⟨2, ![4, 512]⟩ .f32) = lay2 .f32 (step toG w a v g 1)
    ∧ (left m c main_v106 : FVec Ideal ⟨2, ![4, 512]⟩ .f32) = lay2 .f32 (step toG w a v g 2)
    ∧ (left m c main_v110 : FVec Ideal ⟨2, ![4, 4]⟩ .f32) = lay2 .f32 (step toG w a v g 3)
    ∧ (left m c main_v113 : FVec Ideal ⟨2, ![4, 2048]⟩ .f32) = lay2 .f32 (step toG w a v g 4)
    ∧ (left m c main_v116 : FVec Ideal ⟨2, ![4, 2048]⟩ .f32) = lay2 .f32 (step toG w a v g 5)
    ∧ (left m c main_v118 : FVec Ideal ⟨1, ![2048]⟩ .f32) = lay1 .f32 (step toG w a v g 6 0) := by
  have e := (Pipeline.withArrays_arr spec0 arrRef_inj c (V0 m c) (fun w => (dats m 0 c).arrAt w cfg0.N) 4).trans (packed_G m c w a v g ls A)
  refine ⟨?_, ?_, ?_, ?_, ?_, ?_, ?_⟩ <;> unfold left Pipeline.afterTail₀ <;> after_reads_simp <;> clean_types
  · exact out_0 e _ _ _
  · exact out_1 e _ _ _
  · exact out_2 e _ _ _
  · exact out_3 e _ _ _ _
  · exact out_4 e _ _ _
  · exact out_5 e _ _ _
  · exact out_6 e _ _

/-- The changes of the weights, cut out of the packed ones. -/
theorem left_D : (left m c main_v123 : FVec Ideal ⟨2, ![4, 2048]⟩ .f32) = lay2 .f32 (step toD w a v g 0)
    ∧ (left m c main_v126 : FVec Ideal ⟨2, ![4, 512]⟩ .f32) = lay2 .f32 (step toD w a v g 1)
    ∧ (left m c main_v129 : FVec Ideal ⟨2, ![4, 512]⟩ .f32) = lay2 .f32 (step toD w a v g 2)
    ∧ (left m c main_v133 : FVec Ideal ⟨2, ![4, 4]⟩ .f32) = lay2 .f32 (step toD w a v g 3)
    ∧ (left m c main_v136 : FVec Ideal ⟨2, ![4, 2048]⟩ .f32) = lay2 .f32 (step toD w a v g 4)
    ∧ (left m c main_v139 : FVec Ideal ⟨2, ![4, 2048]⟩ .f32) = lay2 .f32 (step toD w a v g 5)
    ∧ (left m c main_v141 : FVec Ideal ⟨1, ![2048]⟩ .f32) = lay1 .f32 (step toD w a v g 6 0) := by
  have e := (Pipeline.withArrays_arr spec0 arrRef_inj c (V0 m c) (fun w => (dats m 0 c).arrAt w cfg0.N) 5).trans (packed_D m c w a v g ls A)
  refine ⟨?_, ?_, ?_, ?_, ?_, ?_, ?_⟩ <;> unfold left Pipeline.afterTail₀ <;> after_reads_simp <;> clean_types
  · exact out_0 e _ _ _
  · exact out_1 e _ _ _
  · exact out_2 e _ _ _
  · exact out_3 e _ _ _ _
  · exact out_4 e _ _ _
  · exact out_5 e _ _ _
  · exact out_6 e _ _

/-- The new first moments, cut out of the packed ones. -/
theorem left_M : (left m c main_v146 : FVec Ideal ⟨2, ![4, 2048]⟩ .f32) = lay2 .f32 (step toM w a v g 0)
    ∧ (left m c main_v149 : FVec Ideal ⟨2, ![4, 512]⟩ .f32) = lay2 .f32 (step toM w a v g 1)
    ∧ (left m c main_v152 : FVec Ideal ⟨2, ![4, 512]⟩ .f32) = lay2 .f32 (step toM w a v g 2)
    ∧ (left m c main_v156 : FVec Ideal ⟨2, ![4, 4]⟩ .f32) = lay2 .f32 (step toM w a v g 3)
    ∧ (left m c main_v159 : FVec Ideal ⟨2, ![4, 2048]⟩ .f32) = lay2 .f32 (step toM w a v g 4)
    ∧ (left m c main_v162 : FVec Ideal ⟨2, ![4, 2048]⟩ .f32) = lay2 .f32 (step toM w a v g 5)
    ∧ (left m c main_v164 : FVec Ideal ⟨1, ![2048]⟩ .f32) = lay1 .f32 (step toM w a v g 6 0) := by
  have e := (Pipeline.withArrays_arr spec0 arrRef_inj c (V0 m c) (fun w => (dats m 0 c).arrAt w cfg0.N) 6).trans (packed_M m c w a v g ls A)
  refine ⟨?_, ?_, ?_, ?_, ?_, ?_, ?_⟩ <;> unfold left Pipeline.afterTail₀ <;> after_reads_simp <;> clean_types
  · exact out_0 e _ _ _
  · exact out_1 e _ _ _
  · exact out_2 e _ _ _
  · exact out_3 e _ _ _ _
  · exact out_4 e _ _ _
  · exact out_5 e _ _ _
  · exact out_6 e _ _

/-- The new second moments, cut out of the packed ones. -/
theorem left_V : (left m c main_v169 : FVec Ideal ⟨2, ![4, 2048]⟩ .f32) = lay2 .f32 (step toV w a v g 0)
    ∧ (left m c main_v172 : FVec Ideal ⟨2, ![4, 512]⟩ .f32) = lay2 .f32 (step toV w a v g 1)
    ∧ (left m c main_v175 : FVec Ideal ⟨2, ![4, 512]⟩ .f32) = lay2 .f32 (step toV w a v g 2)
    ∧ (left m c main_v179 : FVec Ideal ⟨2, ![4, 4]⟩ .f32) = lay2 .f32 (step toV w a v g 3)
    ∧ (left m c main_v182 : FVec Ideal ⟨2, ![4, 2048]⟩ .f32) = lay2 .f32 (step toV w a v g 4)
    ∧ (left m c main_v185 : FVec Ideal ⟨2, ![4, 2048]⟩ .f32) = lay2 .f32 (step toV w a v g 5)
    ∧ (left m c main_v187 : FVec Ideal ⟨1, ![2048]⟩ .f32) = lay1 .f32 (step toV w a v g 6 0) := by
  have e := (Pipeline.withArrays_arr spec0 arrRef_inj c (V0 m c) (fun w => (dats m 0 c).arrAt w cfg0.N) 7).trans (packed_V m c w a v g ls A)
  refine ⟨?_, ?_, ?_, ?_, ?_, ?_, ?_⟩ <;> unfold left Pipeline.afterTail₀ <;> after_reads_simp <;> clean_types
  · exact out_0 e _ _ _
  · exact out_1 e _ _ _
  · exact out_2 e _ _ _
  · exact out_3 e _ _ _ _
  · exact out_4 e _ _ _
  · exact out_5 e _ _ _
  · exact out_6 e _ _

/-- The loss, cut out of the packed gradients. -/
theorem left_loss : (left m c main_v191 : FVec Ideal ⟨0, ![]⟩ .f32) = fun _ => ∑ d ∈ range 8, ls d 0 := by
  have e := (Pipeline.withArrays_arr spec0 arrRef_inj c (V0 m c) (fun w => (dats m 0 c).arrAt w cfg0.N) 4).trans (packed_G m c w a v g ls A)
  unfold left Pipeline.afterTail₀
  after_reads_simp
  clean_types
  exact out_loss e _ _ _ _

omit A
/-- The run: every buffer that no window holds ends with what the program leaves in it. -/
theorem run_left (ρ : Dev nD → PrngReg) : θ_run defs (onTc (τ := τ) (main (F := Ideal))) ⟨m, fun _ => 0, ρ⟩ (fun r => ∀ (c : Dev nD) (b : Ref sig .tc),
    b.isScoped = false → (∀ w, (spec0 w).arr.view.ref ≠ b) → r.2.mem ((c.tc : Thread nD τ).loc b) = left m c b) :=
  (θ_run defs _ _).mono (fun _ h c b hs hb => (h c).2 b (Pipeline.mem_restRefs_of b hs hb)) (run_main m ρ)
end

section
open Cert.AdamSmallReferenceIdeal Cert.AdamSmallReferenceIdeal.Gen Cert.AdamSmallReferenceIdeal.Read Cert.AdamSmallReferenceIdeal.Value

theorem sums_2048 {x : FVec Ideal S8x4x2048 .f32} {g : ℕ → ℕ → ℕ → EReal} (hx : x = lay3 .f32 g) :
    Host.reduceAdd x (constant S_ .f32 0x00000000#32) reducesTo_S8x4x2048_S4x2048_d0 h_S_ = lay2 (a := 4) (b := 2048) .f32 (fun i k => ∑ d ∈ range 8, g d i k) := by
  subst hx
  funext j; idx_vars j
  refine (val_main_v0_apply _ _).trans ?_
  rw [val_main_cst_apply]
  show Ideal.ofBits .f32 0x00000000#32 + ∑ k : Fin 8, g k.val _ _ = ∑ d ∈ range 8, g d _ _
  rw [Ideal.ofBits_zero_f32, zero_add, Finset.sum_range]

theorem sums_512 {x : FVec Ideal S8x4x512 .f32} {g : ℕ → ℕ → ℕ → EReal} (hx : x = lay3 .f32 g) :
    Host.reduceAdd x (constant S_ .f32 0x00000000#32) reducesTo_S8x4x512_S4x512_d0 h_S_ = lay2 (a := 4) (b := 512) .f32 (fun i k => ∑ d ∈ range 8, g d i k) := by
  subst hx
  funext j; idx_vars j
  refine (val_main_v1_apply _ _).trans ?_
  rw [val_main_cst_0_apply]
  show Ideal.ofBits .f32 0x00000000#32 + ∑ k : Fin 8, g k.val _ _ = ∑ d ∈ range 8, g d _ _
  rw [Ideal.ofBits_zero_f32, zero_add, Finset.sum_range]

theorem sums_4 {x : FVec Ideal S8x4x4 .f32} {g : ℕ → ℕ → ℕ → EReal} (hx : x = lay3 .f32 g) :
    Host.reduceAdd x (constant S_ .f32 0x00000000#32) reducesTo_S8x4x4_S4x4_d0 h_S_ = lay2 (a := 4) (b := 4) .f32 (fun i k => ∑ d ∈ range 8, g d i k) := by
  subst hx
  funext j; idx_vars j
  refine (val_main_v3_apply _ _).trans ?_
  rw [val_main_cst_2_apply]
  show Ideal.ofBits .f32 0x00000000#32 + ∑ k : Fin 8, g k.val _ _ = ∑ d ∈ range 8, g d _ _
  rw [Ideal.ofBits_zero_f32, zero_add, Finset.sum_range]

theorem sums_row {x : FVec Ideal S8x2048 .f32} {g : ℕ → ℕ → EReal} (hx : x = lay2 .f32 g) :
    Host.reduceAdd x (constant S_ .f32 0x00000000#32) reducesTo_S8x2048_S2048_d0 h_S_ = lay1 (a := 2048) .f32 (fun k => ∑ d ∈ range 8, g d k) := by
  subst hx
  funext j; idx_vars j
  refine (val_main_v6_apply _ _).trans ?_
  rw [val_main_cst_5_apply]
  show Ideal.ofBits .f32 0x00000000#32 + ∑ k : Fin 8, g k.val _ = ∑ d ∈ range 8, g d _
  rw [Ideal.ofBits_zero_f32, zero_add, Finset.sum_range]

/-- The loss: the sum of the first column of the devices' parts. -/
theorem loss_sum {x : FVec Ideal S8x128 .f32} {g : ℕ → ℕ → EReal} (hx : x = lay2 .f32 g) :
    Host.reduceAdd (shapeCast _ (extractStridedSlice S8x1 ![0, 0] x slices_S8x128_S8x1_0_0) shapeCasts_S8x1_S8) (constant S_ .f32 0x00000000#32) reducesTo_S8_S_d0 h_S_
      = fun _ => ∑ d ∈ range 8, g d 0 := by
  subst hx
  funext j
  refine (val_main_v177_apply _ _).trans ?_
  rw [val_main_cst_69_apply, ← (Equiv.ofBijective (fun k : Fin 8 => (ValueIdx.ix1 k : S8.Idx))
    ⟨fun _ _ h => congrFun h 0, fun i => ⟨i 0, by funext d; fin_cases d; rfl⟩⟩).sum_comp]
  simp only [val_main_v176_apply, val_main_v175_apply]
  show Ideal.ofBits .f32 0x00000000#32 + ∑ k : Fin 8, g (k.val / 1 + 0) 0 = ∑ d ∈ range 8, g d 0
  simp only [Ideal.ofBits_zero_f32, zero_add, Finset.sum_range, Nat.div_one, Nat.add_zero]
end
end Cert.Adam.Small
end
-- ==== Proof.NormDx.lean ====
/-
  The gradient of a row through its root mean square. The kernel multiplies the row by the reciprocal of the root before
  it takes the mean of the row against the gradient; the plain derivative takes the sum first and divides by the mean square
  afterwards. The two are equal for all extended reals: where the row has an infinity the reciprocal is zero and nothing but
  the residual is left, and elsewhere the reciprocal is a positive real, which moves through the sum.
-/
module

public import Idealize.ShloMosaic.Lib.Pointwise
public import Idealize.ShloMosaic.Lib.IdealHost

@[expose] public section

noncomputable section

open Finset Idealize.ShloMosaic

namespace Cert.Norm

/-- The number added to the mean square. -/
def eps : ℝ := (8796093 : ℝ) * (2 : ℝ) ^ (-43 : Int)

theorem eps_eq : Ideal.ofBits .f32 0x358637BD#32 = (eps : EReal) := by
  simp [Ideal.ofBits, Ideal.ieee, eps]

theorem eps_pos : 0 < eps := by unfold eps; positivity

theorem width_eq : Ideal.ofBits .f32 0x45000000#32 = ((2048 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem div_coe (x : EReal) {r : ℝ} (h : r ≠ 0) : Ideal.div x (r : EReal) = x * ((r⁻¹ : ℝ) : EReal) := by
  unfold Ideal.div
  rw [if_neg (by exact_mod_cast h), EReal.coe_inv]

/-- A nonnegative real moves out of a sum. -/
theorem mul_sum {c : ℝ} (hc : 0 ≤ c) (s : Finset ℕ) (f : ℕ → EReal) : ∑ k ∈ s, (c : EReal) * f k = (c : EReal) * ∑ k ∈ s, f k := by
  classical
  induction s using Finset.induction_on with
  | empty => simp
  | insert a s ha ih =>
    rw [sum_insert ha, sum_insert ha, ih, EReal.left_distrib_of_nonneg_of_ne_top (by exact_mod_cast hc) (EReal.coe_ne_top c)]

theorem coe_sum (s : Finset ℕ) (f : ℕ → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- The mean square of the row, and the small number. -/
def ms (x : ℕ → EReal) : EReal := Ideal.div (∑ k ∈ range 2048, x k * x k) (Ideal.ofBits .f32 0x45000000#32) + Ideal.ofBits .f32 0x358637BD#32

/-- The reciprocal of its root. -/
def rs (x : ℕ → EReal) : EReal := Ideal.rsqrt (ms x)

/-- What the kernel makes of a row `x`, a gradient `g` and a residual at a place of the row. -/
def dx (x g : ℕ → EReal) (e : EReal) (j : ℕ) : EReal :=
  rs x * (g j - x j * rs x * Ideal.div (∑ k ∈ range 2048, g k * (x k * rs x)) (Ideal.ofBits .f32 0x45000000#32)) + e

/-- What the plain derivative makes of them. -/
def dxPlain (x g : ℕ → EReal) (e : EReal) (j : ℕ) : EReal :=
  g j * rs x + Ideal.div ((∑ k ∈ range 2048, x k * g k) * (Ideal.ofBits .f32 0xBF000000#32 * Ideal.div (rs x) (ms x))) (Ideal.ofBits .f32 0x45000000#32)
    * (Ideal.ofBits .f32 0x40000000#32 * x j) + e

theorem ms_inf {x : ℕ → EReal} {k : ℕ} (hk : k < 2048) (h : x k * x k = ⊤) : ms x = ⊤ := by
  have hs : ∑ k ∈ range 2048, x k * x k = ⊤ := by
    refine top_le_iff.mp (h ▸ single_le_sum (f := fun k => x k * x k) (fun i _ => ?_) (mem_range.mpr hk))
    rcases le_total 0 (x i) with h0 | h0
    · exact EReal.mul_nonneg h0 h0
    · exact EReal.mul_nonneg_iff.mpr (.inr ⟨h0, h0⟩)
  unfold ms
  rw [hs, width_eq, eps_eq, div_coe _ (by norm_num), EReal.top_mul_coe_of_pos (by norm_num), EReal.top_add_coe]

theorem ms_real {x : ℕ → EReal} {y : ℕ → ℝ} (h : ∀ k < 2048, x k = (y k : EReal)) : ∃ s : ℝ, 0 < s ∧ ms x = (s : EReal) := by
  refine ⟨(∑ k ∈ range 2048, y k * y k) * 2048⁻¹ + eps, ?_, ?_⟩
  · have : 0 ≤ ∑ k ∈ range 2048, y k * y k := sum_nonneg fun k _ => mul_self_nonneg _
    have := eps_pos
    positivity
  · unfold ms
    rw [sum_congr rfl fun k hk => by rw [h k (mem_range.mp hk), ← EReal.coe_mul], ← coe_sum, width_eq, eps_eq, div_coe _ (by norm_num), ← EReal.coe_mul, ← EReal.coe_add]

theorem rsqrt_pos {s : ℝ} (h : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg h.not_gt, if_neg h.ne']

theorem dx_eq (x g : ℕ → EReal) (e : EReal) {j : ℕ} (hj : j < 2048) : dx x g e j = dxPlain x g e j := by
  by_cases hi : ∃ k < 2048, x k * x k = ⊤
  · obtain ⟨k, hk, h⟩ := hi
    have hr : rs x = 0 := by unfold rs; rw [ms_inf hk h]; rfl
    unfold dx dxPlain
    rw [hr, ms_inf hk h, width_eq]
    have h0 : Ideal.div 0 ⊤ = 0 := by unfold Ideal.div; simp
    simp [h0, div_coe _ (show (2048 : ℝ) ≠ 0 by norm_num)]
  · have hy : ∀ k < 2048, x k = ((x k).toReal : EReal) := fun k hk => by
      refine (EReal.coe_toReal (fun h => hi ⟨k, hk, ?_⟩) (fun h => hi ⟨k, hk, ?_⟩)).symm <;> simp [h]
    obtain ⟨s, hs, e'⟩ := ms_real hy
    have hr : rs x = (((Real.sqrt s)⁻¹ : ℝ) : EReal) := by unfold rs; rw [e', rsqrt_pos hs]
    have hp : 0 < (Real.sqrt s)⁻¹ := inv_pos.mpr (Real.sqrt_pos.mpr hs)
    have hq : (Real.sqrt s)⁻¹ * (Real.sqrt s)⁻¹ = s⁻¹ := by rw [← mul_inv, Real.mul_self_sqrt hs.le]
    unfold dx dxPlain
    rw [hr, e', width_eq, half_eq, two_eq, div_coe _ hs.ne', div_coe _ (by norm_num), div_coe _ (by norm_num)]
    generalize (Real.sqrt s)⁻¹ = r at *
    rw [sum_congr rfl fun k _ => show g k * (x k * (r : EReal)) = (r : EReal) * (x k * g k) by rw [mul_comm (g k), mul_comm (x k), mul_assoc],
      mul_sum hp.le, hy j hj]
    generalize ∑ k ∈ range 2048, x k * g k = T
    generalize (x j).toReal = y
    congr 1
    rw [sub_eq_add_neg, EReal.left_distrib_of_nonneg_of_ne_top (by exact_mod_cast hp.le) (EReal.coe_ne_top r), mul_comm (g j)]
    congr 1
    have el : (r : EReal) * -((y : EReal) * (r : EReal) * ((r : EReal) * T * ((2048⁻¹ : ℝ) : EReal))) = T * ((-(r * y * r * r * 2048⁻¹) : ℝ) : EReal) := by
      rw [mul_neg, EReal.coe_neg, mul_neg]
      push_cast
      ac_rfl
    have er : T * (((-(1 / 2) : ℝ) : EReal) * ((r : EReal) * ((s⁻¹ : ℝ) : EReal))) * ((2048⁻¹ : ℝ) : EReal) * (((2 : ℝ) : EReal) * (y : EReal))
        = T * ((-(1 / 2) * (r * s⁻¹) * 2048⁻¹ * (2 * y) : ℝ) : EReal) := by
      simp only [EReal.coe_mul, mul_assoc]
    rw [el, er, ← hq]
    congr 2
    ring

end Cert.Norm
end
-- ==== Proof.NormBwd.lean ====
module
public import proofs.«01_k».proof.Proof.Packed
public import proofs.«01_k».proof.Proof.NormDx
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import Idealize.ShloMosaic.Lib.StableHlo.ReadAt
public import Idealize.ShloMosaic.Lib.Pipeline.ValueKit
@[expose] public section
set_option maxRecDepth 16384

/-!
# The gradient of the layer's input

Every grid point takes a block of 256 rows of the input, of the gradient of the normed rows and of the residual gradient, and
writes the rows' gradient and its half precision copy. The points add up the gradient of the gain, and the last one has the sum.
-/

noncomputable section
open Finset Idealize.ShloMosaic Idealize.SL.Sem
namespace Cert.Norm
open Cert.Ffn

/-- The gradient of the input's cell `i j`: of the rows `x`, the gain `n`, the gradient `y` of the normed rows and the residual `e`. -/
def cell (x y e : ℕ → ℕ → EReal) (n : ℕ → EReal) (i j : ℕ) : EReal := dx (x i) (fun k => y i k * n k) (e i j) j

section
open Cert.NormIdeal Cert.NormIdeal.Gen

/-- The reciprocal of the root of the rows' mean square. -/
theorem root_of {x : FVec Ideal S256x2048 .f32} {x' : ℕ → ℕ → EReal} (hx : x = lay2 .f32 x') :
    k0_pay3 (F := Ideal) x = lay2 (a := 256) (b := 1) .f32 (fun i _ => rs (x' i)) := by
  subst hx
  unfold k0_pay3
  funext j; idx_vars j; pointwise [lay2, rs, ms]
  simp only [Finset.sum_range]

theorem normed_of {x : FVec Ideal S256x2048 .f32} {x' : ℕ → ℕ → EReal} (hx : x = lay2 .f32 x') :
    k0_pay4 (F := Ideal) x = lay2 (a := 256) (b := 2048) .f32 (fun i j => x' i j * rs (x' i)) := by
  unfold k0_pay4
  rw [root_of hx]
  subst hx
  funext j; idx_vars j; pointwise [lay2]

theorem dx_of {x y e : FVec Ideal S256x2048 .f32} {n : FVec Ideal S1x2048 .f32} {x' y' e' n' : ℕ → ℕ → EReal} (hx : x = lay2 .f32 x') (hy : y = lay2 .f32 y')
    (hn : n = lay2 .f32 n') (he : e = lay2 .f32 e') : k0_pay5 (F := Ideal) x y n e = lay2 (a := 256) (b := 2048) .f32 (cell x' y' e' (n' 0)) := by
  unfold k0_pay5
  rw [root_of hx, normed_of hx]
  subst hy hn he
  funext j; idx_vars j; pointwise [lay2, cell, dx]
  simp only [Finset.sum_range]

/-- What the rows of the first `s` blocks add to the gradient of the gain's cell `j`. -/
def gain (x y : ℕ → ℕ → EReal) (s j : ℕ) : EReal := ∑ i ∈ range (256 * s), y i j * (x i j * rs (x i))

theorem gain_succ (x y : ℕ → ℕ → EReal) (s j : ℕ) :
    gain x y (s + 1) j = gain x y s j + ∑ i ∈ range 256, y (256 * s + i) j * (x (256 * s + i) j * rs (x (256 * s + i))) := by
  unfold gain
  rw [Nat.mul_succ, sum_range_add]

theorem gain_of {x y : FVec Ideal S256x2048 .f32} {z : FVec Ideal S1x2048 .f32} {x' y' z' : ℕ → ℕ → EReal} (hx : x = lay2 .f32 x') (hy : y = lay2 .f32 y')
    (hz : z = lay2 .f32 z') : k0_pay1 (F := Ideal) (k0_pay4 x) y z = lay2 (a := 1) (b := 2048) .f32 (fun i j => z' i j + ∑ k ∈ range 256, y' k j * (x' k j * rs (x' k))) := by
  unfold k0_pay1
  rw [normed_of hx]
  subst hy hz
  funext j; idx_vars j; pointwise [lay2]
  simp only [Finset.sum_range]

theorem zero_of : k0_pay2 (F := Ideal) = lay2 (a := 1) (b := 2048) .f32 (fun _ _ => 0) := by
  unfold k0_pay2
  funext j; idx_vars j; pointwise [lay2]

theorem index_0 : ∀ t : Fin cfg0.N, win0_0.index t (0 : Fin 2) = t.val ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = t.val ∧ win0_2.index t (1 : Fin 2) = 0 := by decide +kernel
theorem index_3 : ∀ t : Fin cfg0.N, win0_3.index t (0 : Fin 2) = t.val ∧ win0_3.index t (1 : Fin 2) = 0 := by decide +kernel
theorem index_4 : ∀ t : Fin cfg0.N, win0_4.index t (0 : Fin 2) = t.val ∧ win0_4.index t (1 : Fin 2) = 0 := by decide +kernel
theorem index_5 : ∀ t : Fin cfg0.N, win0_5.index t (0 : Fin 2) = t.val ∧ win0_5.index t (1 : Fin 2) = 0 := by decide +kernel
theorem index_6 : ∀ t : Fin cfg0.N, win0_6.index t (0 : Fin 2) = 0 ∧ win0_6.index t (1 : Fin 2) = 0 := by decide +kernel

variable (m : (l : Loc nD τ sig) → Buf (Elt Ideal) l) (c : Dev nD) (x y e : ℕ → ℕ → EReal) (n : ℕ → EReal)

/-- The arguments: the input, the gain, the gradient of the normed rows, the residual gradient. -/
structure Args : Prop where
  hx : m (c, Proc.tc.devRef main_arg0) = lay2 (a := 4096) (b := 2048) .f32 x
  hn : m (c, Proc.tc.devRef main_arg1) = lay1 (a := 2048) .f32 n
  hy : m (c, Proc.tc.devRef main_arg2) = lay2 (a := 4096) (b := 2048) .f32 y
  he : m (c, Proc.tc.devRef main_arg3) = lay2 (a := 4096) (b := 2048) .f32 e

variable (A : Args m c x y e n)
include A

theorem x_at : V m c main_arg0 = lay2 (a := 4096) (b := 2048) .f32 x := by
  unfold V
  after_reads_simp
  exact A.hx

theorem y_at : V m c main_arg2 = lay2 (a := 4096) (b := 2048) .f32 y := by
  unfold V
  after_reads_simp
  exact A.hy

theorem e_at : V m c main_arg3 = lay2 (a := 4096) (b := 2048) .f32 e := by
  unfold V
  after_reads_simp
  exact A.he

theorem n_at : V m c main_v0 = lay2 (a := 1) (b := 2048) .f32 (fun _ => n) := by
  unfold V
  after_reads_simp
  clean_types
  rw [A.hn]
  funext j; idx_vars j; pointwise [lay2, lay1]

theorem block_x (t : Fin cfg0.N) : (iblk m c 0 t : FVec Ideal ⟨2, ![256, 2048]⟩ .f32) = lay2 .f32 (fun i j => x (256 * t.val + i) j) := by
  funext j
  unfold iblk
  rw [View.read_apply]
  show V m c main_arg0 _ = _
  rw [x_at m c x y e n A]
  show x (win0_0.index t (0 : Fin 2) * 256 + 1 * (j 0).val) (win0_0.index t (1 : Fin 2) * 2048 + 1 * (j 1).val) = x _ _
  rw [(index_0 t).1, (index_0 t).2]
  congr 1 <;> omega

theorem block_y (t : Fin cfg0.N) : (iblk m c 2 t : FVec Ideal ⟨2, ![256, 2048]⟩ .f32) = lay2 .f32 (fun i j => y (256 * t.val + i) j) := by
  funext j
  unfold iblk
  rw [View.read_apply]
  show V m c main_arg2 _ = _
  rw [y_at m c x y e n A]
  show y (win0_2.index t (0 : Fin 2) * 256 + 1 * (j 0).val) (win0_2.index t (1 : Fin 2) * 2048 + 1 * (j 1).val) = y _ _
  rw [(index_2 t).1, (index_2 t).2]
  congr 1 <;> omega

theorem block_e (t : Fin cfg0.N) : (iblk m c 3 t : FVec Ideal ⟨2, ![256, 2048]⟩ .f32) = lay2 .f32 (fun i j => e (256 * t.val + i) j) := by
  funext j
  unfold iblk
  rw [View.read_apply]
  show V m c main_arg3 _ = _
  rw [e_at m c x y e n A]
  show e (win0_3.index t (0 : Fin 2) * 256 + 1 * (j 0).val) (win0_3.index t (1 : Fin 2) * 2048 + 1 * (j 1).val) = e _ _
  rw [(index_3 t).1, (index_3 t).2]
  congr 1 <;> omega

theorem block_n (t : Fin cfg0.N) : (iblk m c 1 t : FVec Ideal ⟨2, ![1, 2048]⟩ .f32) = lay2 .f32 (fun _ => n) := by
  funext j
  unfold iblk
  rw [View.read_apply]
  show V m c main_v0 _ = _
  rw [n_at m c x y e n A]
  show n (win0_1.index t (1 : Fin 2) * 2048 + 1 * (j 1).val) = n _
  rw [(index_1 t).2]
  congr 1; omega

/-- What a point leaves for the two results. -/
theorem at_point (t : Fin cfg0.N) : (outsAt0 m c t.val t.isLt).1 = (lay2 (a := 256) (b := 2048) .f32 (fun i j => cell x y e n (256 * t.val + i) j) : FVec Ideal S256x2048 .f32)
    ∧ (outsAt0 m c t.val t.isLt).2.1 = (lay2 (a := 256) (b := 2048) .bf16 (fun i j => cell x y e n (256 * t.val + i) j) : FVec Ideal S256x2048 .bf16) := by
  have h := dx_of (block_x m c x y e n A t) (block_y m c x y e n A t) (block_n m c x y e n A t) (block_e m c x y e n A t)
  by_cases h0 : t.val % 16 = 0
  · rw [outsAt0_A m c t h0]
    refine ⟨?_, ?_⟩ <;> (dsimp only; frame_out)
    · exact h
    · exact h
  · rw [outsAt0_B m c t h0]
    refine ⟨?_, ?_⟩ <;> (dsimp only; frame_out)
    · exact h
    · exact h

/-- The gradient of the gain after a point. -/
theorem gain_at : ∀ (s : ℕ) (h : s < cfg0.N), (outsAt0 m c s h).2.2 = (lay2 (a := 1) (b := 2048) .f32 (fun _ j => gain x y (s + 1) j) : FVec Ideal S1x2048 .f32)
  | 0, h => by
    rw [outsAt0_A m c ⟨0, h⟩ rfl]
    dsimp only; frame_out
    rw [gain_of (block_x m c x y e n A _) (block_y m c x y e n A _) zero_of]
    refine lay2_congr fun i _ j _ => ?_
    rw [gain_succ]
    unfold gain
    simp
  | s + 1, h => by
    have hs : s < cfg0.N := Nat.lt_of_succ_lt h
    have hN : cfg0.N = 16 := N_0
    have ih := gain_at s hs
    rw [outsAt0_B m c ⟨s + 1, h⟩ (by dsimp only; omega)]
    dsimp only; frame_out
    refine (gain_of (block_x m c x y e n A _) (block_y m c x y e n A _) ih).trans (lay2_congr fun i _ j _ => ?_)
    rw [gain_succ x y (s + 1)]

theorem result_gain : (dats m 0 c).arrAt 6 cfg0.N = (lay2 (a := 1) (b := 2048) .f32 (fun _ j => gain x y 16 j) : FVec Ideal S1x2048 .f32) := by
  refine (dats m 0 c).arrAt_eq_of_covers 6 _ (by decide +kernel) fun t hf z => ?_
  blk_simp
  have ht : t.val = 15 := by
    have h := (flush0_6 t).mp hf
    have ht : t.val < 16 := lt_of_lt_of_eq t.isLt N_0
    omega
  rw [after0_6, gain_at m c x y e n A t.val t.isLt, ht]
  show gain x y 16 (z (1 : Fin 2)).val = gain x y 16 (win0_6.index t (1 : Fin 2) * 2048 + 1 * (z (1 : Fin 2)).val)
  rw [(index_6 t).2]
  congr 1; omega

theorem result : (dats m 0 c).arrAt 4 cfg0.N = (lay2 (a := 4096) (b := 2048) .f32 (cell x y e n) : FVec Ideal S4096x2048 .f32) := by
  refine (dats m 0 c).arrAt_eq_of_covers 4 _ (by decide +kernel) fun t hf z => ?_
  blk_simp
  rw [after0_4, (at_point m c x y e n A t).1]
  show cell x y e n (256 * t.val + (z (0 : Fin 2)).val) (z (1 : Fin 2)).val
    = cell x y e n (win0_4.index t (0 : Fin 2) * 256 + 1 * (z (0 : Fin 2)).val) (win0_4.index t (1 : Fin 2) * 2048 + 1 * (z (1 : Fin 2)).val)
  rw [(index_4 t).1, (index_4 t).2]
  congr 1 <;> omega

theorem result_half : (dats m 0 c).arrAt 5 cfg0.N = (lay2 (a := 4096) (b := 2048) .bf16 (cell x y e n) : FVec Ideal S4096x2048 .bf16) := by
  refine (dats m 0 c).arrAt_eq_of_covers 5 _ (by decide +kernel) fun t hf z => ?_
  blk_simp
  rw [after0_5, (at_point m c x y e n A t).2]
  show cell x y e n (256 * t.val + (z (0 : Fin 2)).val) (z (1 : Fin 2)).val
    = cell x y e n (win0_5.index t (0 : Fin 2) * 256 + 1 * (z (0 : Fin 2)).val) (win0_5.index t (1 : Fin 2) * 2048 + 1 * (z (1 : Fin 2)).val)
  rw [(index_5 t).1, (index_5 t).2]
  congr 1 <;> omega
end

section
open Cert.NormReferenceIdeal Cert.NormReferenceIdeal.Gen Cert.NormReferenceIdeal.Read Cert.NormReferenceIdeal.Value

variable {x y e : FVec Ideal S4096x2048 .f32} {n : FVec Ideal S2048 .f32} {x' y' e' : ℕ → ℕ → EReal} {n' : ℕ → EReal}

theorem plain_ms (hx : x = lay2 .f32 x') : val_main_v8 (F := Ideal) x = lay2 (a := 4096) (b := 1) .f32 (fun i _ => ms (x' i)) := by
  subst hx
  funext j
  simp only [val_main_v8_apply, val_main_v6_apply, val_main_v4_apply, val_main_v3_apply, val_main_v0_apply, val_main_cst_0_apply, val_main_v5_apply,
    val_main_cst_1_apply, val_main_v7_apply, val_main_cst_2_apply]
  show Ideal.div (Ideal.ofBits .f32 0x00000000#32 + ∑ k : Fin 2048, x' (j 0).val k.val * x' (j 0).val k.val) (Ideal.ofBits .f32 0x45000000#32) + Ideal.ofBits .f32 0x358637BD#32 = ms (x' (j 0).val)
  rw [Ideal.ofBits_zero_f32, zero_add, ms, Finset.sum_range]

theorem plain_sum (hx : x = lay2 .f32 x') (hn : n = lay1 .f32 n') (hy : y = lay2 .f32 y') :
    val_main_v26 (F := Ideal) x n y = lay2 (a := 4096) (b := 1) .f32 (fun i _ => ∑ k ∈ range 2048, x' i k * (y' i k * n' k)) := by
  subst hx hn hy
  funext j
  have h1 : (j 1).val < 1 := (j 1).isLt
  simp only [val_main_v26_apply, val_main_v25_apply, val_main_v24_apply, val_main_v22_apply, val_main_v21_apply, val_main_v15_apply, val_main_cst_6_apply]
  show Ideal.ofBits .f32 0x00000000#32 + ∑ k : Fin 2048, x' ((j 0).val * 1 + (j 1).val) k.val * (y' ((j 0).val * 1 + (j 1).val) k.val * n' k.val)
    = ∑ k ∈ range 2048, x' (j 0).val k * (y' (j 0).val k * n' k)
  rw [Ideal.ofBits_zero_f32, zero_add, Finset.sum_range, show (j 0).val * 1 + (j 1).val = (j 0).val by omega]

theorem plain (hx : x = lay2 .f32 x') (hn : n = lay1 .f32 n') (hy : y = lay2 .f32 y') (he : e = lay2 .f32 e') :
    val_main_v36 (F := Ideal) x n y e = lay2 (a := 4096) (b := 2048) .f32 (cell x' y' e' n') := by
  have h8 := plain_ms hx
  have h26 := plain_sum hx hn hy
  subst hx hn hy he
  funext j
  have hj : (j 1).val < 2048 := (j 1).isLt
  refine Eq.trans ?_ (dx_eq (x' (j 0).val) (fun k => y' (j 0).val k * n' k) (e' (j 0).val (j 1).val) hj).symm
  simp only [val_main_v36_apply, val_main_v35_apply, val_main_v28_apply, val_main_v22_apply, val_main_v21_apply, val_main_v15_apply, val_main_v27_apply, val_main_v9_apply, h8,
    val_main_v34_apply, val_main_v33_apply, val_main_v32_apply, val_main_v31_apply, val_main_v29_apply, h26, val_main_v12_apply, val_main_v11_apply, val_main_v10_apply,
    val_main_v30_apply, val_main_v2_apply, val_main_v1_apply, val_main_cst_3_apply, val_main_cst_7_apply, val_main_cst_8_apply, val_main_cst_apply, Fin.sum_univ_one]
  unfold dxPlain
  show _ * _ + (Ideal.ofBits .f32 0x00000000#32 + _) * _ + _ = _
  rw [Ideal.ofBits_zero_f32, zero_add]
  rfl

theorem plain_gain (hx : x = lay2 .f32 x') (hy : y = lay2 .f32 y') :
    val_main_v38 (F := Ideal) x y = lay2 (a := 1) (b := 2048) .f32 (fun _ j => gain x' y' 16 j) := by
  have h8 := plain_ms hx
  subst hx hy
  funext j
  simp only [val_main_v38_apply, val_main_v23_apply, val_main_v20_apply, val_main_v19_apply, val_main_v18_apply, val_main_v14_apply, val_main_v13_apply, val_main_v9_apply, h8,
    val_main_cst_4_apply, val_main_cst_5_apply, Fin.sum_univ_one]
  show Ideal.ofBits .f32 0x00000000#32 + (Ideal.ofBits .f32 0x00000000#32 + ∑ k : Fin 4096, x' k.val _ * rs (x' k.val) * y' k.val _) = gain x' y' 16 (j 1).val
  rw [Ideal.ofBits_zero_f32, zero_add, zero_add, gain, Finset.sum_range]
  have hj : (idx_main_v20 (idx_main_v23 (idx_main_v38 j) 0) 0).val = (j 1).val := by show 0 * 2048 + (j 1).val = (j 1).val; omega
  refine Finset.sum_congr rfl fun k _ => (mul_comm _ _).trans ?_
  show y' k.val (idx_main_v20 (idx_main_v23 (idx_main_v38 j) 0) 0).val * (x' k.val (idx_main_v20 (idx_main_v23 (idx_main_v38 j) 0) 0).val * rs (x' k.val)) = _
  rw [hj]
end
end Cert.Norm
end
-- ==== Proof.NormFwd.lean ====
module
public import proofs.«01_k».proof.Proof.Packed
public import proofs.«01_k».proof.Proof.NormDx
public import proofs.«01_k».proof.Proof.Gen.Normed
public import proofs.«01_k».proof.Proof.Gen.Normed.Frame
public import proofs.«01_k».proof.Proof.Gen.NormedIdeal
public import proofs.«01_k».proof.Proof.Gen.NormedIdeal.Frame
public import proofs.«01_k».proof.Proof.Gen.NormedIdeal.Value
public import proofs.«01_k».proof.Proof.Gen.NormedReferenceIdeal
public import proofs.«01_k».proof.Proof.Gen.NormedReferenceIdeal.Run
public import proofs.«01_k».proof.Proof.Gen.NormedReferenceIdeal.Read
public import Idealize.ShloMosaic.Lib.StableHlo.ReadAt
public import Idealize.ShloMosaic.Lib.Pipeline.ValueKit
@[expose] public section
set_option maxRecDepth 16384

/-!
# The normed rows

Every grid point takes a block of 512 rows and writes each row over the root of its mean square, times the gain, in half
precision. The plain norm is the same product.
-/

noncomputable section
open Finset Idealize.ShloMosaic Idealize.SL.Sem
namespace Cert.RmsFwd
open Cert.Ffn
open Cert.Norm (ms rs)

/-- The normed cell `i j` of the rows `x` with the gain `n`. -/
def cell (x : ℕ → ℕ → EReal) (n : ℕ → EReal) (i j : ℕ) : EReal := x i j * rs (x i) * n j

section
open Cert.NormedIdeal Cert.NormedIdeal.Gen

theorem normed_of {x : FVec Ideal S512x2048 .f32} {n : FVec Ideal S1x2048 .f32} {x' n' : ℕ → ℕ → EReal} (hx : x = lay2 .f32 x') (hn : n = lay2 .f32 n') :
    k0_pay1 (F := Ideal) x n = lay2 (a := 512) (b := 2048) .bf16 (cell x' (n' 0)) := by
  subst hx hn
  unfold k0_pay1
  funext j; idx_vars j; pointwise [lay2, cell, rs, ms]
  simp only [Finset.sum_range]

theorem index_0 : ∀ t : Fin cfg0.N, win0_0.index t (0 : Fin 2) = t.val ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = t.val ∧ win0_2.index t (1 : Fin 2) = 0 := by decide +kernel

variable (m : (l : Loc nD τ sig) → Buf (Elt Ideal) l) (c : Dev nD) (x : ℕ → ℕ → EReal) (n : ℕ → EReal)

/-- The arguments: the rows and the gain. -/
structure Args : Prop where
  hx : m (c, Proc.tc.devRef main_arg0) = lay2 (a := 4096) (b := 2048) .f32 x
  hn : m (c, Proc.tc.devRef main_arg1) = lay1 (a := 2048) .f32 n

variable (A : Args m c x n)
include A

theorem x_at : V m c main_arg0 = lay2 (a := 4096) (b := 2048) .f32 x := by
  unfold V
  after_reads_simp
  exact A.hx

theorem n_at : V m c main_v0 = lay2 (a := 1) (b := 2048) .f32 (fun _ => n) := by
  unfold V
  after_reads_simp
  clean_types
  rw [A.hn]
  funext j; idx_vars j; pointwise [lay2, lay1]

theorem block_x (t : Fin cfg0.N) : (iblk m c 0 t : FVec Ideal ⟨2, ![512, 2048]⟩ .f32) = lay2 .f32 (fun i j => x (512 * t.val + i) j) := by
  funext j
  unfold iblk
  rw [View.read_apply]
  show V m c main_arg0 _ = _
  rw [x_at m c x n A]
  show x (win0_0.index t (0 : Fin 2) * 512 + 1 * (j 0).val) (win0_0.index t (1 : Fin 2) * 2048 + 1 * (j 1).val) = x _ _
  rw [(index_0 t).1, (index_0 t).2]
  congr 1 <;> omega

theorem block_n (t : Fin cfg0.N) : (iblk m c 1 t : FVec Ideal ⟨2, ![1, 2048]⟩ .f32) = lay2 .f32 (fun _ => n) := by
  funext j
  unfold iblk
  rw [View.read_apply]
  show V m c main_v0 _ = _
  rw [n_at m c x n A]
  show n (win0_1.index t (1 : Fin 2) * 2048 + 1 * (j 1).val) = n _
  rw [(index_1 t).2]
  congr 1; omega

/-- What a point leaves. -/
theorem at_point (t : Fin cfg0.N) : out0_2 (iblk m c 0 t) (iblk m c 1 t) = (lay2 (a := 512) (b := 2048) .bf16 (fun i j => cell x n (512 * t.val + i) j) : FVec Ideal S512x2048 .bf16) := by
  have h := normed_of (block_x m c x n A t) (block_n m c x n A t)
  frame_out
  exact h

theorem result : (dats m 0 c).arrAt 2 cfg0.N = (lay2 (a := 4096) (b := 2048) .bf16 (cell x n) : FVec Ideal S4096x2048 .bf16) := by
  refine (dats m 0 c).arrAt_eq_of_covers 2 _ (by decide +kernel) fun t hf z => ?_
  blk_simp
  rw [after0_2, at_point m c x n A t]
  show cell x n (512 * t.val + (z (0 : Fin 2)).val) (z (1 : Fin 2)).val
    = cell x n (win0_2.index t (0 : Fin 2) * 512 + 1 * (z (0 : Fin 2)).val) (win0_2.index t (1 : Fin 2) * 2048 + 1 * (z (1 : Fin 2)).val)
  rw [(index_2 t).1, (index_2 t).2]
  congr 1 <;> omega
end

section
open Cert.NormedReferenceIdeal Cert.NormedReferenceIdeal.Gen Cert.NormedReferenceIdeal.Read Cert.NormedReferenceIdeal.Value

variable {x : FVec Ideal S4096x2048 .f32} {n : FVec Ideal S2048 .f32} {x' : ℕ → ℕ → EReal} {n' : ℕ → EReal}

theorem plain_root (hx : x = lay2 .f32 x') : val_main_v7 (F := Ideal) x = lay2 (a := 4096) (b := 1) .f32 (fun i _ => rs (x' i)) := by
  subst hx
  funext j
  simp only [val_main_v7_apply, val_main_v6_apply, val_main_v4_apply, val_main_v2_apply, val_main_v1_apply, val_main_v0_apply, val_main_cst_apply, val_main_v3_apply,
    val_main_cst_0_apply, val_main_v5_apply, val_main_cst_1_apply]
  show Ideal.rsqrt (Ideal.div (Ideal.ofBits .f32 0x00000000#32 + ∑ k : Fin 2048, x' (j 0).val k.val * x' (j 0).val k.val) (Ideal.ofBits .f32 0x45000000#32) + Ideal.ofBits .f32 0x358637BD#32) = rs (x' (j 0).val)
  rw [Ideal.ofBits_zero_f32, zero_add, rs, ms, Finset.sum_range]

theorem plain (hx : x = lay2 .f32 x') (hn : n = lay1 .f32 n') : val_main_v13 (F := Ideal) x n = lay2 (a := 4096) (b := 2048) .bf16 (cell x' n') := by
  have h7 := plain_root hx
  subst hx hn
  funext j
  simp only [val_main_v13_apply, val_main_v12_apply, val_main_v9_apply, val_main_v8_apply, h7, val_main_v11_apply, val_main_v10_apply]
  rfl
end
end Cert.RmsFwd
end
-- ==== Proof.NormLoss.lean ====
module
public import proofs.«01_k».proof.Proof.Packed
public import proofs.«01_k».proof.Proof.NormDx
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import Idealize.ShloMosaic.Lib.StableHlo.ReadAt
public import Idealize.ShloMosaic.Lib.Pipeline.ValueKit
@[expose] public section
set_option maxRecDepth 16384

/-!
# The loss and its gradient

Every grid point takes a block of 256 rows of the last hidden state and of the target. It norms the rows, subtracts the
target, and writes the difference over the width: the gradient of half the sum over the rows of the mean square difference.
The points add up the half mean squares of their rows, and the last one has the loss, in every lane of a row of 128. The plain
loss adds the rows first and halves the sum, and its gradient is the difference, twice, times half of one over the width. Real
factors move through sums of extended reals, so both are equal for all inputs.
-/

noncomputable section
open Finset Idealize.ShloMosaic Idealize.SL.Sem
namespace Cert.FinalLoss
open Cert.Ffn
open Cert.Norm (ms rs width_eq two_eq div_coe mul_sum)

theorem half_word : Ideal.ofBits .f32 0x3F000000#32 = ((1 / 2 : ℝ) : EReal) := by
  simp [Ideal.ofBits, Ideal.ieee]
  rw [← EReal.coe_mul]
  norm_num

theorem one_word : Ideal.ofBits .f32 0x3F800000#32 = ((1 : ℝ) : EReal) := by
  simp [Ideal.ofBits, Ideal.ieee]
  rw [← EReal.coe_mul]
  norm_num

theorem part_word : Ideal.ofBits .f32 0x3A000000#32 = ((2048⁻¹ : ℝ) : EReal) := by
  simp [Ideal.ofBits, Ideal.ieee]
  rw [← EReal.coe_mul]
  norm_num

/-- The difference of the normed row and the target at the cell `i j`. -/
def err (x g : ℕ → ℕ → EReal) (n : ℕ → EReal) (i j : ℕ) : EReal := x i j * rs (x i) * n j - g i j

/-- The gradient of the loss. -/
def grad (x g : ℕ → ℕ → EReal) (n : ℕ → EReal) (i j : ℕ) : EReal := err x g n i j * Ideal.ofBits .f32 0x3A000000#32

/-- The mean square of a row's differences. -/
def square (x g : ℕ → ℕ → EReal) (n : ℕ → EReal) (i : ℕ) : EReal :=
  Ideal.div (∑ k ∈ range 2048, err x g n i k * err x g n i k) (Ideal.ofBits .f32 0x45000000#32)

/-- Half the mean squares of the rows of the first `s` blocks. -/
def loss (x g : ℕ → ℕ → EReal) (n : ℕ → EReal) (s : ℕ) : EReal := Ideal.ofBits .f32 0x3F000000#32 * ∑ i ∈ range (256 * s), square x g n i

theorem loss_succ (x g : ℕ → ℕ → EReal) (n : ℕ → EReal) (s : ℕ) :
    loss x g n (s + 1) = loss x g n s + Ideal.ofBits .f32 0x3F000000#32 * ∑ i ∈ range 256, square x g n (256 * s + i) := by
  unfold loss
  rw [half_word, Nat.mul_succ, sum_range_add, EReal.left_distrib_of_nonneg_of_ne_top (by exact_mod_cast (by norm_num : (0 : ℝ) ≤ 1 / 2)) (EReal.coe_ne_top _)]

/-- A sum over the places of a vector of one axis. -/
theorem sum_places {a : ℕ} (f : ℕ → EReal) : ∑ j : (⟨1, ![a]⟩ : Shape).Idx, f (j 0).val = ∑ k ∈ range a, f k := by
  rw [Finset.sum_range]
  refine Fintype.sum_bijective (fun j : (⟨1, ![a]⟩ : Shape).Idx => (⟨(j 0).val, (j 0).isLt⟩ : Fin a)) ⟨fun j k h => ?_, fun k => ⟨ValueIdx.ix1 k, rfl⟩⟩ _ _ fun j => rfl
  funext i
  have hi : i = 0 := Fin.ext (Nat.lt_one_iff.mp i.isLt)
  subst hi
  exact Fin.ext (congrArg Fin.val h)

section
open Cert.LossIdeal Cert.LossIdeal.Gen

theorem err_of {x g : FVec Ideal S256x2048 .f32} {n : FVec Ideal S1x2048 .f32} {x' g' n' : ℕ → ℕ → EReal} (hx : x = lay2 .f32 x') (hn : n = lay2 .f32 n')
    (hg : g = lay2 .f32 g') : k0_pay2 (F := Ideal) x n g = lay2 (a := 256) (b := 2048) .f32 (err x' g' (n' 0)) := by
  subst hx hn hg
  unfold k0_pay2
  funext j; idx_vars j; pointwise [lay2, err, rs, ms]
  simp only [Finset.sum_range]

theorem grad_of {x g : FVec Ideal S256x2048 .f32} {n : FVec Ideal S1x2048 .f32} {x' g' n' : ℕ → ℕ → EReal} (hx : x = lay2 .f32 x') (hn : n = lay2 .f32 n')
    (hg : g = lay2 .f32 g') : k0_pay3 (F := Ideal) x n g = lay2 (a := 256) (b := 2048) .f32 (grad x' g' (n' 0)) := by
  unfold k0_pay3
  rw [err_of hx hn hg]
  funext j; idx_vars j; pointwise [lay2, grad]

theorem loss_of {x g : FVec Ideal S256x2048 .f32} {n : FVec Ideal S1x2048 .f32} {z : FVec Ideal S1x128 .f32} {x' g' n' z' : ℕ → ℕ → EReal} (hx : x = lay2 .f32 x')
    (hn : n = lay2 .f32 n') (hg : g = lay2 .f32 g') (hz : z = lay2 .f32 z') :
    k0_pay4 (F := Ideal) x n g z = lay2 (a := 1) (b := 128) .f32 (fun i j => z' i j + Ideal.ofBits .f32 0x3F000000#32 * ∑ i ∈ range 256, square x' g' (n' 0) i) := by
  unfold k0_pay4
  rw [err_of hx hn hg]
  subst hz
  funext j; idx_vars j; pointwise [lay2, square]
  simp only [Finset.sum_range]

theorem zero_of : k0_pay1 (F := Ideal) = lay2 (a := 1) (b := 128) .f32 (fun _ _ => 0) := by
  unfold k0_pay1
  funext j; idx_vars j; pointwise [lay2]

theorem index_0 : ∀ t : Fin cfg0.N, win0_0.index t (0 : Fin 2) = t.val ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = t.val ∧ win0_2.index t (1 : Fin 2) = 0 := by decide +kernel
theorem index_3 : ∀ t : Fin cfg0.N, win0_3.index t (0 : Fin 2) = t.val ∧ win0_3.index t (1 : Fin 2) = 0 := by decide +kernel
theorem index_4 : ∀ t : Fin cfg0.N, win0_4.index t (0 : Fin 2) = 0 ∧ win0_4.index t (1 : Fin 2) = 0 := by decide +kernel

variable (m : (l : Loc nD τ sig) → Buf (Elt Ideal) l) (c : Dev nD) (x g : ℕ → ℕ → EReal) (n : ℕ → EReal)

/-- The arguments: the last hidden state, the gain, the target. -/
structure Args : Prop where
  hx : m (c, Proc.tc.devRef main_arg0) = lay2 (a := 4096) (b := 2048) .f32 x
  hn : m (c, Proc.tc.devRef main_arg1) = lay1 (a := 2048) .f32 n
  hg : m (c, Proc.tc.devRef main_arg2) = lay2 (a := 4096) (b := 2048) .f32 g

variable (A : Args m c x g n)
include A

theorem x_at : V m c main_arg0 = lay2 (a := 4096) (b := 2048) .f32 x := by
  unfold V
  after_reads_simp
  exact A.hx

theorem g_at : V m c main_arg2 = lay2 (a := 4096) (b := 2048) .f32 g := by
  unfold V
  after_reads_simp
  exact A.hg

theorem n_at : V m c main_v0 = lay2 (a := 1) (b := 2048) .f32 (fun _ => n) := by
  unfold V
  after_reads_simp
  clean_types
  rw [A.hn]
  funext j; idx_vars j; pointwise [lay2, lay1]

theorem block_x (t : Fin cfg0.N) : (iblk m c 0 t : FVec Ideal ⟨2, ![256, 2048]⟩ .f32) = lay2 .f32 (fun i j => x (256 * t.val + i) j) := by
  funext j
  unfold iblk
  rw [View.read_apply]
  show V m c main_arg0 _ = _
  rw [x_at m c x g n A]
  show x (win0_0.index t (0 : Fin 2) * 256 + 1 * (j 0).val) (win0_0.index t (1 : Fin 2) * 2048 + 1 * (j 1).val) = x _ _
  rw [(index_0 t).1, (index_0 t).2]
  congr 1 <;> omega

theorem block_g (t : Fin cfg0.N) : (iblk m c 2 t : FVec Ideal ⟨2, ![256, 2048]⟩ .f32) = lay2 .f32 (fun i j => g (256 * t.val + i) j) := by
  funext j
  unfold iblk
  rw [View.read_apply]
  show V m c main_arg2 _ = _
  rw [g_at m c x g n A]
  show g (win0_2.index t (0 : Fin 2) * 256 + 1 * (j 0).val) (win0_2.index t (1 : Fin 2) * 2048 + 1 * (j 1).val) = g _ _
  rw [(index_2 t).1, (index_2 t).2]
  congr 1 <;> omega

theorem block_n (t : Fin cfg0.N) : (iblk m c 1 t : FVec Ideal ⟨2, ![1, 2048]⟩ .f32) = lay2 .f32 (fun _ => n) := by
  funext j
  unfold iblk
  rw [View.read_apply]
  show V m c main_v0 _ = _
  rw [n_at m c x g n A]
  show n (win0_1.index t (1 : Fin 2) * 2048 + 1 * (j 1).val) = n _
  rw [(index_1 t).2]
  congr 1; omega

/-- The gradient a point leaves. -/
theorem grad_at (t : Fin cfg0.N) : (outsAt0 m c t.val t.isLt).1 = (lay2 (a := 256) (b := 2048) .f32 (fun i j => grad x g n (256 * t.val + i) j) : FVec Ideal S256x2048 .f32) := by
  have h := grad_of (block_x m c x g n A t) (block_n m c x g n A t) (block_g m c x g n A t)
  by_cases h0 : t.val % 16 = 0
  · rw [outsAt0_A m c t h0]
    dsimp only; frame_out
    exact h
  · rw [outsAt0_B m c t h0]
    dsimp only; frame_out
    exact h

/-- The loss after a point. -/
theorem loss_at : ∀ (s : ℕ) (h : s < cfg0.N), (outsAt0 m c s h).2 = (lay2 (a := 1) (b := 128) .f32 (fun _ _ => loss x g n (s + 1)) : FVec Ideal S1x128 .f32)
  | 0, h => by
    rw [outsAt0_A m c ⟨0, h⟩ rfl]
    dsimp only; frame_out
    refine (loss_of (block_x m c x g n A _) (block_n m c x g n A _) (block_g m c x g n A _) zero_of).trans (lay2_congr fun i _ j _ => ?_)
    rw [loss_succ]
    unfold loss
    simp [square, err]
  | s + 1, h => by
    have hs : s < cfg0.N := Nat.lt_of_succ_lt h
    have hN : cfg0.N = 16 := N_0
    have ih := loss_at s hs
    rw [outsAt0_B m c ⟨s + 1, h⟩ (by dsimp only; omega)]
    dsimp only; frame_out
    refine (loss_of (block_x m c x g n A _) (block_n m c x g n A _) (block_g m c x g n A _) ih).trans (lay2_congr fun i _ j _ => ?_)
    rw [loss_succ x g n (s + 1)]
    rfl

theorem result_grad : (dats m 0 c).arrAt 3 cfg0.N = (lay2 (a := 4096) (b := 2048) .f32 (grad x g n) : FVec Ideal S4096x2048 .f32) := by
  refine (dats m 0 c).arrAt_eq_of_covers 3 _ (by decide +kernel) fun t hf z => ?_
  blk_simp
  rw [after0_3, grad_at m c x g n A t]
  show grad x g n (256 * t.val + (z (0 : Fin 2)).val) (z (1 : Fin 2)).val
    = grad x g n (win0_3.index t (0 : Fin 2) * 256 + 1 * (z (0 : Fin 2)).val) (win0_3.index t (1 : Fin 2) * 2048 + 1 * (z (1 : Fin 2)).val)
  rw [(index_3 t).1, (index_3 t).2]
  congr 1 <;> omega

theorem result_loss : (dats m 0 c).arrAt 4 cfg0.N = (lay2 (a := 1) (b := 128) .f32 (fun _ _ => loss x g n 16) : FVec Ideal S1x128 .f32) := by
  refine (dats m 0 c).arrAt_eq_of_covers 4 _ (by decide +kernel) fun t hf z => ?_
  blk_simp
  have ht : t.val = 15 := by
    have h := (flush0_4 t).mp hf
    have ht : t.val < 16 := lt_of_lt_of_eq t.isLt N_0
    omega
  rw [after0_4, loss_at m c x g n A t.val t.isLt, ht]
  rfl
end

section
open Cert.LossReferenceIdeal Cert.LossReferenceIdeal.Gen Cert.LossReferenceIdeal.Read Cert.LossReferenceIdeal.Value

variable {x g : FVec Ideal S4096x2048 .f32} {n : FVec Ideal S2048 .f32} {x' g' : ℕ → ℕ → EReal} {n' : ℕ → EReal}

theorem plain_root (hx : x = lay2 .f32 x') : val_main_v7 (F := Ideal) x = lay2 (a := 4096) (b := 1) .f32 (fun i _ => rs (x' i)) := by
  subst hx
  funext j
  simp only [val_main_v7_apply, val_main_v6_apply, val_main_v4_apply, val_main_v2_apply, val_main_v1_apply, val_main_v0_apply, val_main_cst_apply, val_main_v3_apply,
    val_main_cst_0_apply, val_main_v5_apply, val_main_cst_1_apply]
  show Ideal.rsqrt (Ideal.div (Ideal.ofBits .f32 0x00000000#32 + ∑ k : Fin 2048, x' (j 0).val k.val * x' (j 0).val k.val) (Ideal.ofBits .f32 0x45000000#32) + Ideal.ofBits .f32 0x358637BD#32) = rs (x' (j 0).val)
  rw [Ideal.ofBits_zero_f32, zero_add, rs, ms, Finset.sum_range]

theorem plain_err (hx : x = lay2 .f32 x') (hn : n = lay1 .f32 n') (hg : g = lay2 .f32 g') :
    val_main_v13 (F := Ideal) x n g = lay2 (a := 4096) (b := 2048) .f32 (err x' g' n') := by
  have h7 := plain_root hx
  subst hx hn hg
  funext j
  simp only [val_main_v13_apply, val_main_v12_apply, val_main_v9_apply, val_main_v8_apply, h7, val_main_v11_apply, val_main_v10_apply]
  rfl

theorem plain_grad (hx : x = lay2 .f32 x') (hn : n = lay1 .f32 n') (hg : g = lay2 .f32 g') :
    val_main_v27 (F := Ideal) x n g = lay2 (a := 4096) (b := 2048) .f32 (grad x' g' n') := by
  have h13 := plain_err hx hn hg
  subst hx hn hg
  funext j
  simp only [val_main_v27_apply, val_main_v26_apply, val_main_v25_apply, val_main_v23_apply, val_main_v22_apply, val_main_cst_7_apply, val_main_cst_8_apply,
    val_main_v24_apply, val_main_cst_9_apply, val_main_v16_apply, val_main_v15_apply, val_main_cst_2_apply, h13]
  show Ideal.div (Ideal.ofBits .f32 0x3F000000#32 * Ideal.ofBits .f32 0x3F800000#32) (Ideal.ofBits .f32 0x45000000#32) * (Ideal.ofBits .f32 0x40000000#32 * err x' g' n' (j 0).val (j 1).val)
    = err x' g' n' (j 0).val (j 1).val * Ideal.ofBits .f32 0x3A000000#32
  rw [half_word, one_word, two_eq, width_eq, part_word, div_coe _ (by norm_num), ← mul_assoc, ← EReal.coe_mul, ← EReal.coe_mul, ← EReal.coe_mul, mul_comm]
  congr 2
  norm_num

theorem plain_loss (hx : x = lay2 .f32 x') (hn : n = lay1 .f32 n') (hg : g = lay2 .f32 g') :
    val_main_v28 (F := Ideal) x n g = lay2 (a := 1) (b := 128) .f32 (fun _ _ => loss x' g' n' 16) := by
  have h13 := plain_err hx hn hg
  subst hx hn hg
  have h19 : val_main_v19 (F := Ideal) (lay2 .f32 x') (lay1 .f32 n') (lay2 .f32 g') = lay1 (a := 4096) .f32 (square x' g' n') := by
    funext j
    simp only [val_main_v19_apply, val_main_v17_apply, val_main_cst_3_apply, val_main_v14_apply, h13, val_main_v18_apply, val_main_cst_4_apply]
    show Ideal.div (Ideal.ofBits .f32 0x00000000#32 + ∑ k : Fin 2048, err x' g' n' (j 0).val k.val * err x' g' n' (j 0).val k.val) (Ideal.ofBits .f32 0x45000000#32) = square x' g' n' (j 0).val
    rw [Ideal.ofBits_zero_f32, zero_add, square, Finset.sum_range]
  funext j
  simp only [val_main_v28_apply, val_main_v21_apply, val_main_cst_6_apply, val_main_v20_apply, val_main_cst_5_apply, h19]
  show Ideal.ofBits .f32 0x3F000000#32 * (Ideal.ofBits .f32 0x00000000#32 + ∑ k : S4096.Idx, square x' g' n' (k 0).val) = loss x' g' n' 16
  rw [Ideal.ofBits_zero_f32, zero_add, loss]
  exact congrArg _ (sum_places (square x' g' n'))
end
end Cert.FinalLoss
end
-- ==== Proof.FfnFinite.lean ====
module
public import proofs.«01_k».proof.Proof.Lay
public import proofs.«01_k».proof.Proof.Finite
public import proofs.«01_k».proof.Proof.Gen.Pre_finite_act
@[expose] public section

/-!
# The precondition of the activations' gradient

Its four arguments are finite, so each is a matrix of real numbers.
-/

noncomputable section
open Finset Idealize.ShloMosaic Cert.Pre_finite_act
namespace Cert.Ffn

/-- One argument's test, passed: it is a matrix of reals. -/
theorem finite_arg {a b : ℕ} (x : FVec Ideal ⟨2, ![a, b]⟩ .f32) (h) (h1 : Shape.ReducesTo ⟨2, ![a, b]⟩ [0, 1] S_) (h2 : 0 < S_.numel) (j : S_.Idx)
    (e : Host.reduce IntOp.andi (cmpf .olt (Host.absf x) (broadcastInDim ⟨2, ![a, b]⟩ ![] h (constant (F := Ideal) S_ .f32 0x7F800000#32))) (constantI S_ 1 1#1) h1 h2 j = 1#1) :
    ∃ f : ℕ → ℕ → ℝ, x = lay2 .f32 (fun i j => ((f i j : ℝ) : EReal)) := by
  haveI : Subsingleton S_.Idx := ⟨fun a b => funext fun k => k.elim0⟩
  obtain ⟨f, hf⟩ := exists_lay2 x
  refine ⟨fun i j => (f i j).toReal, funext fun i => ?_⟩
  have e' : BitVec.ofBool (decide (max (x i : EReal) (-(x i : EReal)) < Ideal.ofBits .f32 0x7F800000#32)) = 1#1 :=
    Host.reduce_andi_all _ _ _ _ j e i
  rw [Stick.top_word] at e'
  have g : ((EReal.toReal (x i) : ℝ) : EReal) = x i := by
    refine Stick.real_of_abs_lt _ ?_
    by_contra g
    rw [decide_eq_false g] at e'
    exact absurd e' (by decide)
  have hx : x i = f (i 0).val (i 1).val := congrFun hf i
  rw [← g, hx]
  rfl

/-- The precondition makes each argument a matrix of reals. -/
theorem finite_args [Facts] (x : FVec Ideal S4096x2048 .f32) (y : FVec Ideal S5632x2048 .f32) (z w : FVec Ideal S4096x5632 .f32) (e : fn (F := Ideal) x y z w = fun _ => 1#1) :
    (∃ f : ℕ → ℕ → ℝ, x = lay2 .f32 (fun i j => ((f i j : ℝ) : EReal))) ∧ (∃ f : ℕ → ℕ → ℝ, y = lay2 .f32 (fun i j => ((f i j : ℝ) : EReal)))
      ∧ (∃ f : ℕ → ℕ → ℝ, z = lay2 .f32 (fun i j => ((f i j : ℝ) : EReal))) ∧ (∃ f : ℕ → ℕ → ℝ, w = lay2 .f32 (fun i j => ((f i j : ℝ) : EReal))) := by
  have g := congrFun e (fun k => k.elim0)
  obtain ⟨g3, gw⟩ := IntOp.andi_eq_one.mp g
  obtain ⟨g2, gz⟩ := IntOp.andi_eq_one.mp g3
  obtain ⟨gx, gy⟩ := IntOp.andi_eq_one.mp g2
  exact ⟨finite_arg x _ _ _ _ gx, finite_arg y _ _ _ _ gy, finite_arg z _ _ _ _ gz, finite_arg w _ _ _ _ gw⟩

end Cert.Ffn
end
-- ==== Proof.FfnHidden.lean ====
module
public import proofs.«01_k».proof.Proof.Lay
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.HiddenReferenceIdeal.Read
public import Idealize.ShloMosaic.Lib.StableHlo.ReadAt
@[expose] public section
set_option maxRecDepth 16384

/-!
# The gradient of the hidden state, `dg · w_gateᵀ + du · w_upᵀ`

Grid point `t` adds, for the 1024 tokens numbered `t / 8` and the 1024 columns numbered `t / 4 % 2`, the products over the columns
of devices `2 * (t % 4)` and `2 * (t % 4) + 1`; the fourth point of four writes the block.
-/

noncomputable section
open Finset Idealize.ShloMosaic Idealize.SL.Sem
namespace Cert.Ffn.Hidden

section
open Cert.HiddenIdeal Cert.HiddenIdeal.Gen

theorem pay2_lay : k0_pay2 (F := Ideal) = lay2 (a := 1024) (b := 1024) .f32 (fun _ _ => 0) := by
  funext j; exact Ideal.ofBits_zero_f32

theorem pay1_eq (z : FVec Ideal S1024x1024 .f32) : k0_pay1 z = z := shapeCast_self _ _

/-- Row `i` of a plane against row `j` of another. -/
def dots (x y : ℕ → ℕ → ℕ → EReal) (p i j : ℕ) : EReal := ∑ e ∈ range 704, x p i e * y p j e

theorem pay3_lay (x y u v : ℕ → ℕ → ℕ → EReal) (z : ℕ → ℕ → EReal) :
    k0_pay3 (F := Ideal) (lay3 (a := 2) (b := 1024) (c := 704) .bf16 x) (lay3 (a := 2) (b := 1024) (c := 704) .bf16 y)
        (lay3 (a := 2) (b := 1024) (c := 704) .bf16 u) (lay3 (a := 2) (b := 1024) (c := 704) .bf16 v) (lay2 (a := 1024) (b := 1024) .f32 z)
      = lay2 (a := 1024) (b := 1024) .f32 (fun i j => z i j + (dots x y 0 i j + dots x y 1 i j + dots u v 0 i j + dots u v 1 i j)) := by
  unfold k0_pay3
  funext j; idx_vars j; pointwise [lay2, lay3, dots]
  simp only [Finset.sum_range]

/-- The accumulator holds what the point before left in it. -/
theorem carried (z : Vec Ideal S1024x1024 .f32) (h : (Memref.whole cc0_scratch0).IsWhole) :
    View.read (Elt Ideal) (View.whole cc0_scratch0) (h.unread z) = z := h.read_unread z

theorem index_0 : ∀ t : Fin cfg0.N, win0_0.index t (0 : Fin 3) = t.val % 4 ∧ win0_0.index t (1 : Fin 3) = t.val / 8 ∧ win0_0.index t (2 : Fin 3) = 0 :=
  (by decide +kernel : ∀ t : Fin grid0.N, win0_0.index t (0 : Fin 3) = t.val % 4 ∧ win0_0.index t (1 : Fin 3) = t.val / 8 ∧ win0_0.index t (2 : Fin 3) = 0)
theorem index_1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, win0_1.index t (0 : Fin 3) = t.val % 4 ∧ win0_1.index t (1 : Fin 3) = t.val / 4 % 2 ∧ win0_1.index t (2 : Fin 3) = 0)
theorem index_2 : ∀ t : Fin cfg0.N, win0_2.index t (0 : Fin 3) = t.val % 4 ∧ win0_2.index t (1 : Fin 3) = t.val / 8 ∧ win0_2.index t (2 : Fin 3) = 0 :=
  (by decide +kernel : ∀ t : Fin grid0.N, win0_2.index t (0 : Fin 3) = t.val % 4 ∧ win0_2.index t (1 : Fin 3) = t.val / 8 ∧ win0_2.index t (2 : Fin 3) = 0)
theorem index_3 : ∀ t : Fin cfg0.N, win0_3.index t (0 : Fin 3) = t.val % 4 ∧ win0_3.index t (1 : Fin 3) = t.val / 4 % 2 ∧ win0_3.index t (2 : Fin 3) = 0 :=
  (by decide +kernel : ∀ t : Fin grid0.N, win0_3.index t (0 : Fin 3) = t.val % 4 ∧ win0_3.index t (1 : Fin 3) = t.val / 4 % 2 ∧ win0_3.index t (2 : Fin 3) = 0)

variable (m : (l : Loc nD τ sig) → Buf (Elt Ideal) l) (c : Dev nD) (G Wg U Wu : ℕ → ℕ → EReal)

/-- The arguments, as matrices. -/
structure Args : Prop where
  dg : m (c, Proc.tc.devRef main_arg0) = lay2 (a := 4096) (b := 5632) .f32 G
  wg : m (c, Proc.tc.devRef main_arg1) = lay2 (a := 2048) (b := 5632) .f32 Wg
  du : m (c, Proc.tc.devRef main_arg2) = lay2 (a := 4096) (b := 5632) .f32 U
  wu : m (c, Proc.tc.devRef main_arg3) = lay2 (a := 2048) (b := 5632) .f32 Wu

/-- The products over the columns of device `p`. -/
def part (i j p : ℕ) : EReal := (∑ e ∈ range 704, G i (704 * p + e) * Wg j (704 * p + e)) + ∑ e ∈ range 704, U i (704 * p + e) * Wu j (704 * p + e)

theorem part_all (i j : ℕ) : ∑ p ∈ range 8, part G Wg U Wu i j p = (∑ k ∈ range 5632, G i k * Wg j k) + ∑ k ∈ range 5632, U i k * Wu j k := by
  unfold part
  rw [sum_add_distrib, show (5632 : ℕ) = 8 * 704 from rfl, split_sum, split_sum]

variable (A : Args m c G Wg U Wu)
include A

theorem v2_at : V m c main_v2 = lay3 (a := 8) (b := 4096) (c := 704) .bf16 (fun p t e => G t (704 * p + e)) := by
  unfold V
  after_reads_simp
  clean_types
  rw [A.dg]
  exact shards_4096 G _ _ _

theorem block_0 (t : Fin cfg0.N) :
    (iblk m c 0 t : FVec Ideal ⟨3, ![2, 1024, 704]⟩ .bf16) = lay3 .bf16 (fun p i e => G (1024 * (t.val / 8) + i) (704 * (2 * (t.val % 4) + p) + e)) := by
  funext j
  unfold iblk
  rw [View.read_apply]
  show V m c main_v2 _ = _
  rw [v2_at m c G Wg U Wu A]
  show G (win0_0.index t (1 : Fin 3) * 1024 + 1 * (j 1).val) (704 * (win0_0.index t (0 : Fin 3) * 2 + 1 * (j 0).val) + (win0_0.index t (2 : Fin 3) * 704 + 1 * (j 2).val)) = G _ _
  rw [(index_0 t).1, (index_0 t).2.1, (index_0 t).2.2]
  congr 1 <;> omega

theorem v5_at : V m c main_v5 = lay3 (a := 8) (b := 2048) (c := 704) .bf16 (fun p t e => Wg t (704 * p + e)) := by
  unfold V
  after_reads_simp
  clean_types
  rw [A.wg]
  exact shards_2048 Wg _ _ _

theorem block_1 (t : Fin cfg0.N) :
    (iblk m c 1 t : FVec Ideal ⟨3, ![2, 1024, 704]⟩ .bf16) = lay3 .bf16 (fun p i e => Wg (1024 * (t.val / 4 % 2) + i) (704 * (2 * (t.val % 4) + p) + e)) := by
  funext j
  unfold iblk
  rw [View.read_apply]
  show V m c main_v5 _ = _
  rw [v5_at m c G Wg U Wu A]
  show Wg (win0_1.index t (1 : Fin 3) * 1024 + 1 * (j 1).val) (704 * (win0_1.index t (0 : Fin 3) * 2 + 1 * (j 0).val) + (win0_1.index t (2 : Fin 3) * 704 + 1 * (j 2).val)) = Wg _ _
  rw [(index_1 t).1, (index_1 t).2.1, (index_1 t).2.2]
  congr 1 <;> omega

theorem v8_at : V m c main_v8 = lay3 (a := 8) (b := 4096) (c := 704) .bf16 (fun p t e => U t (704 * p + e)) := by
  unfold V
  after_reads_simp
  clean_types
  rw [A.du]
  exact shards_4096 U _ _ _

theorem block_2 (t : Fin cfg0.N) :
    (iblk m c 2 t : FVec Ideal ⟨3, ![2, 1024, 704]⟩ .bf16) = lay3 .bf16 (fun p i e => U (1024 * (t.val / 8) + i) (704 * (2 * (t.val % 4) + p) + e)) := by
  funext j
  unfold iblk
  rw [View.read_apply]
  show V m c main_v8 _ = _
  rw [v8_at m c G Wg U Wu A]
  show U (win0_2.index t (1 : Fin 3) * 1024 + 1 * (j 1).val) (704 * (win0_2.index t (0 : Fin 3) * 2 + 1 * (j 0).val) + (win0_2.index t (2 : Fin 3) * 704 + 1 * (j 2).val)) = U _ _
  rw [(index_2 t).1, (index_2 t).2.1, (index_2 t).2.2]
  congr 1 <;> omega

theorem v11_at : V m c main_v11 = lay3 (a := 8) (b := 2048) (c := 704) .bf16 (fun p t e => Wu t (704 * p + e)) := by
  unfold V
  after_reads_simp
  clean_types
  rw [A.wu]
  exact shards_2048 Wu _ _ _

theorem block_3 (t : Fin cfg0.N) :
    (iblk m c 3 t : FVec Ideal ⟨3, ![2, 1024, 704]⟩ .bf16) = lay3 .bf16 (fun p i e => Wu (1024 * (t.val / 4 % 2) + i) (704 * (2 * (t.val % 4) + p) + e)) := by
  funext j
  unfold iblk
  rw [View.read_apply]
  show V m c main_v11 _ = _
  rw [v11_at m c G Wg U Wu A]
  show Wu (win0_3.index t (1 : Fin 3) * 1024 + 1 * (j 1).val) (704 * (win0_3.index t (0 : Fin 3) * 2 + 1 * (j 0).val) + (win0_3.index t (2 : Fin 3) * 704 + 1 * (j 2).val)) = Wu _ _
  rw [(index_3 t).1, (index_3 t).2.1, (index_3 t).2.2]
  congr 1 <;> omega

/-- What a point adds. -/
theorem step (t : Fin cfg0.N) (z : ℕ → ℕ → EReal) :
    k0_pay3 (F := Ideal) (iblk m c 0 t) (iblk m c 1 t) (iblk m c 2 t) (iblk m c 3 t) (lay2 (a := 1024) (b := 1024) .f32 z)
      = lay2 (a := 1024) (b := 1024) .f32 (fun i j => z i j + (part G Wg U Wu (1024 * (t.val / 8) + i) (1024 * (t.val / 4 % 2) + j) (2 * (t.val % 4))
          + part G Wg U Wu (1024 * (t.val / 8) + i) (1024 * (t.val / 4 % 2) + j) (2 * (t.val % 4) + 1))) := by
  rw [block_0 m c G Wg U Wu A t, block_1 m c G Wg U Wu A t, block_2 m c G Wg U Wu A t, block_3 m c G Wg U Wu A t, pay3_lay]
  refine lay2_congr fun i _ j _ => congrArg (z i j + ·) ?_
  unfold dots part
  simp only [Nat.add_zero]
  abel

/-- What a point leaves in the accumulator. -/
def held (n : ℕ) : ℕ → ℕ → EReal := fun i j =>
  ∑ p ∈ range (2 * (n % 4) + 2), part G Wg U Wu (1024 * (n / 8) + i) (1024 * (n / 4 % 2) + j) p

omit A in
theorem held_first (n : ℕ) (h : n % 4 = 0) (i j : ℕ) : held G Wg U Wu n i j
    = 0 + (part G Wg U Wu (1024 * (n / 8) + i) (1024 * (n / 4 % 2) + j) (2 * (n % 4)) + part G Wg U Wu (1024 * (n / 8) + i) (1024 * (n / 4 % 2) + j) (2 * (n % 4) + 1)) := by
  unfold held
  rw [h, zero_add]
  simp only [Nat.mul_zero, Nat.zero_add, sum_range_succ, sum_range_zero, zero_add]

omit A in
theorem held_next (n : ℕ) (h : ¬n % 4 = 0) (i j : ℕ) : held G Wg U Wu n i j
    = held G Wg U Wu (n - 1) i j + (part G Wg U Wu (1024 * (n / 8) + i) (1024 * (n / 4 % 2) + j) (2 * (n % 4)) + part G Wg U Wu (1024 * (n / 8) + i) (1024 * (n / 4 % 2) + j) (2 * (n % 4) + 1)) := by
  unfold held
  rw [show (n - 1) / 8 = n / 8 by omega, show (n - 1) / 4 % 2 = n / 4 % 2 by omega, show 2 * ((n - 1) % 4) + 2 = 2 * (n % 4) by omega,
    sum_range_succ, sum_range_succ, add_assoc]

theorem acc (n : ℕ) : ∀ hn : n < cfg0.N, (outsAt0 m c n hn).2 = lay2 (a := 1024) (b := 1024) .f32 (held G Wg U Wu n) := by
  induction n using Nat.strong_induction_on with
  | _ n ih =>
    intro hn
    by_cases h0 : n % 4 = 0
    · rw [outsAt0_A m c ⟨n, hn⟩ h0 (by dsimp only; omega)]
      frame_out
      rw [pay1_eq, pay2_lay, step m c G Wg U Wu A]
      exact lay2_congr fun i _ j _ => (held_first G Wg U Wu n h0 i j).symm
    · have e := ih (n - 1) (by omega) (lt_of_le_of_lt (Nat.sub_le _ _) hn)
      by_cases h1 : n % 4 = 3
      · rw [outsAt0_C m c ⟨n, hn⟩ h0 h1]
        frame_out
        rw [e, carried, pay1_eq, step m c G Wg U Wu A]
        exact lay2_congr fun i _ j _ => (held_next G Wg U Wu n h0 i j).symm
      · rw [outsAt0_B m c ⟨n, hn⟩ h0 h1]
        frame_out
        rw [e, carried, pay1_eq, step m c G Wg U Wu A]
        exact lay2_congr fun i _ j _ => (held_next G Wg U Wu n h0 i j).symm

/-- What the fourth point writes. -/
theorem out_last (n : ℕ) (hn : n < cfg0.N) (h1 : n % 4 = 3) : (outsAt0 m c n hn).1 = lay2 (a := 1024) (b := 1024) .f32 (held G Wg U Wu n) := by
  have h0 : ¬n % 4 = 0 := by omega
  have e := acc m c G Wg U Wu A (n - 1) (lt_of_le_of_lt (Nat.sub_le _ _) hn)
  rw [outsAt0_C m c ⟨n, hn⟩ h0 h1]
  frame_out
  rw [e, carried, pay1_eq, step m c G Wg U Wu A]
  exact lay2_congr fun i _ j _ => (held_next G Wg U Wu n h0 i j).symm

/-- The kernel's result. -/
theorem result : Value.G4 (F := Ideal) m c = (lay2 (a := 4096) (b := 2048) .f32
    (fun i j => (∑ k ∈ range 5632, G i k * Wg j k) + ∑ k ∈ range 5632, U i k * Wu j k) : FVec Ideal S4096x2048 .f32) := by
  funext i
  have h0 : (i 0).val < 4096 := (i 0).isLt
  have h1 : (i 1).val < 2048 := (i 1).isLt
  have hN : cfg0.N = 32 := N_0
  obtain ⟨n, hn⟩ : ∃ n, Value.pt4Of i = n := ⟨_, rfl⟩
  have en : n = 8 * ((i 0).val / 1024) + 4 * ((i 1).val / 1024) + 3 := by
    rw [← hn]; dsimp only [Value.pt4Of, Value.run4Of]; omega
  have hp : Value.pt4Of i < cfg0.N := by rw [hN, hn, en]; omega
  unfold Value.G4
  rw [dif_pos hp, ← Value.outsAt0_sweep m c _ hp, out_last m c G Wg U Wu A _ hp (by rw [hn]; omega), hn]
  show ∑ p ∈ range (2 * (n % 4) + 2), part G Wg U Wu (1024 * (n / 8) + (i 0).val % 1024) (1024 * (n / 4 % 2) + (i 1).val % 1024) p = _
  rw [show 1024 * (n / 8) + (i 0).val % 1024 = (i 0).val by omega, show 1024 * (n / 4 % 2) + (i 1).val % 1024 = (i 1).val by omega, show 2 * (n % 4) + 2 = 8 by omega, part_all]
  rfl

end

/-! ### The reference -/

section
open Cert.HiddenReferenceIdeal Cert.HiddenReferenceIdeal.Gen

theorem reference (G Wg U Wu : ℕ → ℕ → EReal) (g : FVec Ideal S4096x5632 .f32) (wg : FVec Ideal S2048x5632 .f32) (u : FVec Ideal S4096x5632 .f32) (wu : FVec Ideal S2048x5632 .f32)
    (hg : g = lay2 .f32 G) (hwg : wg = lay2 .f32 Wg) (hu : u = lay2 .f32 U) (hwu : wu = lay2 .f32 Wu) :
    addf (Host.dotGeneral dot_S4096x5632_S2048x5632_S4096x2048_1_1_0_0_n_n none u wu) (Host.dotGeneral dot_S4096x5632_S2048x5632_S4096x2048_1_1_0_0_n_n none g wg)
      = lay2 (a := 4096) (b := 2048) .f32 (fun i j => (∑ k ∈ range 5632, G i k * Wg j k) + ∑ k ∈ range 5632, U i k * Wu j k) := by
  subst hg hwg hu hwu
  funext j; idx_vars j; pointwise [lay2]
  rw [Finset.sum_range, Finset.sum_range]
  exact add_comm _ _

end

end Cert.Ffn.Hidden
end
-- ==== Proof.FfnGate.lean ====
module
public import proofs.«01_k».proof.Proof.Lay
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import Idealize.ShloMosaic.Lib.StableHlo.ReadAt
@[expose] public section
set_option maxRecDepth 16384

/-!
# The gradient of the gate's weights, `hᵀ · dg`

Grid point `t` adds, for the columns of device `t / 4` and the 1024 rows of the weights numbered `t / 2 % 2`, the products over
the 2048 tokens of half `t % 2`; the second half's point writes the block. The same call computes the gradient of the up
projection's weights.
-/

noncomputable section
open Finset Idealize.ShloMosaic Idealize.SL.Sem
namespace Cert.Ffn.Gate

section
open Cert.GateIdeal Cert.GateIdeal.Gen

theorem pay1_lay : k0_pay1 (F := Ideal) = lay2 (a := 1024) (b := 704) .f32 (fun _ _ => 0) := by
  funext j; exact Ideal.ofBits_zero_f32

theorem pay2_lay (x : ℕ → ℕ → EReal) (y : ℕ → ℕ → ℕ → EReal) (z : ℕ → ℕ → EReal) :
    k0_pay2 (F := Ideal) (lay2 (a := 2048) (b := 1024) .bf16 x) (lay3 (a := 1) (b := 2048) (c := 704) .bf16 y) (lay2 (a := 1024) (b := 704) .f32 z)
      = lay2 (a := 1024) (b := 704) .f32 (fun i j => z i j + ∑ t ∈ range 2048, x t i * y 0 t j) := by
  unfold k0_pay2
  funext j; idx_vars j; pointwise [lay2, lay3]
  simp only [Finset.sum_range]

theorem pay3_lay (z : ℕ → ℕ → EReal) :
    k0_pay3 (F := Ideal) (lay2 (a := 1024) (b := 704) .f32 z) = lay3 (a := 1) (b := 1024) (c := 704) .bf16 (fun _ i j => z i j) := by
  unfold k0_pay3
  funext j; idx_vars j; pointwise [lay2, lay3]

/-- The accumulator holds what the point before left in it. -/
theorem carried (z : Vec Ideal S1024x704 .f32) (h : (Memref.whole cc0_scratch0).IsWhole) :
    View.read (Elt Ideal) (View.whole cc0_scratch0) (h.unread z) = z := h.read_unread z

theorem index_0 : ∀ t : Fin cfg0.N, win0_0.index t (0 : Fin 2) = t.val % 2 ∧ win0_0.index t (1 : Fin 2) = t.val / 2 % 2 :=
  (by decide +kernel : ∀ t : Fin grid0.N, win0_0.index t (0 : Fin 2) = t.val % 2 ∧ win0_0.index t (1 : Fin 2) = t.val / 2 % 2)
theorem index_1 : ∀ t : Fin cfg0.N, win0_1.index t (0 : Fin 3) = t.val / 4 ∧ win0_1.index t (1 : Fin 3) = t.val % 2 ∧ win0_1.index t (2 : Fin 3) = 0 :=
  (by decide +kernel : ∀ t : Fin grid0.N, win0_1.index t (0 : Fin 3) = t.val / 4 ∧ win0_1.index t (1 : Fin 3) = t.val % 2 ∧ win0_1.index t (2 : Fin 3) = 0)

variable (m : (l : Loc nD τ sig) → Buf (Elt Ideal) l) (c : Dev nD) (H G : ℕ → ℕ → EReal)

/-- The arguments, as matrices. -/
structure Args : Prop where
  h : m (c, Proc.tc.devRef main_arg0) = lay2 (a := 4096) (b := 2048) .f32 H
  dg : m (c, Proc.tc.devRef main_arg1) = lay2 (a := 4096) (b := 5632) .f32 G

variable (A : Args m c H G)
include A

theorem v0_at : V m c main_v0 = lay2 (a := 4096) (b := 2048) .bf16 H := by
  unfold V
  after_reads_simp
  clean_types
  rw [A.h]
  rfl

theorem v3_at : V m c main_v3 = lay3 (a := 8) (b := 4096) (c := 704) .bf16 (fun p t e => G t (704 * p + e)) := by
  unfold V
  after_reads_simp
  clean_types
  rw [A.dg]
  exact shards_4096 G _ _ _

theorem block_0 (t : Fin cfg0.N) :
    (iblk m c 0 t : FVec Ideal ⟨2, ![2048, 1024]⟩ .bf16) = lay2 .bf16 (fun i j => H (2048 * (t.val % 2) + i) (1024 * (t.val / 2 % 2) + j)) := by
  funext j
  unfold iblk
  rw [View.read_apply]
  show V m c main_v0 _ = _
  rw [v0_at m c H G A]
  show H (win0_0.index t (0 : Fin 2) * 2048 + 1 * (j 0).val) (win0_0.index t (1 : Fin 2) * 1024 + 1 * (j 1).val) = H _ _
  rw [(index_0 t).1, (index_0 t).2]
  congr 1 <;> omega

theorem block_1 (t : Fin cfg0.N) :
    (iblk m c 1 t : FVec Ideal ⟨3, ![1, 2048, 704]⟩ .bf16) = lay3 .bf16 (fun p i j => G (2048 * (t.val % 2) + i) (704 * (t.val / 4 + p) + j)) := by
  funext j
  unfold iblk
  rw [View.read_apply]
  show V m c main_v3 _ = _
  rw [v3_at m c H G A]
  show G (win0_1.index t (1 : Fin 3) * 2048 + 1 * (j 1).val) (704 * (win0_1.index t (0 : Fin 3) * 1 + 1 * (j 0).val) + (win0_1.index t (2 : Fin 3) * 704 + 1 * (j 2).val)) = G _ _
  rw [(index_1 t).1, (index_1 t).2.1, (index_1 t).2.2]
  congr 1 <;> omega

/-- The first half's products. -/
theorem acc_first (t : Fin cfg0.N) (h0 : t.val % 2 = 0) (h1 : ¬t.val % 2 = 1) :
    (outsAt0 m c t.val t.isLt).2 = lay2 (a := 1024) (b := 704) .f32
      (fun i j => ∑ k ∈ range 2048, H k (1024 * (t.val / 2 % 2) + i) * G k (704 * (t.val / 4) + j)) := by
  rw [outsAt0_A m c t h0 h1]
  frame_out
  rw [block_0 m c H G A t, block_1 m c H G A t, pay1_lay, pay2_lay]
  refine lay2_congr fun i _ j _ => ?_
  rw [zero_add, h0]
  simp only [Nat.mul_zero, Nat.zero_add, Nat.add_zero]

/-- What the second half's point writes. -/
theorem out_last (t : Fin cfg0.N) (h0 : ¬t.val % 2 = 0) (h1 : t.val % 2 = 1) :
    (outsAt0 m c t.val t.isLt).1 = lay3 (a := 1) (b := 1024) (c := 704) .bf16
      (fun _ i j => ∑ k ∈ range 4096, H k (1024 * (t.val / 2 % 2) + i) * G k (704 * (t.val / 4) + j)) := by
  have hp : t.val - 1 < cfg0.N := lt_of_le_of_lt (Nat.sub_le _ _) t.isLt
  have e := acc_first m c H G A ⟨t.val - 1, hp⟩ (by dsimp only; omega) (by dsimp only; omega)
  rw [outsAt0_B m c t h0 h1]
  frame_out
  dsimp only at e
  rw [e, block_0 m c H G A t, block_1 m c H G A t, carried, pay2_lay, pay3_lay]
  refine lay3_congr fun _ _ i _ j _ => ?_
  rw [h1, show (4096 : ℕ) = 2048 + 2048 from rfl, sum_range_add, show (t.val - 1) / 2 % 2 = t.val / 2 % 2 by omega, show (t.val - 1) / 4 = t.val / 4 by omega]
  simp only [Nat.mul_one, Nat.add_zero]

/-- The kernel's result. -/
theorem result : Value.G2 (F := Ideal) m c = (lay3 (a := 8) (b := 2048) (c := 704) .bf16
    (fun p i j => ∑ k ∈ range 4096, H k i * G k (704 * p + j)) : FVec Ideal S8x2048x704 .bf16) := by
  funext i
  have h0 : (i 0).val < 8 := (i 0).isLt
  have h1 : (i 1).val < 2048 := (i 1).isLt
  have h2 : (i 2).val < 704 := (i 2).isLt
  have hN : cfg0.N = 32 := N_0
  obtain ⟨n, hn⟩ : ∃ n, Value.pt2Of i = n := ⟨_, rfl⟩
  have en : n = 4 * (i 0).val + 2 * ((i 1).val / 1024) + 1 := by
    rw [← hn]; dsimp only [Value.pt2Of, Value.run2Of]; omega
  have hp : Value.pt2Of i < cfg0.N := by rw [hN, hn, en]; omega
  unfold Value.G2
  rw [dif_pos hp, ← Value.outsAt0_sweep m c _ hp, out_last m c H G A ⟨_, hp⟩ (by dsimp only; rw [hn]; omega) (by dsimp only; rw [hn]; omega)]
  dsimp only
  rw [hn]
  show ∑ k ∈ range 4096, H k (1024 * (n / 2 % 2) + (i 1).val % 1024) * G k (704 * (n / 4) + (i 2).val % 704) = ∑ k ∈ range 4096, H k (i 1).val * G k (704 * (i 0).val + (i 2).val)
  rw [show 1024 * (n / 2 % 2) + (i 1).val % 1024 = (i 1).val by omega, show n / 4 = (i 0).val by omega, show (i 2).val % 704 = (i 2).val by omega]

end

/-! ### The reference -/

section
open Cert.GateReferenceIdeal Cert.GateReferenceIdeal.Gen

variable (m : (l : Loc nD τ sig) → Buf (Elt Ideal) l) (c : Dev nD) (H G : ℕ → ℕ → EReal)

theorem reference (x : FVec Ideal S4096x2048 .f32) (y : FVec Ideal S4096x5632 .f32) (hx : x = lay2 .f32 H) (hy : y = lay2 .f32 G) :
    truncf .bf16 (transpose S8x2048x704 [1, 0, 2] (shapeCast S2048x8x704 (transpose S2048x5632 [1, 0] (Host.dotGeneral dot_S4096x5632_S4096x2048_S5632x2048_0_0_1_1_n_n none y x) transposes_S5632x2048_S2048x5632_1_0) shapeCasts_S2048x5632_S2048x8x704) transposes_S2048x8x704_S8x2048x704_1_0_2) bitsLt_bf16_f32
      = lay3 (a := 8) (b := 2048) (c := 704) .bf16 (fun p i j => ∑ k ∈ range 4096, H k i * G k (704 * p + j)) := by
  subst hx hy
  funext j; idx_vars j; pointwise [lay2, lay3]
  rw [Finset.sum_range, Nat.mul_comm 704]
  exact Finset.sum_congr rfl fun k _ => mul_comm _ _

end

end Cert.Ffn.Gate
end
-- ==== Proof.FfnDown.lean ====
module
public import proofs.«01_k».proof.Proof.Lay
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import Idealize.ShloMosaic.Lib.StableHlo.ReadAt
@[expose] public section
set_option maxRecDepth 16384

/-!
# The gradient of the down projection's weights, `actᵀ · dy`

Grid point `t` adds, for the rows of device `t / 4` and the 1024 columns of the weights numbered `t / 2 % 2`, the products over
the 2048 tokens of half `t % 2`; the second half's point writes the block.
-/

noncomputable section
open Finset Idealize.ShloMosaic Idealize.SL.Sem
namespace Cert.Ffn.Down

section
open Cert.DownIdeal Cert.DownIdeal.Gen

theorem pay1_lay : k0_pay1 (F := Ideal) = lay2 (a := 704) (b := 1024) .f32 (fun _ _ => 0) := by
  funext j; exact Ideal.ofBits_zero_f32

theorem pay2_lay (x : ℕ → ℕ → ℕ → EReal) (y z : ℕ → ℕ → EReal) :
    k0_pay2 (F := Ideal) (lay3 (a := 1) (b := 2048) (c := 704) .bf16 x) (lay2 (a := 2048) (b := 1024) .bf16 y) (lay2 (a := 704) (b := 1024) .f32 z)
      = lay2 (a := 704) (b := 1024) .f32 (fun i j => z i j + ∑ t ∈ range 2048, x 0 t i * y t j) := by
  unfold k0_pay2
  funext j; idx_vars j; pointwise [lay2, lay3]
  simp only [Finset.sum_range]

theorem pay3_lay (z : ℕ → ℕ → EReal) :
    k0_pay3 (F := Ideal) (lay2 (a := 704) (b := 1024) .f32 z) = lay2 (a := 704) (b := 1024) .bf16 z := rfl

/-- The accumulator holds what the point before left in it. -/
theorem carried (z : Vec Ideal S704x1024 .f32) (h : (Memref.whole cc0_scratch0).IsWhole) :
    View.read (Elt Ideal) (View.whole cc0_scratch0) (h.unread z) = z := h.read_unread z

theorem index_0 : ∀ t : Fin cfg0.N, win0_0.index t (0 : Fin 3) = t.val / 4 ∧ win0_0.index t (1 : Fin 3) = t.val % 2 ∧ win0_0.index t (2 : Fin 3) = 0 :=
  (by decide +kernel : ∀ t : Fin grid0.N, win0_0.index t (0 : Fin 3) = t.val / 4 ∧ win0_0.index t (1 : Fin 3) = t.val % 2 ∧ win0_0.index t (2 : Fin 3) = 0)
theorem index_1 : ∀ t : Fin cfg0.N, win0_1.index t (0 : Fin 2) = t.val % 2 ∧ win0_1.index t (1 : Fin 2) = t.val / 2 % 2 :=
  (by decide +kernel : ∀ t : Fin grid0.N, win0_1.index t (0 : Fin 2) = t.val % 2 ∧ win0_1.index t (1 : Fin 2) = t.val / 2 % 2)

variable (m : (l : Loc nD τ sig) → Buf (Elt Ideal) l) (c : Dev nD) (X Y : ℕ → ℕ → EReal)

/-- The arguments, as matrices. -/
structure Args : Prop where
  act : m (c, Proc.tc.devRef main_arg0) = lay2 (a := 4096) (b := 5632) .f32 X
  dy : m (c, Proc.tc.devRef main_arg1) = lay2 (a := 4096) (b := 2048) .f32 Y

variable (A : Args m c X Y)
include A

theorem v2_at : V m c main_v2 = lay3 (a := 8) (b := 4096) (c := 704) .bf16 (fun p t e => X t (704 * p + e)) := by
  unfold V
  after_reads_simp
  clean_types
  rw [A.act]
  exact shards_4096 X _ _ _

theorem v3_at : V m c main_v3 = lay2 (a := 4096) (b := 2048) .bf16 Y := by
  unfold V
  after_reads_simp
  clean_types
  rw [A.dy]
  rfl

theorem block_0 (t : Fin cfg0.N) :
    (iblk m c 0 t : FVec Ideal ⟨3, ![1, 2048, 704]⟩ .bf16) = lay3 .bf16 (fun p i j => X (2048 * (t.val % 2) + i) (704 * (t.val / 4 + p) + j)) := by
  funext j
  unfold iblk
  rw [View.read_apply]
  show V m c main_v2 _ = _
  rw [v2_at m c X Y A]
  show X (win0_0.index t (1 : Fin 3) * 2048 + 1 * (j 1).val) (704 * (win0_0.index t (0 : Fin 3) * 1 + 1 * (j 0).val) + (win0_0.index t (2 : Fin 3) * 704 + 1 * (j 2).val)) = X _ _
  rw [(index_0 t).1, (index_0 t).2.1, (index_0 t).2.2]
  congr 1 <;> omega

theorem block_1 (t : Fin cfg0.N) :
    (iblk m c 1 t : FVec Ideal ⟨2, ![2048, 1024]⟩ .bf16) = lay2 .bf16 (fun i j => Y (2048 * (t.val % 2) + i) (1024 * (t.val / 2 % 2) + j)) := by
  funext j
  unfold iblk
  rw [View.read_apply]
  show V m c main_v3 _ = _
  rw [v3_at m c X Y A]
  show Y (win0_1.index t (0 : Fin 2) * 2048 + 1 * (j 0).val) (win0_1.index t (1 : Fin 2) * 1024 + 1 * (j 1).val) = Y _ _
  rw [(index_1 t).1, (index_1 t).2]
  congr 1 <;> omega

/-- The first half's products. -/
theorem acc_first (t : Fin cfg0.N) (h0 : t.val % 2 = 0) (h1 : ¬t.val % 2 = 1) :
    (outsAt0 m c t.val t.isLt).2 = lay2 (a := 704) (b := 1024) .f32
      (fun i j => ∑ k ∈ range 2048, X k (704 * (t.val / 4) + i) * Y k (1024 * (t.val / 2 % 2) + j)) := by
  rw [outsAt0_A m c t h0 h1]
  frame_out
  rw [block_0 m c X Y A t, block_1 m c X Y A t, pay1_lay, pay2_lay]
  refine lay2_congr fun i _ j _ => ?_
  rw [zero_add, h0]
  simp only [Nat.mul_zero, Nat.zero_add, Nat.add_zero]

/-- What the second half's point writes. -/
theorem out_last (t : Fin cfg0.N) (h0 : ¬t.val % 2 = 0) (h1 : t.val % 2 = 1) :
    (outsAt0 m c t.val t.isLt).1 = lay2 (a := 704) (b := 1024) .bf16
      (fun i j => ∑ k ∈ range 4096, X k (704 * (t.val / 4) + i) * Y k (1024 * (t.val / 2 % 2) + j)) := by
  have hp : t.val - 1 < cfg0.N := lt_of_le_of_lt (Nat.sub_le _ _) t.isLt
  have e := acc_first m c X Y A ⟨t.val - 1, hp⟩ (by dsimp only; omega) (by dsimp only; omega)
  rw [outsAt0_B m c t h0 h1]
  frame_out
  dsimp only at e
  rw [e, block_0 m c X Y A t, block_1 m c X Y A t, carried, pay2_lay, pay3_lay]
  refine lay2_congr fun i _ j _ => ?_
  rw [h1, show (4096 : ℕ) = 2048 + 2048 from rfl, sum_range_add, show (t.val - 1) / 2 % 2 = t.val / 2 % 2 by omega, show (t.val - 1) / 4 = t.val / 4 by omega]
  simp only [Nat.mul_one, Nat.add_zero]

/-- The kernel's result. -/
theorem result : Value.G2 (F := Ideal) m c = (lay2 (a := 5632) (b := 2048) .bf16
    (fun i j => ∑ k ∈ range 4096, X k i * Y k j) : FVec Ideal S5632x2048 .bf16) := by
  funext i
  have h0 : (i 0).val < 5632 := (i 0).isLt
  have h1 : (i 1).val < 2048 := (i 1).isLt
  have hN : cfg0.N = 32 := N_0
  obtain ⟨n, hn⟩ : ∃ n, Value.pt2Of i = n := ⟨_, rfl⟩
  have en : n = 4 * ((i 0).val / 704) + 2 * ((i 1).val / 1024) + 1 := by
    rw [← hn]; dsimp only [Value.pt2Of, Value.run2Of]; omega
  have hp : Value.pt2Of i < cfg0.N := by rw [hN, hn, en]; omega
  unfold Value.G2
  rw [dif_pos hp, ← Value.outsAt0_sweep m c _ hp, out_last m c X Y A ⟨_, hp⟩ (by dsimp only; rw [hn]; omega) (by dsimp only; rw [hn]; omega)]
  dsimp only
  rw [hn]
  show ∑ k ∈ range 4096, X k (704 * (n / 4) + (i 0).val % 704) * Y k (1024 * (n / 2 % 2) + (i 1).val % 1024) = ∑ k ∈ range 4096, X k (i 0).val * Y k (i 1).val
  rw [show 1024 * (n / 2 % 2) + (i 1).val % 1024 = (i 1).val by omega, show 704 * (n / 4) + (i 0).val % 704 = (i 0).val by omega]

end

/-! ### The reference -/

section
open Cert.DownReferenceIdeal Cert.DownReferenceIdeal.Gen

theorem reference (X Y : ℕ → ℕ → EReal) (x : FVec Ideal S4096x5632 .f32) (y : FVec Ideal S4096x2048 .f32) (hx : x = lay2 .f32 X) (hy : y = lay2 .f32 Y) :
    truncf .bf16 (transpose S5632x2048 [1, 0] (Host.dotGeneral dot_S4096x2048_S4096x5632_S2048x5632_0_0_1_1_n_n none y x) transposes_S2048x5632_S5632x2048_1_0) bitsLt_bf16_f32
      = lay2 (a := 5632) (b := 2048) .bf16 (fun i j => ∑ k ∈ range 4096, X k i * Y k j) := by
  subst hx hy
  funext j; idx_vars j; pointwise [lay2]
  rw [Finset.sum_range]
  exact Finset.sum_congr rfl fun k _ => mul_comm _ _

end

end Cert.Ffn.Down
end
-- ==== Proof.FfnUp.lean ====
module
public import proofs.«01_k».proof.Proof.Lay
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import Idealize.ShloMosaic.Lib.StableHlo.ReadAt
public import Idealize.ShloMosaic.Lib.Pipeline.ValueKit
@[expose] public section
set_option maxRecDepth 16384

/-!
# The feed-forward network's first half: `g = h · w_gate`, `u = h · w_up` and `silu(g) * u`

Grid point `t` writes, in the three results' planes of device `t / 8`, the rows of the 512 tokens numbered `t % 8`.
-/

noncomputable section
open Finset Idealize.ShloMosaic Idealize.SL.Sem
namespace Cert.Ffn.Up

section
open Cert.UpIdeal Cert.UpIdeal.Gen

/-- A row of one matrix against a column of a plane of another. -/
def dots (x : ℕ → ℕ → EReal) (y : ℕ → ℕ → ℕ → EReal) (i j : ℕ) : EReal := ∑ k ∈ range 2048, x i k * y 0 k j

theorem pay2_lay (x : ℕ → ℕ → EReal) (y : ℕ → ℕ → ℕ → EReal) :
    k0_pay2 (F := Ideal) (lay2 (a := 512) (b := 2048) .bf16 x) (lay3 (a := 1) (b := 2048) (c := 704) .bf16 y) = lay2 (a := 512) (b := 704) .f32 (dots x y) := by
  unfold k0_pay2 k0_pay1
  funext j; idx_vars j; pointwise [lay2, lay3, dots]
  rw [Finset.sum_range]

theorem pay3_lay (x : ℕ → ℕ → EReal) (y : ℕ → ℕ → ℕ → EReal) :
    k0_pay3 (F := Ideal) (lay2 (a := 512) (b := 2048) .bf16 x) (lay3 (a := 1) (b := 2048) (c := 704) .bf16 y) = lay2 (a := 512) (b := 704) .f32 (dots x y) := by
  unfold k0_pay3 k0_pay1
  funext j; idx_vars j; pointwise [lay2, lay3, dots]
  rw [Finset.sum_range]

theorem pay4_lay (x : ℕ → ℕ → EReal) (y : ℕ → ℕ → ℕ → EReal) :
    k0_pay4 (F := Ideal) (lay2 (a := 512) (b := 2048) .bf16 x) (lay3 (a := 1) (b := 2048) (c := 704) .bf16 y)
      = lay3 (a := 1) (b := 512) (c := 704) .bf16 (fun _ i j => dots x y i j) := by
  unfold k0_pay4
  rw [pay2_lay]
  funext j; idx_vars j; pointwise [lay2, lay3]

theorem pay5_lay (x : ℕ → ℕ → EReal) (y : ℕ → ℕ → ℕ → EReal) :
    k0_pay5 (F := Ideal) (lay2 (a := 512) (b := 2048) .bf16 x) (lay3 (a := 1) (b := 2048) (c := 704) .bf16 y)
      = lay3 (a := 1) (b := 512) (c := 704) .bf16 (fun _ i j => dots x y i j) := by
  unfold k0_pay5
  rw [pay3_lay]
  funext j; idx_vars j; pointwise [lay2, lay3]

theorem pay6_lay (x : ℕ → ℕ → EReal) (y z : ℕ → ℕ → ℕ → EReal) :
    k0_pay6 (F := Ideal) (lay2 (a := 512) (b := 2048) .bf16 x) (lay3 (a := 1) (b := 2048) (c := 704) .bf16 y) (lay3 (a := 1) (b := 2048) (c := 704) .bf16 z)
      = lay3 (a := 1) (b := 512) (c := 704) .bf16 (fun _ i j => dots x y i j * sg (dots x y i j) * dots x z i j) := by
  unfold k0_pay6
  rw [pay2_lay, pay3_lay]
  funext j; idx_vars j; pointwise [lay2, lay3]
  rw [← div_one_add_exp, ← zero_sub (dots x y _ _), ← Ideal.ofBits_zero_f32, ← Ideal.ofBits_one_f32]

theorem index_0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index_1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem index_2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem index_3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, win0_3.index t (0 : Fin 3) = t.val / 8 ∧ win0_3.index t (1 : Fin 3) = t.val % 8 ∧ win0_3.index t (2 : Fin 3) = 0)
theorem index_4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, win0_4.index t (0 : Fin 3) = t.val / 8 ∧ win0_4.index t (1 : Fin 3) = t.val % 8 ∧ win0_4.index t (2 : Fin 3) = 0)
theorem index_5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, win0_5.index t (0 : Fin 3) = t.val / 8 ∧ win0_5.index t (1 : Fin 3) = t.val % 8 ∧ win0_5.index t (2 : Fin 3) = 0)

variable (m : (l : Loc nD τ sig) → Buf (Elt Ideal) l) (c : Dev nD) (H Wg Wu : ℕ → ℕ → EReal)

/-- The arguments, as matrices. -/
structure Args : Prop where
  h : m (c, Proc.tc.devRef main_arg0) = lay2 (a := 4096) (b := 2048) .f32 H
  wg : m (c, Proc.tc.devRef main_arg1) = lay2 (a := 2048) (b := 5632) .f32 Wg
  wu : m (c, Proc.tc.devRef main_arg2) = lay2 (a := 2048) (b := 5632) .f32 Wu

/-- A projection, by token and column. -/
def proj (H W : ℕ → ℕ → EReal) (i j : ℕ) : EReal := ∑ k ∈ range 2048, H i k * W k j

/-- A block's products are a part of the projection's. -/
theorem dots_proj (H W : ℕ → ℕ → EReal) (r q i j : ℕ) :
    dots (fun i j => H (512 * r + i) j) (fun p i e => W i (704 * (q + p) + e)) i j = proj H W (512 * r + i) (704 * q + j) := rfl

variable (A : Args m c H Wg Wu)
include A

theorem v0_at : V m c main_v0 = lay2 (a := 4096) (b := 2048) .bf16 H := by
  unfold V
  after_reads_simp
  clean_types
  rw [A.h]
  rfl

theorem block_0 (t : Fin cfg0.N) :
    (iblk m c 0 t : FVec Ideal ⟨2, ![512, 2048]⟩ .bf16) = lay2 .bf16 (fun i j => H (512 * (t.val % 8) + i) j) := by
  funext j
  unfold iblk
  rw [View.read_apply]
  show V m c main_v0 _ = _
  rw [v0_at m c H Wg Wu A]
  show H (win0_0.index t (0 : Fin 2) * 512 + 1 * (j 0).val) (win0_0.index t (1 : Fin 2) * 2048 + 1 * (j 1).val) = H _ _
  rw [(index_0 t).1, (index_0 t).2]
  congr 1 <;> omega

theorem v3_at : V m c main_v3 = lay3 (a := 8) (b := 2048) (c := 704) .bf16 (fun p t e => Wg t (704 * p + e)) := by
  unfold V
  after_reads_simp
  clean_types
  rw [A.wg]
  exact shards_2048 Wg _ _ _

theorem block_1 (t : Fin cfg0.N) :
    (iblk m c 1 t : FVec Ideal ⟨3, ![1, 2048, 704]⟩ .bf16) = lay3 .bf16 (fun p i e => Wg i (704 * (t.val / 8 + p) + e)) := by
  funext j
  unfold iblk
  rw [View.read_apply]
  show V m c main_v3 _ = _
  rw [v3_at m c H Wg Wu A]
  show Wg (win0_1.index t (1 : Fin 3) * 2048 + 1 * (j 1).val) (704 * (win0_1.index t (0 : Fin 3) * 1 + 1 * (j 0).val) + (win0_1.index t (2 : Fin 3) * 704 + 1 * (j 2).val)) = Wg _ _
  rw [(index_1 t).1, (index_1 t).2.1, (index_1 t).2.2]
  congr 1 <;> omega

theorem v6_at : V m c main_v6 = lay3 (a := 8) (b := 2048) (c := 704) .bf16 (fun p t e => Wu t (704 * p + e)) := by
  unfold V
  after_reads_simp
  clean_types
  rw [A.wu]
  exact shards_2048 Wu _ _ _

theorem block_2 (t : Fin cfg0.N) :
    (iblk m c 2 t : FVec Ideal ⟨3, ![1, 2048, 704]⟩ .bf16) = lay3 .bf16 (fun p i e => Wu i (704 * (t.val / 8 + p) + e)) := by
  funext j
  unfold iblk
  rw [View.read_apply]
  show V m c main_v6 _ = _
  rw [v6_at m c H Wg Wu A]
  show Wu (win0_2.index t (1 : Fin 3) * 2048 + 1 * (j 1).val) (704 * (win0_2.index t (0 : Fin 3) * 1 + 1 * (j 0).val) + (win0_2.index t (2 : Fin 3) * 704 + 1 * (j 2).val)) = Wu _ _
  rw [(index_2 t).1, (index_2 t).2.1, (index_2 t).2.2]
  congr 1 <;> omega

/-- The gate's result. -/
theorem result_g : (dats m 0 c).arrAt 3 cfg0.N = (lay3 (a := 8) (b := 4096) (c := 704) .bf16
    (fun p i j => proj H Wg i (704 * p + j)) : FVec Ideal S8x4096x704 .bf16) := by
  refine (dats m 0 c).arrAt_eq_of_covers 3 _ (by decide +kernel) fun t hf y => ?_
  blk_simp
  rw [after0_3]
  frame_out
  rw [block_0 m c H Wg Wu A t, block_1 m c H Wg Wu A t, pay4_lay]
  have h0 : (y (0 : Fin 3)).val = 0 := by have : (y (0 : Fin 3)).val < 1 := (y (0 : Fin 3)).isLt; omega
  show dots (fun i j => H (512 * (t.val % 8) + i) j) (fun p i e => Wg i (704 * (t.val / 8 + p) + e)) (y (1 : Fin 3)).val (y (2 : Fin 3)).val
    = proj H Wg (win0_3.index t (1 : Fin 3) * 512 + 1 * (y (1 : Fin 3)).val) (704 * (win0_3.index t (0 : Fin 3) * 1 + 1 * (y (0 : Fin 3)).val) + (win0_3.index t (2 : Fin 3) * 704 + 1 * (y (2 : Fin 3)).val))
  rw [dots_proj, (index_3 t).1, (index_3 t).2.1, (index_3 t).2.2, h0,
    show t.val % 8 * 512 + 1 * (y (1 : Fin 3)).val = 512 * (t.val % 8) + (y (1 : Fin 3)).val by omega,
    show 704 * (t.val / 8 * 1 + 1 * 0) + (0 * 704 + 1 * (y (2 : Fin 3)).val) = 704 * (t.val / 8) + (y (2 : Fin 3)).val by omega]

/-- The up projection's result. -/
theorem result_u : (dats m 0 c).arrAt 4 cfg0.N = (lay3 (a := 8) (b := 4096) (c := 704) .bf16
    (fun p i j => proj H Wu i (704 * p + j)) : FVec Ideal S8x4096x704 .bf16) := by
  refine (dats m 0 c).arrAt_eq_of_covers 4 _ (by decide +kernel) fun t hf y => ?_
  blk_simp
  rw [after0_4]
  frame_out
  rw [block_0 m c H Wg Wu A t, block_2 m c H Wg Wu A t, pay5_lay]
  have h0 : (y (0 : Fin 3)).val = 0 := by have : (y (0 : Fin 3)).val < 1 := (y (0 : Fin 3)).isLt; omega
  show dots (fun i j => H (512 * (t.val % 8) + i) j) (fun p i e => Wu i (704 * (t.val / 8 + p) + e)) (y (1 : Fin 3)).val (y (2 : Fin 3)).val
    = proj H Wu (win0_4.index t (1 : Fin 3) * 512 + 1 * (y (1 : Fin 3)).val) (704 * (win0_4.index t (0 : Fin 3) * 1 + 1 * (y (0 : Fin 3)).val) + (win0_4.index t (2 : Fin 3) * 704 + 1 * (y (2 : Fin 3)).val))
  rw [dots_proj, (index_4 t).1, (index_4 t).2.1, (index_4 t).2.2, h0,
    show t.val % 8 * 512 + 1 * (y (1 : Fin 3)).val = 512 * (t.val % 8) + (y (1 : Fin 3)).val by omega,
    show 704 * (t.val / 8 * 1 + 1 * 0) + (0 * 704 + 1 * (y (2 : Fin 3)).val) = 704 * (t.val / 8) + (y (2 : Fin 3)).val by omega]

/-- The hidden activations. -/
theorem result_act : (dats m 0 c).arrAt 5 cfg0.N = (lay3 (a := 8) (b := 4096) (c := 704) .bf16
    (fun p i j => proj H Wg i (704 * p + j) * sg (proj H Wg i (704 * p + j)) * proj H Wu i (704 * p + j)) : FVec Ideal S8x4096x704 .bf16) := by
  refine (dats m 0 c).arrAt_eq_of_covers 5 _ (by decide +kernel) fun t hf y => ?_
  blk_simp
  rw [after0_5]
  frame_out
  rw [block_0 m c H Wg Wu A t, block_1 m c H Wg Wu A t, block_2 m c H Wg Wu A t, pay6_lay]
  have h0 : (y (0 : Fin 3)).val = 0 := by have : (y (0 : Fin 3)).val < 1 := (y (0 : Fin 3)).isLt; omega
  show dots (fun i j => H (512 * (t.val % 8) + i) j) (fun p i e => Wg i (704 * (t.val / 8 + p) + e)) (y (1 : Fin 3)).val (y (2 : Fin 3)).val * sg (dots (fun i j => H (512 * (t.val % 8) + i) j) (fun p i e => Wg i (704 * (t.val / 8 + p) + e)) (y (1 : Fin 3)).val (y (2 : Fin 3)).val)
    * dots (fun i j => H (512 * (t.val % 8) + i) j) (fun p i e => Wu i (704 * (t.val / 8 + p) + e)) (y (1 : Fin 3)).val (y (2 : Fin 3)).val
    = proj H Wg (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val)) * sg (proj H Wg (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val)))
    * proj H Wu (win0_5.index t (1 : Fin 3) * 512 + 1 * (y (1 : Fin 3)).val) (704 * (win0_5.index t (0 : Fin 3) * 1 + 1 * (y (0 : Fin 3)).val) + (win0_5.index t (2 : Fin 3) * 704 + 1 * (y (2 : Fin 3)).val))
  rw [dots_proj, dots_proj, (index_5 t).1, (index_5 t).2.1, (index_5 t).2.2, h0,
    show t.val % 8 * 512 + 1 * (y (1 : Fin 3)).val = 512 * (t.val % 8) + (y (1 : Fin 3)).val by omega,
    show 704 * (t.val / 8 * 1 + 1 * 0) + (0 * 704 + 1 * (y (2 : Fin 3)).val) = 704 * (t.val / 8) + (y (2 : Fin 3)).val by omega]

end

/-! ### The reference -/

section
open Cert.UpReferenceIdeal Cert.UpReferenceIdeal.Gen Cert.UpReferenceIdeal.Read
variable (H W Wu : ℕ → ℕ → EReal)

theorem dot_lay : Host.dotGeneral dot_S4096x2048_S2048x5632_S4096x5632_1_0_0_1_n_n none (lay2 (a := 4096) (b := 2048) .f32 H : FVec Ideal S4096x2048 .f32)
      (lay2 (a := 2048) (b := 5632) .f32 W : FVec Ideal S2048x5632 .f32) = lay2 (a := 4096) (b := 5632) .f32 (proj H W) := by
  funext j; idx_vars j; pointwise [lay2, proj]
  rw [Finset.sum_range]

theorem silu_lay (X : ℕ → ℕ → EReal) (x : FVec Ideal S4096x5632 .f32) (hx : x = lay2 .f32 X) :
    mulf x (Host.divf (broadcastInDim S4096x5632 ![] bcast_S_S4096x5632 (constant (F := Ideal) S_ .f32 0x3F800000#32))
        (addf (broadcastInDim S4096x5632 ![] bcast_S_S4096x5632 (constant (F := Ideal) S_ .f32 0x3F800000#32)) (Host.exp (Host.negf x))))
      = lay2 (a := 4096) (b := 5632) .f32 (fun i j => X i j * sg (X i j)) := by
  subst hx
  funext j; idx_vars j; pointwise [lay2, sg]

/-- The gate's result. -/
theorem reference_g (h : FVec Ideal S4096x2048 .f32) (w : FVec Ideal S2048x5632 .f32) (hh : h = lay2 .f32 H) (hw : w = lay2 .f32 W) :
    val_main_v6 (F := Ideal) h w = lay3 (a := 8) (b := 4096) (c := 704) .bf16 (fun p i j => proj H W i (704 * p + j)) := by
  subst hh hw
  show truncf .bf16 (transpose S8x4096x704 [1, 0, 2] (shapeCast S4096x8x704 (Host.dotGeneral dot_S4096x2048_S2048x5632_S4096x5632_1_0_0_1_n_n none _ _) shapeCasts_S4096x5632_S4096x8x704)
    transposes_S4096x8x704_S8x4096x704_1_0_2) bitsLt_bf16_f32 = _
  rw [dot_lay]
  exact shards_4096 (proj H W) _ _ _

/-- The up projection's result. -/
theorem reference_u (h : FVec Ideal S4096x2048 .f32) (w : FVec Ideal S2048x5632 .f32) (hh : h = lay2 .f32 H) (hw : w = lay2 .f32 W) :
    val_main_v9 (F := Ideal) h w = lay3 (a := 8) (b := 4096) (c := 704) .bf16 (fun p i j => proj H W i (704 * p + j)) :=
  reference_g H W h w hh hw

/-- The hidden activations. -/
theorem reference_act (h : FVec Ideal S4096x2048 .f32) (w wu : FVec Ideal S2048x5632 .f32) (hh : h = lay2 .f32 H) (hw : w = lay2 .f32 W) (hu : wu = lay2 .f32 Wu) :
    val_main_v12 (F := Ideal) h w wu = lay3 (a := 8) (b := 4096) (c := 704) .bf16
      (fun p i j => proj H W i (704 * p + j) * sg (proj H W i (704 * p + j)) * proj H Wu i (704 * p + j)) := by
  have e : val_main_v2 (F := Ideal) h w = lay2 (a := 4096) (b := 5632) .f32 (fun i j => proj H W i j * sg (proj H W i j)) :=
    silu_lay (proj H W) _ (by subst hh hw; exact dot_lay H W)
  have e' : val_main_v1 (F := Ideal) h wu = lay2 (a := 4096) (b := 5632) .f32 (proj H Wu) := by subst hh hu; exact dot_lay H Wu
  show truncf .bf16 (transpose S8x4096x704 [1, 0, 2] (shapeCast S4096x8x704 (mulf (F := Ideal) (φ := .f32) (val_main_v2 (F := Ideal) h w : FVec Ideal S4096x5632 .f32) (val_main_v1 (F := Ideal) h wu : FVec Ideal S4096x5632 .f32)) shapeCasts_S4096x5632_S4096x8x704)
    transposes_S4096x8x704_S8x4096x704_1_0_2) bitsLt_bf16_f32 = _
  rw [e, e']
  exact shards_4096 (fun i j => proj H W i j * sg (proj H W i j) * proj H Wu i j) _ _ _

end

end Cert.Ffn.Up
end
-- ==== Proof.FfnOut.lean ====
module
public import proofs.«01_k».proof.Proof.Lay
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import Idealize.ShloMosaic.Lib.StableHlo.ReadAt
@[expose] public section
set_option maxRecDepth 16384

/-!
# The feed-forward network's output, `x + act · w_down`

Grid point `t` adds, for the 1024 tokens numbered `t / 8` and the 1024 columns numbered `t / 4 % 2`, the products over the hidden
columns of devices `2 * (t % 4)` and `2 * (t % 4) + 1`; the fourth point of four adds `x` and writes the block.
-/

noncomputable section
open Finset Idealize.ShloMosaic Idealize.SL.Sem
namespace Cert.Ffn.Out

section
open Cert.OutIdeal Cert.OutIdeal.Gen

theorem pay1_lay : k0_pay1 (F := Ideal) = lay2 (a := 1024) (b := 1024) .f32 (fun _ _ => 0) := by
  funext j; exact Ideal.ofBits_zero_f32

theorem pay2_lay (x : ℕ → ℕ → ℕ → EReal) (y z : ℕ → ℕ → EReal) :
    k0_pay2 (F := Ideal) (lay3 (a := 2) (b := 1024) (c := 704) .bf16 x) (lay2 (a := 1408) (b := 1024) .bf16 y) (lay2 (a := 1024) (b := 1024) .f32 z)
      = lay2 (a := 1024) (b := 1024) .f32 (fun i j => z i j + ((∑ e ∈ range 704, x 0 i e * y e j) + ∑ e ∈ range 704, x 1 i e * y (704 + e) j)) := by
  unfold k0_pay2
  funext j; idx_vars j; pointwise [lay2, lay3]
  simp only [Finset.sum_range]

theorem pay3_lay (x y : ℕ → ℕ → EReal) :
    k0_pay3 (F := Ideal) (lay2 (a := 1024) (b := 1024) .f32 x) (lay2 (a := 1024) (b := 1024) .f32 y) = lay2 (a := 1024) (b := 1024) .f32 (fun i j => x i j + y i j) := rfl

/-- The accumulator holds what the point before left in it. -/
theorem carried (z : Vec Ideal S1024x1024 .f32) (h : (Memref.whole cc0_scratch0).IsWhole) :
    View.read (Elt Ideal) (View.whole cc0_scratch0) (h.unread z) = z := h.read_unread z

theorem index_0 : ∀ t : Fin cfg0.N, win0_0.index t (0 : Fin 3) = t.val % 4 ∧ win0_0.index t (1 : Fin 3) = t.val / 8 ∧ win0_0.index t (2 : Fin 3) = 0 :=
  (by decide +kernel : ∀ t : Fin grid0.N, win0_0.index t (0 : Fin 3) = t.val % 4 ∧ win0_0.index t (1 : Fin 3) = t.val / 8 ∧ win0_0.index t (2 : Fin 3) = 0)
theorem index_1 : ∀ t : Fin cfg0.N, win0_1.index t (0 : Fin 2) = t.val % 4 ∧ win0_1.index t (1 : Fin 2) = t.val / 4 % 2 :=
  (by decide +kernel : ∀ t : Fin grid0.N, win0_1.index t (0 : Fin 2) = t.val % 4 ∧ win0_1.index t (1 : Fin 2) = t.val / 4 % 2)
theorem index_2 : ∀ t : Fin cfg0.N, win0_2.index t (0 : Fin 2) = t.val / 8 ∧ win0_2.index t (1 : Fin 2) = t.val / 4 % 2 :=
  (by decide +kernel : ∀ t : Fin grid0.N, win0_2.index t (0 : Fin 2) = t.val / 8 ∧ win0_2.index t (1 : Fin 2) = t.val / 4 % 2)

variable (m : (l : Loc nD τ sig) → Buf (Elt Ideal) l) (c : Dev nD) (B W X : ℕ → ℕ → EReal)

/-- The arguments, as matrices. -/
structure Args : Prop where
  act : m (c, Proc.tc.devRef main_arg0) = lay2 (a := 4096) (b := 5632) .f32 B
  w : m (c, Proc.tc.devRef main_arg1) = lay2 (a := 5632) (b := 2048) .f32 W
  x : m (c, Proc.tc.devRef main_arg2) = lay2 (a := 4096) (b := 2048) .f32 X

/-- The products over the hidden columns of device `p`. -/
def part (i j p : ℕ) : EReal := ∑ e ∈ range 704, B i (704 * p + e) * W (704 * p + e) j

theorem part_all (i j : ℕ) : ∑ p ∈ range 8, part B W i j p = ∑ k ∈ range 5632, B i k * W k j := by
  unfold part
  rw [show (5632 : ℕ) = 8 * 704 from rfl, split_sum]

variable (A : Args m c B W X)
include A

theorem v2_at : V m c main_v2 = lay3 (a := 8) (b := 4096) (c := 704) .bf16 (fun p t e => B t (704 * p + e)) := by
  unfold V
  after_reads_simp
  clean_types
  rw [A.act]
  exact shards_4096 B _ _ _

theorem v3_at : V m c main_v3 = lay2 (a := 5632) (b := 2048) .bf16 W := by
  unfold V
  after_reads_simp
  clean_types
  rw [A.w]
  rfl

theorem x_at : V m c main_arg2 = lay2 (a := 4096) (b := 2048) .f32 X := by
  unfold V
  after_reads_simp
  exact A.x

theorem block_0 (t : Fin cfg0.N) :
    (iblk m c 0 t : FVec Ideal ⟨3, ![2, 1024, 704]⟩ .bf16) = lay3 .bf16 (fun p i e => B (1024 * (t.val / 8) + i) (704 * (2 * (t.val % 4) + p) + e)) := by
  funext j
  unfold iblk
  rw [View.read_apply]
  show V m c main_v2 _ = _
  rw [v2_at m c B W X A]
  show B (win0_0.index t (1 : Fin 3) * 1024 + 1 * (j 1).val) (704 * (win0_0.index t (0 : Fin 3) * 2 + 1 * (j 0).val) + (win0_0.index t (2 : Fin 3) * 704 + 1 * (j 2).val)) = B _ _
  rw [(index_0 t).1, (index_0 t).2.1, (index_0 t).2.2]
  congr 1 <;> omega

theorem block_1 (t : Fin cfg0.N) :
    (iblk m c 1 t : FVec Ideal ⟨2, ![1408, 1024]⟩ .bf16) = lay2 .bf16 (fun i j => W (1408 * (t.val % 4) + i) (1024 * (t.val / 4 % 2) + j)) := by
  funext j
  unfold iblk
  rw [View.read_apply]
  show V m c main_v3 _ = _
  rw [v3_at m c B W X A]
  show W (win0_1.index t (0 : Fin 2) * 1408 + 1 * (j 0).val) (win0_1.index t (1 : Fin 2) * 1024 + 1 * (j 1).val) = W _ _
  rw [(index_1 t).1, (index_1 t).2]
  congr 1 <;> omega

theorem block_2 (t : Fin cfg0.N) :
    (iblk m c 2 t : FVec Ideal ⟨2, ![1024, 1024]⟩ .f32) = lay2 .f32 (fun i j => X (1024 * (t.val / 8) + i) (1024 * (t.val / 4 % 2) + j)) := by
  funext j
  unfold iblk
  rw [View.read_apply]
  show V m c main_arg2 _ = _
  rw [x_at m c B W X A]
  show X (win0_2.index t (0 : Fin 2) * 1024 + 1 * (j 0).val) (win0_2.index t (1 : Fin 2) * 1024 + 1 * (j 1).val) = X _ _
  rw [(index_2 t).1, (index_2 t).2]
  congr 1 <;> omega

/-- What a point adds. -/
theorem step (t : Fin cfg0.N) (z : ℕ → ℕ → EReal) :
    k0_pay2 (F := Ideal) (iblk m c 0 t) (iblk m c 1 t) (lay2 (a := 1024) (b := 1024) .f32 z)
      = lay2 (a := 1024) (b := 1024) .f32 (fun i j => z i j + (part B W (1024 * (t.val / 8) + i) (1024 * (t.val / 4 % 2) + j) (2 * (t.val % 4))
          + part B W (1024 * (t.val / 8) + i) (1024 * (t.val / 4 % 2) + j) (2 * (t.val % 4) + 1))) := by
  rw [block_0 m c B W X A t, block_1 m c B W X A t, pay2_lay]
  refine lay2_congr fun i _ j _ => congrArg (z i j + ·) ?_
  unfold part
  refine congrArg₂ (· + ·) (sum_congr rfl fun e _ => ?_) (sum_congr rfl fun e _ => ?_)
  · rw [Nat.add_zero, show 1408 * (t.val % 4) + e = 704 * (2 * (t.val % 4)) + e by omega]
  · rw [show 1408 * (t.val % 4) + (704 + e) = 704 * (2 * (t.val % 4) + 1) + e by omega]

/-- What a point leaves in the accumulator. -/
def held (n : ℕ) : ℕ → ℕ → EReal := fun i j =>
  ∑ p ∈ range (2 * (n % 4) + 2), part B W (1024 * (n / 8) + i) (1024 * (n / 4 % 2) + j) p

omit A in
theorem held_first (n : ℕ) (h : n % 4 = 0) (i j : ℕ) : held B W n i j
    = 0 + (part B W (1024 * (n / 8) + i) (1024 * (n / 4 % 2) + j) (2 * (n % 4)) + part B W (1024 * (n / 8) + i) (1024 * (n / 4 % 2) + j) (2 * (n % 4) + 1)) := by
  unfold held
  rw [h, zero_add]
  simp only [Nat.mul_zero, Nat.zero_add, sum_range_succ, sum_range_zero, zero_add]

omit A in
theorem held_next (n : ℕ) (h : ¬n % 4 = 0) (i j : ℕ) : held B W n i j
    = held B W (n - 1) i j + (part B W (1024 * (n / 8) + i) (1024 * (n / 4 % 2) + j) (2 * (n % 4)) + part B W (1024 * (n / 8) + i) (1024 * (n / 4 % 2) + j) (2 * (n % 4) + 1)) := by
  unfold held
  rw [show (n - 1) / 8 = n / 8 by omega, show (n - 1) / 4 % 2 = n / 4 % 2 by omega, show 2 * ((n - 1) % 4) + 2 = 2 * (n % 4) by omega,
    sum_range_succ, sum_range_succ, add_assoc]

theorem acc (n : ℕ) : ∀ hn : n < cfg0.N, (outsAt0 m c n hn).2 = lay2 (a := 1024) (b := 1024) .f32 (held B W n) := by
  induction n using Nat.strong_induction_on with
  | _ n ih =>
    intro hn
    by_cases h0 : n % 4 = 0
    · rw [outsAt0_A m c ⟨n, hn⟩ h0 (by dsimp only; omega)]
      frame_out
      rw [pay1_lay, step m c B W X A]
      exact lay2_congr fun i _ j _ => (held_first B W n h0 i j).symm
    · have e := ih (n - 1) (by omega) (lt_of_le_of_lt (Nat.sub_le _ _) hn)
      by_cases h1 : n % 4 = 3
      · rw [outsAt0_C m c ⟨n, hn⟩ h0 h1]
        frame_out
        rw [e, carried, step m c B W X A]
        exact lay2_congr fun i _ j _ => (held_next B W n h0 i j).symm
      · rw [outsAt0_B m c ⟨n, hn⟩ h0 h1]
        frame_out
        rw [e, carried, step m c B W X A]
        exact lay2_congr fun i _ j _ => (held_next B W n h0 i j).symm

/-- What the fourth point writes. -/
theorem out_last (n : ℕ) (hn : n < cfg0.N) (h1 : n % 4 = 3) : (outsAt0 m c n hn).1 = lay2 (a := 1024) (b := 1024) .f32
    (fun i j => held B W n i j + X (1024 * (n / 8) + i) (1024 * (n / 4 % 2) + j)) := by
  have h0 : ¬n % 4 = 0 := by omega
  have e := acc m c B W X A (n - 1) (lt_of_le_of_lt (Nat.sub_le _ _) hn)
  rw [outsAt0_C m c ⟨n, hn⟩ h0 h1]
  frame_out
  rw [e, carried, step m c B W X A, block_2 m c B W X A, pay3_lay]
  exact lay2_congr fun i _ j _ => congrArg (· + X (1024 * (n / 8) + i) (1024 * (n / 4 % 2) + j)) (held_next B W n h0 i j).symm

/-- The kernel's result. -/
theorem result : Value.G3 (F := Ideal) m c = (lay2 (a := 4096) (b := 2048) .f32
    (fun i j => X i j + ∑ k ∈ range 5632, B i k * W k j) : FVec Ideal S4096x2048 .f32) := by
  funext i
  have h0 : (i 0).val < 4096 := (i 0).isLt
  have h1 : (i 1).val < 2048 := (i 1).isLt
  have hN : cfg0.N = 32 := N_0
  obtain ⟨n, hn⟩ : ∃ n, Value.pt3Of i = n := ⟨_, rfl⟩
  have en : n = 8 * ((i 0).val / 1024) + 4 * ((i 1).val / 1024) + 3 := by
    rw [← hn]; dsimp only [Value.pt3Of, Value.run3Of]; omega
  have hp : Value.pt3Of i < cfg0.N := by rw [hN, hn, en]; omega
  unfold Value.G3
  rw [dif_pos hp, ← Value.outsAt0_sweep m c _ hp, out_last m c B W X A _ hp (by rw [hn]; omega), hn]
  show (∑ p ∈ range (2 * (n % 4) + 2), part B W (1024 * (n / 8) + (i 0).val % 1024) (1024 * (n / 4 % 2) + (i 1).val % 1024) p)
    + X (1024 * (n / 8) + (i 0).val % 1024) (1024 * (n / 4 % 2) + (i 1).val % 1024) = _
  rw [show 1024 * (n / 8) + (i 0).val % 1024 = (i 0).val by omega, show 1024 * (n / 4 % 2) + (i 1).val % 1024 = (i 1).val by omega, show 2 * (n % 4) + 2 = 8 by omega, part_all]
  exact add_comm _ _

end

/-! ### The reference -/

section
open Cert.OutReferenceIdeal Cert.OutReferenceIdeal.Gen

theorem reference (B W X : ℕ → ℕ → EReal) (b : FVec Ideal S4096x5632 .f32) (w : FVec Ideal S5632x2048 .f32) (x : FVec Ideal S4096x2048 .f32)
    (hb : b = lay2 .f32 B) (hw : w = lay2 .f32 W) (hx : x = lay2 .f32 X) :
    addf x (Host.dotGeneral dot_S4096x5632_S5632x2048_S4096x2048_1_0_0_1_n_n none b w)
      = lay2 (a := 4096) (b := 2048) .f32 (fun i j => X i j + ∑ k ∈ range 5632, B i k * W k j) := by
  subst hb hw hx
  funext j; idx_vars j; pointwise [lay2]
  rw [Finset.sum_range]

end

end Cert.Ffn.Out
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_act
public import proofs.«01_k».proof.Proof.Result
public import proofs.«01_k».proof.Proof.Finite
public import proofs.«01_k».proof.Proof.Ref
public import proofs.«01_k».proof.Proof.FfnAct
public import proofs.«01_k».proof.Proof.ProjInProj
public import proofs.«01_k».proof.Proof.ProjInDx
public import proofs.«01_k».proof.Proof.ProjInDw
public import proofs.«01_k».proof.Proof.ProjMix
public import proofs.«01_k».proof.Proof.ProjMixDx
public import proofs.«01_k».proof.Proof.ProjMixDw
public import proofs.«01_k».proof.Proof.OptAdamUp
public import proofs.«01_k».proof.Proof.OptAdamOut
public import proofs.«01_k».proof.Proof.OptAdamUq
public import proofs.«01_k».proof.Proof.OptAdamUkv
public import proofs.«01_k».proof.Proof.OptAdamSmall
public import proofs.«01_k».proof.Proof.NormBwd
public import proofs.«01_k».proof.Proof.NormFwd
public import proofs.«01_k».proof.Proof.NormLoss
public import proofs.«01_k».proof.Proof.FfnFinite
public import proofs.«01_k».proof.Proof.FfnHidden
public import proofs.«01_k».proof.Proof.FfnGate
public import proofs.«01_k».proof.Proof.FfnDown
public import proofs.«01_k».proof.Proof.FfnUp
public import proofs.«01_k».proof.Proof.FfnOut
public import Idealize.ShloMosaic.Adequacy
public import Idealize.ShloMosaic.Init

@[expose] public section

noncomputable section

namespace Cert.Proof

open Idealize.ShloMosaic Idealize.SL.Sem Cert.Kernel

/-- The reference runs, keeps its arguments and ends quiet. -/
theorem frame_reference : @Cert.quiescent_ReferenceIdeal Cert.ReferenceIdeal.Gen.facts := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Over the extended reals the kernel's three gradients are those of the reference. -/
theorem value : @Cert.algebraic_KernelIdeal_ReferenceIdeal_pre_finite Cert.KernelIdeal.Gen.facts Cert.ReferenceIdeal.Gen.facts Cert.Pre_finite.Gen.facts := by
  intro m ρ m' ρ' hpre hagree
  have args : ∀ c : Dev Cert.KernelIdeal.nD, Cert.Stick.Args m c (Cert.Stick.reals (m (c, Proc.tc.devRef Cert.KernelIdeal.main_arg0)))
      (Cert.Stick.reals (m (c, Proc.tc.devRef Cert.KernelIdeal.main_arg1))) (Cert.Stick.reals (m (c, Proc.tc.devRef Cert.KernelIdeal.main_arg2)))
      (Cert.Stick.reals (m (c, Proc.tc.devRef Cert.KernelIdeal.main_arg3))) := fun c => by
    obtain ⟨h0, h1, h2, h3⟩ := Cert.Stick.finite_args _ _ _ _ (hpre c)
    exact ⟨h0, h1, h2, h3⟩
  refine ⟨fun c => Cert.KernelIdeal.Value.G7 m c, fun c => Cert.KernelIdeal.Value.G8 m c, fun c => Cert.KernelIdeal.Value.G9 m c,
    Cert.KernelIdeal.Value.run m ρ, ?_⟩
  refine (θ_run Cert.ReferenceIdeal.defs _ _).mono (fun r h c => ?_) (Cert.ReferenceIdeal.Value.run (F := Ideal) m' ρ')
  obtain ⟨r0, r1, r2, keep⟩ := h c
  obtain ⟨a0, a1, a2, a3⟩ := hagree c
  have x0 := a0.trans (args c).h0
  have x1 := a1.trans (args c).h1
  have x2 := a2.trans (args c).h2
  have x3 := a3.trans (args c).h3
  exact ⟨(r0.trans (Cert.Stick.ended_dq m' c _ _ _ _ x0 x1 x2 x3)).trans (Cert.Stick.result_dq m c _ _ _ _ (args c)).symm,
    (r1.trans (Cert.Stick.ended_dk m' c _ _ _ _ x0 x1 x2 x3)).trans (Cert.Stick.result_dk m c _ _ _ _ (args c)).symm,
    (r2.trans (Cert.Stick.ended_dv m' c _ _ _ x0 x1 x3)).trans (Cert.Stick.result_dv m c _ _ _ _ (args c)).symm, keep⟩

/-- The reference of the gradients of the gate and of the up projection runs, keeps its arguments and ends quiet. -/
theorem frame_reference_act : @Cert.quiescent_ActReferenceIdeal Cert.ActReferenceIdeal.Gen.facts := fun m ρ _ =>
  (θ_run Cert.ActReferenceIdeal.defs _ _).mono (fun r h => ⟨fun c => (h c).2.2, sem_eq_zero_of_no_sems (by decide) r.2⟩)
    (Cert.ActReferenceIdeal.Value.run (F := Ideal) m ρ)

/-- The reference of the gradient of the hidden state runs, keeps its arguments and ends quiet. -/
theorem frame_reference_hidden : @Cert.quiescent_HiddenReferenceIdeal Cert.HiddenReferenceIdeal.Gen.facts := fun m ρ _ =>
  (θ_run Cert.HiddenReferenceIdeal.defs _ _).mono (fun r h => ⟨fun c => (h c).2, sem_eq_zero_of_no_sems (by decide) r.2⟩)
    (Cert.HiddenReferenceIdeal.Value.run (F := Ideal) m ρ)

/-- The reference of the gradient of the gate's weights runs, keeps its arguments and ends quiet. -/
theorem frame_reference_gate : @Cert.quiescent_GateReferenceIdeal Cert.GateReferenceIdeal.Gen.facts := fun m ρ _ =>
  (θ_run Cert.GateReferenceIdeal.defs _ _).mono (fun r h => ⟨fun c => (h c).2, sem_eq_zero_of_no_sems (by decide) r.2⟩)
    (Cert.GateReferenceIdeal.Value.run (F := Ideal) m ρ)

/-- The reference of the gradient of the down projection's weights runs, keeps its arguments and ends quiet. -/
theorem frame_reference_down : @Cert.quiescent_DownReferenceIdeal Cert.DownReferenceIdeal.Gen.facts := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The reference of the gate, the up projection and the hidden activations runs, keeps its arguments and ends quiet. -/
theorem frame_reference_up : @Cert.quiescent_UpReferenceIdeal Cert.UpReferenceIdeal.Gen.facts := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)

/-- The reference of the feed-forward network's output runs, keeps its arguments and ends quiet. -/
theorem frame_reference_out : @Cert.quiescent_OutReferenceIdeal Cert.OutReferenceIdeal.Gen.facts := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The reference of the input projection runs, keeps its arguments and ends quiet. -/
theorem frame_reference_inproj : @Cert.quiescent_InProjReferenceIdeal Cert.InProjReferenceIdeal.Gen.facts := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-- The reference of the gradient of the input projection's argument runs, keeps its arguments and ends quiet. -/
theorem frame_reference_indx : @Cert.quiescent_InDxReferenceIdeal Cert.InDxReferenceIdeal.Gen.facts := fun m ρ _ =>
  (θ_run Cert.InDxReferenceIdeal.defs _ _).mono (fun r h => ⟨fun c => (h c).2, sem_eq_zero_of_no_sems (by decide) r.2⟩)
    (Cert.InDxReferenceIdeal.Value.run (F := Ideal) m ρ)

/-- The reference of the gradient of the input projection's weights runs, keeps its arguments and ends quiet. -/
theorem frame_reference_indw : @Cert.quiescent_InDwReferenceIdeal Cert.InDwReferenceIdeal.Gen.facts := fun m ρ _ =>
  (θ_run Cert.InDwReferenceIdeal.defs _ _).mono (fun r h => ⟨fun c => (h c).2, sem_eq_zero_of_no_sems (by decide) r.2⟩)
    (Cert.InDwReferenceIdeal.Value.run (F := Ideal) m ρ)

/-- The reference of the output projection runs, keeps its arguments and ends quiet. -/
theorem frame_reference_mix : @Cert.quiescent_MixReferenceIdeal Cert.MixReferenceIdeal.Gen.facts := fun m ρ _ =>
  (θ_run Cert.MixReferenceIdeal.defs _ _).mono (fun r h => ⟨fun c => (h c).2, sem_eq_zero_of_no_sems (by decide) r.2⟩)
    (Cert.MixReferenceIdeal.Value.run (F := Ideal) m ρ)

/-- The reference of the gradient of the output projection's argument runs, keeps its arguments and ends quiet. -/
theorem frame_reference_mixdx : @Cert.quiescent_MixDxReferenceIdeal Cert.MixDxReferenceIdeal.Gen.facts := fun m ρ _ =>
  (θ_run Cert.MixDxReferenceIdeal.defs _ _).mono (fun r h => ⟨fun c => (h c).2, sem_eq_zero_of_no_sems (by decide) r.2⟩)
    (Cert.MixDxReferenceIdeal.Value.run (F := Ideal) m ρ)

/-- The reference of the gradient of the output projection's weights runs, keeps its arguments and ends quiet. -/
theorem frame_reference_mixdw : @Cert.quiescent_MixDwReferenceIdeal Cert.MixDwReferenceIdeal.Gen.facts := fun m ρ _ =>
  (θ_run Cert.MixDwReferenceIdeal.defs _ _).mono (fun r h => ⟨fun c => (h c).2, sem_eq_zero_of_no_sems (by decide) r.2⟩)
    (Cert.MixDwReferenceIdeal.Value.run (F := Ideal) m ρ)

/-- The reference of AdamW's step on the weights of the up projection runs, keeps its arguments and ends quiet. -/
theorem frame_reference_adamup : @Cert.quiescent_AdamUpReferenceIdeal Cert.AdamUpReferenceIdeal.Gen.facts := fun m ρ _ =>
  (θ_run Cert.AdamUpReferenceIdeal.defs _ _).mono (fun r h => ⟨fun c => (h c).2.2.2.2, sem_eq_zero_of_no_sems (by decide) r.2⟩)
    (Cert.AdamUpReferenceIdeal.Value.run (F := Ideal) m ρ)

/-- The reference of AdamW's step on the weights of the output projection runs, keeps its arguments and ends quiet. -/
theorem frame_reference_adamout : @Cert.quiescent_AdamOutReferenceIdeal Cert.AdamOutReferenceIdeal.Gen.facts := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

/-- The reference of AdamW's step on the weights of the queries' second projection runs, keeps its arguments and ends quiet. -/
theorem frame_reference_adamuq : @Cert.quiescent_AdamUqReferenceIdeal Cert.AdamUqReferenceIdeal.Gen.facts := fun m ρ _ =>
  (θ_run Cert.AdamUqReferenceIdeal.defs _ _).mono (fun r h => ⟨fun c => (h c).2.2.2.2, sem_eq_zero_of_no_sems (by decide) r.2⟩)
    (Cert.AdamUqReferenceIdeal.Value.run (F := Ideal) m ρ)

/-- The reference of AdamW's step on the weights of the keys' and values' second projection runs, keeps its arguments and ends quiet. -/
theorem frame_reference_adamukv : @Cert.quiescent_AdamUkvReferenceIdeal Cert.AdamUkvReferenceIdeal.Gen.facts := fun m ρ _ =>
  (θ_run Cert.AdamUkvReferenceIdeal.defs _ _).mono (fun r h => ⟨fun c => (h c).2.2.2.2, sem_eq_zero_of_no_sems (by decide) r.2⟩)
    (Cert.AdamUkvReferenceIdeal.Value.run (F := Ideal) m ρ)

theorem frame_reference_adamsmall : @Cert.quiescent_AdamSmallReferenceIdeal Cert.AdamSmallReferenceIdeal.Gen.facts := fun m ρ _ =>
  (θ_run Cert.AdamSmallReferenceIdeal.defs _ _).mono (fun r h => ⟨fun c => (h c).2.2.2.2.2.2.2.2.2.2.2.2.2.2.2.2.2.2.2.2.2.2.2.2.2.2.2.2.2, sem_eq_zero_of_no_sems (by decide) r.2⟩)
    (Cert.AdamSmallReferenceIdeal.Value.run (F := Ideal) m ρ)

theorem frame_reference_norm : @Cert.quiescent_NormReferenceIdeal Cert.NormReferenceIdeal.Gen.facts := fun m ρ _ =>
  (θ_run Cert.NormReferenceIdeal.defs _ _).mono (fun r h => ⟨fun c => (h c).2.2.2, sem_eq_zero_of_no_sems (by decide) r.2⟩)
    (Cert.NormReferenceIdeal.Value.run (F := Ideal) m ρ)

/-- The reference of the normed rows leaves its arguments and no semaphore counts. -/
theorem frame_reference_normed : @Cert.quiescent_NormedReferenceIdeal Cert.NormedReferenceIdeal.Gen.facts := fun m ρ _ =>
  (θ_run Cert.NormedReferenceIdeal.defs _ _).mono (fun r h => ⟨fun c => (h c).2, sem_eq_zero_of_no_sems (by decide) r.2⟩)
    (Cert.NormedReferenceIdeal.Value.run (F := Ideal) m ρ)

/-- The loss's reference leaves its arguments and no semaphore counts. -/
theorem frame_reference_loss : @Cert.quiescent_LossReferenceIdeal Cert.LossReferenceIdeal.Gen.facts := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

/-- Over the extended reals the kernel computes the gradients of the gate and of the up projection as the reference does. -/
theorem value_act : @Cert.algebraic_ActIdeal_ActReferenceIdeal_pre_finite_act Cert.ActIdeal.Gen.facts Cert.ActReferenceIdeal.Gen.facts Cert.Pre_finite_act.Gen.facts := by
  intro m ρ m' ρ' hpre hagree
  refine ⟨fun c => (Cert.ActIdeal.Gen.dats m 0 c).arrAt 4 Cert.ActIdeal.cfg0.N, fun c => (Cert.ActIdeal.Gen.dats m 0 c).arrAt 5 Cert.ActIdeal.cfg0.N,
    Cert.ActIdeal.Value.run_blocks m ρ, ?_⟩
  refine (θ_run Cert.ActReferenceIdeal.defs _ _).mono (fun r h c => ?_) (Cert.ActReferenceIdeal.Value.run (F := Ideal) m' ρ')
  obtain ⟨r0, r1, keep⟩ := h c
  obtain ⟨a0, a1, a2, a3⟩ := hagree c
  obtain ⟨⟨y, h0⟩, ⟨w, h1⟩, ⟨g, h2⟩, ⟨u, h3⟩⟩ := Cert.Ffn.finite_args _ _ _ _ (hpre c)
  have A : Cert.Ffn.Act.Args m c _ _ _ _ := ⟨h0, h1, h2, h3⟩
  have e := Cert.Ffn.Act.result_dg m c _ _ _ _ A
  rw [Cert.Ffn.lay3_congr fun p _ i _ j _ => Cert.Ffn.Act.agree y w g u i (704 * p + j)] at e
  exact ⟨(r0.trans (Cert.Ffn.Act.reference_dg _ _ _ _ _ _ _ _ (a0.trans h0) (a1.trans h1) (a2.trans h2) (a3.trans h3))).trans e.symm,
    (r1.trans (Cert.Ffn.Act.reference_du _ _ _ _ _ _ (a0.trans h0) (a1.trans h1) (a2.trans h2))).trans (Cert.Ffn.Act.result_du m c _ _ _ _ A).symm, keep⟩

/-- Over the extended reals the kernel computes the gradient of the hidden state as the reference does. -/
theorem value_hidden : @Cert.algebraic_HiddenIdeal_HiddenReferenceIdeal Cert.HiddenIdeal.Gen.facts Cert.HiddenReferenceIdeal.Gen.facts := by
  intro m ρ m' ρ' _ hagree
  refine ⟨fun c => Cert.HiddenIdeal.Value.G4 m c, Cert.HiddenIdeal.Value.run m ρ, ?_⟩
  refine (θ_run Cert.HiddenReferenceIdeal.defs _ _).mono (fun r h c => ?_) (Cert.HiddenReferenceIdeal.Value.run (F := Ideal) m' ρ')
  obtain ⟨r0, keep⟩ := h c
  obtain ⟨a0, a1, a2, a3⟩ := hagree c
  obtain ⟨x0, h0⟩ := Cert.Ffn.exists_lay2 (m (c, Proc.tc.devRef Cert.HiddenIdeal.main_arg0))
  obtain ⟨x1, h1⟩ := Cert.Ffn.exists_lay2 (m (c, Proc.tc.devRef Cert.HiddenIdeal.main_arg1))
  obtain ⟨x2, h2⟩ := Cert.Ffn.exists_lay2 (m (c, Proc.tc.devRef Cert.HiddenIdeal.main_arg2))
  obtain ⟨x3, h3⟩ := Cert.Ffn.exists_lay2 (m (c, Proc.tc.devRef Cert.HiddenIdeal.main_arg3))
  have A : Cert.Ffn.Hidden.Args m c _ _ _ _ := ⟨h0, h1, h2, h3⟩
  exact ⟨(r0.trans (Cert.Ffn.Hidden.reference _ _ _ _ _ _ _ _ (a0.trans h0) (a1.trans h1) (a2.trans h2) (a3.trans h3))).trans (Cert.Ffn.Hidden.result m c _ _ _ _ A).symm, keep⟩

/-- Over the extended reals the kernel computes the gradient of the gate's weights as the reference does. -/
theorem value_gate : @Cert.algebraic_GateIdeal_GateReferenceIdeal Cert.GateIdeal.Gen.facts Cert.GateReferenceIdeal.Gen.facts := by
  intro m ρ m' ρ' _ hagree
  refine ⟨fun c => Cert.GateIdeal.Value.G2 m c, Cert.GateIdeal.Value.run m ρ, ?_⟩
  refine (θ_run Cert.GateReferenceIdeal.defs _ _).mono (fun r h c => ?_) (Cert.GateReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.GateIdeal.main_arg0))
  obtain ⟨x1, h1⟩ := Cert.Ffn.exists_lay2 (m (c, Proc.tc.devRef Cert.GateIdeal.main_arg1))
  have A : Cert.Ffn.Gate.Args m c _ _ := ⟨h0, h1⟩
  exact ⟨(r0.trans (Cert.Ffn.Gate.reference _ _ _ _ (a0.trans h0) (a1.trans h1))).trans (Cert.Ffn.Gate.result m c _ _ A).symm, keep⟩

/-- Over the extended reals the kernel computes the gradient of the down projection's weights as the reference does. -/
theorem value_down : @Cert.algebraic_DownIdeal_DownReferenceIdeal Cert.DownIdeal.Gen.facts Cert.DownReferenceIdeal.Gen.facts := by
  intro m ρ m' ρ' _ hagree
  refine ⟨fun c => Cert.DownIdeal.Value.G2 m c, Cert.DownIdeal.Value.run m ρ, ?_⟩
  refine (θ_run Cert.DownReferenceIdeal.defs _ _).mono (fun r h c => ?_) (Cert.DownReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.DownIdeal.main_arg0))
  obtain ⟨x1, h1⟩ := Cert.Ffn.exists_lay2 (m (c, Proc.tc.devRef Cert.DownIdeal.main_arg1))
  have A : Cert.Ffn.Down.Args m c _ _ := ⟨h0, h1⟩
  exact ⟨(r0.trans (Cert.Ffn.Down.reference _ _ _ _ (a0.trans h0) (a1.trans h1))).trans (Cert.Ffn.Down.result m c _ _ A).symm, keep⟩

/-- Over the extended reals the kernel computes the gate, the up projection and the hidden activations as the reference does. -/
theorem value_up : @Cert.algebraic_UpIdeal_UpReferenceIdeal Cert.UpIdeal.Gen.facts Cert.UpReferenceIdeal.Gen.facts := by
  intro m ρ m' ρ' _ hagree
  refine ⟨fun c => (Cert.UpIdeal.Gen.dats m 0 c).arrAt 3 Cert.UpIdeal.cfg0.N, fun c => (Cert.UpIdeal.Gen.dats m 0 c).arrAt 4 Cert.UpIdeal.cfg0.N, fun c => (Cert.UpIdeal.Gen.dats m 0 c).arrAt 5 Cert.UpIdeal.cfg0.N,
    Cert.UpIdeal.Value.run_blocks m ρ, ?_⟩
  refine (θ_run Cert.UpReferenceIdeal.defs _ _).mono (fun r h c => ?_) (Cert.UpReferenceIdeal.Value.run (F := Ideal) m' ρ')
  obtain ⟨r0, r1, r2, keep⟩ := h c
  obtain ⟨a0, a1, a2⟩ := hagree c
  obtain ⟨x0, h0⟩ := Cert.Ffn.exists_lay2 (m (c, Proc.tc.devRef Cert.UpIdeal.main_arg0))
  obtain ⟨x1, h1⟩ := Cert.Ffn.exists_lay2 (m (c, Proc.tc.devRef Cert.UpIdeal.main_arg1))
  obtain ⟨x2, h2⟩ := Cert.Ffn.exists_lay2 (m (c, Proc.tc.devRef Cert.UpIdeal.main_arg2))
  have A : Cert.Ffn.Up.Args m c _ _ _ := ⟨h0, h1, h2⟩
  exact ⟨(r0.trans (Cert.Ffn.Up.reference_g _ _ _ _ (a0.trans h0) (a1.trans h1))).trans (Cert.Ffn.Up.result_g m c _ _ _ A).symm,
    (r1.trans (Cert.Ffn.Up.reference_u _ _ _ _ (a0.trans h0) (a2.trans h2))).trans (Cert.Ffn.Up.result_u m c _ _ _ A).symm,
    (r2.trans (Cert.Ffn.Up.reference_act _ _ _ _ _ _ (a0.trans h0) (a1.trans h1) (a2.trans h2))).trans (Cert.Ffn.Up.result_act m c _ _ _ A).symm, keep⟩

/-- Over the extended reals the kernel computes the feed-forward network's output as the reference does. -/
theorem value_out : @Cert.algebraic_OutIdeal_OutReferenceIdeal Cert.OutIdeal.Gen.facts Cert.OutReferenceIdeal.Gen.facts := by
  intro m ρ m' ρ' _ hagree
  refine ⟨fun c => Cert.OutIdeal.Value.G3 m c, Cert.OutIdeal.Value.run m ρ, ?_⟩
  refine (θ_run Cert.OutReferenceIdeal.defs _ _).mono (fun r h c => ?_) (Cert.OutReferenceIdeal.Value.run (F := Ideal) m' ρ')
  obtain ⟨r0, keep⟩ := h c
  obtain ⟨a0, a1, a2⟩ := hagree c
  obtain ⟨x0, h0⟩ := Cert.Ffn.exists_lay2 (m (c, Proc.tc.devRef Cert.OutIdeal.main_arg0))
  obtain ⟨x1, h1⟩ := Cert.Ffn.exists_lay2 (m (c, Proc.tc.devRef Cert.OutIdeal.main_arg1))
  obtain ⟨x2, h2⟩ := Cert.Ffn.exists_lay2 (m (c, Proc.tc.devRef Cert.OutIdeal.main_arg2))
  have A : Cert.Ffn.Out.Args m c _ _ _ := ⟨h0, h1, h2⟩
  exact ⟨(r0.trans (Cert.Ffn.Out.reference _ _ _ _ _ _ (a0.trans h0) (a1.trans h1) (a2.trans h2))).trans (Cert.Ffn.Out.result m c _ _ _ A).symm, keep⟩

/-- Over the extended reals the kernel computes the input projection as the reference does. -/
theorem value_inproj : @Cert.algebraic_InProjIdeal_InProjReferenceIdeal Cert.InProjIdeal.Gen.facts Cert.InProjReferenceIdeal.Gen.facts := by
  intro m ρ m' ρ' _ hagree
  refine ⟨fun c => (Cert.InProjIdeal.Gen.dats m 0 c).arrAt 2 Cert.InProjIdeal.cfg0.N, fun c => (Cert.InProjIdeal.Gen.dats m 0 c).arrAt 3 Cert.InProjIdeal.cfg0.N,
    Cert.InProjIdeal.Value.run_blocks m ρ, ?_⟩
  refine (θ_run Cert.InProjReferenceIdeal.defs _ _).mono (fun r h c => ?_) (Cert.InProjReferenceIdeal.Value.run (F := Ideal) m' ρ')
  obtain ⟨r0, r1, keep⟩ := h c
  obtain ⟨a0, a1⟩ := hagree c
  obtain ⟨x0, h0⟩ := Cert.Ffn.exists_lay2 (m (c, Proc.tc.devRef Cert.InProjIdeal.main_arg0))
  obtain ⟨x1, h1⟩ := Cert.Ffn.exists_lay2 (m (c, Proc.tc.devRef Cert.InProjIdeal.main_arg1))
  have A : Cert.Proj.InProj.Args m c _ _ := ⟨h0, h1⟩
  exact ⟨(r0.trans (Cert.Proj.InProj.reference_f32 _ _ _ _ (a0.trans h0) (a1.trans h1))).trans (Cert.Proj.InProj.result_f32 m c _ _ A).symm,
    (r1.trans (Cert.Proj.InProj.reference_bf16 _ _ _ _ (a0.trans h0) (a1.trans h1))).trans (Cert.Proj.InProj.result_bf16 m c _ _ A).symm, keep⟩

/-- Over the extended reals the kernel computes the gradient of the input projection's argument as the reference does. -/
theorem value_indx : @Cert.algebraic_InDxIdeal_InDxReferenceIdeal Cert.InDxIdeal.Gen.facts Cert.InDxReferenceIdeal.Gen.facts := by
  intro m ρ m' ρ' _ hagree
  refine ⟨fun c => Cert.InDxIdeal.Value.G2 m c, Cert.InDxIdeal.Value.run m ρ, ?_⟩
  refine (θ_run Cert.InDxReferenceIdeal.defs _ _).mono (fun r h c => ?_) (Cert.InDxReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.InDxIdeal.main_arg0))
  obtain ⟨x1, h1⟩ := Cert.Ffn.exists_lay2 (m (c, Proc.tc.devRef Cert.InDxIdeal.main_arg1))
  have A : Cert.Proj.InDx.Args m c _ _ := ⟨h0, h1⟩
  exact ⟨(r0.trans (Cert.Proj.InDx.reference _ _ _ _ (a0.trans h0) (a1.trans h1))).trans (Cert.Proj.InDx.result m c _ _ A).symm, keep⟩

/-- Over the extended reals the kernel computes the gradient of the input projection's weights as the reference does. -/
theorem value_indw : @Cert.algebraic_InDwIdeal_InDwReferenceIdeal Cert.InDwIdeal.Gen.facts Cert.InDwReferenceIdeal.Gen.facts := by
  intro m ρ m' ρ' _ hagree
  refine ⟨fun c => Cert.InDwIdeal.Value.G2 m c, Cert.InDwIdeal.Value.run m ρ, ?_⟩
  refine (θ_run Cert.InDwReferenceIdeal.defs _ _).mono (fun r h c => ?_) (Cert.InDwReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.InDwIdeal.main_arg0))
  obtain ⟨x1, h1⟩ := Cert.Ffn.exists_lay2 (m (c, Proc.tc.devRef Cert.InDwIdeal.main_arg1))
  have A : Cert.Proj.InDw.Args m c _ _ := ⟨h0, h1⟩
  exact ⟨(r0.trans (Cert.Proj.InDw.reference _ _ _ _ (a0.trans h0) (a1.trans h1))).trans (Cert.Proj.InDw.result m c _ _ A).symm, keep⟩

/-- Over the extended reals the kernel computes the output projection as the reference does. -/
theorem value_mix : @Cert.algebraic_MixIdeal_MixReferenceIdeal Cert.MixIdeal.Gen.facts Cert.MixReferenceIdeal.Gen.facts := by
  intro m ρ m' ρ' _ hagree
  refine ⟨fun c => (Cert.MixIdeal.Gen.dats m 0 c).arrAt 3 Cert.MixIdeal.cfg0.N,
    Cert.MixIdeal.Value.run_blocks m ρ, ?_⟩
  refine (θ_run Cert.MixReferenceIdeal.defs _ _).mono (fun r h c => ?_) (Cert.MixReferenceIdeal.Value.run (F := Ideal) m' ρ')
  obtain ⟨r0, keep⟩ := h c
  obtain ⟨a0, a1, a2⟩ := hagree c
  obtain ⟨x0, h0⟩ := Cert.Ffn.exists_lay2 (m (c, Proc.tc.devRef Cert.MixIdeal.main_arg0))
  obtain ⟨x1, h1⟩ := Cert.Ffn.exists_lay2 (m (c, Proc.tc.devRef Cert.MixIdeal.main_arg1))
  obtain ⟨x2, h2⟩ := Cert.Ffn.exists_lay2 (m (c, Proc.tc.devRef Cert.MixIdeal.main_arg2))
  have A : Cert.Proj.Mix.Args m c _ _ _ := ⟨h0, h1, h2⟩
  exact ⟨(r0.trans (Cert.Proj.Mix.reference _ _ _ _ _ _ (a0.trans h0) (a1.trans h1) (a2.trans h2))).trans (Cert.Proj.Mix.result m c _ _ _ A).symm, keep⟩

/-- Over the extended reals the kernel computes the gradient of the output projection's argument as the reference does. -/
theorem value_mixdx : @Cert.algebraic_MixDxIdeal_MixDxReferenceIdeal Cert.MixDxIdeal.Gen.facts Cert.MixDxReferenceIdeal.Gen.facts := by
  intro m ρ m' ρ' _ hagree
  refine ⟨fun c => (Cert.MixDxIdeal.Gen.dats m 0 c).arrAt 2 Cert.MixDxIdeal.cfg0.N,
    Cert.MixDxIdeal.Value.run_blocks m ρ, ?_⟩
  refine (θ_run Cert.MixDxReferenceIdeal.defs _ _).mono (fun r h c => ?_) (Cert.MixDxReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.MixDxIdeal.main_arg0))
  obtain ⟨x1, h1⟩ := Cert.Ffn.exists_lay2 (m (c, Proc.tc.devRef Cert.MixDxIdeal.main_arg1))
  have A : Cert.Proj.MixDx.Args m c _ _ := ⟨h0, h1⟩
  exact ⟨(r0.trans (Cert.Proj.MixDx.reference _ _ _ _ (a0.trans h0) (a1.trans h1))).trans (Cert.Proj.MixDx.result m c _ _ A).symm, keep⟩

/-- Over the extended reals the kernel computes the gradient of the output projection's weights as the reference does. -/
theorem value_mixdw : @Cert.algebraic_MixDwIdeal_MixDwReferenceIdeal Cert.MixDwIdeal.Gen.facts Cert.MixDwReferenceIdeal.Gen.facts := by
  intro m ρ m' ρ' _ hagree
  refine ⟨fun c => Cert.MixDwIdeal.Value.G2 m c, Cert.MixDwIdeal.Value.run m ρ, ?_⟩
  refine (θ_run Cert.MixDwReferenceIdeal.defs _ _).mono (fun r h c => ?_) (Cert.MixDwReferenceIdeal.Value.run (F := Ideal) m' ρ')
  obtain ⟨r0, keep⟩ := h c
  obtain ⟨a0, a1⟩ := hagree c
  obtain ⟨x0, h0⟩ := Cert.Ffn.exists_lay2 (m (c, Proc.tc.devRef Cert.MixDwIdeal.main_arg0))
  obtain ⟨x1, h1⟩ := Cert.Ffn.exists_lay2 (m (c, Proc.tc.devRef Cert.MixDwIdeal.main_arg1))
  have A : Cert.Proj.MixDw.Args m c _ _ := ⟨h0, h1⟩
  exact ⟨(r0.trans (Cert.Proj.MixDw.reference _ _ _ _ (a0.trans h0) (a1.trans h1))).trans (Cert.Proj.MixDw.result m c _ _ A).symm, keep⟩

/-- Over the extended reals the kernel computes AdamW's step on the weights of the up projection as the reference does. -/
theorem value_adamup : @Cert.algebraic_AdamUpIdeal_AdamUpReferenceIdeal Cert.AdamUpIdeal.Gen.facts Cert.AdamUpReferenceIdeal.Gen.facts := by
  intro m ρ m' ρ' _ hagree
  refine ⟨fun c => (Cert.AdamUpIdeal.Gen.dats m 0 c).arrAt 7 Cert.AdamUpIdeal.cfg0.N, fun c => (Cert.AdamUpIdeal.Gen.dats m 0 c).arrAt 8 Cert.AdamUpIdeal.cfg0.N, fun c => (Cert.AdamUpIdeal.Gen.dats m 0 c).arrAt 9 Cert.AdamUpIdeal.cfg0.N, fun c => (Cert.AdamUpIdeal.Gen.dats m 0 c).arrAt 10 Cert.AdamUpIdeal.cfg0.N,
    Cert.AdamUpIdeal.Value.run_blocks m ρ, ?_⟩
  refine (θ_run Cert.AdamUpReferenceIdeal.defs _ _).mono (fun r h c => ?_) (Cert.AdamUpReferenceIdeal.Value.run (F := Ideal) m' ρ')
  obtain ⟨r0, r1, r2, r3, keep⟩ := h c
  obtain ⟨a0, a1, a2, a3, a4, a5, a6⟩ := hagree c
  obtain ⟨x0, h0⟩ := Cert.Ffn.exists_lay3 (m (c, Proc.tc.devRef Cert.AdamUpIdeal.main_arg0))
  obtain ⟨x1, h1⟩ := Cert.Ffn.exists_lay3 (m (c, Proc.tc.devRef Cert.AdamUpIdeal.main_arg1))
  obtain ⟨x2, h2⟩ := Cert.Ffn.exists_lay3 (m (c, Proc.tc.devRef Cert.AdamUpIdeal.main_arg2))
  obtain ⟨x3, h3⟩ := Cert.Ffn.exists_lay3 (m (c, Proc.tc.devRef Cert.AdamUpIdeal.main_arg3))
  obtain ⟨x4, h4⟩ := Cert.Ffn.exists_lay3 (m (c, Proc.tc.devRef Cert.AdamUpIdeal.main_arg4))
  obtain ⟨x5, h5⟩ := Cert.Ffn.exists_lay3 (m (c, Proc.tc.devRef Cert.AdamUpIdeal.main_arg5))
  obtain ⟨x6, h6⟩ := Cert.Ffn.exists_lay3 (m (c, Proc.tc.devRef Cert.AdamUpIdeal.main_arg6))
  have A : Cert.Adam.Up.Args m c _ _ _ _ _ _ _ := ⟨h0, h1, h2, h3, h4, h5, h6⟩
  obtain ⟨eg, ed, em, ev⟩ := Cert.Adam.Up.reference (a0.trans h0) (a1.trans h1) (a2.trans h2) (a3.trans h3) (a4.trans h4) (a5.trans h5) (a6.trans h6)
  exact ⟨(r0.trans eg).trans (Cert.Adam.Up.result_g m c _ _ _ _ _ _ _ A).symm, (r1.trans ed).trans (Cert.Adam.Up.result_d m c _ _ _ _ _ _ _ A).symm, (r2.trans em).trans (Cert.Adam.Up.result_m m c _ _ _ _ _ _ _ A).symm, (r3.trans ev).trans (Cert.Adam.Up.result_v m c _ _ _ _ _ _ _ A).symm, keep⟩

/-- Over the extended reals the kernel computes AdamW's step on the weights of the output projection as the reference does. -/
theorem value_adamout : @Cert.algebraic_AdamOutIdeal_AdamOutReferenceIdeal Cert.AdamOutIdeal.Gen.facts Cert.AdamOutReferenceIdeal.Gen.facts := by
  intro m ρ m' ρ' _ hagree
  refine ⟨fun c => (Cert.AdamOutIdeal.Gen.dats m 0 c).arrAt 7 Cert.AdamOutIdeal.cfg0.N, fun c => (Cert.AdamOutIdeal.Gen.dats m 0 c).arrAt 8 Cert.AdamOutIdeal.cfg0.N, fun c => (Cert.AdamOutIdeal.Gen.dats m 0 c).arrAt 9 Cert.AdamOutIdeal.cfg0.N, fun c => (Cert.AdamOutIdeal.Gen.dats m 0 c).arrAt 10 Cert.AdamOutIdeal.cfg0.N,
    Cert.AdamOutIdeal.Value.run_blocks m ρ, ?_⟩
  refine (θ_run Cert.AdamOutReferenceIdeal.defs _ _).mono (fun r h c => ?_) (Cert.AdamOutReferenceIdeal.Value.run (F := Ideal) m' ρ')
  obtain ⟨r0, r1, r2, r3, keep⟩ := h c
  obtain ⟨a0, a1, a2, a3, a4, a5, a6⟩ := hagree c
  obtain ⟨x0, h0⟩ := Cert.Ffn.exists_lay3 (m (c, Proc.tc.devRef Cert.AdamOutIdeal.main_arg0))
  obtain ⟨x1, h1⟩ := Cert.Ffn.exists_lay3 (m (c, Proc.tc.devRef Cert.AdamOutIdeal.main_arg1))
  obtain ⟨x2, h2⟩ := Cert.Ffn.exists_lay3 (m (c, Proc.tc.devRef Cert.AdamOutIdeal.main_arg2))
  obtain ⟨x3, h3⟩ := Cert.Ffn.exists_lay3 (m (c, Proc.tc.devRef Cert.AdamOutIdeal.main_arg3))
  obtain ⟨x4, h4⟩ := Cert.Ffn.exists_lay3 (m (c, Proc.tc.devRef Cert.AdamOutIdeal.main_arg4))
  obtain ⟨x5, h5⟩ := Cert.Ffn.exists_lay3 (m (c, Proc.tc.devRef Cert.AdamOutIdeal.main_arg5))
  obtain ⟨x6, h6⟩ := Cert.Ffn.exists_lay3 (m (c, Proc.tc.devRef Cert.AdamOutIdeal.main_arg6))
  have A : Cert.Adam.Out.Args m c _ _ _ _ _ _ _ := ⟨h0, h1, h2, h3, h4, h5, h6⟩
  obtain ⟨eg, ed, em, ev⟩ := Cert.Adam.Out.reference (a0.trans h0) (a1.trans h1) (a2.trans h2) (a3.trans h3) (a4.trans h4) (a5.trans h5) (a6.trans h6)
  exact ⟨(r0.trans eg).trans (Cert.Adam.Out.result_g m c _ _ _ _ _ _ _ A).symm, (r1.trans ed).trans (Cert.Adam.Out.result_d m c _ _ _ _ _ _ _ A).symm, (r2.trans em).trans (Cert.Adam.Out.result_m m c _ _ _ _ _ _ _ A).symm, (r3.trans ev).trans (Cert.Adam.Out.result_v m c _ _ _ _ _ _ _ A).symm, keep⟩

/-- Over the extended reals the kernel computes AdamW's step on the weights of the queries' second projection as the reference does. -/
theorem value_adamuq : @Cert.algebraic_AdamUqIdeal_AdamUqReferenceIdeal Cert.AdamUqIdeal.Gen.facts Cert.AdamUqReferenceIdeal.Gen.facts := by
  intro m ρ m' ρ' _ hagree
  refine ⟨fun c => (Cert.AdamUqIdeal.Gen.dats m 0 c).arrAt 7 Cert.AdamUqIdeal.cfg0.N, fun c => (Cert.AdamUqIdeal.Gen.dats m 0 c).arrAt 8 Cert.AdamUqIdeal.cfg0.N, fun c => (Cert.AdamUqIdeal.Gen.dats m 0 c).arrAt 9 Cert.AdamUqIdeal.cfg0.N, fun c => (Cert.AdamUqIdeal.Gen.dats m 0 c).arrAt 10 Cert.AdamUqIdeal.cfg0.N,
    Cert.AdamUqIdeal.Value.run_blocks m ρ, ?_⟩
  refine (θ_run Cert.AdamUqReferenceIdeal.defs _ _).mono (fun r h c => ?_) (Cert.AdamUqReferenceIdeal.Value.run (F := Ideal) m' ρ')
  obtain ⟨r0, r1, r2, r3, keep⟩ := h c
  obtain ⟨a0, a1, a2, a3, a4, a5, a6⟩ := hagree c
  obtain ⟨x0, h0⟩ := Cert.Ffn.exists_lay3 (m (c, Proc.tc.devRef Cert.AdamUqIdeal.main_arg0))
  obtain ⟨x1, h1⟩ := Cert.Ffn.exists_lay3 (m (c, Proc.tc.devRef Cert.AdamUqIdeal.main_arg1))
  obtain ⟨x2, h2⟩ := Cert.Ffn.exists_lay3 (m (c, Proc.tc.devRef Cert.AdamUqIdeal.main_arg2))
  obtain ⟨x3, h3⟩ := Cert.Ffn.exists_lay3 (m (c, Proc.tc.devRef Cert.AdamUqIdeal.main_arg3))
  obtain ⟨x4, h4⟩ := Cert.Ffn.exists_lay3 (m (c, Proc.tc.devRef Cert.AdamUqIdeal.main_arg4))
  obtain ⟨x5, h5⟩ := Cert.Ffn.exists_lay3 (m (c, Proc.tc.devRef Cert.AdamUqIdeal.main_arg5))
  obtain ⟨x6, h6⟩ := Cert.Ffn.exists_lay3 (m (c, Proc.tc.devRef Cert.AdamUqIdeal.main_arg6))
  have A : Cert.Adam.Uq.Args m c _ _ _ _ _ _ _ := ⟨h0, h1, h2, h3, h4, h5, h6⟩
  obtain ⟨eg, ed, em, ev⟩ := Cert.Adam.Uq.reference (a0.trans h0) (a1.trans h1) (a2.trans h2) (a3.trans h3) (a4.trans h4) (a5.trans h5) (a6.trans h6)
  exact ⟨(r0.trans eg).trans (Cert.Adam.Uq.result_g m c _ _ _ _ _ _ _ A).symm, (r1.trans ed).trans (Cert.Adam.Uq.result_d m c _ _ _ _ _ _ _ A).symm, (r2.trans em).trans (Cert.Adam.Uq.result_m m c _ _ _ _ _ _ _ A).symm, (r3.trans ev).trans (Cert.Adam.Uq.result_v m c _ _ _ _ _ _ _ A).symm, keep⟩

/-- Over the extended reals the kernel computes AdamW's step on the weights of the keys' and values' second projection as the reference does. -/
theorem value_adamukv : @Cert.algebraic_AdamUkvIdeal_AdamUkvReferenceIdeal Cert.AdamUkvIdeal.Gen.facts Cert.AdamUkvReferenceIdeal.Gen.facts := by
  intro m ρ m' ρ' _ hagree
  refine ⟨fun c => (Cert.AdamUkvIdeal.Gen.dats m 0 c).arrAt 7 Cert.AdamUkvIdeal.cfg0.N, fun c => (Cert.AdamUkvIdeal.Gen.dats m 0 c).arrAt 8 Cert.AdamUkvIdeal.cfg0.N, fun c => (Cert.AdamUkvIdeal.Gen.dats m 0 c).arrAt 9 Cert.AdamUkvIdeal.cfg0.N, fun c => (Cert.AdamUkvIdeal.Gen.dats m 0 c).arrAt 10 Cert.AdamUkvIdeal.cfg0.N,
    Cert.AdamUkvIdeal.Value.run_blocks m ρ, ?_⟩
  refine (θ_run Cert.AdamUkvReferenceIdeal.defs _ _).mono (fun r h c => ?_) (Cert.AdamUkvReferenceIdeal.Value.run (F := Ideal) m' ρ')
  obtain ⟨r0, r1, r2, r3, keep⟩ := h c
  obtain ⟨a0, a1, a2, a3, a4, a5, a6⟩ := hagree c
  obtain ⟨x0, h0⟩ := Cert.Ffn.exists_lay3 (m (c, Proc.tc.devRef Cert.AdamUkvIdeal.main_arg0))
  obtain ⟨x1, h1⟩ := Cert.Ffn.exists_lay3 (m (c, Proc.tc.devRef Cert.AdamUkvIdeal.main_arg1))
  obtain ⟨x2, h2⟩ := Cert.Ffn.exists_lay3 (m (c, Proc.tc.devRef Cert.AdamUkvIdeal.main_arg2))
  obtain ⟨x3, h3⟩ := Cert.Ffn.exists_lay3 (m (c, Proc.tc.devRef Cert.AdamUkvIdeal.main_arg3))
  obtain ⟨x4, h4⟩ := Cert.Ffn.exists_lay3 (m (c, Proc.tc.devRef Cert.AdamUkvIdeal.main_arg4))
  obtain ⟨x5, h5⟩ := Cert.Ffn.exists_lay3 (m (c, Proc.tc.devRef Cert.AdamUkvIdeal.main_arg5))
  obtain ⟨x6, h6⟩ := Cert.Ffn.exists_lay3 (m (c, Proc.tc.devRef Cert.AdamUkvIdeal.main_arg6))
  have A : Cert.Adam.Ukv.Args m c _ _ _ _ _ _ _ := ⟨h0, h1, h2, h3, h4, h5, h6⟩
  obtain ⟨eg, ed, em, ev⟩ := Cert.Adam.Ukv.reference (a0.trans h0) (a1.trans h1) (a2.trans h2) (a3.trans h3) (a4.trans h4) (a5.trans h5) (a6.trans h6)
  exact ⟨(r0.trans eg).trans (Cert.Adam.Ukv.result_g m c _ _ _ _ _ _ _ A).symm, (r1.trans ed).trans (Cert.Adam.Ukv.result_d m c _ _ _ _ _ _ _ A).symm, (r2.trans em).trans (Cert.Adam.Ukv.result_m m c _ _ _ _ _ _ _ A).symm, (r3.trans ev).trans (Cert.Adam.Ukv.result_v m c _ _ _ _ _ _ _ A).symm, keep⟩

theorem value_adamsmall : @Cert.algebraic_AdamSmallIdeal_AdamSmallReferenceIdeal Cert.AdamSmallIdeal.Gen.facts Cert.AdamSmallReferenceIdeal.Gen.facts := by
  intro m ρ m' ρ' _ hagree
  open Cert.Adam.Small Cert.AdamSmallIdeal in
  refine ⟨(left m · main_v191), (left m · main_v100), (left m · main_v103), (left m · main_v106), (left m · main_v110), (left m · main_v113), (left m · main_v116), (left m · main_v118), (left m · main_v123), (left m · main_v126), (left m · main_v129), (left m · main_v133), (left m · main_v136), (left m · main_v139), (left m · main_v141), (left m · main_v146), (left m · main_v149), (left m · main_v152), (left m · main_v156), (left m · main_v159), (left m · main_v162), (left m · main_v164), (left m · main_v169), (left m · main_v172), (left m · main_v175), (left m · main_v179), (left m · main_v182), (left m · main_v185), (left m · main_v187),
    (θ_run Cert.AdamSmallIdeal.defs _ _).mono (fun r h c => ⟨h c _ (by decide) (by decide), h c _ (by decide) (by decide), h c _ (by decide) (by decide), h c _ (by decide) (by decide), h c _ (by decide) (by decide),
      h c _ (by decide) (by decide), h c _ (by decide) (by decide), h c _ (by decide) (by decide), h c _ (by decide) (by decide), h c _ (by decide) (by decide),
      h c _ (by decide) (by decide), h c _ (by decide) (by decide), h c _ (by decide) (by decide), h c _ (by decide) (by decide), h c _ (by decide) (by decide),
      h c _ (by decide) (by decide), h c _ (by decide) (by decide), h c _ (by decide) (by decide), h c _ (by decide) (by decide), h c _ (by decide) (by decide),
      h c _ (by decide) (by decide), h c _ (by decide) (by decide), h c _ (by decide) (by decide), h c _ (by decide) (by decide), h c _ (by decide) (by decide),
      h c _ (by decide) (by decide), h c _ (by decide) (by decide), h c _ (by decide) (by decide), h c _ (by decide) (by decide), (h c _ (by decide) (by decide)).trans (Cert.AdamSmallIdeal.Gen.W_main_arg0 m (Cert.AdamSmallIdeal.Gen.dats m) c),
      (h c _ (by decide) (by decide)).trans (Cert.AdamSmallIdeal.Gen.W_main_arg1 m (Cert.AdamSmallIdeal.Gen.dats m) c), (h c _ (by decide) (by decide)).trans (Cert.AdamSmallIdeal.Gen.W_main_arg2 m (Cert.AdamSmallIdeal.Gen.dats m) c), (h c _ (by decide) (by decide)).trans (Cert.AdamSmallIdeal.Gen.W_main_arg3 m (Cert.AdamSmallIdeal.Gen.dats m) c), (h c _ (by decide) (by decide)).trans (Cert.AdamSmallIdeal.Gen.W_main_arg4 m (Cert.AdamSmallIdeal.Gen.dats m) c), (h c _ (by decide) (by decide)).trans (Cert.AdamSmallIdeal.Gen.W_main_arg5 m (Cert.AdamSmallIdeal.Gen.dats m) c),
      (h c _ (by decide) (by decide)).trans (Cert.AdamSmallIdeal.Gen.W_main_arg6 m (Cert.AdamSmallIdeal.Gen.dats m) c), (h c _ (by decide) (by decide)).trans (Cert.AdamSmallIdeal.Gen.W_main_arg7 m (Cert.AdamSmallIdeal.Gen.dats m) c), (h c _ (by decide) (by decide)).trans (Cert.AdamSmallIdeal.Gen.W_main_arg8 m (Cert.AdamSmallIdeal.Gen.dats m) c), (h c _ (by decide) (by decide)).trans (Cert.AdamSmallIdeal.Gen.W_main_arg9 m (Cert.AdamSmallIdeal.Gen.dats m) c), (h c _ (by decide) (by decide)).trans (Cert.AdamSmallIdeal.Gen.W_main_arg10 m (Cert.AdamSmallIdeal.Gen.dats m) c),
      (h c _ (by decide) (by decide)).trans (Cert.AdamSmallIdeal.Gen.W_main_arg11 m (Cert.AdamSmallIdeal.Gen.dats m) c), (h c _ (by decide) (by decide)).trans (Cert.AdamSmallIdeal.Gen.W_main_arg12 m (Cert.AdamSmallIdeal.Gen.dats m) c), (h c _ (by decide) (by decide)).trans (Cert.AdamSmallIdeal.Gen.W_main_arg13 m (Cert.AdamSmallIdeal.Gen.dats m) c), (h c _ (by decide) (by decide)).trans (Cert.AdamSmallIdeal.Gen.W_main_arg14 m (Cert.AdamSmallIdeal.Gen.dats m) c), (h c _ (by decide) (by decide)).trans (Cert.AdamSmallIdeal.Gen.W_main_arg15 m (Cert.AdamSmallIdeal.Gen.dats m) c),
      (h c _ (by decide) (by decide)).trans (Cert.AdamSmallIdeal.Gen.W_main_arg16 m (Cert.AdamSmallIdeal.Gen.dats m) c), (h c _ (by decide) (by decide)).trans (Cert.AdamSmallIdeal.Gen.W_main_arg17 m (Cert.AdamSmallIdeal.Gen.dats m) c), (h c _ (by decide) (by decide)).trans (Cert.AdamSmallIdeal.Gen.W_main_arg18 m (Cert.AdamSmallIdeal.Gen.dats m) c), (h c _ (by decide) (by decide)).trans (Cert.AdamSmallIdeal.Gen.W_main_arg19 m (Cert.AdamSmallIdeal.Gen.dats m) c), (h c _ (by decide) (by decide)).trans (Cert.AdamSmallIdeal.Gen.W_main_arg20 m (Cert.AdamSmallIdeal.Gen.dats m) c),
      (h c _ (by decide) (by decide)).trans (Cert.AdamSmallIdeal.Gen.W_main_arg21 m (Cert.AdamSmallIdeal.Gen.dats m) c), (h c _ (by decide) (by decide)).trans (Cert.AdamSmallIdeal.Gen.W_main_arg22 m (Cert.AdamSmallIdeal.Gen.dats m) c), (h c _ (by decide) (by decide)).trans (Cert.AdamSmallIdeal.Gen.W_main_arg23 m (Cert.AdamSmallIdeal.Gen.dats m) c), (h c _ (by decide) (by decide)).trans (Cert.AdamSmallIdeal.Gen.W_main_arg24 m (Cert.AdamSmallIdeal.Gen.dats m) c), (h c _ (by decide) (by decide)).trans (Cert.AdamSmallIdeal.Gen.W_main_arg25 m (Cert.AdamSmallIdeal.Gen.dats m) c),
      (h c _ (by decide) (by decide)).trans (Cert.AdamSmallIdeal.Gen.W_main_arg26 m (Cert.AdamSmallIdeal.Gen.dats m) c), (h c _ (by decide) (by decide)).trans (Cert.AdamSmallIdeal.Gen.W_main_arg27 m (Cert.AdamSmallIdeal.Gen.dats m) c), (h c _ (by decide) (by decide)).trans (Cert.AdamSmallIdeal.Gen.W_main_arg28 m (Cert.AdamSmallIdeal.Gen.dats m) c)⟩) (run_left m ρ), ?_⟩
  refine (θ_run Cert.AdamSmallReferenceIdeal.defs _ _).mono (fun r h c => ?_) (Cert.AdamSmallReferenceIdeal.Value.run (F := Ideal) m' ρ')
  obtain ⟨r0, r1, r2, r3, r4, r5, r6, r7, r8, r9, r10, r11, r12, r13, r14, r15, r16, r17, r18, r19, r20, r21, r22, r23, r24, r25, r26, r27, r28, keep⟩ := h c
  obtain ⟨a0, a1, a2, a3, a4, a5, a6, a7, a8, a9, a10, a11, a12, a13, a14, a15, a16, a17, a18, a19, a20, a21, a22, a23, a24, a25, a26, a27, a28⟩ := hagree c
  obtain ⟨w, hw⟩ := Cert.Adam.Small.exists_holds (m (c, Proc.tc.devRef Cert.AdamSmallIdeal.main_arg0)) (m (c, Proc.tc.devRef Cert.AdamSmallIdeal.main_arg1)) (m (c, Proc.tc.devRef Cert.AdamSmallIdeal.main_arg2)) (m (c, Proc.tc.devRef Cert.AdamSmallIdeal.main_arg3)) (m (c, Proc.tc.devRef Cert.AdamSmallIdeal.main_arg4)) (m (c, Proc.tc.devRef Cert.AdamSmallIdeal.main_arg5)) (m (c, Proc.tc.devRef Cert.AdamSmallIdeal.main_arg6))
  obtain ⟨a, ha⟩ := Cert.Adam.Small.exists_holds (m (c, Proc.tc.devRef Cert.AdamSmallIdeal.main_arg7)) (m (c, Proc.tc.devRef Cert.AdamSmallIdeal.main_arg8)) (m (c, Proc.tc.devRef Cert.AdamSmallIdeal.main_arg9)) (m (c, Proc.tc.devRef Cert.AdamSmallIdeal.main_arg10)) (m (c, Proc.tc.devRef Cert.AdamSmallIdeal.main_arg11)) (m (c, Proc.tc.devRef Cert.AdamSmallIdeal.main_arg12)) (m (c, Proc.tc.devRef Cert.AdamSmallIdeal.main_arg13))
  obtain ⟨v, hv⟩ := Cert.Adam.Small.exists_holds (m (c, Proc.tc.devRef Cert.AdamSmallIdeal.main_arg14)) (m (c, Proc.tc.devRef Cert.AdamSmallIdeal.main_arg15)) (m (c, Proc.tc.devRef Cert.AdamSmallIdeal.main_arg16)) (m (c, Proc.tc.devRef Cert.AdamSmallIdeal.main_arg17)) (m (c, Proc.tc.devRef Cert.AdamSmallIdeal.main_arg18)) (m (c, Proc.tc.devRef Cert.AdamSmallIdeal.main_arg19)) (m (c, Proc.tc.devRef Cert.AdamSmallIdeal.main_arg20))
  obtain ⟨g, hg⟩ := Cert.Adam.Small.exists_parts (m (c, Proc.tc.devRef Cert.AdamSmallIdeal.main_arg21)) (m (c, Proc.tc.devRef Cert.AdamSmallIdeal.main_arg22)) (m (c, Proc.tc.devRef Cert.AdamSmallIdeal.main_arg23)) (m (c, Proc.tc.devRef Cert.AdamSmallIdeal.main_arg24)) (m (c, Proc.tc.devRef Cert.AdamSmallIdeal.main_arg25)) (m (c, Proc.tc.devRef Cert.AdamSmallIdeal.main_arg26)) (m (c, Proc.tc.devRef Cert.AdamSmallIdeal.main_arg27))
  obtain ⟨ls, hl⟩ := Cert.Ffn.exists_lay2 (m (c, Proc.tc.devRef Cert.AdamSmallIdeal.main_arg28))
  have A : Cert.Adam.Small.Args m c w a v g ls := ⟨hw, ha, hv, hg, hl⟩
  obtain ⟨g0, g1, g2, g3, g4, g5, g6⟩ := Cert.Adam.Small.left_G m c w a v g ls A
  obtain ⟨d0, d1, d2, d3, d4, d5, d6⟩ := Cert.Adam.Small.left_D m c w a v g ls A
  obtain ⟨m0, m1, m2, m3, m4, m5, m6⟩ := Cert.Adam.Small.left_M m c w a v g ls A
  obtain ⟨v0, v1, v2, v3, v4, v5, v6⟩ := Cert.Adam.Small.left_V m c w a v g ls A
  have s0 := Cert.Adam.Small.sums_2048 (a21.trans hg.e0)
  have s1 := Cert.Adam.Small.sums_512 (a22.trans hg.e1)
  have s2 := Cert.Adam.Small.sums_512 (a23.trans hg.e2)
  have s3 := Cert.Adam.Small.sums_4 (a24.trans hg.e3)
  have s4 := Cert.Adam.Small.sums_2048 (a25.trans hg.e4)
  have s5 := Cert.Adam.Small.sums_2048 (a26.trans hg.e5)
  have s6 := Cert.Adam.Small.sums_row (a27.trans hg.e6)
  exact ⟨(r0.trans (Cert.Adam.Small.loss_sum (a28.trans hl))).trans (Cert.Adam.Small.left_loss m c w a v g ls A).symm,
    (r1.trans s0).trans g0.symm,
    (r2.trans s1).trans g1.symm,
    (r3.trans s2).trans g2.symm,
    (r4.trans s3).trans g3.symm,
    (r5.trans s4).trans g4.symm,
    (r6.trans s5).trans g5.symm,
    (r7.trans s6).trans g6.symm,
    (r8.trans (Cert.Adam.ref_d _ (a0.trans hw.e0) s0 (a7.trans ha.e0) (a14.trans hv.e0))).trans d0.symm,
    (r9.trans (Cert.Adam.ref_d _ (a1.trans hw.e1) s1 (a8.trans ha.e1) (a15.trans hv.e1))).trans d1.symm,
    (r10.trans (Cert.Adam.ref_d _ (a2.trans hw.e2) s2 (a9.trans ha.e2) (a16.trans hv.e2))).trans d2.symm,
    (r11.trans (Cert.Adam.ref_d _ (a3.trans hw.e3) s3 (a10.trans ha.e3) (a17.trans hv.e3))).trans d3.symm,
    (r12.trans (Cert.Adam.ref_d _ (a4.trans hw.e4) s4 (a11.trans ha.e4) (a18.trans hv.e4))).trans d4.symm,
    (r13.trans (Cert.Adam.ref_d _ (a5.trans hw.e5) s5 (a12.trans ha.e5) (a19.trans hv.e5))).trans d5.symm,
    (r14.trans (Cert.Adam.ref_d _ (a6.trans hw.e6) s6 (a13.trans ha.e6) (a20.trans hv.e6))).trans d6.symm,
    (r15.trans (Cert.Adam.ref_m _ s0 (a7.trans ha.e0))).trans m0.symm,
    (r16.trans (Cert.Adam.ref_m _ s1 (a8.trans ha.e1))).trans m1.symm,
    (r17.trans (Cert.Adam.ref_m _ s2 (a9.trans ha.e2))).trans m2.symm,
    (r18.trans (Cert.Adam.ref_m _ s3 (a10.trans ha.e3))).trans m3.symm,
    (r19.trans (Cert.Adam.ref_m _ s4 (a11.trans ha.e4))).trans m4.symm,
    (r20.trans (Cert.Adam.ref_m _ s5 (a12.trans ha.e5))).trans m5.symm,
    (r21.trans (Cert.Adam.ref_m _ s6 (a13.trans ha.e6))).trans m6.symm,
    (r22.trans (Cert.Adam.ref_v _ s0 (a14.trans hv.e0))).trans v0.symm,
    (r23.trans (Cert.Adam.ref_v _ s1 (a15.trans hv.e1))).trans v1.symm,
    (r24.trans (Cert.Adam.ref_v _ s2 (a16.trans hv.e2))).trans v2.symm,
    (r25.trans (Cert.Adam.ref_v _ s3 (a17.trans hv.e3))).trans v3.symm,
    (r26.trans (Cert.Adam.ref_v _ s4 (a18.trans hv.e4))).trans v4.symm,
    (r27.trans (Cert.Adam.ref_v _ s5 (a19.trans hv.e5))).trans v5.symm,
    (r28.trans (Cert.Adam.ref_v _ s6 (a20.trans hv.e6))).trans v6.symm, keep⟩

/-- Over the extended reals the kernel computes the gradient of the layer's input as the reference does, for all inputs. -/
theorem value_norm : @Cert.algebraic_NormIdeal_NormReferenceIdeal Cert.NormIdeal.Gen.facts Cert.NormReferenceIdeal.Gen.facts := by
  intro m ρ m' ρ' _ hagree
  refine ⟨fun c => (Cert.NormIdeal.Gen.dats m 0 c).arrAt 4 Cert.NormIdeal.cfg0.N, fun c => (Cert.NormIdeal.Gen.dats m 0 c).arrAt 5 Cert.NormIdeal.cfg0.N,
    fun c => (Cert.NormIdeal.Gen.dats m 0 c).arrAt 6 Cert.NormIdeal.cfg0.N, Cert.NormIdeal.Value.run_blocks m ρ, ?_⟩
  refine (θ_run Cert.NormReferenceIdeal.defs _ _).mono (fun r h c => ?_) (Cert.NormReferenceIdeal.Value.run (F := Ideal) m' ρ')
  obtain ⟨r0, r1, r2, keep⟩ := h c
  obtain ⟨a0, a1, a2, a3⟩ := hagree c
  obtain ⟨x, h0⟩ := Cert.Ffn.exists_lay2 (m (c, Proc.tc.devRef Cert.NormIdeal.main_arg0))
  obtain ⟨n, h1⟩ := Cert.Ffn.exists_lay1 (m (c, Proc.tc.devRef Cert.NormIdeal.main_arg1))
  obtain ⟨y, h2⟩ := Cert.Ffn.exists_lay2 (m (c, Proc.tc.devRef Cert.NormIdeal.main_arg2))
  obtain ⟨e, h3⟩ := Cert.Ffn.exists_lay2 (m (c, Proc.tc.devRef Cert.NormIdeal.main_arg3))
  have A : Cert.Norm.Args m c x y e n := ⟨h0, h1, h2, h3⟩
  have p := Cert.Norm.plain (a0.trans h0) (a1.trans h1) (a2.trans h2) (a3.trans h3)
  exact ⟨(r0.trans p).trans (Cert.Norm.result m c x y e n A).symm,
    (r1.trans (congrArg (fun z => truncf (F := Ideal) .bf16 z Cert.NormReferenceIdeal.Gen.bitsLt_bf16_f32) p)).trans (Cert.Norm.result_half m c x y e n A).symm,
    (r2.trans (Cert.Norm.plain_gain (a0.trans h0) (a2.trans h2))).trans (Cert.Norm.result_gain m c x y e n A).symm, keep⟩

/-- Over the extended reals the kernel norms the rows as the reference does, for all inputs. -/
theorem value_normed : @Cert.algebraic_NormedIdeal_NormedReferenceIdeal Cert.NormedIdeal.Gen.facts Cert.NormedReferenceIdeal.Gen.facts := by
  intro m ρ m' ρ' _ hagree
  refine ⟨fun c => (Cert.NormedIdeal.Gen.dats m 0 c).arrAt 2 Cert.NormedIdeal.cfg0.N, Cert.NormedIdeal.Value.run_blocks m ρ, ?_⟩
  refine (θ_run Cert.NormedReferenceIdeal.defs _ _).mono (fun r h c => ?_) (Cert.NormedReferenceIdeal.Value.run (F := Ideal) m' ρ')
  obtain ⟨r0, keep⟩ := h c
  obtain ⟨a0, a1⟩ := hagree c
  obtain ⟨x, h0⟩ := Cert.Ffn.exists_lay2 (m (c, Proc.tc.devRef Cert.NormedIdeal.main_arg0))
  obtain ⟨n, h1⟩ := Cert.Ffn.exists_lay1 (m (c, Proc.tc.devRef Cert.NormedIdeal.main_arg1))
  exact ⟨(r0.trans (Cert.RmsFwd.plain (a0.trans h0) (a1.trans h1))).trans (Cert.RmsFwd.result m c x n ⟨h0, h1⟩).symm, keep⟩

/-- Over the extended reals the kernel computes the loss and its gradient as the reference does, for all inputs. -/
theorem value_loss : @Cert.algebraic_LossIdeal_LossReferenceIdeal Cert.LossIdeal.Gen.facts Cert.LossReferenceIdeal.Gen.facts := by
  intro m ρ m' ρ' _ hagree
  refine ⟨fun c => (Cert.LossIdeal.Gen.dats m 0 c).arrAt 3 Cert.LossIdeal.cfg0.N, fun c => (Cert.LossIdeal.Gen.dats m 0 c).arrAt 4 Cert.LossIdeal.cfg0.N,
    Cert.LossIdeal.Value.run_blocks m ρ, ?_⟩
  refine (θ_run Cert.LossReferenceIdeal.defs _ _).mono (fun r h c => ?_) (Cert.LossReferenceIdeal.Value.run (F := Ideal) m' ρ')
  obtain ⟨r0, r1, keep⟩ := h c
  obtain ⟨a0, a1, a2⟩ := hagree c
  obtain ⟨x, h0⟩ := Cert.Ffn.exists_lay2 (m (c, Proc.tc.devRef Cert.LossIdeal.main_arg0))
  obtain ⟨n, h1⟩ := Cert.Ffn.exists_lay1 (m (c, Proc.tc.devRef Cert.LossIdeal.main_arg1))
  obtain ⟨g, h2⟩ := Cert.Ffn.exists_lay2 (m (c, Proc.tc.devRef Cert.LossIdeal.main_arg2))
  have A : Cert.FinalLoss.Args m c x g n := ⟨h0, h1, h2⟩
  exact ⟨(r0.trans (Cert.FinalLoss.plain_grad (a0.trans h0) (a1.trans h1) (a2.trans h2))).trans (Cert.FinalLoss.result_grad m c x g n A).symm,
    (r1.trans (Cert.FinalLoss.plain_loss (a0.trans h0) (a1.trans h1) (a2.trans h2))).trans (Cert.FinalLoss.result_loss m c x g n A).symm, keep⟩

theorem claim : Cert.Claim := ⟨Cert.Kernel.Gen.facts, Cert.KernelIdeal.Gen.facts, Cert.ReferenceIdeal.Gen.facts,
  Cert.Act.Gen.facts, Cert.ActIdeal.Gen.facts, Cert.ActReferenceIdeal.Gen.facts,
  Cert.Hidden.Gen.facts, Cert.HiddenIdeal.Gen.facts, Cert.HiddenReferenceIdeal.Gen.facts,
  Cert.Gate.Gen.facts, Cert.GateIdeal.Gen.facts, Cert.GateReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Out.Gen.facts, Cert.OutIdeal.Gen.facts, Cert.OutReferenceIdeal.Gen.facts,
  Cert.InProj.Gen.facts, Cert.InProjIdeal.Gen.facts, Cert.InProjReferenceIdeal.Gen.facts,
  Cert.InDx.Gen.facts, Cert.InDxIdeal.Gen.facts, Cert.InDxReferenceIdeal.Gen.facts,
  Cert.InDw.Gen.facts, Cert.InDwIdeal.Gen.facts, Cert.InDwReferenceIdeal.Gen.facts,
  Cert.Mix.Gen.facts, Cert.MixIdeal.Gen.facts, Cert.MixReferenceIdeal.Gen.facts,
  Cert.MixDx.Gen.facts, Cert.MixDxIdeal.Gen.facts, Cert.MixDxReferenceIdeal.Gen.facts,
  Cert.MixDw.Gen.facts, Cert.MixDwIdeal.Gen.facts, Cert.MixDwReferenceIdeal.Gen.facts,
  Cert.AdamUp.Gen.facts, Cert.AdamUpIdeal.Gen.facts, Cert.AdamUpReferenceIdeal.Gen.facts,
  Cert.AdamOut.Gen.facts, Cert.AdamOutIdeal.Gen.facts, Cert.AdamOutReferenceIdeal.Gen.facts,
  Cert.AdamUq.Gen.facts, Cert.AdamUqIdeal.Gen.facts, Cert.AdamUqReferenceIdeal.Gen.facts,
  Cert.AdamUkv.Gen.facts, Cert.AdamUkvIdeal.Gen.facts, Cert.AdamUkvReferenceIdeal.Gen.facts,
  Cert.AdamSmall.Gen.facts, Cert.AdamSmallIdeal.Gen.facts, Cert.AdamSmallReferenceIdeal.Gen.facts,
  Cert.Norm.Gen.facts, Cert.NormIdeal.Gen.facts, Cert.NormReferenceIdeal.Gen.facts,
  Cert.Normed.Gen.facts, Cert.NormedIdeal.Gen.facts, Cert.NormedReferenceIdeal.Gen.facts,
  Cert.Loss.Gen.facts, Cert.LossIdeal.Gen.facts, Cert.LossReferenceIdeal.Gen.facts,
  Cert.Pre_finite.Gen.facts, Cert.Pre_finite_act.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Act.Gen.frame m ρ,
  fun m ρ _ => Cert.ActIdeal.Gen.frame m ρ,
  fun m ρ _ => Cert.ActIdeal.Gen.frame m ρ,
  fun m ρ _ => frame_reference_act m ρ trivial,
  fun m ρ _ => frame_reference_act m ρ trivial,
  fun m ρ _ => Cert.Hidden.Gen.frame m ρ,
  fun m ρ _ => Cert.HiddenIdeal.Gen.frame m ρ,
  fun m ρ _ => frame_reference_hidden m ρ trivial,
  fun m ρ _ => Cert.Gate.Gen.frame m ρ,
  fun m ρ _ => Cert.GateIdeal.Gen.frame m ρ,
  fun m ρ _ => frame_reference_gate m ρ trivial,
  fun m ρ _ => Cert.Down.Gen.frame m ρ,
  fun m ρ _ => Cert.DownIdeal.Gen.frame m ρ,
  fun m ρ _ => frame_reference_down m ρ trivial,
  fun m ρ _ => Cert.Up.Gen.frame m ρ,
  fun m ρ _ => Cert.UpIdeal.Gen.frame m ρ,
  fun m ρ _ => frame_reference_up m ρ trivial,
  fun m ρ _ => Cert.Out.Gen.frame m ρ,
  fun m ρ _ => Cert.OutIdeal.Gen.frame m ρ,
  fun m ρ _ => frame_reference_out m ρ trivial,
  fun m ρ _ => Cert.InProj.Gen.frame m ρ,
  fun m ρ _ => Cert.InProjIdeal.Gen.frame m ρ,
  fun m ρ _ => frame_reference_inproj m ρ trivial,
  fun m ρ _ => Cert.InDx.Gen.frame m ρ,
  fun m ρ _ => Cert.InDxIdeal.Gen.frame m ρ,
  fun m ρ _ => frame_reference_indx m ρ trivial,
  fun m ρ _ => Cert.InDw.Gen.frame m ρ,
  fun m ρ _ => Cert.InDwIdeal.Gen.frame m ρ,
  fun m ρ _ => frame_reference_indw m ρ trivial,
  fun m ρ _ => Cert.Mix.Gen.frame m ρ,
  fun m ρ _ => Cert.MixIdeal.Gen.frame m ρ,
  fun m ρ _ => frame_reference_mix m ρ trivial,
  fun m ρ _ => Cert.MixDx.Gen.frame m ρ,
  fun m ρ _ => Cert.MixDxIdeal.Gen.frame m ρ,
  fun m ρ _ => frame_reference_mixdx m ρ trivial,
  fun m ρ _ => Cert.MixDw.Gen.frame m ρ,
  fun m ρ _ => Cert.MixDwIdeal.Gen.frame m ρ,
  fun m ρ _ => frame_reference_mixdw m ρ trivial,
  fun m ρ _ => Cert.AdamUp.Gen.frame m ρ,
  fun m ρ _ => Cert.AdamUpIdeal.Gen.frame m ρ,
  fun m ρ _ => frame_reference_adamup m ρ trivial,
  fun m ρ _ => Cert.AdamOut.Gen.frame m ρ,
  fun m ρ _ => Cert.AdamOutIdeal.Gen.frame m ρ,
  fun m ρ _ => frame_reference_adamout m ρ trivial,
  fun m ρ _ => Cert.AdamUq.Gen.frame m ρ,
  fun m ρ _ => Cert.AdamUqIdeal.Gen.frame m ρ,
  fun m ρ _ => frame_reference_adamuq m ρ trivial,
  fun m ρ _ => Cert.AdamUkv.Gen.frame m ρ,
  fun m ρ _ => Cert.AdamUkvIdeal.Gen.frame m ρ,
  fun m ρ _ => frame_reference_adamukv m ρ trivial,
  fun m ρ _ => Cert.AdamSmall.Gen.frame m ρ,
  fun m ρ _ => Cert.AdamSmallIdeal.Gen.frame m ρ,
  fun m ρ _ => frame_reference_adamsmall m ρ trivial,
  fun m ρ _ => Cert.Norm.Gen.frame m ρ,
  fun m ρ _ => Cert.NormIdeal.Gen.frame m ρ,
  fun m ρ _ => frame_reference_norm m ρ trivial,
  fun m ρ _ => Cert.Normed.Gen.frame m ρ,
  fun m ρ _ => Cert.NormedIdeal.Gen.frame m ρ,
  fun m ρ _ => frame_reference_normed m ρ trivial,
  fun m ρ _ => Cert.Loss.Gen.frame m ρ,
  fun m ρ _ => Cert.LossIdeal.Gen.frame m ρ,
  fun m ρ _ => frame_reference_loss m ρ trivial,
  trivial,
  value,
  trivial,
  value_act,
  trivial,
  value_hidden,
  trivial,
  value_gate,
  trivial,
  value_down,
  trivial,
  value_up,
  trivial,
  value_out,
  trivial,
  value_inproj,
  trivial,
  value_indx,
  trivial,
  value_indw,
  trivial,
  value_mix,
  trivial,
  value_mixdx,
  trivial,
  value_mixdw,
  trivial,
  value_adamup,
  trivial,
  value_adamout,
  trivial,
  value_adamuq,
  trivial,
  value_adamukv,
  trivial,
  value_adamsmall,
  trivial,
  value_norm,
  trivial,
  value_normed,
  trivial,
  value_loss⟩

end Cert.Proof

end
